-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_drawn [hPre_boxes_drawn : Cert.Pre_boxes_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_drawn [hPre_boxes_drawn : Cert.Pre_boxes_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_drawn [hKernelIdeal : Cert.KernelIdeal.Facts] [hPre_boxes_drawn : Cert.Pre_boxes_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_drawn [hReferenceIdeal : Cert.ReferenceIdeal.Facts] [hPre_boxes_drawn : Cert.Pre_boxes_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_boxes_drawn [hKernelIdeal : Cert.KernelIdeal.Facts] [hReferenceIdeal : Cert.ReferenceIdeal.Facts] [hPre_boxes_drawn : Cert.Pre_boxes_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_drawn : Cert.Pre_boxes_drawn.Facts),
    quiescent_Kernel (hKernel := hKernel)
    ∧ quiescent_KernelIdeal (hKernelIdeal := hKernelIdeal)
    ∧ quiescent_KernelIdeal_pre_boxes_drawn (hKernelIdeal := hKernelIdeal) (hPre_boxes_drawn := hPre_boxes_drawn)
    ∧ quiescent_ReferenceIdeal (hReferenceIdeal := hReferenceIdeal)
    ∧ quiescent_ReferenceIdeal_pre_boxes_drawn (hReferenceIdeal := hReferenceIdeal) (hPre_boxes_drawn := hPre_boxes_drawn)
    ∧ preserves_Kernel_KernelIdeal
    ∧ algebraic_KernelIdeal_ReferenceIdeal_pre_boxes_drawn (hKernelIdeal := hKernelIdeal) (hReferenceIdeal := hReferenceIdeal) (hPre_boxes_drawn := hPre_boxes_drawn)
-- ==== Pre_boxes_drawn.lean ====
abbrev S1x512x50x50 : Shape := ⟨4, ![1, 512, 50, 50]⟩
abbrev S1024x4 : Shape := ⟨2, ![1024, 4]⟩
abbrev S1024x2 : Shape := ⟨2, ![1024, 2]⟩
abbrev S_ : Shape := ⟨0, ![]⟩

class Facts : Prop where
  slices_S1024x4_S1024x2_0_0 : S1024x4.Slices ![0, 0] S1024x2
  slices_S1024x4_S1024x2_0_2 : S1024x4.Slices ![0, 2] S1024x2
  bcast_S_S1024x2 : S_.BroadcastsInDim S1024x2 (![] : Fin 0 → Fin S1024x2.rank)

variable [Facts]

def fn {F : FTy → Type} [FloatOps F] (main_arg0 : FVec F S1x512x50x50 .f32) (main_arg1 : IVec S1024x4 32) : IVec S1024x2 1 :=
  let main_v0 : IVec S1024x2 32 := (extractStridedSlice S1024x2 ![0, 0] · slices_S1024x4_S1024x2_0_0) main_arg1
  let main_v1 : IVec S1024x2 32 := (extractStridedSlice S1024x2 ![0, 2] · slices_S1024x4_S1024x2_0_2) main_arg1
  let main_c : IVec S_ 32 := constantI S_ 32 0#32
  let main_v2 : IVec S1024x2 32 := broadcastInDim S1024x2 ![] bcast_S_S1024x2 main_c
  let main_v3 : IVec S1024x2 1 := cmpi .sge main_v0 main_v2
  let main_c_0 : IVec S_ 32 := constantI S_ 32 767#32
  let main_v4 : IVec S1024x2 32 := broadcastInDim S1024x2 ![] bcast_S_S1024x2 main_c_0
  let main_v5 : IVec S1024x2 1 := cmpi .sle main_v0 main_v4
  let main_v6 : IVec S1024x2 1 := andi main_v3 main_v5
  let main_c_1 : IVec S_ 32 := constantI S_ 32 32#32
  let main_v7 : IVec S1024x2 32 := broadcastInDim S1024x2 ![] bcast_S_S1024x2 main_c_1
  let main_v8 : IVec S1024x2 32 := addi main_v0 main_v7
  let main_v9 : IVec S1024x2 1 := cmpi .sge main_v1 main_v8
  let main_v10 : IVec S1024x2 1 := andi main_v6 main_v9
  let main_c_2 : IVec S_ 32 := constantI S_ 32 399#32
  let main_v11 : IVec S1024x2 32 := broadcastInDim S1024x2 ![] bcast_S_S1024x2 main_c_2
  let main_v12 : IVec S1024x2 32 := addi main_v0 main_v11
  let main_v13 : IVec S1024x2 1 := cmpi .sle main_v1 main_v12
  let main_v14 : IVec S1024x2 1 := andi main_v10 main_v13
  let main_c_3 : IVec S_ 32 := constantI S_ 32 799#32
  let main_v15 : IVec S1024x2 32 := broadcastInDim S1024x2 ![] bcast_S_S1024x2 main_c_3
  let main_v16 : IVec S1024x2 1 := cmpi .sle main_v1 main_v15
  let main_v17 : IVec S1024x2 1 := andi main_v14 main_v16
  main_v17
-- ==== Kernel.lean ====
abbrev S1x512x50x50 : Shape := ⟨4, ![1, 512, 50, 50]⟩
abbrev S1024x4 : Shape := ⟨2, ![1024, 4]⟩
abbrev S512x50x50 : Shape := ⟨3, ![512, 50, 50]⟩
abbrev S50x50x512 : Shape := ⟨3, ![50, 50, 512]⟩
abbrev S49x50x512 : Shape := ⟨3, ![49, 50, 512]⟩
abbrev S1x50x512 : Shape := ⟨3, ![1, 50, 512]⟩
abbrev S1x1x50x512 : Shape := ⟨4, ![1, 1, 50, 512]⟩
abbrev S48x50x512 : Shape := ⟨3, ![48, 50, 512]⟩
abbrev S1x2x50x512 : Shape := ⟨4, ![1, 2, 50, 512]⟩
abbrev S2x50x512 : Shape := ⟨3, ![2, 50, 512]⟩
abbrev S46x50x512 : Shape := ⟨3, ![46, 50, 512]⟩
abbrev S1x4x50x512 : Shape := ⟨4, ![1, 4, 50, 512]⟩
abbrev S4x50x512 : Shape := ⟨3, ![4, 50, 512]⟩
abbrev S250x50x512 : Shape := ⟨3, ![250, 50, 512]⟩
abbrev S_ : Shape := ⟨0, ![]⟩
abbrev S1024x1 : Shape := ⟨2, ![1024, 1]⟩
abbrev S1024 : Shape := ⟨1, ![1024]⟩
abbrev S7 : Shape := ⟨1, ![7]⟩
abbrev S1x7 : Shape := ⟨2, ![1, 7]⟩
abbrev S1024x7 : Shape := ⟨2, ![1024, 7]⟩
abbrev S5 : Shape := ⟨1, ![5]⟩
abbrev S1024x7x1 : Shape := ⟨3, ![1024, 7, 1]⟩
abbrev S1x1x5 : Shape := ⟨3, ![1, 1, 5]⟩
abbrev S1024x7x5 : Shape := ⟨3, ![1024, 7, 5]⟩
abbrev S7x1024 : Shape := ⟨2, ![7, 1024]⟩
abbrev S7x1x1024 : Shape := ⟨3, ![7, 1, 1024]⟩
abbrev S7x2x1024 : Shape := ⟨3, ![7, 2, 1024]⟩
abbrev S7x5x1024 : Shape := ⟨3, ![7, 5, 1024]⟩
abbrev S7x7x1024 : Shape := ⟨3, ![7, 7, 1024]⟩
abbrev S1024x7x7x512 : Shape := ⟨4, ![1024, 7, 7, 512]⟩
abbrev S32x7x7x512 : Shape := ⟨4, ![32, 7, 7, 512]⟩
abbrev S2x7x50x512 : Shape := ⟨4, ![2, 7, 50, 512]⟩
abbrev S1x1x1 : Shape := ⟨3, ![1, 1, 1]⟩
abbrev S50x512 : Shape := ⟨2, ![50, 512]⟩
abbrev S1x7x50x512 : Shape := ⟨4, ![1, 7, 50, 512]⟩
abbrev S7x50x512 : Shape := ⟨3, ![7, 50, 512]⟩
abbrev S7x1x512 : Shape := ⟨3, ![7, 1, 512]⟩
abbrev S7x512 : Shape := ⟨2, ![7, 512]⟩
abbrev S1x1x7x512 : Shape := ⟨4, ![1, 1, 7, 512]⟩
abbrev S1024x512x7x7 : Shape := ⟨4, ![1024, 512, 7, 7]⟩

abbrev nBuf : Space → Nat
  | .hbm => 266
  | .vmem => 4
  | .smem => 1
  | _ => 0

abbrev hbmTy0_0 (i : Nat) : BufTy := match i % 128 with
  | 0 => ⟨S1x512x50x50, .f32⟩
  | 1 => ⟨S1024x4, .i32⟩
  | 2 => ⟨S512x50x50, .f32⟩
  | 3 => ⟨S50x50x512, .f32⟩
  | 4 => ⟨S49x50x512, .f32⟩
  | 5 => ⟨S1x50x512, .f32⟩
  | 6 => ⟨S1x1x50x512, .f32⟩
  | 7 => ⟨S1x50x512, .f32⟩
  | 8 => ⟨S50x50x512, .f32⟩
  | 9 => ⟨S50x50x512, .f32⟩
  | 10 => ⟨S48x50x512, .f32⟩
  | 11 => ⟨S1x50x512, .f32⟩
  | 12 => ⟨S1x2x50x512, .f32⟩
  | 13 => ⟨S2x50x512, .f32⟩
  | 14 => ⟨S50x50x512, .f32⟩
  | 15 => ⟨S50x50x512, .f32⟩
  | 16 => ⟨S48x50x512, .f32⟩
  | 17 => ⟨S1x50x512, .f32⟩
  | 18 => ⟨S1x2x50x512, .f32⟩
  | 19 => ⟨S2x50x512, .f32⟩
  | 20 => ⟨S50x50x512, .f32⟩
  | 21 => ⟨S50x50x512, .f32⟩
  | 22 => ⟨S46x50x512, .f32⟩
  | 23 => ⟨S1x50x512, .f32⟩
  | 24 => ⟨S1x4x50x512, .f32⟩
  | 25 => ⟨S4x50x512, .f32⟩
  | 26 => ⟨S50x50x512, .f32⟩
  | 27 => ⟨S50x50x512, .f32⟩
  | 28 => ⟨S250x50x512, .f32⟩
  | 29 => ⟨S1024x4, .f32⟩
  | 30 => ⟨S_, .f32⟩
  | 31 => ⟨S1024x4, .f32⟩
  | 32 => ⟨S1024x4, .f32⟩
  | 33 => ⟨S1024x4, .f32⟩
  | 34 => ⟨S1024x4, .i32⟩
  | 35 => ⟨S1024x1, .i32⟩
  | 36 => ⟨S1024, .i32⟩
  | 37 => ⟨S1024x1, .i32⟩
  | 38 => ⟨S1024, .i32⟩
  | 39 => ⟨S_, .i32⟩
  | 40 => ⟨S1024, .i32⟩
  | 41 => ⟨S1024, .i32⟩
  | 42 => ⟨S_, .i32⟩
  | 43 => ⟨S_, .i32⟩
  | 44 => ⟨S_, .i32⟩
  | 45 => ⟨S1024, .i32⟩
  | 46 => ⟨S1024, .i32⟩
  | 47 => ⟨S_, .i32⟩
  | 48 => ⟨S1024, .i32⟩
  | 49 => ⟨S1024, .i32⟩
  | 50 => ⟨S1024, .i32⟩
  | 51 => ⟨S_, .i32⟩
  | 52 => ⟨S1024, .i32⟩
  | 53 => ⟨S1024, .i32⟩
  | 54 => ⟨S7, .i32⟩
  | 55 => ⟨S1024x1, .i32⟩
  | 56 => ⟨S1x7, .i32⟩
  | 57 => ⟨S1024x1, .i32⟩
  | 58 => ⟨S1024x7, .i32⟩
  | 59 => ⟨S1024x7, .i32⟩
  | 60 => ⟨S1024x7, .i32⟩
  | 61 => ⟨S_, .i32⟩
  | 62 => ⟨S_, .i32⟩
  | 63 => ⟨S1024x7, .i32⟩
  | 64 => ⟨S1024x7, .i32⟩
  | 65 => ⟨S1024x7, .i32⟩
  | 66 => ⟨S_, .i32⟩
  | 67 => ⟨S1024x7, .i32⟩
  | 68 => ⟨S1024x7, .i1⟩
  | 69 => ⟨S1024x7, .i32⟩
  | 70 => ⟨S1024x7, .i32⟩
  | 71 => ⟨S_, .i32⟩
  | 72 => ⟨S1024x7, .i32⟩
  | 73 => ⟨S1024x7, .i1⟩
  | 74 => ⟨S1024x7, .i1⟩
  | 75 => ⟨S_, .i32⟩
  | 76 => ⟨S1024x7, .i32⟩
  | 77 => ⟨S1024x7, .i32⟩
  | 78 => ⟨S1024x7, .i32⟩
  | 79 => ⟨S1024x7, .i32⟩
  | 80 => ⟨S1024x7, .i32⟩
  | 81 => ⟨S1024x1, .i32⟩
  | 82 => ⟨S1x7, .i32⟩
  | 83 => ⟨S_, .i32⟩
  | 84 => ⟨S1x7, .i32⟩
  | 85 => ⟨S1x7, .i32⟩
  | 86 => ⟨S1024x1, .i32⟩
  | 87 => ⟨S1024x7, .i32⟩
  | 88 => ⟨S1024x7, .i32⟩
  | 89 => ⟨S1024x7, .i32⟩
  | 90 => ⟨S_, .i32⟩
  | 91 => ⟨S1024x7, .i32⟩
  | 92 => ⟨S1024x7, .i32⟩
  | 93 => ⟨S_, .i32⟩
  | 94 => ⟨S1024x7, .i32⟩
  | 95 => ⟨S1024x7, .i32⟩
  | 96 => ⟨S_, .i32⟩
  | 97 => ⟨S_, .i32⟩
  | 98 => ⟨S1024x7, .i32⟩
  | 99 => ⟨S1024x7, .i32⟩
  | 100 => ⟨S1024x7, .i32⟩
  | 101 => ⟨S_, .i32⟩
  | 102 => ⟨S1024x7, .i32⟩
  | 103 => ⟨S1024x7, .i1⟩
  | 104 => ⟨S1024x7, .i32⟩
  | 105 => ⟨S1024x7, .i32⟩
  | 106 => ⟨S_, .i32⟩
  | 107 => ⟨S1024x7, .i32⟩
  | 108 => ⟨S1024x7, .i1⟩
  | 109 => ⟨S1024x7, .i1⟩
  | 110 => ⟨S_, .i32⟩
  | 111 => ⟨S1024x7, .i32⟩
  | 112 => ⟨S1024x7, .i32⟩
  | 113 => ⟨S1024x7, .i32⟩
  | 114 => ⟨S1024x7, .i32⟩
  | 115 => ⟨S1024x7, .i32⟩
  | 116 => ⟨S_, .i32⟩
  | 117 => ⟨S_, .i32⟩
  | 118 => ⟨S_, .i32⟩
  | 119 => ⟨S1024x7, .i32⟩
  | 120 => ⟨S1024x7, .i32⟩
  | 121 => ⟨S_, .i32⟩
  | 122 => ⟨S1024x7, .i32⟩
  | 123 => ⟨S1024x7, .i32⟩
  | 124 => ⟨S_, .i32⟩
  | 125 => ⟨S1024x7, .i32⟩
  | 126 => ⟨S1024x7, .i32⟩
  | 127 => ⟨S_, .i32⟩
  | _ => ⟨S1x512x50x50, .f32⟩

abbrev hbmTy0_1 (i : Nat) : BufTy := match i % 128 with
  | 0 => ⟨S1024x7, .i32⟩
  | 1 => ⟨S_, .i32⟩
  | 2 => ⟨S1024x7, .i32⟩
  | 3 => ⟨S1024x7, .i32⟩
  | 4 => ⟨S1024x1, .i32⟩
  | 5 => ⟨S1024, .i32⟩
  | 6 => ⟨S1024x1, .i32⟩
  | 7 => ⟨S1024, .i32⟩
  | 8 => ⟨S_, .i32⟩
  | 9 => ⟨S1024, .i32⟩
  | 10 => ⟨S1024, .i32⟩
  | 11 => ⟨S_, .i32⟩
  | 12 => ⟨S_, .i32⟩
  | 13 => ⟨S_, .i32⟩
  | 14 => ⟨S1024, .i32⟩
  | 15 => ⟨S1024, .i32⟩
  | 16 => ⟨S_, .i32⟩
  | 17 => ⟨S1024, .i32⟩
  | 18 => ⟨S1024, .i32⟩
  | 19 => ⟨S1024, .i32⟩
  | 20 => ⟨S_, .i32⟩
  | 21 => ⟨S1024, .i32⟩
  | 22 => ⟨S1024, .i32⟩
  | 23 => ⟨S7, .i32⟩
  | 24 => ⟨S1024x1, .i32⟩
  | 25 => ⟨S1x7, .i32⟩
  | 26 => ⟨S1024x1, .i32⟩
  | 27 => ⟨S1024x7, .i32⟩
  | 28 => ⟨S1024x7, .i32⟩
  | 29 => ⟨S1024x7, .i32⟩
  | 30 => ⟨S_, .i32⟩
  | 31 => ⟨S_, .i32⟩
  | 32 => ⟨S1024x7, .i32⟩
  | 33 => ⟨S1024x7, .i32⟩
  | 34 => ⟨S1024x7, .i32⟩
  | 35 => ⟨S_, .i32⟩
  | 36 => ⟨S1024x7, .i32⟩
  | 37 => ⟨S1024x7, .i1⟩
  | 38 => ⟨S1024x7, .i32⟩
  | 39 => ⟨S1024x7, .i32⟩
  | 40 => ⟨S_, .i32⟩
  | 41 => ⟨S1024x7, .i32⟩
  | 42 => ⟨S1024x7, .i1⟩
  | 43 => ⟨S1024x7, .i1⟩
  | 44 => ⟨S_, .i32⟩
  | 45 => ⟨S1024x7, .i32⟩
  | 46 => ⟨S1024x7, .i32⟩
  | 47 => ⟨S1024x7, .i32⟩
  | 48 => ⟨S1024x7, .i32⟩
  | 49 => ⟨S1024x7, .i32⟩
  | 50 => ⟨S1024x1, .i32⟩
  | 51 => ⟨S1x7, .i32⟩
  | 52 => ⟨S_, .i32⟩
  | 53 => ⟨S1x7, .i32⟩
  | 54 => ⟨S1x7, .i32⟩
  | 55 => ⟨S1024x1, .i32⟩
  | 56 => ⟨S1024x7, .i32⟩
  | 57 => ⟨S1024x7, .i32⟩
  | 58 => ⟨S1024x7, .i32⟩
  | 59 => ⟨S_, .i32⟩
  | 60 => ⟨S1024x7, .i32⟩
  | 61 => ⟨S1024x7, .i32⟩
  | 62 => ⟨S_, .i32⟩
  | 63 => ⟨S1024x7, .i32⟩
  | 64 => ⟨S1024x7, .i32⟩
  | 65 => ⟨S_, .i32⟩
  | 66 => ⟨S_, .i32⟩
  | 67 => ⟨S1024x7, .i32⟩
  | 68 => ⟨S1024x7, .i32⟩
  | 69 => ⟨S1024x7, .i32⟩
  | 70 => ⟨S_, .i32⟩
  | 71 => ⟨S1024x7, .i32⟩
  | 72 => ⟨S1024x7, .i1⟩
  | 73 => ⟨S1024x7, .i32⟩
  | 74 => ⟨S1024x7, .i32⟩
  | 75 => ⟨S_, .i32⟩
  | 76 => ⟨S1024x7, .i32⟩
  | 77 => ⟨S1024x7, .i1⟩
  | 78 => ⟨S1024x7, .i1⟩
  | 79 => ⟨S_, .i32⟩
  | 80 => ⟨S1024x7, .i32⟩
  | 81 => ⟨S1024x7, .i32⟩
  | 82 => ⟨S1024x7, .i32⟩
  | 83 => ⟨S1024x7, .i32⟩
  | 84 => ⟨S1024x7, .i32⟩
  | 85 => ⟨S_, .i32⟩
  | 86 => ⟨S_, .i32⟩
  | 87 => ⟨S_, .i32⟩
  | 88 => ⟨S1024x7, .i32⟩
  | 89 => ⟨S1024x7, .i32⟩
  | 90 => ⟨S_, .i32⟩
  | 91 => ⟨S1024x7, .i32⟩
  | 92 => ⟨S1024x7, .i32⟩
  | 93 => ⟨S_, .i32⟩
  | 94 => ⟨S1024x7, .i32⟩
  | 95 => ⟨S1024x7, .i32⟩
  | 96 => ⟨S_, .i32⟩
  | 97 => ⟨S1024x7, .i32⟩
  | 98 => ⟨S_, .i32⟩
  | 99 => ⟨S1024x7, .i32⟩
  | 100 => ⟨S1024x7, .i32⟩
  | 101 => ⟨S1024x7, .i32⟩
  | 102 => ⟨S_, .i32⟩
  | 103 => ⟨S_, .i32⟩
  | 104 => ⟨S_, .i32⟩
  | 105 => ⟨S1024x7, .i32⟩
  | 106 => ⟨S1024x7, .i32⟩
  | 107 => ⟨S_, .i32⟩
  | 108 => ⟨S1024x7, .i32⟩
  | 109 => ⟨S1024x7, .i32⟩
  | 110 => ⟨S_, .i32⟩
  | 111 => ⟨S1024x7, .i32⟩
  | 112 => ⟨S1024x7, .i32⟩
  | 113 => ⟨S_, .i32⟩
  | 114 => ⟨S1024x7, .i32⟩
  | 115 => ⟨S1024x7, .i32⟩
  | 116 => ⟨S1024x7, .i32⟩
  | 117 => ⟨S5, .i32⟩
  | 118 => ⟨S1024x7x1, .i32⟩
  | 119 => ⟨S1x1x5, .i32⟩
  | 120 => ⟨S1024x7, .i32⟩
  | 121 => ⟨S_, .i32⟩
  | 122 => ⟨S1024x7, .i32⟩
  | 123 => ⟨S1024x7, .i32⟩
  | 124 => ⟨S1024x7x1, .i32⟩
  | 125 => ⟨S1024x7x5, .i32⟩
  | 126 => ⟨S1024x7x5, .i32⟩
  | 127 => ⟨S1024x7x5, .i32⟩
  | _ => ⟨S1x512x50x50, .f32⟩

abbrev hbmTy0_2 (i : Nat) : BufTy := match i % 128 with
  | 0 => ⟨S1024x7x5, .i32⟩
  | 1 => ⟨S1024x7x5, .i32⟩
  | 2 => ⟨S7x1024, .i32⟩
  | 3 => ⟨S7x1024, .i32⟩
  | 4 => ⟨S7x1x1024, .i32⟩
  | 5 => ⟨S7x1x1024, .i32⟩
  | 6 => ⟨S7x2x1024, .i32⟩
  | 7 => ⟨S7x5x1024, .i32⟩
  | 8 => ⟨S1024x7x7x512, .f32⟩
  | 9 => ⟨S1024x512x7x7, .f32⟩
  | _ => ⟨S1x512x50x50, .f32⟩

abbrev hbmTy (i : Nat) : BufTy := match i / 128 with
  | 0 => hbmTy0_0 i
  | 1 => hbmTy0_1 i
  | 2 => hbmTy0_2 i
  | _ => ⟨S1x512x50x50, .f32⟩

abbrev bufTy : (tb : Table) → Fin (tcTables nBuf tb) → BufTy
  | .hbm, ⟨i, _⟩ => hbmTy i
  | .local _ .vmem, ⟨0, _⟩ => ⟨S250x50x512, .f32⟩
  | .local _ .vmem, ⟨1, _⟩ => ⟨S32x7x7x512, .f32⟩
  | .local _ .vmem, ⟨2, _⟩ => ⟨S32x7x7x512, .f32⟩
  | .local _ .vmem, ⟨3, _⟩ => ⟨S2x7x50x512, .f32⟩
  | .local _ .smem, ⟨0, _⟩ => ⟨S7x7x1024, .i32⟩
  | _, _ => ⟨S1x512x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_cst : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_c : Ref sig .tc := ⟨.hbm, 39, rfl⟩
abbrev main_v36 : Ref sig .tc := ⟨.hbm, 40, rfl⟩
abbrev main_v37 : Ref sig .tc := ⟨.hbm, 41, rfl⟩
abbrev main_c_0 : Ref sig .tc := ⟨.hbm, 42, rfl⟩
abbrev main_c_1 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v38 : Ref sig .tc := ⟨.hbm, 49, rfl⟩
abbrev main_v39 : Ref sig .tc := ⟨.hbm, 50, rfl⟩
abbrev main_c_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_c : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_0 : Ref sig .tc := ⟨.hbm, 75, rfl⟩
abbrev main_call1_v12 : Ref sig .tc := ⟨.hbm, 76, rfl⟩
abbrev main_call1_v13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_4 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_5 : Ref sig .tc := ⟨.hbm, 90, rfl⟩
abbrev main_v60 : Ref sig .tc := ⟨.hbm, 91, rfl⟩
abbrev main_v61 : Ref sig .tc := ⟨.hbm, 92, rfl⟩
abbrev main_c_6 : Ref sig .tc := ⟨.hbm, 93, rfl⟩
abbrev main_v62 : Ref sig .tc := ⟨.hbm, 94, rfl⟩
abbrev main_v63 : Ref sig .tc := ⟨.hbm, 95, rfl⟩
abbrev main_c_7 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_c : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_0 : Ref sig .tc := ⟨.hbm, 110, rfl⟩
abbrev main_call2_v12 : Ref sig .tc := ⟨.hbm, 111, rfl⟩
abbrev main_call2_v13 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_c_8 : Ref sig .tc := ⟨.hbm, 116, rfl⟩
abbrev main_c_9 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_v67 : Ref sig .tc := ⟨.hbm, 123, rfl⟩
abbrev main_c_10 : Ref sig .tc := ⟨.hbm, 124, rfl⟩
abbrev main_v68 : Ref sig .tc := ⟨.hbm, 125, rfl⟩
abbrev main_v69 : Ref sig .tc := ⟨.hbm, 126, rfl⟩
abbrev main_c_11 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_c_12 : Ref sig .tc := ⟨.hbm, 136, rfl⟩
abbrev main_v75 : Ref sig .tc := ⟨.hbm, 137, rfl⟩
abbrev main_v76 : Ref sig .tc := ⟨.hbm, 138, rfl⟩
abbrev main_c_13 : Ref sig .tc := ⟨.hbm, 139, rfl⟩
abbrev main_c_14 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_v77 : Ref sig .tc := ⟨.hbm, 146, rfl⟩
abbrev main_v78 : Ref sig .tc := ⟨.hbm, 147, rfl⟩
abbrev main_c_15 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_c_16 : Ref sig .tc := ⟨.hbm, 158, rfl⟩
abbrev main_call6_v0 : Ref sig .tc := ⟨.hbm, 159, rfl⟩
abbrev main_call6_v1 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_v6 : Ref sig .tc := ⟨.hbm, 165, rfl⟩
abbrev main_call6_v7 : Ref sig .tc := ⟨.hbm, 166, rfl⟩
abbrev main_call6_v8 : Ref sig .tc := ⟨.hbm, 167, rfl⟩
abbrev main_call6_c : Ref sig .tc := ⟨.hbm, 168, rfl⟩
abbrev main_call6_v9 : Ref sig .tc := ⟨.hbm, 169, rfl⟩
abbrev main_call6_v10 : Ref sig .tc := ⟨.hbm, 170, rfl⟩
abbrev main_call6_v11 : Ref sig .tc := ⟨.hbm, 171, rfl⟩
abbrev main_call6_c_0 : Ref sig .tc := ⟨.hbm, 172, rfl⟩
abbrev main_call6_v12 : Ref sig .tc := ⟨.hbm, 173, rfl⟩
abbrev main_call6_v13 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_c_17 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_c_18 : Ref sig .tc := ⟨.hbm, 187, rfl⟩
abbrev main_v99 : Ref sig .tc := ⟨.hbm, 188, rfl⟩
abbrev main_v100 : Ref sig .tc := ⟨.hbm, 189, rfl⟩
abbrev main_c_19 : Ref sig .tc := ⟨.hbm, 190, rfl⟩
abbrev main_v101 : Ref sig .tc := ⟨.hbm, 191, rfl⟩
abbrev main_v102 : Ref sig .tc := ⟨.hbm, 192, rfl⟩
abbrev main_c_20 : Ref sig .tc := ⟨.hbm, 193, rfl⟩
abbrev main_call7_v0 : Ref sig .tc := ⟨.hbm, 194, rfl⟩
abbrev main_call7_v1 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_v5 : Ref sig .tc := ⟨.hbm, 199, rfl⟩
abbrev main_call7_v6 : Ref sig .tc := ⟨.hbm, 200, rfl⟩
abbrev main_call7_v7 : Ref sig .tc := ⟨.hbm, 201, rfl⟩
abbrev main_call7_v8 : Ref sig .tc := ⟨.hbm, 202, rfl⟩
abbrev main_call7_c : Ref sig .tc := ⟨.hbm, 203, rfl⟩
abbrev main_call7_v9 : Ref sig .tc := ⟨.hbm, 204, rfl⟩
abbrev main_call7_v10 : Ref sig .tc := ⟨.hbm, 205, rfl⟩
abbrev main_call7_v11 : Ref sig .tc := ⟨.hbm, 206, rfl⟩
abbrev main_call7_c_0 : Ref sig .tc := ⟨.hbm, 207, rfl⟩
abbrev main_call7_v12 : Ref sig .tc := ⟨.hbm, 208, rfl⟩
abbrev main_call7_v13 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_c_21 : Ref sig .tc := ⟨.hbm, 213, rfl⟩
abbrev main_c_22 : Ref sig .tc := ⟨.hbm, 214, rfl⟩
abbrev main_call8_v0 : Ref sig .tc := ⟨.hbm, 215, rfl⟩
abbrev main_call8_v1 : Ref sig .tc := ⟨.hbm, 216, rfl⟩
abbrev main_call8_v2 : Ref sig .tc := ⟨.hbm, 217, rfl⟩
abbrev main_call8_v3 : Ref sig .tc := ⟨.hbm, 218, rfl⟩
abbrev main_call8_v4 : Ref sig .tc := ⟨.hbm, 219, rfl⟩
abbrev main_v106 : Ref sig .tc := ⟨.hbm, 220, rfl⟩
abbrev main_c_23 : Ref sig .tc := ⟨.hbm, 221, rfl⟩
abbrev main_v107 : Ref sig .tc := ⟨.hbm, 222, rfl⟩
abbrev main_v108 : Ref sig .tc := ⟨.hbm, 223, rfl⟩
abbrev main_c_24 : Ref sig .tc := ⟨.hbm, 224, rfl⟩
abbrev main_call9_v0 : Ref sig .tc := ⟨.hbm, 225, rfl⟩
abbrev main_call9_v1 : Ref sig .tc := ⟨.hbm, 226, rfl⟩
abbrev main_call9_v2 : Ref sig .tc := ⟨.hbm, 227, rfl⟩
abbrev main_v109 : Ref sig .tc := ⟨.hbm, 228, rfl⟩
abbrev main_v110 : Ref sig .tc := ⟨.hbm, 229, rfl⟩
abbrev main_c_25 : Ref sig .tc := ⟨.hbm, 230, rfl⟩
abbrev main_c_26 : Ref sig .tc := ⟨.hbm, 231, rfl⟩
abbrev main_call10_v0 : Ref sig .tc := ⟨.hbm, 232, rfl⟩
abbrev main_call10_v1 : Ref sig .tc := ⟨.hbm, 233, rfl⟩
abbrev main_call10_v2 : Ref sig .tc := ⟨.hbm, 234, rfl⟩
abbrev main_call10_v3 : Ref sig .tc := ⟨.hbm, 235, rfl⟩
abbrev main_call10_v4 : Ref sig .tc := ⟨.hbm, 236, rfl⟩
abbrev main_v111 : Ref sig .tc := ⟨.hbm, 237, rfl⟩
abbrev main_c_27 : Ref sig .tc := ⟨.hbm, 238, rfl⟩
abbrev main_v112 : Ref sig .tc := ⟨.hbm, 239, rfl⟩
abbrev main_v113 : Ref sig .tc := ⟨.hbm, 240, rfl⟩
abbrev main_c_28 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_v118 : Ref sig .tc := ⟨.hbm, 246, rfl⟩
abbrev main_v119 : Ref sig .tc := ⟨.hbm, 247, rfl⟩
abbrev main_v120 : Ref sig .tc := ⟨.hbm, 248, rfl⟩
abbrev main_c_29 : Ref sig .tc := ⟨.hbm, 249, rfl⟩
abbrev main_v121 : Ref sig .tc := ⟨.hbm, 250, rfl⟩
abbrev main_v122 : Ref sig .tc := ⟨.hbm, 251, rfl⟩
abbrev main_v123 : Ref sig .tc := ⟨.hbm, 252, rfl⟩
abbrev main_v124 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_v128 : Ref sig .tc := ⟨.hbm, 257, rfl⟩
abbrev main_v129 : Ref sig .tc := ⟨.hbm, 258, rfl⟩
abbrev main_v130 : Ref sig .tc := ⟨.hbm, 259, rfl⟩
abbrev main_v131 : Ref sig .tc := ⟨.hbm, 260, rfl⟩
abbrev main_v132 : Ref sig .tc := ⟨.hbm, 261, rfl⟩
abbrev main_v133 : Ref sig .tc := ⟨.hbm, 262, rfl⟩
abbrev main_v134 : Ref sig .tc := ⟨.hbm, 263, rfl⟩
abbrev main_v136 : Ref sig .tc := ⟨.hbm, 264, rfl⟩
abbrev main_v137 : Ref sig .tc := ⟨.hbm, 265, rfl⟩
abbrev main_v135 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v135.idx], fun | 0 => main_v135.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let c0 : Index := 0#32
  let c0_0 : Index := 0#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  ![0, 0, v2.toNat]
def k0_off2 (v3 : BitVec 32) : Fin 3 → Nat :=
  let v4 : Index := Scalar.indexCast v3
  let c0_1 : Index := 0#32
  let c0_2 : Index := 0#32
  ![v4.toNat, 0, 0]

def k0_chk1 (v3 : BitVec 32) : Prop :=
  (∀ a, (k0_off2 v3) a + S1x50x512.size a ≤ S250x50x512.size a)
theorem k0_off2_inb : ∀ (v3 : BitVec 32) (k0_hw1 : k0_chk1 v3), ∀ a, (k0_off2 v3) a + S1x50x512.size a ≤ S250x50x512.size a := fun v3 k0_hw1 => k0_hw1

def k0_off3 (i : grid0.Coords) : Fin 3 → Nat :=
  let c1 : Index := 1#32
  let c0_10 : Index := 0#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v12 : Index := Scalar.indexCast v1
  ![1, 0, v12.toNat]
def k0_off4 (v13 : BitVec 32) : Fin 3 → Nat :=
  let v14 : Index := Scalar.indexCast v13
  let c0_11 : Index := 0#32
  let c0_12 : Index := 0#32
  ![v14.toNat, 0, 0]

def k0_chk2 (v13 : BitVec 32) : Prop :=
  (∀ a, (k0_off4 v13) a + S1x50x512.size a ≤ S250x50x512.size a)
theorem k0_off4_inb : ∀ (v13 : BitVec 32) (k0_hw2 : k0_chk2 v13), ∀ a, (k0_off4 v13) a + S1x50x512.size a ≤ S250x50x512.size a := fun v13 k0_hw2 => k0_hw2

def k0_off5 (i : grid0.Coords) : Fin 3 → Nat :=
  let c2 : Index := 2#32
  let c0_20 : Index := 0#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v22 : Index := Scalar.indexCast v1
  ![2, 0, v22.toNat]
def k0_off6 (v23 : BitVec 32) : Fin 3 → Nat :=
  let v24 : Index := Scalar.indexCast v23
  let c0_21 : Index := 0#32
  let c0_22 : Index := 0#32
  ![v24.toNat, 0, 0]

def k0_chk3 (v23 : BitVec 32) : Prop :=
  (∀ a, (k0_off6 v23) a + S1x50x512.size a ≤ S250x50x512.size a)
theorem k0_off6_inb : ∀ (v23 : BitVec 32) (k0_hw3 : k0_chk3 v23), ∀ a, (k0_off6 v23) a + S1x50x512.size a ≤ S250x50x512.size a := fun v23 k0_hw3 => k0_hw3

def k0_off7 (i : grid0.Coords) : Fin 3 → Nat :=
  let c3 : Index := 3#32
  let c0_30 : Index := 0#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v32 : Index := Scalar.indexCast v1
  ![3, 0, v32.toNat]
def k0_off8 (v33 : BitVec 32) : Fin 3 → Nat :=
  let v34 : Index := Scalar.indexCast v33
  let c0_31 : Index := 0#32
  let c0_32 : Index := 0#32
  ![v34.toNat, 0, 0]

def k0_chk4 (v33 : BitVec 32) : Prop :=
  (∀ a, (k0_off8 v33) a + S1x50x512.size a ≤ S250x50x512.size a)
theorem k0_off8_inb : ∀ (v33 : BitVec 32) (k0_hw4 : k0_chk4 v33), ∀ a, (k0_off8 v33) a + S1x50x512.size a ≤ S250x50x512.size a := fun v33 k0_hw4 => k0_hw4

def k0_off9 (i : grid0.Coords) : Fin 3 → Nat :=
  let c4 : Index := 4#32
  let c0_40 : Index := 0#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v42 : Index := Scalar.indexCast v1
  ![4, 0, v42.toNat]
def k0_off10 (v43 : BitVec 32) : Fin 3 → Nat :=
  let v44 : Index := Scalar.indexCast v43
  let c0_41 : Index := 0#32
  let c0_42 : Index := 0#32
  ![v44.toNat, 0, 0]

def k0_chk5 (v43 : BitVec 32) : Prop :=
  (∀ a, (k0_off10 v43) a + S1x50x512.size a ≤ S250x50x512.size a)
theorem k0_off10_inb : ∀ (v43 : BitVec 32) (k0_hw5 : k0_chk5 v43), ∀ a, (k0_off10 v43) a + S1x50x512.size a ≤ S250x50x512.size a := fun v43 k0_hw5 => k0_hw5

def k0_off11 (i : grid0.Coords) : Fin 3 → Nat :=
  let c5 : Index := 5#32
  let c0_50 : Index := 0#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v52 : Index := Scalar.indexCast v1
  ![5, 0, v52.toNat]
def k0_off12 (v53 : BitVec 32) : Fin 3 → Nat :=
  let v54 : Index := Scalar.indexCast v53
  let c0_51 : Index := 0#32
  let c0_52 : Index := 0#32
  ![v54.toNat, 0, 0]

def k0_chk6 (v53 : BitVec 32) : Prop :=
  (∀ a, (k0_off12 v53) a + S1x50x512.size a ≤ S250x50x512.size a)
theorem k0_off12_inb : ∀ (v53 : BitVec 32) (k0_hw6 : k0_chk6 v53), ∀ a, (k0_off12 v53) a + S1x50x512.size a ≤ S250x50x512.size a := fun v53 k0_hw6 => k0_hw6

def k0_off13 (i : grid0.Coords) : Fin 3 → Nat :=
  let c6 : Index := 6#32
  let c0_60 : Index := 0#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v62 : Index := Scalar.indexCast v1
  ![6, 0, v62.toNat]
def k0_off14 (v63 : BitVec 32) : Fin 3 → Nat :=
  let v64 : Index := Scalar.indexCast v63
  let c0_61 : Index := 0#32
  let c0_62 : Index := 0#32
  ![v64.toNat, 0, 0]

def k0_chk7 (v63 : BitVec 32) : Prop :=
  (∀ a, (k0_off14 v63) a + S1x50x512.size a ≤ S250x50x512.size a)
theorem k0_off14_inb : ∀ (v63 : BitVec 32) (k0_hw7 : k0_chk7 v63), ∀ a, (k0_off14 v63) a + S1x50x512.size a ≤ S250x50x512.size a := fun v63 k0_hw7 => k0_hw7

def k0_off15 (i : grid0.Coords) : Fin 3 → Nat :=
  let c0_70 : Index := 0#32
  let c2_71 : Index := 2#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v72 : Index := Scalar.indexCast v1
  ![0, 2, v72.toNat]
def k0_off16 (v73 : BitVec 32) : Fin 3 → Nat :=
  let c0_76 : Index := 0#32
  let v76 : Index := Scalar.indexCast v73
  let c0_77 : Index := 0#32
  ![0, v76.toNat, 0]

def k0_chk8 (v73 : BitVec 32) : Prop :=
  (∀ a, (k0_off16 v73) a + S7x1x512.size a ≤ S7x50x512.size a)
theorem k0_off16_inb : ∀ (v73 : BitVec 32) (k0_hw8 : k0_chk8 v73), ∀ a, (k0_off16 v73) a + S7x1x512.size a ≤ S7x50x512.size a := fun v73 k0_hw8 => k0_hw8

def k0_off17 (i : grid0.Coords) : Fin 3 → Nat :=
  let c0_78 : Index := 0#32
  let c3_79 : Index := 3#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v78 : Index := Scalar.indexCast v1
  ![0, 3, v78.toNat]
def k0_off18 (v79 : BitVec 32) : Fin 3 → Nat :=
  let c0_84 : Index := 0#32
  let v82 : Index := Scalar.indexCast v79
  let c0_85 : Index := 0#32
  ![0, v82.toNat, 0]

def k0_chk9 (v79 : BitVec 32) : Prop :=
  (∀ a, (k0_off18 v79) a + S7x1x512.size a ≤ S7x50x512.size a)
theorem k0_off18_inb : ∀ (v79 : BitVec 32) (k0_hw9 : k0_chk9 v79), ∀ a, (k0_off18 v79) a + S7x1x512.size a ≤ S7x50x512.size a := fun v79 k0_hw9 => k0_hw9

def k0_off19 (i : grid0.Coords) : Fin 3 → Nat :=
  let c0_86 : Index := 0#32
  let c4_87 : Index := 4#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v85 : Index := Scalar.indexCast v1
  ![0, 4, v85.toNat]
def k0_off20 (v86 : BitVec 32) : Fin 3 → Nat :=
  let c0_92 : Index := 0#32
  let v89 : Index := Scalar.indexCast v86
  let c0_93 : Index := 0#32
  ![0, v89.toNat, 0]

def k0_chk10 (v86 : BitVec 32) : Prop :=
  (∀ a, (k0_off20 v86) a + S7x1x512.size a ≤ S7x50x512.size a)
theorem k0_off20_inb : ∀ (v86 : BitVec 32) (k0_hw10 : k0_chk10 v86), ∀ a, (k0_off20 v86) a + S7x1x512.size a ≤ S7x50x512.size a := fun v86 k0_hw10 => k0_hw10

def k0_off21 (i : grid0.Coords) : Fin 3 → Nat :=
  let c0_94 : Index := 0#32
  let c5_95 : Index := 5#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v92 : Index := Scalar.indexCast v1
  ![0, 5, v92.toNat]
def k0_off22 (v93 : BitVec 32) : Fin 3 → Nat :=
  let c0_100 : Index := 0#32
  let v96 : Index := Scalar.indexCast v93
  let c0_101 : Index := 0#32
  ![0, v96.toNat, 0]

def k0_chk11 (v93 : BitVec 32) : Prop :=
  (∀ a, (k0_off22 v93) a + S7x1x512.size a ≤ S7x50x512.size a)
theorem k0_off22_inb : ∀ (v93 : BitVec 32) (k0_hw11 : k0_chk11 v93), ∀ a, (k0_off22 v93) a + S7x1x512.size a ≤ S7x50x512.size a := fun v93 k0_hw11 => k0_hw11

def k0_off23 (i : grid0.Coords) : Fin 3 → Nat :=
  let c0_102 : Index := 0#32
  let c6_103 : Index := 6#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v99 : Index := Scalar.indexCast v1
  ![0, 6, v99.toNat]
def k0_off24 (v100 : BitVec 32) : Fin 3 → Nat :=
  let c0_108 : Index := 0#32
  let v103 : Index := Scalar.indexCast v100
  let c0_109 : Index := 0#32
  ![0, v103.toNat, 0]

def k0_chk12 (v100 : BitVec 32) : Prop :=
  (∀ a, (k0_off24 v100) a + S7x1x512.size a ≤ S7x50x512.size a)
theorem k0_off24_inb : ∀ (v100 : BitVec 32) (k0_hw12 : k0_chk12 v100), ∀ a, (k0_off24 v100) a + S7x1x512.size a ≤ S7x50x512.size a := fun v100 k0_hw12 => k0_hw12

def k0_off25 (i : grid0.Coords) : Fin 3 → Nat :=
  let c1_114 : Index := 1#32
  let c2_115 : Index := 2#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v110 : Index := Scalar.indexCast v1
  ![1, 2, v110.toNat]
def k0_off26 (v111 : BitVec 32) : Fin 3 → Nat :=
  let c0_120 : Index := 0#32
  let v114 : Index := Scalar.indexCast v111
  let c0_121 : Index := 0#32
  ![0, v114.toNat, 0]

def k0_chk13 (v111 : BitVec 32) : Prop :=
  (∀ a, (k0_off26 v111) a + S7x1x512.size a ≤ S7x50x512.size a)
theorem k0_off26_inb : ∀ (v111 : BitVec 32) (k0_hw13 : k0_chk13 v111), ∀ a, (k0_off26 v111) a + S7x1x512.size a ≤ S7x50x512.size a := fun v111 k0_hw13 => k0_hw13

def k0_off27 (i : grid0.Coords) : Fin 3 → Nat :=
  let c1_122 : Index := 1#32
  let c3_123 : Index := 3#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v116 : Index := Scalar.indexCast v1
  ![1, 3, v116.toNat]
def k0_off28 (v117 : BitVec 32) : Fin 3 → Nat :=
  let c0_128 : Index := 0#32
  let v120 : Index := Scalar.indexCast v117
  let c0_129 : Index := 0#32
  ![0, v120.toNat, 0]

def k0_chk14 (v117 : BitVec 32) : Prop :=
  (∀ a, (k0_off28 v117) a + S7x1x512.size a ≤ S7x50x512.size a)
theorem k0_off28_inb : ∀ (v117 : BitVec 32) (k0_hw14 : k0_chk14 v117), ∀ a, (k0_off28 v117) a + S7x1x512.size a ≤ S7x50x512.size a := fun v117 k0_hw14 => k0_hw14

def k0_off29 (i : grid0.Coords) : Fin 3 → Nat :=
  let c1_130 : Index := 1#32
  let c4_131 : Index := 4#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v123 : Index := Scalar.indexCast v1
  ![1, 4, v123.toNat]
def k0_off30 (v124 : BitVec 32) : Fin 3 → Nat :=
  let c0_136 : Index := 0#32
  let v127 : Index := Scalar.indexCast v124
  let c0_137 : Index := 0#32
  ![0, v127.toNat, 0]

def k0_chk15 (v124 : BitVec 32) : Prop :=
  (∀ a, (k0_off30 v124) a + S7x1x512.size a ≤ S7x50x512.size a)
theorem k0_off30_inb : ∀ (v124 : BitVec 32) (k0_hw15 : k0_chk15 v124), ∀ a, (k0_off30 v124) a + S7x1x512.size a ≤ S7x50x512.size a := fun v124 k0_hw15 => k0_hw15

def k0_off31 (i : grid0.Coords) : Fin 3 → Nat :=
  let c1_138 : Index := 1#32
  let c5_139 : Index := 5#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v130 : Index := Scalar.indexCast v1
  ![1, 5, v130.toNat]
def k0_off32 (v131 : BitVec 32) : Fin 3 → Nat :=
  let c0_144 : Index := 0#32
  let v134 : Index := Scalar.indexCast v131
  let c0_145 : Index := 0#32
  ![0, v134.toNat, 0]

def k0_chk16 (v131 : BitVec 32) : Prop :=
  (∀ a, (k0_off32 v131) a + S7x1x512.size a ≤ S7x50x512.size a)
theorem k0_off32_inb : ∀ (v131 : BitVec 32) (k0_hw16 : k0_chk16 v131), ∀ a, (k0_off32 v131) a + S7x1x512.size a ≤ S7x50x512.size a := fun v131 k0_hw16 => k0_hw16

def k0_off33 (i : grid0.Coords) : Fin 3 → Nat :=
  let c1_146 : Index := 1#32
  let c6_147 : Index := 6#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v137 : Index := Scalar.indexCast v1
  ![1, 6, v137.toNat]
def k0_off34 (v138 : BitVec 32) : Fin 3 → Nat :=
  let c0_152 : Index := 0#32
  let v141 : Index := Scalar.indexCast v138
  let c0_153 : Index := 0#32
  ![0, v141.toNat, 0]

def k0_chk17 (v138 : BitVec 32) : Prop :=
  (∀ a, (k0_off34 v138) a + S7x1x512.size a ≤ S7x50x512.size a)
theorem k0_off34_inb : ∀ (v138 : BitVec 32) (k0_hw17 : k0_chk17 v138), ∀ a, (k0_off34 v138) a + S7x1x512.size a ≤ S7x50x512.size a := fun v138 k0_hw17 => k0_hw17

def k0_off35 (i : grid0.Coords) : Fin 3 → Nat :=
  let c2_158 : Index := 2#32
  let c2_159 : Index := 2#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v148 : Index := Scalar.indexCast v1
  ![2, 2, v148.toNat]
def k0_off36 (v149 : BitVec 32) : Fin 3 → Nat :=
  let c0_164 : Index := 0#32
  let v152 : Index := Scalar.indexCast v149
  let c0_165 : Index := 0#32
  ![0, v152.toNat, 0]

def k0_chk18 (v149 : BitVec 32) : Prop :=
  (∀ a, (k0_off36 v149) a + S7x1x512.size a ≤ S7x50x512.size a)
theorem k0_off36_inb : ∀ (v149 : BitVec 32) (k0_hw18 : k0_chk18 v149), ∀ a, (k0_off36 v149) a + S7x1x512.size a ≤ S7x50x512.size a := fun v149 k0_hw18 => k0_hw18

def k0_off37 (i : grid0.Coords) : Fin 3 → Nat :=
  let c2_166 : Index := 2#32
  let c3_167 : Index := 3#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v154 : Index := Scalar.indexCast v1
  ![2, 3, v154.toNat]
def k0_off38 (v155 : BitVec 32) : Fin 3 → Nat :=
  let c0_172 : Index := 0#32
  let v158 : Index := Scalar.indexCast v155
  let c0_173 : Index := 0#32
  ![0, v158.toNat, 0]

def k0_chk19 (v155 : BitVec 32) : Prop :=
  (∀ a, (k0_off38 v155) a + S7x1x512.size a ≤ S7x50x512.size a)
theorem k0_off38_inb : ∀ (v155 : BitVec 32) (k0_hw19 : k0_chk19 v155), ∀ a, (k0_off38 v155) a + S7x1x512.size a ≤ S7x50x512.size a := fun v155 k0_hw19 => k0_hw19

def k0_off39 (i : grid0.Coords) : Fin 3 → Nat :=
  let c2_174 : Index := 2#32
  let c4_175 : Index := 4#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v161 : Index := Scalar.indexCast v1
  ![2, 4, v161.toNat]
def k0_off40 (v162 : BitVec 32) : Fin 3 → Nat :=
  let c0_180 : Index := 0#32
  let v165 : Index := Scalar.indexCast v162
  let c0_181 : Index := 0#32
  ![0, v165.toNat, 0]

def k0_chk20 (v162 : BitVec 32) : Prop :=
  (∀ a, (k0_off40 v162) a + S7x1x512.size a ≤ S7x50x512.size a)
theorem k0_off40_inb : ∀ (v162 : BitVec 32) (k0_hw20 : k0_chk20 v162), ∀ a, (k0_off40 v162) a + S7x1x512.size a ≤ S7x50x512.size a := fun v162 k0_hw20 => k0_hw20

def k0_off41 (i : grid0.Coords) : Fin 3 → Nat :=
  let c2_182 : Index := 2#32
  let c5_183 : Index := 5#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v168 : Index := Scalar.indexCast v1
  ![2, 5, v168.toNat]
def k0_off42 (v169 : BitVec 32) : Fin 3 → Nat :=
  let c0_188 : Index := 0#32
  let v172 : Index := Scalar.indexCast v169
  let c0_189 : Index := 0#32
  ![0, v172.toNat, 0]

def k0_chk21 (v169 : BitVec 32) : Prop :=
  (∀ a, (k0_off42 v169) a + S7x1x512.size a ≤ S7x50x512.size a)
theorem k0_off42_inb : ∀ (v169 : BitVec 32) (k0_hw21 : k0_chk21 v169), ∀ a, (k0_off42 v169) a + S7x1x512.size a ≤ S7x50x512.size a := fun v169 k0_hw21 => k0_hw21

def k0_off43 (i : grid0.Coords) : Fin 3 → Nat :=
  let c2_190 : Index := 2#32
  let c6_191 : Index := 6#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v175 : Index := Scalar.indexCast v1
  ![2, 6, v175.toNat]
def k0_off44 (v176 : BitVec 32) : Fin 3 → Nat :=
  let c0_196 : Index := 0#32
  let v179 : Index := Scalar.indexCast v176
  let c0_197 : Index := 0#32
  ![0, v179.toNat, 0]

def k0_chk22 (v176 : BitVec 32) : Prop :=
  (∀ a, (k0_off44 v176) a + S7x1x512.size a ≤ S7x50x512.size a)
theorem k0_off44_inb : ∀ (v176 : BitVec 32) (k0_hw22 : k0_chk22 v176), ∀ a, (k0_off44 v176) a + S7x1x512.size a ≤ S7x50x512.size a := fun v176 k0_hw22 => k0_hw22

def k0_off45 (i : grid0.Coords) : Fin 3 → Nat :=
  let c3_202 : Index := 3#32
  let c2_203 : Index := 2#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v186 : Index := Scalar.indexCast v1
  ![3, 2, v186.toNat]
def k0_off46 (v187 : BitVec 32) : Fin 3 → Nat :=
  let c0_208 : Index := 0#32
  let v190 : Index := Scalar.indexCast v187
  let c0_209 : Index := 0#32
  ![0, v190.toNat, 0]

def k0_chk23 (v187 : BitVec 32) : Prop :=
  (∀ a, (k0_off46 v187) a + S7x1x512.size a ≤ S7x50x512.size a)
theorem k0_off46_inb : ∀ (v187 : BitVec 32) (k0_hw23 : k0_chk23 v187), ∀ a, (k0_off46 v187) a + S7x1x512.size a ≤ S7x50x512.size a := fun v187 k0_hw23 => k0_hw23

def k0_off47 (i : grid0.Coords) : Fin 3 → Nat :=
  let c3_210 : Index := 3#32
  let c3_211 : Index := 3#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v192 : Index := Scalar.indexCast v1
  ![3, 3, v192.toNat]
def k0_off48 (v193 : BitVec 32) : Fin 3 → Nat :=
  let c0_216 : Index := 0#32
  let v196 : Index := Scalar.indexCast v193
  let c0_217 : Index := 0#32
  ![0, v196.toNat, 0]

def k0_chk24 (v193 : BitVec 32) : Prop :=
  (∀ a, (k0_off48 v193) a + S7x1x512.size a ≤ S7x50x512.size a)
theorem k0_off48_inb : ∀ (v193 : BitVec 32) (k0_hw24 : k0_chk24 v193), ∀ a, (k0_off48 v193) a + S7x1x512.size a ≤ S7x50x512.size a := fun v193 k0_hw24 => k0_hw24

def k0_off49 (i : grid0.Coords) : Fin 3 → Nat :=
  let c3_218 : Index := 3#32
  let c4_219 : Index := 4#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v199 : Index := Scalar.indexCast v1
  ![3, 4, v199.toNat]
def k0_off50 (v200 : BitVec 32) : Fin 3 → Nat :=
  let c0_224 : Index := 0#32
  let v203 : Index := Scalar.indexCast v200
  let c0_225 : Index := 0#32
  ![0, v203.toNat, 0]

def k0_chk25 (v200 : BitVec 32) : Prop :=
  (∀ a, (k0_off50 v200) a + S7x1x512.size a ≤ S7x50x512.size a)
theorem k0_off50_inb : ∀ (v200 : BitVec 32) (k0_hw25 : k0_chk25 v200), ∀ a, (k0_off50 v200) a + S7x1x512.size a ≤ S7x50x512.size a := fun v200 k0_hw25 => k0_hw25

def k0_off51 (i : grid0.Coords) : Fin 3 → Nat :=
  let c3_226 : Index := 3#32
  let c5_227 : Index := 5#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v206 : Index := Scalar.indexCast v1
  ![3, 5, v206.toNat]
def k0_off52 (v207 : BitVec 32) : Fin 3 → Nat :=
  let c0_232 : Index := 0#32
  let v210 : Index := Scalar.indexCast v207
  let c0_233 : Index := 0#32
  ![0, v210.toNat, 0]

def k0_chk26 (v207 : BitVec 32) : Prop :=
  (∀ a, (k0_off52 v207) a + S7x1x512.size a ≤ S7x50x512.size a)
theorem k0_off52_inb : ∀ (v207 : BitVec 32) (k0_hw26 : k0_chk26 v207), ∀ a, (k0_off52 v207) a + S7x1x512.size a ≤ S7x50x512.size a := fun v207 k0_hw26 => k0_hw26

def k0_off53 (i : grid0.Coords) : Fin 3 → Nat :=
  let c3_234 : Index := 3#32
  let c6_235 : Index := 6#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v213 : Index := Scalar.indexCast v1
  ![3, 6, v213.toNat]
def k0_off54 (v214 : BitVec 32) : Fin 3 → Nat :=
  let c0_240 : Index := 0#32
  let v217 : Index := Scalar.indexCast v214
  let c0_241 : Index := 0#32
  ![0, v217.toNat, 0]

def k0_chk27 (v214 : BitVec 32) : Prop :=
  (∀ a, (k0_off54 v214) a + S7x1x512.size a ≤ S7x50x512.size a)
theorem k0_off54_inb : ∀ (v214 : BitVec 32) (k0_hw27 : k0_chk27 v214), ∀ a, (k0_off54 v214) a + S7x1x512.size a ≤ S7x50x512.size a := fun v214 k0_hw27 => k0_hw27

def k0_off55 (i : grid0.Coords) : Fin 3 → Nat :=
  let c4_246 : Index := 4#32
  let c2_247 : Index := 2#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v224 : Index := Scalar.indexCast v1
  ![4, 2, v224.toNat]
def k0_off56 (v225 : BitVec 32) : Fin 3 → Nat :=
  let c0_252 : Index := 0#32
  let v228 : Index := Scalar.indexCast v225
  let c0_253 : Index := 0#32
  ![0, v228.toNat, 0]

def k0_chk28 (v225 : BitVec 32) : Prop :=
  (∀ a, (k0_off56 v225) a + S7x1x512.size a ≤ S7x50x512.size a)
theorem k0_off56_inb : ∀ (v225 : BitVec 32) (k0_hw28 : k0_chk28 v225), ∀ a, (k0_off56 v225) a + S7x1x512.size a ≤ S7x50x512.size a := fun v225 k0_hw28 => k0_hw28

def k0_off57 (i : grid0.Coords) : Fin 3 → Nat :=
  let c4_254 : Index := 4#32
  let c3_255 : Index := 3#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v230 : Index := Scalar.indexCast v1
  ![4, 3, v230.toNat]
def k0_off58 (v231 : BitVec 32) : Fin 3 → Nat :=
  let c0_260 : Index := 0#32
  let v234 : Index := Scalar.indexCast v231
  let c0_261 : Index := 0#32
  ![0, v234.toNat, 0]

def k0_chk29 (v231 : BitVec 32) : Prop :=
  (∀ a, (k0_off58 v231) a + S7x1x512.size a ≤ S7x50x512.size a)
theorem k0_off58_inb : ∀ (v231 : BitVec 32) (k0_hw29 : k0_chk29 v231), ∀ a, (k0_off58 v231) a + S7x1x512.size a ≤ S7x50x512.size a := fun v231 k0_hw29 => k0_hw29

def k0_off59 (i : grid0.Coords) : Fin 3 → Nat :=
  let c4_262 : Index := 4#32
  let c4_263 : Index := 4#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v237 : Index := Scalar.indexCast v1
  ![4, 4, v237.toNat]
def k0_off60 (v238 : BitVec 32) : Fin 3 → Nat :=
  let c0_268 : Index := 0#32
  let v241 : Index := Scalar.indexCast v238
  let c0_269 : Index := 0#32
  ![0, v241.toNat, 0]

def k0_chk30 (v238 : BitVec 32) : Prop :=
  (∀ a, (k0_off60 v238) a + S7x1x512.size a ≤ S7x50x512.size a)
theorem k0_off60_inb : ∀ (v238 : BitVec 32) (k0_hw30 : k0_chk30 v238), ∀ a, (k0_off60 v238) a + S7x1x512.size a ≤ S7x50x512.size a := fun v238 k0_hw30 => k0_hw30

def k0_off61 (i : grid0.Coords) : Fin 3 → Nat :=
  let c4_270 : Index := 4#32
  let c5_271 : Index := 5#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v244 : Index := Scalar.indexCast v1
  ![4, 5, v244.toNat]
def k0_off62 (v245 : BitVec 32) : Fin 3 → Nat :=
  let c0_276 : Index := 0#32
  let v248 : Index := Scalar.indexCast v245
  let c0_277 : Index := 0#32
  ![0, v248.toNat, 0]

def k0_chk31 (v245 : BitVec 32) : Prop :=
  (∀ a, (k0_off62 v245) a + S7x1x512.size a ≤ S7x50x512.size a)
theorem k0_off62_inb : ∀ (v245 : BitVec 32) (k0_hw31 : k0_chk31 v245), ∀ a, (k0_off62 v245) a + S7x1x512.size a ≤ S7x50x512.size a := fun v245 k0_hw31 => k0_hw31

def k0_off63 (i : grid0.Coords) : Fin 3 → Nat :=
  let c4_278 : Index := 4#32
  let c6_279 : Index := 6#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v251 : Index := Scalar.indexCast v1
  ![4, 6, v251.toNat]
def k0_off64 (v252 : BitVec 32) : Fin 3 → Nat :=
  let c0_284 : Index := 0#32
  let v255 : Index := Scalar.indexCast v252
  let c0_285 : Index := 0#32
  ![0, v255.toNat, 0]

def k0_chk32 (v252 : BitVec 32) : Prop :=
  (∀ a, (k0_off64 v252) a + S7x1x512.size a ≤ S7x50x512.size a)
theorem k0_off64_inb : ∀ (v252 : BitVec 32) (k0_hw32 : k0_chk32 v252), ∀ a, (k0_off64 v252) a + S7x1x512.size a ≤ S7x50x512.size a := fun v252 k0_hw32 => k0_hw32

def k0_off65 (i : grid0.Coords) : Fin 3 → Nat :=
  let c5_290 : Index := 5#32
  let c2_291 : Index := 2#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v262 : Index := Scalar.indexCast v1
  ![5, 2, v262.toNat]
def k0_off66 (v263 : BitVec 32) : Fin 3 → Nat :=
  let c0_296 : Index := 0#32
  let v266 : Index := Scalar.indexCast v263
  let c0_297 : Index := 0#32
  ![0, v266.toNat, 0]

def k0_chk33 (v263 : BitVec 32) : Prop :=
  (∀ a, (k0_off66 v263) a + S7x1x512.size a ≤ S7x50x512.size a)
theorem k0_off66_inb : ∀ (v263 : BitVec 32) (k0_hw33 : k0_chk33 v263), ∀ a, (k0_off66 v263) a + S7x1x512.size a ≤ S7x50x512.size a := fun v263 k0_hw33 => k0_hw33

def k0_off67 (i : grid0.Coords) : Fin 3 → Nat :=
  let c5_298 : Index := 5#32
  let c3_299 : Index := 3#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v268 : Index := Scalar.indexCast v1
  ![5, 3, v268.toNat]
def k0_off68 (v269 : BitVec 32) : Fin 3 → Nat :=
  let c0_304 : Index := 0#32
  let v272 : Index := Scalar.indexCast v269
  let c0_305 : Index := 0#32
  ![0, v272.toNat, 0]

def k0_chk34 (v269 : BitVec 32) : Prop :=
  (∀ a, (k0_off68 v269) a + S7x1x512.size a ≤ S7x50x512.size a)
theorem k0_off68_inb : ∀ (v269 : BitVec 32) (k0_hw34 : k0_chk34 v269), ∀ a, (k0_off68 v269) a + S7x1x512.size a ≤ S7x50x512.size a := fun v269 k0_hw34 => k0_hw34

def k0_off69 (i : grid0.Coords) : Fin 3 → Nat :=
  let c5_306 : Index := 5#32
  let c4_307 : Index := 4#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v275 : Index := Scalar.indexCast v1
  ![5, 4, v275.toNat]
def k0_off70 (v276 : BitVec 32) : Fin 3 → Nat :=
  let c0_312 : Index := 0#32
  let v279 : Index := Scalar.indexCast v276
  let c0_313 : Index := 0#32
  ![0, v279.toNat, 0]

def k0_chk35 (v276 : BitVec 32) : Prop :=
  (∀ a, (k0_off70 v276) a + S7x1x512.size a ≤ S7x50x512.size a)
theorem k0_off70_inb : ∀ (v276 : BitVec 32) (k0_hw35 : k0_chk35 v276), ∀ a, (k0_off70 v276) a + S7x1x512.size a ≤ S7x50x512.size a := fun v276 k0_hw35 => k0_hw35

def k0_off71 (i : grid0.Coords) : Fin 3 → Nat :=
  let c5_314 : Index := 5#32
  let c5_315 : Index := 5#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v282 : Index := Scalar.indexCast v1
  ![5, 5, v282.toNat]
def k0_off72 (v283 : BitVec 32) : Fin 3 → Nat :=
  let c0_320 : Index := 0#32
  let v286 : Index := Scalar.indexCast v283
  let c0_321 : Index := 0#32
  ![0, v286.toNat, 0]

def k0_chk36 (v283 : BitVec 32) : Prop :=
  (∀ a, (k0_off72 v283) a + S7x1x512.size a ≤ S7x50x512.size a)
theorem k0_off72_inb : ∀ (v283 : BitVec 32) (k0_hw36 : k0_chk36 v283), ∀ a, (k0_off72 v283) a + S7x1x512.size a ≤ S7x50x512.size a := fun v283 k0_hw36 => k0_hw36

def k0_off73 (i : grid0.Coords) : Fin 3 → Nat :=
  let c5_322 : Index := 5#32
  let c6_323 : Index := 6#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v289 : Index := Scalar.indexCast v1
  ![5, 6, v289.toNat]
def k0_off74 (v290 : BitVec 32) : Fin 3 → Nat :=
  let c0_328 : Index := 0#32
  let v293 : Index := Scalar.indexCast v290
  let c0_329 : Index := 0#32
  ![0, v293.toNat, 0]

def k0_chk37 (v290 : BitVec 32) : Prop :=
  (∀ a, (k0_off74 v290) a + S7x1x512.size a ≤ S7x50x512.size a)
theorem k0_off74_inb : ∀ (v290 : BitVec 32) (k0_hw37 : k0_chk37 v290), ∀ a, (k0_off74 v290) a + S7x1x512.size a ≤ S7x50x512.size a := fun v290 k0_hw37 => k0_hw37

def k0_off75 (i : grid0.Coords) : Fin 3 → Nat :=
  let c6_334 : Index := 6#32
  let c2_335 : Index := 2#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v300 : Index := Scalar.indexCast v1
  ![6, 2, v300.toNat]
def k0_off76 (v301 : BitVec 32) : Fin 3 → Nat :=
  let c0_340 : Index := 0#32
  let v304 : Index := Scalar.indexCast v301
  let c0_341 : Index := 0#32
  ![0, v304.toNat, 0]

def k0_chk38 (v301 : BitVec 32) : Prop :=
  (∀ a, (k0_off76 v301) a + S7x1x512.size a ≤ S7x50x512.size a)
theorem k0_off76_inb : ∀ (v301 : BitVec 32) (k0_hw38 : k0_chk38 v301), ∀ a, (k0_off76 v301) a + S7x1x512.size a ≤ S7x50x512.size a := fun v301 k0_hw38 => k0_hw38

def k0_off77 (i : grid0.Coords) : Fin 3 → Nat :=
  let c6_342 : Index := 6#32
  let c3_343 : Index := 3#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v306 : Index := Scalar.indexCast v1
  ![6, 3, v306.toNat]
def k0_off78 (v307 : BitVec 32) : Fin 3 → Nat :=
  let c0_348 : Index := 0#32
  let v310 : Index := Scalar.indexCast v307
  let c0_349 : Index := 0#32
  ![0, v310.toNat, 0]

def k0_chk39 (v307 : BitVec 32) : Prop :=
  (∀ a, (k0_off78 v307) a + S7x1x512.size a ≤ S7x50x512.size a)
theorem k0_off78_inb : ∀ (v307 : BitVec 32) (k0_hw39 : k0_chk39 v307), ∀ a, (k0_off78 v307) a + S7x1x512.size a ≤ S7x50x512.size a := fun v307 k0_hw39 => k0_hw39

def k0_off79 (i : grid0.Coords) : Fin 3 → Nat :=
  let c6_350 : Index := 6#32
  let c4_351 : Index := 4#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v313 : Index := Scalar.indexCast v1
  ![6, 4, v313.toNat]
def k0_off80 (v314 : BitVec 32) : Fin 3 → Nat :=
  let c0_356 : Index := 0#32
  let v317 : Index := Scalar.indexCast v314
  let c0_357 : Index := 0#32
  ![0, v317.toNat, 0]

def k0_chk40 (v314 : BitVec 32) : Prop :=
  (∀ a, (k0_off80 v314) a + S7x1x512.size a ≤ S7x50x512.size a)
theorem k0_off80_inb : ∀ (v314 : BitVec 32) (k0_hw40 : k0_chk40 v314), ∀ a, (k0_off80 v314) a + S7x1x512.size a ≤ S7x50x512.size a := fun v314 k0_hw40 => k0_hw40

def k0_off81 (i : grid0.Coords) : Fin 3 → Nat :=
  let c6_358 : Index := 6#32
  let c5_359 : Index := 5#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v320 : Index := Scalar.indexCast v1
  ![6, 5, v320.toNat]
def k0_off82 (v321 : BitVec 32) : Fin 3 → Nat :=
  let c0_364 : Index := 0#32
  let v324 : Index := Scalar.indexCast v321
  let c0_365 : Index := 0#32
  ![0, v324.toNat, 0]

def k0_chk41 (v321 : BitVec 32) : Prop :=
  (∀ a, (k0_off82 v321) a + S7x1x512.size a ≤ S7x50x512.size a)
theorem k0_off82_inb : ∀ (v321 : BitVec 32) (k0_hw41 : k0_chk41 v321), ∀ a, (k0_off82 v321) a + S7x1x512.size a ≤ S7x50x512.size a := fun v321 k0_hw41 => k0_hw41

def k0_off83 (i : grid0.Coords) : Fin 3 → Nat :=
  let c6_366 : Index := 6#32
  let c6_367 : Index := 6#32
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v327 : Index := Scalar.indexCast v1
  ![6, 6, v327.toNat]
def k0_off84 (v328 : BitVec 32) : Fin 3 → Nat :=
  let c0_372 : Index := 0#32
  let v331 : Index := Scalar.indexCast v328
  let c0_373 : Index := 0#32
  ![0, v331.toNat, 0]

def k0_chk42 (v328 : BitVec 32) : Prop :=
  (∀ a, (k0_off84 v328) a + S7x1x512.size a ≤ S7x50x512.size a)
theorem k0_off84_inb : ∀ (v328 : BitVec 32) (k0_hw42 : k0_chk42 v328), ∀ a, (k0_off84 v328) a + S7x1x512.size a ≤ S7x50x512.size a := fun v328 k0_hw42 => k0_hw42

def k0_off85 (i : grid0.Coords) : Fin 3 → Nat :=
  let c0_379 : Index := 0#32
  let c0_380 : Index := 0#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v340 : Index := Scalar.indexCast v339
  ![0, 0, v340.toNat]
def k0_off86 (v341 : BitVec 32) : Fin 3 → Nat :=
  let v342 : Index := Scalar.indexCast v341
  let c0_381 : Index := 0#32
  let c0_382 : Index := 0#32
  ![v342.toNat, 0, 0]

def k0_chk43 (v341 : BitVec 32) : Prop :=
  (∀ a, (k0_off86 v341) a + S1x50x512.size a ≤ S250x50x512.size a)
theorem k0_off86_inb : ∀ (v341 : BitVec 32) (k0_hw43 : k0_chk43 v341), ∀ a, (k0_off86 v341) a + S1x50x512.size a ≤ S250x50x512.size a := fun v341 k0_hw43 => k0_hw43

def k0_off87 (i : grid0.Coords) : Fin 3 → Nat :=
  let c1_390 : Index := 1#32
  let c0_391 : Index := 0#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v350 : Index := Scalar.indexCast v339
  ![1, 0, v350.toNat]
def k0_off88 (v351 : BitVec 32) : Fin 3 → Nat :=
  let v352 : Index := Scalar.indexCast v351
  let c0_392 : Index := 0#32
  let c0_393 : Index := 0#32
  ![v352.toNat, 0, 0]

def k0_chk44 (v351 : BitVec 32) : Prop :=
  (∀ a, (k0_off88 v351) a + S1x50x512.size a ≤ S250x50x512.size a)
theorem k0_off88_inb : ∀ (v351 : BitVec 32) (k0_hw44 : k0_chk44 v351), ∀ a, (k0_off88 v351) a + S1x50x512.size a ≤ S250x50x512.size a := fun v351 k0_hw44 => k0_hw44

def k0_off89 (i : grid0.Coords) : Fin 3 → Nat :=
  let c2_401 : Index := 2#32
  let c0_402 : Index := 0#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v360 : Index := Scalar.indexCast v339
  ![2, 0, v360.toNat]
def k0_off90 (v361 : BitVec 32) : Fin 3 → Nat :=
  let v362 : Index := Scalar.indexCast v361
  let c0_403 : Index := 0#32
  let c0_404 : Index := 0#32
  ![v362.toNat, 0, 0]

def k0_chk45 (v361 : BitVec 32) : Prop :=
  (∀ a, (k0_off90 v361) a + S1x50x512.size a ≤ S250x50x512.size a)
theorem k0_off90_inb : ∀ (v361 : BitVec 32) (k0_hw45 : k0_chk45 v361), ∀ a, (k0_off90 v361) a + S1x50x512.size a ≤ S250x50x512.size a := fun v361 k0_hw45 => k0_hw45

def k0_off91 (i : grid0.Coords) : Fin 3 → Nat :=
  let c3_412 : Index := 3#32
  let c0_413 : Index := 0#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v370 : Index := Scalar.indexCast v339
  ![3, 0, v370.toNat]
def k0_off92 (v371 : BitVec 32) : Fin 3 → Nat :=
  let v372 : Index := Scalar.indexCast v371
  let c0_414 : Index := 0#32
  let c0_415 : Index := 0#32
  ![v372.toNat, 0, 0]

def k0_chk46 (v371 : BitVec 32) : Prop :=
  (∀ a, (k0_off92 v371) a + S1x50x512.size a ≤ S250x50x512.size a)
theorem k0_off92_inb : ∀ (v371 : BitVec 32) (k0_hw46 : k0_chk46 v371), ∀ a, (k0_off92 v371) a + S1x50x512.size a ≤ S250x50x512.size a := fun v371 k0_hw46 => k0_hw46

def k0_off93 (i : grid0.Coords) : Fin 3 → Nat :=
  let c4_423 : Index := 4#32
  let c0_424 : Index := 0#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v380 : Index := Scalar.indexCast v339
  ![4, 0, v380.toNat]
def k0_off94 (v381 : BitVec 32) : Fin 3 → Nat :=
  let v382 : Index := Scalar.indexCast v381
  let c0_425 : Index := 0#32
  let c0_426 : Index := 0#32
  ![v382.toNat, 0, 0]

def k0_chk47 (v381 : BitVec 32) : Prop :=
  (∀ a, (k0_off94 v381) a + S1x50x512.size a ≤ S250x50x512.size a)
theorem k0_off94_inb : ∀ (v381 : BitVec 32) (k0_hw47 : k0_chk47 v381), ∀ a, (k0_off94 v381) a + S1x50x512.size a ≤ S250x50x512.size a := fun v381 k0_hw47 => k0_hw47

def k0_off95 (i : grid0.Coords) : Fin 3 → Nat :=
  let c5_434 : Index := 5#32
  let c0_435 : Index := 0#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v390 : Index := Scalar.indexCast v339
  ![5, 0, v390.toNat]
def k0_off96 (v391 : BitVec 32) : Fin 3 → Nat :=
  let v392 : Index := Scalar.indexCast v391
  let c0_436 : Index := 0#32
  let c0_437 : Index := 0#32
  ![v392.toNat, 0, 0]

def k0_chk48 (v391 : BitVec 32) : Prop :=
  (∀ a, (k0_off96 v391) a + S1x50x512.size a ≤ S250x50x512.size a)
theorem k0_off96_inb : ∀ (v391 : BitVec 32) (k0_hw48 : k0_chk48 v391), ∀ a, (k0_off96 v391) a + S1x50x512.size a ≤ S250x50x512.size a := fun v391 k0_hw48 => k0_hw48

def k0_off97 (i : grid0.Coords) : Fin 3 → Nat :=
  let c6_445 : Index := 6#32
  let c0_446 : Index := 0#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v400 : Index := Scalar.indexCast v339
  ![6, 0, v400.toNat]
def k0_off98 (v401 : BitVec 32) : Fin 3 → Nat :=
  let v402 : Index := Scalar.indexCast v401
  let c0_447 : Index := 0#32
  let c0_448 : Index := 0#32
  ![v402.toNat, 0, 0]

def k0_chk49 (v401 : BitVec 32) : Prop :=
  (∀ a, (k0_off98 v401) a + S1x50x512.size a ≤ S250x50x512.size a)
theorem k0_off98_inb : ∀ (v401 : BitVec 32) (k0_hw49 : k0_chk49 v401), ∀ a, (k0_off98 v401) a + S1x50x512.size a ≤ S250x50x512.size a := fun v401 k0_hw49 => k0_hw49

def k0_off99 (i : grid0.Coords) : Fin 3 → Nat :=
  let c0_456 : Index := 0#32
  let c2_457 : Index := 2#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v410 : Index := Scalar.indexCast v339
  ![0, 2, v410.toNat]
def k0_off100 (v411 : BitVec 32) : Fin 3 → Nat :=
  let c0_462 : Index := 0#32
  let v414 : Index := Scalar.indexCast v411
  let c0_463 : Index := 0#32
  ![0, v414.toNat, 0]

def k0_chk50 (v411 : BitVec 32) : Prop :=
  (∀ a, (k0_off100 v411) a + S7x1x512.size a ≤ S7x50x512.size a)
theorem k0_off100_inb : ∀ (v411 : BitVec 32) (k0_hw50 : k0_chk50 v411), ∀ a, (k0_off100 v411) a + S7x1x512.size a ≤ S7x50x512.size a := fun v411 k0_hw50 => k0_hw50

def k0_off101 (i : grid0.Coords) : Fin 3 → Nat :=
  let c0_464 : Index := 0#32
  let c3_465 : Index := 3#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v416 : Index := Scalar.indexCast v339
  ![0, 3, v416.toNat]
def k0_off102 (v417 : BitVec 32) : Fin 3 → Nat :=
  let c0_470 : Index := 0#32
  let v420 : Index := Scalar.indexCast v417
  let c0_471 : Index := 0#32
  ![0, v420.toNat, 0]

def k0_chk51 (v417 : BitVec 32) : Prop :=
  (∀ a, (k0_off102 v417) a + S7x1x512.size a ≤ S7x50x512.size a)
theorem k0_off102_inb : ∀ (v417 : BitVec 32) (k0_hw51 : k0_chk51 v417), ∀ a, (k0_off102 v417) a + S7x1x512.size a ≤ S7x50x512.size a := fun v417 k0_hw51 => k0_hw51

def k0_off103 (i : grid0.Coords) : Fin 3 → Nat :=
  let c0_472 : Index := 0#32
  let c4_473 : Index := 4#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v423 : Index := Scalar.indexCast v339
  ![0, 4, v423.toNat]
def k0_off104 (v424 : BitVec 32) : Fin 3 → Nat :=
  let c0_478 : Index := 0#32
  let v427 : Index := Scalar.indexCast v424
  let c0_479 : Index := 0#32
  ![0, v427.toNat, 0]

def k0_chk52 (v424 : BitVec 32) : Prop :=
  (∀ a, (k0_off104 v424) a + S7x1x512.size a ≤ S7x50x512.size a)
theorem k0_off104_inb : ∀ (v424 : BitVec 32) (k0_hw52 : k0_chk52 v424), ∀ a, (k0_off104 v424) a + S7x1x512.size a ≤ S7x50x512.size a := fun v424 k0_hw52 => k0_hw52

def k0_off105 (i : grid0.Coords) : Fin 3 → Nat :=
  let c0_480 : Index := 0#32
  let c5_481 : Index := 5#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v430 : Index := Scalar.indexCast v339
  ![0, 5, v430.toNat]
def k0_off106 (v431 : BitVec 32) : Fin 3 → Nat :=
  let c0_486 : Index := 0#32
  let v434 : Index := Scalar.indexCast v431
  let c0_487 : Index := 0#32
  ![0, v434.toNat, 0]

def k0_chk53 (v431 : BitVec 32) : Prop :=
  (∀ a, (k0_off106 v431) a + S7x1x512.size a ≤ S7x50x512.size a)
theorem k0_off106_inb : ∀ (v431 : BitVec 32) (k0_hw53 : k0_chk53 v431), ∀ a, (k0_off106 v431) a + S7x1x512.size a ≤ S7x50x512.size a := fun v431 k0_hw53 => k0_hw53

def k0_off107 (i : grid0.Coords) : Fin 3 → Nat :=
  let c0_488 : Index := 0#32
  let c6_489 : Index := 6#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v437 : Index := Scalar.indexCast v339
  ![0, 6, v437.toNat]
def k0_off108 (v438 : BitVec 32) : Fin 3 → Nat :=
  let c0_494 : Index := 0#32
  let v441 : Index := Scalar.indexCast v438
  let c0_495 : Index := 0#32
  ![0, v441.toNat, 0]

def k0_chk54 (v438 : BitVec 32) : Prop :=
  (∀ a, (k0_off108 v438) a + S7x1x512.size a ≤ S7x50x512.size a)
theorem k0_off108_inb : ∀ (v438 : BitVec 32) (k0_hw54 : k0_chk54 v438), ∀ a, (k0_off108 v438) a + S7x1x512.size a ≤ S7x50x512.size a := fun v438 k0_hw54 => k0_hw54

def k0_off109 (i : grid0.Coords) : Fin 3 → Nat :=
  let c1_500 : Index := 1#32
  let c2_501 : Index := 2#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v448 : Index := Scalar.indexCast v339
  ![1, 2, v448.toNat]
def k0_off110 (v449 : BitVec 32) : Fin 3 → Nat :=
  let c0_506 : Index := 0#32
  let v452 : Index := Scalar.indexCast v449
  let c0_507 : Index := 0#32
  ![0, v452.toNat, 0]

def k0_chk55 (v449 : BitVec 32) : Prop :=
  (∀ a, (k0_off110 v449) a + S7x1x512.size a ≤ S7x50x512.size a)
theorem k0_off110_inb : ∀ (v449 : BitVec 32) (k0_hw55 : k0_chk55 v449), ∀ a, (k0_off110 v449) a + S7x1x512.size a ≤ S7x50x512.size a := fun v449 k0_hw55 => k0_hw55

def k0_off111 (i : grid0.Coords) : Fin 3 → Nat :=
  let c1_508 : Index := 1#32
  let c3_509 : Index := 3#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v454 : Index := Scalar.indexCast v339
  ![1, 3, v454.toNat]
def k0_off112 (v455 : BitVec 32) : Fin 3 → Nat :=
  let c0_514 : Index := 0#32
  let v458 : Index := Scalar.indexCast v455
  let c0_515 : Index := 0#32
  ![0, v458.toNat, 0]

def k0_chk56 (v455 : BitVec 32) : Prop :=
  (∀ a, (k0_off112 v455) a + S7x1x512.size a ≤ S7x50x512.size a)
theorem k0_off112_inb : ∀ (v455 : BitVec 32) (k0_hw56 : k0_chk56 v455), ∀ a, (k0_off112 v455) a + S7x1x512.size a ≤ S7x50x512.size a := fun v455 k0_hw56 => k0_hw56

def k0_off113 (i : grid0.Coords) : Fin 3 → Nat :=
  let c1_516 : Index := 1#32
  let c4_517 : Index := 4#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v461 : Index := Scalar.indexCast v339
  ![1, 4, v461.toNat]
def k0_off114 (v462 : BitVec 32) : Fin 3 → Nat :=
  let c0_522 : Index := 0#32
  let v465 : Index := Scalar.indexCast v462
  let c0_523 : Index := 0#32
  ![0, v465.toNat, 0]

def k0_chk57 (v462 : BitVec 32) : Prop :=
  (∀ a, (k0_off114 v462) a + S7x1x512.size a ≤ S7x50x512.size a)
theorem k0_off114_inb : ∀ (v462 : BitVec 32) (k0_hw57 : k0_chk57 v462), ∀ a, (k0_off114 v462) a + S7x1x512.size a ≤ S7x50x512.size a := fun v462 k0_hw57 => k0_hw57

def k0_off115 (i : grid0.Coords) : Fin 3 → Nat :=
  let c1_524 : Index := 1#32
  let c5_525 : Index := 5#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v468 : Index := Scalar.indexCast v339
  ![1, 5, v468.toNat]
def k0_off116 (v469 : BitVec 32) : Fin 3 → Nat :=
  let c0_530 : Index := 0#32
  let v472 : Index := Scalar.indexCast v469
  let c0_531 : Index := 0#32
  ![0, v472.toNat, 0]

def k0_chk58 (v469 : BitVec 32) : Prop :=
  (∀ a, (k0_off116 v469) a + S7x1x512.size a ≤ S7x50x512.size a)
theorem k0_off116_inb : ∀ (v469 : BitVec 32) (k0_hw58 : k0_chk58 v469), ∀ a, (k0_off116 v469) a + S7x1x512.size a ≤ S7x50x512.size a := fun v469 k0_hw58 => k0_hw58

def k0_off117 (i : grid0.Coords) : Fin 3 → Nat :=
  let c1_532 : Index := 1#32
  let c6_533 : Index := 6#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v475 : Index := Scalar.indexCast v339
  ![1, 6, v475.toNat]
def k0_off118 (v476 : BitVec 32) : Fin 3 → Nat :=
  let c0_538 : Index := 0#32
  let v479 : Index := Scalar.indexCast v476
  let c0_539 : Index := 0#32
  ![0, v479.toNat, 0]

def k0_chk59 (v476 : BitVec 32) : Prop :=
  (∀ a, (k0_off118 v476) a + S7x1x512.size a ≤ S7x50x512.size a)
theorem k0_off118_inb : ∀ (v476 : BitVec 32) (k0_hw59 : k0_chk59 v476), ∀ a, (k0_off118 v476) a + S7x1x512.size a ≤ S7x50x512.size a := fun v476 k0_hw59 => k0_hw59

def k0_off119 (i : grid0.Coords) : Fin 3 → Nat :=
  let c2_544 : Index := 2#32
  let c2_545 : Index := 2#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v486 : Index := Scalar.indexCast v339
  ![2, 2, v486.toNat]
def k0_off120 (v487 : BitVec 32) : Fin 3 → Nat :=
  let c0_550 : Index := 0#32
  let v490 : Index := Scalar.indexCast v487
  let c0_551 : Index := 0#32
  ![0, v490.toNat, 0]

def k0_chk60 (v487 : BitVec 32) : Prop :=
  (∀ a, (k0_off120 v487) a + S7x1x512.size a ≤ S7x50x512.size a)
theorem k0_off120_inb : ∀ (v487 : BitVec 32) (k0_hw60 : k0_chk60 v487), ∀ a, (k0_off120 v487) a + S7x1x512.size a ≤ S7x50x512.size a := fun v487 k0_hw60 => k0_hw60

def k0_off121 (i : grid0.Coords) : Fin 3 → Nat :=
  let c2_552 : Index := 2#32
  let c3_553 : Index := 3#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v492 : Index := Scalar.indexCast v339
  ![2, 3, v492.toNat]
def k0_off122 (v493 : BitVec 32) : Fin 3 → Nat :=
  let c0_558 : Index := 0#32
  let v496 : Index := Scalar.indexCast v493
  let c0_559 : Index := 0#32
  ![0, v496.toNat, 0]

def k0_chk61 (v493 : BitVec 32) : Prop :=
  (∀ a, (k0_off122 v493) a + S7x1x512.size a ≤ S7x50x512.size a)
theorem k0_off122_inb : ∀ (v493 : BitVec 32) (k0_hw61 : k0_chk61 v493), ∀ a, (k0_off122 v493) a + S7x1x512.size a ≤ S7x50x512.size a := fun v493 k0_hw61 => k0_hw61

def k0_off123 (i : grid0.Coords) : Fin 3 → Nat :=
  let c2_560 : Index := 2#32
  let c4_561 : Index := 4#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v499 : Index := Scalar.indexCast v339
  ![2, 4, v499.toNat]
def k0_off124 (v500 : BitVec 32) : Fin 3 → Nat :=
  let c0_566 : Index := 0#32
  let v503 : Index := Scalar.indexCast v500
  let c0_567 : Index := 0#32
  ![0, v503.toNat, 0]

def k0_chk62 (v500 : BitVec 32) : Prop :=
  (∀ a, (k0_off124 v500) a + S7x1x512.size a ≤ S7x50x512.size a)
theorem k0_off124_inb : ∀ (v500 : BitVec 32) (k0_hw62 : k0_chk62 v500), ∀ a, (k0_off124 v500) a + S7x1x512.size a ≤ S7x50x512.size a := fun v500 k0_hw62 => k0_hw62

def k0_off125 (i : grid0.Coords) : Fin 3 → Nat :=
  let c2_568 : Index := 2#32
  let c5_569 : Index := 5#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v506 : Index := Scalar.indexCast v339
  ![2, 5, v506.toNat]
def k0_off126 (v507 : BitVec 32) : Fin 3 → Nat :=
  let c0_574 : Index := 0#32
  let v510 : Index := Scalar.indexCast v507
  let c0_575 : Index := 0#32
  ![0, v510.toNat, 0]

def k0_chk63 (v507 : BitVec 32) : Prop :=
  (∀ a, (k0_off126 v507) a + S7x1x512.size a ≤ S7x50x512.size a)
theorem k0_off126_inb : ∀ (v507 : BitVec 32) (k0_hw63 : k0_chk63 v507), ∀ a, (k0_off126 v507) a + S7x1x512.size a ≤ S7x50x512.size a := fun v507 k0_hw63 => k0_hw63

def k0_off127 (i : grid0.Coords) : Fin 3 → Nat :=
  let c2_576 : Index := 2#32
  let c6_577 : Index := 6#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v513 : Index := Scalar.indexCast v339
  ![2, 6, v513.toNat]
def k0_off128 (v514 : BitVec 32) : Fin 3 → Nat :=
  let c0_582 : Index := 0#32
  let v517 : Index := Scalar.indexCast v514
  let c0_583 : Index := 0#32
  ![0, v517.toNat, 0]

def k0_chk64 (v514 : BitVec 32) : Prop :=
  (∀ a, (k0_off128 v514) a + S7x1x512.size a ≤ S7x50x512.size a)
theorem k0_off128_inb : ∀ (v514 : BitVec 32) (k0_hw64 : k0_chk64 v514), ∀ a, (k0_off128 v514) a + S7x1x512.size a ≤ S7x50x512.size a := fun v514 k0_hw64 => k0_hw64

def k0_off129 (i : grid0.Coords) : Fin 3 → Nat :=
  let c3_588 : Index := 3#32
  let c2_589 : Index := 2#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v524 : Index := Scalar.indexCast v339
  ![3, 2, v524.toNat]
def k0_off130 (v525 : BitVec 32) : Fin 3 → Nat :=
  let c0_594 : Index := 0#32
  let v528 : Index := Scalar.indexCast v525
  let c0_595 : Index := 0#32
  ![0, v528.toNat, 0]

def k0_chk65 (v525 : BitVec 32) : Prop :=
  (∀ a, (k0_off130 v525) a + S7x1x512.size a ≤ S7x50x512.size a)
theorem k0_off130_inb : ∀ (v525 : BitVec 32) (k0_hw65 : k0_chk65 v525), ∀ a, (k0_off130 v525) a + S7x1x512.size a ≤ S7x50x512.size a := fun v525 k0_hw65 => k0_hw65

def k0_off131 (i : grid0.Coords) : Fin 3 → Nat :=
  let c3_596 : Index := 3#32
  let c3_597 : Index := 3#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v530 : Index := Scalar.indexCast v339
  ![3, 3, v530.toNat]
def k0_off132 (v531 : BitVec 32) : Fin 3 → Nat :=
  let c0_602 : Index := 0#32
  let v534 : Index := Scalar.indexCast v531
  let c0_603 : Index := 0#32
  ![0, v534.toNat, 0]

def k0_chk66 (v531 : BitVec 32) : Prop :=
  (∀ a, (k0_off132 v531) a + S7x1x512.size a ≤ S7x50x512.size a)
theorem k0_off132_inb : ∀ (v531 : BitVec 32) (k0_hw66 : k0_chk66 v531), ∀ a, (k0_off132 v531) a + S7x1x512.size a ≤ S7x50x512.size a := fun v531 k0_hw66 => k0_hw66

def k0_off133 (i : grid0.Coords) : Fin 3 → Nat :=
  let c3_604 : Index := 3#32
  let c4_605 : Index := 4#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v537 : Index := Scalar.indexCast v339
  ![3, 4, v537.toNat]
def k0_off134 (v538 : BitVec 32) : Fin 3 → Nat :=
  let c0_610 : Index := 0#32
  let v541 : Index := Scalar.indexCast v538
  let c0_611 : Index := 0#32
  ![0, v541.toNat, 0]

def k0_chk67 (v538 : BitVec 32) : Prop :=
  (∀ a, (k0_off134 v538) a + S7x1x512.size a ≤ S7x50x512.size a)
theorem k0_off134_inb : ∀ (v538 : BitVec 32) (k0_hw67 : k0_chk67 v538), ∀ a, (k0_off134 v538) a + S7x1x512.size a ≤ S7x50x512.size a := fun v538 k0_hw67 => k0_hw67

def k0_off135 (i : grid0.Coords) : Fin 3 → Nat :=
  let c3_612 : Index := 3#32
  let c5_613 : Index := 5#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v544 : Index := Scalar.indexCast v339
  ![3, 5, v544.toNat]
def k0_off136 (v545 : BitVec 32) : Fin 3 → Nat :=
  let c0_618 : Index := 0#32
  let v548 : Index := Scalar.indexCast v545
  let c0_619 : Index := 0#32
  ![0, v548.toNat, 0]

def k0_chk68 (v545 : BitVec 32) : Prop :=
  (∀ a, (k0_off136 v545) a + S7x1x512.size a ≤ S7x50x512.size a)
theorem k0_off136_inb : ∀ (v545 : BitVec 32) (k0_hw68 : k0_chk68 v545), ∀ a, (k0_off136 v545) a + S7x1x512.size a ≤ S7x50x512.size a := fun v545 k0_hw68 => k0_hw68

def k0_off137 (i : grid0.Coords) : Fin 3 → Nat :=
  let c3_620 : Index := 3#32
  let c6_621 : Index := 6#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v551 : Index := Scalar.indexCast v339
  ![3, 6, v551.toNat]
def k0_off138 (v552 : BitVec 32) : Fin 3 → Nat :=
  let c0_626 : Index := 0#32
  let v555 : Index := Scalar.indexCast v552
  let c0_627 : Index := 0#32
  ![0, v555.toNat, 0]

def k0_chk69 (v552 : BitVec 32) : Prop :=
  (∀ a, (k0_off138 v552) a + S7x1x512.size a ≤ S7x50x512.size a)
theorem k0_off138_inb : ∀ (v552 : BitVec 32) (k0_hw69 : k0_chk69 v552), ∀ a, (k0_off138 v552) a + S7x1x512.size a ≤ S7x50x512.size a := fun v552 k0_hw69 => k0_hw69

def k0_off139 (i : grid0.Coords) : Fin 3 → Nat :=
  let c4_632 : Index := 4#32
  let c2_633 : Index := 2#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v562 : Index := Scalar.indexCast v339
  ![4, 2, v562.toNat]
def k0_off140 (v563 : BitVec 32) : Fin 3 → Nat :=
  let c0_638 : Index := 0#32
  let v566 : Index := Scalar.indexCast v563
  let c0_639 : Index := 0#32
  ![0, v566.toNat, 0]

def k0_chk70 (v563 : BitVec 32) : Prop :=
  (∀ a, (k0_off140 v563) a + S7x1x512.size a ≤ S7x50x512.size a)
theorem k0_off140_inb : ∀ (v563 : BitVec 32) (k0_hw70 : k0_chk70 v563), ∀ a, (k0_off140 v563) a + S7x1x512.size a ≤ S7x50x512.size a := fun v563 k0_hw70 => k0_hw70

def k0_off141 (i : grid0.Coords) : Fin 3 → Nat :=
  let c4_640 : Index := 4#32
  let c3_641 : Index := 3#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v568 : Index := Scalar.indexCast v339
  ![4, 3, v568.toNat]
def k0_off142 (v569 : BitVec 32) : Fin 3 → Nat :=
  let c0_646 : Index := 0#32
  let v572 : Index := Scalar.indexCast v569
  let c0_647 : Index := 0#32
  ![0, v572.toNat, 0]

def k0_chk71 (v569 : BitVec 32) : Prop :=
  (∀ a, (k0_off142 v569) a + S7x1x512.size a ≤ S7x50x512.size a)
theorem k0_off142_inb : ∀ (v569 : BitVec 32) (k0_hw71 : k0_chk71 v569), ∀ a, (k0_off142 v569) a + S7x1x512.size a ≤ S7x50x512.size a := fun v569 k0_hw71 => k0_hw71

def k0_off143 (i : grid0.Coords) : Fin 3 → Nat :=
  let c4_648 : Index := 4#32
  let c4_649 : Index := 4#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v575 : Index := Scalar.indexCast v339
  ![4, 4, v575.toNat]
def k0_off144 (v576 : BitVec 32) : Fin 3 → Nat :=
  let c0_654 : Index := 0#32
  let v579 : Index := Scalar.indexCast v576
  let c0_655 : Index := 0#32
  ![0, v579.toNat, 0]

def k0_chk72 (v576 : BitVec 32) : Prop :=
  (∀ a, (k0_off144 v576) a + S7x1x512.size a ≤ S7x50x512.size a)
theorem k0_off144_inb : ∀ (v576 : BitVec 32) (k0_hw72 : k0_chk72 v576), ∀ a, (k0_off144 v576) a + S7x1x512.size a ≤ S7x50x512.size a := fun v576 k0_hw72 => k0_hw72

def k0_off145 (i : grid0.Coords) : Fin 3 → Nat :=
  let c4_656 : Index := 4#32
  let c5_657 : Index := 5#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v582 : Index := Scalar.indexCast v339
  ![4, 5, v582.toNat]
def k0_off146 (v583 : BitVec 32) : Fin 3 → Nat :=
  let c0_662 : Index := 0#32
  let v586 : Index := Scalar.indexCast v583
  let c0_663 : Index := 0#32
  ![0, v586.toNat, 0]

def k0_chk73 (v583 : BitVec 32) : Prop :=
  (∀ a, (k0_off146 v583) a + S7x1x512.size a ≤ S7x50x512.size a)
theorem k0_off146_inb : ∀ (v583 : BitVec 32) (k0_hw73 : k0_chk73 v583), ∀ a, (k0_off146 v583) a + S7x1x512.size a ≤ S7x50x512.size a := fun v583 k0_hw73 => k0_hw73

def k0_off147 (i : grid0.Coords) : Fin 3 → Nat :=
  let c4_664 : Index := 4#32
  let c6_665 : Index := 6#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v589 : Index := Scalar.indexCast v339
  ![4, 6, v589.toNat]
def k0_off148 (v590 : BitVec 32) : Fin 3 → Nat :=
  let c0_670 : Index := 0#32
  let v593 : Index := Scalar.indexCast v590
  let c0_671 : Index := 0#32
  ![0, v593.toNat, 0]

def k0_chk74 (v590 : BitVec 32) : Prop :=
  (∀ a, (k0_off148 v590) a + S7x1x512.size a ≤ S7x50x512.size a)
theorem k0_off148_inb : ∀ (v590 : BitVec 32) (k0_hw74 : k0_chk74 v590), ∀ a, (k0_off148 v590) a + S7x1x512.size a ≤ S7x50x512.size a := fun v590 k0_hw74 => k0_hw74

def k0_off149 (i : grid0.Coords) : Fin 3 → Nat :=
  let c5_676 : Index := 5#32
  let c2_677 : Index := 2#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v600 : Index := Scalar.indexCast v339
  ![5, 2, v600.toNat]
def k0_off150 (v601 : BitVec 32) : Fin 3 → Nat :=
  let c0_682 : Index := 0#32
  let v604 : Index := Scalar.indexCast v601
  let c0_683 : Index := 0#32
  ![0, v604.toNat, 0]

def k0_chk75 (v601 : BitVec 32) : Prop :=
  (∀ a, (k0_off150 v601) a + S7x1x512.size a ≤ S7x50x512.size a)
theorem k0_off150_inb : ∀ (v601 : BitVec 32) (k0_hw75 : k0_chk75 v601), ∀ a, (k0_off150 v601) a + S7x1x512.size a ≤ S7x50x512.size a := fun v601 k0_hw75 => k0_hw75

def k0_off151 (i : grid0.Coords) : Fin 3 → Nat :=
  let c5_684 : Index := 5#32
  let c3_685 : Index := 3#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v606 : Index := Scalar.indexCast v339
  ![5, 3, v606.toNat]
def k0_off152 (v607 : BitVec 32) : Fin 3 → Nat :=
  let c0_690 : Index := 0#32
  let v610 : Index := Scalar.indexCast v607
  let c0_691 : Index := 0#32
  ![0, v610.toNat, 0]

def k0_chk76 (v607 : BitVec 32) : Prop :=
  (∀ a, (k0_off152 v607) a + S7x1x512.size a ≤ S7x50x512.size a)
theorem k0_off152_inb : ∀ (v607 : BitVec 32) (k0_hw76 : k0_chk76 v607), ∀ a, (k0_off152 v607) a + S7x1x512.size a ≤ S7x50x512.size a := fun v607 k0_hw76 => k0_hw76

def k0_off153 (i : grid0.Coords) : Fin 3 → Nat :=
  let c5_692 : Index := 5#32
  let c4_693 : Index := 4#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v613 : Index := Scalar.indexCast v339
  ![5, 4, v613.toNat]
def k0_off154 (v614 : BitVec 32) : Fin 3 → Nat :=
  let c0_698 : Index := 0#32
  let v617 : Index := Scalar.indexCast v614
  let c0_699 : Index := 0#32
  ![0, v617.toNat, 0]

def k0_chk77 (v614 : BitVec 32) : Prop :=
  (∀ a, (k0_off154 v614) a + S7x1x512.size a ≤ S7x50x512.size a)
theorem k0_off154_inb : ∀ (v614 : BitVec 32) (k0_hw77 : k0_chk77 v614), ∀ a, (k0_off154 v614) a + S7x1x512.size a ≤ S7x50x512.size a := fun v614 k0_hw77 => k0_hw77

def k0_off155 (i : grid0.Coords) : Fin 3 → Nat :=
  let c5_700 : Index := 5#32
  let c5_701 : Index := 5#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v620 : Index := Scalar.indexCast v339
  ![5, 5, v620.toNat]
def k0_off156 (v621 : BitVec 32) : Fin 3 → Nat :=
  let c0_706 : Index := 0#32
  let v624 : Index := Scalar.indexCast v621
  let c0_707 : Index := 0#32
  ![0, v624.toNat, 0]

def k0_chk78 (v621 : BitVec 32) : Prop :=
  (∀ a, (k0_off156 v621) a + S7x1x512.size a ≤ S7x50x512.size a)
theorem k0_off156_inb : ∀ (v621 : BitVec 32) (k0_hw78 : k0_chk78 v621), ∀ a, (k0_off156 v621) a + S7x1x512.size a ≤ S7x50x512.size a := fun v621 k0_hw78 => k0_hw78

def k0_off157 (i : grid0.Coords) : Fin 3 → Nat :=
  let c5_708 : Index := 5#32
  let c6_709 : Index := 6#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v627 : Index := Scalar.indexCast v339
  ![5, 6, v627.toNat]
def k0_off158 (v628 : BitVec 32) : Fin 3 → Nat :=
  let c0_714 : Index := 0#32
  let v631 : Index := Scalar.indexCast v628
  let c0_715 : Index := 0#32
  ![0, v631.toNat, 0]

def k0_chk79 (v628 : BitVec 32) : Prop :=
  (∀ a, (k0_off158 v628) a + S7x1x512.size a ≤ S7x50x512.size a)
theorem k0_off158_inb : ∀ (v628 : BitVec 32) (k0_hw79 : k0_chk79 v628), ∀ a, (k0_off158 v628) a + S7x1x512.size a ≤ S7x50x512.size a := fun v628 k0_hw79 => k0_hw79

def k0_off159 (i : grid0.Coords) : Fin 3 → Nat :=
  let c6_720 : Index := 6#32
  let c2_721 : Index := 2#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v638 : Index := Scalar.indexCast v339
  ![6, 2, v638.toNat]
def k0_off160 (v639 : BitVec 32) : Fin 3 → Nat :=
  let c0_726 : Index := 0#32
  let v642 : Index := Scalar.indexCast v639
  let c0_727 : Index := 0#32
  ![0, v642.toNat, 0]

def k0_chk80 (v639 : BitVec 32) : Prop :=
  (∀ a, (k0_off160 v639) a + S7x1x512.size a ≤ S7x50x512.size a)
theorem k0_off160_inb : ∀ (v639 : BitVec 32) (k0_hw80 : k0_chk80 v639), ∀ a, (k0_off160 v639) a + S7x1x512.size a ≤ S7x50x512.size a := fun v639 k0_hw80 => k0_hw80

def k0_off161 (i : grid0.Coords) : Fin 3 → Nat :=
  let c6_728 : Index := 6#32
  let c3_729 : Index := 3#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v644 : Index := Scalar.indexCast v339
  ![6, 3, v644.toNat]
def k0_off162 (v645 : BitVec 32) : Fin 3 → Nat :=
  let c0_734 : Index := 0#32
  let v648 : Index := Scalar.indexCast v645
  let c0_735 : Index := 0#32
  ![0, v648.toNat, 0]

def k0_chk81 (v645 : BitVec 32) : Prop :=
  (∀ a, (k0_off162 v645) a + S7x1x512.size a ≤ S7x50x512.size a)
theorem k0_off162_inb : ∀ (v645 : BitVec 32) (k0_hw81 : k0_chk81 v645), ∀ a, (k0_off162 v645) a + S7x1x512.size a ≤ S7x50x512.size a := fun v645 k0_hw81 => k0_hw81

def k0_off163 (i : grid0.Coords) : Fin 3 → Nat :=
  let c6_736 : Index := 6#32
  let c4_737 : Index := 4#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v651 : Index := Scalar.indexCast v339
  ![6, 4, v651.toNat]
def k0_off164 (v652 : BitVec 32) : Fin 3 → Nat :=
  let c0_742 : Index := 0#32
  let v655 : Index := Scalar.indexCast v652
  let c0_743 : Index := 0#32
  ![0, v655.toNat, 0]

def k0_chk82 (v652 : BitVec 32) : Prop :=
  (∀ a, (k0_off164 v652) a + S7x1x512.size a ≤ S7x50x512.size a)
theorem k0_off164_inb : ∀ (v652 : BitVec 32) (k0_hw82 : k0_chk82 v652), ∀ a, (k0_off164 v652) a + S7x1x512.size a ≤ S7x50x512.size a := fun v652 k0_hw82 => k0_hw82

def k0_off165 (i : grid0.Coords) : Fin 3 → Nat :=
  let c6_744 : Index := 6#32
  let c5_745 : Index := 5#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v658 : Index := Scalar.indexCast v339
  ![6, 5, v658.toNat]
def k0_off166 (v659 : BitVec 32) : Fin 3 → Nat :=
  let c0_750 : Index := 0#32
  let v662 : Index := Scalar.indexCast v659
  let c0_751 : Index := 0#32
  ![0, v662.toNat, 0]

def k0_chk83 (v659 : BitVec 32) : Prop :=
  (∀ a, (k0_off166 v659) a + S7x1x512.size a ≤ S7x50x512.size a)
theorem k0_off166_inb : ∀ (v659 : BitVec 32) (k0_hw83 : k0_chk83 v659), ∀ a, (k0_off166 v659) a + S7x1x512.size a ≤ S7x50x512.size a := fun v659 k0_hw83 => k0_hw83

def k0_off167 (i : grid0.Coords) : Fin 3 → Nat :=
  let c6_752 : Index := 6#32
  let c6_753 : Index := 6#32
  let arg0 : BitVec 32 := BitVec.ofNat 32 (i 0).val
  let c32_i32_378 : BitVec 32 := 32#32
  let v338 : BitVec 32 := Scalar.muli arg0 c32_i32_378
  let c1_i32 : BitVec 32 := 1#32
  let v339 : BitVec 32 := Scalar.addi v338 c1_i32
  let v665 : Index := Scalar.indexCast v339
  ![6, 6, v665.toNat]
def k0_off168 (v666 : BitVec 32) : Fin 3 → Nat :=
  let c0_758 : Index := 0#32
  let v669 : Index := Scalar.indexCast v666
  let c0_759 : Index := 0#32
  ![0, v669.toNat, 0]

def k0_chk84 (v666 : BitVec 32) : Prop :=
  (∀ a, (k0_off168 v666) a + S7x1x512.size a ≤ S7x50x512.size a)
theorem k0_off168_inb : ∀ (v666 : BitVec 32) (k0_hw84 : k0_chk84 v666), ∀ a, (k0_off168 v666) a + S7x1x512.size a ≤ S7x50x512.size a := fun v666 k0_hw84 => k0_hw84

def k0_off169 (i : grid0.Coords) : Fin 3 → Nat :=
  let c0_765 : Index := 0#32
  let c0_766 : Index := 0#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v678 : Index := Scalar.indexCast v677
  ![0, 0, v678.toNat]
def k0_off170 (v679 : BitVec 32) : Fin 3 → Nat :=
  let v680 : Index := Scalar.indexCast v679
  let c0_767 : Index := 0#32
  let c0_768 : Index := 0#32
  ![v680.toNat, 0, 0]

def k0_chk85 (v679 : BitVec 32) : Prop :=
  (∀ a, (k0_off170 v679) a + S1x50x512.size a ≤ S250x50x512.size a)
theorem k0_off170_inb : ∀ (v679 : BitVec 32) (k0_hw85 : k0_chk85 v679), ∀ a, (k0_off170 v679) a + S1x50x512.size a ≤ S250x50x512.size a := fun v679 k0_hw85 => k0_hw85

def k0_off171 (i : grid0.Coords) : Fin 3 → Nat :=
  let c1_776 : Index := 1#32
  let c0_777 : Index := 0#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v688 : Index := Scalar.indexCast v677
  ![1, 0, v688.toNat]
def k0_off172 (v689 : BitVec 32) : Fin 3 → Nat :=
  let v690 : Index := Scalar.indexCast v689
  let c0_778 : Index := 0#32
  let c0_779 : Index := 0#32
  ![v690.toNat, 0, 0]

def k0_chk86 (v689 : BitVec 32) : Prop :=
  (∀ a, (k0_off172 v689) a + S1x50x512.size a ≤ S250x50x512.size a)
theorem k0_off172_inb : ∀ (v689 : BitVec 32) (k0_hw86 : k0_chk86 v689), ∀ a, (k0_off172 v689) a + S1x50x512.size a ≤ S250x50x512.size a := fun v689 k0_hw86 => k0_hw86

def k0_off173 (i : grid0.Coords) : Fin 3 → Nat :=
  let c2_787 : Index := 2#32
  let c0_788 : Index := 0#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v698 : Index := Scalar.indexCast v677
  ![2, 0, v698.toNat]
def k0_off174 (v699 : BitVec 32) : Fin 3 → Nat :=
  let v700 : Index := Scalar.indexCast v699
  let c0_789 : Index := 0#32
  let c0_790 : Index := 0#32
  ![v700.toNat, 0, 0]

def k0_chk87 (v699 : BitVec 32) : Prop :=
  (∀ a, (k0_off174 v699) a + S1x50x512.size a ≤ S250x50x512.size a)
theorem k0_off174_inb : ∀ (v699 : BitVec 32) (k0_hw87 : k0_chk87 v699), ∀ a, (k0_off174 v699) a + S1x50x512.size a ≤ S250x50x512.size a := fun v699 k0_hw87 => k0_hw87

def k0_off175 (i : grid0.Coords) : Fin 3 → Nat :=
  let c3_798 : Index := 3#32
  let c0_799 : Index := 0#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v708 : Index := Scalar.indexCast v677
  ![3, 0, v708.toNat]
def k0_off176 (v709 : BitVec 32) : Fin 3 → Nat :=
  let v710 : Index := Scalar.indexCast v709
  let c0_800 : Index := 0#32
  let c0_801 : Index := 0#32
  ![v710.toNat, 0, 0]

def k0_chk88 (v709 : BitVec 32) : Prop :=
  (∀ a, (k0_off176 v709) a + S1x50x512.size a ≤ S250x50x512.size a)
theorem k0_off176_inb : ∀ (v709 : BitVec 32) (k0_hw88 : k0_chk88 v709), ∀ a, (k0_off176 v709) a + S1x50x512.size a ≤ S250x50x512.size a := fun v709 k0_hw88 => k0_hw88

def k0_off177 (i : grid0.Coords) : Fin 3 → Nat :=
  let c4_809 : Index := 4#32
  let c0_810 : Index := 0#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v718 : Index := Scalar.indexCast v677
  ![4, 0, v718.toNat]
def k0_off178 (v719 : BitVec 32) : Fin 3 → Nat :=
  let v720 : Index := Scalar.indexCast v719
  let c0_811 : Index := 0#32
  let c0_812 : Index := 0#32
  ![v720.toNat, 0, 0]

def k0_chk89 (v719 : BitVec 32) : Prop :=
  (∀ a, (k0_off178 v719) a + S1x50x512.size a ≤ S250x50x512.size a)
theorem k0_off178_inb : ∀ (v719 : BitVec 32) (k0_hw89 : k0_chk89 v719), ∀ a, (k0_off178 v719) a + S1x50x512.size a ≤ S250x50x512.size a := fun v719 k0_hw89 => k0_hw89

def k0_off179 (i : grid0.Coords) : Fin 3 → Nat :=
  let c5_820 : Index := 5#32
  let c0_821 : Index := 0#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v728 : Index := Scalar.indexCast v677
  ![5, 0, v728.toNat]
def k0_off180 (v729 : BitVec 32) : Fin 3 → Nat :=
  let v730 : Index := Scalar.indexCast v729
  let c0_822 : Index := 0#32
  let c0_823 : Index := 0#32
  ![v730.toNat, 0, 0]

def k0_chk90 (v729 : BitVec 32) : Prop :=
  (∀ a, (k0_off180 v729) a + S1x50x512.size a ≤ S250x50x512.size a)
theorem k0_off180_inb : ∀ (v729 : BitVec 32) (k0_hw90 : k0_chk90 v729), ∀ a, (k0_off180 v729) a + S1x50x512.size a ≤ S250x50x512.size a := fun v729 k0_hw90 => k0_hw90

def k0_off181 (i : grid0.Coords) : Fin 3 → Nat :=
  let c6_831 : Index := 6#32
  let c0_832 : Index := 0#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v738 : Index := Scalar.indexCast v677
  ![6, 0, v738.toNat]
def k0_off182 (v739 : BitVec 32) : Fin 3 → Nat :=
  let v740 : Index := Scalar.indexCast v739
  let c0_833 : Index := 0#32
  let c0_834 : Index := 0#32
  ![v740.toNat, 0, 0]

def k0_chk91 (v739 : BitVec 32) : Prop :=
  (∀ a, (k0_off182 v739) a + S1x50x512.size a ≤ S250x50x512.size a)
theorem k0_off182_inb : ∀ (v739 : BitVec 32) (k0_hw91 : k0_chk91 v739), ∀ a, (k0_off182 v739) a + S1x50x512.size a ≤ S250x50x512.size a := fun v739 k0_hw91 => k0_hw91

def k0_off183 (i : grid0.Coords) : Fin 3 → Nat :=
  let c0_842 : Index := 0#32
  let c2_843 : Index := 2#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v748 : Index := Scalar.indexCast v677
  ![0, 2, v748.toNat]
def k0_off184 (v749 : BitVec 32) : Fin 3 → Nat :=
  let c0_848 : Index := 0#32
  let v752 : Index := Scalar.indexCast v749
  let c0_849 : Index := 0#32
  ![0, v752.toNat, 0]

def k0_chk92 (v749 : BitVec 32) : Prop :=
  (∀ a, (k0_off184 v749) a + S7x1x512.size a ≤ S7x50x512.size a)
theorem k0_off184_inb : ∀ (v749 : BitVec 32) (k0_hw92 : k0_chk92 v749), ∀ a, (k0_off184 v749) a + S7x1x512.size a ≤ S7x50x512.size a := fun v749 k0_hw92 => k0_hw92

def k0_off185 (i : grid0.Coords) : Fin 3 → Nat :=
  let c0_850 : Index := 0#32
  let c3_851 : Index := 3#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v754 : Index := Scalar.indexCast v677
  ![0, 3, v754.toNat]
def k0_off186 (v755 : BitVec 32) : Fin 3 → Nat :=
  let c0_856 : Index := 0#32
  let v758 : Index := Scalar.indexCast v755
  let c0_857 : Index := 0#32
  ![0, v758.toNat, 0]

def k0_chk93 (v755 : BitVec 32) : Prop :=
  (∀ a, (k0_off186 v755) a + S7x1x512.size a ≤ S7x50x512.size a)
theorem k0_off186_inb : ∀ (v755 : BitVec 32) (k0_hw93 : k0_chk93 v755), ∀ a, (k0_off186 v755) a + S7x1x512.size a ≤ S7x50x512.size a := fun v755 k0_hw93 => k0_hw93

def k0_off187 (i : grid0.Coords) : Fin 3 → Nat :=
  let c0_858 : Index := 0#32
  let c4_859 : Index := 4#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v761 : Index := Scalar.indexCast v677
  ![0, 4, v761.toNat]
def k0_off188 (v762 : BitVec 32) : Fin 3 → Nat :=
  let c0_864 : Index := 0#32
  let v765 : Index := Scalar.indexCast v762
  let c0_865 : Index := 0#32
  ![0, v765.toNat, 0]

def k0_chk94 (v762 : BitVec 32) : Prop :=
  (∀ a, (k0_off188 v762) a + S7x1x512.size a ≤ S7x50x512.size a)
theorem k0_off188_inb : ∀ (v762 : BitVec 32) (k0_hw94 : k0_chk94 v762), ∀ a, (k0_off188 v762) a + S7x1x512.size a ≤ S7x50x512.size a := fun v762 k0_hw94 => k0_hw94

def k0_off189 (i : grid0.Coords) : Fin 3 → Nat :=
  let c0_866 : Index := 0#32
  let c5_867 : Index := 5#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v768 : Index := Scalar.indexCast v677
  ![0, 5, v768.toNat]
def k0_off190 (v769 : BitVec 32) : Fin 3 → Nat :=
  let c0_872 : Index := 0#32
  let v772 : Index := Scalar.indexCast v769
  let c0_873 : Index := 0#32
  ![0, v772.toNat, 0]

def k0_chk95 (v769 : BitVec 32) : Prop :=
  (∀ a, (k0_off190 v769) a + S7x1x512.size a ≤ S7x50x512.size a)
theorem k0_off190_inb : ∀ (v769 : BitVec 32) (k0_hw95 : k0_chk95 v769), ∀ a, (k0_off190 v769) a + S7x1x512.size a ≤ S7x50x512.size a := fun v769 k0_hw95 => k0_hw95

def k0_off191 (i : grid0.Coords) : Fin 3 → Nat :=
  let c0_874 : Index := 0#32
  let c6_875 : Index := 6#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v775 : Index := Scalar.indexCast v677
  ![0, 6, v775.toNat]
def k0_off192 (v776 : BitVec 32) : Fin 3 → Nat :=
  let c0_880 : Index := 0#32
  let v779 : Index := Scalar.indexCast v776
  let c0_881 : Index := 0#32
  ![0, v779.toNat, 0]

def k0_chk96 (v776 : BitVec 32) : Prop :=
  (∀ a, (k0_off192 v776) a + S7x1x512.size a ≤ S7x50x512.size a)
theorem k0_off192_inb : ∀ (v776 : BitVec 32) (k0_hw96 : k0_chk96 v776), ∀ a, (k0_off192 v776) a + S7x1x512.size a ≤ S7x50x512.size a := fun v776 k0_hw96 => k0_hw96

def k0_off193 (i : grid0.Coords) : Fin 3 → Nat :=
  let c1_886 : Index := 1#32
  let c2_887 : Index := 2#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v786 : Index := Scalar.indexCast v677
  ![1, 2, v786.toNat]
def k0_off194 (v787 : BitVec 32) : Fin 3 → Nat :=
  let c0_892 : Index := 0#32
  let v790 : Index := Scalar.indexCast v787
  let c0_893 : Index := 0#32
  ![0, v790.toNat, 0]

def k0_chk97 (v787 : BitVec 32) : Prop :=
  (∀ a, (k0_off194 v787) a + S7x1x512.size a ≤ S7x50x512.size a)
theorem k0_off194_inb : ∀ (v787 : BitVec 32) (k0_hw97 : k0_chk97 v787), ∀ a, (k0_off194 v787) a + S7x1x512.size a ≤ S7x50x512.size a := fun v787 k0_hw97 => k0_hw97

def k0_off195 (i : grid0.Coords) : Fin 3 → Nat :=
  let c1_894 : Index := 1#32
  let c3_895 : Index := 3#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v792 : Index := Scalar.indexCast v677
  ![1, 3, v792.toNat]
def k0_off196 (v793 : BitVec 32) : Fin 3 → Nat :=
  let c0_900 : Index := 0#32
  let v796 : Index := Scalar.indexCast v793
  let c0_901 : Index := 0#32
  ![0, v796.toNat, 0]

def k0_chk98 (v793 : BitVec 32) : Prop :=
  (∀ a, (k0_off196 v793) a + S7x1x512.size a ≤ S7x50x512.size a)
theorem k0_off196_inb : ∀ (v793 : BitVec 32) (k0_hw98 : k0_chk98 v793), ∀ a, (k0_off196 v793) a + S7x1x512.size a ≤ S7x50x512.size a := fun v793 k0_hw98 => k0_hw98

def k0_off197 (i : grid0.Coords) : Fin 3 → Nat :=
  let c1_902 : Index := 1#32
  let c4_903 : Index := 4#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v799 : Index := Scalar.indexCast v677
  ![1, 4, v799.toNat]
def k0_off198 (v800 : BitVec 32) : Fin 3 → Nat :=
  let c0_908 : Index := 0#32
  let v803 : Index := Scalar.indexCast v800
  let c0_909 : Index := 0#32
  ![0, v803.toNat, 0]

def k0_chk99 (v800 : BitVec 32) : Prop :=
  (∀ a, (k0_off198 v800) a + S7x1x512.size a ≤ S7x50x512.size a)
theorem k0_off198_inb : ∀ (v800 : BitVec 32) (k0_hw99 : k0_chk99 v800), ∀ a, (k0_off198 v800) a + S7x1x512.size a ≤ S7x50x512.size a := fun v800 k0_hw99 => k0_hw99

def k0_off199 (i : grid0.Coords) : Fin 3 → Nat :=
  let c1_910 : Index := 1#32
  let c5_911 : Index := 5#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v806 : Index := Scalar.indexCast v677
  ![1, 5, v806.toNat]
def k0_off200 (v807 : BitVec 32) : Fin 3 → Nat :=
  let c0_916 : Index := 0#32
  let v810 : Index := Scalar.indexCast v807
  let c0_917 : Index := 0#32
  ![0, v810.toNat, 0]

def k0_chk100 (v807 : BitVec 32) : Prop :=
  (∀ a, (k0_off200 v807) a + S7x1x512.size a ≤ S7x50x512.size a)
theorem k0_off200_inb : ∀ (v807 : BitVec 32) (k0_hw100 : k0_chk100 v807), ∀ a, (k0_off200 v807) a + S7x1x512.size a ≤ S7x50x512.size a := fun v807 k0_hw100 => k0_hw100

def k0_off201 (i : grid0.Coords) : Fin 3 → Nat :=
  let c1_918 : Index := 1#32
  let c6_919 : Index := 6#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v813 : Index := Scalar.indexCast v677
  ![1, 6, v813.toNat]
def k0_off202 (v814 : BitVec 32) : Fin 3 → Nat :=
  let c0_924 : Index := 0#32
  let v817 : Index := Scalar.indexCast v814
  let c0_925 : Index := 0#32
  ![0, v817.toNat, 0]

def k0_chk101 (v814 : BitVec 32) : Prop :=
  (∀ a, (k0_off202 v814) a + S7x1x512.size a ≤ S7x50x512.size a)
theorem k0_off202_inb : ∀ (v814 : BitVec 32) (k0_hw101 : k0_chk101 v814), ∀ a, (k0_off202 v814) a + S7x1x512.size a ≤ S7x50x512.size a := fun v814 k0_hw101 => k0_hw101

def k0_off203 (i : grid0.Coords) : Fin 3 → Nat :=
  let c2_930 : Index := 2#32
  let c2_931 : Index := 2#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v824 : Index := Scalar.indexCast v677
  ![2, 2, v824.toNat]
def k0_off204 (v825 : BitVec 32) : Fin 3 → Nat :=
  let c0_936 : Index := 0#32
  let v828 : Index := Scalar.indexCast v825
  let c0_937 : Index := 0#32
  ![0, v828.toNat, 0]

def k0_chk102 (v825 : BitVec 32) : Prop :=
  (∀ a, (k0_off204 v825) a + S7x1x512.size a ≤ S7x50x512.size a)
theorem k0_off204_inb : ∀ (v825 : BitVec 32) (k0_hw102 : k0_chk102 v825), ∀ a, (k0_off204 v825) a + S7x1x512.size a ≤ S7x50x512.size a := fun v825 k0_hw102 => k0_hw102

def k0_off205 (i : grid0.Coords) : Fin 3 → Nat :=
  let c2_938 : Index := 2#32
  let c3_939 : Index := 3#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v830 : Index := Scalar.indexCast v677
  ![2, 3, v830.toNat]
def k0_off206 (v831 : BitVec 32) : Fin 3 → Nat :=
  let c0_944 : Index := 0#32
  let v834 : Index := Scalar.indexCast v831
  let c0_945 : Index := 0#32
  ![0, v834.toNat, 0]

def k0_chk103 (v831 : BitVec 32) : Prop :=
  (∀ a, (k0_off206 v831) a + S7x1x512.size a ≤ S7x50x512.size a)
theorem k0_off206_inb : ∀ (v831 : BitVec 32) (k0_hw103 : k0_chk103 v831), ∀ a, (k0_off206 v831) a + S7x1x512.size a ≤ S7x50x512.size a := fun v831 k0_hw103 => k0_hw103

def k0_off207 (i : grid0.Coords) : Fin 3 → Nat :=
  let c2_946 : Index := 2#32
  let c4_947 : Index := 4#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v837 : Index := Scalar.indexCast v677
  ![2, 4, v837.toNat]
def k0_off208 (v838 : BitVec 32) : Fin 3 → Nat :=
  let c0_952 : Index := 0#32
  let v841 : Index := Scalar.indexCast v838
  let c0_953 : Index := 0#32
  ![0, v841.toNat, 0]

def k0_chk104 (v838 : BitVec 32) : Prop :=
  (∀ a, (k0_off208 v838) a + S7x1x512.size a ≤ S7x50x512.size a)
theorem k0_off208_inb : ∀ (v838 : BitVec 32) (k0_hw104 : k0_chk104 v838), ∀ a, (k0_off208 v838) a + S7x1x512.size a ≤ S7x50x512.size a := fun v838 k0_hw104 => k0_hw104

def k0_off209 (i : grid0.Coords) : Fin 3 → Nat :=
  let c2_954 : Index := 2#32
  let c5_955 : Index := 5#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v844 : Index := Scalar.indexCast v677
  ![2, 5, v844.toNat]
def k0_off210 (v845 : BitVec 32) : Fin 3 → Nat :=
  let c0_960 : Index := 0#32
  let v848 : Index := Scalar.indexCast v845
  let c0_961 : Index := 0#32
  ![0, v848.toNat, 0]

def k0_chk105 (v845 : BitVec 32) : Prop :=
  (∀ a, (k0_off210 v845) a + S7x1x512.size a ≤ S7x50x512.size a)
theorem k0_off210_inb : ∀ (v845 : BitVec 32) (k0_hw105 : k0_chk105 v845), ∀ a, (k0_off210 v845) a + S7x1x512.size a ≤ S7x50x512.size a := fun v845 k0_hw105 => k0_hw105

def k0_off211 (i : grid0.Coords) : Fin 3 → Nat :=
  let c2_962 : Index := 2#32
  let c6_963 : Index := 6#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v851 : Index := Scalar.indexCast v677
  ![2, 6, v851.toNat]
def k0_off212 (v852 : BitVec 32) : Fin 3 → Nat :=
  let c0_968 : Index := 0#32
  let v855 : Index := Scalar.indexCast v852
  let c0_969 : Index := 0#32
  ![0, v855.toNat, 0]

def k0_chk106 (v852 : BitVec 32) : Prop :=
  (∀ a, (k0_off212 v852) a + S7x1x512.size a ≤ S7x50x512.size a)
theorem k0_off212_inb : ∀ (v852 : BitVec 32) (k0_hw106 : k0_chk106 v852), ∀ a, (k0_off212 v852) a + S7x1x512.size a ≤ S7x50x512.size a := fun v852 k0_hw106 => k0_hw106

def k0_off213 (i : grid0.Coords) : Fin 3 → Nat :=
  let c3_974 : Index := 3#32
  let c2_975 : Index := 2#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v862 : Index := Scalar.indexCast v677
  ![3, 2, v862.toNat]
def k0_off214 (v863 : BitVec 32) : Fin 3 → Nat :=
  let c0_980 : Index := 0#32
  let v866 : Index := Scalar.indexCast v863
  let c0_981 : Index := 0#32
  ![0, v866.toNat, 0]

def k0_chk107 (v863 : BitVec 32) : Prop :=
  (∀ a, (k0_off214 v863) a + S7x1x512.size a ≤ S7x50x512.size a)
theorem k0_off214_inb : ∀ (v863 : BitVec 32) (k0_hw107 : k0_chk107 v863), ∀ a, (k0_off214 v863) a + S7x1x512.size a ≤ S7x50x512.size a := fun v863 k0_hw107 => k0_hw107

def k0_off215 (i : grid0.Coords) : Fin 3 → Nat :=
  let c3_982 : Index := 3#32
  let c3_983 : Index := 3#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v868 : Index := Scalar.indexCast v677
  ![3, 3, v868.toNat]
def k0_off216 (v869 : BitVec 32) : Fin 3 → Nat :=
  let c0_988 : Index := 0#32
  let v872 : Index := Scalar.indexCast v869
  let c0_989 : Index := 0#32
  ![0, v872.toNat, 0]

def k0_chk108 (v869 : BitVec 32) : Prop :=
  (∀ a, (k0_off216 v869) a + S7x1x512.size a ≤ S7x50x512.size a)
theorem k0_off216_inb : ∀ (v869 : BitVec 32) (k0_hw108 : k0_chk108 v869), ∀ a, (k0_off216 v869) a + S7x1x512.size a ≤ S7x50x512.size a := fun v869 k0_hw108 => k0_hw108

def k0_off217 (i : grid0.Coords) : Fin 3 → Nat :=
  let c3_990 : Index := 3#32
  let c4_991 : Index := 4#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v875 : Index := Scalar.indexCast v677
  ![3, 4, v875.toNat]
def k0_off218 (v876 : BitVec 32) : Fin 3 → Nat :=
  let c0_996 : Index := 0#32
  let v879 : Index := Scalar.indexCast v876
  let c0_997 : Index := 0#32
  ![0, v879.toNat, 0]

def k0_chk109 (v876 : BitVec 32) : Prop :=
  (∀ a, (k0_off218 v876) a + S7x1x512.size a ≤ S7x50x512.size a)
theorem k0_off218_inb : ∀ (v876 : BitVec 32) (k0_hw109 : k0_chk109 v876), ∀ a, (k0_off218 v876) a + S7x1x512.size a ≤ S7x50x512.size a := fun v876 k0_hw109 => k0_hw109

def k0_off219 (i : grid0.Coords) : Fin 3 → Nat :=
  let c3_998 : Index := 3#32
  let c5_999 : Index := 5#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v882 : Index := Scalar.indexCast v677
  ![3, 5, v882.toNat]
def k0_off220 (v883 : BitVec 32) : Fin 3 → Nat :=
  let c0_1004 : Index := 0#32
  let v886 : Index := Scalar.indexCast v883
  let c0_1005 : Index := 0#32
  ![0, v886.toNat, 0]

def k0_chk110 (v883 : BitVec 32) : Prop :=
  (∀ a, (k0_off220 v883) a + S7x1x512.size a ≤ S7x50x512.size a)
theorem k0_off220_inb : ∀ (v883 : BitVec 32) (k0_hw110 : k0_chk110 v883), ∀ a, (k0_off220 v883) a + S7x1x512.size a ≤ S7x50x512.size a := fun v883 k0_hw110 => k0_hw110

def k0_off221 (i : grid0.Coords) : Fin 3 → Nat :=
  let c3_1006 : Index := 3#32
  let c6_1007 : Index := 6#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v889 : Index := Scalar.indexCast v677
  ![3, 6, v889.toNat]
def k0_off222 (v890 : BitVec 32) : Fin 3 → Nat :=
  let c0_1012 : Index := 0#32
  let v893 : Index := Scalar.indexCast v890
  let c0_1013 : Index := 0#32
  ![0, v893.toNat, 0]

def k0_chk111 (v890 : BitVec 32) : Prop :=
  (∀ a, (k0_off222 v890) a + S7x1x512.size a ≤ S7x50x512.size a)
theorem k0_off222_inb : ∀ (v890 : BitVec 32) (k0_hw111 : k0_chk111 v890), ∀ a, (k0_off222 v890) a + S7x1x512.size a ≤ S7x50x512.size a := fun v890 k0_hw111 => k0_hw111

def k0_off223 (i : grid0.Coords) : Fin 3 → Nat :=
  let c4_1018 : Index := 4#32
  let c2_1019 : Index := 2#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v900 : Index := Scalar.indexCast v677
  ![4, 2, v900.toNat]
def k0_off224 (v901 : BitVec 32) : Fin 3 → Nat :=
  let c0_1024 : Index := 0#32
  let v904 : Index := Scalar.indexCast v901
  let c0_1025 : Index := 0#32
  ![0, v904.toNat, 0]

def k0_chk112 (v901 : BitVec 32) : Prop :=
  (∀ a, (k0_off224 v901) a + S7x1x512.size a ≤ S7x50x512.size a)
theorem k0_off224_inb : ∀ (v901 : BitVec 32) (k0_hw112 : k0_chk112 v901), ∀ a, (k0_off224 v901) a + S7x1x512.size a ≤ S7x50x512.size a := fun v901 k0_hw112 => k0_hw112

def k0_off225 (i : grid0.Coords) : Fin 3 → Nat :=
  let c4_1026 : Index := 4#32
  let c3_1027 : Index := 3#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v906 : Index := Scalar.indexCast v677
  ![4, 3, v906.toNat]
def k0_off226 (v907 : BitVec 32) : Fin 3 → Nat :=
  let c0_1032 : Index := 0#32
  let v910 : Index := Scalar.indexCast v907
  let c0_1033 : Index := 0#32
  ![0, v910.toNat, 0]

def k0_chk113 (v907 : BitVec 32) : Prop :=
  (∀ a, (k0_off226 v907) a + S7x1x512.size a ≤ S7x50x512.size a)
theorem k0_off226_inb : ∀ (v907 : BitVec 32) (k0_hw113 : k0_chk113 v907), ∀ a, (k0_off226 v907) a + S7x1x512.size a ≤ S7x50x512.size a := fun v907 k0_hw113 => k0_hw113

def k0_off227 (i : grid0.Coords) : Fin 3 → Nat :=
  let c4_1034 : Index := 4#32
  let c4_1035 : Index := 4#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v913 : Index := Scalar.indexCast v677
  ![4, 4, v913.toNat]
def k0_off228 (v914 : BitVec 32) : Fin 3 → Nat :=
  let c0_1040 : Index := 0#32
  let v917 : Index := Scalar.indexCast v914
  let c0_1041 : Index := 0#32
  ![0, v917.toNat, 0]

def k0_chk114 (v914 : BitVec 32) : Prop :=
  (∀ a, (k0_off228 v914) a + S7x1x512.size a ≤ S7x50x512.size a)
theorem k0_off228_inb : ∀ (v914 : BitVec 32) (k0_hw114 : k0_chk114 v914), ∀ a, (k0_off228 v914) a + S7x1x512.size a ≤ S7x50x512.size a := fun v914 k0_hw114 => k0_hw114

def k0_off229 (i : grid0.Coords) : Fin 3 → Nat :=
  let c4_1042 : Index := 4#32
  let c5_1043 : Index := 5#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v920 : Index := Scalar.indexCast v677
  ![4, 5, v920.toNat]
def k0_off230 (v921 : BitVec 32) : Fin 3 → Nat :=
  let c0_1048 : Index := 0#32
  let v924 : Index := Scalar.indexCast v921
  let c0_1049 : Index := 0#32
  ![0, v924.toNat, 0]

def k0_chk115 (v921 : BitVec 32) : Prop :=
  (∀ a, (k0_off230 v921) a + S7x1x512.size a ≤ S7x50x512.size a)
theorem k0_off230_inb : ∀ (v921 : BitVec 32) (k0_hw115 : k0_chk115 v921), ∀ a, (k0_off230 v921) a + S7x1x512.size a ≤ S7x50x512.size a := fun v921 k0_hw115 => k0_hw115

def k0_off231 (i : grid0.Coords) : Fin 3 → Nat :=
  let c4_1050 : Index := 4#32
  let c6_1051 : Index := 6#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v927 : Index := Scalar.indexCast v677
  ![4, 6, v927.toNat]
def k0_off232 (v928 : BitVec 32) : Fin 3 → Nat :=
  let c0_1056 : Index := 0#32
  let v931 : Index := Scalar.indexCast v928
  let c0_1057 : Index := 0#32
  ![0, v931.toNat, 0]

def k0_chk116 (v928 : BitVec 32) : Prop :=
  (∀ a, (k0_off232 v928) a + S7x1x512.size a ≤ S7x50x512.size a)
theorem k0_off232_inb : ∀ (v928 : BitVec 32) (k0_hw116 : k0_chk116 v928), ∀ a, (k0_off232 v928) a + S7x1x512.size a ≤ S7x50x512.size a := fun v928 k0_hw116 => k0_hw116

def k0_off233 (i : grid0.Coords) : Fin 3 → Nat :=
  let c5_1062 : Index := 5#32
  let c2_1063 : Index := 2#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v938 : Index := Scalar.indexCast v677
  ![5, 2, v938.toNat]
def k0_off234 (v939 : BitVec 32) : Fin 3 → Nat :=
  let c0_1068 : Index := 0#32
  let v942 : Index := Scalar.indexCast v939
  let c0_1069 : Index := 0#32
  ![0, v942.toNat, 0]

def k0_chk117 (v939 : BitVec 32) : Prop :=
  (∀ a, (k0_off234 v939) a + S7x1x512.size a ≤ S7x50x512.size a)
theorem k0_off234_inb : ∀ (v939 : BitVec 32) (k0_hw117 : k0_chk117 v939), ∀ a, (k0_off234 v939) a + S7x1x512.size a ≤ S7x50x512.size a := fun v939 k0_hw117 => k0_hw117

def k0_off235 (i : grid0.Coords) : Fin 3 → Nat :=
  let c5_1070 : Index := 5#32
  let c3_1071 : Index := 3#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v944 : Index := Scalar.indexCast v677
  ![5, 3, v944.toNat]
def k0_off236 (v945 : BitVec 32) : Fin 3 → Nat :=
  let c0_1076 : Index := 0#32
  let v948 : Index := Scalar.indexCast v945
  let c0_1077 : Index := 0#32
  ![0, v948.toNat, 0]

def k0_chk118 (v945 : BitVec 32) : Prop :=
  (∀ a, (k0_off236 v945) a + S7x1x512.size a ≤ S7x50x512.size a)
theorem k0_off236_inb : ∀ (v945 : BitVec 32) (k0_hw118 : k0_chk118 v945), ∀ a, (k0_off236 v945) a + S7x1x512.size a ≤ S7x50x512.size a := fun v945 k0_hw118 => k0_hw118

def k0_off237 (i : grid0.Coords) : Fin 3 → Nat :=
  let c5_1078 : Index := 5#32
  let c4_1079 : Index := 4#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v951 : Index := Scalar.indexCast v677
  ![5, 4, v951.toNat]
def k0_off238 (v952 : BitVec 32) : Fin 3 → Nat :=
  let c0_1084 : Index := 0#32
  let v955 : Index := Scalar.indexCast v952
  let c0_1085 : Index := 0#32
  ![0, v955.toNat, 0]

def k0_chk119 (v952 : BitVec 32) : Prop :=
  (∀ a, (k0_off238 v952) a + S7x1x512.size a ≤ S7x50x512.size a)
theorem k0_off238_inb : ∀ (v952 : BitVec 32) (k0_hw119 : k0_chk119 v952), ∀ a, (k0_off238 v952) a + S7x1x512.size a ≤ S7x50x512.size a := fun v952 k0_hw119 => k0_hw119

def k0_off239 (i : grid0.Coords) : Fin 3 → Nat :=
  let c5_1086 : Index := 5#32
  let c5_1087 : Index := 5#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v958 : Index := Scalar.indexCast v677
  ![5, 5, v958.toNat]
def k0_off240 (v959 : BitVec 32) : Fin 3 → Nat :=
  let c0_1092 : Index := 0#32
  let v962 : Index := Scalar.indexCast v959
  let c0_1093 : Index := 0#32
  ![0, v962.toNat, 0]

def k0_chk120 (v959 : BitVec 32) : Prop :=
  (∀ a, (k0_off240 v959) a + S7x1x512.size a ≤ S7x50x512.size a)
theorem k0_off240_inb : ∀ (v959 : BitVec 32) (k0_hw120 : k0_chk120 v959), ∀ a, (k0_off240 v959) a + S7x1x512.size a ≤ S7x50x512.size a := fun v959 k0_hw120 => k0_hw120

def k0_off241 (i : grid0.Coords) : Fin 3 → Nat :=
  let c5_1094 : Index := 5#32
  let c6_1095 : Index := 6#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v965 : Index := Scalar.indexCast v677
  ![5, 6, v965.toNat]
def k0_off242 (v966 : BitVec 32) : Fin 3 → Nat :=
  let c0_1100 : Index := 0#32
  let v969 : Index := Scalar.indexCast v966
  let c0_1101 : Index := 0#32
  ![0, v969.toNat, 0]

def k0_chk121 (v966 : BitVec 32) : Prop :=
  (∀ a, (k0_off242 v966) a + S7x1x512.size a ≤ S7x50x512.size a)
theorem k0_off242_inb : ∀ (v966 : BitVec 32) (k0_hw121 : k0_chk121 v966), ∀ a, (k0_off242 v966) a + S7x1x512.size a ≤ S7x50x512.size a := fun v966 k0_hw121 => k0_hw121

def k0_off243 (i : grid0.Coords) : Fin 3 → Nat :=
  let c6_1106 : Index := 6#32
  let c2_1107 : Index := 2#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v976 : Index := Scalar.indexCast v677
  ![6, 2, v976.toNat]
def k0_off244 (v977 : BitVec 32) : Fin 3 → Nat :=
  let c0_1112 : Index := 0#32
  let v980 : Index := Scalar.indexCast v977
  let c0_1113 : Index := 0#32
  ![0, v980.toNat, 0]

def k0_chk122 (v977 : BitVec 32) : Prop :=
  (∀ a, (k0_off244 v977) a + S7x1x512.size a ≤ S7x50x512.size a)
theorem k0_off244_inb : ∀ (v977 : BitVec 32) (k0_hw122 : k0_chk122 v977), ∀ a, (k0_off244 v977) a + S7x1x512.size a ≤ S7x50x512.size a := fun v977 k0_hw122 => k0_hw122

def k0_off245 (i : grid0.Coords) : Fin 3 → Nat :=
  let c6_1114 : Index := 6#32
  let c3_1115 : Index := 3#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v982 : Index := Scalar.indexCast v677
  ![6, 3, v982.toNat]
def k0_off246 (v983 : BitVec 32) : Fin 3 → Nat :=
  let c0_1120 : Index := 0#32
  let v986 : Index := Scalar.indexCast v983
  let c0_1121 : Index := 0#32
  ![0, v986.toNat, 0]

def k0_chk123 (v983 : BitVec 32) : Prop :=
  (∀ a, (k0_off246 v983) a + S7x1x512.size a ≤ S7x50x512.size a)
theorem k0_off246_inb : ∀ (v983 : BitVec 32) (k0_hw123 : k0_chk123 v983), ∀ a, (k0_off246 v983) a + S7x1x512.size a ≤ S7x50x512.size a := fun v983 k0_hw123 => k0_hw123

def k0_off247 (i : grid0.Coords) : Fin 3 → Nat :=
  let c6_1122 : Index := 6#32
  let c4_1123 : Index := 4#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v989 : Index := Scalar.indexCast v677
  ![6, 4, v989.toNat]
def k0_off248 (v990 : BitVec 32) : Fin 3 → Nat :=
  let c0_1128 : Index := 0#32
  let v993 : Index := Scalar.indexCast v990
  let c0_1129 : Index := 0#32
  ![0, v993.toNat, 0]

def k0_chk124 (v990 : BitVec 32) : Prop :=
  (∀ a, (k0_off248 v990) a + S7x1x512.size a ≤ S7x50x512.size a)
theorem k0_off248_inb : ∀ (v990 : BitVec 32) (k0_hw124 : k0_chk124 v990), ∀ a, (k0_off248 v990) a + S7x1x512.size a ≤ S7x50x512.size a := fun v990 k0_hw124 => k0_hw124

def k0_off249 (i : grid0.Coords) : Fin 3 → Nat :=
  let c6_1130 : Index := 6#32
  let c5_1131 : Index := 5#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v996 : Index := Scalar.indexCast v677
  ![6, 5, v996.toNat]
def k0_off250 (v997 : BitVec 32) : Fin 3 → Nat :=
  let c0_1136 : Index := 0#32
  let v1000 : Index := Scalar.indexCast v997
  let c0_1137 : Index := 0#32
  ![0, v1000.toNat, 0]

def k0_chk125 (v997 : BitVec 32) : Prop :=
  (∀ a, (k0_off250 v997) a + S7x1x512.size a ≤ S7x50x512.size a)
theorem k0_off250_inb : ∀ (v997 : BitVec 32) (k0_hw125 : k0_chk125 v997), ∀ a, (k0_off250 v997) a + S7x1x512.size a ≤ S7x50x512.size a := fun v997 k0_hw125 => k0_hw125

def k0_off251 (i : grid0.Coords) : Fin 3 → Nat :=
  let c6_1138 : Index := 6#32
  let c6_1139 : Index := 6#32
  let arg0 : BitVec 32 := BitVec.ofNat 32 (i 0).val
  let c32_i32_764 : BitVec 32 := 32#32
  let v676 : BitVec 32 := Scalar.muli arg0 c32_i32_764
  let c2_i32 : BitVec 32 := 2#32
  let v677 : BitVec 32 := Scalar.addi v676 c2_i32
  let v1003 : Index := Scalar.indexCast v677
  ![6, 6, v1003.toNat]
def k0_off252 (v1004 : BitVec 32) : Fin 3 → Nat :=
  let c0_1144 : Index := 0#32
  let v1007 : Index := Scalar.indexCast v1004
  let c0_1145 : Index := 0#32
  ![0, v1007.toNat, 0]

def k0_chk126 (v1004 : BitVec 32) : Prop :=
  (∀ a, (k0_off252 v1004) a + S7x1x512.size a ≤ S7x50x512.size a)
theorem k0_off252_inb : ∀ (v1004 : BitVec 32) (k0_hw126 : k0_chk126 v1004), ∀ a, (k0_off252 v1004) a + S7x1x512.size a ≤ S7x50x512.size a := fun v1004 k0_hw126 => k0_hw126

def k0_off253 (i : grid0.Coords) : Fin 3 → Nat :=
  let c0_1151 : Index := 0#32
  let c0_1152 : Index := 0#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1016 : Index := Scalar.indexCast v1015
  ![0, 0, v1016.toNat]
def k0_off254 (v1017 : BitVec 32) : Fin 3 → Nat :=
  let v1018 : Index := Scalar.indexCast v1017
  let c0_1153 : Index := 0#32
  let c0_1154 : Index := 0#32
  ![v1018.toNat, 0, 0]

def k0_chk127 (v1017 : BitVec 32) : Prop :=
  (∀ a, (k0_off254 v1017) a + S1x50x512.size a ≤ S250x50x512.size a)
theorem k0_off254_inb : ∀ (v1017 : BitVec 32) (k0_hw127 : k0_chk127 v1017), ∀ a, (k0_off254 v1017) a + S1x50x512.size a ≤ S250x50x512.size a := fun v1017 k0_hw127 => k0_hw127

def k0_off255 (i : grid0.Coords) : Fin 3 → Nat :=
  let c1_1162 : Index := 1#32
  let c0_1163 : Index := 0#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1026 : Index := Scalar.indexCast v1015
  ![1, 0, v1026.toNat]
def k0_off256 (v1027 : BitVec 32) : Fin 3 → Nat :=
  let v1028 : Index := Scalar.indexCast v1027
  let c0_1164 : Index := 0#32
  let c0_1165 : Index := 0#32
  ![v1028.toNat, 0, 0]

def k0_chk128 (v1027 : BitVec 32) : Prop :=
  (∀ a, (k0_off256 v1027) a + S1x50x512.size a ≤ S250x50x512.size a)
theorem k0_off256_inb : ∀ (v1027 : BitVec 32) (k0_hw128 : k0_chk128 v1027), ∀ a, (k0_off256 v1027) a + S1x50x512.size a ≤ S250x50x512.size a := fun v1027 k0_hw128 => k0_hw128

def k0_off257 (i : grid0.Coords) : Fin 3 → Nat :=
  let c2_1173 : Index := 2#32
  let c0_1174 : Index := 0#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1036 : Index := Scalar.indexCast v1015
  ![2, 0, v1036.toNat]
def k0_off258 (v1037 : BitVec 32) : Fin 3 → Nat :=
  let v1038 : Index := Scalar.indexCast v1037
  let c0_1175 : Index := 0#32
  let c0_1176 : Index := 0#32
  ![v1038.toNat, 0, 0]

def k0_chk129 (v1037 : BitVec 32) : Prop :=
  (∀ a, (k0_off258 v1037) a + S1x50x512.size a ≤ S250x50x512.size a)
theorem k0_off258_inb : ∀ (v1037 : BitVec 32) (k0_hw129 : k0_chk129 v1037), ∀ a, (k0_off258 v1037) a + S1x50x512.size a ≤ S250x50x512.size a := fun v1037 k0_hw129 => k0_hw129

def k0_off259 (i : grid0.Coords) : Fin 3 → Nat :=
  let c3_1184 : Index := 3#32
  let c0_1185 : Index := 0#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1046 : Index := Scalar.indexCast v1015
  ![3, 0, v1046.toNat]
def k0_off260 (v1047 : BitVec 32) : Fin 3 → Nat :=
  let v1048 : Index := Scalar.indexCast v1047
  let c0_1186 : Index := 0#32
  let c0_1187 : Index := 0#32
  ![v1048.toNat, 0, 0]

def k0_chk130 (v1047 : BitVec 32) : Prop :=
  (∀ a, (k0_off260 v1047) a + S1x50x512.size a ≤ S250x50x512.size a)
theorem k0_off260_inb : ∀ (v1047 : BitVec 32) (k0_hw130 : k0_chk130 v1047), ∀ a, (k0_off260 v1047) a + S1x50x512.size a ≤ S250x50x512.size a := fun v1047 k0_hw130 => k0_hw130

def k0_off261 (i : grid0.Coords) : Fin 3 → Nat :=
  let c4_1195 : Index := 4#32
  let c0_1196 : Index := 0#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1056 : Index := Scalar.indexCast v1015
  ![4, 0, v1056.toNat]
def k0_off262 (v1057 : BitVec 32) : Fin 3 → Nat :=
  let v1058 : Index := Scalar.indexCast v1057
  let c0_1197 : Index := 0#32
  let c0_1198 : Index := 0#32
  ![v1058.toNat, 0, 0]

def k0_chk131 (v1057 : BitVec 32) : Prop :=
  (∀ a, (k0_off262 v1057) a + S1x50x512.size a ≤ S250x50x512.size a)
theorem k0_off262_inb : ∀ (v1057 : BitVec 32) (k0_hw131 : k0_chk131 v1057), ∀ a, (k0_off262 v1057) a + S1x50x512.size a ≤ S250x50x512.size a := fun v1057 k0_hw131 => k0_hw131

def k0_off263 (i : grid0.Coords) : Fin 3 → Nat :=
  let c5_1206 : Index := 5#32
  let c0_1207 : Index := 0#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1066 : Index := Scalar.indexCast v1015
  ![5, 0, v1066.toNat]
def k0_off264 (v1067 : BitVec 32) : Fin 3 → Nat :=
  let v1068 : Index := Scalar.indexCast v1067
  let c0_1208 : Index := 0#32
  let c0_1209 : Index := 0#32
  ![v1068.toNat, 0, 0]

def k0_chk132 (v1067 : BitVec 32) : Prop :=
  (∀ a, (k0_off264 v1067) a + S1x50x512.size a ≤ S250x50x512.size a)
theorem k0_off264_inb : ∀ (v1067 : BitVec 32) (k0_hw132 : k0_chk132 v1067), ∀ a, (k0_off264 v1067) a + S1x50x512.size a ≤ S250x50x512.size a := fun v1067 k0_hw132 => k0_hw132

def k0_off265 (i : grid0.Coords) : Fin 3 → Nat :=
  let c6_1217 : Index := 6#32
  let c0_1218 : Index := 0#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1076 : Index := Scalar.indexCast v1015
  ![6, 0, v1076.toNat]
def k0_off266 (v1077 : BitVec 32) : Fin 3 → Nat :=
  let v1078 : Index := Scalar.indexCast v1077
  let c0_1219 : Index := 0#32
  let c0_1220 : Index := 0#32
  ![v1078.toNat, 0, 0]

def k0_chk133 (v1077 : BitVec 32) : Prop :=
  (∀ a, (k0_off266 v1077) a + S1x50x512.size a ≤ S250x50x512.size a)
theorem k0_off266_inb : ∀ (v1077 : BitVec 32) (k0_hw133 : k0_chk133 v1077), ∀ a, (k0_off266 v1077) a + S1x50x512.size a ≤ S250x50x512.size a := fun v1077 k0_hw133 => k0_hw133

def k0_off267 (i : grid0.Coords) : Fin 3 → Nat :=
  let c0_1228 : Index := 0#32
  let c2_1229 : Index := 2#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1086 : Index := Scalar.indexCast v1015
  ![0, 2, v1086.toNat]
def k0_off268 (v1087 : BitVec 32) : Fin 3 → Nat :=
  let c0_1234 : Index := 0#32
  let v1090 : Index := Scalar.indexCast v1087
  let c0_1235 : Index := 0#32
  ![0, v1090.toNat, 0]

def k0_chk134 (v1087 : BitVec 32) : Prop :=
  (∀ a, (k0_off268 v1087) a + S7x1x512.size a ≤ S7x50x512.size a)
theorem k0_off268_inb : ∀ (v1087 : BitVec 32) (k0_hw134 : k0_chk134 v1087), ∀ a, (k0_off268 v1087) a + S7x1x512.size a ≤ S7x50x512.size a := fun v1087 k0_hw134 => k0_hw134

def k0_off269 (i : grid0.Coords) : Fin 3 → Nat :=
  let c0_1236 : Index := 0#32
  let c3_1237 : Index := 3#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1092 : Index := Scalar.indexCast v1015
  ![0, 3, v1092.toNat]
def k0_off270 (v1093 : BitVec 32) : Fin 3 → Nat :=
  let c0_1242 : Index := 0#32
  let v1096 : Index := Scalar.indexCast v1093
  let c0_1243 : Index := 0#32
  ![0, v1096.toNat, 0]

def k0_chk135 (v1093 : BitVec 32) : Prop :=
  (∀ a, (k0_off270 v1093) a + S7x1x512.size a ≤ S7x50x512.size a)
theorem k0_off270_inb : ∀ (v1093 : BitVec 32) (k0_hw135 : k0_chk135 v1093), ∀ a, (k0_off270 v1093) a + S7x1x512.size a ≤ S7x50x512.size a := fun v1093 k0_hw135 => k0_hw135

def k0_off271 (i : grid0.Coords) : Fin 3 → Nat :=
  let c0_1244 : Index := 0#32
  let c4_1245 : Index := 4#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1099 : Index := Scalar.indexCast v1015
  ![0, 4, v1099.toNat]
def k0_off272 (v1100 : BitVec 32) : Fin 3 → Nat :=
  let c0_1250 : Index := 0#32
  let v1103 : Index := Scalar.indexCast v1100
  let c0_1251 : Index := 0#32
  ![0, v1103.toNat, 0]

def k0_chk136 (v1100 : BitVec 32) : Prop :=
  (∀ a, (k0_off272 v1100) a + S7x1x512.size a ≤ S7x50x512.size a)
theorem k0_off272_inb : ∀ (v1100 : BitVec 32) (k0_hw136 : k0_chk136 v1100), ∀ a, (k0_off272 v1100) a + S7x1x512.size a ≤ S7x50x512.size a := fun v1100 k0_hw136 => k0_hw136

def k0_off273 (i : grid0.Coords) : Fin 3 → Nat :=
  let c0_1252 : Index := 0#32
  let c5_1253 : Index := 5#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1106 : Index := Scalar.indexCast v1015
  ![0, 5, v1106.toNat]
def k0_off274 (v1107 : BitVec 32) : Fin 3 → Nat :=
  let c0_1258 : Index := 0#32
  let v1110 : Index := Scalar.indexCast v1107
  let c0_1259 : Index := 0#32
  ![0, v1110.toNat, 0]

def k0_chk137 (v1107 : BitVec 32) : Prop :=
  (∀ a, (k0_off274 v1107) a + S7x1x512.size a ≤ S7x50x512.size a)
theorem k0_off274_inb : ∀ (v1107 : BitVec 32) (k0_hw137 : k0_chk137 v1107), ∀ a, (k0_off274 v1107) a + S7x1x512.size a ≤ S7x50x512.size a := fun v1107 k0_hw137 => k0_hw137

def k0_off275 (i : grid0.Coords) : Fin 3 → Nat :=
  let c0_1260 : Index := 0#32
  let c6_1261 : Index := 6#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1113 : Index := Scalar.indexCast v1015
  ![0, 6, v1113.toNat]
def k0_off276 (v1114 : BitVec 32) : Fin 3 → Nat :=
  let c0_1266 : Index := 0#32
  let v1117 : Index := Scalar.indexCast v1114
  let c0_1267 : Index := 0#32
  ![0, v1117.toNat, 0]

def k0_chk138 (v1114 : BitVec 32) : Prop :=
  (∀ a, (k0_off276 v1114) a + S7x1x512.size a ≤ S7x50x512.size a)
theorem k0_off276_inb : ∀ (v1114 : BitVec 32) (k0_hw138 : k0_chk138 v1114), ∀ a, (k0_off276 v1114) a + S7x1x512.size a ≤ S7x50x512.size a := fun v1114 k0_hw138 => k0_hw138

def k0_off277 (i : grid0.Coords) : Fin 3 → Nat :=
  let c1_1272 : Index := 1#32
  let c2_1273 : Index := 2#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1124 : Index := Scalar.indexCast v1015
  ![1, 2, v1124.toNat]
def k0_off278 (v1125 : BitVec 32) : Fin 3 → Nat :=
  let c0_1278 : Index := 0#32
  let v1128 : Index := Scalar.indexCast v1125
  let c0_1279 : Index := 0#32
  ![0, v1128.toNat, 0]

def k0_chk139 (v1125 : BitVec 32) : Prop :=
  (∀ a, (k0_off278 v1125) a + S7x1x512.size a ≤ S7x50x512.size a)
theorem k0_off278_inb : ∀ (v1125 : BitVec 32) (k0_hw139 : k0_chk139 v1125), ∀ a, (k0_off278 v1125) a + S7x1x512.size a ≤ S7x50x512.size a := fun v1125 k0_hw139 => k0_hw139

def k0_off279 (i : grid0.Coords) : Fin 3 → Nat :=
  let c1_1280 : Index := 1#32
  let c3_1281 : Index := 3#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1130 : Index := Scalar.indexCast v1015
  ![1, 3, v1130.toNat]
def k0_off280 (v1131 : BitVec 32) : Fin 3 → Nat :=
  let c0_1286 : Index := 0#32
  let v1134 : Index := Scalar.indexCast v1131
  let c0_1287 : Index := 0#32
  ![0, v1134.toNat, 0]

def k0_chk140 (v1131 : BitVec 32) : Prop :=
  (∀ a, (k0_off280 v1131) a + S7x1x512.size a ≤ S7x50x512.size a)
theorem k0_off280_inb : ∀ (v1131 : BitVec 32) (k0_hw140 : k0_chk140 v1131), ∀ a, (k0_off280 v1131) a + S7x1x512.size a ≤ S7x50x512.size a := fun v1131 k0_hw140 => k0_hw140

def k0_off281 (i : grid0.Coords) : Fin 3 → Nat :=
  let c1_1288 : Index := 1#32
  let c4_1289 : Index := 4#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1137 : Index := Scalar.indexCast v1015
  ![1, 4, v1137.toNat]
def k0_off282 (v1138 : BitVec 32) : Fin 3 → Nat :=
  let c0_1294 : Index := 0#32
  let v1141 : Index := Scalar.indexCast v1138
  let c0_1295 : Index := 0#32
  ![0, v1141.toNat, 0]

def k0_chk141 (v1138 : BitVec 32) : Prop :=
  (∀ a, (k0_off282 v1138) a + S7x1x512.size a ≤ S7x50x512.size a)
theorem k0_off282_inb : ∀ (v1138 : BitVec 32) (k0_hw141 : k0_chk141 v1138), ∀ a, (k0_off282 v1138) a + S7x1x512.size a ≤ S7x50x512.size a := fun v1138 k0_hw141 => k0_hw141

def k0_off283 (i : grid0.Coords) : Fin 3 → Nat :=
  let c1_1296 : Index := 1#32
  let c5_1297 : Index := 5#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1144 : Index := Scalar.indexCast v1015
  ![1, 5, v1144.toNat]
def k0_off284 (v1145 : BitVec 32) : Fin 3 → Nat :=
  let c0_1302 : Index := 0#32
  let v1148 : Index := Scalar.indexCast v1145
  let c0_1303 : Index := 0#32
  ![0, v1148.toNat, 0]

def k0_chk142 (v1145 : BitVec 32) : Prop :=
  (∀ a, (k0_off284 v1145) a + S7x1x512.size a ≤ S7x50x512.size a)
theorem k0_off284_inb : ∀ (v1145 : BitVec 32) (k0_hw142 : k0_chk142 v1145), ∀ a, (k0_off284 v1145) a + S7x1x512.size a ≤ S7x50x512.size a := fun v1145 k0_hw142 => k0_hw142

def k0_off285 (i : grid0.Coords) : Fin 3 → Nat :=
  let c1_1304 : Index := 1#32
  let c6_1305 : Index := 6#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1151 : Index := Scalar.indexCast v1015
  ![1, 6, v1151.toNat]
def k0_off286 (v1152 : BitVec 32) : Fin 3 → Nat :=
  let c0_1310 : Index := 0#32
  let v1155 : Index := Scalar.indexCast v1152
  let c0_1311 : Index := 0#32
  ![0, v1155.toNat, 0]

def k0_chk143 (v1152 : BitVec 32) : Prop :=
  (∀ a, (k0_off286 v1152) a + S7x1x512.size a ≤ S7x50x512.size a)
theorem k0_off286_inb : ∀ (v1152 : BitVec 32) (k0_hw143 : k0_chk143 v1152), ∀ a, (k0_off286 v1152) a + S7x1x512.size a ≤ S7x50x512.size a := fun v1152 k0_hw143 => k0_hw143

def k0_off287 (i : grid0.Coords) : Fin 3 → Nat :=
  let c2_1316 : Index := 2#32
  let c2_1317 : Index := 2#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1162 : Index := Scalar.indexCast v1015
  ![2, 2, v1162.toNat]
def k0_off288 (v1163 : BitVec 32) : Fin 3 → Nat :=
  let c0_1322 : Index := 0#32
  let v1166 : Index := Scalar.indexCast v1163
  let c0_1323 : Index := 0#32
  ![0, v1166.toNat, 0]

def k0_chk144 (v1163 : BitVec 32) : Prop :=
  (∀ a, (k0_off288 v1163) a + S7x1x512.size a ≤ S7x50x512.size a)
theorem k0_off288_inb : ∀ (v1163 : BitVec 32) (k0_hw144 : k0_chk144 v1163), ∀ a, (k0_off288 v1163) a + S7x1x512.size a ≤ S7x50x512.size a := fun v1163 k0_hw144 => k0_hw144

def k0_off289 (i : grid0.Coords) : Fin 3 → Nat :=
  let c2_1324 : Index := 2#32
  let c3_1325 : Index := 3#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1168 : Index := Scalar.indexCast v1015
  ![2, 3, v1168.toNat]
def k0_off290 (v1169 : BitVec 32) : Fin 3 → Nat :=
  let c0_1330 : Index := 0#32
  let v1172 : Index := Scalar.indexCast v1169
  let c0_1331 : Index := 0#32
  ![0, v1172.toNat, 0]

def k0_chk145 (v1169 : BitVec 32) : Prop :=
  (∀ a, (k0_off290 v1169) a + S7x1x512.size a ≤ S7x50x512.size a)
theorem k0_off290_inb : ∀ (v1169 : BitVec 32) (k0_hw145 : k0_chk145 v1169), ∀ a, (k0_off290 v1169) a + S7x1x512.size a ≤ S7x50x512.size a := fun v1169 k0_hw145 => k0_hw145

def k0_off291 (i : grid0.Coords) : Fin 3 → Nat :=
  let c2_1332 : Index := 2#32
  let c4_1333 : Index := 4#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1175 : Index := Scalar.indexCast v1015
  ![2, 4, v1175.toNat]
def k0_off292 (v1176 : BitVec 32) : Fin 3 → Nat :=
  let c0_1338 : Index := 0#32
  let v1179 : Index := Scalar.indexCast v1176
  let c0_1339 : Index := 0#32
  ![0, v1179.toNat, 0]

def k0_chk146 (v1176 : BitVec 32) : Prop :=
  (∀ a, (k0_off292 v1176) a + S7x1x512.size a ≤ S7x50x512.size a)
theorem k0_off292_inb : ∀ (v1176 : BitVec 32) (k0_hw146 : k0_chk146 v1176), ∀ a, (k0_off292 v1176) a + S7x1x512.size a ≤ S7x50x512.size a := fun v1176 k0_hw146 => k0_hw146

def k0_off293 (i : grid0.Coords) : Fin 3 → Nat :=
  let c2_1340 : Index := 2#32
  let c5_1341 : Index := 5#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1182 : Index := Scalar.indexCast v1015
  ![2, 5, v1182.toNat]
def k0_off294 (v1183 : BitVec 32) : Fin 3 → Nat :=
  let c0_1346 : Index := 0#32
  let v1186 : Index := Scalar.indexCast v1183
  let c0_1347 : Index := 0#32
  ![0, v1186.toNat, 0]

def k0_chk147 (v1183 : BitVec 32) : Prop :=
  (∀ a, (k0_off294 v1183) a + S7x1x512.size a ≤ S7x50x512.size a)
theorem k0_off294_inb : ∀ (v1183 : BitVec 32) (k0_hw147 : k0_chk147 v1183), ∀ a, (k0_off294 v1183) a + S7x1x512.size a ≤ S7x50x512.size a := fun v1183 k0_hw147 => k0_hw147

def k0_off295 (i : grid0.Coords) : Fin 3 → Nat :=
  let c2_1348 : Index := 2#32
  let c6_1349 : Index := 6#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1189 : Index := Scalar.indexCast v1015
  ![2, 6, v1189.toNat]
def k0_off296 (v1190 : BitVec 32) : Fin 3 → Nat :=
  let c0_1354 : Index := 0#32
  let v1193 : Index := Scalar.indexCast v1190
  let c0_1355 : Index := 0#32
  ![0, v1193.toNat, 0]

def k0_chk148 (v1190 : BitVec 32) : Prop :=
  (∀ a, (k0_off296 v1190) a + S7x1x512.size a ≤ S7x50x512.size a)
theorem k0_off296_inb : ∀ (v1190 : BitVec 32) (k0_hw148 : k0_chk148 v1190), ∀ a, (k0_off296 v1190) a + S7x1x512.size a ≤ S7x50x512.size a := fun v1190 k0_hw148 => k0_hw148

def k0_off297 (i : grid0.Coords) : Fin 3 → Nat :=
  let c3_1360 : Index := 3#32
  let c2_1361 : Index := 2#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1200 : Index := Scalar.indexCast v1015
  ![3, 2, v1200.toNat]
def k0_off298 (v1201 : BitVec 32) : Fin 3 → Nat :=
  let c0_1366 : Index := 0#32
  let v1204 : Index := Scalar.indexCast v1201
  let c0_1367 : Index := 0#32
  ![0, v1204.toNat, 0]

def k0_chk149 (v1201 : BitVec 32) : Prop :=
  (∀ a, (k0_off298 v1201) a + S7x1x512.size a ≤ S7x50x512.size a)
theorem k0_off298_inb : ∀ (v1201 : BitVec 32) (k0_hw149 : k0_chk149 v1201), ∀ a, (k0_off298 v1201) a + S7x1x512.size a ≤ S7x50x512.size a := fun v1201 k0_hw149 => k0_hw149

def k0_off299 (i : grid0.Coords) : Fin 3 → Nat :=
  let c3_1368 : Index := 3#32
  let c3_1369 : Index := 3#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1206 : Index := Scalar.indexCast v1015
  ![3, 3, v1206.toNat]
def k0_off300 (v1207 : BitVec 32) : Fin 3 → Nat :=
  let c0_1374 : Index := 0#32
  let v1210 : Index := Scalar.indexCast v1207
  let c0_1375 : Index := 0#32
  ![0, v1210.toNat, 0]

def k0_chk150 (v1207 : BitVec 32) : Prop :=
  (∀ a, (k0_off300 v1207) a + S7x1x512.size a ≤ S7x50x512.size a)
theorem k0_off300_inb : ∀ (v1207 : BitVec 32) (k0_hw150 : k0_chk150 v1207), ∀ a, (k0_off300 v1207) a + S7x1x512.size a ≤ S7x50x512.size a := fun v1207 k0_hw150 => k0_hw150

def k0_off301 (i : grid0.Coords) : Fin 3 → Nat :=
  let c3_1376 : Index := 3#32
  let c4_1377 : Index := 4#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1213 : Index := Scalar.indexCast v1015
  ![3, 4, v1213.toNat]
def k0_off302 (v1214 : BitVec 32) : Fin 3 → Nat :=
  let c0_1382 : Index := 0#32
  let v1217 : Index := Scalar.indexCast v1214
  let c0_1383 : Index := 0#32
  ![0, v1217.toNat, 0]

def k0_chk151 (v1214 : BitVec 32) : Prop :=
  (∀ a, (k0_off302 v1214) a + S7x1x512.size a ≤ S7x50x512.size a)
theorem k0_off302_inb : ∀ (v1214 : BitVec 32) (k0_hw151 : k0_chk151 v1214), ∀ a, (k0_off302 v1214) a + S7x1x512.size a ≤ S7x50x512.size a := fun v1214 k0_hw151 => k0_hw151

def k0_off303 (i : grid0.Coords) : Fin 3 → Nat :=
  let c3_1384 : Index := 3#32
  let c5_1385 : Index := 5#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1220 : Index := Scalar.indexCast v1015
  ![3, 5, v1220.toNat]
def k0_off304 (v1221 : BitVec 32) : Fin 3 → Nat :=
  let c0_1390 : Index := 0#32
  let v1224 : Index := Scalar.indexCast v1221
  let c0_1391 : Index := 0#32
  ![0, v1224.toNat, 0]

def k0_chk152 (v1221 : BitVec 32) : Prop :=
  (∀ a, (k0_off304 v1221) a + S7x1x512.size a ≤ S7x50x512.size a)
theorem k0_off304_inb : ∀ (v1221 : BitVec 32) (k0_hw152 : k0_chk152 v1221), ∀ a, (k0_off304 v1221) a + S7x1x512.size a ≤ S7x50x512.size a := fun v1221 k0_hw152 => k0_hw152

def k0_off305 (i : grid0.Coords) : Fin 3 → Nat :=
  let c3_1392 : Index := 3#32
  let c6_1393 : Index := 6#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1227 : Index := Scalar.indexCast v1015
  ![3, 6, v1227.toNat]
def k0_off306 (v1228 : BitVec 32) : Fin 3 → Nat :=
  let c0_1398 : Index := 0#32
  let v1231 : Index := Scalar.indexCast v1228
  let c0_1399 : Index := 0#32
  ![0, v1231.toNat, 0]

def k0_chk153 (v1228 : BitVec 32) : Prop :=
  (∀ a, (k0_off306 v1228) a + S7x1x512.size a ≤ S7x50x512.size a)
theorem k0_off306_inb : ∀ (v1228 : BitVec 32) (k0_hw153 : k0_chk153 v1228), ∀ a, (k0_off306 v1228) a + S7x1x512.size a ≤ S7x50x512.size a := fun v1228 k0_hw153 => k0_hw153

def k0_off307 (i : grid0.Coords) : Fin 3 → Nat :=
  let c4_1404 : Index := 4#32
  let c2_1405 : Index := 2#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1238 : Index := Scalar.indexCast v1015
  ![4, 2, v1238.toNat]
def k0_off308 (v1239 : BitVec 32) : Fin 3 → Nat :=
  let c0_1410 : Index := 0#32
  let v1242 : Index := Scalar.indexCast v1239
  let c0_1411 : Index := 0#32
  ![0, v1242.toNat, 0]

def k0_chk154 (v1239 : BitVec 32) : Prop :=
  (∀ a, (k0_off308 v1239) a + S7x1x512.size a ≤ S7x50x512.size a)
theorem k0_off308_inb : ∀ (v1239 : BitVec 32) (k0_hw154 : k0_chk154 v1239), ∀ a, (k0_off308 v1239) a + S7x1x512.size a ≤ S7x50x512.size a := fun v1239 k0_hw154 => k0_hw154

def k0_off309 (i : grid0.Coords) : Fin 3 → Nat :=
  let c4_1412 : Index := 4#32
  let c3_1413 : Index := 3#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1244 : Index := Scalar.indexCast v1015
  ![4, 3, v1244.toNat]
def k0_off310 (v1245 : BitVec 32) : Fin 3 → Nat :=
  let c0_1418 : Index := 0#32
  let v1248 : Index := Scalar.indexCast v1245
  let c0_1419 : Index := 0#32
  ![0, v1248.toNat, 0]

def k0_chk155 (v1245 : BitVec 32) : Prop :=
  (∀ a, (k0_off310 v1245) a + S7x1x512.size a ≤ S7x50x512.size a)
theorem k0_off310_inb : ∀ (v1245 : BitVec 32) (k0_hw155 : k0_chk155 v1245), ∀ a, (k0_off310 v1245) a + S7x1x512.size a ≤ S7x50x512.size a := fun v1245 k0_hw155 => k0_hw155

def k0_off311 (i : grid0.Coords) : Fin 3 → Nat :=
  let c4_1420 : Index := 4#32
  let c4_1421 : Index := 4#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1251 : Index := Scalar.indexCast v1015
  ![4, 4, v1251.toNat]
def k0_off312 (v1252 : BitVec 32) : Fin 3 → Nat :=
  let c0_1426 : Index := 0#32
  let v1255 : Index := Scalar.indexCast v1252
  let c0_1427 : Index := 0#32
  ![0, v1255.toNat, 0]

def k0_chk156 (v1252 : BitVec 32) : Prop :=
  (∀ a, (k0_off312 v1252) a + S7x1x512.size a ≤ S7x50x512.size a)
theorem k0_off312_inb : ∀ (v1252 : BitVec 32) (k0_hw156 : k0_chk156 v1252), ∀ a, (k0_off312 v1252) a + S7x1x512.size a ≤ S7x50x512.size a := fun v1252 k0_hw156 => k0_hw156

def k0_off313 (i : grid0.Coords) : Fin 3 → Nat :=
  let c4_1428 : Index := 4#32
  let c5_1429 : Index := 5#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1258 : Index := Scalar.indexCast v1015
  ![4, 5, v1258.toNat]
def k0_off314 (v1259 : BitVec 32) : Fin 3 → Nat :=
  let c0_1434 : Index := 0#32
  let v1262 : Index := Scalar.indexCast v1259
  let c0_1435 : Index := 0#32
  ![0, v1262.toNat, 0]

def k0_chk157 (v1259 : BitVec 32) : Prop :=
  (∀ a, (k0_off314 v1259) a + S7x1x512.size a ≤ S7x50x512.size a)
theorem k0_off314_inb : ∀ (v1259 : BitVec 32) (k0_hw157 : k0_chk157 v1259), ∀ a, (k0_off314 v1259) a + S7x1x512.size a ≤ S7x50x512.size a := fun v1259 k0_hw157 => k0_hw157

def k0_off315 (i : grid0.Coords) : Fin 3 → Nat :=
  let c4_1436 : Index := 4#32
  let c6_1437 : Index := 6#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1265 : Index := Scalar.indexCast v1015
  ![4, 6, v1265.toNat]
def k0_off316 (v1266 : BitVec 32) : Fin 3 → Nat :=
  let c0_1442 : Index := 0#32
  let v1269 : Index := Scalar.indexCast v1266
  let c0_1443 : Index := 0#32
  ![0, v1269.toNat, 0]

def k0_chk158 (v1266 : BitVec 32) : Prop :=
  (∀ a, (k0_off316 v1266) a + S7x1x512.size a ≤ S7x50x512.size a)
theorem k0_off316_inb : ∀ (v1266 : BitVec 32) (k0_hw158 : k0_chk158 v1266), ∀ a, (k0_off316 v1266) a + S7x1x512.size a ≤ S7x50x512.size a := fun v1266 k0_hw158 => k0_hw158

def k0_off317 (i : grid0.Coords) : Fin 3 → Nat :=
  let c5_1448 : Index := 5#32
  let c2_1449 : Index := 2#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1276 : Index := Scalar.indexCast v1015
  ![5, 2, v1276.toNat]
def k0_off318 (v1277 : BitVec 32) : Fin 3 → Nat :=
  let c0_1454 : Index := 0#32
  let v1280 : Index := Scalar.indexCast v1277
  let c0_1455 : Index := 0#32
  ![0, v1280.toNat, 0]

def k0_chk159 (v1277 : BitVec 32) : Prop :=
  (∀ a, (k0_off318 v1277) a + S7x1x512.size a ≤ S7x50x512.size a)
theorem k0_off318_inb : ∀ (v1277 : BitVec 32) (k0_hw159 : k0_chk159 v1277), ∀ a, (k0_off318 v1277) a + S7x1x512.size a ≤ S7x50x512.size a := fun v1277 k0_hw159 => k0_hw159

def k0_off319 (i : grid0.Coords) : Fin 3 → Nat :=
  let c5_1456 : Index := 5#32
  let c3_1457 : Index := 3#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1282 : Index := Scalar.indexCast v1015
  ![5, 3, v1282.toNat]
def k0_off320 (v1283 : BitVec 32) : Fin 3 → Nat :=
  let c0_1462 : Index := 0#32
  let v1286 : Index := Scalar.indexCast v1283
  let c0_1463 : Index := 0#32
  ![0, v1286.toNat, 0]

def k0_chk160 (v1283 : BitVec 32) : Prop :=
  (∀ a, (k0_off320 v1283) a + S7x1x512.size a ≤ S7x50x512.size a)
theorem k0_off320_inb : ∀ (v1283 : BitVec 32) (k0_hw160 : k0_chk160 v1283), ∀ a, (k0_off320 v1283) a + S7x1x512.size a ≤ S7x50x512.size a := fun v1283 k0_hw160 => k0_hw160

def k0_off321 (i : grid0.Coords) : Fin 3 → Nat :=
  let c5_1464 : Index := 5#32
  let c4_1465 : Index := 4#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1289 : Index := Scalar.indexCast v1015
  ![5, 4, v1289.toNat]
def k0_off322 (v1290 : BitVec 32) : Fin 3 → Nat :=
  let c0_1470 : Index := 0#32
  let v1293 : Index := Scalar.indexCast v1290
  let c0_1471 : Index := 0#32
  ![0, v1293.toNat, 0]

def k0_chk161 (v1290 : BitVec 32) : Prop :=
  (∀ a, (k0_off322 v1290) a + S7x1x512.size a ≤ S7x50x512.size a)
theorem k0_off322_inb : ∀ (v1290 : BitVec 32) (k0_hw161 : k0_chk161 v1290), ∀ a, (k0_off322 v1290) a + S7x1x512.size a ≤ S7x50x512.size a := fun v1290 k0_hw161 => k0_hw161

def k0_off323 (i : grid0.Coords) : Fin 3 → Nat :=
  let c5_1472 : Index := 5#32
  let c5_1473 : Index := 5#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1296 : Index := Scalar.indexCast v1015
  ![5, 5, v1296.toNat]
def k0_off324 (v1297 : BitVec 32) : Fin 3 → Nat :=
  let c0_1478 : Index := 0#32
  let v1300 : Index := Scalar.indexCast v1297
  let c0_1479 : Index := 0#32
  ![0, v1300.toNat, 0]

def k0_chk162 (v1297 : BitVec 32) : Prop :=
  (∀ a, (k0_off324 v1297) a + S7x1x512.size a ≤ S7x50x512.size a)
theorem k0_off324_inb : ∀ (v1297 : BitVec 32) (k0_hw162 : k0_chk162 v1297), ∀ a, (k0_off324 v1297) a + S7x1x512.size a ≤ S7x50x512.size a := fun v1297 k0_hw162 => k0_hw162

def k0_off325 (i : grid0.Coords) : Fin 3 → Nat :=
  let c5_1480 : Index := 5#32
  let c6_1481 : Index := 6#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1303 : Index := Scalar.indexCast v1015
  ![5, 6, v1303.toNat]
def k0_off326 (v1304 : BitVec 32) : Fin 3 → Nat :=
  let c0_1486 : Index := 0#32
  let v1307 : Index := Scalar.indexCast v1304
  let c0_1487 : Index := 0#32
  ![0, v1307.toNat, 0]

def k0_chk163 (v1304 : BitVec 32) : Prop :=
  (∀ a, (k0_off326 v1304) a + S7x1x512.size a ≤ S7x50x512.size a)
theorem k0_off326_inb : ∀ (v1304 : BitVec 32) (k0_hw163 : k0_chk163 v1304), ∀ a, (k0_off326 v1304) a + S7x1x512.size a ≤ S7x50x512.size a := fun v1304 k0_hw163 => k0_hw163

def k0_off327 (i : grid0.Coords) : Fin 3 → Nat :=
  let c6_1492 : Index := 6#32
  let c2_1493 : Index := 2#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1314 : Index := Scalar.indexCast v1015
  ![6, 2, v1314.toNat]
def k0_off328 (v1315 : BitVec 32) : Fin 3 → Nat :=
  let c0_1498 : Index := 0#32
  let v1318 : Index := Scalar.indexCast v1315
  let c0_1499 : Index := 0#32
  ![0, v1318.toNat, 0]

def k0_chk164 (v1315 : BitVec 32) : Prop :=
  (∀ a, (k0_off328 v1315) a + S7x1x512.size a ≤ S7x50x512.size a)
theorem k0_off328_inb : ∀ (v1315 : BitVec 32) (k0_hw164 : k0_chk164 v1315), ∀ a, (k0_off328 v1315) a + S7x1x512.size a ≤ S7x50x512.size a := fun v1315 k0_hw164 => k0_hw164

def k0_off329 (i : grid0.Coords) : Fin 3 → Nat :=
  let c6_1500 : Index := 6#32
  let c3_1501 : Index := 3#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1320 : Index := Scalar.indexCast v1015
  ![6, 3, v1320.toNat]
def k0_off330 (v1321 : BitVec 32) : Fin 3 → Nat :=
  let c0_1506 : Index := 0#32
  let v1324 : Index := Scalar.indexCast v1321
  let c0_1507 : Index := 0#32
  ![0, v1324.toNat, 0]

def k0_chk165 (v1321 : BitVec 32) : Prop :=
  (∀ a, (k0_off330 v1321) a + S7x1x512.size a ≤ S7x50x512.size a)
theorem k0_off330_inb : ∀ (v1321 : BitVec 32) (k0_hw165 : k0_chk165 v1321), ∀ a, (k0_off330 v1321) a + S7x1x512.size a ≤ S7x50x512.size a := fun v1321 k0_hw165 => k0_hw165

def k0_off331 (i : grid0.Coords) : Fin 3 → Nat :=
  let c6_1508 : Index := 6#32
  let c4_1509 : Index := 4#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1327 : Index := Scalar.indexCast v1015
  ![6, 4, v1327.toNat]
def k0_off332 (v1328 : BitVec 32) : Fin 3 → Nat :=
  let c0_1514 : Index := 0#32
  let v1331 : Index := Scalar.indexCast v1328
  let c0_1515 : Index := 0#32
  ![0, v1331.toNat, 0]

def k0_chk166 (v1328 : BitVec 32) : Prop :=
  (∀ a, (k0_off332 v1328) a + S7x1x512.size a ≤ S7x50x512.size a)
theorem k0_off332_inb : ∀ (v1328 : BitVec 32) (k0_hw166 : k0_chk166 v1328), ∀ a, (k0_off332 v1328) a + S7x1x512.size a ≤ S7x50x512.size a := fun v1328 k0_hw166 => k0_hw166

def k0_off333 (i : grid0.Coords) : Fin 3 → Nat :=
  let c6_1516 : Index := 6#32
  let c5_1517 : Index := 5#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1334 : Index := Scalar.indexCast v1015
  ![6, 5, v1334.toNat]
def k0_off334 (v1335 : BitVec 32) : Fin 3 → Nat :=
  let c0_1522 : Index := 0#32
  let v1338 : Index := Scalar.indexCast v1335
  let c0_1523 : Index := 0#32
  ![0, v1338.toNat, 0]

def k0_chk167 (v1335 : BitVec 32) : Prop :=
  (∀ a, (k0_off334 v1335) a + S7x1x512.size a ≤ S7x50x512.size a)
theorem k0_off334_inb : ∀ (v1335 : BitVec 32) (k0_hw167 : k0_chk167 v1335), ∀ a, (k0_off334 v1335) a + S7x1x512.size a ≤ S7x50x512.size a := fun v1335 k0_hw167 => k0_hw167

def k0_off335 (i : grid0.Coords) : Fin 3 → Nat :=
  let c6_1524 : Index := 6#32
  let c6_1525 : Index := 6#32
  let arg0 : BitVec 32 := BitVec.ofNat 32 (i 0).val
  let c32_i32_1150 : BitVec 32 := 32#32
  let v1014 : BitVec 32 := Scalar.muli arg0 c32_i32_1150
  let c3_i32 : BitVec 32 := 3#32
  let v1015 : BitVec 32 := Scalar.addi v1014 c3_i32
  let v1341 : Index := Scalar.indexCast v1015
  ![6, 6, v1341.toNat]
def k0_off336 (v1342 : BitVec 32) : Fin 3 → Nat :=
  let c0_1530 : Index := 0#32
  let v1345 : Index := Scalar.indexCast v1342
  let c0_1531 : Index := 0#32
  ![0, v1345.toNat, 0]

def k0_chk168 (v1342 : BitVec 32) : Prop :=
  (∀ a, (k0_off336 v1342) a + S7x1x512.size a ≤ S7x50x512.size a)
theorem k0_off336_inb : ∀ (v1342 : BitVec 32) (k0_hw168 : k0_chk168 v1342), ∀ a, (k0_off336 v1342) a + S7x1x512.size a ≤ S7x50x512.size a := fun v1342 k0_hw168 => k0_hw168

def k0_off337 (i : grid0.Coords) : Fin 3 → Nat :=
  let c0_1537 : Index := 0#32
  let c0_1538 : Index := 0#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1354 : Index := Scalar.indexCast v1353
  ![0, 0, v1354.toNat]
def k0_off338 (v1355 : BitVec 32) : Fin 3 → Nat :=
  let v1356 : Index := Scalar.indexCast v1355
  let c0_1539 : Index := 0#32
  let c0_1540 : Index := 0#32
  ![v1356.toNat, 0, 0]

def k0_chk169 (v1355 : BitVec 32) : Prop :=
  (∀ a, (k0_off338 v1355) a + S1x50x512.size a ≤ S250x50x512.size a)
theorem k0_off338_inb : ∀ (v1355 : BitVec 32) (k0_hw169 : k0_chk169 v1355), ∀ a, (k0_off338 v1355) a + S1x50x512.size a ≤ S250x50x512.size a := fun v1355 k0_hw169 => k0_hw169

def k0_off339 (i : grid0.Coords) : Fin 3 → Nat :=
  let c1_1548 : Index := 1#32
  let c0_1549 : Index := 0#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1364 : Index := Scalar.indexCast v1353
  ![1, 0, v1364.toNat]
def k0_off340 (v1365 : BitVec 32) : Fin 3 → Nat :=
  let v1366 : Index := Scalar.indexCast v1365
  let c0_1550 : Index := 0#32
  let c0_1551 : Index := 0#32
  ![v1366.toNat, 0, 0]

def k0_chk170 (v1365 : BitVec 32) : Prop :=
  (∀ a, (k0_off340 v1365) a + S1x50x512.size a ≤ S250x50x512.size a)
theorem k0_off340_inb : ∀ (v1365 : BitVec 32) (k0_hw170 : k0_chk170 v1365), ∀ a, (k0_off340 v1365) a + S1x50x512.size a ≤ S250x50x512.size a := fun v1365 k0_hw170 => k0_hw170

def k0_off341 (i : grid0.Coords) : Fin 3 → Nat :=
  let c2_1559 : Index := 2#32
  let c0_1560 : Index := 0#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1374 : Index := Scalar.indexCast v1353
  ![2, 0, v1374.toNat]
def k0_off342 (v1375 : BitVec 32) : Fin 3 → Nat :=
  let v1376 : Index := Scalar.indexCast v1375
  let c0_1561 : Index := 0#32
  let c0_1562 : Index := 0#32
  ![v1376.toNat, 0, 0]

def k0_chk171 (v1375 : BitVec 32) : Prop :=
  (∀ a, (k0_off342 v1375) a + S1x50x512.size a ≤ S250x50x512.size a)
theorem k0_off342_inb : ∀ (v1375 : BitVec 32) (k0_hw171 : k0_chk171 v1375), ∀ a, (k0_off342 v1375) a + S1x50x512.size a ≤ S250x50x512.size a := fun v1375 k0_hw171 => k0_hw171

def k0_off343 (i : grid0.Coords) : Fin 3 → Nat :=
  let c3_1570 : Index := 3#32
  let c0_1571 : Index := 0#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1384 : Index := Scalar.indexCast v1353
  ![3, 0, v1384.toNat]
def k0_off344 (v1385 : BitVec 32) : Fin 3 → Nat :=
  let v1386 : Index := Scalar.indexCast v1385
  let c0_1572 : Index := 0#32
  let c0_1573 : Index := 0#32
  ![v1386.toNat, 0, 0]

def k0_chk172 (v1385 : BitVec 32) : Prop :=
  (∀ a, (k0_off344 v1385) a + S1x50x512.size a ≤ S250x50x512.size a)
theorem k0_off344_inb : ∀ (v1385 : BitVec 32) (k0_hw172 : k0_chk172 v1385), ∀ a, (k0_off344 v1385) a + S1x50x512.size a ≤ S250x50x512.size a := fun v1385 k0_hw172 => k0_hw172

def k0_off345 (i : grid0.Coords) : Fin 3 → Nat :=
  let c4_1581 : Index := 4#32
  let c0_1582 : Index := 0#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1394 : Index := Scalar.indexCast v1353
  ![4, 0, v1394.toNat]
def k0_off346 (v1395 : BitVec 32) : Fin 3 → Nat :=
  let v1396 : Index := Scalar.indexCast v1395
  let c0_1583 : Index := 0#32
  let c0_1584 : Index := 0#32
  ![v1396.toNat, 0, 0]

def k0_chk173 (v1395 : BitVec 32) : Prop :=
  (∀ a, (k0_off346 v1395) a + S1x50x512.size a ≤ S250x50x512.size a)
theorem k0_off346_inb : ∀ (v1395 : BitVec 32) (k0_hw173 : k0_chk173 v1395), ∀ a, (k0_off346 v1395) a + S1x50x512.size a ≤ S250x50x512.size a := fun v1395 k0_hw173 => k0_hw173

def k0_off347 (i : grid0.Coords) : Fin 3 → Nat :=
  let c5_1592 : Index := 5#32
  let c0_1593 : Index := 0#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1404 : Index := Scalar.indexCast v1353
  ![5, 0, v1404.toNat]
def k0_off348 (v1405 : BitVec 32) : Fin 3 → Nat :=
  let v1406 : Index := Scalar.indexCast v1405
  let c0_1594 : Index := 0#32
  let c0_1595 : Index := 0#32
  ![v1406.toNat, 0, 0]

def k0_chk174 (v1405 : BitVec 32) : Prop :=
  (∀ a, (k0_off348 v1405) a + S1x50x512.size a ≤ S250x50x512.size a)
theorem k0_off348_inb : ∀ (v1405 : BitVec 32) (k0_hw174 : k0_chk174 v1405), ∀ a, (k0_off348 v1405) a + S1x50x512.size a ≤ S250x50x512.size a := fun v1405 k0_hw174 => k0_hw174

def k0_off349 (i : grid0.Coords) : Fin 3 → Nat :=
  let c6_1603 : Index := 6#32
  let c0_1604 : Index := 0#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1414 : Index := Scalar.indexCast v1353
  ![6, 0, v1414.toNat]
def k0_off350 (v1415 : BitVec 32) : Fin 3 → Nat :=
  let v1416 : Index := Scalar.indexCast v1415
  let c0_1605 : Index := 0#32
  let c0_1606 : Index := 0#32
  ![v1416.toNat, 0, 0]

def k0_chk175 (v1415 : BitVec 32) : Prop :=
  (∀ a, (k0_off350 v1415) a + S1x50x512.size a ≤ S250x50x512.size a)
theorem k0_off350_inb : ∀ (v1415 : BitVec 32) (k0_hw175 : k0_chk175 v1415), ∀ a, (k0_off350 v1415) a + S1x50x512.size a ≤ S250x50x512.size a := fun v1415 k0_hw175 => k0_hw175

def k0_off351 (i : grid0.Coords) : Fin 3 → Nat :=
  let c0_1614 : Index := 0#32
  let c2_1615 : Index := 2#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1424 : Index := Scalar.indexCast v1353
  ![0, 2, v1424.toNat]
def k0_off352 (v1425 : BitVec 32) : Fin 3 → Nat :=
  let c0_1620 : Index := 0#32
  let v1428 : Index := Scalar.indexCast v1425
  let c0_1621 : Index := 0#32
  ![0, v1428.toNat, 0]

def k0_chk176 (v1425 : BitVec 32) : Prop :=
  (∀ a, (k0_off352 v1425) a + S7x1x512.size a ≤ S7x50x512.size a)
theorem k0_off352_inb : ∀ (v1425 : BitVec 32) (k0_hw176 : k0_chk176 v1425), ∀ a, (k0_off352 v1425) a + S7x1x512.size a ≤ S7x50x512.size a := fun v1425 k0_hw176 => k0_hw176

def k0_off353 (i : grid0.Coords) : Fin 3 → Nat :=
  let c0_1622 : Index := 0#32
  let c3_1623 : Index := 3#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1430 : Index := Scalar.indexCast v1353
  ![0, 3, v1430.toNat]
def k0_off354 (v1431 : BitVec 32) : Fin 3 → Nat :=
  let c0_1628 : Index := 0#32
  let v1434 : Index := Scalar.indexCast v1431
  let c0_1629 : Index := 0#32
  ![0, v1434.toNat, 0]

def k0_chk177 (v1431 : BitVec 32) : Prop :=
  (∀ a, (k0_off354 v1431) a + S7x1x512.size a ≤ S7x50x512.size a)
theorem k0_off354_inb : ∀ (v1431 : BitVec 32) (k0_hw177 : k0_chk177 v1431), ∀ a, (k0_off354 v1431) a + S7x1x512.size a ≤ S7x50x512.size a := fun v1431 k0_hw177 => k0_hw177

def k0_off355 (i : grid0.Coords) : Fin 3 → Nat :=
  let c0_1630 : Index := 0#32
  let c4_1631 : Index := 4#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1437 : Index := Scalar.indexCast v1353
  ![0, 4, v1437.toNat]
def k0_off356 (v1438 : BitVec 32) : Fin 3 → Nat :=
  let c0_1636 : Index := 0#32
  let v1441 : Index := Scalar.indexCast v1438
  let c0_1637 : Index := 0#32
  ![0, v1441.toNat, 0]

def k0_chk178 (v1438 : BitVec 32) : Prop :=
  (∀ a, (k0_off356 v1438) a + S7x1x512.size a ≤ S7x50x512.size a)
theorem k0_off356_inb : ∀ (v1438 : BitVec 32) (k0_hw178 : k0_chk178 v1438), ∀ a, (k0_off356 v1438) a + S7x1x512.size a ≤ S7x50x512.size a := fun v1438 k0_hw178 => k0_hw178

def k0_off357 (i : grid0.Coords) : Fin 3 → Nat :=
  let c0_1638 : Index := 0#32
  let c5_1639 : Index := 5#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1444 : Index := Scalar.indexCast v1353
  ![0, 5, v1444.toNat]
def k0_off358 (v1445 : BitVec 32) : Fin 3 → Nat :=
  let c0_1644 : Index := 0#32
  let v1448 : Index := Scalar.indexCast v1445
  let c0_1645 : Index := 0#32
  ![0, v1448.toNat, 0]

def k0_chk179 (v1445 : BitVec 32) : Prop :=
  (∀ a, (k0_off358 v1445) a + S7x1x512.size a ≤ S7x50x512.size a)
theorem k0_off358_inb : ∀ (v1445 : BitVec 32) (k0_hw179 : k0_chk179 v1445), ∀ a, (k0_off358 v1445) a + S7x1x512.size a ≤ S7x50x512.size a := fun v1445 k0_hw179 => k0_hw179

def k0_off359 (i : grid0.Coords) : Fin 3 → Nat :=
  let c0_1646 : Index := 0#32
  let c6_1647 : Index := 6#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1451 : Index := Scalar.indexCast v1353
  ![0, 6, v1451.toNat]
def k0_off360 (v1452 : BitVec 32) : Fin 3 → Nat :=
  let c0_1652 : Index := 0#32
  let v1455 : Index := Scalar.indexCast v1452
  let c0_1653 : Index := 0#32
  ![0, v1455.toNat, 0]

def k0_chk180 (v1452 : BitVec 32) : Prop :=
  (∀ a, (k0_off360 v1452) a + S7x1x512.size a ≤ S7x50x512.size a)
theorem k0_off360_inb : ∀ (v1452 : BitVec 32) (k0_hw180 : k0_chk180 v1452), ∀ a, (k0_off360 v1452) a + S7x1x512.size a ≤ S7x50x512.size a := fun v1452 k0_hw180 => k0_hw180

def k0_off361 (i : grid0.Coords) : Fin 3 → Nat :=
  let c1_1658 : Index := 1#32
  let c2_1659 : Index := 2#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1462 : Index := Scalar.indexCast v1353
  ![1, 2, v1462.toNat]
def k0_off362 (v1463 : BitVec 32) : Fin 3 → Nat :=
  let c0_1664 : Index := 0#32
  let v1466 : Index := Scalar.indexCast v1463
  let c0_1665 : Index := 0#32
  ![0, v1466.toNat, 0]

def k0_chk181 (v1463 : BitVec 32) : Prop :=
  (∀ a, (k0_off362 v1463) a + S7x1x512.size a ≤ S7x50x512.size a)
theorem k0_off362_inb : ∀ (v1463 : BitVec 32) (k0_hw181 : k0_chk181 v1463), ∀ a, (k0_off362 v1463) a + S7x1x512.size a ≤ S7x50x512.size a := fun v1463 k0_hw181 => k0_hw181

def k0_off363 (i : grid0.Coords) : Fin 3 → Nat :=
  let c1_1666 : Index := 1#32
  let c3_1667 : Index := 3#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1468 : Index := Scalar.indexCast v1353
  ![1, 3, v1468.toNat]
def k0_off364 (v1469 : BitVec 32) : Fin 3 → Nat :=
  let c0_1672 : Index := 0#32
  let v1472 : Index := Scalar.indexCast v1469
  let c0_1673 : Index := 0#32
  ![0, v1472.toNat, 0]

def k0_chk182 (v1469 : BitVec 32) : Prop :=
  (∀ a, (k0_off364 v1469) a + S7x1x512.size a ≤ S7x50x512.size a)
theorem k0_off364_inb : ∀ (v1469 : BitVec 32) (k0_hw182 : k0_chk182 v1469), ∀ a, (k0_off364 v1469) a + S7x1x512.size a ≤ S7x50x512.size a := fun v1469 k0_hw182 => k0_hw182

def k0_off365 (i : grid0.Coords) : Fin 3 → Nat :=
  let c1_1674 : Index := 1#32
  let c4_1675 : Index := 4#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1475 : Index := Scalar.indexCast v1353
  ![1, 4, v1475.toNat]
def k0_off366 (v1476 : BitVec 32) : Fin 3 → Nat :=
  let c0_1680 : Index := 0#32
  let v1479 : Index := Scalar.indexCast v1476
  let c0_1681 : Index := 0#32
  ![0, v1479.toNat, 0]

def k0_chk183 (v1476 : BitVec 32) : Prop :=
  (∀ a, (k0_off366 v1476) a + S7x1x512.size a ≤ S7x50x512.size a)
theorem k0_off366_inb : ∀ (v1476 : BitVec 32) (k0_hw183 : k0_chk183 v1476), ∀ a, (k0_off366 v1476) a + S7x1x512.size a ≤ S7x50x512.size a := fun v1476 k0_hw183 => k0_hw183

def k0_off367 (i : grid0.Coords) : Fin 3 → Nat :=
  let c1_1682 : Index := 1#32
  let c5_1683 : Index := 5#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1482 : Index := Scalar.indexCast v1353
  ![1, 5, v1482.toNat]
def k0_off368 (v1483 : BitVec 32) : Fin 3 → Nat :=
  let c0_1688 : Index := 0#32
  let v1486 : Index := Scalar.indexCast v1483
  let c0_1689 : Index := 0#32
  ![0, v1486.toNat, 0]

def k0_chk184 (v1483 : BitVec 32) : Prop :=
  (∀ a, (k0_off368 v1483) a + S7x1x512.size a ≤ S7x50x512.size a)
theorem k0_off368_inb : ∀ (v1483 : BitVec 32) (k0_hw184 : k0_chk184 v1483), ∀ a, (k0_off368 v1483) a + S7x1x512.size a ≤ S7x50x512.size a := fun v1483 k0_hw184 => k0_hw184

def k0_off369 (i : grid0.Coords) : Fin 3 → Nat :=
  let c1_1690 : Index := 1#32
  let c6_1691 : Index := 6#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1489 : Index := Scalar.indexCast v1353
  ![1, 6, v1489.toNat]
def k0_off370 (v1490 : BitVec 32) : Fin 3 → Nat :=
  let c0_1696 : Index := 0#32
  let v1493 : Index := Scalar.indexCast v1490
  let c0_1697 : Index := 0#32
  ![0, v1493.toNat, 0]

def k0_chk185 (v1490 : BitVec 32) : Prop :=
  (∀ a, (k0_off370 v1490) a + S7x1x512.size a ≤ S7x50x512.size a)
theorem k0_off370_inb : ∀ (v1490 : BitVec 32) (k0_hw185 : k0_chk185 v1490), ∀ a, (k0_off370 v1490) a + S7x1x512.size a ≤ S7x50x512.size a := fun v1490 k0_hw185 => k0_hw185

def k0_off371 (i : grid0.Coords) : Fin 3 → Nat :=
  let c2_1702 : Index := 2#32
  let c2_1703 : Index := 2#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1500 : Index := Scalar.indexCast v1353
  ![2, 2, v1500.toNat]
def k0_off372 (v1501 : BitVec 32) : Fin 3 → Nat :=
  let c0_1708 : Index := 0#32
  let v1504 : Index := Scalar.indexCast v1501
  let c0_1709 : Index := 0#32
  ![0, v1504.toNat, 0]

def k0_chk186 (v1501 : BitVec 32) : Prop :=
  (∀ a, (k0_off372 v1501) a + S7x1x512.size a ≤ S7x50x512.size a)
theorem k0_off372_inb : ∀ (v1501 : BitVec 32) (k0_hw186 : k0_chk186 v1501), ∀ a, (k0_off372 v1501) a + S7x1x512.size a ≤ S7x50x512.size a := fun v1501 k0_hw186 => k0_hw186

def k0_off373 (i : grid0.Coords) : Fin 3 → Nat :=
  let c2_1710 : Index := 2#32
  let c3_1711 : Index := 3#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1506 : Index := Scalar.indexCast v1353
  ![2, 3, v1506.toNat]
def k0_off374 (v1507 : BitVec 32) : Fin 3 → Nat :=
  let c0_1716 : Index := 0#32
  let v1510 : Index := Scalar.indexCast v1507
  let c0_1717 : Index := 0#32
  ![0, v1510.toNat, 0]

def k0_chk187 (v1507 : BitVec 32) : Prop :=
  (∀ a, (k0_off374 v1507) a + S7x1x512.size a ≤ S7x50x512.size a)
theorem k0_off374_inb : ∀ (v1507 : BitVec 32) (k0_hw187 : k0_chk187 v1507), ∀ a, (k0_off374 v1507) a + S7x1x512.size a ≤ S7x50x512.size a := fun v1507 k0_hw187 => k0_hw187

def k0_off375 (i : grid0.Coords) : Fin 3 → Nat :=
  let c2_1718 : Index := 2#32
  let c4_1719 : Index := 4#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1513 : Index := Scalar.indexCast v1353
  ![2, 4, v1513.toNat]
def k0_off376 (v1514 : BitVec 32) : Fin 3 → Nat :=
  let c0_1724 : Index := 0#32
  let v1517 : Index := Scalar.indexCast v1514
  let c0_1725 : Index := 0#32
  ![0, v1517.toNat, 0]

def k0_chk188 (v1514 : BitVec 32) : Prop :=
  (∀ a, (k0_off376 v1514) a + S7x1x512.size a ≤ S7x50x512.size a)
theorem k0_off376_inb : ∀ (v1514 : BitVec 32) (k0_hw188 : k0_chk188 v1514), ∀ a, (k0_off376 v1514) a + S7x1x512.size a ≤ S7x50x512.size a := fun v1514 k0_hw188 => k0_hw188

def k0_off377 (i : grid0.Coords) : Fin 3 → Nat :=
  let c2_1726 : Index := 2#32
  let c5_1727 : Index := 5#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1520 : Index := Scalar.indexCast v1353
  ![2, 5, v1520.toNat]
def k0_off378 (v1521 : BitVec 32) : Fin 3 → Nat :=
  let c0_1732 : Index := 0#32
  let v1524 : Index := Scalar.indexCast v1521
  let c0_1733 : Index := 0#32
  ![0, v1524.toNat, 0]

def k0_chk189 (v1521 : BitVec 32) : Prop :=
  (∀ a, (k0_off378 v1521) a + S7x1x512.size a ≤ S7x50x512.size a)
theorem k0_off378_inb : ∀ (v1521 : BitVec 32) (k0_hw189 : k0_chk189 v1521), ∀ a, (k0_off378 v1521) a + S7x1x512.size a ≤ S7x50x512.size a := fun v1521 k0_hw189 => k0_hw189

def k0_off379 (i : grid0.Coords) : Fin 3 → Nat :=
  let c2_1734 : Index := 2#32
  let c6_1735 : Index := 6#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1527 : Index := Scalar.indexCast v1353
  ![2, 6, v1527.toNat]
def k0_off380 (v1528 : BitVec 32) : Fin 3 → Nat :=
  let c0_1740 : Index := 0#32
  let v1531 : Index := Scalar.indexCast v1528
  let c0_1741 : Index := 0#32
  ![0, v1531.toNat, 0]

def k0_chk190 (v1528 : BitVec 32) : Prop :=
  (∀ a, (k0_off380 v1528) a + S7x1x512.size a ≤ S7x50x512.size a)
theorem k0_off380_inb : ∀ (v1528 : BitVec 32) (k0_hw190 : k0_chk190 v1528), ∀ a, (k0_off380 v1528) a + S7x1x512.size a ≤ S7x50x512.size a := fun v1528 k0_hw190 => k0_hw190

def k0_off381 (i : grid0.Coords) : Fin 3 → Nat :=
  let c3_1746 : Index := 3#32
  let c2_1747 : Index := 2#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1538 : Index := Scalar.indexCast v1353
  ![3, 2, v1538.toNat]
def k0_off382 (v1539 : BitVec 32) : Fin 3 → Nat :=
  let c0_1752 : Index := 0#32
  let v1542 : Index := Scalar.indexCast v1539
  let c0_1753 : Index := 0#32
  ![0, v1542.toNat, 0]

def k0_chk191 (v1539 : BitVec 32) : Prop :=
  (∀ a, (k0_off382 v1539) a + S7x1x512.size a ≤ S7x50x512.size a)
theorem k0_off382_inb : ∀ (v1539 : BitVec 32) (k0_hw191 : k0_chk191 v1539), ∀ a, (k0_off382 v1539) a + S7x1x512.size a ≤ S7x50x512.size a := fun v1539 k0_hw191 => k0_hw191

def k0_off383 (i : grid0.Coords) : Fin 3 → Nat :=
  let c3_1754 : Index := 3#32
  let c3_1755 : Index := 3#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1544 : Index := Scalar.indexCast v1353
  ![3, 3, v1544.toNat]
def k0_off384 (v1545 : BitVec 32) : Fin 3 → Nat :=
  let c0_1760 : Index := 0#32
  let v1548 : Index := Scalar.indexCast v1545
  let c0_1761 : Index := 0#32
  ![0, v1548.toNat, 0]

def k0_chk192 (v1545 : BitVec 32) : Prop :=
  (∀ a, (k0_off384 v1545) a + S7x1x512.size a ≤ S7x50x512.size a)
theorem k0_off384_inb : ∀ (v1545 : BitVec 32) (k0_hw192 : k0_chk192 v1545), ∀ a, (k0_off384 v1545) a + S7x1x512.size a ≤ S7x50x512.size a := fun v1545 k0_hw192 => k0_hw192

def k0_off385 (i : grid0.Coords) : Fin 3 → Nat :=
  let c3_1762 : Index := 3#32
  let c4_1763 : Index := 4#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1551 : Index := Scalar.indexCast v1353
  ![3, 4, v1551.toNat]
def k0_off386 (v1552 : BitVec 32) : Fin 3 → Nat :=
  let c0_1768 : Index := 0#32
  let v1555 : Index := Scalar.indexCast v1552
  let c0_1769 : Index := 0#32
  ![0, v1555.toNat, 0]

def k0_chk193 (v1552 : BitVec 32) : Prop :=
  (∀ a, (k0_off386 v1552) a + S7x1x512.size a ≤ S7x50x512.size a)
theorem k0_off386_inb : ∀ (v1552 : BitVec 32) (k0_hw193 : k0_chk193 v1552), ∀ a, (k0_off386 v1552) a + S7x1x512.size a ≤ S7x50x512.size a := fun v1552 k0_hw193 => k0_hw193

def k0_off387 (i : grid0.Coords) : Fin 3 → Nat :=
  let c3_1770 : Index := 3#32
  let c5_1771 : Index := 5#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1558 : Index := Scalar.indexCast v1353
  ![3, 5, v1558.toNat]
def k0_off388 (v1559 : BitVec 32) : Fin 3 → Nat :=
  let c0_1776 : Index := 0#32
  let v1562 : Index := Scalar.indexCast v1559
  let c0_1777 : Index := 0#32
  ![0, v1562.toNat, 0]

def k0_chk194 (v1559 : BitVec 32) : Prop :=
  (∀ a, (k0_off388 v1559) a + S7x1x512.size a ≤ S7x50x512.size a)
theorem k0_off388_inb : ∀ (v1559 : BitVec 32) (k0_hw194 : k0_chk194 v1559), ∀ a, (k0_off388 v1559) a + S7x1x512.size a ≤ S7x50x512.size a := fun v1559 k0_hw194 => k0_hw194

def k0_off389 (i : grid0.Coords) : Fin 3 → Nat :=
  let c3_1778 : Index := 3#32
  let c6_1779 : Index := 6#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1565 : Index := Scalar.indexCast v1353
  ![3, 6, v1565.toNat]
def k0_off390 (v1566 : BitVec 32) : Fin 3 → Nat :=
  let c0_1784 : Index := 0#32
  let v1569 : Index := Scalar.indexCast v1566
  let c0_1785 : Index := 0#32
  ![0, v1569.toNat, 0]

def k0_chk195 (v1566 : BitVec 32) : Prop :=
  (∀ a, (k0_off390 v1566) a + S7x1x512.size a ≤ S7x50x512.size a)
theorem k0_off390_inb : ∀ (v1566 : BitVec 32) (k0_hw195 : k0_chk195 v1566), ∀ a, (k0_off390 v1566) a + S7x1x512.size a ≤ S7x50x512.size a := fun v1566 k0_hw195 => k0_hw195

def k0_off391 (i : grid0.Coords) : Fin 3 → Nat :=
  let c4_1790 : Index := 4#32
  let c2_1791 : Index := 2#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1576 : Index := Scalar.indexCast v1353
  ![4, 2, v1576.toNat]
def k0_off392 (v1577 : BitVec 32) : Fin 3 → Nat :=
  let c0_1796 : Index := 0#32
  let v1580 : Index := Scalar.indexCast v1577
  let c0_1797 : Index := 0#32
  ![0, v1580.toNat, 0]

def k0_chk196 (v1577 : BitVec 32) : Prop :=
  (∀ a, (k0_off392 v1577) a + S7x1x512.size a ≤ S7x50x512.size a)
theorem k0_off392_inb : ∀ (v1577 : BitVec 32) (k0_hw196 : k0_chk196 v1577), ∀ a, (k0_off392 v1577) a + S7x1x512.size a ≤ S7x50x512.size a := fun v1577 k0_hw196 => k0_hw196

def k0_off393 (i : grid0.Coords) : Fin 3 → Nat :=
  let c4_1798 : Index := 4#32
  let c3_1799 : Index := 3#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1582 : Index := Scalar.indexCast v1353
  ![4, 3, v1582.toNat]
def k0_off394 (v1583 : BitVec 32) : Fin 3 → Nat :=
  let c0_1804 : Index := 0#32
  let v1586 : Index := Scalar.indexCast v1583
  let c0_1805 : Index := 0#32
  ![0, v1586.toNat, 0]

def k0_chk197 (v1583 : BitVec 32) : Prop :=
  (∀ a, (k0_off394 v1583) a + S7x1x512.size a ≤ S7x50x512.size a)
theorem k0_off394_inb : ∀ (v1583 : BitVec 32) (k0_hw197 : k0_chk197 v1583), ∀ a, (k0_off394 v1583) a + S7x1x512.size a ≤ S7x50x512.size a := fun v1583 k0_hw197 => k0_hw197

def k0_off395 (i : grid0.Coords) : Fin 3 → Nat :=
  let c4_1806 : Index := 4#32
  let c4_1807 : Index := 4#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1589 : Index := Scalar.indexCast v1353
  ![4, 4, v1589.toNat]
def k0_off396 (v1590 : BitVec 32) : Fin 3 → Nat :=
  let c0_1812 : Index := 0#32
  let v1593 : Index := Scalar.indexCast v1590
  let c0_1813 : Index := 0#32
  ![0, v1593.toNat, 0]

def k0_chk198 (v1590 : BitVec 32) : Prop :=
  (∀ a, (k0_off396 v1590) a + S7x1x512.size a ≤ S7x50x512.size a)
theorem k0_off396_inb : ∀ (v1590 : BitVec 32) (k0_hw198 : k0_chk198 v1590), ∀ a, (k0_off396 v1590) a + S7x1x512.size a ≤ S7x50x512.size a := fun v1590 k0_hw198 => k0_hw198

def k0_off397 (i : grid0.Coords) : Fin 3 → Nat :=
  let c4_1814 : Index := 4#32
  let c5_1815 : Index := 5#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1596 : Index := Scalar.indexCast v1353
  ![4, 5, v1596.toNat]
def k0_off398 (v1597 : BitVec 32) : Fin 3 → Nat :=
  let c0_1820 : Index := 0#32
  let v1600 : Index := Scalar.indexCast v1597
  let c0_1821 : Index := 0#32
  ![0, v1600.toNat, 0]

def k0_chk199 (v1597 : BitVec 32) : Prop :=
  (∀ a, (k0_off398 v1597) a + S7x1x512.size a ≤ S7x50x512.size a)
theorem k0_off398_inb : ∀ (v1597 : BitVec 32) (k0_hw199 : k0_chk199 v1597), ∀ a, (k0_off398 v1597) a + S7x1x512.size a ≤ S7x50x512.size a := fun v1597 k0_hw199 => k0_hw199

def k0_off399 (i : grid0.Coords) : Fin 3 → Nat :=
  let c4_1822 : Index := 4#32
  let c6_1823 : Index := 6#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1603 : Index := Scalar.indexCast v1353
  ![4, 6, v1603.toNat]
def k0_off400 (v1604 : BitVec 32) : Fin 3 → Nat :=
  let c0_1828 : Index := 0#32
  let v1607 : Index := Scalar.indexCast v1604
  let c0_1829 : Index := 0#32
  ![0, v1607.toNat, 0]

def k0_chk200 (v1604 : BitVec 32) : Prop :=
  (∀ a, (k0_off400 v1604) a + S7x1x512.size a ≤ S7x50x512.size a)
theorem k0_off400_inb : ∀ (v1604 : BitVec 32) (k0_hw200 : k0_chk200 v1604), ∀ a, (k0_off400 v1604) a + S7x1x512.size a ≤ S7x50x512.size a := fun v1604 k0_hw200 => k0_hw200

def k0_off401 (i : grid0.Coords) : Fin 3 → Nat :=
  let c5_1834 : Index := 5#32
  let c2_1835 : Index := 2#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1614 : Index := Scalar.indexCast v1353
  ![5, 2, v1614.toNat]
def k0_off402 (v1615 : BitVec 32) : Fin 3 → Nat :=
  let c0_1840 : Index := 0#32
  let v1618 : Index := Scalar.indexCast v1615
  let c0_1841 : Index := 0#32
  ![0, v1618.toNat, 0]

def k0_chk201 (v1615 : BitVec 32) : Prop :=
  (∀ a, (k0_off402 v1615) a + S7x1x512.size a ≤ S7x50x512.size a)
theorem k0_off402_inb : ∀ (v1615 : BitVec 32) (k0_hw201 : k0_chk201 v1615), ∀ a, (k0_off402 v1615) a + S7x1x512.size a ≤ S7x50x512.size a := fun v1615 k0_hw201 => k0_hw201

def k0_off403 (i : grid0.Coords) : Fin 3 → Nat :=
  let c5_1842 : Index := 5#32
  let c3_1843 : Index := 3#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1620 : Index := Scalar.indexCast v1353
  ![5, 3, v1620.toNat]
def k0_off404 (v1621 : BitVec 32) : Fin 3 → Nat :=
  let c0_1848 : Index := 0#32
  let v1624 : Index := Scalar.indexCast v1621
  let c0_1849 : Index := 0#32
  ![0, v1624.toNat, 0]

def k0_chk202 (v1621 : BitVec 32) : Prop :=
  (∀ a, (k0_off404 v1621) a + S7x1x512.size a ≤ S7x50x512.size a)
theorem k0_off404_inb : ∀ (v1621 : BitVec 32) (k0_hw202 : k0_chk202 v1621), ∀ a, (k0_off404 v1621) a + S7x1x512.size a ≤ S7x50x512.size a := fun v1621 k0_hw202 => k0_hw202

def k0_off405 (i : grid0.Coords) : Fin 3 → Nat :=
  let c5_1850 : Index := 5#32
  let c4_1851 : Index := 4#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1627 : Index := Scalar.indexCast v1353
  ![5, 4, v1627.toNat]
def k0_off406 (v1628 : BitVec 32) : Fin 3 → Nat :=
  let c0_1856 : Index := 0#32
  let v1631 : Index := Scalar.indexCast v1628
  let c0_1857 : Index := 0#32
  ![0, v1631.toNat, 0]

def k0_chk203 (v1628 : BitVec 32) : Prop :=
  (∀ a, (k0_off406 v1628) a + S7x1x512.size a ≤ S7x50x512.size a)
theorem k0_off406_inb : ∀ (v1628 : BitVec 32) (k0_hw203 : k0_chk203 v1628), ∀ a, (k0_off406 v1628) a + S7x1x512.size a ≤ S7x50x512.size a := fun v1628 k0_hw203 => k0_hw203

def k0_off407 (i : grid0.Coords) : Fin 3 → Nat :=
  let c5_1858 : Index := 5#32
  let c5_1859 : Index := 5#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1634 : Index := Scalar.indexCast v1353
  ![5, 5, v1634.toNat]
def k0_off408 (v1635 : BitVec 32) : Fin 3 → Nat :=
  let c0_1864 : Index := 0#32
  let v1638 : Index := Scalar.indexCast v1635
  let c0_1865 : Index := 0#32
  ![0, v1638.toNat, 0]

def k0_chk204 (v1635 : BitVec 32) : Prop :=
  (∀ a, (k0_off408 v1635) a + S7x1x512.size a ≤ S7x50x512.size a)
theorem k0_off408_inb : ∀ (v1635 : BitVec 32) (k0_hw204 : k0_chk204 v1635), ∀ a, (k0_off408 v1635) a + S7x1x512.size a ≤ S7x50x512.size a := fun v1635 k0_hw204 => k0_hw204

def k0_off409 (i : grid0.Coords) : Fin 3 → Nat :=
  let c5_1866 : Index := 5#32
  let c6_1867 : Index := 6#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1641 : Index := Scalar.indexCast v1353
  ![5, 6, v1641.toNat]
def k0_off410 (v1642 : BitVec 32) : Fin 3 → Nat :=
  let c0_1872 : Index := 0#32
  let v1645 : Index := Scalar.indexCast v1642
  let c0_1873 : Index := 0#32
  ![0, v1645.toNat, 0]

def k0_chk205 (v1642 : BitVec 32) : Prop :=
  (∀ a, (k0_off410 v1642) a + S7x1x512.size a ≤ S7x50x512.size a)
theorem k0_off410_inb : ∀ (v1642 : BitVec 32) (k0_hw205 : k0_chk205 v1642), ∀ a, (k0_off410 v1642) a + S7x1x512.size a ≤ S7x50x512.size a := fun v1642 k0_hw205 => k0_hw205

def k0_off411 (i : grid0.Coords) : Fin 3 → Nat :=
  let c6_1878 : Index := 6#32
  let c2_1879 : Index := 2#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1652 : Index := Scalar.indexCast v1353
  ![6, 2, v1652.toNat]
def k0_off412 (v1653 : BitVec 32) : Fin 3 → Nat :=
  let c0_1884 : Index := 0#32
  let v1656 : Index := Scalar.indexCast v1653
  let c0_1885 : Index := 0#32
  ![0, v1656.toNat, 0]

def k0_chk206 (v1653 : BitVec 32) : Prop :=
  (∀ a, (k0_off412 v1653) a + S7x1x512.size a ≤ S7x50x512.size a)
theorem k0_off412_inb : ∀ (v1653 : BitVec 32) (k0_hw206 : k0_chk206 v1653), ∀ a, (k0_off412 v1653) a + S7x1x512.size a ≤ S7x50x512.size a := fun v1653 k0_hw206 => k0_hw206

def k0_off413 (i : grid0.Coords) : Fin 3 → Nat :=
  let c6_1886 : Index := 6#32
  let c3_1887 : Index := 3#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1658 : Index := Scalar.indexCast v1353
  ![6, 3, v1658.toNat]
def k0_off414 (v1659 : BitVec 32) : Fin 3 → Nat :=
  let c0_1892 : Index := 0#32
  let v1662 : Index := Scalar.indexCast v1659
  let c0_1893 : Index := 0#32
  ![0, v1662.toNat, 0]

def k0_chk207 (v1659 : BitVec 32) : Prop :=
  (∀ a, (k0_off414 v1659) a + S7x1x512.size a ≤ S7x50x512.size a)
theorem k0_off414_inb : ∀ (v1659 : BitVec 32) (k0_hw207 : k0_chk207 v1659), ∀ a, (k0_off414 v1659) a + S7x1x512.size a ≤ S7x50x512.size a := fun v1659 k0_hw207 => k0_hw207

def k0_off415 (i : grid0.Coords) : Fin 3 → Nat :=
  let c6_1894 : Index := 6#32
  let c4_1895 : Index := 4#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1665 : Index := Scalar.indexCast v1353
  ![6, 4, v1665.toNat]
def k0_off416 (v1666 : BitVec 32) : Fin 3 → Nat :=
  let c0_1900 : Index := 0#32
  let v1669 : Index := Scalar.indexCast v1666
  let c0_1901 : Index := 0#32
  ![0, v1669.toNat, 0]

def k0_chk208 (v1666 : BitVec 32) : Prop :=
  (∀ a, (k0_off416 v1666) a + S7x1x512.size a ≤ S7x50x512.size a)
theorem k0_off416_inb : ∀ (v1666 : BitVec 32) (k0_hw208 : k0_chk208 v1666), ∀ a, (k0_off416 v1666) a + S7x1x512.size a ≤ S7x50x512.size a := fun v1666 k0_hw208 => k0_hw208

def k0_off417 (i : grid0.Coords) : Fin 3 → Nat :=
  let c6_1902 : Index := 6#32
  let c5_1903 : Index := 5#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1672 : Index := Scalar.indexCast v1353
  ![6, 5, v1672.toNat]
def k0_off418 (v1673 : BitVec 32) : Fin 3 → Nat :=
  let c0_1908 : Index := 0#32
  let v1676 : Index := Scalar.indexCast v1673
  let c0_1909 : Index := 0#32
  ![0, v1676.toNat, 0]

def k0_chk209 (v1673 : BitVec 32) : Prop :=
  (∀ a, (k0_off418 v1673) a + S7x1x512.size a ≤ S7x50x512.size a)
theorem k0_off418_inb : ∀ (v1673 : BitVec 32) (k0_hw209 : k0_chk209 v1673), ∀ a, (k0_off418 v1673) a + S7x1x512.size a ≤ S7x50x512.size a := fun v1673 k0_hw209 => k0_hw209

def k0_off419 (i : grid0.Coords) : Fin 3 → Nat :=
  let c6_1910 : Index := 6#32
  let c6_1911 : Index := 6#32
  let arg0 : BitVec 32 := BitVec.ofNat 32 (i 0).val
  let c32_i32_1536 : BitVec 32 := 32#32
  let v1352 : BitVec 32 := Scalar.muli arg0 c32_i32_1536
  let c4_i32 : BitVec 32 := 4#32
  let v1353 : BitVec 32 := Scalar.addi v1352 c4_i32
  let v1679 : Index := Scalar.indexCast v1353
  ![6, 6, v1679.toNat]
def k0_off420 (v1680 : BitVec 32) : Fin 3 → Nat :=
  let c0_1916 : Index := 0#32
  let v1683 : Index := Scalar.indexCast v1680
  let c0_1917 : Index := 0#32
  ![0, v1683.toNat, 0]

def k0_chk210 (v1680 : BitVec 32) : Prop :=
  (∀ a, (k0_off420 v1680) a + S7x1x512.size a ≤ S7x50x512.size a)
theorem k0_off420_inb : ∀ (v1680 : BitVec 32) (k0_hw210 : k0_chk210 v1680), ∀ a, (k0_off420 v1680) a + S7x1x512.size a ≤ S7x50x512.size a := fun v1680 k0_hw210 => k0_hw210

def k0_off421 (i : grid0.Coords) : Fin 3 → Nat :=
  let c0_1923 : Index := 0#32
  let c0_1924 : Index := 0#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1692 : Index := Scalar.indexCast v1691
  ![0, 0, v1692.toNat]
def k0_off422 (v1693 : BitVec 32) : Fin 3 → Nat :=
  let v1694 : Index := Scalar.indexCast v1693
  let c0_1925 : Index := 0#32
  let c0_1926 : Index := 0#32
  ![v1694.toNat, 0, 0]

def k0_chk211 (v1693 : BitVec 32) : Prop :=
  (∀ a, (k0_off422 v1693) a + S1x50x512.size a ≤ S250x50x512.size a)
theorem k0_off422_inb : ∀ (v1693 : BitVec 32) (k0_hw211 : k0_chk211 v1693), ∀ a, (k0_off422 v1693) a + S1x50x512.size a ≤ S250x50x512.size a := fun v1693 k0_hw211 => k0_hw211

def k0_off423 (i : grid0.Coords) : Fin 3 → Nat :=
  let c1_1934 : Index := 1#32
  let c0_1935 : Index := 0#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1702 : Index := Scalar.indexCast v1691
  ![1, 0, v1702.toNat]
def k0_off424 (v1703 : BitVec 32) : Fin 3 → Nat :=
  let v1704 : Index := Scalar.indexCast v1703
  let c0_1936 : Index := 0#32
  let c0_1937 : Index := 0#32
  ![v1704.toNat, 0, 0]

def k0_chk212 (v1703 : BitVec 32) : Prop :=
  (∀ a, (k0_off424 v1703) a + S1x50x512.size a ≤ S250x50x512.size a)
theorem k0_off424_inb : ∀ (v1703 : BitVec 32) (k0_hw212 : k0_chk212 v1703), ∀ a, (k0_off424 v1703) a + S1x50x512.size a ≤ S250x50x512.size a := fun v1703 k0_hw212 => k0_hw212

def k0_off425 (i : grid0.Coords) : Fin 3 → Nat :=
  let c2_1945 : Index := 2#32
  let c0_1946 : Index := 0#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1712 : Index := Scalar.indexCast v1691
  ![2, 0, v1712.toNat]
def k0_off426 (v1713 : BitVec 32) : Fin 3 → Nat :=
  let v1714 : Index := Scalar.indexCast v1713
  let c0_1947 : Index := 0#32
  let c0_1948 : Index := 0#32
  ![v1714.toNat, 0, 0]

def k0_chk213 (v1713 : BitVec 32) : Prop :=
  (∀ a, (k0_off426 v1713) a + S1x50x512.size a ≤ S250x50x512.size a)
theorem k0_off426_inb : ∀ (v1713 : BitVec 32) (k0_hw213 : k0_chk213 v1713), ∀ a, (k0_off426 v1713) a + S1x50x512.size a ≤ S250x50x512.size a := fun v1713 k0_hw213 => k0_hw213

def k0_off427 (i : grid0.Coords) : Fin 3 → Nat :=
  let c3_1956 : Index := 3#32
  let c0_1957 : Index := 0#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1722 : Index := Scalar.indexCast v1691
  ![3, 0, v1722.toNat]
def k0_off428 (v1723 : BitVec 32) : Fin 3 → Nat :=
  let v1724 : Index := Scalar.indexCast v1723
  let c0_1958 : Index := 0#32
  let c0_1959 : Index := 0#32
  ![v1724.toNat, 0, 0]

def k0_chk214 (v1723 : BitVec 32) : Prop :=
  (∀ a, (k0_off428 v1723) a + S1x50x512.size a ≤ S250x50x512.size a)
theorem k0_off428_inb : ∀ (v1723 : BitVec 32) (k0_hw214 : k0_chk214 v1723), ∀ a, (k0_off428 v1723) a + S1x50x512.size a ≤ S250x50x512.size a := fun v1723 k0_hw214 => k0_hw214

def k0_off429 (i : grid0.Coords) : Fin 3 → Nat :=
  let c4_1967 : Index := 4#32
  let c0_1968 : Index := 0#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1732 : Index := Scalar.indexCast v1691
  ![4, 0, v1732.toNat]
def k0_off430 (v1733 : BitVec 32) : Fin 3 → Nat :=
  let v1734 : Index := Scalar.indexCast v1733
  let c0_1969 : Index := 0#32
  let c0_1970 : Index := 0#32
  ![v1734.toNat, 0, 0]

def k0_chk215 (v1733 : BitVec 32) : Prop :=
  (∀ a, (k0_off430 v1733) a + S1x50x512.size a ≤ S250x50x512.size a)
theorem k0_off430_inb : ∀ (v1733 : BitVec 32) (k0_hw215 : k0_chk215 v1733), ∀ a, (k0_off430 v1733) a + S1x50x512.size a ≤ S250x50x512.size a := fun v1733 k0_hw215 => k0_hw215

def k0_off431 (i : grid0.Coords) : Fin 3 → Nat :=
  let c5_1978 : Index := 5#32
  let c0_1979 : Index := 0#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1742 : Index := Scalar.indexCast v1691
  ![5, 0, v1742.toNat]
def k0_off432 (v1743 : BitVec 32) : Fin 3 → Nat :=
  let v1744 : Index := Scalar.indexCast v1743
  let c0_1980 : Index := 0#32
  let c0_1981 : Index := 0#32
  ![v1744.toNat, 0, 0]

def k0_chk216 (v1743 : BitVec 32) : Prop :=
  (∀ a, (k0_off432 v1743) a + S1x50x512.size a ≤ S250x50x512.size a)
theorem k0_off432_inb : ∀ (v1743 : BitVec 32) (k0_hw216 : k0_chk216 v1743), ∀ a, (k0_off432 v1743) a + S1x50x512.size a ≤ S250x50x512.size a := fun v1743 k0_hw216 => k0_hw216

def k0_off433 (i : grid0.Coords) : Fin 3 → Nat :=
  let c6_1989 : Index := 6#32
  let c0_1990 : Index := 0#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1752 : Index := Scalar.indexCast v1691
  ![6, 0, v1752.toNat]
def k0_off434 (v1753 : BitVec 32) : Fin 3 → Nat :=
  let v1754 : Index := Scalar.indexCast v1753
  let c0_1991 : Index := 0#32
  let c0_1992 : Index := 0#32
  ![v1754.toNat, 0, 0]

def k0_chk217 (v1753 : BitVec 32) : Prop :=
  (∀ a, (k0_off434 v1753) a + S1x50x512.size a ≤ S250x50x512.size a)
theorem k0_off434_inb : ∀ (v1753 : BitVec 32) (k0_hw217 : k0_chk217 v1753), ∀ a, (k0_off434 v1753) a + S1x50x512.size a ≤ S250x50x512.size a := fun v1753 k0_hw217 => k0_hw217

def k0_off435 (i : grid0.Coords) : Fin 3 → Nat :=
  let c0_2000 : Index := 0#32
  let c2_2001 : Index := 2#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1762 : Index := Scalar.indexCast v1691
  ![0, 2, v1762.toNat]
def k0_off436 (v1763 : BitVec 32) : Fin 3 → Nat :=
  let c0_2006 : Index := 0#32
  let v1766 : Index := Scalar.indexCast v1763
  let c0_2007 : Index := 0#32
  ![0, v1766.toNat, 0]

def k0_chk218 (v1763 : BitVec 32) : Prop :=
  (∀ a, (k0_off436 v1763) a + S7x1x512.size a ≤ S7x50x512.size a)
theorem k0_off436_inb : ∀ (v1763 : BitVec 32) (k0_hw218 : k0_chk218 v1763), ∀ a, (k0_off436 v1763) a + S7x1x512.size a ≤ S7x50x512.size a := fun v1763 k0_hw218 => k0_hw218

def k0_off437 (i : grid0.Coords) : Fin 3 → Nat :=
  let c0_2008 : Index := 0#32
  let c3_2009 : Index := 3#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1768 : Index := Scalar.indexCast v1691
  ![0, 3, v1768.toNat]
def k0_off438 (v1769 : BitVec 32) : Fin 3 → Nat :=
  let c0_2014 : Index := 0#32
  let v1772 : Index := Scalar.indexCast v1769
  let c0_2015 : Index := 0#32
  ![0, v1772.toNat, 0]

def k0_chk219 (v1769 : BitVec 32) : Prop :=
  (∀ a, (k0_off438 v1769) a + S7x1x512.size a ≤ S7x50x512.size a)
theorem k0_off438_inb : ∀ (v1769 : BitVec 32) (k0_hw219 : k0_chk219 v1769), ∀ a, (k0_off438 v1769) a + S7x1x512.size a ≤ S7x50x512.size a := fun v1769 k0_hw219 => k0_hw219

def k0_off439 (i : grid0.Coords) : Fin 3 → Nat :=
  let c0_2016 : Index := 0#32
  let c4_2017 : Index := 4#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1775 : Index := Scalar.indexCast v1691
  ![0, 4, v1775.toNat]
def k0_off440 (v1776 : BitVec 32) : Fin 3 → Nat :=
  let c0_2022 : Index := 0#32
  let v1779 : Index := Scalar.indexCast v1776
  let c0_2023 : Index := 0#32
  ![0, v1779.toNat, 0]

def k0_chk220 (v1776 : BitVec 32) : Prop :=
  (∀ a, (k0_off440 v1776) a + S7x1x512.size a ≤ S7x50x512.size a)
theorem k0_off440_inb : ∀ (v1776 : BitVec 32) (k0_hw220 : k0_chk220 v1776), ∀ a, (k0_off440 v1776) a + S7x1x512.size a ≤ S7x50x512.size a := fun v1776 k0_hw220 => k0_hw220

def k0_off441 (i : grid0.Coords) : Fin 3 → Nat :=
  let c0_2024 : Index := 0#32
  let c5_2025 : Index := 5#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1782 : Index := Scalar.indexCast v1691
  ![0, 5, v1782.toNat]
def k0_off442 (v1783 : BitVec 32) : Fin 3 → Nat :=
  let c0_2030 : Index := 0#32
  let v1786 : Index := Scalar.indexCast v1783
  let c0_2031 : Index := 0#32
  ![0, v1786.toNat, 0]

def k0_chk221 (v1783 : BitVec 32) : Prop :=
  (∀ a, (k0_off442 v1783) a + S7x1x512.size a ≤ S7x50x512.size a)
theorem k0_off442_inb : ∀ (v1783 : BitVec 32) (k0_hw221 : k0_chk221 v1783), ∀ a, (k0_off442 v1783) a + S7x1x512.size a ≤ S7x50x512.size a := fun v1783 k0_hw221 => k0_hw221

def k0_off443 (i : grid0.Coords) : Fin 3 → Nat :=
  let c0_2032 : Index := 0#32
  let c6_2033 : Index := 6#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1789 : Index := Scalar.indexCast v1691
  ![0, 6, v1789.toNat]
def k0_off444 (v1790 : BitVec 32) : Fin 3 → Nat :=
  let c0_2038 : Index := 0#32
  let v1793 : Index := Scalar.indexCast v1790
  let c0_2039 : Index := 0#32
  ![0, v1793.toNat, 0]

def k0_chk222 (v1790 : BitVec 32) : Prop :=
  (∀ a, (k0_off444 v1790) a + S7x1x512.size a ≤ S7x50x512.size a)
theorem k0_off444_inb : ∀ (v1790 : BitVec 32) (k0_hw222 : k0_chk222 v1790), ∀ a, (k0_off444 v1790) a + S7x1x512.size a ≤ S7x50x512.size a := fun v1790 k0_hw222 => k0_hw222

def k0_off445 (i : grid0.Coords) : Fin 3 → Nat :=
  let c1_2044 : Index := 1#32
  let c2_2045 : Index := 2#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1800 : Index := Scalar.indexCast v1691
  ![1, 2, v1800.toNat]
def k0_off446 (v1801 : BitVec 32) : Fin 3 → Nat :=
  let c0_2050 : Index := 0#32
  let v1804 : Index := Scalar.indexCast v1801
  let c0_2051 : Index := 0#32
  ![0, v1804.toNat, 0]

def k0_chk223 (v1801 : BitVec 32) : Prop :=
  (∀ a, (k0_off446 v1801) a + S7x1x512.size a ≤ S7x50x512.size a)
theorem k0_off446_inb : ∀ (v1801 : BitVec 32) (k0_hw223 : k0_chk223 v1801), ∀ a, (k0_off446 v1801) a + S7x1x512.size a ≤ S7x50x512.size a := fun v1801 k0_hw223 => k0_hw223

def k0_off447 (i : grid0.Coords) : Fin 3 → Nat :=
  let c1_2052 : Index := 1#32
  let c3_2053 : Index := 3#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1806 : Index := Scalar.indexCast v1691
  ![1, 3, v1806.toNat]
def k0_off448 (v1807 : BitVec 32) : Fin 3 → Nat :=
  let c0_2058 : Index := 0#32
  let v1810 : Index := Scalar.indexCast v1807
  let c0_2059 : Index := 0#32
  ![0, v1810.toNat, 0]

def k0_chk224 (v1807 : BitVec 32) : Prop :=
  (∀ a, (k0_off448 v1807) a + S7x1x512.size a ≤ S7x50x512.size a)
theorem k0_off448_inb : ∀ (v1807 : BitVec 32) (k0_hw224 : k0_chk224 v1807), ∀ a, (k0_off448 v1807) a + S7x1x512.size a ≤ S7x50x512.size a := fun v1807 k0_hw224 => k0_hw224

def k0_off449 (i : grid0.Coords) : Fin 3 → Nat :=
  let c1_2060 : Index := 1#32
  let c4_2061 : Index := 4#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1813 : Index := Scalar.indexCast v1691
  ![1, 4, v1813.toNat]
def k0_off450 (v1814 : BitVec 32) : Fin 3 → Nat :=
  let c0_2066 : Index := 0#32
  let v1817 : Index := Scalar.indexCast v1814
  let c0_2067 : Index := 0#32
  ![0, v1817.toNat, 0]

def k0_chk225 (v1814 : BitVec 32) : Prop :=
  (∀ a, (k0_off450 v1814) a + S7x1x512.size a ≤ S7x50x512.size a)
theorem k0_off450_inb : ∀ (v1814 : BitVec 32) (k0_hw225 : k0_chk225 v1814), ∀ a, (k0_off450 v1814) a + S7x1x512.size a ≤ S7x50x512.size a := fun v1814 k0_hw225 => k0_hw225

def k0_off451 (i : grid0.Coords) : Fin 3 → Nat :=
  let c1_2068 : Index := 1#32
  let c5_2069 : Index := 5#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1820 : Index := Scalar.indexCast v1691
  ![1, 5, v1820.toNat]
def k0_off452 (v1821 : BitVec 32) : Fin 3 → Nat :=
  let c0_2074 : Index := 0#32
  let v1824 : Index := Scalar.indexCast v1821
  let c0_2075 : Index := 0#32
  ![0, v1824.toNat, 0]

def k0_chk226 (v1821 : BitVec 32) : Prop :=
  (∀ a, (k0_off452 v1821) a + S7x1x512.size a ≤ S7x50x512.size a)
theorem k0_off452_inb : ∀ (v1821 : BitVec 32) (k0_hw226 : k0_chk226 v1821), ∀ a, (k0_off452 v1821) a + S7x1x512.size a ≤ S7x50x512.size a := fun v1821 k0_hw226 => k0_hw226

def k0_off453 (i : grid0.Coords) : Fin 3 → Nat :=
  let c1_2076 : Index := 1#32
  let c6_2077 : Index := 6#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1827 : Index := Scalar.indexCast v1691
  ![1, 6, v1827.toNat]
def k0_off454 (v1828 : BitVec 32) : Fin 3 → Nat :=
  let c0_2082 : Index := 0#32
  let v1831 : Index := Scalar.indexCast v1828
  let c0_2083 : Index := 0#32
  ![0, v1831.toNat, 0]

def k0_chk227 (v1828 : BitVec 32) : Prop :=
  (∀ a, (k0_off454 v1828) a + S7x1x512.size a ≤ S7x50x512.size a)
theorem k0_off454_inb : ∀ (v1828 : BitVec 32) (k0_hw227 : k0_chk227 v1828), ∀ a, (k0_off454 v1828) a + S7x1x512.size a ≤ S7x50x512.size a := fun v1828 k0_hw227 => k0_hw227

def k0_off455 (i : grid0.Coords) : Fin 3 → Nat :=
  let c2_2088 : Index := 2#32
  let c2_2089 : Index := 2#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1838 : Index := Scalar.indexCast v1691
  ![2, 2, v1838.toNat]
def k0_off456 (v1839 : BitVec 32) : Fin 3 → Nat :=
  let c0_2094 : Index := 0#32
  let v1842 : Index := Scalar.indexCast v1839
  let c0_2095 : Index := 0#32
  ![0, v1842.toNat, 0]

def k0_chk228 (v1839 : BitVec 32) : Prop :=
  (∀ a, (k0_off456 v1839) a + S7x1x512.size a ≤ S7x50x512.size a)
theorem k0_off456_inb : ∀ (v1839 : BitVec 32) (k0_hw228 : k0_chk228 v1839), ∀ a, (k0_off456 v1839) a + S7x1x512.size a ≤ S7x50x512.size a := fun v1839 k0_hw228 => k0_hw228

def k0_off457 (i : grid0.Coords) : Fin 3 → Nat :=
  let c2_2096 : Index := 2#32
  let c3_2097 : Index := 3#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1844 : Index := Scalar.indexCast v1691
  ![2, 3, v1844.toNat]
def k0_off458 (v1845 : BitVec 32) : Fin 3 → Nat :=
  let c0_2102 : Index := 0#32
  let v1848 : Index := Scalar.indexCast v1845
  let c0_2103 : Index := 0#32
  ![0, v1848.toNat, 0]

def k0_chk229 (v1845 : BitVec 32) : Prop :=
  (∀ a, (k0_off458 v1845) a + S7x1x512.size a ≤ S7x50x512.size a)
theorem k0_off458_inb : ∀ (v1845 : BitVec 32) (k0_hw229 : k0_chk229 v1845), ∀ a, (k0_off458 v1845) a + S7x1x512.size a ≤ S7x50x512.size a := fun v1845 k0_hw229 => k0_hw229

def k0_off459 (i : grid0.Coords) : Fin 3 → Nat :=
  let c2_2104 : Index := 2#32
  let c4_2105 : Index := 4#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1851 : Index := Scalar.indexCast v1691
  ![2, 4, v1851.toNat]
def k0_off460 (v1852 : BitVec 32) : Fin 3 → Nat :=
  let c0_2110 : Index := 0#32
  let v1855 : Index := Scalar.indexCast v1852
  let c0_2111 : Index := 0#32
  ![0, v1855.toNat, 0]

def k0_chk230 (v1852 : BitVec 32) : Prop :=
  (∀ a, (k0_off460 v1852) a + S7x1x512.size a ≤ S7x50x512.size a)
theorem k0_off460_inb : ∀ (v1852 : BitVec 32) (k0_hw230 : k0_chk230 v1852), ∀ a, (k0_off460 v1852) a + S7x1x512.size a ≤ S7x50x512.size a := fun v1852 k0_hw230 => k0_hw230

def k0_off461 (i : grid0.Coords) : Fin 3 → Nat :=
  let c2_2112 : Index := 2#32
  let c5_2113 : Index := 5#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1858 : Index := Scalar.indexCast v1691
  ![2, 5, v1858.toNat]
def k0_off462 (v1859 : BitVec 32) : Fin 3 → Nat :=
  let c0_2118 : Index := 0#32
  let v1862 : Index := Scalar.indexCast v1859
  let c0_2119 : Index := 0#32
  ![0, v1862.toNat, 0]

def k0_chk231 (v1859 : BitVec 32) : Prop :=
  (∀ a, (k0_off462 v1859) a + S7x1x512.size a ≤ S7x50x512.size a)
theorem k0_off462_inb : ∀ (v1859 : BitVec 32) (k0_hw231 : k0_chk231 v1859), ∀ a, (k0_off462 v1859) a + S7x1x512.size a ≤ S7x50x512.size a := fun v1859 k0_hw231 => k0_hw231

def k0_off463 (i : grid0.Coords) : Fin 3 → Nat :=
  let c2_2120 : Index := 2#32
  let c6_2121 : Index := 6#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1865 : Index := Scalar.indexCast v1691
  ![2, 6, v1865.toNat]
def k0_off464 (v1866 : BitVec 32) : Fin 3 → Nat :=
  let c0_2126 : Index := 0#32
  let v1869 : Index := Scalar.indexCast v1866
  let c0_2127 : Index := 0#32
  ![0, v1869.toNat, 0]

def k0_chk232 (v1866 : BitVec 32) : Prop :=
  (∀ a, (k0_off464 v1866) a + S7x1x512.size a ≤ S7x50x512.size a)
theorem k0_off464_inb : ∀ (v1866 : BitVec 32) (k0_hw232 : k0_chk232 v1866), ∀ a, (k0_off464 v1866) a + S7x1x512.size a ≤ S7x50x512.size a := fun v1866 k0_hw232 => k0_hw232

def k0_off465 (i : grid0.Coords) : Fin 3 → Nat :=
  let c3_2132 : Index := 3#32
  let c2_2133 : Index := 2#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1876 : Index := Scalar.indexCast v1691
  ![3, 2, v1876.toNat]
def k0_off466 (v1877 : BitVec 32) : Fin 3 → Nat :=
  let c0_2138 : Index := 0#32
  let v1880 : Index := Scalar.indexCast v1877
  let c0_2139 : Index := 0#32
  ![0, v1880.toNat, 0]

def k0_chk233 (v1877 : BitVec 32) : Prop :=
  (∀ a, (k0_off466 v1877) a + S7x1x512.size a ≤ S7x50x512.size a)
theorem k0_off466_inb : ∀ (v1877 : BitVec 32) (k0_hw233 : k0_chk233 v1877), ∀ a, (k0_off466 v1877) a + S7x1x512.size a ≤ S7x50x512.size a := fun v1877 k0_hw233 => k0_hw233

def k0_off467 (i : grid0.Coords) : Fin 3 → Nat :=
  let c3_2140 : Index := 3#32
  let c3_2141 : Index := 3#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1882 : Index := Scalar.indexCast v1691
  ![3, 3, v1882.toNat]
def k0_off468 (v1883 : BitVec 32) : Fin 3 → Nat :=
  let c0_2146 : Index := 0#32
  let v1886 : Index := Scalar.indexCast v1883
  let c0_2147 : Index := 0#32
  ![0, v1886.toNat, 0]

def k0_chk234 (v1883 : BitVec 32) : Prop :=
  (∀ a, (k0_off468 v1883) a + S7x1x512.size a ≤ S7x50x512.size a)
theorem k0_off468_inb : ∀ (v1883 : BitVec 32) (k0_hw234 : k0_chk234 v1883), ∀ a, (k0_off468 v1883) a + S7x1x512.size a ≤ S7x50x512.size a := fun v1883 k0_hw234 => k0_hw234

def k0_off469 (i : grid0.Coords) : Fin 3 → Nat :=
  let c3_2148 : Index := 3#32
  let c4_2149 : Index := 4#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1889 : Index := Scalar.indexCast v1691
  ![3, 4, v1889.toNat]
def k0_off470 (v1890 : BitVec 32) : Fin 3 → Nat :=
  let c0_2154 : Index := 0#32
  let v1893 : Index := Scalar.indexCast v1890
  let c0_2155 : Index := 0#32
  ![0, v1893.toNat, 0]

def k0_chk235 (v1890 : BitVec 32) : Prop :=
  (∀ a, (k0_off470 v1890) a + S7x1x512.size a ≤ S7x50x512.size a)
theorem k0_off470_inb : ∀ (v1890 : BitVec 32) (k0_hw235 : k0_chk235 v1890), ∀ a, (k0_off470 v1890) a + S7x1x512.size a ≤ S7x50x512.size a := fun v1890 k0_hw235 => k0_hw235

def k0_off471 (i : grid0.Coords) : Fin 3 → Nat :=
  let c3_2156 : Index := 3#32
  let c5_2157 : Index := 5#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1896 : Index := Scalar.indexCast v1691
  ![3, 5, v1896.toNat]
def k0_off472 (v1897 : BitVec 32) : Fin 3 → Nat :=
  let c0_2162 : Index := 0#32
  let v1900 : Index := Scalar.indexCast v1897
  let c0_2163 : Index := 0#32
  ![0, v1900.toNat, 0]

def k0_chk236 (v1897 : BitVec 32) : Prop :=
  (∀ a, (k0_off472 v1897) a + S7x1x512.size a ≤ S7x50x512.size a)
theorem k0_off472_inb : ∀ (v1897 : BitVec 32) (k0_hw236 : k0_chk236 v1897), ∀ a, (k0_off472 v1897) a + S7x1x512.size a ≤ S7x50x512.size a := fun v1897 k0_hw236 => k0_hw236

def k0_off473 (i : grid0.Coords) : Fin 3 → Nat :=
  let c3_2164 : Index := 3#32
  let c6_2165 : Index := 6#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1903 : Index := Scalar.indexCast v1691
  ![3, 6, v1903.toNat]
def k0_off474 (v1904 : BitVec 32) : Fin 3 → Nat :=
  let c0_2170 : Index := 0#32
  let v1907 : Index := Scalar.indexCast v1904
  let c0_2171 : Index := 0#32
  ![0, v1907.toNat, 0]

def k0_chk237 (v1904 : BitVec 32) : Prop :=
  (∀ a, (k0_off474 v1904) a + S7x1x512.size a ≤ S7x50x512.size a)
theorem k0_off474_inb : ∀ (v1904 : BitVec 32) (k0_hw237 : k0_chk237 v1904), ∀ a, (k0_off474 v1904) a + S7x1x512.size a ≤ S7x50x512.size a := fun v1904 k0_hw237 => k0_hw237

def k0_off475 (i : grid0.Coords) : Fin 3 → Nat :=
  let c4_2176 : Index := 4#32
  let c2_2177 : Index := 2#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1914 : Index := Scalar.indexCast v1691
  ![4, 2, v1914.toNat]
def k0_off476 (v1915 : BitVec 32) : Fin 3 → Nat :=
  let c0_2182 : Index := 0#32
  let v1918 : Index := Scalar.indexCast v1915
  let c0_2183 : Index := 0#32
  ![0, v1918.toNat, 0]

def k0_chk238 (v1915 : BitVec 32) : Prop :=
  (∀ a, (k0_off476 v1915) a + S7x1x512.size a ≤ S7x50x512.size a)
theorem k0_off476_inb : ∀ (v1915 : BitVec 32) (k0_hw238 : k0_chk238 v1915), ∀ a, (k0_off476 v1915) a + S7x1x512.size a ≤ S7x50x512.size a := fun v1915 k0_hw238 => k0_hw238

def k0_off477 (i : grid0.Coords) : Fin 3 → Nat :=
  let c4_2184 : Index := 4#32
  let c3_2185 : Index := 3#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1920 : Index := Scalar.indexCast v1691
  ![4, 3, v1920.toNat]
def k0_off478 (v1921 : BitVec 32) : Fin 3 → Nat :=
  let c0_2190 : Index := 0#32
  let v1924 : Index := Scalar.indexCast v1921
  let c0_2191 : Index := 0#32
  ![0, v1924.toNat, 0]

def k0_chk239 (v1921 : BitVec 32) : Prop :=
  (∀ a, (k0_off478 v1921) a + S7x1x512.size a ≤ S7x50x512.size a)
theorem k0_off478_inb : ∀ (v1921 : BitVec 32) (k0_hw239 : k0_chk239 v1921), ∀ a, (k0_off478 v1921) a + S7x1x512.size a ≤ S7x50x512.size a := fun v1921 k0_hw239 => k0_hw239

def k0_off479 (i : grid0.Coords) : Fin 3 → Nat :=
  let c4_2192 : Index := 4#32
  let c4_2193 : Index := 4#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1927 : Index := Scalar.indexCast v1691
  ![4, 4, v1927.toNat]
def k0_off480 (v1928 : BitVec 32) : Fin 3 → Nat :=
  let c0_2198 : Index := 0#32
  let v1931 : Index := Scalar.indexCast v1928
  let c0_2199 : Index := 0#32
  ![0, v1931.toNat, 0]

def k0_chk240 (v1928 : BitVec 32) : Prop :=
  (∀ a, (k0_off480 v1928) a + S7x1x512.size a ≤ S7x50x512.size a)
theorem k0_off480_inb : ∀ (v1928 : BitVec 32) (k0_hw240 : k0_chk240 v1928), ∀ a, (k0_off480 v1928) a + S7x1x512.size a ≤ S7x50x512.size a := fun v1928 k0_hw240 => k0_hw240

def k0_off481 (i : grid0.Coords) : Fin 3 → Nat :=
  let c4_2200 : Index := 4#32
  let c5_2201 : Index := 5#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1934 : Index := Scalar.indexCast v1691
  ![4, 5, v1934.toNat]
def k0_off482 (v1935 : BitVec 32) : Fin 3 → Nat :=
  let c0_2206 : Index := 0#32
  let v1938 : Index := Scalar.indexCast v1935
  let c0_2207 : Index := 0#32
  ![0, v1938.toNat, 0]

def k0_chk241 (v1935 : BitVec 32) : Prop :=
  (∀ a, (k0_off482 v1935) a + S7x1x512.size a ≤ S7x50x512.size a)
theorem k0_off482_inb : ∀ (v1935 : BitVec 32) (k0_hw241 : k0_chk241 v1935), ∀ a, (k0_off482 v1935) a + S7x1x512.size a ≤ S7x50x512.size a := fun v1935 k0_hw241 => k0_hw241

def k0_off483 (i : grid0.Coords) : Fin 3 → Nat :=
  let c4_2208 : Index := 4#32
  let c6_2209 : Index := 6#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1941 : Index := Scalar.indexCast v1691
  ![4, 6, v1941.toNat]
def k0_off484 (v1942 : BitVec 32) : Fin 3 → Nat :=
  let c0_2214 : Index := 0#32
  let v1945 : Index := Scalar.indexCast v1942
  let c0_2215 : Index := 0#32
  ![0, v1945.toNat, 0]

def k0_chk242 (v1942 : BitVec 32) : Prop :=
  (∀ a, (k0_off484 v1942) a + S7x1x512.size a ≤ S7x50x512.size a)
theorem k0_off484_inb : ∀ (v1942 : BitVec 32) (k0_hw242 : k0_chk242 v1942), ∀ a, (k0_off484 v1942) a + S7x1x512.size a ≤ S7x50x512.size a := fun v1942 k0_hw242 => k0_hw242

def k0_off485 (i : grid0.Coords) : Fin 3 → Nat :=
  let c5_2220 : Index := 5#32
  let c2_2221 : Index := 2#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1952 : Index := Scalar.indexCast v1691
  ![5, 2, v1952.toNat]
def k0_off486 (v1953 : BitVec 32) : Fin 3 → Nat :=
  let c0_2226 : Index := 0#32
  let v1956 : Index := Scalar.indexCast v1953
  let c0_2227 : Index := 0#32
  ![0, v1956.toNat, 0]

def k0_chk243 (v1953 : BitVec 32) : Prop :=
  (∀ a, (k0_off486 v1953) a + S7x1x512.size a ≤ S7x50x512.size a)
theorem k0_off486_inb : ∀ (v1953 : BitVec 32) (k0_hw243 : k0_chk243 v1953), ∀ a, (k0_off486 v1953) a + S7x1x512.size a ≤ S7x50x512.size a := fun v1953 k0_hw243 => k0_hw243

def k0_off487 (i : grid0.Coords) : Fin 3 → Nat :=
  let c5_2228 : Index := 5#32
  let c3_2229 : Index := 3#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1958 : Index := Scalar.indexCast v1691
  ![5, 3, v1958.toNat]
def k0_off488 (v1959 : BitVec 32) : Fin 3 → Nat :=
  let c0_2234 : Index := 0#32
  let v1962 : Index := Scalar.indexCast v1959
  let c0_2235 : Index := 0#32
  ![0, v1962.toNat, 0]

def k0_chk244 (v1959 : BitVec 32) : Prop :=
  (∀ a, (k0_off488 v1959) a + S7x1x512.size a ≤ S7x50x512.size a)
theorem k0_off488_inb : ∀ (v1959 : BitVec 32) (k0_hw244 : k0_chk244 v1959), ∀ a, (k0_off488 v1959) a + S7x1x512.size a ≤ S7x50x512.size a := fun v1959 k0_hw244 => k0_hw244

def k0_off489 (i : grid0.Coords) : Fin 3 → Nat :=
  let c5_2236 : Index := 5#32
  let c4_2237 : Index := 4#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1965 : Index := Scalar.indexCast v1691
  ![5, 4, v1965.toNat]
def k0_off490 (v1966 : BitVec 32) : Fin 3 → Nat :=
  let c0_2242 : Index := 0#32
  let v1969 : Index := Scalar.indexCast v1966
  let c0_2243 : Index := 0#32
  ![0, v1969.toNat, 0]

def k0_chk245 (v1966 : BitVec 32) : Prop :=
  (∀ a, (k0_off490 v1966) a + S7x1x512.size a ≤ S7x50x512.size a)
theorem k0_off490_inb : ∀ (v1966 : BitVec 32) (k0_hw245 : k0_chk245 v1966), ∀ a, (k0_off490 v1966) a + S7x1x512.size a ≤ S7x50x512.size a := fun v1966 k0_hw245 => k0_hw245

def k0_off491 (i : grid0.Coords) : Fin 3 → Nat :=
  let c5_2244 : Index := 5#32
  let c5_2245 : Index := 5#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1972 : Index := Scalar.indexCast v1691
  ![5, 5, v1972.toNat]
def k0_off492 (v1973 : BitVec 32) : Fin 3 → Nat :=
  let c0_2250 : Index := 0#32
  let v1976 : Index := Scalar.indexCast v1973
  let c0_2251 : Index := 0#32
  ![0, v1976.toNat, 0]

def k0_chk246 (v1973 : BitVec 32) : Prop :=
  (∀ a, (k0_off492 v1973) a + S7x1x512.size a ≤ S7x50x512.size a)
theorem k0_off492_inb : ∀ (v1973 : BitVec 32) (k0_hw246 : k0_chk246 v1973), ∀ a, (k0_off492 v1973) a + S7x1x512.size a ≤ S7x50x512.size a := fun v1973 k0_hw246 => k0_hw246

def k0_off493 (i : grid0.Coords) : Fin 3 → Nat :=
  let c5_2252 : Index := 5#32
  let c6_2253 : Index := 6#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1979 : Index := Scalar.indexCast v1691
  ![5, 6, v1979.toNat]
def k0_off494 (v1980 : BitVec 32) : Fin 3 → Nat :=
  let c0_2258 : Index := 0#32
  let v1983 : Index := Scalar.indexCast v1980
  let c0_2259 : Index := 0#32
  ![0, v1983.toNat, 0]

def k0_chk247 (v1980 : BitVec 32) : Prop :=
  (∀ a, (k0_off494 v1980) a + S7x1x512.size a ≤ S7x50x512.size a)
theorem k0_off494_inb : ∀ (v1980 : BitVec 32) (k0_hw247 : k0_chk247 v1980), ∀ a, (k0_off494 v1980) a + S7x1x512.size a ≤ S7x50x512.size a := fun v1980 k0_hw247 => k0_hw247

def k0_off495 (i : grid0.Coords) : Fin 3 → Nat :=
  let c6_2264 : Index := 6#32
  let c2_2265 : Index := 2#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1990 : Index := Scalar.indexCast v1691
  ![6, 2, v1990.toNat]
def k0_off496 (v1991 : BitVec 32) : Fin 3 → Nat :=
  let c0_2270 : Index := 0#32
  let v1994 : Index := Scalar.indexCast v1991
  let c0_2271 : Index := 0#32
  ![0, v1994.toNat, 0]

def k0_chk248 (v1991 : BitVec 32) : Prop :=
  (∀ a, (k0_off496 v1991) a + S7x1x512.size a ≤ S7x50x512.size a)
theorem k0_off496_inb : ∀ (v1991 : BitVec 32) (k0_hw248 : k0_chk248 v1991), ∀ a, (k0_off496 v1991) a + S7x1x512.size a ≤ S7x50x512.size a := fun v1991 k0_hw248 => k0_hw248

def k0_off497 (i : grid0.Coords) : Fin 3 → Nat :=
  let c6_2272 : Index := 6#32
  let c3_2273 : Index := 3#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v1996 : Index := Scalar.indexCast v1691
  ![6, 3, v1996.toNat]
def k0_off498 (v1997 : BitVec 32) : Fin 3 → Nat :=
  let c0_2278 : Index := 0#32
  let v2000 : Index := Scalar.indexCast v1997
  let c0_2279 : Index := 0#32
  ![0, v2000.toNat, 0]

def k0_chk249 (v1997 : BitVec 32) : Prop :=
  (∀ a, (k0_off498 v1997) a + S7x1x512.size a ≤ S7x50x512.size a)
theorem k0_off498_inb : ∀ (v1997 : BitVec 32) (k0_hw249 : k0_chk249 v1997), ∀ a, (k0_off498 v1997) a + S7x1x512.size a ≤ S7x50x512.size a := fun v1997 k0_hw249 => k0_hw249

def k0_off499 (i : grid0.Coords) : Fin 3 → Nat :=
  let c6_2280 : Index := 6#32
  let c4_2281 : Index := 4#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v2003 : Index := Scalar.indexCast v1691
  ![6, 4, v2003.toNat]
def k0_off500 (v2004 : BitVec 32) : Fin 3 → Nat :=
  let c0_2286 : Index := 0#32
  let v2007 : Index := Scalar.indexCast v2004
  let c0_2287 : Index := 0#32
  ![0, v2007.toNat, 0]

def k0_chk250 (v2004 : BitVec 32) : Prop :=
  (∀ a, (k0_off500 v2004) a + S7x1x512.size a ≤ S7x50x512.size a)
theorem k0_off500_inb : ∀ (v2004 : BitVec 32) (k0_hw250 : k0_chk250 v2004), ∀ a, (k0_off500 v2004) a + S7x1x512.size a ≤ S7x50x512.size a := fun v2004 k0_hw250 => k0_hw250

def k0_off501 (i : grid0.Coords) : Fin 3 → Nat :=
  let c6_2288 : Index := 6#32
  let c5_2289 : Index := 5#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v2010 : Index := Scalar.indexCast v1691
  ![6, 5, v2010.toNat]
def k0_off502 (v2011 : BitVec 32) : Fin 3 → Nat :=
  let c0_2294 : Index := 0#32
  let v2014 : Index := Scalar.indexCast v2011
  let c0_2295 : Index := 0#32
  ![0, v2014.toNat, 0]

def k0_chk251 (v2011 : BitVec 32) : Prop :=
  (∀ a, (k0_off502 v2011) a + S7x1x512.size a ≤ S7x50x512.size a)
theorem k0_off502_inb : ∀ (v2011 : BitVec 32) (k0_hw251 : k0_chk251 v2011), ∀ a, (k0_off502 v2011) a + S7x1x512.size a ≤ S7x50x512.size a := fun v2011 k0_hw251 => k0_hw251

def k0_off503 (i : grid0.Coords) : Fin 3 → Nat :=
  let c6_2296 : Index := 6#32
  let c6_2297 : Index := 6#32
  let arg0 : BitVec 32 := BitVec.ofNat 32 (i 0).val
  let c32_i32_1922 : BitVec 32 := 32#32
  let v1690 : BitVec 32 := Scalar.muli arg0 c32_i32_1922
  let c5_i32 : BitVec 32 := 5#32
  let v1691 : BitVec 32 := Scalar.addi v1690 c5_i32
  let v2017 : Index := Scalar.indexCast v1691
  ![6, 6, v2017.toNat]
def k0_off504 (v2018 : BitVec 32) : Fin 3 → Nat :=
  let c0_2302 : Index := 0#32
  let v2021 : Index := Scalar.indexCast v2018
  let c0_2303 : Index := 0#32
  ![0, v2021.toNat, 0]

def k0_chk252 (v2018 : BitVec 32) : Prop :=
  (∀ a, (k0_off504 v2018) a + S7x1x512.size a ≤ S7x50x512.size a)
theorem k0_off504_inb : ∀ (v2018 : BitVec 32) (k0_hw252 : k0_chk252 v2018), ∀ a, (k0_off504 v2018) a + S7x1x512.size a ≤ S7x50x512.size a := fun v2018 k0_hw252 => k0_hw252

def k0_off505 (i : grid0.Coords) : Fin 3 → Nat :=
  let c0_2309 : Index := 0#32
  let c0_2310 : Index := 0#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2030 : Index := Scalar.indexCast v2029
  ![0, 0, v2030.toNat]
def k0_off506 (v2031 : BitVec 32) : Fin 3 → Nat :=
  let v2032 : Index := Scalar.indexCast v2031
  let c0_2311 : Index := 0#32
  let c0_2312 : Index := 0#32
  ![v2032.toNat, 0, 0]

def k0_chk253 (v2031 : BitVec 32) : Prop :=
  (∀ a, (k0_off506 v2031) a + S1x50x512.size a ≤ S250x50x512.size a)
theorem k0_off506_inb : ∀ (v2031 : BitVec 32) (k0_hw253 : k0_chk253 v2031), ∀ a, (k0_off506 v2031) a + S1x50x512.size a ≤ S250x50x512.size a := fun v2031 k0_hw253 => k0_hw253

def k0_off507 (i : grid0.Coords) : Fin 3 → Nat :=
  let c1_2320 : Index := 1#32
  let c0_2321 : Index := 0#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2040 : Index := Scalar.indexCast v2029
  ![1, 0, v2040.toNat]
def k0_off508 (v2041 : BitVec 32) : Fin 3 → Nat :=
  let v2042 : Index := Scalar.indexCast v2041
  let c0_2322 : Index := 0#32
  let c0_2323 : Index := 0#32
  ![v2042.toNat, 0, 0]

def k0_chk254 (v2041 : BitVec 32) : Prop :=
  (∀ a, (k0_off508 v2041) a + S1x50x512.size a ≤ S250x50x512.size a)
theorem k0_off508_inb : ∀ (v2041 : BitVec 32) (k0_hw254 : k0_chk254 v2041), ∀ a, (k0_off508 v2041) a + S1x50x512.size a ≤ S250x50x512.size a := fun v2041 k0_hw254 => k0_hw254

def k0_off509 (i : grid0.Coords) : Fin 3 → Nat :=
  let c2_2331 : Index := 2#32
  let c0_2332 : Index := 0#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2050 : Index := Scalar.indexCast v2029
  ![2, 0, v2050.toNat]
def k0_off510 (v2051 : BitVec 32) : Fin 3 → Nat :=
  let v2052 : Index := Scalar.indexCast v2051
  let c0_2333 : Index := 0#32
  let c0_2334 : Index := 0#32
  ![v2052.toNat, 0, 0]

def k0_chk255 (v2051 : BitVec 32) : Prop :=
  (∀ a, (k0_off510 v2051) a + S1x50x512.size a ≤ S250x50x512.size a)
theorem k0_off510_inb : ∀ (v2051 : BitVec 32) (k0_hw255 : k0_chk255 v2051), ∀ a, (k0_off510 v2051) a + S1x50x512.size a ≤ S250x50x512.size a := fun v2051 k0_hw255 => k0_hw255

def k0_off511 (i : grid0.Coords) : Fin 3 → Nat :=
  let c3_2342 : Index := 3#32
  let c0_2343 : Index := 0#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2060 : Index := Scalar.indexCast v2029
  ![3, 0, v2060.toNat]
def k0_off512 (v2061 : BitVec 32) : Fin 3 → Nat :=
  let v2062 : Index := Scalar.indexCast v2061
  let c0_2344 : Index := 0#32
  let c0_2345 : Index := 0#32
  ![v2062.toNat, 0, 0]

def k0_chk256 (v2061 : BitVec 32) : Prop :=
  (∀ a, (k0_off512 v2061) a + S1x50x512.size a ≤ S250x50x512.size a)
theorem k0_off512_inb : ∀ (v2061 : BitVec 32) (k0_hw256 : k0_chk256 v2061), ∀ a, (k0_off512 v2061) a + S1x50x512.size a ≤ S250x50x512.size a := fun v2061 k0_hw256 => k0_hw256

def k0_off513 (i : grid0.Coords) : Fin 3 → Nat :=
  let c4_2353 : Index := 4#32
  let c0_2354 : Index := 0#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2070 : Index := Scalar.indexCast v2029
  ![4, 0, v2070.toNat]
def k0_off514 (v2071 : BitVec 32) : Fin 3 → Nat :=
  let v2072 : Index := Scalar.indexCast v2071
  let c0_2355 : Index := 0#32
  let c0_2356 : Index := 0#32
  ![v2072.toNat, 0, 0]

def k0_chk257 (v2071 : BitVec 32) : Prop :=
  (∀ a, (k0_off514 v2071) a + S1x50x512.size a ≤ S250x50x512.size a)
theorem k0_off514_inb : ∀ (v2071 : BitVec 32) (k0_hw257 : k0_chk257 v2071), ∀ a, (k0_off514 v2071) a + S1x50x512.size a ≤ S250x50x512.size a := fun v2071 k0_hw257 => k0_hw257

def k0_off515 (i : grid0.Coords) : Fin 3 → Nat :=
  let c5_2364 : Index := 5#32
  let c0_2365 : Index := 0#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2080 : Index := Scalar.indexCast v2029
  ![5, 0, v2080.toNat]
def k0_off516 (v2081 : BitVec 32) : Fin 3 → Nat :=
  let v2082 : Index := Scalar.indexCast v2081
  let c0_2366 : Index := 0#32
  let c0_2367 : Index := 0#32
  ![v2082.toNat, 0, 0]

def k0_chk258 (v2081 : BitVec 32) : Prop :=
  (∀ a, (k0_off516 v2081) a + S1x50x512.size a ≤ S250x50x512.size a)
theorem k0_off516_inb : ∀ (v2081 : BitVec 32) (k0_hw258 : k0_chk258 v2081), ∀ a, (k0_off516 v2081) a + S1x50x512.size a ≤ S250x50x512.size a := fun v2081 k0_hw258 => k0_hw258

def k0_off517 (i : grid0.Coords) : Fin 3 → Nat :=
  let c6_2375 : Index := 6#32
  let c0_2376 : Index := 0#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2090 : Index := Scalar.indexCast v2029
  ![6, 0, v2090.toNat]
def k0_off518 (v2091 : BitVec 32) : Fin 3 → Nat :=
  let v2092 : Index := Scalar.indexCast v2091
  let c0_2377 : Index := 0#32
  let c0_2378 : Index := 0#32
  ![v2092.toNat, 0, 0]

def k0_chk259 (v2091 : BitVec 32) : Prop :=
  (∀ a, (k0_off518 v2091) a + S1x50x512.size a ≤ S250x50x512.size a)
theorem k0_off518_inb : ∀ (v2091 : BitVec 32) (k0_hw259 : k0_chk259 v2091), ∀ a, (k0_off518 v2091) a + S1x50x512.size a ≤ S250x50x512.size a := fun v2091 k0_hw259 => k0_hw259

def k0_off519 (i : grid0.Coords) : Fin 3 → Nat :=
  let c0_2386 : Index := 0#32
  let c2_2387 : Index := 2#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2100 : Index := Scalar.indexCast v2029
  ![0, 2, v2100.toNat]
def k0_off520 (v2101 : BitVec 32) : Fin 3 → Nat :=
  let c0_2392 : Index := 0#32
  let v2104 : Index := Scalar.indexCast v2101
  let c0_2393 : Index := 0#32
  ![0, v2104.toNat, 0]

def k0_chk260 (v2101 : BitVec 32) : Prop :=
  (∀ a, (k0_off520 v2101) a + S7x1x512.size a ≤ S7x50x512.size a)
theorem k0_off520_inb : ∀ (v2101 : BitVec 32) (k0_hw260 : k0_chk260 v2101), ∀ a, (k0_off520 v2101) a + S7x1x512.size a ≤ S7x50x512.size a := fun v2101 k0_hw260 => k0_hw260

def k0_off521 (i : grid0.Coords) : Fin 3 → Nat :=
  let c0_2394 : Index := 0#32
  let c3_2395 : Index := 3#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2106 : Index := Scalar.indexCast v2029
  ![0, 3, v2106.toNat]
def k0_off522 (v2107 : BitVec 32) : Fin 3 → Nat :=
  let c0_2400 : Index := 0#32
  let v2110 : Index := Scalar.indexCast v2107
  let c0_2401 : Index := 0#32
  ![0, v2110.toNat, 0]

def k0_chk261 (v2107 : BitVec 32) : Prop :=
  (∀ a, (k0_off522 v2107) a + S7x1x512.size a ≤ S7x50x512.size a)
theorem k0_off522_inb : ∀ (v2107 : BitVec 32) (k0_hw261 : k0_chk261 v2107), ∀ a, (k0_off522 v2107) a + S7x1x512.size a ≤ S7x50x512.size a := fun v2107 k0_hw261 => k0_hw261

def k0_off523 (i : grid0.Coords) : Fin 3 → Nat :=
  let c0_2402 : Index := 0#32
  let c4_2403 : Index := 4#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2113 : Index := Scalar.indexCast v2029
  ![0, 4, v2113.toNat]
def k0_off524 (v2114 : BitVec 32) : Fin 3 → Nat :=
  let c0_2408 : Index := 0#32
  let v2117 : Index := Scalar.indexCast v2114
  let c0_2409 : Index := 0#32
  ![0, v2117.toNat, 0]

def k0_chk262 (v2114 : BitVec 32) : Prop :=
  (∀ a, (k0_off524 v2114) a + S7x1x512.size a ≤ S7x50x512.size a)
theorem k0_off524_inb : ∀ (v2114 : BitVec 32) (k0_hw262 : k0_chk262 v2114), ∀ a, (k0_off524 v2114) a + S7x1x512.size a ≤ S7x50x512.size a := fun v2114 k0_hw262 => k0_hw262

def k0_off525 (i : grid0.Coords) : Fin 3 → Nat :=
  let c0_2410 : Index := 0#32
  let c5_2411 : Index := 5#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2120 : Index := Scalar.indexCast v2029
  ![0, 5, v2120.toNat]
def k0_off526 (v2121 : BitVec 32) : Fin 3 → Nat :=
  let c0_2416 : Index := 0#32
  let v2124 : Index := Scalar.indexCast v2121
  let c0_2417 : Index := 0#32
  ![0, v2124.toNat, 0]

def k0_chk263 (v2121 : BitVec 32) : Prop :=
  (∀ a, (k0_off526 v2121) a + S7x1x512.size a ≤ S7x50x512.size a)
theorem k0_off526_inb : ∀ (v2121 : BitVec 32) (k0_hw263 : k0_chk263 v2121), ∀ a, (k0_off526 v2121) a + S7x1x512.size a ≤ S7x50x512.size a := fun v2121 k0_hw263 => k0_hw263

def k0_off527 (i : grid0.Coords) : Fin 3 → Nat :=
  let c0_2418 : Index := 0#32
  let c6_2419 : Index := 6#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2127 : Index := Scalar.indexCast v2029
  ![0, 6, v2127.toNat]
def k0_off528 (v2128 : BitVec 32) : Fin 3 → Nat :=
  let c0_2424 : Index := 0#32
  let v2131 : Index := Scalar.indexCast v2128
  let c0_2425 : Index := 0#32
  ![0, v2131.toNat, 0]

def k0_chk264 (v2128 : BitVec 32) : Prop :=
  (∀ a, (k0_off528 v2128) a + S7x1x512.size a ≤ S7x50x512.size a)
theorem k0_off528_inb : ∀ (v2128 : BitVec 32) (k0_hw264 : k0_chk264 v2128), ∀ a, (k0_off528 v2128) a + S7x1x512.size a ≤ S7x50x512.size a := fun v2128 k0_hw264 => k0_hw264

def k0_off529 (i : grid0.Coords) : Fin 3 → Nat :=
  let c1_2430 : Index := 1#32
  let c2_2431 : Index := 2#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2138 : Index := Scalar.indexCast v2029
  ![1, 2, v2138.toNat]
def k0_off530 (v2139 : BitVec 32) : Fin 3 → Nat :=
  let c0_2436 : Index := 0#32
  let v2142 : Index := Scalar.indexCast v2139
  let c0_2437 : Index := 0#32
  ![0, v2142.toNat, 0]

def k0_chk265 (v2139 : BitVec 32) : Prop :=
  (∀ a, (k0_off530 v2139) a + S7x1x512.size a ≤ S7x50x512.size a)
theorem k0_off530_inb : ∀ (v2139 : BitVec 32) (k0_hw265 : k0_chk265 v2139), ∀ a, (k0_off530 v2139) a + S7x1x512.size a ≤ S7x50x512.size a := fun v2139 k0_hw265 => k0_hw265

def k0_off531 (i : grid0.Coords) : Fin 3 → Nat :=
  let c1_2438 : Index := 1#32
  let c3_2439 : Index := 3#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2144 : Index := Scalar.indexCast v2029
  ![1, 3, v2144.toNat]
def k0_off532 (v2145 : BitVec 32) : Fin 3 → Nat :=
  let c0_2444 : Index := 0#32
  let v2148 : Index := Scalar.indexCast v2145
  let c0_2445 : Index := 0#32
  ![0, v2148.toNat, 0]

def k0_chk266 (v2145 : BitVec 32) : Prop :=
  (∀ a, (k0_off532 v2145) a + S7x1x512.size a ≤ S7x50x512.size a)
theorem k0_off532_inb : ∀ (v2145 : BitVec 32) (k0_hw266 : k0_chk266 v2145), ∀ a, (k0_off532 v2145) a + S7x1x512.size a ≤ S7x50x512.size a := fun v2145 k0_hw266 => k0_hw266

def k0_off533 (i : grid0.Coords) : Fin 3 → Nat :=
  let c1_2446 : Index := 1#32
  let c4_2447 : Index := 4#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2151 : Index := Scalar.indexCast v2029
  ![1, 4, v2151.toNat]
def k0_off534 (v2152 : BitVec 32) : Fin 3 → Nat :=
  let c0_2452 : Index := 0#32
  let v2155 : Index := Scalar.indexCast v2152
  let c0_2453 : Index := 0#32
  ![0, v2155.toNat, 0]

def k0_chk267 (v2152 : BitVec 32) : Prop :=
  (∀ a, (k0_off534 v2152) a + S7x1x512.size a ≤ S7x50x512.size a)
theorem k0_off534_inb : ∀ (v2152 : BitVec 32) (k0_hw267 : k0_chk267 v2152), ∀ a, (k0_off534 v2152) a + S7x1x512.size a ≤ S7x50x512.size a := fun v2152 k0_hw267 => k0_hw267

def k0_off535 (i : grid0.Coords) : Fin 3 → Nat :=
  let c1_2454 : Index := 1#32
  let c5_2455 : Index := 5#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2158 : Index := Scalar.indexCast v2029
  ![1, 5, v2158.toNat]
def k0_off536 (v2159 : BitVec 32) : Fin 3 → Nat :=
  let c0_2460 : Index := 0#32
  let v2162 : Index := Scalar.indexCast v2159
  let c0_2461 : Index := 0#32
  ![0, v2162.toNat, 0]

def k0_chk268 (v2159 : BitVec 32) : Prop :=
  (∀ a, (k0_off536 v2159) a + S7x1x512.size a ≤ S7x50x512.size a)
theorem k0_off536_inb : ∀ (v2159 : BitVec 32) (k0_hw268 : k0_chk268 v2159), ∀ a, (k0_off536 v2159) a + S7x1x512.size a ≤ S7x50x512.size a := fun v2159 k0_hw268 => k0_hw268

def k0_off537 (i : grid0.Coords) : Fin 3 → Nat :=
  let c1_2462 : Index := 1#32
  let c6_2463 : Index := 6#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2165 : Index := Scalar.indexCast v2029
  ![1, 6, v2165.toNat]
def k0_off538 (v2166 : BitVec 32) : Fin 3 → Nat :=
  let c0_2468 : Index := 0#32
  let v2169 : Index := Scalar.indexCast v2166
  let c0_2469 : Index := 0#32
  ![0, v2169.toNat, 0]

def k0_chk269 (v2166 : BitVec 32) : Prop :=
  (∀ a, (k0_off538 v2166) a + S7x1x512.size a ≤ S7x50x512.size a)
theorem k0_off538_inb : ∀ (v2166 : BitVec 32) (k0_hw269 : k0_chk269 v2166), ∀ a, (k0_off538 v2166) a + S7x1x512.size a ≤ S7x50x512.size a := fun v2166 k0_hw269 => k0_hw269

def k0_off539 (i : grid0.Coords) : Fin 3 → Nat :=
  let c2_2474 : Index := 2#32
  let c2_2475 : Index := 2#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2176 : Index := Scalar.indexCast v2029
  ![2, 2, v2176.toNat]
def k0_off540 (v2177 : BitVec 32) : Fin 3 → Nat :=
  let c0_2480 : Index := 0#32
  let v2180 : Index := Scalar.indexCast v2177
  let c0_2481 : Index := 0#32
  ![0, v2180.toNat, 0]

def k0_chk270 (v2177 : BitVec 32) : Prop :=
  (∀ a, (k0_off540 v2177) a + S7x1x512.size a ≤ S7x50x512.size a)
theorem k0_off540_inb : ∀ (v2177 : BitVec 32) (k0_hw270 : k0_chk270 v2177), ∀ a, (k0_off540 v2177) a + S7x1x512.size a ≤ S7x50x512.size a := fun v2177 k0_hw270 => k0_hw270

def k0_off541 (i : grid0.Coords) : Fin 3 → Nat :=
  let c2_2482 : Index := 2#32
  let c3_2483 : Index := 3#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2182 : Index := Scalar.indexCast v2029
  ![2, 3, v2182.toNat]
def k0_off542 (v2183 : BitVec 32) : Fin 3 → Nat :=
  let c0_2488 : Index := 0#32
  let v2186 : Index := Scalar.indexCast v2183
  let c0_2489 : Index := 0#32
  ![0, v2186.toNat, 0]

def k0_chk271 (v2183 : BitVec 32) : Prop :=
  (∀ a, (k0_off542 v2183) a + S7x1x512.size a ≤ S7x50x512.size a)
theorem k0_off542_inb : ∀ (v2183 : BitVec 32) (k0_hw271 : k0_chk271 v2183), ∀ a, (k0_off542 v2183) a + S7x1x512.size a ≤ S7x50x512.size a := fun v2183 k0_hw271 => k0_hw271

def k0_off543 (i : grid0.Coords) : Fin 3 → Nat :=
  let c2_2490 : Index := 2#32
  let c4_2491 : Index := 4#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2189 : Index := Scalar.indexCast v2029
  ![2, 4, v2189.toNat]
def k0_off544 (v2190 : BitVec 32) : Fin 3 → Nat :=
  let c0_2496 : Index := 0#32
  let v2193 : Index := Scalar.indexCast v2190
  let c0_2497 : Index := 0#32
  ![0, v2193.toNat, 0]

def k0_chk272 (v2190 : BitVec 32) : Prop :=
  (∀ a, (k0_off544 v2190) a + S7x1x512.size a ≤ S7x50x512.size a)
theorem k0_off544_inb : ∀ (v2190 : BitVec 32) (k0_hw272 : k0_chk272 v2190), ∀ a, (k0_off544 v2190) a + S7x1x512.size a ≤ S7x50x512.size a := fun v2190 k0_hw272 => k0_hw272

def k0_off545 (i : grid0.Coords) : Fin 3 → Nat :=
  let c2_2498 : Index := 2#32
  let c5_2499 : Index := 5#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2196 : Index := Scalar.indexCast v2029
  ![2, 5, v2196.toNat]
def k0_off546 (v2197 : BitVec 32) : Fin 3 → Nat :=
  let c0_2504 : Index := 0#32
  let v2200 : Index := Scalar.indexCast v2197
  let c0_2505 : Index := 0#32
  ![0, v2200.toNat, 0]

def k0_chk273 (v2197 : BitVec 32) : Prop :=
  (∀ a, (k0_off546 v2197) a + S7x1x512.size a ≤ S7x50x512.size a)
theorem k0_off546_inb : ∀ (v2197 : BitVec 32) (k0_hw273 : k0_chk273 v2197), ∀ a, (k0_off546 v2197) a + S7x1x512.size a ≤ S7x50x512.size a := fun v2197 k0_hw273 => k0_hw273

def k0_off547 (i : grid0.Coords) : Fin 3 → Nat :=
  let c2_2506 : Index := 2#32
  let c6_2507 : Index := 6#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2203 : Index := Scalar.indexCast v2029
  ![2, 6, v2203.toNat]
def k0_off548 (v2204 : BitVec 32) : Fin 3 → Nat :=
  let c0_2512 : Index := 0#32
  let v2207 : Index := Scalar.indexCast v2204
  let c0_2513 : Index := 0#32
  ![0, v2207.toNat, 0]

def k0_chk274 (v2204 : BitVec 32) : Prop :=
  (∀ a, (k0_off548 v2204) a + S7x1x512.size a ≤ S7x50x512.size a)
theorem k0_off548_inb : ∀ (v2204 : BitVec 32) (k0_hw274 : k0_chk274 v2204), ∀ a, (k0_off548 v2204) a + S7x1x512.size a ≤ S7x50x512.size a := fun v2204 k0_hw274 => k0_hw274

def k0_off549 (i : grid0.Coords) : Fin 3 → Nat :=
  let c3_2518 : Index := 3#32
  let c2_2519 : Index := 2#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2214 : Index := Scalar.indexCast v2029
  ![3, 2, v2214.toNat]
def k0_off550 (v2215 : BitVec 32) : Fin 3 → Nat :=
  let c0_2524 : Index := 0#32
  let v2218 : Index := Scalar.indexCast v2215
  let c0_2525 : Index := 0#32
  ![0, v2218.toNat, 0]

def k0_chk275 (v2215 : BitVec 32) : Prop :=
  (∀ a, (k0_off550 v2215) a + S7x1x512.size a ≤ S7x50x512.size a)
theorem k0_off550_inb : ∀ (v2215 : BitVec 32) (k0_hw275 : k0_chk275 v2215), ∀ a, (k0_off550 v2215) a + S7x1x512.size a ≤ S7x50x512.size a := fun v2215 k0_hw275 => k0_hw275

def k0_off551 (i : grid0.Coords) : Fin 3 → Nat :=
  let c3_2526 : Index := 3#32
  let c3_2527 : Index := 3#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2220 : Index := Scalar.indexCast v2029
  ![3, 3, v2220.toNat]
def k0_off552 (v2221 : BitVec 32) : Fin 3 → Nat :=
  let c0_2532 : Index := 0#32
  let v2224 : Index := Scalar.indexCast v2221
  let c0_2533 : Index := 0#32
  ![0, v2224.toNat, 0]

def k0_chk276 (v2221 : BitVec 32) : Prop :=
  (∀ a, (k0_off552 v2221) a + S7x1x512.size a ≤ S7x50x512.size a)
theorem k0_off552_inb : ∀ (v2221 : BitVec 32) (k0_hw276 : k0_chk276 v2221), ∀ a, (k0_off552 v2221) a + S7x1x512.size a ≤ S7x50x512.size a := fun v2221 k0_hw276 => k0_hw276

def k0_off553 (i : grid0.Coords) : Fin 3 → Nat :=
  let c3_2534 : Index := 3#32
  let c4_2535 : Index := 4#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2227 : Index := Scalar.indexCast v2029
  ![3, 4, v2227.toNat]
def k0_off554 (v2228 : BitVec 32) : Fin 3 → Nat :=
  let c0_2540 : Index := 0#32
  let v2231 : Index := Scalar.indexCast v2228
  let c0_2541 : Index := 0#32
  ![0, v2231.toNat, 0]

def k0_chk277 (v2228 : BitVec 32) : Prop :=
  (∀ a, (k0_off554 v2228) a + S7x1x512.size a ≤ S7x50x512.size a)
theorem k0_off554_inb : ∀ (v2228 : BitVec 32) (k0_hw277 : k0_chk277 v2228), ∀ a, (k0_off554 v2228) a + S7x1x512.size a ≤ S7x50x512.size a := fun v2228 k0_hw277 => k0_hw277

def k0_off555 (i : grid0.Coords) : Fin 3 → Nat :=
  let c3_2542 : Index := 3#32
  let c5_2543 : Index := 5#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2234 : Index := Scalar.indexCast v2029
  ![3, 5, v2234.toNat]
def k0_off556 (v2235 : BitVec 32) : Fin 3 → Nat :=
  let c0_2548 : Index := 0#32
  let v2238 : Index := Scalar.indexCast v2235
  let c0_2549 : Index := 0#32
  ![0, v2238.toNat, 0]

def k0_chk278 (v2235 : BitVec 32) : Prop :=
  (∀ a, (k0_off556 v2235) a + S7x1x512.size a ≤ S7x50x512.size a)
theorem k0_off556_inb : ∀ (v2235 : BitVec 32) (k0_hw278 : k0_chk278 v2235), ∀ a, (k0_off556 v2235) a + S7x1x512.size a ≤ S7x50x512.size a := fun v2235 k0_hw278 => k0_hw278

def k0_off557 (i : grid0.Coords) : Fin 3 → Nat :=
  let c3_2550 : Index := 3#32
  let c6_2551 : Index := 6#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2241 : Index := Scalar.indexCast v2029
  ![3, 6, v2241.toNat]
def k0_off558 (v2242 : BitVec 32) : Fin 3 → Nat :=
  let c0_2556 : Index := 0#32
  let v2245 : Index := Scalar.indexCast v2242
  let c0_2557 : Index := 0#32
  ![0, v2245.toNat, 0]

def k0_chk279 (v2242 : BitVec 32) : Prop :=
  (∀ a, (k0_off558 v2242) a + S7x1x512.size a ≤ S7x50x512.size a)
theorem k0_off558_inb : ∀ (v2242 : BitVec 32) (k0_hw279 : k0_chk279 v2242), ∀ a, (k0_off558 v2242) a + S7x1x512.size a ≤ S7x50x512.size a := fun v2242 k0_hw279 => k0_hw279

def k0_off559 (i : grid0.Coords) : Fin 3 → Nat :=
  let c4_2562 : Index := 4#32
  let c2_2563 : Index := 2#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2252 : Index := Scalar.indexCast v2029
  ![4, 2, v2252.toNat]
def k0_off560 (v2253 : BitVec 32) : Fin 3 → Nat :=
  let c0_2568 : Index := 0#32
  let v2256 : Index := Scalar.indexCast v2253
  let c0_2569 : Index := 0#32
  ![0, v2256.toNat, 0]

def k0_chk280 (v2253 : BitVec 32) : Prop :=
  (∀ a, (k0_off560 v2253) a + S7x1x512.size a ≤ S7x50x512.size a)
theorem k0_off560_inb : ∀ (v2253 : BitVec 32) (k0_hw280 : k0_chk280 v2253), ∀ a, (k0_off560 v2253) a + S7x1x512.size a ≤ S7x50x512.size a := fun v2253 k0_hw280 => k0_hw280

def k0_off561 (i : grid0.Coords) : Fin 3 → Nat :=
  let c4_2570 : Index := 4#32
  let c3_2571 : Index := 3#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2258 : Index := Scalar.indexCast v2029
  ![4, 3, v2258.toNat]
def k0_off562 (v2259 : BitVec 32) : Fin 3 → Nat :=
  let c0_2576 : Index := 0#32
  let v2262 : Index := Scalar.indexCast v2259
  let c0_2577 : Index := 0#32
  ![0, v2262.toNat, 0]

def k0_chk281 (v2259 : BitVec 32) : Prop :=
  (∀ a, (k0_off562 v2259) a + S7x1x512.size a ≤ S7x50x512.size a)
theorem k0_off562_inb : ∀ (v2259 : BitVec 32) (k0_hw281 : k0_chk281 v2259), ∀ a, (k0_off562 v2259) a + S7x1x512.size a ≤ S7x50x512.size a := fun v2259 k0_hw281 => k0_hw281

def k0_off563 (i : grid0.Coords) : Fin 3 → Nat :=
  let c4_2578 : Index := 4#32
  let c4_2579 : Index := 4#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2265 : Index := Scalar.indexCast v2029
  ![4, 4, v2265.toNat]
def k0_off564 (v2266 : BitVec 32) : Fin 3 → Nat :=
  let c0_2584 : Index := 0#32
  let v2269 : Index := Scalar.indexCast v2266
  let c0_2585 : Index := 0#32
  ![0, v2269.toNat, 0]

def k0_chk282 (v2266 : BitVec 32) : Prop :=
  (∀ a, (k0_off564 v2266) a + S7x1x512.size a ≤ S7x50x512.size a)
theorem k0_off564_inb : ∀ (v2266 : BitVec 32) (k0_hw282 : k0_chk282 v2266), ∀ a, (k0_off564 v2266) a + S7x1x512.size a ≤ S7x50x512.size a := fun v2266 k0_hw282 => k0_hw282

def k0_off565 (i : grid0.Coords) : Fin 3 → Nat :=
  let c4_2586 : Index := 4#32
  let c5_2587 : Index := 5#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2272 : Index := Scalar.indexCast v2029
  ![4, 5, v2272.toNat]
def k0_off566 (v2273 : BitVec 32) : Fin 3 → Nat :=
  let c0_2592 : Index := 0#32
  let v2276 : Index := Scalar.indexCast v2273
  let c0_2593 : Index := 0#32
  ![0, v2276.toNat, 0]

def k0_chk283 (v2273 : BitVec 32) : Prop :=
  (∀ a, (k0_off566 v2273) a + S7x1x512.size a ≤ S7x50x512.size a)
theorem k0_off566_inb : ∀ (v2273 : BitVec 32) (k0_hw283 : k0_chk283 v2273), ∀ a, (k0_off566 v2273) a + S7x1x512.size a ≤ S7x50x512.size a := fun v2273 k0_hw283 => k0_hw283

def k0_off567 (i : grid0.Coords) : Fin 3 → Nat :=
  let c4_2594 : Index := 4#32
  let c6_2595 : Index := 6#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2279 : Index := Scalar.indexCast v2029
  ![4, 6, v2279.toNat]
def k0_off568 (v2280 : BitVec 32) : Fin 3 → Nat :=
  let c0_2600 : Index := 0#32
  let v2283 : Index := Scalar.indexCast v2280
  let c0_2601 : Index := 0#32
  ![0, v2283.toNat, 0]

def k0_chk284 (v2280 : BitVec 32) : Prop :=
  (∀ a, (k0_off568 v2280) a + S7x1x512.size a ≤ S7x50x512.size a)
theorem k0_off568_inb : ∀ (v2280 : BitVec 32) (k0_hw284 : k0_chk284 v2280), ∀ a, (k0_off568 v2280) a + S7x1x512.size a ≤ S7x50x512.size a := fun v2280 k0_hw284 => k0_hw284

def k0_off569 (i : grid0.Coords) : Fin 3 → Nat :=
  let c5_2606 : Index := 5#32
  let c2_2607 : Index := 2#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2290 : Index := Scalar.indexCast v2029
  ![5, 2, v2290.toNat]
def k0_off570 (v2291 : BitVec 32) : Fin 3 → Nat :=
  let c0_2612 : Index := 0#32
  let v2294 : Index := Scalar.indexCast v2291
  let c0_2613 : Index := 0#32
  ![0, v2294.toNat, 0]

def k0_chk285 (v2291 : BitVec 32) : Prop :=
  (∀ a, (k0_off570 v2291) a + S7x1x512.size a ≤ S7x50x512.size a)
theorem k0_off570_inb : ∀ (v2291 : BitVec 32) (k0_hw285 : k0_chk285 v2291), ∀ a, (k0_off570 v2291) a + S7x1x512.size a ≤ S7x50x512.size a := fun v2291 k0_hw285 => k0_hw285

def k0_off571 (i : grid0.Coords) : Fin 3 → Nat :=
  let c5_2614 : Index := 5#32
  let c3_2615 : Index := 3#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2296 : Index := Scalar.indexCast v2029
  ![5, 3, v2296.toNat]
def k0_off572 (v2297 : BitVec 32) : Fin 3 → Nat :=
  let c0_2620 : Index := 0#32
  let v2300 : Index := Scalar.indexCast v2297
  let c0_2621 : Index := 0#32
  ![0, v2300.toNat, 0]

def k0_chk286 (v2297 : BitVec 32) : Prop :=
  (∀ a, (k0_off572 v2297) a + S7x1x512.size a ≤ S7x50x512.size a)
theorem k0_off572_inb : ∀ (v2297 : BitVec 32) (k0_hw286 : k0_chk286 v2297), ∀ a, (k0_off572 v2297) a + S7x1x512.size a ≤ S7x50x512.size a := fun v2297 k0_hw286 => k0_hw286

def k0_off573 (i : grid0.Coords) : Fin 3 → Nat :=
  let c5_2622 : Index := 5#32
  let c4_2623 : Index := 4#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2303 : Index := Scalar.indexCast v2029
  ![5, 4, v2303.toNat]
def k0_off574 (v2304 : BitVec 32) : Fin 3 → Nat :=
  let c0_2628 : Index := 0#32
  let v2307 : Index := Scalar.indexCast v2304
  let c0_2629 : Index := 0#32
  ![0, v2307.toNat, 0]

def k0_chk287 (v2304 : BitVec 32) : Prop :=
  (∀ a, (k0_off574 v2304) a + S7x1x512.size a ≤ S7x50x512.size a)
theorem k0_off574_inb : ∀ (v2304 : BitVec 32) (k0_hw287 : k0_chk287 v2304), ∀ a, (k0_off574 v2304) a + S7x1x512.size a ≤ S7x50x512.size a := fun v2304 k0_hw287 => k0_hw287

def k0_off575 (i : grid0.Coords) : Fin 3 → Nat :=
  let c5_2630 : Index := 5#32
  let c5_2631 : Index := 5#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2310 : Index := Scalar.indexCast v2029
  ![5, 5, v2310.toNat]
def k0_off576 (v2311 : BitVec 32) : Fin 3 → Nat :=
  let c0_2636 : Index := 0#32
  let v2314 : Index := Scalar.indexCast v2311
  let c0_2637 : Index := 0#32
  ![0, v2314.toNat, 0]

def k0_chk288 (v2311 : BitVec 32) : Prop :=
  (∀ a, (k0_off576 v2311) a + S7x1x512.size a ≤ S7x50x512.size a)
theorem k0_off576_inb : ∀ (v2311 : BitVec 32) (k0_hw288 : k0_chk288 v2311), ∀ a, (k0_off576 v2311) a + S7x1x512.size a ≤ S7x50x512.size a := fun v2311 k0_hw288 => k0_hw288

def k0_off577 (i : grid0.Coords) : Fin 3 → Nat :=
  let c5_2638 : Index := 5#32
  let c6_2639 : Index := 6#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2317 : Index := Scalar.indexCast v2029
  ![5, 6, v2317.toNat]
def k0_off578 (v2318 : BitVec 32) : Fin 3 → Nat :=
  let c0_2644 : Index := 0#32
  let v2321 : Index := Scalar.indexCast v2318
  let c0_2645 : Index := 0#32
  ![0, v2321.toNat, 0]

def k0_chk289 (v2318 : BitVec 32) : Prop :=
  (∀ a, (k0_off578 v2318) a + S7x1x512.size a ≤ S7x50x512.size a)
theorem k0_off578_inb : ∀ (v2318 : BitVec 32) (k0_hw289 : k0_chk289 v2318), ∀ a, (k0_off578 v2318) a + S7x1x512.size a ≤ S7x50x512.size a := fun v2318 k0_hw289 => k0_hw289

def k0_off579 (i : grid0.Coords) : Fin 3 → Nat :=
  let c6_2650 : Index := 6#32
  let c2_2651 : Index := 2#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2328 : Index := Scalar.indexCast v2029
  ![6, 2, v2328.toNat]
def k0_off580 (v2329 : BitVec 32) : Fin 3 → Nat :=
  let c0_2656 : Index := 0#32
  let v2332 : Index := Scalar.indexCast v2329
  let c0_2657 : Index := 0#32
  ![0, v2332.toNat, 0]

def k0_chk290 (v2329 : BitVec 32) : Prop :=
  (∀ a, (k0_off580 v2329) a + S7x1x512.size a ≤ S7x50x512.size a)
theorem k0_off580_inb : ∀ (v2329 : BitVec 32) (k0_hw290 : k0_chk290 v2329), ∀ a, (k0_off580 v2329) a + S7x1x512.size a ≤ S7x50x512.size a := fun v2329 k0_hw290 => k0_hw290

def k0_off581 (i : grid0.Coords) : Fin 3 → Nat :=
  let c6_2658 : Index := 6#32
  let c3_2659 : Index := 3#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2334 : Index := Scalar.indexCast v2029
  ![6, 3, v2334.toNat]
def k0_off582 (v2335 : BitVec 32) : Fin 3 → Nat :=
  let c0_2664 : Index := 0#32
  let v2338 : Index := Scalar.indexCast v2335
  let c0_2665 : Index := 0#32
  ![0, v2338.toNat, 0]

def k0_chk291 (v2335 : BitVec 32) : Prop :=
  (∀ a, (k0_off582 v2335) a + S7x1x512.size a ≤ S7x50x512.size a)
theorem k0_off582_inb : ∀ (v2335 : BitVec 32) (k0_hw291 : k0_chk291 v2335), ∀ a, (k0_off582 v2335) a + S7x1x512.size a ≤ S7x50x512.size a := fun v2335 k0_hw291 => k0_hw291

def k0_off583 (i : grid0.Coords) : Fin 3 → Nat :=
  let c6_2666 : Index := 6#32
  let c4_2667 : Index := 4#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2341 : Index := Scalar.indexCast v2029
  ![6, 4, v2341.toNat]
def k0_off584 (v2342 : BitVec 32) : Fin 3 → Nat :=
  let c0_2672 : Index := 0#32
  let v2345 : Index := Scalar.indexCast v2342
  let c0_2673 : Index := 0#32
  ![0, v2345.toNat, 0]

def k0_chk292 (v2342 : BitVec 32) : Prop :=
  (∀ a, (k0_off584 v2342) a + S7x1x512.size a ≤ S7x50x512.size a)
theorem k0_off584_inb : ∀ (v2342 : BitVec 32) (k0_hw292 : k0_chk292 v2342), ∀ a, (k0_off584 v2342) a + S7x1x512.size a ≤ S7x50x512.size a := fun v2342 k0_hw292 => k0_hw292

def k0_off585 (i : grid0.Coords) : Fin 3 → Nat :=
  let c6_2674 : Index := 6#32
  let c5_2675 : Index := 5#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2348 : Index := Scalar.indexCast v2029
  ![6, 5, v2348.toNat]
def k0_off586 (v2349 : BitVec 32) : Fin 3 → Nat :=
  let c0_2680 : Index := 0#32
  let v2352 : Index := Scalar.indexCast v2349
  let c0_2681 : Index := 0#32
  ![0, v2352.toNat, 0]

def k0_chk293 (v2349 : BitVec 32) : Prop :=
  (∀ a, (k0_off586 v2349) a + S7x1x512.size a ≤ S7x50x512.size a)
theorem k0_off586_inb : ∀ (v2349 : BitVec 32) (k0_hw293 : k0_chk293 v2349), ∀ a, (k0_off586 v2349) a + S7x1x512.size a ≤ S7x50x512.size a := fun v2349 k0_hw293 => k0_hw293

def k0_off587 (i : grid0.Coords) : Fin 3 → Nat :=
  let c6_2682 : Index := 6#32
  let c6_2683 : Index := 6#32
  let arg0 : BitVec 32 := BitVec.ofNat 32 (i 0).val
  let c32_i32_2308 : BitVec 32 := 32#32
  let v2028 : BitVec 32 := Scalar.muli arg0 c32_i32_2308
  let c6_i32 : BitVec 32 := 6#32
  let v2029 : BitVec 32 := Scalar.addi v2028 c6_i32
  let v2355 : Index := Scalar.indexCast v2029
  ![6, 6, v2355.toNat]
def k0_off588 (v2356 : BitVec 32) : Fin 3 → Nat :=
  let c0_2688 : Index := 0#32
  let v2359 : Index := Scalar.indexCast v2356
  let c0_2689 : Index := 0#32
  ![0, v2359.toNat, 0]

def k0_chk294 (v2356 : BitVec 32) : Prop :=
  (∀ a, (k0_off588 v2356) a + S7x1x512.size a ≤ S7x50x512.size a)
theorem k0_off588_inb : ∀ (v2356 : BitVec 32) (k0_hw294 : k0_chk294 v2356), ∀ a, (k0_off588 v2356) a + S7x1x512.size a ≤ S7x50x512.size a := fun v2356 k0_hw294 => k0_hw294

def k0_off589 (i : grid0.Coords) : Fin 3 → Nat :=
  let c0_2695 : Index := 0#32
  let c0_2696 : Index := 0#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2368 : Index := Scalar.indexCast v2367
  ![0, 0, v2368.toNat]
def k0_off590 (v2369 : BitVec 32) : Fin 3 → Nat :=
  let v2370 : Index := Scalar.indexCast v2369
  let c0_2697 : Index := 0#32
  let c0_2698 : Index := 0#32
  ![v2370.toNat, 0, 0]

def k0_chk295 (v2369 : BitVec 32) : Prop :=
  (∀ a, (k0_off590 v2369) a + S1x50x512.size a ≤ S250x50x512.size a)
theorem k0_off590_inb : ∀ (v2369 : BitVec 32) (k0_hw295 : k0_chk295 v2369), ∀ a, (k0_off590 v2369) a + S1x50x512.size a ≤ S250x50x512.size a := fun v2369 k0_hw295 => k0_hw295

def k0_off591 (i : grid0.Coords) : Fin 3 → Nat :=
  let c1_2706 : Index := 1#32
  let c0_2707 : Index := 0#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2378 : Index := Scalar.indexCast v2367
  ![1, 0, v2378.toNat]
def k0_off592 (v2379 : BitVec 32) : Fin 3 → Nat :=
  let v2380 : Index := Scalar.indexCast v2379
  let c0_2708 : Index := 0#32
  let c0_2709 : Index := 0#32
  ![v2380.toNat, 0, 0]

def k0_chk296 (v2379 : BitVec 32) : Prop :=
  (∀ a, (k0_off592 v2379) a + S1x50x512.size a ≤ S250x50x512.size a)
theorem k0_off592_inb : ∀ (v2379 : BitVec 32) (k0_hw296 : k0_chk296 v2379), ∀ a, (k0_off592 v2379) a + S1x50x512.size a ≤ S250x50x512.size a := fun v2379 k0_hw296 => k0_hw296

def k0_off593 (i : grid0.Coords) : Fin 3 → Nat :=
  let c2_2717 : Index := 2#32
  let c0_2718 : Index := 0#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2388 : Index := Scalar.indexCast v2367
  ![2, 0, v2388.toNat]
def k0_off594 (v2389 : BitVec 32) : Fin 3 → Nat :=
  let v2390 : Index := Scalar.indexCast v2389
  let c0_2719 : Index := 0#32
  let c0_2720 : Index := 0#32
  ![v2390.toNat, 0, 0]

def k0_chk297 (v2389 : BitVec 32) : Prop :=
  (∀ a, (k0_off594 v2389) a + S1x50x512.size a ≤ S250x50x512.size a)
theorem k0_off594_inb : ∀ (v2389 : BitVec 32) (k0_hw297 : k0_chk297 v2389), ∀ a, (k0_off594 v2389) a + S1x50x512.size a ≤ S250x50x512.size a := fun v2389 k0_hw297 => k0_hw297

def k0_off595 (i : grid0.Coords) : Fin 3 → Nat :=
  let c3_2728 : Index := 3#32
  let c0_2729 : Index := 0#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2398 : Index := Scalar.indexCast v2367
  ![3, 0, v2398.toNat]
def k0_off596 (v2399 : BitVec 32) : Fin 3 → Nat :=
  let v2400 : Index := Scalar.indexCast v2399
  let c0_2730 : Index := 0#32
  let c0_2731 : Index := 0#32
  ![v2400.toNat, 0, 0]

def k0_chk298 (v2399 : BitVec 32) : Prop :=
  (∀ a, (k0_off596 v2399) a + S1x50x512.size a ≤ S250x50x512.size a)
theorem k0_off596_inb : ∀ (v2399 : BitVec 32) (k0_hw298 : k0_chk298 v2399), ∀ a, (k0_off596 v2399) a + S1x50x512.size a ≤ S250x50x512.size a := fun v2399 k0_hw298 => k0_hw298

def k0_off597 (i : grid0.Coords) : Fin 3 → Nat :=
  let c4_2739 : Index := 4#32
  let c0_2740 : Index := 0#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2408 : Index := Scalar.indexCast v2367
  ![4, 0, v2408.toNat]
def k0_off598 (v2409 : BitVec 32) : Fin 3 → Nat :=
  let v2410 : Index := Scalar.indexCast v2409
  let c0_2741 : Index := 0#32
  let c0_2742 : Index := 0#32
  ![v2410.toNat, 0, 0]

def k0_chk299 (v2409 : BitVec 32) : Prop :=
  (∀ a, (k0_off598 v2409) a + S1x50x512.size a ≤ S250x50x512.size a)
theorem k0_off598_inb : ∀ (v2409 : BitVec 32) (k0_hw299 : k0_chk299 v2409), ∀ a, (k0_off598 v2409) a + S1x50x512.size a ≤ S250x50x512.size a := fun v2409 k0_hw299 => k0_hw299

def k0_off599 (i : grid0.Coords) : Fin 3 → Nat :=
  let c5_2750 : Index := 5#32
  let c0_2751 : Index := 0#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2418 : Index := Scalar.indexCast v2367
  ![5, 0, v2418.toNat]
def k0_off600 (v2419 : BitVec 32) : Fin 3 → Nat :=
  let v2420 : Index := Scalar.indexCast v2419
  let c0_2752 : Index := 0#32
  let c0_2753 : Index := 0#32
  ![v2420.toNat, 0, 0]

def k0_chk300 (v2419 : BitVec 32) : Prop :=
  (∀ a, (k0_off600 v2419) a + S1x50x512.size a ≤ S250x50x512.size a)
theorem k0_off600_inb : ∀ (v2419 : BitVec 32) (k0_hw300 : k0_chk300 v2419), ∀ a, (k0_off600 v2419) a + S1x50x512.size a ≤ S250x50x512.size a := fun v2419 k0_hw300 => k0_hw300

def k0_off601 (i : grid0.Coords) : Fin 3 → Nat :=
  let c6_2761 : Index := 6#32
  let c0_2762 : Index := 0#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2428 : Index := Scalar.indexCast v2367
  ![6, 0, v2428.toNat]
def k0_off602 (v2429 : BitVec 32) : Fin 3 → Nat :=
  let v2430 : Index := Scalar.indexCast v2429
  let c0_2763 : Index := 0#32
  let c0_2764 : Index := 0#32
  ![v2430.toNat, 0, 0]

def k0_chk301 (v2429 : BitVec 32) : Prop :=
  (∀ a, (k0_off602 v2429) a + S1x50x512.size a ≤ S250x50x512.size a)
theorem k0_off602_inb : ∀ (v2429 : BitVec 32) (k0_hw301 : k0_chk301 v2429), ∀ a, (k0_off602 v2429) a + S1x50x512.size a ≤ S250x50x512.size a := fun v2429 k0_hw301 => k0_hw301

def k0_off603 (i : grid0.Coords) : Fin 3 → Nat :=
  let c0_2772 : Index := 0#32
  let c2_2773 : Index := 2#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2438 : Index := Scalar.indexCast v2367
  ![0, 2, v2438.toNat]
def k0_off604 (v2439 : BitVec 32) : Fin 3 → Nat :=
  let c0_2778 : Index := 0#32
  let v2442 : Index := Scalar.indexCast v2439
  let c0_2779 : Index := 0#32
  ![0, v2442.toNat, 0]

def k0_chk302 (v2439 : BitVec 32) : Prop :=
  (∀ a, (k0_off604 v2439) a + S7x1x512.size a ≤ S7x50x512.size a)
theorem k0_off604_inb : ∀ (v2439 : BitVec 32) (k0_hw302 : k0_chk302 v2439), ∀ a, (k0_off604 v2439) a + S7x1x512.size a ≤ S7x50x512.size a := fun v2439 k0_hw302 => k0_hw302

def k0_off605 (i : grid0.Coords) : Fin 3 → Nat :=
  let c0_2780 : Index := 0#32
  let c3_2781 : Index := 3#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2444 : Index := Scalar.indexCast v2367
  ![0, 3, v2444.toNat]
def k0_off606 (v2445 : BitVec 32) : Fin 3 → Nat :=
  let c0_2786 : Index := 0#32
  let v2448 : Index := Scalar.indexCast v2445
  let c0_2787 : Index := 0#32
  ![0, v2448.toNat, 0]

def k0_chk303 (v2445 : BitVec 32) : Prop :=
  (∀ a, (k0_off606 v2445) a + S7x1x512.size a ≤ S7x50x512.size a)
theorem k0_off606_inb : ∀ (v2445 : BitVec 32) (k0_hw303 : k0_chk303 v2445), ∀ a, (k0_off606 v2445) a + S7x1x512.size a ≤ S7x50x512.size a := fun v2445 k0_hw303 => k0_hw303

def k0_off607 (i : grid0.Coords) : Fin 3 → Nat :=
  let c0_2788 : Index := 0#32
  let c4_2789 : Index := 4#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2451 : Index := Scalar.indexCast v2367
  ![0, 4, v2451.toNat]
def k0_off608 (v2452 : BitVec 32) : Fin 3 → Nat :=
  let c0_2794 : Index := 0#32
  let v2455 : Index := Scalar.indexCast v2452
  let c0_2795 : Index := 0#32
  ![0, v2455.toNat, 0]

def k0_chk304 (v2452 : BitVec 32) : Prop :=
  (∀ a, (k0_off608 v2452) a + S7x1x512.size a ≤ S7x50x512.size a)
theorem k0_off608_inb : ∀ (v2452 : BitVec 32) (k0_hw304 : k0_chk304 v2452), ∀ a, (k0_off608 v2452) a + S7x1x512.size a ≤ S7x50x512.size a := fun v2452 k0_hw304 => k0_hw304

def k0_off609 (i : grid0.Coords) : Fin 3 → Nat :=
  let c0_2796 : Index := 0#32
  let c5_2797 : Index := 5#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2458 : Index := Scalar.indexCast v2367
  ![0, 5, v2458.toNat]
def k0_off610 (v2459 : BitVec 32) : Fin 3 → Nat :=
  let c0_2802 : Index := 0#32
  let v2462 : Index := Scalar.indexCast v2459
  let c0_2803 : Index := 0#32
  ![0, v2462.toNat, 0]

def k0_chk305 (v2459 : BitVec 32) : Prop :=
  (∀ a, (k0_off610 v2459) a + S7x1x512.size a ≤ S7x50x512.size a)
theorem k0_off610_inb : ∀ (v2459 : BitVec 32) (k0_hw305 : k0_chk305 v2459), ∀ a, (k0_off610 v2459) a + S7x1x512.size a ≤ S7x50x512.size a := fun v2459 k0_hw305 => k0_hw305

def k0_off611 (i : grid0.Coords) : Fin 3 → Nat :=
  let c0_2804 : Index := 0#32
  let c6_2805 : Index := 6#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2465 : Index := Scalar.indexCast v2367
  ![0, 6, v2465.toNat]
def k0_off612 (v2466 : BitVec 32) : Fin 3 → Nat :=
  let c0_2810 : Index := 0#32
  let v2469 : Index := Scalar.indexCast v2466
  let c0_2811 : Index := 0#32
  ![0, v2469.toNat, 0]

def k0_chk306 (v2466 : BitVec 32) : Prop :=
  (∀ a, (k0_off612 v2466) a + S7x1x512.size a ≤ S7x50x512.size a)
theorem k0_off612_inb : ∀ (v2466 : BitVec 32) (k0_hw306 : k0_chk306 v2466), ∀ a, (k0_off612 v2466) a + S7x1x512.size a ≤ S7x50x512.size a := fun v2466 k0_hw306 => k0_hw306

def k0_off613 (i : grid0.Coords) : Fin 3 → Nat :=
  let c1_2815 : Index := 1#32
  let c2_2816 : Index := 2#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2476 : Index := Scalar.indexCast v2367
  ![1, 2, v2476.toNat]
def k0_off614 (v2477 : BitVec 32) : Fin 3 → Nat :=
  let c0_2821 : Index := 0#32
  let v2480 : Index := Scalar.indexCast v2477
  let c0_2822 : Index := 0#32
  ![0, v2480.toNat, 0]

def k0_chk307 (v2477 : BitVec 32) : Prop :=
  (∀ a, (k0_off614 v2477) a + S7x1x512.size a ≤ S7x50x512.size a)
theorem k0_off614_inb : ∀ (v2477 : BitVec 32) (k0_hw307 : k0_chk307 v2477), ∀ a, (k0_off614 v2477) a + S7x1x512.size a ≤ S7x50x512.size a := fun v2477 k0_hw307 => k0_hw307

def k0_off615 (i : grid0.Coords) : Fin 3 → Nat :=
  let c1_2823 : Index := 1#32
  let c3_2824 : Index := 3#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2482 : Index := Scalar.indexCast v2367
  ![1, 3, v2482.toNat]
def k0_off616 (v2483 : BitVec 32) : Fin 3 → Nat :=
  let c0_2829 : Index := 0#32
  let v2486 : Index := Scalar.indexCast v2483
  let c0_2830 : Index := 0#32
  ![0, v2486.toNat, 0]

def k0_chk308 (v2483 : BitVec 32) : Prop :=
  (∀ a, (k0_off616 v2483) a + S7x1x512.size a ≤ S7x50x512.size a)
theorem k0_off616_inb : ∀ (v2483 : BitVec 32) (k0_hw308 : k0_chk308 v2483), ∀ a, (k0_off616 v2483) a + S7x1x512.size a ≤ S7x50x512.size a := fun v2483 k0_hw308 => k0_hw308

def k0_off617 (i : grid0.Coords) : Fin 3 → Nat :=
  let c1_2831 : Index := 1#32
  let c4_2832 : Index := 4#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2489 : Index := Scalar.indexCast v2367
  ![1, 4, v2489.toNat]
def k0_off618 (v2490 : BitVec 32) : Fin 3 → Nat :=
  let c0_2837 : Index := 0#32
  let v2493 : Index := Scalar.indexCast v2490
  let c0_2838 : Index := 0#32
  ![0, v2493.toNat, 0]

def k0_chk309 (v2490 : BitVec 32) : Prop :=
  (∀ a, (k0_off618 v2490) a + S7x1x512.size a ≤ S7x50x512.size a)
theorem k0_off618_inb : ∀ (v2490 : BitVec 32) (k0_hw309 : k0_chk309 v2490), ∀ a, (k0_off618 v2490) a + S7x1x512.size a ≤ S7x50x512.size a := fun v2490 k0_hw309 => k0_hw309

def k0_off619 (i : grid0.Coords) : Fin 3 → Nat :=
  let c1_2839 : Index := 1#32
  let c5_2840 : Index := 5#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2496 : Index := Scalar.indexCast v2367
  ![1, 5, v2496.toNat]
def k0_off620 (v2497 : BitVec 32) : Fin 3 → Nat :=
  let c0_2845 : Index := 0#32
  let v2500 : Index := Scalar.indexCast v2497
  let c0_2846 : Index := 0#32
  ![0, v2500.toNat, 0]

def k0_chk310 (v2497 : BitVec 32) : Prop :=
  (∀ a, (k0_off620 v2497) a + S7x1x512.size a ≤ S7x50x512.size a)
theorem k0_off620_inb : ∀ (v2497 : BitVec 32) (k0_hw310 : k0_chk310 v2497), ∀ a, (k0_off620 v2497) a + S7x1x512.size a ≤ S7x50x512.size a := fun v2497 k0_hw310 => k0_hw310

def k0_off621 (i : grid0.Coords) : Fin 3 → Nat :=
  let c1_2847 : Index := 1#32
  let c6_2848 : Index := 6#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2503 : Index := Scalar.indexCast v2367
  ![1, 6, v2503.toNat]
def k0_off622 (v2504 : BitVec 32) : Fin 3 → Nat :=
  let c0_2853 : Index := 0#32
  let v2507 : Index := Scalar.indexCast v2504
  let c0_2854 : Index := 0#32
  ![0, v2507.toNat, 0]

def k0_chk311 (v2504 : BitVec 32) : Prop :=
  (∀ a, (k0_off622 v2504) a + S7x1x512.size a ≤ S7x50x512.size a)
theorem k0_off622_inb : ∀ (v2504 : BitVec 32) (k0_hw311 : k0_chk311 v2504), ∀ a, (k0_off622 v2504) a + S7x1x512.size a ≤ S7x50x512.size a := fun v2504 k0_hw311 => k0_hw311

def k0_off623 (i : grid0.Coords) : Fin 3 → Nat :=
  let c2_2859 : Index := 2#32
  let c2_2860 : Index := 2#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2514 : Index := Scalar.indexCast v2367
  ![2, 2, v2514.toNat]
def k0_off624 (v2515 : BitVec 32) : Fin 3 → Nat :=
  let c0_2865 : Index := 0#32
  let v2518 : Index := Scalar.indexCast v2515
  let c0_2866 : Index := 0#32
  ![0, v2518.toNat, 0]

def k0_chk312 (v2515 : BitVec 32) : Prop :=
  (∀ a, (k0_off624 v2515) a + S7x1x512.size a ≤ S7x50x512.size a)
theorem k0_off624_inb : ∀ (v2515 : BitVec 32) (k0_hw312 : k0_chk312 v2515), ∀ a, (k0_off624 v2515) a + S7x1x512.size a ≤ S7x50x512.size a := fun v2515 k0_hw312 => k0_hw312

def k0_off625 (i : grid0.Coords) : Fin 3 → Nat :=
  let c2_2867 : Index := 2#32
  let c3_2868 : Index := 3#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2520 : Index := Scalar.indexCast v2367
  ![2, 3, v2520.toNat]
def k0_off626 (v2521 : BitVec 32) : Fin 3 → Nat :=
  let c0_2873 : Index := 0#32
  let v2524 : Index := Scalar.indexCast v2521
  let c0_2874 : Index := 0#32
  ![0, v2524.toNat, 0]

def k0_chk313 (v2521 : BitVec 32) : Prop :=
  (∀ a, (k0_off626 v2521) a + S7x1x512.size a ≤ S7x50x512.size a)
theorem k0_off626_inb : ∀ (v2521 : BitVec 32) (k0_hw313 : k0_chk313 v2521), ∀ a, (k0_off626 v2521) a + S7x1x512.size a ≤ S7x50x512.size a := fun v2521 k0_hw313 => k0_hw313

def k0_off627 (i : grid0.Coords) : Fin 3 → Nat :=
  let c2_2875 : Index := 2#32
  let c4_2876 : Index := 4#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2527 : Index := Scalar.indexCast v2367
  ![2, 4, v2527.toNat]
def k0_off628 (v2528 : BitVec 32) : Fin 3 → Nat :=
  let c0_2881 : Index := 0#32
  let v2531 : Index := Scalar.indexCast v2528
  let c0_2882 : Index := 0#32
  ![0, v2531.toNat, 0]

def k0_chk314 (v2528 : BitVec 32) : Prop :=
  (∀ a, (k0_off628 v2528) a + S7x1x512.size a ≤ S7x50x512.size a)
theorem k0_off628_inb : ∀ (v2528 : BitVec 32) (k0_hw314 : k0_chk314 v2528), ∀ a, (k0_off628 v2528) a + S7x1x512.size a ≤ S7x50x512.size a := fun v2528 k0_hw314 => k0_hw314

def k0_off629 (i : grid0.Coords) : Fin 3 → Nat :=
  let c2_2883 : Index := 2#32
  let c5_2884 : Index := 5#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2534 : Index := Scalar.indexCast v2367
  ![2, 5, v2534.toNat]
def k0_off630 (v2535 : BitVec 32) : Fin 3 → Nat :=
  let c0_2889 : Index := 0#32
  let v2538 : Index := Scalar.indexCast v2535
  let c0_2890 : Index := 0#32
  ![0, v2538.toNat, 0]

def k0_chk315 (v2535 : BitVec 32) : Prop :=
  (∀ a, (k0_off630 v2535) a + S7x1x512.size a ≤ S7x50x512.size a)
theorem k0_off630_inb : ∀ (v2535 : BitVec 32) (k0_hw315 : k0_chk315 v2535), ∀ a, (k0_off630 v2535) a + S7x1x512.size a ≤ S7x50x512.size a := fun v2535 k0_hw315 => k0_hw315

def k0_off631 (i : grid0.Coords) : Fin 3 → Nat :=
  let c2_2891 : Index := 2#32
  let c6_2892 : Index := 6#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2541 : Index := Scalar.indexCast v2367
  ![2, 6, v2541.toNat]
def k0_off632 (v2542 : BitVec 32) : Fin 3 → Nat :=
  let c0_2897 : Index := 0#32
  let v2545 : Index := Scalar.indexCast v2542
  let c0_2898 : Index := 0#32
  ![0, v2545.toNat, 0]

def k0_chk316 (v2542 : BitVec 32) : Prop :=
  (∀ a, (k0_off632 v2542) a + S7x1x512.size a ≤ S7x50x512.size a)
theorem k0_off632_inb : ∀ (v2542 : BitVec 32) (k0_hw316 : k0_chk316 v2542), ∀ a, (k0_off632 v2542) a + S7x1x512.size a ≤ S7x50x512.size a := fun v2542 k0_hw316 => k0_hw316

def k0_off633 (i : grid0.Coords) : Fin 3 → Nat :=
  let c3_2903 : Index := 3#32
  let c2_2904 : Index := 2#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2552 : Index := Scalar.indexCast v2367
  ![3, 2, v2552.toNat]
def k0_off634 (v2553 : BitVec 32) : Fin 3 → Nat :=
  let c0_2909 : Index := 0#32
  let v2556 : Index := Scalar.indexCast v2553
  let c0_2910 : Index := 0#32
  ![0, v2556.toNat, 0]

def k0_chk317 (v2553 : BitVec 32) : Prop :=
  (∀ a, (k0_off634 v2553) a + S7x1x512.size a ≤ S7x50x512.size a)
theorem k0_off634_inb : ∀ (v2553 : BitVec 32) (k0_hw317 : k0_chk317 v2553), ∀ a, (k0_off634 v2553) a + S7x1x512.size a ≤ S7x50x512.size a := fun v2553 k0_hw317 => k0_hw317

def k0_off635 (i : grid0.Coords) : Fin 3 → Nat :=
  let c3_2911 : Index := 3#32
  let c3_2912 : Index := 3#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2558 : Index := Scalar.indexCast v2367
  ![3, 3, v2558.toNat]
def k0_off636 (v2559 : BitVec 32) : Fin 3 → Nat :=
  let c0_2917 : Index := 0#32
  let v2562 : Index := Scalar.indexCast v2559
  let c0_2918 : Index := 0#32
  ![0, v2562.toNat, 0]

def k0_chk318 (v2559 : BitVec 32) : Prop :=
  (∀ a, (k0_off636 v2559) a + S7x1x512.size a ≤ S7x50x512.size a)
theorem k0_off636_inb : ∀ (v2559 : BitVec 32) (k0_hw318 : k0_chk318 v2559), ∀ a, (k0_off636 v2559) a + S7x1x512.size a ≤ S7x50x512.size a := fun v2559 k0_hw318 => k0_hw318

def k0_off637 (i : grid0.Coords) : Fin 3 → Nat :=
  let c3_2919 : Index := 3#32
  let c4_2920 : Index := 4#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2565 : Index := Scalar.indexCast v2367
  ![3, 4, v2565.toNat]
def k0_off638 (v2566 : BitVec 32) : Fin 3 → Nat :=
  let c0_2925 : Index := 0#32
  let v2569 : Index := Scalar.indexCast v2566
  let c0_2926 : Index := 0#32
  ![0, v2569.toNat, 0]

def k0_chk319 (v2566 : BitVec 32) : Prop :=
  (∀ a, (k0_off638 v2566) a + S7x1x512.size a ≤ S7x50x512.size a)
theorem k0_off638_inb : ∀ (v2566 : BitVec 32) (k0_hw319 : k0_chk319 v2566), ∀ a, (k0_off638 v2566) a + S7x1x512.size a ≤ S7x50x512.size a := fun v2566 k0_hw319 => k0_hw319

def k0_off639 (i : grid0.Coords) : Fin 3 → Nat :=
  let c3_2927 : Index := 3#32
  let c5_2928 : Index := 5#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2572 : Index := Scalar.indexCast v2367
  ![3, 5, v2572.toNat]
def k0_off640 (v2573 : BitVec 32) : Fin 3 → Nat :=
  let c0_2933 : Index := 0#32
  let v2576 : Index := Scalar.indexCast v2573
  let c0_2934 : Index := 0#32
  ![0, v2576.toNat, 0]

def k0_chk320 (v2573 : BitVec 32) : Prop :=
  (∀ a, (k0_off640 v2573) a + S7x1x512.size a ≤ S7x50x512.size a)
theorem k0_off640_inb : ∀ (v2573 : BitVec 32) (k0_hw320 : k0_chk320 v2573), ∀ a, (k0_off640 v2573) a + S7x1x512.size a ≤ S7x50x512.size a := fun v2573 k0_hw320 => k0_hw320

def k0_off641 (i : grid0.Coords) : Fin 3 → Nat :=
  let c3_2935 : Index := 3#32
  let c6_2936 : Index := 6#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2579 : Index := Scalar.indexCast v2367
  ![3, 6, v2579.toNat]
def k0_off642 (v2580 : BitVec 32) : Fin 3 → Nat :=
  let c0_2941 : Index := 0#32
  let v2583 : Index := Scalar.indexCast v2580
  let c0_2942 : Index := 0#32
  ![0, v2583.toNat, 0]

def k0_chk321 (v2580 : BitVec 32) : Prop :=
  (∀ a, (k0_off642 v2580) a + S7x1x512.size a ≤ S7x50x512.size a)
theorem k0_off642_inb : ∀ (v2580 : BitVec 32) (k0_hw321 : k0_chk321 v2580), ∀ a, (k0_off642 v2580) a + S7x1x512.size a ≤ S7x50x512.size a := fun v2580 k0_hw321 => k0_hw321

def k0_off643 (i : grid0.Coords) : Fin 3 → Nat :=
  let c4_2947 : Index := 4#32
  let c2_2948 : Index := 2#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2590 : Index := Scalar.indexCast v2367
  ![4, 2, v2590.toNat]
def k0_off644 (v2591 : BitVec 32) : Fin 3 → Nat :=
  let c0_2953 : Index := 0#32
  let v2594 : Index := Scalar.indexCast v2591
  let c0_2954 : Index := 0#32
  ![0, v2594.toNat, 0]

def k0_chk322 (v2591 : BitVec 32) : Prop :=
  (∀ a, (k0_off644 v2591) a + S7x1x512.size a ≤ S7x50x512.size a)
theorem k0_off644_inb : ∀ (v2591 : BitVec 32) (k0_hw322 : k0_chk322 v2591), ∀ a, (k0_off644 v2591) a + S7x1x512.size a ≤ S7x50x512.size a := fun v2591 k0_hw322 => k0_hw322

def k0_off645 (i : grid0.Coords) : Fin 3 → Nat :=
  let c4_2955 : Index := 4#32
  let c3_2956 : Index := 3#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2596 : Index := Scalar.indexCast v2367
  ![4, 3, v2596.toNat]
def k0_off646 (v2597 : BitVec 32) : Fin 3 → Nat :=
  let c0_2961 : Index := 0#32
  let v2600 : Index := Scalar.indexCast v2597
  let c0_2962 : Index := 0#32
  ![0, v2600.toNat, 0]

def k0_chk323 (v2597 : BitVec 32) : Prop :=
  (∀ a, (k0_off646 v2597) a + S7x1x512.size a ≤ S7x50x512.size a)
theorem k0_off646_inb : ∀ (v2597 : BitVec 32) (k0_hw323 : k0_chk323 v2597), ∀ a, (k0_off646 v2597) a + S7x1x512.size a ≤ S7x50x512.size a := fun v2597 k0_hw323 => k0_hw323

def k0_off647 (i : grid0.Coords) : Fin 3 → Nat :=
  let c4_2963 : Index := 4#32
  let c4_2964 : Index := 4#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2603 : Index := Scalar.indexCast v2367
  ![4, 4, v2603.toNat]
def k0_off648 (v2604 : BitVec 32) : Fin 3 → Nat :=
  let c0_2969 : Index := 0#32
  let v2607 : Index := Scalar.indexCast v2604
  let c0_2970 : Index := 0#32
  ![0, v2607.toNat, 0]

def k0_chk324 (v2604 : BitVec 32) : Prop :=
  (∀ a, (k0_off648 v2604) a + S7x1x512.size a ≤ S7x50x512.size a)
theorem k0_off648_inb : ∀ (v2604 : BitVec 32) (k0_hw324 : k0_chk324 v2604), ∀ a, (k0_off648 v2604) a + S7x1x512.size a ≤ S7x50x512.size a := fun v2604 k0_hw324 => k0_hw324

def k0_off649 (i : grid0.Coords) : Fin 3 → Nat :=
  let c4_2971 : Index := 4#32
  let c5_2972 : Index := 5#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2610 : Index := Scalar.indexCast v2367
  ![4, 5, v2610.toNat]
def k0_off650 (v2611 : BitVec 32) : Fin 3 → Nat :=
  let c0_2977 : Index := 0#32
  let v2614 : Index := Scalar.indexCast v2611
  let c0_2978 : Index := 0#32
  ![0, v2614.toNat, 0]

def k0_chk325 (v2611 : BitVec 32) : Prop :=
  (∀ a, (k0_off650 v2611) a + S7x1x512.size a ≤ S7x50x512.size a)
theorem k0_off650_inb : ∀ (v2611 : BitVec 32) (k0_hw325 : k0_chk325 v2611), ∀ a, (k0_off650 v2611) a + S7x1x512.size a ≤ S7x50x512.size a := fun v2611 k0_hw325 => k0_hw325

def k0_off651 (i : grid0.Coords) : Fin 3 → Nat :=
  let c4_2979 : Index := 4#32
  let c6_2980 : Index := 6#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2617 : Index := Scalar.indexCast v2367
  ![4, 6, v2617.toNat]
def k0_off652 (v2618 : BitVec 32) : Fin 3 → Nat :=
  let c0_2985 : Index := 0#32
  let v2621 : Index := Scalar.indexCast v2618
  let c0_2986 : Index := 0#32
  ![0, v2621.toNat, 0]

def k0_chk326 (v2618 : BitVec 32) : Prop :=
  (∀ a, (k0_off652 v2618) a + S7x1x512.size a ≤ S7x50x512.size a)
theorem k0_off652_inb : ∀ (v2618 : BitVec 32) (k0_hw326 : k0_chk326 v2618), ∀ a, (k0_off652 v2618) a + S7x1x512.size a ≤ S7x50x512.size a := fun v2618 k0_hw326 => k0_hw326

def k0_off653 (i : grid0.Coords) : Fin 3 → Nat :=
  let c5_2991 : Index := 5#32
  let c2_2992 : Index := 2#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2628 : Index := Scalar.indexCast v2367
  ![5, 2, v2628.toNat]
def k0_off654 (v2629 : BitVec 32) : Fin 3 → Nat :=
  let c0_2997 : Index := 0#32
  let v2632 : Index := Scalar.indexCast v2629
  let c0_2998 : Index := 0#32
  ![0, v2632.toNat, 0]

def k0_chk327 (v2629 : BitVec 32) : Prop :=
  (∀ a, (k0_off654 v2629) a + S7x1x512.size a ≤ S7x50x512.size a)
theorem k0_off654_inb : ∀ (v2629 : BitVec 32) (k0_hw327 : k0_chk327 v2629), ∀ a, (k0_off654 v2629) a + S7x1x512.size a ≤ S7x50x512.size a := fun v2629 k0_hw327 => k0_hw327

def k0_off655 (i : grid0.Coords) : Fin 3 → Nat :=
  let c5_2999 : Index := 5#32
  let c3_3000 : Index := 3#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2634 : Index := Scalar.indexCast v2367
  ![5, 3, v2634.toNat]
def k0_off656 (v2635 : BitVec 32) : Fin 3 → Nat :=
  let c0_3005 : Index := 0#32
  let v2638 : Index := Scalar.indexCast v2635
  let c0_3006 : Index := 0#32
  ![0, v2638.toNat, 0]

def k0_chk328 (v2635 : BitVec 32) : Prop :=
  (∀ a, (k0_off656 v2635) a + S7x1x512.size a ≤ S7x50x512.size a)
theorem k0_off656_inb : ∀ (v2635 : BitVec 32) (k0_hw328 : k0_chk328 v2635), ∀ a, (k0_off656 v2635) a + S7x1x512.size a ≤ S7x50x512.size a := fun v2635 k0_hw328 => k0_hw328

def k0_off657 (i : grid0.Coords) : Fin 3 → Nat :=
  let c5_3007 : Index := 5#32
  let c4_3008 : Index := 4#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2641 : Index := Scalar.indexCast v2367
  ![5, 4, v2641.toNat]
def k0_off658 (v2642 : BitVec 32) : Fin 3 → Nat :=
  let c0_3013 : Index := 0#32
  let v2645 : Index := Scalar.indexCast v2642
  let c0_3014 : Index := 0#32
  ![0, v2645.toNat, 0]

def k0_chk329 (v2642 : BitVec 32) : Prop :=
  (∀ a, (k0_off658 v2642) a + S7x1x512.size a ≤ S7x50x512.size a)
theorem k0_off658_inb : ∀ (v2642 : BitVec 32) (k0_hw329 : k0_chk329 v2642), ∀ a, (k0_off658 v2642) a + S7x1x512.size a ≤ S7x50x512.size a := fun v2642 k0_hw329 => k0_hw329

def k0_off659 (i : grid0.Coords) : Fin 3 → Nat :=
  let c5_3015 : Index := 5#32
  let c5_3016 : Index := 5#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2648 : Index := Scalar.indexCast v2367
  ![5, 5, v2648.toNat]
def k0_off660 (v2649 : BitVec 32) : Fin 3 → Nat :=
  let c0_3021 : Index := 0#32
  let v2652 : Index := Scalar.indexCast v2649
  let c0_3022 : Index := 0#32
  ![0, v2652.toNat, 0]

def k0_chk330 (v2649 : BitVec 32) : Prop :=
  (∀ a, (k0_off660 v2649) a + S7x1x512.size a ≤ S7x50x512.size a)
theorem k0_off660_inb : ∀ (v2649 : BitVec 32) (k0_hw330 : k0_chk330 v2649), ∀ a, (k0_off660 v2649) a + S7x1x512.size a ≤ S7x50x512.size a := fun v2649 k0_hw330 => k0_hw330

def k0_off661 (i : grid0.Coords) : Fin 3 → Nat :=
  let c5_3023 : Index := 5#32
  let c6_3024 : Index := 6#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2655 : Index := Scalar.indexCast v2367
  ![5, 6, v2655.toNat]
def k0_off662 (v2656 : BitVec 32) : Fin 3 → Nat :=
  let c0_3029 : Index := 0#32
  let v2659 : Index := Scalar.indexCast v2656
  let c0_3030 : Index := 0#32
  ![0, v2659.toNat, 0]

def k0_chk331 (v2656 : BitVec 32) : Prop :=
  (∀ a, (k0_off662 v2656) a + S7x1x512.size a ≤ S7x50x512.size a)
theorem k0_off662_inb : ∀ (v2656 : BitVec 32) (k0_hw331 : k0_chk331 v2656), ∀ a, (k0_off662 v2656) a + S7x1x512.size a ≤ S7x50x512.size a := fun v2656 k0_hw331 => k0_hw331

def k0_off663 (i : grid0.Coords) : Fin 3 → Nat :=
  let c6_3035 : Index := 6#32
  let c2_3036 : Index := 2#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2666 : Index := Scalar.indexCast v2367
  ![6, 2, v2666.toNat]
def k0_off664 (v2667 : BitVec 32) : Fin 3 → Nat :=
  let c0_3041 : Index := 0#32
  let v2670 : Index := Scalar.indexCast v2667
  let c0_3042 : Index := 0#32
  ![0, v2670.toNat, 0]

def k0_chk332 (v2667 : BitVec 32) : Prop :=
  (∀ a, (k0_off664 v2667) a + S7x1x512.size a ≤ S7x50x512.size a)
theorem k0_off664_inb : ∀ (v2667 : BitVec 32) (k0_hw332 : k0_chk332 v2667), ∀ a, (k0_off664 v2667) a + S7x1x512.size a ≤ S7x50x512.size a := fun v2667 k0_hw332 => k0_hw332

def k0_off665 (i : grid0.Coords) : Fin 3 → Nat :=
  let c6_3043 : Index := 6#32
  let c3_3044 : Index := 3#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2672 : Index := Scalar.indexCast v2367
  ![6, 3, v2672.toNat]
def k0_off666 (v2673 : BitVec 32) : Fin 3 → Nat :=
  let c0_3049 : Index := 0#32
  let v2676 : Index := Scalar.indexCast v2673
  let c0_3050 : Index := 0#32
  ![0, v2676.toNat, 0]

def k0_chk333 (v2673 : BitVec 32) : Prop :=
  (∀ a, (k0_off666 v2673) a + S7x1x512.size a ≤ S7x50x512.size a)
theorem k0_off666_inb : ∀ (v2673 : BitVec 32) (k0_hw333 : k0_chk333 v2673), ∀ a, (k0_off666 v2673) a + S7x1x512.size a ≤ S7x50x512.size a := fun v2673 k0_hw333 => k0_hw333

def k0_off667 (i : grid0.Coords) : Fin 3 → Nat :=
  let c6_3051 : Index := 6#32
  let c4_3052 : Index := 4#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2679 : Index := Scalar.indexCast v2367
  ![6, 4, v2679.toNat]
def k0_off668 (v2680 : BitVec 32) : Fin 3 → Nat :=
  let c0_3057 : Index := 0#32
  let v2683 : Index := Scalar.indexCast v2680
  let c0_3058 : Index := 0#32
  ![0, v2683.toNat, 0]

def k0_chk334 (v2680 : BitVec 32) : Prop :=
  (∀ a, (k0_off668 v2680) a + S7x1x512.size a ≤ S7x50x512.size a)
theorem k0_off668_inb : ∀ (v2680 : BitVec 32) (k0_hw334 : k0_chk334 v2680), ∀ a, (k0_off668 v2680) a + S7x1x512.size a ≤ S7x50x512.size a := fun v2680 k0_hw334 => k0_hw334

def k0_off669 (i : grid0.Coords) : Fin 3 → Nat :=
  let c6_3059 : Index := 6#32
  let c5_3060 : Index := 5#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2686 : Index := Scalar.indexCast v2367
  ![6, 5, v2686.toNat]
def k0_off670 (v2687 : BitVec 32) : Fin 3 → Nat :=
  let c0_3065 : Index := 0#32
  let v2690 : Index := Scalar.indexCast v2687
  let c0_3066 : Index := 0#32
  ![0, v2690.toNat, 0]

def k0_chk335 (v2687 : BitVec 32) : Prop :=
  (∀ a, (k0_off670 v2687) a + S7x1x512.size a ≤ S7x50x512.size a)
theorem k0_off670_inb : ∀ (v2687 : BitVec 32) (k0_hw335 : k0_chk335 v2687), ∀ a, (k0_off670 v2687) a + S7x1x512.size a ≤ S7x50x512.size a := fun v2687 k0_hw335 => k0_hw335

def k0_off671 (i : grid0.Coords) : Fin 3 → Nat :=
  let c6_3067 : Index := 6#32
  let c6_3068 : Index := 6#32
  let arg0 : BitVec 32 := BitVec.ofNat 32 (i 0).val
  let c32_i32_2694 : BitVec 32 := 32#32
  let v2366 : BitVec 32 := Scalar.muli arg0 c32_i32_2694
  let c7_i32 : BitVec 32 := 7#32
  let v2367 : BitVec 32 := Scalar.addi v2366 c7_i32
  let v2693 : Index := Scalar.indexCast v2367
  ![6, 6, v2693.toNat]
def k0_off672 (v2694 : BitVec 32) : Fin 3 → Nat :=
  let c0_3073 : Index := 0#32
  let v2697 : Index := Scalar.indexCast v2694
  let c0_3074 : Index := 0#32
  ![0, v2697.toNat, 0]

def k0_chk336 (v2694 : BitVec 32) : Prop :=
  (∀ a, (k0_off672 v2694) a + S7x1x512.size a ≤ S7x50x512.size a)
theorem k0_off672_inb : ∀ (v2694 : BitVec 32) (k0_hw336 : k0_chk336 v2694), ∀ a, (k0_off672 v2694) a + S7x1x512.size a ≤ S7x50x512.size a := fun v2694 k0_hw336 => k0_hw336

def k0_off673 (i : grid0.Coords) : Fin 3 → Nat :=
  let c0_3080 : Index := 0#32
  let c0_3081 : Index := 0#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2706 : Index := Scalar.indexCast v2705
  ![0, 0, v2706.toNat]
def k0_off674 (v2707 : BitVec 32) : Fin 3 → Nat :=
  let v2708 : Index := Scalar.indexCast v2707
  let c0_3082 : Index := 0#32
  let c0_3083 : Index := 0#32
  ![v2708.toNat, 0, 0]

def k0_chk337 (v2707 : BitVec 32) : Prop :=
  (∀ a, (k0_off674 v2707) a + S1x50x512.size a ≤ S250x50x512.size a)
theorem k0_off674_inb : ∀ (v2707 : BitVec 32) (k0_hw337 : k0_chk337 v2707), ∀ a, (k0_off674 v2707) a + S1x50x512.size a ≤ S250x50x512.size a := fun v2707 k0_hw337 => k0_hw337

def k0_off675 (i : grid0.Coords) : Fin 3 → Nat :=
  let c1_3091 : Index := 1#32
  let c0_3092 : Index := 0#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2716 : Index := Scalar.indexCast v2705
  ![1, 0, v2716.toNat]
def k0_off676 (v2717 : BitVec 32) : Fin 3 → Nat :=
  let v2718 : Index := Scalar.indexCast v2717
  let c0_3093 : Index := 0#32
  let c0_3094 : Index := 0#32
  ![v2718.toNat, 0, 0]

def k0_chk338 (v2717 : BitVec 32) : Prop :=
  (∀ a, (k0_off676 v2717) a + S1x50x512.size a ≤ S250x50x512.size a)
theorem k0_off676_inb : ∀ (v2717 : BitVec 32) (k0_hw338 : k0_chk338 v2717), ∀ a, (k0_off676 v2717) a + S1x50x512.size a ≤ S250x50x512.size a := fun v2717 k0_hw338 => k0_hw338

def k0_off677 (i : grid0.Coords) : Fin 3 → Nat :=
  let c2_3102 : Index := 2#32
  let c0_3103 : Index := 0#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2726 : Index := Scalar.indexCast v2705
  ![2, 0, v2726.toNat]
def k0_off678 (v2727 : BitVec 32) : Fin 3 → Nat :=
  let v2728 : Index := Scalar.indexCast v2727
  let c0_3104 : Index := 0#32
  let c0_3105 : Index := 0#32
  ![v2728.toNat, 0, 0]

def k0_chk339 (v2727 : BitVec 32) : Prop :=
  (∀ a, (k0_off678 v2727) a + S1x50x512.size a ≤ S250x50x512.size a)
theorem k0_off678_inb : ∀ (v2727 : BitVec 32) (k0_hw339 : k0_chk339 v2727), ∀ a, (k0_off678 v2727) a + S1x50x512.size a ≤ S250x50x512.size a := fun v2727 k0_hw339 => k0_hw339

def k0_off679 (i : grid0.Coords) : Fin 3 → Nat :=
  let c3_3113 : Index := 3#32
  let c0_3114 : Index := 0#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2736 : Index := Scalar.indexCast v2705
  ![3, 0, v2736.toNat]
def k0_off680 (v2737 : BitVec 32) : Fin 3 → Nat :=
  let v2738 : Index := Scalar.indexCast v2737
  let c0_3115 : Index := 0#32
  let c0_3116 : Index := 0#32
  ![v2738.toNat, 0, 0]

def k0_chk340 (v2737 : BitVec 32) : Prop :=
  (∀ a, (k0_off680 v2737) a + S1x50x512.size a ≤ S250x50x512.size a)
theorem k0_off680_inb : ∀ (v2737 : BitVec 32) (k0_hw340 : k0_chk340 v2737), ∀ a, (k0_off680 v2737) a + S1x50x512.size a ≤ S250x50x512.size a := fun v2737 k0_hw340 => k0_hw340

def k0_off681 (i : grid0.Coords) : Fin 3 → Nat :=
  let c4_3124 : Index := 4#32
  let c0_3125 : Index := 0#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2746 : Index := Scalar.indexCast v2705
  ![4, 0, v2746.toNat]
def k0_off682 (v2747 : BitVec 32) : Fin 3 → Nat :=
  let v2748 : Index := Scalar.indexCast v2747
  let c0_3126 : Index := 0#32
  let c0_3127 : Index := 0#32
  ![v2748.toNat, 0, 0]

def k0_chk341 (v2747 : BitVec 32) : Prop :=
  (∀ a, (k0_off682 v2747) a + S1x50x512.size a ≤ S250x50x512.size a)
theorem k0_off682_inb : ∀ (v2747 : BitVec 32) (k0_hw341 : k0_chk341 v2747), ∀ a, (k0_off682 v2747) a + S1x50x512.size a ≤ S250x50x512.size a := fun v2747 k0_hw341 => k0_hw341

def k0_off683 (i : grid0.Coords) : Fin 3 → Nat :=
  let c5_3135 : Index := 5#32
  let c0_3136 : Index := 0#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2756 : Index := Scalar.indexCast v2705
  ![5, 0, v2756.toNat]
def k0_off684 (v2757 : BitVec 32) : Fin 3 → Nat :=
  let v2758 : Index := Scalar.indexCast v2757
  let c0_3137 : Index := 0#32
  let c0_3138 : Index := 0#32
  ![v2758.toNat, 0, 0]

def k0_chk342 (v2757 : BitVec 32) : Prop :=
  (∀ a, (k0_off684 v2757) a + S1x50x512.size a ≤ S250x50x512.size a)
theorem k0_off684_inb : ∀ (v2757 : BitVec 32) (k0_hw342 : k0_chk342 v2757), ∀ a, (k0_off684 v2757) a + S1x50x512.size a ≤ S250x50x512.size a := fun v2757 k0_hw342 => k0_hw342

def k0_off685 (i : grid0.Coords) : Fin 3 → Nat :=
  let c6_3146 : Index := 6#32
  let c0_3147 : Index := 0#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2766 : Index := Scalar.indexCast v2705
  ![6, 0, v2766.toNat]
def k0_off686 (v2767 : BitVec 32) : Fin 3 → Nat :=
  let v2768 : Index := Scalar.indexCast v2767
  let c0_3148 : Index := 0#32
  let c0_3149 : Index := 0#32
  ![v2768.toNat, 0, 0]

def k0_chk343 (v2767 : BitVec 32) : Prop :=
  (∀ a, (k0_off686 v2767) a + S1x50x512.size a ≤ S250x50x512.size a)
theorem k0_off686_inb : ∀ (v2767 : BitVec 32) (k0_hw343 : k0_chk343 v2767), ∀ a, (k0_off686 v2767) a + S1x50x512.size a ≤ S250x50x512.size a := fun v2767 k0_hw343 => k0_hw343

def k0_off687 (i : grid0.Coords) : Fin 3 → Nat :=
  let c0_3157 : Index := 0#32
  let c2_3158 : Index := 2#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2776 : Index := Scalar.indexCast v2705
  ![0, 2, v2776.toNat]
def k0_off688 (v2777 : BitVec 32) : Fin 3 → Nat :=
  let c0_3163 : Index := 0#32
  let v2780 : Index := Scalar.indexCast v2777
  let c0_3164 : Index := 0#32
  ![0, v2780.toNat, 0]

def k0_chk344 (v2777 : BitVec 32) : Prop :=
  (∀ a, (k0_off688 v2777) a + S7x1x512.size a ≤ S7x50x512.size a)
theorem k0_off688_inb : ∀ (v2777 : BitVec 32) (k0_hw344 : k0_chk344 v2777), ∀ a, (k0_off688 v2777) a + S7x1x512.size a ≤ S7x50x512.size a := fun v2777 k0_hw344 => k0_hw344

def k0_off689 (i : grid0.Coords) : Fin 3 → Nat :=
  let c0_3165 : Index := 0#32
  let c3_3166 : Index := 3#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2782 : Index := Scalar.indexCast v2705
  ![0, 3, v2782.toNat]
def k0_off690 (v2783 : BitVec 32) : Fin 3 → Nat :=
  let c0_3171 : Index := 0#32
  let v2786 : Index := Scalar.indexCast v2783
  let c0_3172 : Index := 0#32
  ![0, v2786.toNat, 0]

def k0_chk345 (v2783 : BitVec 32) : Prop :=
  (∀ a, (k0_off690 v2783) a + S7x1x512.size a ≤ S7x50x512.size a)
theorem k0_off690_inb : ∀ (v2783 : BitVec 32) (k0_hw345 : k0_chk345 v2783), ∀ a, (k0_off690 v2783) a + S7x1x512.size a ≤ S7x50x512.size a := fun v2783 k0_hw345 => k0_hw345

def k0_off691 (i : grid0.Coords) : Fin 3 → Nat :=
  let c0_3173 : Index := 0#32
  let c4_3174 : Index := 4#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2789 : Index := Scalar.indexCast v2705
  ![0, 4, v2789.toNat]
def k0_off692 (v2790 : BitVec 32) : Fin 3 → Nat :=
  let c0_3179 : Index := 0#32
  let v2793 : Index := Scalar.indexCast v2790
  let c0_3180 : Index := 0#32
  ![0, v2793.toNat, 0]

def k0_chk346 (v2790 : BitVec 32) : Prop :=
  (∀ a, (k0_off692 v2790) a + S7x1x512.size a ≤ S7x50x512.size a)
theorem k0_off692_inb : ∀ (v2790 : BitVec 32) (k0_hw346 : k0_chk346 v2790), ∀ a, (k0_off692 v2790) a + S7x1x512.size a ≤ S7x50x512.size a := fun v2790 k0_hw346 => k0_hw346

def k0_off693 (i : grid0.Coords) : Fin 3 → Nat :=
  let c0_3181 : Index := 0#32
  let c5_3182 : Index := 5#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2796 : Index := Scalar.indexCast v2705
  ![0, 5, v2796.toNat]
def k0_off694 (v2797 : BitVec 32) : Fin 3 → Nat :=
  let c0_3187 : Index := 0#32
  let v2800 : Index := Scalar.indexCast v2797
  let c0_3188 : Index := 0#32
  ![0, v2800.toNat, 0]

def k0_chk347 (v2797 : BitVec 32) : Prop :=
  (∀ a, (k0_off694 v2797) a + S7x1x512.size a ≤ S7x50x512.size a)
theorem k0_off694_inb : ∀ (v2797 : BitVec 32) (k0_hw347 : k0_chk347 v2797), ∀ a, (k0_off694 v2797) a + S7x1x512.size a ≤ S7x50x512.size a := fun v2797 k0_hw347 => k0_hw347

def k0_off695 (i : grid0.Coords) : Fin 3 → Nat :=
  let c0_3189 : Index := 0#32
  let c6_3190 : Index := 6#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2803 : Index := Scalar.indexCast v2705
  ![0, 6, v2803.toNat]
def k0_off696 (v2804 : BitVec 32) : Fin 3 → Nat :=
  let c0_3195 : Index := 0#32
  let v2807 : Index := Scalar.indexCast v2804
  let c0_3196 : Index := 0#32
  ![0, v2807.toNat, 0]

def k0_chk348 (v2804 : BitVec 32) : Prop :=
  (∀ a, (k0_off696 v2804) a + S7x1x512.size a ≤ S7x50x512.size a)
theorem k0_off696_inb : ∀ (v2804 : BitVec 32) (k0_hw348 : k0_chk348 v2804), ∀ a, (k0_off696 v2804) a + S7x1x512.size a ≤ S7x50x512.size a := fun v2804 k0_hw348 => k0_hw348

def k0_off697 (i : grid0.Coords) : Fin 3 → Nat :=
  let c1_3200 : Index := 1#32
  let c2_3201 : Index := 2#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2814 : Index := Scalar.indexCast v2705
  ![1, 2, v2814.toNat]
def k0_off698 (v2815 : BitVec 32) : Fin 3 → Nat :=
  let c0_3206 : Index := 0#32
  let v2818 : Index := Scalar.indexCast v2815
  let c0_3207 : Index := 0#32
  ![0, v2818.toNat, 0]

def k0_chk349 (v2815 : BitVec 32) : Prop :=
  (∀ a, (k0_off698 v2815) a + S7x1x512.size a ≤ S7x50x512.size a)
theorem k0_off698_inb : ∀ (v2815 : BitVec 32) (k0_hw349 : k0_chk349 v2815), ∀ a, (k0_off698 v2815) a + S7x1x512.size a ≤ S7x50x512.size a := fun v2815 k0_hw349 => k0_hw349

def k0_off699 (i : grid0.Coords) : Fin 3 → Nat :=
  let c1_3208 : Index := 1#32
  let c3_3209 : Index := 3#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2820 : Index := Scalar.indexCast v2705
  ![1, 3, v2820.toNat]
def k0_off700 (v2821 : BitVec 32) : Fin 3 → Nat :=
  let c0_3214 : Index := 0#32
  let v2824 : Index := Scalar.indexCast v2821
  let c0_3215 : Index := 0#32
  ![0, v2824.toNat, 0]

def k0_chk350 (v2821 : BitVec 32) : Prop :=
  (∀ a, (k0_off700 v2821) a + S7x1x512.size a ≤ S7x50x512.size a)
theorem k0_off700_inb : ∀ (v2821 : BitVec 32) (k0_hw350 : k0_chk350 v2821), ∀ a, (k0_off700 v2821) a + S7x1x512.size a ≤ S7x50x512.size a := fun v2821 k0_hw350 => k0_hw350

def k0_off701 (i : grid0.Coords) : Fin 3 → Nat :=
  let c1_3216 : Index := 1#32
  let c4_3217 : Index := 4#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2827 : Index := Scalar.indexCast v2705
  ![1, 4, v2827.toNat]
def k0_off702 (v2828 : BitVec 32) : Fin 3 → Nat :=
  let c0_3222 : Index := 0#32
  let v2831 : Index := Scalar.indexCast v2828
  let c0_3223 : Index := 0#32
  ![0, v2831.toNat, 0]

def k0_chk351 (v2828 : BitVec 32) : Prop :=
  (∀ a, (k0_off702 v2828) a + S7x1x512.size a ≤ S7x50x512.size a)
theorem k0_off702_inb : ∀ (v2828 : BitVec 32) (k0_hw351 : k0_chk351 v2828), ∀ a, (k0_off702 v2828) a + S7x1x512.size a ≤ S7x50x512.size a := fun v2828 k0_hw351 => k0_hw351

def k0_off703 (i : grid0.Coords) : Fin 3 → Nat :=
  let c1_3224 : Index := 1#32
  let c5_3225 : Index := 5#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2834 : Index := Scalar.indexCast v2705
  ![1, 5, v2834.toNat]
def k0_off704 (v2835 : BitVec 32) : Fin 3 → Nat :=
  let c0_3230 : Index := 0#32
  let v2838 : Index := Scalar.indexCast v2835
  let c0_3231 : Index := 0#32
  ![0, v2838.toNat, 0]

def k0_chk352 (v2835 : BitVec 32) : Prop :=
  (∀ a, (k0_off704 v2835) a + S7x1x512.size a ≤ S7x50x512.size a)
theorem k0_off704_inb : ∀ (v2835 : BitVec 32) (k0_hw352 : k0_chk352 v2835), ∀ a, (k0_off704 v2835) a + S7x1x512.size a ≤ S7x50x512.size a := fun v2835 k0_hw352 => k0_hw352

def k0_off705 (i : grid0.Coords) : Fin 3 → Nat :=
  let c1_3232 : Index := 1#32
  let c6_3233 : Index := 6#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2841 : Index := Scalar.indexCast v2705
  ![1, 6, v2841.toNat]
def k0_off706 (v2842 : BitVec 32) : Fin 3 → Nat :=
  let c0_3238 : Index := 0#32
  let v2845 : Index := Scalar.indexCast v2842
  let c0_3239 : Index := 0#32
  ![0, v2845.toNat, 0]

def k0_chk353 (v2842 : BitVec 32) : Prop :=
  (∀ a, (k0_off706 v2842) a + S7x1x512.size a ≤ S7x50x512.size a)
theorem k0_off706_inb : ∀ (v2842 : BitVec 32) (k0_hw353 : k0_chk353 v2842), ∀ a, (k0_off706 v2842) a + S7x1x512.size a ≤ S7x50x512.size a := fun v2842 k0_hw353 => k0_hw353

def k0_off707 (i : grid0.Coords) : Fin 3 → Nat :=
  let c2_3244 : Index := 2#32
  let c2_3245 : Index := 2#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2852 : Index := Scalar.indexCast v2705
  ![2, 2, v2852.toNat]
def k0_off708 (v2853 : BitVec 32) : Fin 3 → Nat :=
  let c0_3250 : Index := 0#32
  let v2856 : Index := Scalar.indexCast v2853
  let c0_3251 : Index := 0#32
  ![0, v2856.toNat, 0]

def k0_chk354 (v2853 : BitVec 32) : Prop :=
  (∀ a, (k0_off708 v2853) a + S7x1x512.size a ≤ S7x50x512.size a)
theorem k0_off708_inb : ∀ (v2853 : BitVec 32) (k0_hw354 : k0_chk354 v2853), ∀ a, (k0_off708 v2853) a + S7x1x512.size a ≤ S7x50x512.size a := fun v2853 k0_hw354 => k0_hw354

def k0_off709 (i : grid0.Coords) : Fin 3 → Nat :=
  let c2_3252 : Index := 2#32
  let c3_3253 : Index := 3#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2858 : Index := Scalar.indexCast v2705
  ![2, 3, v2858.toNat]
def k0_off710 (v2859 : BitVec 32) : Fin 3 → Nat :=
  let c0_3258 : Index := 0#32
  let v2862 : Index := Scalar.indexCast v2859
  let c0_3259 : Index := 0#32
  ![0, v2862.toNat, 0]

def k0_chk355 (v2859 : BitVec 32) : Prop :=
  (∀ a, (k0_off710 v2859) a + S7x1x512.size a ≤ S7x50x512.size a)
theorem k0_off710_inb : ∀ (v2859 : BitVec 32) (k0_hw355 : k0_chk355 v2859), ∀ a, (k0_off710 v2859) a + S7x1x512.size a ≤ S7x50x512.size a := fun v2859 k0_hw355 => k0_hw355

def k0_off711 (i : grid0.Coords) : Fin 3 → Nat :=
  let c2_3260 : Index := 2#32
  let c4_3261 : Index := 4#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2865 : Index := Scalar.indexCast v2705
  ![2, 4, v2865.toNat]
def k0_off712 (v2866 : BitVec 32) : Fin 3 → Nat :=
  let c0_3266 : Index := 0#32
  let v2869 : Index := Scalar.indexCast v2866
  let c0_3267 : Index := 0#32
  ![0, v2869.toNat, 0]

def k0_chk356 (v2866 : BitVec 32) : Prop :=
  (∀ a, (k0_off712 v2866) a + S7x1x512.size a ≤ S7x50x512.size a)
theorem k0_off712_inb : ∀ (v2866 : BitVec 32) (k0_hw356 : k0_chk356 v2866), ∀ a, (k0_off712 v2866) a + S7x1x512.size a ≤ S7x50x512.size a := fun v2866 k0_hw356 => k0_hw356

def k0_off713 (i : grid0.Coords) : Fin 3 → Nat :=
  let c2_3268 : Index := 2#32
  let c5_3269 : Index := 5#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2872 : Index := Scalar.indexCast v2705
  ![2, 5, v2872.toNat]
def k0_off714 (v2873 : BitVec 32) : Fin 3 → Nat :=
  let c0_3274 : Index := 0#32
  let v2876 : Index := Scalar.indexCast v2873
  let c0_3275 : Index := 0#32
  ![0, v2876.toNat, 0]

def k0_chk357 (v2873 : BitVec 32) : Prop :=
  (∀ a, (k0_off714 v2873) a + S7x1x512.size a ≤ S7x50x512.size a)
theorem k0_off714_inb : ∀ (v2873 : BitVec 32) (k0_hw357 : k0_chk357 v2873), ∀ a, (k0_off714 v2873) a + S7x1x512.size a ≤ S7x50x512.size a := fun v2873 k0_hw357 => k0_hw357

def k0_off715 (i : grid0.Coords) : Fin 3 → Nat :=
  let c2_3276 : Index := 2#32
  let c6_3277 : Index := 6#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2879 : Index := Scalar.indexCast v2705
  ![2, 6, v2879.toNat]
def k0_off716 (v2880 : BitVec 32) : Fin 3 → Nat :=
  let c0_3282 : Index := 0#32
  let v2883 : Index := Scalar.indexCast v2880
  let c0_3283 : Index := 0#32
  ![0, v2883.toNat, 0]

def k0_chk358 (v2880 : BitVec 32) : Prop :=
  (∀ a, (k0_off716 v2880) a + S7x1x512.size a ≤ S7x50x512.size a)
theorem k0_off716_inb : ∀ (v2880 : BitVec 32) (k0_hw358 : k0_chk358 v2880), ∀ a, (k0_off716 v2880) a + S7x1x512.size a ≤ S7x50x512.size a := fun v2880 k0_hw358 => k0_hw358

def k0_off717 (i : grid0.Coords) : Fin 3 → Nat :=
  let c3_3288 : Index := 3#32
  let c2_3289 : Index := 2#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2890 : Index := Scalar.indexCast v2705
  ![3, 2, v2890.toNat]
def k0_off718 (v2891 : BitVec 32) : Fin 3 → Nat :=
  let c0_3294 : Index := 0#32
  let v2894 : Index := Scalar.indexCast v2891
  let c0_3295 : Index := 0#32
  ![0, v2894.toNat, 0]

def k0_chk359 (v2891 : BitVec 32) : Prop :=
  (∀ a, (k0_off718 v2891) a + S7x1x512.size a ≤ S7x50x512.size a)
theorem k0_off718_inb : ∀ (v2891 : BitVec 32) (k0_hw359 : k0_chk359 v2891), ∀ a, (k0_off718 v2891) a + S7x1x512.size a ≤ S7x50x512.size a := fun v2891 k0_hw359 => k0_hw359

def k0_off719 (i : grid0.Coords) : Fin 3 → Nat :=
  let c3_3296 : Index := 3#32
  let c3_3297 : Index := 3#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2896 : Index := Scalar.indexCast v2705
  ![3, 3, v2896.toNat]
def k0_off720 (v2897 : BitVec 32) : Fin 3 → Nat :=
  let c0_3302 : Index := 0#32
  let v2900 : Index := Scalar.indexCast v2897
  let c0_3303 : Index := 0#32
  ![0, v2900.toNat, 0]

def k0_chk360 (v2897 : BitVec 32) : Prop :=
  (∀ a, (k0_off720 v2897) a + S7x1x512.size a ≤ S7x50x512.size a)
theorem k0_off720_inb : ∀ (v2897 : BitVec 32) (k0_hw360 : k0_chk360 v2897), ∀ a, (k0_off720 v2897) a + S7x1x512.size a ≤ S7x50x512.size a := fun v2897 k0_hw360 => k0_hw360

def k0_off721 (i : grid0.Coords) : Fin 3 → Nat :=
  let c3_3304 : Index := 3#32
  let c4_3305 : Index := 4#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2903 : Index := Scalar.indexCast v2705
  ![3, 4, v2903.toNat]
def k0_off722 (v2904 : BitVec 32) : Fin 3 → Nat :=
  let c0_3310 : Index := 0#32
  let v2907 : Index := Scalar.indexCast v2904
  let c0_3311 : Index := 0#32
  ![0, v2907.toNat, 0]

def k0_chk361 (v2904 : BitVec 32) : Prop :=
  (∀ a, (k0_off722 v2904) a + S7x1x512.size a ≤ S7x50x512.size a)
theorem k0_off722_inb : ∀ (v2904 : BitVec 32) (k0_hw361 : k0_chk361 v2904), ∀ a, (k0_off722 v2904) a + S7x1x512.size a ≤ S7x50x512.size a := fun v2904 k0_hw361 => k0_hw361

def k0_off723 (i : grid0.Coords) : Fin 3 → Nat :=
  let c3_3312 : Index := 3#32
  let c5_3313 : Index := 5#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2910 : Index := Scalar.indexCast v2705
  ![3, 5, v2910.toNat]
def k0_off724 (v2911 : BitVec 32) : Fin 3 → Nat :=
  let c0_3318 : Index := 0#32
  let v2914 : Index := Scalar.indexCast v2911
  let c0_3319 : Index := 0#32
  ![0, v2914.toNat, 0]

def k0_chk362 (v2911 : BitVec 32) : Prop :=
  (∀ a, (k0_off724 v2911) a + S7x1x512.size a ≤ S7x50x512.size a)
theorem k0_off724_inb : ∀ (v2911 : BitVec 32) (k0_hw362 : k0_chk362 v2911), ∀ a, (k0_off724 v2911) a + S7x1x512.size a ≤ S7x50x512.size a := fun v2911 k0_hw362 => k0_hw362

def k0_off725 (i : grid0.Coords) : Fin 3 → Nat :=
  let c3_3320 : Index := 3#32
  let c6_3321 : Index := 6#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2917 : Index := Scalar.indexCast v2705
  ![3, 6, v2917.toNat]
def k0_off726 (v2918 : BitVec 32) : Fin 3 → Nat :=
  let c0_3326 : Index := 0#32
  let v2921 : Index := Scalar.indexCast v2918
  let c0_3327 : Index := 0#32
  ![0, v2921.toNat, 0]

def k0_chk363 (v2918 : BitVec 32) : Prop :=
  (∀ a, (k0_off726 v2918) a + S7x1x512.size a ≤ S7x50x512.size a)
theorem k0_off726_inb : ∀ (v2918 : BitVec 32) (k0_hw363 : k0_chk363 v2918), ∀ a, (k0_off726 v2918) a + S7x1x512.size a ≤ S7x50x512.size a := fun v2918 k0_hw363 => k0_hw363

def k0_off727 (i : grid0.Coords) : Fin 3 → Nat :=
  let c4_3332 : Index := 4#32
  let c2_3333 : Index := 2#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2928 : Index := Scalar.indexCast v2705
  ![4, 2, v2928.toNat]
def k0_off728 (v2929 : BitVec 32) : Fin 3 → Nat :=
  let c0_3338 : Index := 0#32
  let v2932 : Index := Scalar.indexCast v2929
  let c0_3339 : Index := 0#32
  ![0, v2932.toNat, 0]

def k0_chk364 (v2929 : BitVec 32) : Prop :=
  (∀ a, (k0_off728 v2929) a + S7x1x512.size a ≤ S7x50x512.size a)
theorem k0_off728_inb : ∀ (v2929 : BitVec 32) (k0_hw364 : k0_chk364 v2929), ∀ a, (k0_off728 v2929) a + S7x1x512.size a ≤ S7x50x512.size a := fun v2929 k0_hw364 => k0_hw364

def k0_off729 (i : grid0.Coords) : Fin 3 → Nat :=
  let c4_3340 : Index := 4#32
  let c3_3341 : Index := 3#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2934 : Index := Scalar.indexCast v2705
  ![4, 3, v2934.toNat]
def k0_off730 (v2935 : BitVec 32) : Fin 3 → Nat :=
  let c0_3346 : Index := 0#32
  let v2938 : Index := Scalar.indexCast v2935
  let c0_3347 : Index := 0#32
  ![0, v2938.toNat, 0]

def k0_chk365 (v2935 : BitVec 32) : Prop :=
  (∀ a, (k0_off730 v2935) a + S7x1x512.size a ≤ S7x50x512.size a)
theorem k0_off730_inb : ∀ (v2935 : BitVec 32) (k0_hw365 : k0_chk365 v2935), ∀ a, (k0_off730 v2935) a + S7x1x512.size a ≤ S7x50x512.size a := fun v2935 k0_hw365 => k0_hw365

def k0_off731 (i : grid0.Coords) : Fin 3 → Nat :=
  let c4_3348 : Index := 4#32
  let c4_3349 : Index := 4#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2941 : Index := Scalar.indexCast v2705
  ![4, 4, v2941.toNat]
def k0_off732 (v2942 : BitVec 32) : Fin 3 → Nat :=
  let c0_3354 : Index := 0#32
  let v2945 : Index := Scalar.indexCast v2942
  let c0_3355 : Index := 0#32
  ![0, v2945.toNat, 0]

def k0_chk366 (v2942 : BitVec 32) : Prop :=
  (∀ a, (k0_off732 v2942) a + S7x1x512.size a ≤ S7x50x512.size a)
theorem k0_off732_inb : ∀ (v2942 : BitVec 32) (k0_hw366 : k0_chk366 v2942), ∀ a, (k0_off732 v2942) a + S7x1x512.size a ≤ S7x50x512.size a := fun v2942 k0_hw366 => k0_hw366

def k0_off733 (i : grid0.Coords) : Fin 3 → Nat :=
  let c4_3356 : Index := 4#32
  let c5_3357 : Index := 5#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2948 : Index := Scalar.indexCast v2705
  ![4, 5, v2948.toNat]
def k0_off734 (v2949 : BitVec 32) : Fin 3 → Nat :=
  let c0_3362 : Index := 0#32
  let v2952 : Index := Scalar.indexCast v2949
  let c0_3363 : Index := 0#32
  ![0, v2952.toNat, 0]

def k0_chk367 (v2949 : BitVec 32) : Prop :=
  (∀ a, (k0_off734 v2949) a + S7x1x512.size a ≤ S7x50x512.size a)
theorem k0_off734_inb : ∀ (v2949 : BitVec 32) (k0_hw367 : k0_chk367 v2949), ∀ a, (k0_off734 v2949) a + S7x1x512.size a ≤ S7x50x512.size a := fun v2949 k0_hw367 => k0_hw367

def k0_off735 (i : grid0.Coords) : Fin 3 → Nat :=
  let c4_3364 : Index := 4#32
  let c6_3365 : Index := 6#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2955 : Index := Scalar.indexCast v2705
  ![4, 6, v2955.toNat]
def k0_off736 (v2956 : BitVec 32) : Fin 3 → Nat :=
  let c0_3370 : Index := 0#32
  let v2959 : Index := Scalar.indexCast v2956
  let c0_3371 : Index := 0#32
  ![0, v2959.toNat, 0]

def k0_chk368 (v2956 : BitVec 32) : Prop :=
  (∀ a, (k0_off736 v2956) a + S7x1x512.size a ≤ S7x50x512.size a)
theorem k0_off736_inb : ∀ (v2956 : BitVec 32) (k0_hw368 : k0_chk368 v2956), ∀ a, (k0_off736 v2956) a + S7x1x512.size a ≤ S7x50x512.size a := fun v2956 k0_hw368 => k0_hw368

def k0_off737 (i : grid0.Coords) : Fin 3 → Nat :=
  let c5_3376 : Index := 5#32
  let c2_3377 : Index := 2#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2966 : Index := Scalar.indexCast v2705
  ![5, 2, v2966.toNat]
def k0_off738 (v2967 : BitVec 32) : Fin 3 → Nat :=
  let c0_3382 : Index := 0#32
  let v2970 : Index := Scalar.indexCast v2967
  let c0_3383 : Index := 0#32
  ![0, v2970.toNat, 0]

def k0_chk369 (v2967 : BitVec 32) : Prop :=
  (∀ a, (k0_off738 v2967) a + S7x1x512.size a ≤ S7x50x512.size a)
theorem k0_off738_inb : ∀ (v2967 : BitVec 32) (k0_hw369 : k0_chk369 v2967), ∀ a, (k0_off738 v2967) a + S7x1x512.size a ≤ S7x50x512.size a := fun v2967 k0_hw369 => k0_hw369

def k0_off739 (i : grid0.Coords) : Fin 3 → Nat :=
  let c5_3384 : Index := 5#32
  let c3_3385 : Index := 3#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2972 : Index := Scalar.indexCast v2705
  ![5, 3, v2972.toNat]
def k0_off740 (v2973 : BitVec 32) : Fin 3 → Nat :=
  let c0_3390 : Index := 0#32
  let v2976 : Index := Scalar.indexCast v2973
  let c0_3391 : Index := 0#32
  ![0, v2976.toNat, 0]

def k0_chk370 (v2973 : BitVec 32) : Prop :=
  (∀ a, (k0_off740 v2973) a + S7x1x512.size a ≤ S7x50x512.size a)
theorem k0_off740_inb : ∀ (v2973 : BitVec 32) (k0_hw370 : k0_chk370 v2973), ∀ a, (k0_off740 v2973) a + S7x1x512.size a ≤ S7x50x512.size a := fun v2973 k0_hw370 => k0_hw370

def k0_off741 (i : grid0.Coords) : Fin 3 → Nat :=
  let c5_3392 : Index := 5#32
  let c4_3393 : Index := 4#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2979 : Index := Scalar.indexCast v2705
  ![5, 4, v2979.toNat]
def k0_off742 (v2980 : BitVec 32) : Fin 3 → Nat :=
  let c0_3398 : Index := 0#32
  let v2983 : Index := Scalar.indexCast v2980
  let c0_3399 : Index := 0#32
  ![0, v2983.toNat, 0]

def k0_chk371 (v2980 : BitVec 32) : Prop :=
  (∀ a, (k0_off742 v2980) a + S7x1x512.size a ≤ S7x50x512.size a)
theorem k0_off742_inb : ∀ (v2980 : BitVec 32) (k0_hw371 : k0_chk371 v2980), ∀ a, (k0_off742 v2980) a + S7x1x512.size a ≤ S7x50x512.size a := fun v2980 k0_hw371 => k0_hw371

def k0_off743 (i : grid0.Coords) : Fin 3 → Nat :=
  let c5_3400 : Index := 5#32
  let c5_3401 : Index := 5#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2986 : Index := Scalar.indexCast v2705
  ![5, 5, v2986.toNat]
def k0_off744 (v2987 : BitVec 32) : Fin 3 → Nat :=
  let c0_3406 : Index := 0#32
  let v2990 : Index := Scalar.indexCast v2987
  let c0_3407 : Index := 0#32
  ![0, v2990.toNat, 0]

def k0_chk372 (v2987 : BitVec 32) : Prop :=
  (∀ a, (k0_off744 v2987) a + S7x1x512.size a ≤ S7x50x512.size a)
theorem k0_off744_inb : ∀ (v2987 : BitVec 32) (k0_hw372 : k0_chk372 v2987), ∀ a, (k0_off744 v2987) a + S7x1x512.size a ≤ S7x50x512.size a := fun v2987 k0_hw372 => k0_hw372

def k0_off745 (i : grid0.Coords) : Fin 3 → Nat :=
  let c5_3408 : Index := 5#32
  let c6_3409 : Index := 6#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v2993 : Index := Scalar.indexCast v2705
  ![5, 6, v2993.toNat]
def k0_off746 (v2994 : BitVec 32) : Fin 3 → Nat :=
  let c0_3414 : Index := 0#32
  let v2997 : Index := Scalar.indexCast v2994
  let c0_3415 : Index := 0#32
  ![0, v2997.toNat, 0]

def k0_chk373 (v2994 : BitVec 32) : Prop :=
  (∀ a, (k0_off746 v2994) a + S7x1x512.size a ≤ S7x50x512.size a)
theorem k0_off746_inb : ∀ (v2994 : BitVec 32) (k0_hw373 : k0_chk373 v2994), ∀ a, (k0_off746 v2994) a + S7x1x512.size a ≤ S7x50x512.size a := fun v2994 k0_hw373 => k0_hw373

def k0_off747 (i : grid0.Coords) : Fin 3 → Nat :=
  let c6_3420 : Index := 6#32
  let c2_3421 : Index := 2#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v3004 : Index := Scalar.indexCast v2705
  ![6, 2, v3004.toNat]
def k0_off748 (v3005 : BitVec 32) : Fin 3 → Nat :=
  let c0_3426 : Index := 0#32
  let v3008 : Index := Scalar.indexCast v3005
  let c0_3427 : Index := 0#32
  ![0, v3008.toNat, 0]

def k0_chk374 (v3005 : BitVec 32) : Prop :=
  (∀ a, (k0_off748 v3005) a + S7x1x512.size a ≤ S7x50x512.size a)
theorem k0_off748_inb : ∀ (v3005 : BitVec 32) (k0_hw374 : k0_chk374 v3005), ∀ a, (k0_off748 v3005) a + S7x1x512.size a ≤ S7x50x512.size a := fun v3005 k0_hw374 => k0_hw374

def k0_off749 (i : grid0.Coords) : Fin 3 → Nat :=
  let c6_3428 : Index := 6#32
  let c3_3429 : Index := 3#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v3010 : Index := Scalar.indexCast v2705
  ![6, 3, v3010.toNat]
def k0_off750 (v3011 : BitVec 32) : Fin 3 → Nat :=
  let c0_3434 : Index := 0#32
  let v3014 : Index := Scalar.indexCast v3011
  let c0_3435 : Index := 0#32
  ![0, v3014.toNat, 0]

def k0_chk375 (v3011 : BitVec 32) : Prop :=
  (∀ a, (k0_off750 v3011) a + S7x1x512.size a ≤ S7x50x512.size a)
theorem k0_off750_inb : ∀ (v3011 : BitVec 32) (k0_hw375 : k0_chk375 v3011), ∀ a, (k0_off750 v3011) a + S7x1x512.size a ≤ S7x50x512.size a := fun v3011 k0_hw375 => k0_hw375

def k0_off751 (i : grid0.Coords) : Fin 3 → Nat :=
  let c6_3436 : Index := 6#32
  let c4_3437 : Index := 4#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v3017 : Index := Scalar.indexCast v2705
  ![6, 4, v3017.toNat]
def k0_off752 (v3018 : BitVec 32) : Fin 3 → Nat :=
  let c0_3442 : Index := 0#32
  let v3021 : Index := Scalar.indexCast v3018
  let c0_3443 : Index := 0#32
  ![0, v3021.toNat, 0]

def k0_chk376 (v3018 : BitVec 32) : Prop :=
  (∀ a, (k0_off752 v3018) a + S7x1x512.size a ≤ S7x50x512.size a)
theorem k0_off752_inb : ∀ (v3018 : BitVec 32) (k0_hw376 : k0_chk376 v3018), ∀ a, (k0_off752 v3018) a + S7x1x512.size a ≤ S7x50x512.size a := fun v3018 k0_hw376 => k0_hw376

def k0_off753 (i : grid0.Coords) : Fin 3 → Nat :=
  let c6_3444 : Index := 6#32
  let c5_3445 : Index := 5#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v3024 : Index := Scalar.indexCast v2705
  ![6, 5, v3024.toNat]
def k0_off754 (v3025 : BitVec 32) : Fin 3 → Nat :=
  let c0_3450 : Index := 0#32
  let v3028 : Index := Scalar.indexCast v3025
  let c0_3451 : Index := 0#32
  ![0, v3028.toNat, 0]

def k0_chk377 (v3025 : BitVec 32) : Prop :=
  (∀ a, (k0_off754 v3025) a + S7x1x512.size a ≤ S7x50x512.size a)
theorem k0_off754_inb : ∀ (v3025 : BitVec 32) (k0_hw377 : k0_chk377 v3025), ∀ a, (k0_off754 v3025) a + S7x1x512.size a ≤ S7x50x512.size a := fun v3025 k0_hw377 => k0_hw377

def k0_off755 (i : grid0.Coords) : Fin 3 → Nat :=
  let c6_3452 : Index := 6#32
  let c6_3453 : Index := 6#32
  let arg0 : BitVec 32 := BitVec.ofNat 32 (i 0).val
  let c32_i32_3079 : BitVec 32 := 32#32
  let v2704 : BitVec 32 := Scalar.muli arg0 c32_i32_3079
  let c8_i32 : BitVec 32 := 8#32
  let v2705 : BitVec 32 := Scalar.addi v2704 c8_i32
  let v3031 : Index := Scalar.indexCast v2705
  ![6, 6, v3031.toNat]
def k0_off756 (v3032 : BitVec 32) : Fin 3 → Nat :=
  let c0_3458 : Index := 0#32
  let v3035 : Index := Scalar.indexCast v3032
  let c0_3459 : Index := 0#32
  ![0, v3035.toNat, 0]

def k0_chk378 (v3032 : BitVec 32) : Prop :=
  (∀ a, (k0_off756 v3032) a + S7x1x512.size a ≤ S7x50x512.size a)
theorem k0_off756_inb : ∀ (v3032 : BitVec 32) (k0_hw378 : k0_chk378 v3032), ∀ a, (k0_off756 v3032) a + S7x1x512.size a ≤ S7x50x512.size a := fun v3032 k0_hw378 => k0_hw378

def k0_off757 (i : grid0.Coords) : Fin 3 → Nat :=
  let c0_3465 : Index := 0#32
  let c0_3466 : Index := 0#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3044 : Index := Scalar.indexCast v3043
  ![0, 0, v3044.toNat]
def k0_off758 (v3045 : BitVec 32) : Fin 3 → Nat :=
  let v3046 : Index := Scalar.indexCast v3045
  let c0_3467 : Index := 0#32
  let c0_3468 : Index := 0#32
  ![v3046.toNat, 0, 0]

def k0_chk379 (v3045 : BitVec 32) : Prop :=
  (∀ a, (k0_off758 v3045) a + S1x50x512.size a ≤ S250x50x512.size a)
theorem k0_off758_inb : ∀ (v3045 : BitVec 32) (k0_hw379 : k0_chk379 v3045), ∀ a, (k0_off758 v3045) a + S1x50x512.size a ≤ S250x50x512.size a := fun v3045 k0_hw379 => k0_hw379

def k0_off759 (i : grid0.Coords) : Fin 3 → Nat :=
  let c1_3476 : Index := 1#32
  let c0_3477 : Index := 0#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3054 : Index := Scalar.indexCast v3043
  ![1, 0, v3054.toNat]
def k0_off760 (v3055 : BitVec 32) : Fin 3 → Nat :=
  let v3056 : Index := Scalar.indexCast v3055
  let c0_3478 : Index := 0#32
  let c0_3479 : Index := 0#32
  ![v3056.toNat, 0, 0]

def k0_chk380 (v3055 : BitVec 32) : Prop :=
  (∀ a, (k0_off760 v3055) a + S1x50x512.size a ≤ S250x50x512.size a)
theorem k0_off760_inb : ∀ (v3055 : BitVec 32) (k0_hw380 : k0_chk380 v3055), ∀ a, (k0_off760 v3055) a + S1x50x512.size a ≤ S250x50x512.size a := fun v3055 k0_hw380 => k0_hw380

def k0_off761 (i : grid0.Coords) : Fin 3 → Nat :=
  let c2_3487 : Index := 2#32
  let c0_3488 : Index := 0#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3064 : Index := Scalar.indexCast v3043
  ![2, 0, v3064.toNat]
def k0_off762 (v3065 : BitVec 32) : Fin 3 → Nat :=
  let v3066 : Index := Scalar.indexCast v3065
  let c0_3489 : Index := 0#32
  let c0_3490 : Index := 0#32
  ![v3066.toNat, 0, 0]

def k0_chk381 (v3065 : BitVec 32) : Prop :=
  (∀ a, (k0_off762 v3065) a + S1x50x512.size a ≤ S250x50x512.size a)
theorem k0_off762_inb : ∀ (v3065 : BitVec 32) (k0_hw381 : k0_chk381 v3065), ∀ a, (k0_off762 v3065) a + S1x50x512.size a ≤ S250x50x512.size a := fun v3065 k0_hw381 => k0_hw381

def k0_off763 (i : grid0.Coords) : Fin 3 → Nat :=
  let c3_3498 : Index := 3#32
  let c0_3499 : Index := 0#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3074 : Index := Scalar.indexCast v3043
  ![3, 0, v3074.toNat]
def k0_off764 (v3075 : BitVec 32) : Fin 3 → Nat :=
  let v3076 : Index := Scalar.indexCast v3075
  let c0_3500 : Index := 0#32
  let c0_3501 : Index := 0#32
  ![v3076.toNat, 0, 0]

def k0_chk382 (v3075 : BitVec 32) : Prop :=
  (∀ a, (k0_off764 v3075) a + S1x50x512.size a ≤ S250x50x512.size a)
theorem k0_off764_inb : ∀ (v3075 : BitVec 32) (k0_hw382 : k0_chk382 v3075), ∀ a, (k0_off764 v3075) a + S1x50x512.size a ≤ S250x50x512.size a := fun v3075 k0_hw382 => k0_hw382

def k0_off765 (i : grid0.Coords) : Fin 3 → Nat :=
  let c4_3509 : Index := 4#32
  let c0_3510 : Index := 0#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3084 : Index := Scalar.indexCast v3043
  ![4, 0, v3084.toNat]
def k0_off766 (v3085 : BitVec 32) : Fin 3 → Nat :=
  let v3086 : Index := Scalar.indexCast v3085
  let c0_3511 : Index := 0#32
  let c0_3512 : Index := 0#32
  ![v3086.toNat, 0, 0]

def k0_chk383 (v3085 : BitVec 32) : Prop :=
  (∀ a, (k0_off766 v3085) a + S1x50x512.size a ≤ S250x50x512.size a)
theorem k0_off766_inb : ∀ (v3085 : BitVec 32) (k0_hw383 : k0_chk383 v3085), ∀ a, (k0_off766 v3085) a + S1x50x512.size a ≤ S250x50x512.size a := fun v3085 k0_hw383 => k0_hw383

def k0_off767 (i : grid0.Coords) : Fin 3 → Nat :=
  let c5_3520 : Index := 5#32
  let c0_3521 : Index := 0#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3094 : Index := Scalar.indexCast v3043
  ![5, 0, v3094.toNat]
def k0_off768 (v3095 : BitVec 32) : Fin 3 → Nat :=
  let v3096 : Index := Scalar.indexCast v3095
  let c0_3522 : Index := 0#32
  let c0_3523 : Index := 0#32
  ![v3096.toNat, 0, 0]

def k0_chk384 (v3095 : BitVec 32) : Prop :=
  (∀ a, (k0_off768 v3095) a + S1x50x512.size a ≤ S250x50x512.size a)
theorem k0_off768_inb : ∀ (v3095 : BitVec 32) (k0_hw384 : k0_chk384 v3095), ∀ a, (k0_off768 v3095) a + S1x50x512.size a ≤ S250x50x512.size a := fun v3095 k0_hw384 => k0_hw384

def k0_off769 (i : grid0.Coords) : Fin 3 → Nat :=
  let c6_3531 : Index := 6#32
  let c0_3532 : Index := 0#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3104 : Index := Scalar.indexCast v3043
  ![6, 0, v3104.toNat]
def k0_off770 (v3105 : BitVec 32) : Fin 3 → Nat :=
  let v3106 : Index := Scalar.indexCast v3105
  let c0_3533 : Index := 0#32
  let c0_3534 : Index := 0#32
  ![v3106.toNat, 0, 0]

def k0_chk385 (v3105 : BitVec 32) : Prop :=
  (∀ a, (k0_off770 v3105) a + S1x50x512.size a ≤ S250x50x512.size a)
theorem k0_off770_inb : ∀ (v3105 : BitVec 32) (k0_hw385 : k0_chk385 v3105), ∀ a, (k0_off770 v3105) a + S1x50x512.size a ≤ S250x50x512.size a := fun v3105 k0_hw385 => k0_hw385

def k0_off771 (i : grid0.Coords) : Fin 3 → Nat :=
  let c0_3542 : Index := 0#32
  let c2_3543 : Index := 2#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3114 : Index := Scalar.indexCast v3043
  ![0, 2, v3114.toNat]
def k0_off772 (v3115 : BitVec 32) : Fin 3 → Nat :=
  let c0_3548 : Index := 0#32
  let v3118 : Index := Scalar.indexCast v3115
  let c0_3549 : Index := 0#32
  ![0, v3118.toNat, 0]

def k0_chk386 (v3115 : BitVec 32) : Prop :=
  (∀ a, (k0_off772 v3115) a + S7x1x512.size a ≤ S7x50x512.size a)
theorem k0_off772_inb : ∀ (v3115 : BitVec 32) (k0_hw386 : k0_chk386 v3115), ∀ a, (k0_off772 v3115) a + S7x1x512.size a ≤ S7x50x512.size a := fun v3115 k0_hw386 => k0_hw386

def k0_off773 (i : grid0.Coords) : Fin 3 → Nat :=
  let c0_3550 : Index := 0#32
  let c3_3551 : Index := 3#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3120 : Index := Scalar.indexCast v3043
  ![0, 3, v3120.toNat]
def k0_off774 (v3121 : BitVec 32) : Fin 3 → Nat :=
  let c0_3556 : Index := 0#32
  let v3124 : Index := Scalar.indexCast v3121
  let c0_3557 : Index := 0#32
  ![0, v3124.toNat, 0]

def k0_chk387 (v3121 : BitVec 32) : Prop :=
  (∀ a, (k0_off774 v3121) a + S7x1x512.size a ≤ S7x50x512.size a)
theorem k0_off774_inb : ∀ (v3121 : BitVec 32) (k0_hw387 : k0_chk387 v3121), ∀ a, (k0_off774 v3121) a + S7x1x512.size a ≤ S7x50x512.size a := fun v3121 k0_hw387 => k0_hw387

def k0_off775 (i : grid0.Coords) : Fin 3 → Nat :=
  let c0_3558 : Index := 0#32
  let c4_3559 : Index := 4#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3127 : Index := Scalar.indexCast v3043
  ![0, 4, v3127.toNat]
def k0_off776 (v3128 : BitVec 32) : Fin 3 → Nat :=
  let c0_3564 : Index := 0#32
  let v3131 : Index := Scalar.indexCast v3128
  let c0_3565 : Index := 0#32
  ![0, v3131.toNat, 0]

def k0_chk388 (v3128 : BitVec 32) : Prop :=
  (∀ a, (k0_off776 v3128) a + S7x1x512.size a ≤ S7x50x512.size a)
theorem k0_off776_inb : ∀ (v3128 : BitVec 32) (k0_hw388 : k0_chk388 v3128), ∀ a, (k0_off776 v3128) a + S7x1x512.size a ≤ S7x50x512.size a := fun v3128 k0_hw388 => k0_hw388

def k0_off777 (i : grid0.Coords) : Fin 3 → Nat :=
  let c0_3566 : Index := 0#32
  let c5_3567 : Index := 5#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3134 : Index := Scalar.indexCast v3043
  ![0, 5, v3134.toNat]
def k0_off778 (v3135 : BitVec 32) : Fin 3 → Nat :=
  let c0_3572 : Index := 0#32
  let v3138 : Index := Scalar.indexCast v3135
  let c0_3573 : Index := 0#32
  ![0, v3138.toNat, 0]

def k0_chk389 (v3135 : BitVec 32) : Prop :=
  (∀ a, (k0_off778 v3135) a + S7x1x512.size a ≤ S7x50x512.size a)
theorem k0_off778_inb : ∀ (v3135 : BitVec 32) (k0_hw389 : k0_chk389 v3135), ∀ a, (k0_off778 v3135) a + S7x1x512.size a ≤ S7x50x512.size a := fun v3135 k0_hw389 => k0_hw389

def k0_off779 (i : grid0.Coords) : Fin 3 → Nat :=
  let c0_3574 : Index := 0#32
  let c6_3575 : Index := 6#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3141 : Index := Scalar.indexCast v3043
  ![0, 6, v3141.toNat]
def k0_off780 (v3142 : BitVec 32) : Fin 3 → Nat :=
  let c0_3580 : Index := 0#32
  let v3145 : Index := Scalar.indexCast v3142
  let c0_3581 : Index := 0#32
  ![0, v3145.toNat, 0]

def k0_chk390 (v3142 : BitVec 32) : Prop :=
  (∀ a, (k0_off780 v3142) a + S7x1x512.size a ≤ S7x50x512.size a)
theorem k0_off780_inb : ∀ (v3142 : BitVec 32) (k0_hw390 : k0_chk390 v3142), ∀ a, (k0_off780 v3142) a + S7x1x512.size a ≤ S7x50x512.size a := fun v3142 k0_hw390 => k0_hw390

def k0_off781 (i : grid0.Coords) : Fin 3 → Nat :=
  let c1_3585 : Index := 1#32
  let c2_3586 : Index := 2#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3152 : Index := Scalar.indexCast v3043
  ![1, 2, v3152.toNat]
def k0_off782 (v3153 : BitVec 32) : Fin 3 → Nat :=
  let c0_3591 : Index := 0#32
  let v3156 : Index := Scalar.indexCast v3153
  let c0_3592 : Index := 0#32
  ![0, v3156.toNat, 0]

def k0_chk391 (v3153 : BitVec 32) : Prop :=
  (∀ a, (k0_off782 v3153) a + S7x1x512.size a ≤ S7x50x512.size a)
theorem k0_off782_inb : ∀ (v3153 : BitVec 32) (k0_hw391 : k0_chk391 v3153), ∀ a, (k0_off782 v3153) a + S7x1x512.size a ≤ S7x50x512.size a := fun v3153 k0_hw391 => k0_hw391

def k0_off783 (i : grid0.Coords) : Fin 3 → Nat :=
  let c1_3593 : Index := 1#32
  let c3_3594 : Index := 3#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3158 : Index := Scalar.indexCast v3043
  ![1, 3, v3158.toNat]
def k0_off784 (v3159 : BitVec 32) : Fin 3 → Nat :=
  let c0_3599 : Index := 0#32
  let v3162 : Index := Scalar.indexCast v3159
  let c0_3600 : Index := 0#32
  ![0, v3162.toNat, 0]

def k0_chk392 (v3159 : BitVec 32) : Prop :=
  (∀ a, (k0_off784 v3159) a + S7x1x512.size a ≤ S7x50x512.size a)
theorem k0_off784_inb : ∀ (v3159 : BitVec 32) (k0_hw392 : k0_chk392 v3159), ∀ a, (k0_off784 v3159) a + S7x1x512.size a ≤ S7x50x512.size a := fun v3159 k0_hw392 => k0_hw392

def k0_off785 (i : grid0.Coords) : Fin 3 → Nat :=
  let c1_3601 : Index := 1#32
  let c4_3602 : Index := 4#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3165 : Index := Scalar.indexCast v3043
  ![1, 4, v3165.toNat]
def k0_off786 (v3166 : BitVec 32) : Fin 3 → Nat :=
  let c0_3607 : Index := 0#32
  let v3169 : Index := Scalar.indexCast v3166
  let c0_3608 : Index := 0#32
  ![0, v3169.toNat, 0]

def k0_chk393 (v3166 : BitVec 32) : Prop :=
  (∀ a, (k0_off786 v3166) a + S7x1x512.size a ≤ S7x50x512.size a)
theorem k0_off786_inb : ∀ (v3166 : BitVec 32) (k0_hw393 : k0_chk393 v3166), ∀ a, (k0_off786 v3166) a + S7x1x512.size a ≤ S7x50x512.size a := fun v3166 k0_hw393 => k0_hw393

def k0_off787 (i : grid0.Coords) : Fin 3 → Nat :=
  let c1_3609 : Index := 1#32
  let c5_3610 : Index := 5#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3172 : Index := Scalar.indexCast v3043
  ![1, 5, v3172.toNat]
def k0_off788 (v3173 : BitVec 32) : Fin 3 → Nat :=
  let c0_3615 : Index := 0#32
  let v3176 : Index := Scalar.indexCast v3173
  let c0_3616 : Index := 0#32
  ![0, v3176.toNat, 0]

def k0_chk394 (v3173 : BitVec 32) : Prop :=
  (∀ a, (k0_off788 v3173) a + S7x1x512.size a ≤ S7x50x512.size a)
theorem k0_off788_inb : ∀ (v3173 : BitVec 32) (k0_hw394 : k0_chk394 v3173), ∀ a, (k0_off788 v3173) a + S7x1x512.size a ≤ S7x50x512.size a := fun v3173 k0_hw394 => k0_hw394

def k0_off789 (i : grid0.Coords) : Fin 3 → Nat :=
  let c1_3617 : Index := 1#32
  let c6_3618 : Index := 6#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3179 : Index := Scalar.indexCast v3043
  ![1, 6, v3179.toNat]
def k0_off790 (v3180 : BitVec 32) : Fin 3 → Nat :=
  let c0_3623 : Index := 0#32
  let v3183 : Index := Scalar.indexCast v3180
  let c0_3624 : Index := 0#32
  ![0, v3183.toNat, 0]

def k0_chk395 (v3180 : BitVec 32) : Prop :=
  (∀ a, (k0_off790 v3180) a + S7x1x512.size a ≤ S7x50x512.size a)
theorem k0_off790_inb : ∀ (v3180 : BitVec 32) (k0_hw395 : k0_chk395 v3180), ∀ a, (k0_off790 v3180) a + S7x1x512.size a ≤ S7x50x512.size a := fun v3180 k0_hw395 => k0_hw395

def k0_off791 (i : grid0.Coords) : Fin 3 → Nat :=
  let c2_3629 : Index := 2#32
  let c2_3630 : Index := 2#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3190 : Index := Scalar.indexCast v3043
  ![2, 2, v3190.toNat]
def k0_off792 (v3191 : BitVec 32) : Fin 3 → Nat :=
  let c0_3635 : Index := 0#32
  let v3194 : Index := Scalar.indexCast v3191
  let c0_3636 : Index := 0#32
  ![0, v3194.toNat, 0]

def k0_chk396 (v3191 : BitVec 32) : Prop :=
  (∀ a, (k0_off792 v3191) a + S7x1x512.size a ≤ S7x50x512.size a)
theorem k0_off792_inb : ∀ (v3191 : BitVec 32) (k0_hw396 : k0_chk396 v3191), ∀ a, (k0_off792 v3191) a + S7x1x512.size a ≤ S7x50x512.size a := fun v3191 k0_hw396 => k0_hw396

def k0_off793 (i : grid0.Coords) : Fin 3 → Nat :=
  let c2_3637 : Index := 2#32
  let c3_3638 : Index := 3#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3196 : Index := Scalar.indexCast v3043
  ![2, 3, v3196.toNat]
def k0_off794 (v3197 : BitVec 32) : Fin 3 → Nat :=
  let c0_3643 : Index := 0#32
  let v3200 : Index := Scalar.indexCast v3197
  let c0_3644 : Index := 0#32
  ![0, v3200.toNat, 0]

def k0_chk397 (v3197 : BitVec 32) : Prop :=
  (∀ a, (k0_off794 v3197) a + S7x1x512.size a ≤ S7x50x512.size a)
theorem k0_off794_inb : ∀ (v3197 : BitVec 32) (k0_hw397 : k0_chk397 v3197), ∀ a, (k0_off794 v3197) a + S7x1x512.size a ≤ S7x50x512.size a := fun v3197 k0_hw397 => k0_hw397

def k0_off795 (i : grid0.Coords) : Fin 3 → Nat :=
  let c2_3645 : Index := 2#32
  let c4_3646 : Index := 4#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3203 : Index := Scalar.indexCast v3043
  ![2, 4, v3203.toNat]
def k0_off796 (v3204 : BitVec 32) : Fin 3 → Nat :=
  let c0_3651 : Index := 0#32
  let v3207 : Index := Scalar.indexCast v3204
  let c0_3652 : Index := 0#32
  ![0, v3207.toNat, 0]

def k0_chk398 (v3204 : BitVec 32) : Prop :=
  (∀ a, (k0_off796 v3204) a + S7x1x512.size a ≤ S7x50x512.size a)
theorem k0_off796_inb : ∀ (v3204 : BitVec 32) (k0_hw398 : k0_chk398 v3204), ∀ a, (k0_off796 v3204) a + S7x1x512.size a ≤ S7x50x512.size a := fun v3204 k0_hw398 => k0_hw398

def k0_off797 (i : grid0.Coords) : Fin 3 → Nat :=
  let c2_3653 : Index := 2#32
  let c5_3654 : Index := 5#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3210 : Index := Scalar.indexCast v3043
  ![2, 5, v3210.toNat]
def k0_off798 (v3211 : BitVec 32) : Fin 3 → Nat :=
  let c0_3659 : Index := 0#32
  let v3214 : Index := Scalar.indexCast v3211
  let c0_3660 : Index := 0#32
  ![0, v3214.toNat, 0]

def k0_chk399 (v3211 : BitVec 32) : Prop :=
  (∀ a, (k0_off798 v3211) a + S7x1x512.size a ≤ S7x50x512.size a)
theorem k0_off798_inb : ∀ (v3211 : BitVec 32) (k0_hw399 : k0_chk399 v3211), ∀ a, (k0_off798 v3211) a + S7x1x512.size a ≤ S7x50x512.size a := fun v3211 k0_hw399 => k0_hw399

def k0_off799 (i : grid0.Coords) : Fin 3 → Nat :=
  let c2_3661 : Index := 2#32
  let c6_3662 : Index := 6#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3217 : Index := Scalar.indexCast v3043
  ![2, 6, v3217.toNat]
def k0_off800 (v3218 : BitVec 32) : Fin 3 → Nat :=
  let c0_3667 : Index := 0#32
  let v3221 : Index := Scalar.indexCast v3218
  let c0_3668 : Index := 0#32
  ![0, v3221.toNat, 0]

def k0_chk400 (v3218 : BitVec 32) : Prop :=
  (∀ a, (k0_off800 v3218) a + S7x1x512.size a ≤ S7x50x512.size a)
theorem k0_off800_inb : ∀ (v3218 : BitVec 32) (k0_hw400 : k0_chk400 v3218), ∀ a, (k0_off800 v3218) a + S7x1x512.size a ≤ S7x50x512.size a := fun v3218 k0_hw400 => k0_hw400

def k0_off801 (i : grid0.Coords) : Fin 3 → Nat :=
  let c3_3673 : Index := 3#32
  let c2_3674 : Index := 2#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3228 : Index := Scalar.indexCast v3043
  ![3, 2, v3228.toNat]
def k0_off802 (v3229 : BitVec 32) : Fin 3 → Nat :=
  let c0_3679 : Index := 0#32
  let v3232 : Index := Scalar.indexCast v3229
  let c0_3680 : Index := 0#32
  ![0, v3232.toNat, 0]

def k0_chk401 (v3229 : BitVec 32) : Prop :=
  (∀ a, (k0_off802 v3229) a + S7x1x512.size a ≤ S7x50x512.size a)
theorem k0_off802_inb : ∀ (v3229 : BitVec 32) (k0_hw401 : k0_chk401 v3229), ∀ a, (k0_off802 v3229) a + S7x1x512.size a ≤ S7x50x512.size a := fun v3229 k0_hw401 => k0_hw401

def k0_off803 (i : grid0.Coords) : Fin 3 → Nat :=
  let c3_3681 : Index := 3#32
  let c3_3682 : Index := 3#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3234 : Index := Scalar.indexCast v3043
  ![3, 3, v3234.toNat]
def k0_off804 (v3235 : BitVec 32) : Fin 3 → Nat :=
  let c0_3687 : Index := 0#32
  let v3238 : Index := Scalar.indexCast v3235
  let c0_3688 : Index := 0#32
  ![0, v3238.toNat, 0]

def k0_chk402 (v3235 : BitVec 32) : Prop :=
  (∀ a, (k0_off804 v3235) a + S7x1x512.size a ≤ S7x50x512.size a)
theorem k0_off804_inb : ∀ (v3235 : BitVec 32) (k0_hw402 : k0_chk402 v3235), ∀ a, (k0_off804 v3235) a + S7x1x512.size a ≤ S7x50x512.size a := fun v3235 k0_hw402 => k0_hw402

def k0_off805 (i : grid0.Coords) : Fin 3 → Nat :=
  let c3_3689 : Index := 3#32
  let c4_3690 : Index := 4#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3241 : Index := Scalar.indexCast v3043
  ![3, 4, v3241.toNat]
def k0_off806 (v3242 : BitVec 32) : Fin 3 → Nat :=
  let c0_3695 : Index := 0#32
  let v3245 : Index := Scalar.indexCast v3242
  let c0_3696 : Index := 0#32
  ![0, v3245.toNat, 0]

def k0_chk403 (v3242 : BitVec 32) : Prop :=
  (∀ a, (k0_off806 v3242) a + S7x1x512.size a ≤ S7x50x512.size a)
theorem k0_off806_inb : ∀ (v3242 : BitVec 32) (k0_hw403 : k0_chk403 v3242), ∀ a, (k0_off806 v3242) a + S7x1x512.size a ≤ S7x50x512.size a := fun v3242 k0_hw403 => k0_hw403

def k0_off807 (i : grid0.Coords) : Fin 3 → Nat :=
  let c3_3697 : Index := 3#32
  let c5_3698 : Index := 5#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3248 : Index := Scalar.indexCast v3043
  ![3, 5, v3248.toNat]
def k0_off808 (v3249 : BitVec 32) : Fin 3 → Nat :=
  let c0_3703 : Index := 0#32
  let v3252 : Index := Scalar.indexCast v3249
  let c0_3704 : Index := 0#32
  ![0, v3252.toNat, 0]

def k0_chk404 (v3249 : BitVec 32) : Prop :=
  (∀ a, (k0_off808 v3249) a + S7x1x512.size a ≤ S7x50x512.size a)
theorem k0_off808_inb : ∀ (v3249 : BitVec 32) (k0_hw404 : k0_chk404 v3249), ∀ a, (k0_off808 v3249) a + S7x1x512.size a ≤ S7x50x512.size a := fun v3249 k0_hw404 => k0_hw404

def k0_off809 (i : grid0.Coords) : Fin 3 → Nat :=
  let c3_3705 : Index := 3#32
  let c6_3706 : Index := 6#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3255 : Index := Scalar.indexCast v3043
  ![3, 6, v3255.toNat]
def k0_off810 (v3256 : BitVec 32) : Fin 3 → Nat :=
  let c0_3711 : Index := 0#32
  let v3259 : Index := Scalar.indexCast v3256
  let c0_3712 : Index := 0#32
  ![0, v3259.toNat, 0]

def k0_chk405 (v3256 : BitVec 32) : Prop :=
  (∀ a, (k0_off810 v3256) a + S7x1x512.size a ≤ S7x50x512.size a)
theorem k0_off810_inb : ∀ (v3256 : BitVec 32) (k0_hw405 : k0_chk405 v3256), ∀ a, (k0_off810 v3256) a + S7x1x512.size a ≤ S7x50x512.size a := fun v3256 k0_hw405 => k0_hw405

def k0_off811 (i : grid0.Coords) : Fin 3 → Nat :=
  let c4_3717 : Index := 4#32
  let c2_3718 : Index := 2#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3266 : Index := Scalar.indexCast v3043
  ![4, 2, v3266.toNat]
def k0_off812 (v3267 : BitVec 32) : Fin 3 → Nat :=
  let c0_3723 : Index := 0#32
  let v3270 : Index := Scalar.indexCast v3267
  let c0_3724 : Index := 0#32
  ![0, v3270.toNat, 0]

def k0_chk406 (v3267 : BitVec 32) : Prop :=
  (∀ a, (k0_off812 v3267) a + S7x1x512.size a ≤ S7x50x512.size a)
theorem k0_off812_inb : ∀ (v3267 : BitVec 32) (k0_hw406 : k0_chk406 v3267), ∀ a, (k0_off812 v3267) a + S7x1x512.size a ≤ S7x50x512.size a := fun v3267 k0_hw406 => k0_hw406

def k0_off813 (i : grid0.Coords) : Fin 3 → Nat :=
  let c4_3725 : Index := 4#32
  let c3_3726 : Index := 3#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3272 : Index := Scalar.indexCast v3043
  ![4, 3, v3272.toNat]
def k0_off814 (v3273 : BitVec 32) : Fin 3 → Nat :=
  let c0_3731 : Index := 0#32
  let v3276 : Index := Scalar.indexCast v3273
  let c0_3732 : Index := 0#32
  ![0, v3276.toNat, 0]

def k0_chk407 (v3273 : BitVec 32) : Prop :=
  (∀ a, (k0_off814 v3273) a + S7x1x512.size a ≤ S7x50x512.size a)
theorem k0_off814_inb : ∀ (v3273 : BitVec 32) (k0_hw407 : k0_chk407 v3273), ∀ a, (k0_off814 v3273) a + S7x1x512.size a ≤ S7x50x512.size a := fun v3273 k0_hw407 => k0_hw407

def k0_off815 (i : grid0.Coords) : Fin 3 → Nat :=
  let c4_3733 : Index := 4#32
  let c4_3734 : Index := 4#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3279 : Index := Scalar.indexCast v3043
  ![4, 4, v3279.toNat]
def k0_off816 (v3280 : BitVec 32) : Fin 3 → Nat :=
  let c0_3739 : Index := 0#32
  let v3283 : Index := Scalar.indexCast v3280
  let c0_3740 : Index := 0#32
  ![0, v3283.toNat, 0]

def k0_chk408 (v3280 : BitVec 32) : Prop :=
  (∀ a, (k0_off816 v3280) a + S7x1x512.size a ≤ S7x50x512.size a)
theorem k0_off816_inb : ∀ (v3280 : BitVec 32) (k0_hw408 : k0_chk408 v3280), ∀ a, (k0_off816 v3280) a + S7x1x512.size a ≤ S7x50x512.size a := fun v3280 k0_hw408 => k0_hw408

def k0_off817 (i : grid0.Coords) : Fin 3 → Nat :=
  let c4_3741 : Index := 4#32
  let c5_3742 : Index := 5#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3286 : Index := Scalar.indexCast v3043
  ![4, 5, v3286.toNat]
def k0_off818 (v3287 : BitVec 32) : Fin 3 → Nat :=
  let c0_3747 : Index := 0#32
  let v3290 : Index := Scalar.indexCast v3287
  let c0_3748 : Index := 0#32
  ![0, v3290.toNat, 0]

def k0_chk409 (v3287 : BitVec 32) : Prop :=
  (∀ a, (k0_off818 v3287) a + S7x1x512.size a ≤ S7x50x512.size a)
theorem k0_off818_inb : ∀ (v3287 : BitVec 32) (k0_hw409 : k0_chk409 v3287), ∀ a, (k0_off818 v3287) a + S7x1x512.size a ≤ S7x50x512.size a := fun v3287 k0_hw409 => k0_hw409

def k0_off819 (i : grid0.Coords) : Fin 3 → Nat :=
  let c4_3749 : Index := 4#32
  let c6_3750 : Index := 6#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3293 : Index := Scalar.indexCast v3043
  ![4, 6, v3293.toNat]
def k0_off820 (v3294 : BitVec 32) : Fin 3 → Nat :=
  let c0_3755 : Index := 0#32
  let v3297 : Index := Scalar.indexCast v3294
  let c0_3756 : Index := 0#32
  ![0, v3297.toNat, 0]

def k0_chk410 (v3294 : BitVec 32) : Prop :=
  (∀ a, (k0_off820 v3294) a + S7x1x512.size a ≤ S7x50x512.size a)
theorem k0_off820_inb : ∀ (v3294 : BitVec 32) (k0_hw410 : k0_chk410 v3294), ∀ a, (k0_off820 v3294) a + S7x1x512.size a ≤ S7x50x512.size a := fun v3294 k0_hw410 => k0_hw410

def k0_off821 (i : grid0.Coords) : Fin 3 → Nat :=
  let c5_3761 : Index := 5#32
  let c2_3762 : Index := 2#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3304 : Index := Scalar.indexCast v3043
  ![5, 2, v3304.toNat]
def k0_off822 (v3305 : BitVec 32) : Fin 3 → Nat :=
  let c0_3767 : Index := 0#32
  let v3308 : Index := Scalar.indexCast v3305
  let c0_3768 : Index := 0#32
  ![0, v3308.toNat, 0]

def k0_chk411 (v3305 : BitVec 32) : Prop :=
  (∀ a, (k0_off822 v3305) a + S7x1x512.size a ≤ S7x50x512.size a)
theorem k0_off822_inb : ∀ (v3305 : BitVec 32) (k0_hw411 : k0_chk411 v3305), ∀ a, (k0_off822 v3305) a + S7x1x512.size a ≤ S7x50x512.size a := fun v3305 k0_hw411 => k0_hw411

def k0_off823 (i : grid0.Coords) : Fin 3 → Nat :=
  let c5_3769 : Index := 5#32
  let c3_3770 : Index := 3#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3310 : Index := Scalar.indexCast v3043
  ![5, 3, v3310.toNat]
def k0_off824 (v3311 : BitVec 32) : Fin 3 → Nat :=
  let c0_3775 : Index := 0#32
  let v3314 : Index := Scalar.indexCast v3311
  let c0_3776 : Index := 0#32
  ![0, v3314.toNat, 0]

def k0_chk412 (v3311 : BitVec 32) : Prop :=
  (∀ a, (k0_off824 v3311) a + S7x1x512.size a ≤ S7x50x512.size a)
theorem k0_off824_inb : ∀ (v3311 : BitVec 32) (k0_hw412 : k0_chk412 v3311), ∀ a, (k0_off824 v3311) a + S7x1x512.size a ≤ S7x50x512.size a := fun v3311 k0_hw412 => k0_hw412

def k0_off825 (i : grid0.Coords) : Fin 3 → Nat :=
  let c5_3777 : Index := 5#32
  let c4_3778 : Index := 4#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3317 : Index := Scalar.indexCast v3043
  ![5, 4, v3317.toNat]
def k0_off826 (v3318 : BitVec 32) : Fin 3 → Nat :=
  let c0_3783 : Index := 0#32
  let v3321 : Index := Scalar.indexCast v3318
  let c0_3784 : Index := 0#32
  ![0, v3321.toNat, 0]

def k0_chk413 (v3318 : BitVec 32) : Prop :=
  (∀ a, (k0_off826 v3318) a + S7x1x512.size a ≤ S7x50x512.size a)
theorem k0_off826_inb : ∀ (v3318 : BitVec 32) (k0_hw413 : k0_chk413 v3318), ∀ a, (k0_off826 v3318) a + S7x1x512.size a ≤ S7x50x512.size a := fun v3318 k0_hw413 => k0_hw413

def k0_off827 (i : grid0.Coords) : Fin 3 → Nat :=
  let c5_3785 : Index := 5#32
  let c5_3786 : Index := 5#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3324 : Index := Scalar.indexCast v3043
  ![5, 5, v3324.toNat]
def k0_off828 (v3325 : BitVec 32) : Fin 3 → Nat :=
  let c0_3791 : Index := 0#32
  let v3328 : Index := Scalar.indexCast v3325
  let c0_3792 : Index := 0#32
  ![0, v3328.toNat, 0]

def k0_chk414 (v3325 : BitVec 32) : Prop :=
  (∀ a, (k0_off828 v3325) a + S7x1x512.size a ≤ S7x50x512.size a)
theorem k0_off828_inb : ∀ (v3325 : BitVec 32) (k0_hw414 : k0_chk414 v3325), ∀ a, (k0_off828 v3325) a + S7x1x512.size a ≤ S7x50x512.size a := fun v3325 k0_hw414 => k0_hw414

def k0_off829 (i : grid0.Coords) : Fin 3 → Nat :=
  let c5_3793 : Index := 5#32
  let c6_3794 : Index := 6#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3331 : Index := Scalar.indexCast v3043
  ![5, 6, v3331.toNat]
def k0_off830 (v3332 : BitVec 32) : Fin 3 → Nat :=
  let c0_3799 : Index := 0#32
  let v3335 : Index := Scalar.indexCast v3332
  let c0_3800 : Index := 0#32
  ![0, v3335.toNat, 0]

def k0_chk415 (v3332 : BitVec 32) : Prop :=
  (∀ a, (k0_off830 v3332) a + S7x1x512.size a ≤ S7x50x512.size a)
theorem k0_off830_inb : ∀ (v3332 : BitVec 32) (k0_hw415 : k0_chk415 v3332), ∀ a, (k0_off830 v3332) a + S7x1x512.size a ≤ S7x50x512.size a := fun v3332 k0_hw415 => k0_hw415

def k0_off831 (i : grid0.Coords) : Fin 3 → Nat :=
  let c6_3805 : Index := 6#32
  let c2_3806 : Index := 2#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3342 : Index := Scalar.indexCast v3043
  ![6, 2, v3342.toNat]
def k0_off832 (v3343 : BitVec 32) : Fin 3 → Nat :=
  let c0_3811 : Index := 0#32
  let v3346 : Index := Scalar.indexCast v3343
  let c0_3812 : Index := 0#32
  ![0, v3346.toNat, 0]

def k0_chk416 (v3343 : BitVec 32) : Prop :=
  (∀ a, (k0_off832 v3343) a + S7x1x512.size a ≤ S7x50x512.size a)
theorem k0_off832_inb : ∀ (v3343 : BitVec 32) (k0_hw416 : k0_chk416 v3343), ∀ a, (k0_off832 v3343) a + S7x1x512.size a ≤ S7x50x512.size a := fun v3343 k0_hw416 => k0_hw416

def k0_off833 (i : grid0.Coords) : Fin 3 → Nat :=
  let c6_3813 : Index := 6#32
  let c3_3814 : Index := 3#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3348 : Index := Scalar.indexCast v3043
  ![6, 3, v3348.toNat]
def k0_off834 (v3349 : BitVec 32) : Fin 3 → Nat :=
  let c0_3819 : Index := 0#32
  let v3352 : Index := Scalar.indexCast v3349
  let c0_3820 : Index := 0#32
  ![0, v3352.toNat, 0]

def k0_chk417 (v3349 : BitVec 32) : Prop :=
  (∀ a, (k0_off834 v3349) a + S7x1x512.size a ≤ S7x50x512.size a)
theorem k0_off834_inb : ∀ (v3349 : BitVec 32) (k0_hw417 : k0_chk417 v3349), ∀ a, (k0_off834 v3349) a + S7x1x512.size a ≤ S7x50x512.size a := fun v3349 k0_hw417 => k0_hw417

def k0_off835 (i : grid0.Coords) : Fin 3 → Nat :=
  let c6_3821 : Index := 6#32
  let c4_3822 : Index := 4#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3355 : Index := Scalar.indexCast v3043
  ![6, 4, v3355.toNat]
def k0_off836 (v3356 : BitVec 32) : Fin 3 → Nat :=
  let c0_3827 : Index := 0#32
  let v3359 : Index := Scalar.indexCast v3356
  let c0_3828 : Index := 0#32
  ![0, v3359.toNat, 0]

def k0_chk418 (v3356 : BitVec 32) : Prop :=
  (∀ a, (k0_off836 v3356) a + S7x1x512.size a ≤ S7x50x512.size a)
theorem k0_off836_inb : ∀ (v3356 : BitVec 32) (k0_hw418 : k0_chk418 v3356), ∀ a, (k0_off836 v3356) a + S7x1x512.size a ≤ S7x50x512.size a := fun v3356 k0_hw418 => k0_hw418

def k0_off837 (i : grid0.Coords) : Fin 3 → Nat :=
  let c6_3829 : Index := 6#32
  let c5_3830 : Index := 5#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3362 : Index := Scalar.indexCast v3043
  ![6, 5, v3362.toNat]
def k0_off838 (v3363 : BitVec 32) : Fin 3 → Nat :=
  let c0_3835 : Index := 0#32
  let v3366 : Index := Scalar.indexCast v3363
  let c0_3836 : Index := 0#32
  ![0, v3366.toNat, 0]

def k0_chk419 (v3363 : BitVec 32) : Prop :=
  (∀ a, (k0_off838 v3363) a + S7x1x512.size a ≤ S7x50x512.size a)
theorem k0_off838_inb : ∀ (v3363 : BitVec 32) (k0_hw419 : k0_chk419 v3363), ∀ a, (k0_off838 v3363) a + S7x1x512.size a ≤ S7x50x512.size a := fun v3363 k0_hw419 => k0_hw419

def k0_off839 (i : grid0.Coords) : Fin 3 → Nat :=
  let c6_3837 : Index := 6#32
  let c6_3838 : Index := 6#32
  let arg0 : BitVec 32 := BitVec.ofNat 32 (i 0).val
  let c32_i32_3464 : BitVec 32 := 32#32
  let v3042 : BitVec 32 := Scalar.muli arg0 c32_i32_3464
  let c9_i32 : BitVec 32 := 9#32
  let v3043 : BitVec 32 := Scalar.addi v3042 c9_i32
  let v3369 : Index := Scalar.indexCast v3043
  ![6, 6, v3369.toNat]
def k0_off840 (v3370 : BitVec 32) : Fin 3 → Nat :=
  let c0_3843 : Index := 0#32
  let v3373 : Index := Scalar.indexCast v3370
  let c0_3844 : Index := 0#32
  ![0, v3373.toNat, 0]

def k0_chk420 (v3370 : BitVec 32) : Prop :=
  (∀ a, (k0_off840 v3370) a + S7x1x512.size a ≤ S7x50x512.size a)
theorem k0_off840_inb : ∀ (v3370 : BitVec 32) (k0_hw420 : k0_chk420 v3370), ∀ a, (k0_off840 v3370) a + S7x1x512.size a ≤ S7x50x512.size a := fun v3370 k0_hw420 => k0_hw420

def k0_off841 (i : grid0.Coords) : Fin 3 → Nat :=
  let c0_3850 : Index := 0#32
  let c0_3851 : Index := 0#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3382 : Index := Scalar.indexCast v3381
  ![0, 0, v3382.toNat]
def k0_off842 (v3383 : BitVec 32) : Fin 3 → Nat :=
  let v3384 : Index := Scalar.indexCast v3383
  let c0_3852 : Index := 0#32
  let c0_3853 : Index := 0#32
  ![v3384.toNat, 0, 0]

def k0_chk421 (v3383 : BitVec 32) : Prop :=
  (∀ a, (k0_off842 v3383) a + S1x50x512.size a ≤ S250x50x512.size a)
theorem k0_off842_inb : ∀ (v3383 : BitVec 32) (k0_hw421 : k0_chk421 v3383), ∀ a, (k0_off842 v3383) a + S1x50x512.size a ≤ S250x50x512.size a := fun v3383 k0_hw421 => k0_hw421

def k0_off843 (i : grid0.Coords) : Fin 3 → Nat :=
  let c1_3861 : Index := 1#32
  let c0_3862 : Index := 0#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3392 : Index := Scalar.indexCast v3381
  ![1, 0, v3392.toNat]
def k0_off844 (v3393 : BitVec 32) : Fin 3 → Nat :=
  let v3394 : Index := Scalar.indexCast v3393
  let c0_3863 : Index := 0#32
  let c0_3864 : Index := 0#32
  ![v3394.toNat, 0, 0]

def k0_chk422 (v3393 : BitVec 32) : Prop :=
  (∀ a, (k0_off844 v3393) a + S1x50x512.size a ≤ S250x50x512.size a)
theorem k0_off844_inb : ∀ (v3393 : BitVec 32) (k0_hw422 : k0_chk422 v3393), ∀ a, (k0_off844 v3393) a + S1x50x512.size a ≤ S250x50x512.size a := fun v3393 k0_hw422 => k0_hw422

def k0_off845 (i : grid0.Coords) : Fin 3 → Nat :=
  let c2_3872 : Index := 2#32
  let c0_3873 : Index := 0#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3402 : Index := Scalar.indexCast v3381
  ![2, 0, v3402.toNat]
def k0_off846 (v3403 : BitVec 32) : Fin 3 → Nat :=
  let v3404 : Index := Scalar.indexCast v3403
  let c0_3874 : Index := 0#32
  let c0_3875 : Index := 0#32
  ![v3404.toNat, 0, 0]

def k0_chk423 (v3403 : BitVec 32) : Prop :=
  (∀ a, (k0_off846 v3403) a + S1x50x512.size a ≤ S250x50x512.size a)
theorem k0_off846_inb : ∀ (v3403 : BitVec 32) (k0_hw423 : k0_chk423 v3403), ∀ a, (k0_off846 v3403) a + S1x50x512.size a ≤ S250x50x512.size a := fun v3403 k0_hw423 => k0_hw423

def k0_off847 (i : grid0.Coords) : Fin 3 → Nat :=
  let c3_3883 : Index := 3#32
  let c0_3884 : Index := 0#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3412 : Index := Scalar.indexCast v3381
  ![3, 0, v3412.toNat]
def k0_off848 (v3413 : BitVec 32) : Fin 3 → Nat :=
  let v3414 : Index := Scalar.indexCast v3413
  let c0_3885 : Index := 0#32
  let c0_3886 : Index := 0#32
  ![v3414.toNat, 0, 0]

def k0_chk424 (v3413 : BitVec 32) : Prop :=
  (∀ a, (k0_off848 v3413) a + S1x50x512.size a ≤ S250x50x512.size a)
theorem k0_off848_inb : ∀ (v3413 : BitVec 32) (k0_hw424 : k0_chk424 v3413), ∀ a, (k0_off848 v3413) a + S1x50x512.size a ≤ S250x50x512.size a := fun v3413 k0_hw424 => k0_hw424

def k0_off849 (i : grid0.Coords) : Fin 3 → Nat :=
  let c4_3894 : Index := 4#32
  let c0_3895 : Index := 0#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3422 : Index := Scalar.indexCast v3381
  ![4, 0, v3422.toNat]
def k0_off850 (v3423 : BitVec 32) : Fin 3 → Nat :=
  let v3424 : Index := Scalar.indexCast v3423
  let c0_3896 : Index := 0#32
  let c0_3897 : Index := 0#32
  ![v3424.toNat, 0, 0]

def k0_chk425 (v3423 : BitVec 32) : Prop :=
  (∀ a, (k0_off850 v3423) a + S1x50x512.size a ≤ S250x50x512.size a)
theorem k0_off850_inb : ∀ (v3423 : BitVec 32) (k0_hw425 : k0_chk425 v3423), ∀ a, (k0_off850 v3423) a + S1x50x512.size a ≤ S250x50x512.size a := fun v3423 k0_hw425 => k0_hw425

def k0_off851 (i : grid0.Coords) : Fin 3 → Nat :=
  let c5_3905 : Index := 5#32
  let c0_3906 : Index := 0#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3432 : Index := Scalar.indexCast v3381
  ![5, 0, v3432.toNat]
def k0_off852 (v3433 : BitVec 32) : Fin 3 → Nat :=
  let v3434 : Index := Scalar.indexCast v3433
  let c0_3907 : Index := 0#32
  let c0_3908 : Index := 0#32
  ![v3434.toNat, 0, 0]

def k0_chk426 (v3433 : BitVec 32) : Prop :=
  (∀ a, (k0_off852 v3433) a + S1x50x512.size a ≤ S250x50x512.size a)
theorem k0_off852_inb : ∀ (v3433 : BitVec 32) (k0_hw426 : k0_chk426 v3433), ∀ a, (k0_off852 v3433) a + S1x50x512.size a ≤ S250x50x512.size a := fun v3433 k0_hw426 => k0_hw426

def k0_off853 (i : grid0.Coords) : Fin 3 → Nat :=
  let c6_3916 : Index := 6#32
  let c0_3917 : Index := 0#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3442 : Index := Scalar.indexCast v3381
  ![6, 0, v3442.toNat]
def k0_off854 (v3443 : BitVec 32) : Fin 3 → Nat :=
  let v3444 : Index := Scalar.indexCast v3443
  let c0_3918 : Index := 0#32
  let c0_3919 : Index := 0#32
  ![v3444.toNat, 0, 0]

def k0_chk427 (v3443 : BitVec 32) : Prop :=
  (∀ a, (k0_off854 v3443) a + S1x50x512.size a ≤ S250x50x512.size a)
theorem k0_off854_inb : ∀ (v3443 : BitVec 32) (k0_hw427 : k0_chk427 v3443), ∀ a, (k0_off854 v3443) a + S1x50x512.size a ≤ S250x50x512.size a := fun v3443 k0_hw427 => k0_hw427

def k0_off855 (i : grid0.Coords) : Fin 3 → Nat :=
  let c0_3927 : Index := 0#32
  let c2_3928 : Index := 2#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3452 : Index := Scalar.indexCast v3381
  ![0, 2, v3452.toNat]
def k0_off856 (v3453 : BitVec 32) : Fin 3 → Nat :=
  let c0_3933 : Index := 0#32
  let v3456 : Index := Scalar.indexCast v3453
  let c0_3934 : Index := 0#32
  ![0, v3456.toNat, 0]

def k0_chk428 (v3453 : BitVec 32) : Prop :=
  (∀ a, (k0_off856 v3453) a + S7x1x512.size a ≤ S7x50x512.size a)
theorem k0_off856_inb : ∀ (v3453 : BitVec 32) (k0_hw428 : k0_chk428 v3453), ∀ a, (k0_off856 v3453) a + S7x1x512.size a ≤ S7x50x512.size a := fun v3453 k0_hw428 => k0_hw428

def k0_off857 (i : grid0.Coords) : Fin 3 → Nat :=
  let c0_3935 : Index := 0#32
  let c3_3936 : Index := 3#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3458 : Index := Scalar.indexCast v3381
  ![0, 3, v3458.toNat]
def k0_off858 (v3459 : BitVec 32) : Fin 3 → Nat :=
  let c0_3941 : Index := 0#32
  let v3462 : Index := Scalar.indexCast v3459
  let c0_3942 : Index := 0#32
  ![0, v3462.toNat, 0]

def k0_chk429 (v3459 : BitVec 32) : Prop :=
  (∀ a, (k0_off858 v3459) a + S7x1x512.size a ≤ S7x50x512.size a)
theorem k0_off858_inb : ∀ (v3459 : BitVec 32) (k0_hw429 : k0_chk429 v3459), ∀ a, (k0_off858 v3459) a + S7x1x512.size a ≤ S7x50x512.size a := fun v3459 k0_hw429 => k0_hw429

def k0_off859 (i : grid0.Coords) : Fin 3 → Nat :=
  let c0_3943 : Index := 0#32
  let c4_3944 : Index := 4#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3465 : Index := Scalar.indexCast v3381
  ![0, 4, v3465.toNat]
def k0_off860 (v3466 : BitVec 32) : Fin 3 → Nat :=
  let c0_3949 : Index := 0#32
  let v3469 : Index := Scalar.indexCast v3466
  let c0_3950 : Index := 0#32
  ![0, v3469.toNat, 0]

def k0_chk430 (v3466 : BitVec 32) : Prop :=
  (∀ a, (k0_off860 v3466) a + S7x1x512.size a ≤ S7x50x512.size a)
theorem k0_off860_inb : ∀ (v3466 : BitVec 32) (k0_hw430 : k0_chk430 v3466), ∀ a, (k0_off860 v3466) a + S7x1x512.size a ≤ S7x50x512.size a := fun v3466 k0_hw430 => k0_hw430

def k0_off861 (i : grid0.Coords) : Fin 3 → Nat :=
  let c0_3951 : Index := 0#32
  let c5_3952 : Index := 5#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3472 : Index := Scalar.indexCast v3381
  ![0, 5, v3472.toNat]
def k0_off862 (v3473 : BitVec 32) : Fin 3 → Nat :=
  let c0_3957 : Index := 0#32
  let v3476 : Index := Scalar.indexCast v3473
  let c0_3958 : Index := 0#32
  ![0, v3476.toNat, 0]

def k0_chk431 (v3473 : BitVec 32) : Prop :=
  (∀ a, (k0_off862 v3473) a + S7x1x512.size a ≤ S7x50x512.size a)
theorem k0_off862_inb : ∀ (v3473 : BitVec 32) (k0_hw431 : k0_chk431 v3473), ∀ a, (k0_off862 v3473) a + S7x1x512.size a ≤ S7x50x512.size a := fun v3473 k0_hw431 => k0_hw431

def k0_off863 (i : grid0.Coords) : Fin 3 → Nat :=
  let c0_3959 : Index := 0#32
  let c6_3960 : Index := 6#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3479 : Index := Scalar.indexCast v3381
  ![0, 6, v3479.toNat]
def k0_off864 (v3480 : BitVec 32) : Fin 3 → Nat :=
  let c0_3965 : Index := 0#32
  let v3483 : Index := Scalar.indexCast v3480
  let c0_3966 : Index := 0#32
  ![0, v3483.toNat, 0]

def k0_chk432 (v3480 : BitVec 32) : Prop :=
  (∀ a, (k0_off864 v3480) a + S7x1x512.size a ≤ S7x50x512.size a)
theorem k0_off864_inb : ∀ (v3480 : BitVec 32) (k0_hw432 : k0_chk432 v3480), ∀ a, (k0_off864 v3480) a + S7x1x512.size a ≤ S7x50x512.size a := fun v3480 k0_hw432 => k0_hw432

def k0_off865 (i : grid0.Coords) : Fin 3 → Nat :=
  let c1_3970 : Index := 1#32
  let c2_3971 : Index := 2#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3490 : Index := Scalar.indexCast v3381
  ![1, 2, v3490.toNat]
def k0_off866 (v3491 : BitVec 32) : Fin 3 → Nat :=
  let c0_3976 : Index := 0#32
  let v3494 : Index := Scalar.indexCast v3491
  let c0_3977 : Index := 0#32
  ![0, v3494.toNat, 0]

def k0_chk433 (v3491 : BitVec 32) : Prop :=
  (∀ a, (k0_off866 v3491) a + S7x1x512.size a ≤ S7x50x512.size a)
theorem k0_off866_inb : ∀ (v3491 : BitVec 32) (k0_hw433 : k0_chk433 v3491), ∀ a, (k0_off866 v3491) a + S7x1x512.size a ≤ S7x50x512.size a := fun v3491 k0_hw433 => k0_hw433

def k0_off867 (i : grid0.Coords) : Fin 3 → Nat :=
  let c1_3978 : Index := 1#32
  let c3_3979 : Index := 3#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3496 : Index := Scalar.indexCast v3381
  ![1, 3, v3496.toNat]
def k0_off868 (v3497 : BitVec 32) : Fin 3 → Nat :=
  let c0_3984 : Index := 0#32
  let v3500 : Index := Scalar.indexCast v3497
  let c0_3985 : Index := 0#32
  ![0, v3500.toNat, 0]

def k0_chk434 (v3497 : BitVec 32) : Prop :=
  (∀ a, (k0_off868 v3497) a + S7x1x512.size a ≤ S7x50x512.size a)
theorem k0_off868_inb : ∀ (v3497 : BitVec 32) (k0_hw434 : k0_chk434 v3497), ∀ a, (k0_off868 v3497) a + S7x1x512.size a ≤ S7x50x512.size a := fun v3497 k0_hw434 => k0_hw434

def k0_off869 (i : grid0.Coords) : Fin 3 → Nat :=
  let c1_3986 : Index := 1#32
  let c4_3987 : Index := 4#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3503 : Index := Scalar.indexCast v3381
  ![1, 4, v3503.toNat]
def k0_off870 (v3504 : BitVec 32) : Fin 3 → Nat :=
  let c0_3992 : Index := 0#32
  let v3507 : Index := Scalar.indexCast v3504
  let c0_3993 : Index := 0#32
  ![0, v3507.toNat, 0]

def k0_chk435 (v3504 : BitVec 32) : Prop :=
  (∀ a, (k0_off870 v3504) a + S7x1x512.size a ≤ S7x50x512.size a)
theorem k0_off870_inb : ∀ (v3504 : BitVec 32) (k0_hw435 : k0_chk435 v3504), ∀ a, (k0_off870 v3504) a + S7x1x512.size a ≤ S7x50x512.size a := fun v3504 k0_hw435 => k0_hw435

def k0_off871 (i : grid0.Coords) : Fin 3 → Nat :=
  let c1_3994 : Index := 1#32
  let c5_3995 : Index := 5#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3510 : Index := Scalar.indexCast v3381
  ![1, 5, v3510.toNat]
def k0_off872 (v3511 : BitVec 32) : Fin 3 → Nat :=
  let c0_4000 : Index := 0#32
  let v3514 : Index := Scalar.indexCast v3511
  let c0_4001 : Index := 0#32
  ![0, v3514.toNat, 0]

def k0_chk436 (v3511 : BitVec 32) : Prop :=
  (∀ a, (k0_off872 v3511) a + S7x1x512.size a ≤ S7x50x512.size a)
theorem k0_off872_inb : ∀ (v3511 : BitVec 32) (k0_hw436 : k0_chk436 v3511), ∀ a, (k0_off872 v3511) a + S7x1x512.size a ≤ S7x50x512.size a := fun v3511 k0_hw436 => k0_hw436

def k0_off873 (i : grid0.Coords) : Fin 3 → Nat :=
  let c1_4002 : Index := 1#32
  let c6_4003 : Index := 6#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3517 : Index := Scalar.indexCast v3381
  ![1, 6, v3517.toNat]
def k0_off874 (v3518 : BitVec 32) : Fin 3 → Nat :=
  let c0_4008 : Index := 0#32
  let v3521 : Index := Scalar.indexCast v3518
  let c0_4009 : Index := 0#32
  ![0, v3521.toNat, 0]

def k0_chk437 (v3518 : BitVec 32) : Prop :=
  (∀ a, (k0_off874 v3518) a + S7x1x512.size a ≤ S7x50x512.size a)
theorem k0_off874_inb : ∀ (v3518 : BitVec 32) (k0_hw437 : k0_chk437 v3518), ∀ a, (k0_off874 v3518) a + S7x1x512.size a ≤ S7x50x512.size a := fun v3518 k0_hw437 => k0_hw437

def k0_off875 (i : grid0.Coords) : Fin 3 → Nat :=
  let c2_4014 : Index := 2#32
  let c2_4015 : Index := 2#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3528 : Index := Scalar.indexCast v3381
  ![2, 2, v3528.toNat]
def k0_off876 (v3529 : BitVec 32) : Fin 3 → Nat :=
  let c0_4020 : Index := 0#32
  let v3532 : Index := Scalar.indexCast v3529
  let c0_4021 : Index := 0#32
  ![0, v3532.toNat, 0]

def k0_chk438 (v3529 : BitVec 32) : Prop :=
  (∀ a, (k0_off876 v3529) a + S7x1x512.size a ≤ S7x50x512.size a)
theorem k0_off876_inb : ∀ (v3529 : BitVec 32) (k0_hw438 : k0_chk438 v3529), ∀ a, (k0_off876 v3529) a + S7x1x512.size a ≤ S7x50x512.size a := fun v3529 k0_hw438 => k0_hw438

def k0_off877 (i : grid0.Coords) : Fin 3 → Nat :=
  let c2_4022 : Index := 2#32
  let c3_4023 : Index := 3#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3534 : Index := Scalar.indexCast v3381
  ![2, 3, v3534.toNat]
def k0_off878 (v3535 : BitVec 32) : Fin 3 → Nat :=
  let c0_4028 : Index := 0#32
  let v3538 : Index := Scalar.indexCast v3535
  let c0_4029 : Index := 0#32
  ![0, v3538.toNat, 0]

def k0_chk439 (v3535 : BitVec 32) : Prop :=
  (∀ a, (k0_off878 v3535) a + S7x1x512.size a ≤ S7x50x512.size a)
theorem k0_off878_inb : ∀ (v3535 : BitVec 32) (k0_hw439 : k0_chk439 v3535), ∀ a, (k0_off878 v3535) a + S7x1x512.size a ≤ S7x50x512.size a := fun v3535 k0_hw439 => k0_hw439

def k0_off879 (i : grid0.Coords) : Fin 3 → Nat :=
  let c2_4030 : Index := 2#32
  let c4_4031 : Index := 4#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3541 : Index := Scalar.indexCast v3381
  ![2, 4, v3541.toNat]
def k0_off880 (v3542 : BitVec 32) : Fin 3 → Nat :=
  let c0_4036 : Index := 0#32
  let v3545 : Index := Scalar.indexCast v3542
  let c0_4037 : Index := 0#32
  ![0, v3545.toNat, 0]

def k0_chk440 (v3542 : BitVec 32) : Prop :=
  (∀ a, (k0_off880 v3542) a + S7x1x512.size a ≤ S7x50x512.size a)
theorem k0_off880_inb : ∀ (v3542 : BitVec 32) (k0_hw440 : k0_chk440 v3542), ∀ a, (k0_off880 v3542) a + S7x1x512.size a ≤ S7x50x512.size a := fun v3542 k0_hw440 => k0_hw440

def k0_off881 (i : grid0.Coords) : Fin 3 → Nat :=
  let c2_4038 : Index := 2#32
  let c5_4039 : Index := 5#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3548 : Index := Scalar.indexCast v3381
  ![2, 5, v3548.toNat]
def k0_off882 (v3549 : BitVec 32) : Fin 3 → Nat :=
  let c0_4044 : Index := 0#32
  let v3552 : Index := Scalar.indexCast v3549
  let c0_4045 : Index := 0#32
  ![0, v3552.toNat, 0]

def k0_chk441 (v3549 : BitVec 32) : Prop :=
  (∀ a, (k0_off882 v3549) a + S7x1x512.size a ≤ S7x50x512.size a)
theorem k0_off882_inb : ∀ (v3549 : BitVec 32) (k0_hw441 : k0_chk441 v3549), ∀ a, (k0_off882 v3549) a + S7x1x512.size a ≤ S7x50x512.size a := fun v3549 k0_hw441 => k0_hw441

def k0_off883 (i : grid0.Coords) : Fin 3 → Nat :=
  let c2_4046 : Index := 2#32
  let c6_4047 : Index := 6#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3555 : Index := Scalar.indexCast v3381
  ![2, 6, v3555.toNat]
def k0_off884 (v3556 : BitVec 32) : Fin 3 → Nat :=
  let c0_4052 : Index := 0#32
  let v3559 : Index := Scalar.indexCast v3556
  let c0_4053 : Index := 0#32
  ![0, v3559.toNat, 0]

def k0_chk442 (v3556 : BitVec 32) : Prop :=
  (∀ a, (k0_off884 v3556) a + S7x1x512.size a ≤ S7x50x512.size a)
theorem k0_off884_inb : ∀ (v3556 : BitVec 32) (k0_hw442 : k0_chk442 v3556), ∀ a, (k0_off884 v3556) a + S7x1x512.size a ≤ S7x50x512.size a := fun v3556 k0_hw442 => k0_hw442

def k0_off885 (i : grid0.Coords) : Fin 3 → Nat :=
  let c3_4058 : Index := 3#32
  let c2_4059 : Index := 2#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3566 : Index := Scalar.indexCast v3381
  ![3, 2, v3566.toNat]
def k0_off886 (v3567 : BitVec 32) : Fin 3 → Nat :=
  let c0_4064 : Index := 0#32
  let v3570 : Index := Scalar.indexCast v3567
  let c0_4065 : Index := 0#32
  ![0, v3570.toNat, 0]

def k0_chk443 (v3567 : BitVec 32) : Prop :=
  (∀ a, (k0_off886 v3567) a + S7x1x512.size a ≤ S7x50x512.size a)
theorem k0_off886_inb : ∀ (v3567 : BitVec 32) (k0_hw443 : k0_chk443 v3567), ∀ a, (k0_off886 v3567) a + S7x1x512.size a ≤ S7x50x512.size a := fun v3567 k0_hw443 => k0_hw443

def k0_off887 (i : grid0.Coords) : Fin 3 → Nat :=
  let c3_4066 : Index := 3#32
  let c3_4067 : Index := 3#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3572 : Index := Scalar.indexCast v3381
  ![3, 3, v3572.toNat]
def k0_off888 (v3573 : BitVec 32) : Fin 3 → Nat :=
  let c0_4072 : Index := 0#32
  let v3576 : Index := Scalar.indexCast v3573
  let c0_4073 : Index := 0#32
  ![0, v3576.toNat, 0]

def k0_chk444 (v3573 : BitVec 32) : Prop :=
  (∀ a, (k0_off888 v3573) a + S7x1x512.size a ≤ S7x50x512.size a)
theorem k0_off888_inb : ∀ (v3573 : BitVec 32) (k0_hw444 : k0_chk444 v3573), ∀ a, (k0_off888 v3573) a + S7x1x512.size a ≤ S7x50x512.size a := fun v3573 k0_hw444 => k0_hw444

def k0_off889 (i : grid0.Coords) : Fin 3 → Nat :=
  let c3_4074 : Index := 3#32
  let c4_4075 : Index := 4#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3579 : Index := Scalar.indexCast v3381
  ![3, 4, v3579.toNat]
def k0_off890 (v3580 : BitVec 32) : Fin 3 → Nat :=
  let c0_4080 : Index := 0#32
  let v3583 : Index := Scalar.indexCast v3580
  let c0_4081 : Index := 0#32
  ![0, v3583.toNat, 0]

def k0_chk445 (v3580 : BitVec 32) : Prop :=
  (∀ a, (k0_off890 v3580) a + S7x1x512.size a ≤ S7x50x512.size a)
theorem k0_off890_inb : ∀ (v3580 : BitVec 32) (k0_hw445 : k0_chk445 v3580), ∀ a, (k0_off890 v3580) a + S7x1x512.size a ≤ S7x50x512.size a := fun v3580 k0_hw445 => k0_hw445

def k0_off891 (i : grid0.Coords) : Fin 3 → Nat :=
  let c3_4082 : Index := 3#32
  let c5_4083 : Index := 5#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3586 : Index := Scalar.indexCast v3381
  ![3, 5, v3586.toNat]
def k0_off892 (v3587 : BitVec 32) : Fin 3 → Nat :=
  let c0_4088 : Index := 0#32
  let v3590 : Index := Scalar.indexCast v3587
  let c0_4089 : Index := 0#32
  ![0, v3590.toNat, 0]

def k0_chk446 (v3587 : BitVec 32) : Prop :=
  (∀ a, (k0_off892 v3587) a + S7x1x512.size a ≤ S7x50x512.size a)
theorem k0_off892_inb : ∀ (v3587 : BitVec 32) (k0_hw446 : k0_chk446 v3587), ∀ a, (k0_off892 v3587) a + S7x1x512.size a ≤ S7x50x512.size a := fun v3587 k0_hw446 => k0_hw446

def k0_off893 (i : grid0.Coords) : Fin 3 → Nat :=
  let c3_4090 : Index := 3#32
  let c6_4091 : Index := 6#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3593 : Index := Scalar.indexCast v3381
  ![3, 6, v3593.toNat]
def k0_off894 (v3594 : BitVec 32) : Fin 3 → Nat :=
  let c0_4096 : Index := 0#32
  let v3597 : Index := Scalar.indexCast v3594
  let c0_4097 : Index := 0#32
  ![0, v3597.toNat, 0]

def k0_chk447 (v3594 : BitVec 32) : Prop :=
  (∀ a, (k0_off894 v3594) a + S7x1x512.size a ≤ S7x50x512.size a)
theorem k0_off894_inb : ∀ (v3594 : BitVec 32) (k0_hw447 : k0_chk447 v3594), ∀ a, (k0_off894 v3594) a + S7x1x512.size a ≤ S7x50x512.size a := fun v3594 k0_hw447 => k0_hw447

def k0_off895 (i : grid0.Coords) : Fin 3 → Nat :=
  let c4_4102 : Index := 4#32
  let c2_4103 : Index := 2#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3604 : Index := Scalar.indexCast v3381
  ![4, 2, v3604.toNat]
def k0_off896 (v3605 : BitVec 32) : Fin 3 → Nat :=
  let c0_4108 : Index := 0#32
  let v3608 : Index := Scalar.indexCast v3605
  let c0_4109 : Index := 0#32
  ![0, v3608.toNat, 0]

def k0_chk448 (v3605 : BitVec 32) : Prop :=
  (∀ a, (k0_off896 v3605) a + S7x1x512.size a ≤ S7x50x512.size a)
theorem k0_off896_inb : ∀ (v3605 : BitVec 32) (k0_hw448 : k0_chk448 v3605), ∀ a, (k0_off896 v3605) a + S7x1x512.size a ≤ S7x50x512.size a := fun v3605 k0_hw448 => k0_hw448

def k0_off897 (i : grid0.Coords) : Fin 3 → Nat :=
  let c4_4110 : Index := 4#32
  let c3_4111 : Index := 3#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3610 : Index := Scalar.indexCast v3381
  ![4, 3, v3610.toNat]
def k0_off898 (v3611 : BitVec 32) : Fin 3 → Nat :=
  let c0_4116 : Index := 0#32
  let v3614 : Index := Scalar.indexCast v3611
  let c0_4117 : Index := 0#32
  ![0, v3614.toNat, 0]

def k0_chk449 (v3611 : BitVec 32) : Prop :=
  (∀ a, (k0_off898 v3611) a + S7x1x512.size a ≤ S7x50x512.size a)
theorem k0_off898_inb : ∀ (v3611 : BitVec 32) (k0_hw449 : k0_chk449 v3611), ∀ a, (k0_off898 v3611) a + S7x1x512.size a ≤ S7x50x512.size a := fun v3611 k0_hw449 => k0_hw449

def k0_off899 (i : grid0.Coords) : Fin 3 → Nat :=
  let c4_4118 : Index := 4#32
  let c4_4119 : Index := 4#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3617 : Index := Scalar.indexCast v3381
  ![4, 4, v3617.toNat]
def k0_off900 (v3618 : BitVec 32) : Fin 3 → Nat :=
  let c0_4124 : Index := 0#32
  let v3621 : Index := Scalar.indexCast v3618
  let c0_4125 : Index := 0#32
  ![0, v3621.toNat, 0]

def k0_chk450 (v3618 : BitVec 32) : Prop :=
  (∀ a, (k0_off900 v3618) a + S7x1x512.size a ≤ S7x50x512.size a)
theorem k0_off900_inb : ∀ (v3618 : BitVec 32) (k0_hw450 : k0_chk450 v3618), ∀ a, (k0_off900 v3618) a + S7x1x512.size a ≤ S7x50x512.size a := fun v3618 k0_hw450 => k0_hw450

def k0_off901 (i : grid0.Coords) : Fin 3 → Nat :=
  let c4_4126 : Index := 4#32
  let c5_4127 : Index := 5#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3624 : Index := Scalar.indexCast v3381
  ![4, 5, v3624.toNat]
def k0_off902 (v3625 : BitVec 32) : Fin 3 → Nat :=
  let c0_4132 : Index := 0#32
  let v3628 : Index := Scalar.indexCast v3625
  let c0_4133 : Index := 0#32
  ![0, v3628.toNat, 0]

def k0_chk451 (v3625 : BitVec 32) : Prop :=
  (∀ a, (k0_off902 v3625) a + S7x1x512.size a ≤ S7x50x512.size a)
theorem k0_off902_inb : ∀ (v3625 : BitVec 32) (k0_hw451 : k0_chk451 v3625), ∀ a, (k0_off902 v3625) a + S7x1x512.size a ≤ S7x50x512.size a := fun v3625 k0_hw451 => k0_hw451

def k0_off903 (i : grid0.Coords) : Fin 3 → Nat :=
  let c4_4134 : Index := 4#32
  let c6_4135 : Index := 6#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3631 : Index := Scalar.indexCast v3381
  ![4, 6, v3631.toNat]
def k0_off904 (v3632 : BitVec 32) : Fin 3 → Nat :=
  let c0_4140 : Index := 0#32
  let v3635 : Index := Scalar.indexCast v3632
  let c0_4141 : Index := 0#32
  ![0, v3635.toNat, 0]

def k0_chk452 (v3632 : BitVec 32) : Prop :=
  (∀ a, (k0_off904 v3632) a + S7x1x512.size a ≤ S7x50x512.size a)
theorem k0_off904_inb : ∀ (v3632 : BitVec 32) (k0_hw452 : k0_chk452 v3632), ∀ a, (k0_off904 v3632) a + S7x1x512.size a ≤ S7x50x512.size a := fun v3632 k0_hw452 => k0_hw452

def k0_off905 (i : grid0.Coords) : Fin 3 → Nat :=
  let c5_4146 : Index := 5#32
  let c2_4147 : Index := 2#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3642 : Index := Scalar.indexCast v3381
  ![5, 2, v3642.toNat]
def k0_off906 (v3643 : BitVec 32) : Fin 3 → Nat :=
  let c0_4152 : Index := 0#32
  let v3646 : Index := Scalar.indexCast v3643
  let c0_4153 : Index := 0#32
  ![0, v3646.toNat, 0]

def k0_chk453 (v3643 : BitVec 32) : Prop :=
  (∀ a, (k0_off906 v3643) a + S7x1x512.size a ≤ S7x50x512.size a)
theorem k0_off906_inb : ∀ (v3643 : BitVec 32) (k0_hw453 : k0_chk453 v3643), ∀ a, (k0_off906 v3643) a + S7x1x512.size a ≤ S7x50x512.size a := fun v3643 k0_hw453 => k0_hw453

def k0_off907 (i : grid0.Coords) : Fin 3 → Nat :=
  let c5_4154 : Index := 5#32
  let c3_4155 : Index := 3#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3648 : Index := Scalar.indexCast v3381
  ![5, 3, v3648.toNat]
def k0_off908 (v3649 : BitVec 32) : Fin 3 → Nat :=
  let c0_4160 : Index := 0#32
  let v3652 : Index := Scalar.indexCast v3649
  let c0_4161 : Index := 0#32
  ![0, v3652.toNat, 0]

def k0_chk454 (v3649 : BitVec 32) : Prop :=
  (∀ a, (k0_off908 v3649) a + S7x1x512.size a ≤ S7x50x512.size a)
theorem k0_off908_inb : ∀ (v3649 : BitVec 32) (k0_hw454 : k0_chk454 v3649), ∀ a, (k0_off908 v3649) a + S7x1x512.size a ≤ S7x50x512.size a := fun v3649 k0_hw454 => k0_hw454

def k0_off909 (i : grid0.Coords) : Fin 3 → Nat :=
  let c5_4162 : Index := 5#32
  let c4_4163 : Index := 4#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3655 : Index := Scalar.indexCast v3381
  ![5, 4, v3655.toNat]
def k0_off910 (v3656 : BitVec 32) : Fin 3 → Nat :=
  let c0_4168 : Index := 0#32
  let v3659 : Index := Scalar.indexCast v3656
  let c0_4169 : Index := 0#32
  ![0, v3659.toNat, 0]

def k0_chk455 (v3656 : BitVec 32) : Prop :=
  (∀ a, (k0_off910 v3656) a + S7x1x512.size a ≤ S7x50x512.size a)
theorem k0_off910_inb : ∀ (v3656 : BitVec 32) (k0_hw455 : k0_chk455 v3656), ∀ a, (k0_off910 v3656) a + S7x1x512.size a ≤ S7x50x512.size a := fun v3656 k0_hw455 => k0_hw455

def k0_off911 (i : grid0.Coords) : Fin 3 → Nat :=
  let c5_4170 : Index := 5#32
  let c5_4171 : Index := 5#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3662 : Index := Scalar.indexCast v3381
  ![5, 5, v3662.toNat]
def k0_off912 (v3663 : BitVec 32) : Fin 3 → Nat :=
  let c0_4176 : Index := 0#32
  let v3666 : Index := Scalar.indexCast v3663
  let c0_4177 : Index := 0#32
  ![0, v3666.toNat, 0]

def k0_chk456 (v3663 : BitVec 32) : Prop :=
  (∀ a, (k0_off912 v3663) a + S7x1x512.size a ≤ S7x50x512.size a)
theorem k0_off912_inb : ∀ (v3663 : BitVec 32) (k0_hw456 : k0_chk456 v3663), ∀ a, (k0_off912 v3663) a + S7x1x512.size a ≤ S7x50x512.size a := fun v3663 k0_hw456 => k0_hw456

def k0_off913 (i : grid0.Coords) : Fin 3 → Nat :=
  let c5_4178 : Index := 5#32
  let c6_4179 : Index := 6#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3669 : Index := Scalar.indexCast v3381
  ![5, 6, v3669.toNat]
def k0_off914 (v3670 : BitVec 32) : Fin 3 → Nat :=
  let c0_4184 : Index := 0#32
  let v3673 : Index := Scalar.indexCast v3670
  let c0_4185 : Index := 0#32
  ![0, v3673.toNat, 0]

def k0_chk457 (v3670 : BitVec 32) : Prop :=
  (∀ a, (k0_off914 v3670) a + S7x1x512.size a ≤ S7x50x512.size a)
theorem k0_off914_inb : ∀ (v3670 : BitVec 32) (k0_hw457 : k0_chk457 v3670), ∀ a, (k0_off914 v3670) a + S7x1x512.size a ≤ S7x50x512.size a := fun v3670 k0_hw457 => k0_hw457

def k0_off915 (i : grid0.Coords) : Fin 3 → Nat :=
  let c6_4190 : Index := 6#32
  let c2_4191 : Index := 2#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3680 : Index := Scalar.indexCast v3381
  ![6, 2, v3680.toNat]
def k0_off916 (v3681 : BitVec 32) : Fin 3 → Nat :=
  let c0_4196 : Index := 0#32
  let v3684 : Index := Scalar.indexCast v3681
  let c0_4197 : Index := 0#32
  ![0, v3684.toNat, 0]

def k0_chk458 (v3681 : BitVec 32) : Prop :=
  (∀ a, (k0_off916 v3681) a + S7x1x512.size a ≤ S7x50x512.size a)
theorem k0_off916_inb : ∀ (v3681 : BitVec 32) (k0_hw458 : k0_chk458 v3681), ∀ a, (k0_off916 v3681) a + S7x1x512.size a ≤ S7x50x512.size a := fun v3681 k0_hw458 => k0_hw458

def k0_off917 (i : grid0.Coords) : Fin 3 → Nat :=
  let c6_4198 : Index := 6#32
  let c3_4199 : Index := 3#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3686 : Index := Scalar.indexCast v3381
  ![6, 3, v3686.toNat]
def k0_off918 (v3687 : BitVec 32) : Fin 3 → Nat :=
  let c0_4204 : Index := 0#32
  let v3690 : Index := Scalar.indexCast v3687
  let c0_4205 : Index := 0#32
  ![0, v3690.toNat, 0]

def k0_chk459 (v3687 : BitVec 32) : Prop :=
  (∀ a, (k0_off918 v3687) a + S7x1x512.size a ≤ S7x50x512.size a)
theorem k0_off918_inb : ∀ (v3687 : BitVec 32) (k0_hw459 : k0_chk459 v3687), ∀ a, (k0_off918 v3687) a + S7x1x512.size a ≤ S7x50x512.size a := fun v3687 k0_hw459 => k0_hw459

def k0_off919 (i : grid0.Coords) : Fin 3 → Nat :=
  let c6_4206 : Index := 6#32
  let c4_4207 : Index := 4#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3693 : Index := Scalar.indexCast v3381
  ![6, 4, v3693.toNat]
def k0_off920 (v3694 : BitVec 32) : Fin 3 → Nat :=
  let c0_4212 : Index := 0#32
  let v3697 : Index := Scalar.indexCast v3694
  let c0_4213 : Index := 0#32
  ![0, v3697.toNat, 0]

def k0_chk460 (v3694 : BitVec 32) : Prop :=
  (∀ a, (k0_off920 v3694) a + S7x1x512.size a ≤ S7x50x512.size a)
theorem k0_off920_inb : ∀ (v3694 : BitVec 32) (k0_hw460 : k0_chk460 v3694), ∀ a, (k0_off920 v3694) a + S7x1x512.size a ≤ S7x50x512.size a := fun v3694 k0_hw460 => k0_hw460

def k0_off921 (i : grid0.Coords) : Fin 3 → Nat :=
  let c6_4214 : Index := 6#32
  let c5_4215 : Index := 5#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3700 : Index := Scalar.indexCast v3381
  ![6, 5, v3700.toNat]
def k0_off922 (v3701 : BitVec 32) : Fin 3 → Nat :=
  let c0_4220 : Index := 0#32
  let v3704 : Index := Scalar.indexCast v3701
  let c0_4221 : Index := 0#32
  ![0, v3704.toNat, 0]

def k0_chk461 (v3701 : BitVec 32) : Prop :=
  (∀ a, (k0_off922 v3701) a + S7x1x512.size a ≤ S7x50x512.size a)
theorem k0_off922_inb : ∀ (v3701 : BitVec 32) (k0_hw461 : k0_chk461 v3701), ∀ a, (k0_off922 v3701) a + S7x1x512.size a ≤ S7x50x512.size a := fun v3701 k0_hw461 => k0_hw461

def k0_off923 (i : grid0.Coords) : Fin 3 → Nat :=
  let c6_4222 : Index := 6#32
  let c6_4223 : Index := 6#32
  let arg0 : BitVec 32 := BitVec.ofNat 32 (i 0).val
  let c32_i32_3849 : BitVec 32 := 32#32
  let v3380 : BitVec 32 := Scalar.muli arg0 c32_i32_3849
  let c10_i32 : BitVec 32 := 10#32
  let v3381 : BitVec 32 := Scalar.addi v3380 c10_i32
  let v3707 : Index := Scalar.indexCast v3381
  ![6, 6, v3707.toNat]
def k0_off924 (v3708 : BitVec 32) : Fin 3 → Nat :=
  let c0_4228 : Index := 0#32
  let v3711 : Index := Scalar.indexCast v3708
  let c0_4229 : Index := 0#32
  ![0, v3711.toNat, 0]

def k0_chk462 (v3708 : BitVec 32) : Prop :=
  (∀ a, (k0_off924 v3708) a + S7x1x512.size a ≤ S7x50x512.size a)
theorem k0_off924_inb : ∀ (v3708 : BitVec 32) (k0_hw462 : k0_chk462 v3708), ∀ a, (k0_off924 v3708) a + S7x1x512.size a ≤ S7x50x512.size a := fun v3708 k0_hw462 => k0_hw462

def k0_off925 (i : grid0.Coords) : Fin 3 → Nat :=
  let c0_4235 : Index := 0#32
  let c0_4236 : Index := 0#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3720 : Index := Scalar.indexCast v3719
  ![0, 0, v3720.toNat]
def k0_off926 (v3721 : BitVec 32) : Fin 3 → Nat :=
  let v3722 : Index := Scalar.indexCast v3721
  let c0_4237 : Index := 0#32
  let c0_4238 : Index := 0#32
  ![v3722.toNat, 0, 0]

def k0_chk463 (v3721 : BitVec 32) : Prop :=
  (∀ a, (k0_off926 v3721) a + S1x50x512.size a ≤ S250x50x512.size a)
theorem k0_off926_inb : ∀ (v3721 : BitVec 32) (k0_hw463 : k0_chk463 v3721), ∀ a, (k0_off926 v3721) a + S1x50x512.size a ≤ S250x50x512.size a := fun v3721 k0_hw463 => k0_hw463

def k0_off927 (i : grid0.Coords) : Fin 3 → Nat :=
  let c1_4246 : Index := 1#32
  let c0_4247 : Index := 0#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3730 : Index := Scalar.indexCast v3719
  ![1, 0, v3730.toNat]
def k0_off928 (v3731 : BitVec 32) : Fin 3 → Nat :=
  let v3732 : Index := Scalar.indexCast v3731
  let c0_4248 : Index := 0#32
  let c0_4249 : Index := 0#32
  ![v3732.toNat, 0, 0]

def k0_chk464 (v3731 : BitVec 32) : Prop :=
  (∀ a, (k0_off928 v3731) a + S1x50x512.size a ≤ S250x50x512.size a)
theorem k0_off928_inb : ∀ (v3731 : BitVec 32) (k0_hw464 : k0_chk464 v3731), ∀ a, (k0_off928 v3731) a + S1x50x512.size a ≤ S250x50x512.size a := fun v3731 k0_hw464 => k0_hw464

def k0_off929 (i : grid0.Coords) : Fin 3 → Nat :=
  let c2_4257 : Index := 2#32
  let c0_4258 : Index := 0#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3740 : Index := Scalar.indexCast v3719
  ![2, 0, v3740.toNat]
def k0_off930 (v3741 : BitVec 32) : Fin 3 → Nat :=
  let v3742 : Index := Scalar.indexCast v3741
  let c0_4259 : Index := 0#32
  let c0_4260 : Index := 0#32
  ![v3742.toNat, 0, 0]

def k0_chk465 (v3741 : BitVec 32) : Prop :=
  (∀ a, (k0_off930 v3741) a + S1x50x512.size a ≤ S250x50x512.size a)
theorem k0_off930_inb : ∀ (v3741 : BitVec 32) (k0_hw465 : k0_chk465 v3741), ∀ a, (k0_off930 v3741) a + S1x50x512.size a ≤ S250x50x512.size a := fun v3741 k0_hw465 => k0_hw465

def k0_off931 (i : grid0.Coords) : Fin 3 → Nat :=
  let c3_4268 : Index := 3#32
  let c0_4269 : Index := 0#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3750 : Index := Scalar.indexCast v3719
  ![3, 0, v3750.toNat]
def k0_off932 (v3751 : BitVec 32) : Fin 3 → Nat :=
  let v3752 : Index := Scalar.indexCast v3751
  let c0_4270 : Index := 0#32
  let c0_4271 : Index := 0#32
  ![v3752.toNat, 0, 0]

def k0_chk466 (v3751 : BitVec 32) : Prop :=
  (∀ a, (k0_off932 v3751) a + S1x50x512.size a ≤ S250x50x512.size a)
theorem k0_off932_inb : ∀ (v3751 : BitVec 32) (k0_hw466 : k0_chk466 v3751), ∀ a, (k0_off932 v3751) a + S1x50x512.size a ≤ S250x50x512.size a := fun v3751 k0_hw466 => k0_hw466

def k0_off933 (i : grid0.Coords) : Fin 3 → Nat :=
  let c4_4279 : Index := 4#32
  let c0_4280 : Index := 0#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3760 : Index := Scalar.indexCast v3719
  ![4, 0, v3760.toNat]
def k0_off934 (v3761 : BitVec 32) : Fin 3 → Nat :=
  let v3762 : Index := Scalar.indexCast v3761
  let c0_4281 : Index := 0#32
  let c0_4282 : Index := 0#32
  ![v3762.toNat, 0, 0]

def k0_chk467 (v3761 : BitVec 32) : Prop :=
  (∀ a, (k0_off934 v3761) a + S1x50x512.size a ≤ S250x50x512.size a)
theorem k0_off934_inb : ∀ (v3761 : BitVec 32) (k0_hw467 : k0_chk467 v3761), ∀ a, (k0_off934 v3761) a + S1x50x512.size a ≤ S250x50x512.size a := fun v3761 k0_hw467 => k0_hw467

def k0_off935 (i : grid0.Coords) : Fin 3 → Nat :=
  let c5_4290 : Index := 5#32
  let c0_4291 : Index := 0#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3770 : Index := Scalar.indexCast v3719
  ![5, 0, v3770.toNat]
def k0_off936 (v3771 : BitVec 32) : Fin 3 → Nat :=
  let v3772 : Index := Scalar.indexCast v3771
  let c0_4292 : Index := 0#32
  let c0_4293 : Index := 0#32
  ![v3772.toNat, 0, 0]

def k0_chk468 (v3771 : BitVec 32) : Prop :=
  (∀ a, (k0_off936 v3771) a + S1x50x512.size a ≤ S250x50x512.size a)
theorem k0_off936_inb : ∀ (v3771 : BitVec 32) (k0_hw468 : k0_chk468 v3771), ∀ a, (k0_off936 v3771) a + S1x50x512.size a ≤ S250x50x512.size a := fun v3771 k0_hw468 => k0_hw468

def k0_off937 (i : grid0.Coords) : Fin 3 → Nat :=
  let c6_4301 : Index := 6#32
  let c0_4302 : Index := 0#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3780 : Index := Scalar.indexCast v3719
  ![6, 0, v3780.toNat]
def k0_off938 (v3781 : BitVec 32) : Fin 3 → Nat :=
  let v3782 : Index := Scalar.indexCast v3781
  let c0_4303 : Index := 0#32
  let c0_4304 : Index := 0#32
  ![v3782.toNat, 0, 0]

def k0_chk469 (v3781 : BitVec 32) : Prop :=
  (∀ a, (k0_off938 v3781) a + S1x50x512.size a ≤ S250x50x512.size a)
theorem k0_off938_inb : ∀ (v3781 : BitVec 32) (k0_hw469 : k0_chk469 v3781), ∀ a, (k0_off938 v3781) a + S1x50x512.size a ≤ S250x50x512.size a := fun v3781 k0_hw469 => k0_hw469

def k0_off939 (i : grid0.Coords) : Fin 3 → Nat :=
  let c0_4312 : Index := 0#32
  let c2_4313 : Index := 2#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3790 : Index := Scalar.indexCast v3719
  ![0, 2, v3790.toNat]
def k0_off940 (v3791 : BitVec 32) : Fin 3 → Nat :=
  let c0_4318 : Index := 0#32
  let v3794 : Index := Scalar.indexCast v3791
  let c0_4319 : Index := 0#32
  ![0, v3794.toNat, 0]

def k0_chk470 (v3791 : BitVec 32) : Prop :=
  (∀ a, (k0_off940 v3791) a + S7x1x512.size a ≤ S7x50x512.size a)
theorem k0_off940_inb : ∀ (v3791 : BitVec 32) (k0_hw470 : k0_chk470 v3791), ∀ a, (k0_off940 v3791) a + S7x1x512.size a ≤ S7x50x512.size a := fun v3791 k0_hw470 => k0_hw470

def k0_off941 (i : grid0.Coords) : Fin 3 → Nat :=
  let c0_4320 : Index := 0#32
  let c3_4321 : Index := 3#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3796 : Index := Scalar.indexCast v3719
  ![0, 3, v3796.toNat]
def k0_off942 (v3797 : BitVec 32) : Fin 3 → Nat :=
  let c0_4326 : Index := 0#32
  let v3800 : Index := Scalar.indexCast v3797
  let c0_4327 : Index := 0#32
  ![0, v3800.toNat, 0]

def k0_chk471 (v3797 : BitVec 32) : Prop :=
  (∀ a, (k0_off942 v3797) a + S7x1x512.size a ≤ S7x50x512.size a)
theorem k0_off942_inb : ∀ (v3797 : BitVec 32) (k0_hw471 : k0_chk471 v3797), ∀ a, (k0_off942 v3797) a + S7x1x512.size a ≤ S7x50x512.size a := fun v3797 k0_hw471 => k0_hw471

def k0_off943 (i : grid0.Coords) : Fin 3 → Nat :=
  let c0_4328 : Index := 0#32
  let c4_4329 : Index := 4#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3803 : Index := Scalar.indexCast v3719
  ![0, 4, v3803.toNat]
def k0_off944 (v3804 : BitVec 32) : Fin 3 → Nat :=
  let c0_4334 : Index := 0#32
  let v3807 : Index := Scalar.indexCast v3804
  let c0_4335 : Index := 0#32
  ![0, v3807.toNat, 0]

def k0_chk472 (v3804 : BitVec 32) : Prop :=
  (∀ a, (k0_off944 v3804) a + S7x1x512.size a ≤ S7x50x512.size a)
theorem k0_off944_inb : ∀ (v3804 : BitVec 32) (k0_hw472 : k0_chk472 v3804), ∀ a, (k0_off944 v3804) a + S7x1x512.size a ≤ S7x50x512.size a := fun v3804 k0_hw472 => k0_hw472

def k0_off945 (i : grid0.Coords) : Fin 3 → Nat :=
  let c0_4336 : Index := 0#32
  let c5_4337 : Index := 5#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3810 : Index := Scalar.indexCast v3719
  ![0, 5, v3810.toNat]
def k0_off946 (v3811 : BitVec 32) : Fin 3 → Nat :=
  let c0_4342 : Index := 0#32
  let v3814 : Index := Scalar.indexCast v3811
  let c0_4343 : Index := 0#32
  ![0, v3814.toNat, 0]

def k0_chk473 (v3811 : BitVec 32) : Prop :=
  (∀ a, (k0_off946 v3811) a + S7x1x512.size a ≤ S7x50x512.size a)
theorem k0_off946_inb : ∀ (v3811 : BitVec 32) (k0_hw473 : k0_chk473 v3811), ∀ a, (k0_off946 v3811) a + S7x1x512.size a ≤ S7x50x512.size a := fun v3811 k0_hw473 => k0_hw473

def k0_off947 (i : grid0.Coords) : Fin 3 → Nat :=
  let c0_4344 : Index := 0#32
  let c6_4345 : Index := 6#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3817 : Index := Scalar.indexCast v3719
  ![0, 6, v3817.toNat]
def k0_off948 (v3818 : BitVec 32) : Fin 3 → Nat :=
  let c0_4350 : Index := 0#32
  let v3821 : Index := Scalar.indexCast v3818
  let c0_4351 : Index := 0#32
  ![0, v3821.toNat, 0]

def k0_chk474 (v3818 : BitVec 32) : Prop :=
  (∀ a, (k0_off948 v3818) a + S7x1x512.size a ≤ S7x50x512.size a)
theorem k0_off948_inb : ∀ (v3818 : BitVec 32) (k0_hw474 : k0_chk474 v3818), ∀ a, (k0_off948 v3818) a + S7x1x512.size a ≤ S7x50x512.size a := fun v3818 k0_hw474 => k0_hw474

def k0_off949 (i : grid0.Coords) : Fin 3 → Nat :=
  let c1_4355 : Index := 1#32
  let c2_4356 : Index := 2#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3828 : Index := Scalar.indexCast v3719
  ![1, 2, v3828.toNat]
def k0_off950 (v3829 : BitVec 32) : Fin 3 → Nat :=
  let c0_4361 : Index := 0#32
  let v3832 : Index := Scalar.indexCast v3829
  let c0_4362 : Index := 0#32
  ![0, v3832.toNat, 0]

def k0_chk475 (v3829 : BitVec 32) : Prop :=
  (∀ a, (k0_off950 v3829) a + S7x1x512.size a ≤ S7x50x512.size a)
theorem k0_off950_inb : ∀ (v3829 : BitVec 32) (k0_hw475 : k0_chk475 v3829), ∀ a, (k0_off950 v3829) a + S7x1x512.size a ≤ S7x50x512.size a := fun v3829 k0_hw475 => k0_hw475

def k0_off951 (i : grid0.Coords) : Fin 3 → Nat :=
  let c1_4363 : Index := 1#32
  let c3_4364 : Index := 3#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3834 : Index := Scalar.indexCast v3719
  ![1, 3, v3834.toNat]
def k0_off952 (v3835 : BitVec 32) : Fin 3 → Nat :=
  let c0_4369 : Index := 0#32
  let v3838 : Index := Scalar.indexCast v3835
  let c0_4370 : Index := 0#32
  ![0, v3838.toNat, 0]

def k0_chk476 (v3835 : BitVec 32) : Prop :=
  (∀ a, (k0_off952 v3835) a + S7x1x512.size a ≤ S7x50x512.size a)
theorem k0_off952_inb : ∀ (v3835 : BitVec 32) (k0_hw476 : k0_chk476 v3835), ∀ a, (k0_off952 v3835) a + S7x1x512.size a ≤ S7x50x512.size a := fun v3835 k0_hw476 => k0_hw476

def k0_off953 (i : grid0.Coords) : Fin 3 → Nat :=
  let c1_4371 : Index := 1#32
  let c4_4372 : Index := 4#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3841 : Index := Scalar.indexCast v3719
  ![1, 4, v3841.toNat]
def k0_off954 (v3842 : BitVec 32) : Fin 3 → Nat :=
  let c0_4377 : Index := 0#32
  let v3845 : Index := Scalar.indexCast v3842
  let c0_4378 : Index := 0#32
  ![0, v3845.toNat, 0]

def k0_chk477 (v3842 : BitVec 32) : Prop :=
  (∀ a, (k0_off954 v3842) a + S7x1x512.size a ≤ S7x50x512.size a)
theorem k0_off954_inb : ∀ (v3842 : BitVec 32) (k0_hw477 : k0_chk477 v3842), ∀ a, (k0_off954 v3842) a + S7x1x512.size a ≤ S7x50x512.size a := fun v3842 k0_hw477 => k0_hw477

def k0_off955 (i : grid0.Coords) : Fin 3 → Nat :=
  let c1_4379 : Index := 1#32
  let c5_4380 : Index := 5#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3848 : Index := Scalar.indexCast v3719
  ![1, 5, v3848.toNat]
def k0_off956 (v3849 : BitVec 32) : Fin 3 → Nat :=
  let c0_4385 : Index := 0#32
  let v3852 : Index := Scalar.indexCast v3849
  let c0_4386 : Index := 0#32
  ![0, v3852.toNat, 0]

def k0_chk478 (v3849 : BitVec 32) : Prop :=
  (∀ a, (k0_off956 v3849) a + S7x1x512.size a ≤ S7x50x512.size a)
theorem k0_off956_inb : ∀ (v3849 : BitVec 32) (k0_hw478 : k0_chk478 v3849), ∀ a, (k0_off956 v3849) a + S7x1x512.size a ≤ S7x50x512.size a := fun v3849 k0_hw478 => k0_hw478

def k0_off957 (i : grid0.Coords) : Fin 3 → Nat :=
  let c1_4387 : Index := 1#32
  let c6_4388 : Index := 6#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3855 : Index := Scalar.indexCast v3719
  ![1, 6, v3855.toNat]
def k0_off958 (v3856 : BitVec 32) : Fin 3 → Nat :=
  let c0_4393 : Index := 0#32
  let v3859 : Index := Scalar.indexCast v3856
  let c0_4394 : Index := 0#32
  ![0, v3859.toNat, 0]

def k0_chk479 (v3856 : BitVec 32) : Prop :=
  (∀ a, (k0_off958 v3856) a + S7x1x512.size a ≤ S7x50x512.size a)
theorem k0_off958_inb : ∀ (v3856 : BitVec 32) (k0_hw479 : k0_chk479 v3856), ∀ a, (k0_off958 v3856) a + S7x1x512.size a ≤ S7x50x512.size a := fun v3856 k0_hw479 => k0_hw479

def k0_off959 (i : grid0.Coords) : Fin 3 → Nat :=
  let c2_4399 : Index := 2#32
  let c2_4400 : Index := 2#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3866 : Index := Scalar.indexCast v3719
  ![2, 2, v3866.toNat]
def k0_off960 (v3867 : BitVec 32) : Fin 3 → Nat :=
  let c0_4405 : Index := 0#32
  let v3870 : Index := Scalar.indexCast v3867
  let c0_4406 : Index := 0#32
  ![0, v3870.toNat, 0]

def k0_chk480 (v3867 : BitVec 32) : Prop :=
  (∀ a, (k0_off960 v3867) a + S7x1x512.size a ≤ S7x50x512.size a)
theorem k0_off960_inb : ∀ (v3867 : BitVec 32) (k0_hw480 : k0_chk480 v3867), ∀ a, (k0_off960 v3867) a + S7x1x512.size a ≤ S7x50x512.size a := fun v3867 k0_hw480 => k0_hw480

def k0_off961 (i : grid0.Coords) : Fin 3 → Nat :=
  let c2_4407 : Index := 2#32
  let c3_4408 : Index := 3#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3872 : Index := Scalar.indexCast v3719
  ![2, 3, v3872.toNat]
def k0_off962 (v3873 : BitVec 32) : Fin 3 → Nat :=
  let c0_4413 : Index := 0#32
  let v3876 : Index := Scalar.indexCast v3873
  let c0_4414 : Index := 0#32
  ![0, v3876.toNat, 0]

def k0_chk481 (v3873 : BitVec 32) : Prop :=
  (∀ a, (k0_off962 v3873) a + S7x1x512.size a ≤ S7x50x512.size a)
theorem k0_off962_inb : ∀ (v3873 : BitVec 32) (k0_hw481 : k0_chk481 v3873), ∀ a, (k0_off962 v3873) a + S7x1x512.size a ≤ S7x50x512.size a := fun v3873 k0_hw481 => k0_hw481

def k0_off963 (i : grid0.Coords) : Fin 3 → Nat :=
  let c2_4415 : Index := 2#32
  let c4_4416 : Index := 4#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3879 : Index := Scalar.indexCast v3719
  ![2, 4, v3879.toNat]
def k0_off964 (v3880 : BitVec 32) : Fin 3 → Nat :=
  let c0_4421 : Index := 0#32
  let v3883 : Index := Scalar.indexCast v3880
  let c0_4422 : Index := 0#32
  ![0, v3883.toNat, 0]

def k0_chk482 (v3880 : BitVec 32) : Prop :=
  (∀ a, (k0_off964 v3880) a + S7x1x512.size a ≤ S7x50x512.size a)
theorem k0_off964_inb : ∀ (v3880 : BitVec 32) (k0_hw482 : k0_chk482 v3880), ∀ a, (k0_off964 v3880) a + S7x1x512.size a ≤ S7x50x512.size a := fun v3880 k0_hw482 => k0_hw482

def k0_off965 (i : grid0.Coords) : Fin 3 → Nat :=
  let c2_4423 : Index := 2#32
  let c5_4424 : Index := 5#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3886 : Index := Scalar.indexCast v3719
  ![2, 5, v3886.toNat]
def k0_off966 (v3887 : BitVec 32) : Fin 3 → Nat :=
  let c0_4429 : Index := 0#32
  let v3890 : Index := Scalar.indexCast v3887
  let c0_4430 : Index := 0#32
  ![0, v3890.toNat, 0]

def k0_chk483 (v3887 : BitVec 32) : Prop :=
  (∀ a, (k0_off966 v3887) a + S7x1x512.size a ≤ S7x50x512.size a)
theorem k0_off966_inb : ∀ (v3887 : BitVec 32) (k0_hw483 : k0_chk483 v3887), ∀ a, (k0_off966 v3887) a + S7x1x512.size a ≤ S7x50x512.size a := fun v3887 k0_hw483 => k0_hw483

def k0_off967 (i : grid0.Coords) : Fin 3 → Nat :=
  let c2_4431 : Index := 2#32
  let c6_4432 : Index := 6#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3893 : Index := Scalar.indexCast v3719
  ![2, 6, v3893.toNat]
def k0_off968 (v3894 : BitVec 32) : Fin 3 → Nat :=
  let c0_4437 : Index := 0#32
  let v3897 : Index := Scalar.indexCast v3894
  let c0_4438 : Index := 0#32
  ![0, v3897.toNat, 0]

def k0_chk484 (v3894 : BitVec 32) : Prop :=
  (∀ a, (k0_off968 v3894) a + S7x1x512.size a ≤ S7x50x512.size a)
theorem k0_off968_inb : ∀ (v3894 : BitVec 32) (k0_hw484 : k0_chk484 v3894), ∀ a, (k0_off968 v3894) a + S7x1x512.size a ≤ S7x50x512.size a := fun v3894 k0_hw484 => k0_hw484

def k0_off969 (i : grid0.Coords) : Fin 3 → Nat :=
  let c3_4443 : Index := 3#32
  let c2_4444 : Index := 2#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3904 : Index := Scalar.indexCast v3719
  ![3, 2, v3904.toNat]
def k0_off970 (v3905 : BitVec 32) : Fin 3 → Nat :=
  let c0_4449 : Index := 0#32
  let v3908 : Index := Scalar.indexCast v3905
  let c0_4450 : Index := 0#32
  ![0, v3908.toNat, 0]

def k0_chk485 (v3905 : BitVec 32) : Prop :=
  (∀ a, (k0_off970 v3905) a + S7x1x512.size a ≤ S7x50x512.size a)
theorem k0_off970_inb : ∀ (v3905 : BitVec 32) (k0_hw485 : k0_chk485 v3905), ∀ a, (k0_off970 v3905) a + S7x1x512.size a ≤ S7x50x512.size a := fun v3905 k0_hw485 => k0_hw485

def k0_off971 (i : grid0.Coords) : Fin 3 → Nat :=
  let c3_4451 : Index := 3#32
  let c3_4452 : Index := 3#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3910 : Index := Scalar.indexCast v3719
  ![3, 3, v3910.toNat]
def k0_off972 (v3911 : BitVec 32) : Fin 3 → Nat :=
  let c0_4457 : Index := 0#32
  let v3914 : Index := Scalar.indexCast v3911
  let c0_4458 : Index := 0#32
  ![0, v3914.toNat, 0]

def k0_chk486 (v3911 : BitVec 32) : Prop :=
  (∀ a, (k0_off972 v3911) a + S7x1x512.size a ≤ S7x50x512.size a)
theorem k0_off972_inb : ∀ (v3911 : BitVec 32) (k0_hw486 : k0_chk486 v3911), ∀ a, (k0_off972 v3911) a + S7x1x512.size a ≤ S7x50x512.size a := fun v3911 k0_hw486 => k0_hw486

def k0_off973 (i : grid0.Coords) : Fin 3 → Nat :=
  let c3_4459 : Index := 3#32
  let c4_4460 : Index := 4#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3917 : Index := Scalar.indexCast v3719
  ![3, 4, v3917.toNat]
def k0_off974 (v3918 : BitVec 32) : Fin 3 → Nat :=
  let c0_4465 : Index := 0#32
  let v3921 : Index := Scalar.indexCast v3918
  let c0_4466 : Index := 0#32
  ![0, v3921.toNat, 0]

def k0_chk487 (v3918 : BitVec 32) : Prop :=
  (∀ a, (k0_off974 v3918) a + S7x1x512.size a ≤ S7x50x512.size a)
theorem k0_off974_inb : ∀ (v3918 : BitVec 32) (k0_hw487 : k0_chk487 v3918), ∀ a, (k0_off974 v3918) a + S7x1x512.size a ≤ S7x50x512.size a := fun v3918 k0_hw487 => k0_hw487

def k0_off975 (i : grid0.Coords) : Fin 3 → Nat :=
  let c3_4467 : Index := 3#32
  let c5_4468 : Index := 5#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3924 : Index := Scalar.indexCast v3719
  ![3, 5, v3924.toNat]
def k0_off976 (v3925 : BitVec 32) : Fin 3 → Nat :=
  let c0_4473 : Index := 0#32
  let v3928 : Index := Scalar.indexCast v3925
  let c0_4474 : Index := 0#32
  ![0, v3928.toNat, 0]

def k0_chk488 (v3925 : BitVec 32) : Prop :=
  (∀ a, (k0_off976 v3925) a + S7x1x512.size a ≤ S7x50x512.size a)
theorem k0_off976_inb : ∀ (v3925 : BitVec 32) (k0_hw488 : k0_chk488 v3925), ∀ a, (k0_off976 v3925) a + S7x1x512.size a ≤ S7x50x512.size a := fun v3925 k0_hw488 => k0_hw488

def k0_off977 (i : grid0.Coords) : Fin 3 → Nat :=
  let c3_4475 : Index := 3#32
  let c6_4476 : Index := 6#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3931 : Index := Scalar.indexCast v3719
  ![3, 6, v3931.toNat]
def k0_off978 (v3932 : BitVec 32) : Fin 3 → Nat :=
  let c0_4481 : Index := 0#32
  let v3935 : Index := Scalar.indexCast v3932
  let c0_4482 : Index := 0#32
  ![0, v3935.toNat, 0]

def k0_chk489 (v3932 : BitVec 32) : Prop :=
  (∀ a, (k0_off978 v3932) a + S7x1x512.size a ≤ S7x50x512.size a)
theorem k0_off978_inb : ∀ (v3932 : BitVec 32) (k0_hw489 : k0_chk489 v3932), ∀ a, (k0_off978 v3932) a + S7x1x512.size a ≤ S7x50x512.size a := fun v3932 k0_hw489 => k0_hw489

def k0_off979 (i : grid0.Coords) : Fin 3 → Nat :=
  let c4_4487 : Index := 4#32
  let c2_4488 : Index := 2#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3942 : Index := Scalar.indexCast v3719
  ![4, 2, v3942.toNat]
def k0_off980 (v3943 : BitVec 32) : Fin 3 → Nat :=
  let c0_4493 : Index := 0#32
  let v3946 : Index := Scalar.indexCast v3943
  let c0_4494 : Index := 0#32
  ![0, v3946.toNat, 0]

def k0_chk490 (v3943 : BitVec 32) : Prop :=
  (∀ a, (k0_off980 v3943) a + S7x1x512.size a ≤ S7x50x512.size a)
theorem k0_off980_inb : ∀ (v3943 : BitVec 32) (k0_hw490 : k0_chk490 v3943), ∀ a, (k0_off980 v3943) a + S7x1x512.size a ≤ S7x50x512.size a := fun v3943 k0_hw490 => k0_hw490

def k0_off981 (i : grid0.Coords) : Fin 3 → Nat :=
  let c4_4495 : Index := 4#32
  let c3_4496 : Index := 3#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3948 : Index := Scalar.indexCast v3719
  ![4, 3, v3948.toNat]
def k0_off982 (v3949 : BitVec 32) : Fin 3 → Nat :=
  let c0_4501 : Index := 0#32
  let v3952 : Index := Scalar.indexCast v3949
  let c0_4502 : Index := 0#32
  ![0, v3952.toNat, 0]

def k0_chk491 (v3949 : BitVec 32) : Prop :=
  (∀ a, (k0_off982 v3949) a + S7x1x512.size a ≤ S7x50x512.size a)
theorem k0_off982_inb : ∀ (v3949 : BitVec 32) (k0_hw491 : k0_chk491 v3949), ∀ a, (k0_off982 v3949) a + S7x1x512.size a ≤ S7x50x512.size a := fun v3949 k0_hw491 => k0_hw491

def k0_off983 (i : grid0.Coords) : Fin 3 → Nat :=
  let c4_4503 : Index := 4#32
  let c4_4504 : Index := 4#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3955 : Index := Scalar.indexCast v3719
  ![4, 4, v3955.toNat]
def k0_off984 (v3956 : BitVec 32) : Fin 3 → Nat :=
  let c0_4509 : Index := 0#32
  let v3959 : Index := Scalar.indexCast v3956
  let c0_4510 : Index := 0#32
  ![0, v3959.toNat, 0]

def k0_chk492 (v3956 : BitVec 32) : Prop :=
  (∀ a, (k0_off984 v3956) a + S7x1x512.size a ≤ S7x50x512.size a)
theorem k0_off984_inb : ∀ (v3956 : BitVec 32) (k0_hw492 : k0_chk492 v3956), ∀ a, (k0_off984 v3956) a + S7x1x512.size a ≤ S7x50x512.size a := fun v3956 k0_hw492 => k0_hw492

def k0_off985 (i : grid0.Coords) : Fin 3 → Nat :=
  let c4_4511 : Index := 4#32
  let c5_4512 : Index := 5#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3962 : Index := Scalar.indexCast v3719
  ![4, 5, v3962.toNat]
def k0_off986 (v3963 : BitVec 32) : Fin 3 → Nat :=
  let c0_4517 : Index := 0#32
  let v3966 : Index := Scalar.indexCast v3963
  let c0_4518 : Index := 0#32
  ![0, v3966.toNat, 0]

def k0_chk493 (v3963 : BitVec 32) : Prop :=
  (∀ a, (k0_off986 v3963) a + S7x1x512.size a ≤ S7x50x512.size a)
theorem k0_off986_inb : ∀ (v3963 : BitVec 32) (k0_hw493 : k0_chk493 v3963), ∀ a, (k0_off986 v3963) a + S7x1x512.size a ≤ S7x50x512.size a := fun v3963 k0_hw493 => k0_hw493

def k0_off987 (i : grid0.Coords) : Fin 3 → Nat :=
  let c4_4519 : Index := 4#32
  let c6_4520 : Index := 6#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3969 : Index := Scalar.indexCast v3719
  ![4, 6, v3969.toNat]
def k0_off988 (v3970 : BitVec 32) : Fin 3 → Nat :=
  let c0_4525 : Index := 0#32
  let v3973 : Index := Scalar.indexCast v3970
  let c0_4526 : Index := 0#32
  ![0, v3973.toNat, 0]

def k0_chk494 (v3970 : BitVec 32) : Prop :=
  (∀ a, (k0_off988 v3970) a + S7x1x512.size a ≤ S7x50x512.size a)
theorem k0_off988_inb : ∀ (v3970 : BitVec 32) (k0_hw494 : k0_chk494 v3970), ∀ a, (k0_off988 v3970) a + S7x1x512.size a ≤ S7x50x512.size a := fun v3970 k0_hw494 => k0_hw494

def k0_off989 (i : grid0.Coords) : Fin 3 → Nat :=
  let c5_4531 : Index := 5#32
  let c2_4532 : Index := 2#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3980 : Index := Scalar.indexCast v3719
  ![5, 2, v3980.toNat]
def k0_off990 (v3981 : BitVec 32) : Fin 3 → Nat :=
  let c0_4537 : Index := 0#32
  let v3984 : Index := Scalar.indexCast v3981
  let c0_4538 : Index := 0#32
  ![0, v3984.toNat, 0]

def k0_chk495 (v3981 : BitVec 32) : Prop :=
  (∀ a, (k0_off990 v3981) a + S7x1x512.size a ≤ S7x50x512.size a)
theorem k0_off990_inb : ∀ (v3981 : BitVec 32) (k0_hw495 : k0_chk495 v3981), ∀ a, (k0_off990 v3981) a + S7x1x512.size a ≤ S7x50x512.size a := fun v3981 k0_hw495 => k0_hw495

def k0_off991 (i : grid0.Coords) : Fin 3 → Nat :=
  let c5_4539 : Index := 5#32
  let c3_4540 : Index := 3#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3986 : Index := Scalar.indexCast v3719
  ![5, 3, v3986.toNat]
def k0_off992 (v3987 : BitVec 32) : Fin 3 → Nat :=
  let c0_4545 : Index := 0#32
  let v3990 : Index := Scalar.indexCast v3987
  let c0_4546 : Index := 0#32
  ![0, v3990.toNat, 0]

def k0_chk496 (v3987 : BitVec 32) : Prop :=
  (∀ a, (k0_off992 v3987) a + S7x1x512.size a ≤ S7x50x512.size a)
theorem k0_off992_inb : ∀ (v3987 : BitVec 32) (k0_hw496 : k0_chk496 v3987), ∀ a, (k0_off992 v3987) a + S7x1x512.size a ≤ S7x50x512.size a := fun v3987 k0_hw496 => k0_hw496

def k0_off993 (i : grid0.Coords) : Fin 3 → Nat :=
  let c5_4547 : Index := 5#32
  let c4_4548 : Index := 4#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v3993 : Index := Scalar.indexCast v3719
  ![5, 4, v3993.toNat]
def k0_off994 (v3994 : BitVec 32) : Fin 3 → Nat :=
  let c0_4553 : Index := 0#32
  let v3997 : Index := Scalar.indexCast v3994
  let c0_4554 : Index := 0#32
  ![0, v3997.toNat, 0]

def k0_chk497 (v3994 : BitVec 32) : Prop :=
  (∀ a, (k0_off994 v3994) a + S7x1x512.size a ≤ S7x50x512.size a)
theorem k0_off994_inb : ∀ (v3994 : BitVec 32) (k0_hw497 : k0_chk497 v3994), ∀ a, (k0_off994 v3994) a + S7x1x512.size a ≤ S7x50x512.size a := fun v3994 k0_hw497 => k0_hw497

def k0_off995 (i : grid0.Coords) : Fin 3 → Nat :=
  let c5_4555 : Index := 5#32
  let c5_4556 : Index := 5#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v4000 : Index := Scalar.indexCast v3719
  ![5, 5, v4000.toNat]
def k0_off996 (v4001 : BitVec 32) : Fin 3 → Nat :=
  let c0_4561 : Index := 0#32
  let v4004 : Index := Scalar.indexCast v4001
  let c0_4562 : Index := 0#32
  ![0, v4004.toNat, 0]

def k0_chk498 (v4001 : BitVec 32) : Prop :=
  (∀ a, (k0_off996 v4001) a + S7x1x512.size a ≤ S7x50x512.size a)
theorem k0_off996_inb : ∀ (v4001 : BitVec 32) (k0_hw498 : k0_chk498 v4001), ∀ a, (k0_off996 v4001) a + S7x1x512.size a ≤ S7x50x512.size a := fun v4001 k0_hw498 => k0_hw498

def k0_off997 (i : grid0.Coords) : Fin 3 → Nat :=
  let c5_4563 : Index := 5#32
  let c6_4564 : Index := 6#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v4007 : Index := Scalar.indexCast v3719
  ![5, 6, v4007.toNat]
def k0_off998 (v4008 : BitVec 32) : Fin 3 → Nat :=
  let c0_4569 : Index := 0#32
  let v4011 : Index := Scalar.indexCast v4008
  let c0_4570 : Index := 0#32
  ![0, v4011.toNat, 0]

def k0_chk499 (v4008 : BitVec 32) : Prop :=
  (∀ a, (k0_off998 v4008) a + S7x1x512.size a ≤ S7x50x512.size a)
theorem k0_off998_inb : ∀ (v4008 : BitVec 32) (k0_hw499 : k0_chk499 v4008), ∀ a, (k0_off998 v4008) a + S7x1x512.size a ≤ S7x50x512.size a := fun v4008 k0_hw499 => k0_hw499

def k0_off999 (i : grid0.Coords) : Fin 3 → Nat :=
  let c6_4575 : Index := 6#32
  let c2_4576 : Index := 2#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v4018 : Index := Scalar.indexCast v3719
  ![6, 2, v4018.toNat]
def k0_off1000 (v4019 : BitVec 32) : Fin 3 → Nat :=
  let c0_4581 : Index := 0#32
  let v4022 : Index := Scalar.indexCast v4019
  let c0_4582 : Index := 0#32
  ![0, v4022.toNat, 0]

def k0_chk500 (v4019 : BitVec 32) : Prop :=
  (∀ a, (k0_off1000 v4019) a + S7x1x512.size a ≤ S7x50x512.size a)
theorem k0_off1000_inb : ∀ (v4019 : BitVec 32) (k0_hw500 : k0_chk500 v4019), ∀ a, (k0_off1000 v4019) a + S7x1x512.size a ≤ S7x50x512.size a := fun v4019 k0_hw500 => k0_hw500

def k0_off1001 (i : grid0.Coords) : Fin 3 → Nat :=
  let c6_4583 : Index := 6#32
  let c3_4584 : Index := 3#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v4024 : Index := Scalar.indexCast v3719
  ![6, 3, v4024.toNat]
def k0_off1002 (v4025 : BitVec 32) : Fin 3 → Nat :=
  let c0_4589 : Index := 0#32
  let v4028 : Index := Scalar.indexCast v4025
  let c0_4590 : Index := 0#32
  ![0, v4028.toNat, 0]

def k0_chk501 (v4025 : BitVec 32) : Prop :=
  (∀ a, (k0_off1002 v4025) a + S7x1x512.size a ≤ S7x50x512.size a)
theorem k0_off1002_inb : ∀ (v4025 : BitVec 32) (k0_hw501 : k0_chk501 v4025), ∀ a, (k0_off1002 v4025) a + S7x1x512.size a ≤ S7x50x512.size a := fun v4025 k0_hw501 => k0_hw501

def k0_off1003 (i : grid0.Coords) : Fin 3 → Nat :=
  let c6_4591 : Index := 6#32
  let c4_4592 : Index := 4#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v4031 : Index := Scalar.indexCast v3719
  ![6, 4, v4031.toNat]
def k0_off1004 (v4032 : BitVec 32) : Fin 3 → Nat :=
  let c0_4597 : Index := 0#32
  let v4035 : Index := Scalar.indexCast v4032
  let c0_4598 : Index := 0#32
  ![0, v4035.toNat, 0]

def k0_chk502 (v4032 : BitVec 32) : Prop :=
  (∀ a, (k0_off1004 v4032) a + S7x1x512.size a ≤ S7x50x512.size a)
theorem k0_off1004_inb : ∀ (v4032 : BitVec 32) (k0_hw502 : k0_chk502 v4032), ∀ a, (k0_off1004 v4032) a + S7x1x512.size a ≤ S7x50x512.size a := fun v4032 k0_hw502 => k0_hw502

def k0_off1005 (i : grid0.Coords) : Fin 3 → Nat :=
  let c6_4599 : Index := 6#32
  let c5_4600 : Index := 5#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v4038 : Index := Scalar.indexCast v3719
  ![6, 5, v4038.toNat]
def k0_off1006 (v4039 : BitVec 32) : Fin 3 → Nat :=
  let c0_4605 : Index := 0#32
  let v4042 : Index := Scalar.indexCast v4039
  let c0_4606 : Index := 0#32
  ![0, v4042.toNat, 0]

def k0_chk503 (v4039 : BitVec 32) : Prop :=
  (∀ a, (k0_off1006 v4039) a + S7x1x512.size a ≤ S7x50x512.size a)
theorem k0_off1006_inb : ∀ (v4039 : BitVec 32) (k0_hw503 : k0_chk503 v4039), ∀ a, (k0_off1006 v4039) a + S7x1x512.size a ≤ S7x50x512.size a := fun v4039 k0_hw503 => k0_hw503

def k0_off1007 (i : grid0.Coords) : Fin 3 → Nat :=
  let c6_4607 : Index := 6#32
  let c6_4608 : Index := 6#32
  let arg0 : BitVec 32 := BitVec.ofNat 32 (i 0).val
  let c32_i32_4234 : BitVec 32 := 32#32
  let v3718 : BitVec 32 := Scalar.muli arg0 c32_i32_4234
  let c11_i32 : BitVec 32 := 11#32
  let v3719 : BitVec 32 := Scalar.addi v3718 c11_i32
  let v4045 : Index := Scalar.indexCast v3719
  ![6, 6, v4045.toNat]
def k0_off1008 (v4046 : BitVec 32) : Fin 3 → Nat :=
  let c0_4613 : Index := 0#32
  let v4049 : Index := Scalar.indexCast v4046
  let c0_4614 : Index := 0#32
  ![0, v4049.toNat, 0]

def k0_chk504 (v4046 : BitVec 32) : Prop :=
  (∀ a, (k0_off1008 v4046) a + S7x1x512.size a ≤ S7x50x512.size a)
theorem k0_off1008_inb : ∀ (v4046 : BitVec 32) (k0_hw504 : k0_chk504 v4046), ∀ a, (k0_off1008 v4046) a + S7x1x512.size a ≤ S7x50x512.size a := fun v4046 k0_hw504 => k0_hw504

def k0_off1009 (i : grid0.Coords) : Fin 3 → Nat :=
  let c0_4620 : Index := 0#32
  let c0_4621 : Index := 0#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4058 : Index := Scalar.indexCast v4057
  ![0, 0, v4058.toNat]
def k0_off1010 (v4059 : BitVec 32) : Fin 3 → Nat :=
  let v4060 : Index := Scalar.indexCast v4059
  let c0_4622 : Index := 0#32
  let c0_4623 : Index := 0#32
  ![v4060.toNat, 0, 0]

def k0_chk505 (v4059 : BitVec 32) : Prop :=
  (∀ a, (k0_off1010 v4059) a + S1x50x512.size a ≤ S250x50x512.size a)
theorem k0_off1010_inb : ∀ (v4059 : BitVec 32) (k0_hw505 : k0_chk505 v4059), ∀ a, (k0_off1010 v4059) a + S1x50x512.size a ≤ S250x50x512.size a := fun v4059 k0_hw505 => k0_hw505

def k0_off1011 (i : grid0.Coords) : Fin 3 → Nat :=
  let c1_4631 : Index := 1#32
  let c0_4632 : Index := 0#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4068 : Index := Scalar.indexCast v4057
  ![1, 0, v4068.toNat]
def k0_off1012 (v4069 : BitVec 32) : Fin 3 → Nat :=
  let v4070 : Index := Scalar.indexCast v4069
  let c0_4633 : Index := 0#32
  let c0_4634 : Index := 0#32
  ![v4070.toNat, 0, 0]

def k0_chk506 (v4069 : BitVec 32) : Prop :=
  (∀ a, (k0_off1012 v4069) a + S1x50x512.size a ≤ S250x50x512.size a)
theorem k0_off1012_inb : ∀ (v4069 : BitVec 32) (k0_hw506 : k0_chk506 v4069), ∀ a, (k0_off1012 v4069) a + S1x50x512.size a ≤ S250x50x512.size a := fun v4069 k0_hw506 => k0_hw506

def k0_off1013 (i : grid0.Coords) : Fin 3 → Nat :=
  let c2_4642 : Index := 2#32
  let c0_4643 : Index := 0#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4078 : Index := Scalar.indexCast v4057
  ![2, 0, v4078.toNat]
def k0_off1014 (v4079 : BitVec 32) : Fin 3 → Nat :=
  let v4080 : Index := Scalar.indexCast v4079
  let c0_4644 : Index := 0#32
  let c0_4645 : Index := 0#32
  ![v4080.toNat, 0, 0]

def k0_chk507 (v4079 : BitVec 32) : Prop :=
  (∀ a, (k0_off1014 v4079) a + S1x50x512.size a ≤ S250x50x512.size a)
theorem k0_off1014_inb : ∀ (v4079 : BitVec 32) (k0_hw507 : k0_chk507 v4079), ∀ a, (k0_off1014 v4079) a + S1x50x512.size a ≤ S250x50x512.size a := fun v4079 k0_hw507 => k0_hw507

def k0_off1015 (i : grid0.Coords) : Fin 3 → Nat :=
  let c3_4653 : Index := 3#32
  let c0_4654 : Index := 0#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4088 : Index := Scalar.indexCast v4057
  ![3, 0, v4088.toNat]
def k0_off1016 (v4089 : BitVec 32) : Fin 3 → Nat :=
  let v4090 : Index := Scalar.indexCast v4089
  let c0_4655 : Index := 0#32
  let c0_4656 : Index := 0#32
  ![v4090.toNat, 0, 0]

def k0_chk508 (v4089 : BitVec 32) : Prop :=
  (∀ a, (k0_off1016 v4089) a + S1x50x512.size a ≤ S250x50x512.size a)
theorem k0_off1016_inb : ∀ (v4089 : BitVec 32) (k0_hw508 : k0_chk508 v4089), ∀ a, (k0_off1016 v4089) a + S1x50x512.size a ≤ S250x50x512.size a := fun v4089 k0_hw508 => k0_hw508

def k0_off1017 (i : grid0.Coords) : Fin 3 → Nat :=
  let c4_4664 : Index := 4#32
  let c0_4665 : Index := 0#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4098 : Index := Scalar.indexCast v4057
  ![4, 0, v4098.toNat]
def k0_off1018 (v4099 : BitVec 32) : Fin 3 → Nat :=
  let v4100 : Index := Scalar.indexCast v4099
  let c0_4666 : Index := 0#32
  let c0_4667 : Index := 0#32
  ![v4100.toNat, 0, 0]

def k0_chk509 (v4099 : BitVec 32) : Prop :=
  (∀ a, (k0_off1018 v4099) a + S1x50x512.size a ≤ S250x50x512.size a)
theorem k0_off1018_inb : ∀ (v4099 : BitVec 32) (k0_hw509 : k0_chk509 v4099), ∀ a, (k0_off1018 v4099) a + S1x50x512.size a ≤ S250x50x512.size a := fun v4099 k0_hw509 => k0_hw509

def k0_off1019 (i : grid0.Coords) : Fin 3 → Nat :=
  let c5_4675 : Index := 5#32
  let c0_4676 : Index := 0#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4108 : Index := Scalar.indexCast v4057
  ![5, 0, v4108.toNat]
def k0_off1020 (v4109 : BitVec 32) : Fin 3 → Nat :=
  let v4110 : Index := Scalar.indexCast v4109
  let c0_4677 : Index := 0#32
  let c0_4678 : Index := 0#32
  ![v4110.toNat, 0, 0]

def k0_chk510 (v4109 : BitVec 32) : Prop :=
  (∀ a, (k0_off1020 v4109) a + S1x50x512.size a ≤ S250x50x512.size a)
theorem k0_off1020_inb : ∀ (v4109 : BitVec 32) (k0_hw510 : k0_chk510 v4109), ∀ a, (k0_off1020 v4109) a + S1x50x512.size a ≤ S250x50x512.size a := fun v4109 k0_hw510 => k0_hw510

def k0_off1021 (i : grid0.Coords) : Fin 3 → Nat :=
  let c6_4686 : Index := 6#32
  let c0_4687 : Index := 0#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4118 : Index := Scalar.indexCast v4057
  ![6, 0, v4118.toNat]
def k0_off1022 (v4119 : BitVec 32) : Fin 3 → Nat :=
  let v4120 : Index := Scalar.indexCast v4119
  let c0_4688 : Index := 0#32
  let c0_4689 : Index := 0#32
  ![v4120.toNat, 0, 0]

def k0_chk511 (v4119 : BitVec 32) : Prop :=
  (∀ a, (k0_off1022 v4119) a + S1x50x512.size a ≤ S250x50x512.size a)
theorem k0_off1022_inb : ∀ (v4119 : BitVec 32) (k0_hw511 : k0_chk511 v4119), ∀ a, (k0_off1022 v4119) a + S1x50x512.size a ≤ S250x50x512.size a := fun v4119 k0_hw511 => k0_hw511

def k0_off1023 (i : grid0.Coords) : Fin 3 → Nat :=
  let c0_4697 : Index := 0#32
  let c2_4698 : Index := 2#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4128 : Index := Scalar.indexCast v4057
  ![0, 2, v4128.toNat]
def k0_off1024 (v4129 : BitVec 32) : Fin 3 → Nat :=
  let c0_4703 : Index := 0#32
  let v4132 : Index := Scalar.indexCast v4129
  let c0_4704 : Index := 0#32
  ![0, v4132.toNat, 0]

def k0_chk512 (v4129 : BitVec 32) : Prop :=
  (∀ a, (k0_off1024 v4129) a + S7x1x512.size a ≤ S7x50x512.size a)
theorem k0_off1024_inb : ∀ (v4129 : BitVec 32) (k0_hw512 : k0_chk512 v4129), ∀ a, (k0_off1024 v4129) a + S7x1x512.size a ≤ S7x50x512.size a := fun v4129 k0_hw512 => k0_hw512

def k0_off1025 (i : grid0.Coords) : Fin 3 → Nat :=
  let c0_4705 : Index := 0#32
  let c3_4706 : Index := 3#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4134 : Index := Scalar.indexCast v4057
  ![0, 3, v4134.toNat]
def k0_off1026 (v4135 : BitVec 32) : Fin 3 → Nat :=
  let c0_4711 : Index := 0#32
  let v4138 : Index := Scalar.indexCast v4135
  let c0_4712 : Index := 0#32
  ![0, v4138.toNat, 0]

def k0_chk513 (v4135 : BitVec 32) : Prop :=
  (∀ a, (k0_off1026 v4135) a + S7x1x512.size a ≤ S7x50x512.size a)
theorem k0_off1026_inb : ∀ (v4135 : BitVec 32) (k0_hw513 : k0_chk513 v4135), ∀ a, (k0_off1026 v4135) a + S7x1x512.size a ≤ S7x50x512.size a := fun v4135 k0_hw513 => k0_hw513

def k0_off1027 (i : grid0.Coords) : Fin 3 → Nat :=
  let c0_4713 : Index := 0#32
  let c4_4714 : Index := 4#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4141 : Index := Scalar.indexCast v4057
  ![0, 4, v4141.toNat]
def k0_off1028 (v4142 : BitVec 32) : Fin 3 → Nat :=
  let c0_4719 : Index := 0#32
  let v4145 : Index := Scalar.indexCast v4142
  let c0_4720 : Index := 0#32
  ![0, v4145.toNat, 0]

def k0_chk514 (v4142 : BitVec 32) : Prop :=
  (∀ a, (k0_off1028 v4142) a + S7x1x512.size a ≤ S7x50x512.size a)
theorem k0_off1028_inb : ∀ (v4142 : BitVec 32) (k0_hw514 : k0_chk514 v4142), ∀ a, (k0_off1028 v4142) a + S7x1x512.size a ≤ S7x50x512.size a := fun v4142 k0_hw514 => k0_hw514

def k0_off1029 (i : grid0.Coords) : Fin 3 → Nat :=
  let c0_4721 : Index := 0#32
  let c5_4722 : Index := 5#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4148 : Index := Scalar.indexCast v4057
  ![0, 5, v4148.toNat]
def k0_off1030 (v4149 : BitVec 32) : Fin 3 → Nat :=
  let c0_4727 : Index := 0#32
  let v4152 : Index := Scalar.indexCast v4149
  let c0_4728 : Index := 0#32
  ![0, v4152.toNat, 0]

def k0_chk515 (v4149 : BitVec 32) : Prop :=
  (∀ a, (k0_off1030 v4149) a + S7x1x512.size a ≤ S7x50x512.size a)
theorem k0_off1030_inb : ∀ (v4149 : BitVec 32) (k0_hw515 : k0_chk515 v4149), ∀ a, (k0_off1030 v4149) a + S7x1x512.size a ≤ S7x50x512.size a := fun v4149 k0_hw515 => k0_hw515

def k0_off1031 (i : grid0.Coords) : Fin 3 → Nat :=
  let c0_4729 : Index := 0#32
  let c6_4730 : Index := 6#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4155 : Index := Scalar.indexCast v4057
  ![0, 6, v4155.toNat]
def k0_off1032 (v4156 : BitVec 32) : Fin 3 → Nat :=
  let c0_4735 : Index := 0#32
  let v4159 : Index := Scalar.indexCast v4156
  let c0_4736 : Index := 0#32
  ![0, v4159.toNat, 0]

def k0_chk516 (v4156 : BitVec 32) : Prop :=
  (∀ a, (k0_off1032 v4156) a + S7x1x512.size a ≤ S7x50x512.size a)
theorem k0_off1032_inb : ∀ (v4156 : BitVec 32) (k0_hw516 : k0_chk516 v4156), ∀ a, (k0_off1032 v4156) a + S7x1x512.size a ≤ S7x50x512.size a := fun v4156 k0_hw516 => k0_hw516

def k0_off1033 (i : grid0.Coords) : Fin 3 → Nat :=
  let c1_4740 : Index := 1#32
  let c2_4741 : Index := 2#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4166 : Index := Scalar.indexCast v4057
  ![1, 2, v4166.toNat]
def k0_off1034 (v4167 : BitVec 32) : Fin 3 → Nat :=
  let c0_4746 : Index := 0#32
  let v4170 : Index := Scalar.indexCast v4167
  let c0_4747 : Index := 0#32
  ![0, v4170.toNat, 0]

def k0_chk517 (v4167 : BitVec 32) : Prop :=
  (∀ a, (k0_off1034 v4167) a + S7x1x512.size a ≤ S7x50x512.size a)
theorem k0_off1034_inb : ∀ (v4167 : BitVec 32) (k0_hw517 : k0_chk517 v4167), ∀ a, (k0_off1034 v4167) a + S7x1x512.size a ≤ S7x50x512.size a := fun v4167 k0_hw517 => k0_hw517

def k0_off1035 (i : grid0.Coords) : Fin 3 → Nat :=
  let c1_4748 : Index := 1#32
  let c3_4749 : Index := 3#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4172 : Index := Scalar.indexCast v4057
  ![1, 3, v4172.toNat]
def k0_off1036 (v4173 : BitVec 32) : Fin 3 → Nat :=
  let c0_4754 : Index := 0#32
  let v4176 : Index := Scalar.indexCast v4173
  let c0_4755 : Index := 0#32
  ![0, v4176.toNat, 0]

def k0_chk518 (v4173 : BitVec 32) : Prop :=
  (∀ a, (k0_off1036 v4173) a + S7x1x512.size a ≤ S7x50x512.size a)
theorem k0_off1036_inb : ∀ (v4173 : BitVec 32) (k0_hw518 : k0_chk518 v4173), ∀ a, (k0_off1036 v4173) a + S7x1x512.size a ≤ S7x50x512.size a := fun v4173 k0_hw518 => k0_hw518

def k0_off1037 (i : grid0.Coords) : Fin 3 → Nat :=
  let c1_4756 : Index := 1#32
  let c4_4757 : Index := 4#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4179 : Index := Scalar.indexCast v4057
  ![1, 4, v4179.toNat]
def k0_off1038 (v4180 : BitVec 32) : Fin 3 → Nat :=
  let c0_4762 : Index := 0#32
  let v4183 : Index := Scalar.indexCast v4180
  let c0_4763 : Index := 0#32
  ![0, v4183.toNat, 0]

def k0_chk519 (v4180 : BitVec 32) : Prop :=
  (∀ a, (k0_off1038 v4180) a + S7x1x512.size a ≤ S7x50x512.size a)
theorem k0_off1038_inb : ∀ (v4180 : BitVec 32) (k0_hw519 : k0_chk519 v4180), ∀ a, (k0_off1038 v4180) a + S7x1x512.size a ≤ S7x50x512.size a := fun v4180 k0_hw519 => k0_hw519

def k0_off1039 (i : grid0.Coords) : Fin 3 → Nat :=
  let c1_4764 : Index := 1#32
  let c5_4765 : Index := 5#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4186 : Index := Scalar.indexCast v4057
  ![1, 5, v4186.toNat]
def k0_off1040 (v4187 : BitVec 32) : Fin 3 → Nat :=
  let c0_4770 : Index := 0#32
  let v4190 : Index := Scalar.indexCast v4187
  let c0_4771 : Index := 0#32
  ![0, v4190.toNat, 0]

def k0_chk520 (v4187 : BitVec 32) : Prop :=
  (∀ a, (k0_off1040 v4187) a + S7x1x512.size a ≤ S7x50x512.size a)
theorem k0_off1040_inb : ∀ (v4187 : BitVec 32) (k0_hw520 : k0_chk520 v4187), ∀ a, (k0_off1040 v4187) a + S7x1x512.size a ≤ S7x50x512.size a := fun v4187 k0_hw520 => k0_hw520

def k0_off1041 (i : grid0.Coords) : Fin 3 → Nat :=
  let c1_4772 : Index := 1#32
  let c6_4773 : Index := 6#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4193 : Index := Scalar.indexCast v4057
  ![1, 6, v4193.toNat]
def k0_off1042 (v4194 : BitVec 32) : Fin 3 → Nat :=
  let c0_4778 : Index := 0#32
  let v4197 : Index := Scalar.indexCast v4194
  let c0_4779 : Index := 0#32
  ![0, v4197.toNat, 0]

def k0_chk521 (v4194 : BitVec 32) : Prop :=
  (∀ a, (k0_off1042 v4194) a + S7x1x512.size a ≤ S7x50x512.size a)
theorem k0_off1042_inb : ∀ (v4194 : BitVec 32) (k0_hw521 : k0_chk521 v4194), ∀ a, (k0_off1042 v4194) a + S7x1x512.size a ≤ S7x50x512.size a := fun v4194 k0_hw521 => k0_hw521

def k0_off1043 (i : grid0.Coords) : Fin 3 → Nat :=
  let c2_4784 : Index := 2#32
  let c2_4785 : Index := 2#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4204 : Index := Scalar.indexCast v4057
  ![2, 2, v4204.toNat]
def k0_off1044 (v4205 : BitVec 32) : Fin 3 → Nat :=
  let c0_4790 : Index := 0#32
  let v4208 : Index := Scalar.indexCast v4205
  let c0_4791 : Index := 0#32
  ![0, v4208.toNat, 0]

def k0_chk522 (v4205 : BitVec 32) : Prop :=
  (∀ a, (k0_off1044 v4205) a + S7x1x512.size a ≤ S7x50x512.size a)
theorem k0_off1044_inb : ∀ (v4205 : BitVec 32) (k0_hw522 : k0_chk522 v4205), ∀ a, (k0_off1044 v4205) a + S7x1x512.size a ≤ S7x50x512.size a := fun v4205 k0_hw522 => k0_hw522

def k0_off1045 (i : grid0.Coords) : Fin 3 → Nat :=
  let c2_4792 : Index := 2#32
  let c3_4793 : Index := 3#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4210 : Index := Scalar.indexCast v4057
  ![2, 3, v4210.toNat]
def k0_off1046 (v4211 : BitVec 32) : Fin 3 → Nat :=
  let c0_4798 : Index := 0#32
  let v4214 : Index := Scalar.indexCast v4211
  let c0_4799 : Index := 0#32
  ![0, v4214.toNat, 0]

def k0_chk523 (v4211 : BitVec 32) : Prop :=
  (∀ a, (k0_off1046 v4211) a + S7x1x512.size a ≤ S7x50x512.size a)
theorem k0_off1046_inb : ∀ (v4211 : BitVec 32) (k0_hw523 : k0_chk523 v4211), ∀ a, (k0_off1046 v4211) a + S7x1x512.size a ≤ S7x50x512.size a := fun v4211 k0_hw523 => k0_hw523

def k0_off1047 (i : grid0.Coords) : Fin 3 → Nat :=
  let c2_4800 : Index := 2#32
  let c4_4801 : Index := 4#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4217 : Index := Scalar.indexCast v4057
  ![2, 4, v4217.toNat]
def k0_off1048 (v4218 : BitVec 32) : Fin 3 → Nat :=
  let c0_4806 : Index := 0#32
  let v4221 : Index := Scalar.indexCast v4218
  let c0_4807 : Index := 0#32
  ![0, v4221.toNat, 0]

def k0_chk524 (v4218 : BitVec 32) : Prop :=
  (∀ a, (k0_off1048 v4218) a + S7x1x512.size a ≤ S7x50x512.size a)
theorem k0_off1048_inb : ∀ (v4218 : BitVec 32) (k0_hw524 : k0_chk524 v4218), ∀ a, (k0_off1048 v4218) a + S7x1x512.size a ≤ S7x50x512.size a := fun v4218 k0_hw524 => k0_hw524

def k0_off1049 (i : grid0.Coords) : Fin 3 → Nat :=
  let c2_4808 : Index := 2#32
  let c5_4809 : Index := 5#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4224 : Index := Scalar.indexCast v4057
  ![2, 5, v4224.toNat]
def k0_off1050 (v4225 : BitVec 32) : Fin 3 → Nat :=
  let c0_4814 : Index := 0#32
  let v4228 : Index := Scalar.indexCast v4225
  let c0_4815 : Index := 0#32
  ![0, v4228.toNat, 0]

def k0_chk525 (v4225 : BitVec 32) : Prop :=
  (∀ a, (k0_off1050 v4225) a + S7x1x512.size a ≤ S7x50x512.size a)
theorem k0_off1050_inb : ∀ (v4225 : BitVec 32) (k0_hw525 : k0_chk525 v4225), ∀ a, (k0_off1050 v4225) a + S7x1x512.size a ≤ S7x50x512.size a := fun v4225 k0_hw525 => k0_hw525

def k0_off1051 (i : grid0.Coords) : Fin 3 → Nat :=
  let c2_4816 : Index := 2#32
  let c6_4817 : Index := 6#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4231 : Index := Scalar.indexCast v4057
  ![2, 6, v4231.toNat]
def k0_off1052 (v4232 : BitVec 32) : Fin 3 → Nat :=
  let c0_4822 : Index := 0#32
  let v4235 : Index := Scalar.indexCast v4232
  let c0_4823 : Index := 0#32
  ![0, v4235.toNat, 0]

def k0_chk526 (v4232 : BitVec 32) : Prop :=
  (∀ a, (k0_off1052 v4232) a + S7x1x512.size a ≤ S7x50x512.size a)
theorem k0_off1052_inb : ∀ (v4232 : BitVec 32) (k0_hw526 : k0_chk526 v4232), ∀ a, (k0_off1052 v4232) a + S7x1x512.size a ≤ S7x50x512.size a := fun v4232 k0_hw526 => k0_hw526

def k0_off1053 (i : grid0.Coords) : Fin 3 → Nat :=
  let c3_4828 : Index := 3#32
  let c2_4829 : Index := 2#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4242 : Index := Scalar.indexCast v4057
  ![3, 2, v4242.toNat]
def k0_off1054 (v4243 : BitVec 32) : Fin 3 → Nat :=
  let c0_4834 : Index := 0#32
  let v4246 : Index := Scalar.indexCast v4243
  let c0_4835 : Index := 0#32
  ![0, v4246.toNat, 0]

def k0_chk527 (v4243 : BitVec 32) : Prop :=
  (∀ a, (k0_off1054 v4243) a + S7x1x512.size a ≤ S7x50x512.size a)
theorem k0_off1054_inb : ∀ (v4243 : BitVec 32) (k0_hw527 : k0_chk527 v4243), ∀ a, (k0_off1054 v4243) a + S7x1x512.size a ≤ S7x50x512.size a := fun v4243 k0_hw527 => k0_hw527

def k0_off1055 (i : grid0.Coords) : Fin 3 → Nat :=
  let c3_4836 : Index := 3#32
  let c3_4837 : Index := 3#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4248 : Index := Scalar.indexCast v4057
  ![3, 3, v4248.toNat]
def k0_off1056 (v4249 : BitVec 32) : Fin 3 → Nat :=
  let c0_4842 : Index := 0#32
  let v4252 : Index := Scalar.indexCast v4249
  let c0_4843 : Index := 0#32
  ![0, v4252.toNat, 0]

def k0_chk528 (v4249 : BitVec 32) : Prop :=
  (∀ a, (k0_off1056 v4249) a + S7x1x512.size a ≤ S7x50x512.size a)
theorem k0_off1056_inb : ∀ (v4249 : BitVec 32) (k0_hw528 : k0_chk528 v4249), ∀ a, (k0_off1056 v4249) a + S7x1x512.size a ≤ S7x50x512.size a := fun v4249 k0_hw528 => k0_hw528

def k0_off1057 (i : grid0.Coords) : Fin 3 → Nat :=
  let c3_4844 : Index := 3#32
  let c4_4845 : Index := 4#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4255 : Index := Scalar.indexCast v4057
  ![3, 4, v4255.toNat]
def k0_off1058 (v4256 : BitVec 32) : Fin 3 → Nat :=
  let c0_4850 : Index := 0#32
  let v4259 : Index := Scalar.indexCast v4256
  let c0_4851 : Index := 0#32
  ![0, v4259.toNat, 0]

def k0_chk529 (v4256 : BitVec 32) : Prop :=
  (∀ a, (k0_off1058 v4256) a + S7x1x512.size a ≤ S7x50x512.size a)
theorem k0_off1058_inb : ∀ (v4256 : BitVec 32) (k0_hw529 : k0_chk529 v4256), ∀ a, (k0_off1058 v4256) a + S7x1x512.size a ≤ S7x50x512.size a := fun v4256 k0_hw529 => k0_hw529

def k0_off1059 (i : grid0.Coords) : Fin 3 → Nat :=
  let c3_4852 : Index := 3#32
  let c5_4853 : Index := 5#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4262 : Index := Scalar.indexCast v4057
  ![3, 5, v4262.toNat]
def k0_off1060 (v4263 : BitVec 32) : Fin 3 → Nat :=
  let c0_4858 : Index := 0#32
  let v4266 : Index := Scalar.indexCast v4263
  let c0_4859 : Index := 0#32
  ![0, v4266.toNat, 0]

def k0_chk530 (v4263 : BitVec 32) : Prop :=
  (∀ a, (k0_off1060 v4263) a + S7x1x512.size a ≤ S7x50x512.size a)
theorem k0_off1060_inb : ∀ (v4263 : BitVec 32) (k0_hw530 : k0_chk530 v4263), ∀ a, (k0_off1060 v4263) a + S7x1x512.size a ≤ S7x50x512.size a := fun v4263 k0_hw530 => k0_hw530

def k0_off1061 (i : grid0.Coords) : Fin 3 → Nat :=
  let c3_4860 : Index := 3#32
  let c6_4861 : Index := 6#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4269 : Index := Scalar.indexCast v4057
  ![3, 6, v4269.toNat]
def k0_off1062 (v4270 : BitVec 32) : Fin 3 → Nat :=
  let c0_4866 : Index := 0#32
  let v4273 : Index := Scalar.indexCast v4270
  let c0_4867 : Index := 0#32
  ![0, v4273.toNat, 0]

def k0_chk531 (v4270 : BitVec 32) : Prop :=
  (∀ a, (k0_off1062 v4270) a + S7x1x512.size a ≤ S7x50x512.size a)
theorem k0_off1062_inb : ∀ (v4270 : BitVec 32) (k0_hw531 : k0_chk531 v4270), ∀ a, (k0_off1062 v4270) a + S7x1x512.size a ≤ S7x50x512.size a := fun v4270 k0_hw531 => k0_hw531

def k0_off1063 (i : grid0.Coords) : Fin 3 → Nat :=
  let c4_4872 : Index := 4#32
  let c2_4873 : Index := 2#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4280 : Index := Scalar.indexCast v4057
  ![4, 2, v4280.toNat]
def k0_off1064 (v4281 : BitVec 32) : Fin 3 → Nat :=
  let c0_4878 : Index := 0#32
  let v4284 : Index := Scalar.indexCast v4281
  let c0_4879 : Index := 0#32
  ![0, v4284.toNat, 0]

def k0_chk532 (v4281 : BitVec 32) : Prop :=
  (∀ a, (k0_off1064 v4281) a + S7x1x512.size a ≤ S7x50x512.size a)
theorem k0_off1064_inb : ∀ (v4281 : BitVec 32) (k0_hw532 : k0_chk532 v4281), ∀ a, (k0_off1064 v4281) a + S7x1x512.size a ≤ S7x50x512.size a := fun v4281 k0_hw532 => k0_hw532

def k0_off1065 (i : grid0.Coords) : Fin 3 → Nat :=
  let c4_4880 : Index := 4#32
  let c3_4881 : Index := 3#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4286 : Index := Scalar.indexCast v4057
  ![4, 3, v4286.toNat]
def k0_off1066 (v4287 : BitVec 32) : Fin 3 → Nat :=
  let c0_4886 : Index := 0#32
  let v4290 : Index := Scalar.indexCast v4287
  let c0_4887 : Index := 0#32
  ![0, v4290.toNat, 0]

def k0_chk533 (v4287 : BitVec 32) : Prop :=
  (∀ a, (k0_off1066 v4287) a + S7x1x512.size a ≤ S7x50x512.size a)
theorem k0_off1066_inb : ∀ (v4287 : BitVec 32) (k0_hw533 : k0_chk533 v4287), ∀ a, (k0_off1066 v4287) a + S7x1x512.size a ≤ S7x50x512.size a := fun v4287 k0_hw533 => k0_hw533

def k0_off1067 (i : grid0.Coords) : Fin 3 → Nat :=
  let c4_4888 : Index := 4#32
  let c4_4889 : Index := 4#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4293 : Index := Scalar.indexCast v4057
  ![4, 4, v4293.toNat]
def k0_off1068 (v4294 : BitVec 32) : Fin 3 → Nat :=
  let c0_4894 : Index := 0#32
  let v4297 : Index := Scalar.indexCast v4294
  let c0_4895 : Index := 0#32
  ![0, v4297.toNat, 0]

def k0_chk534 (v4294 : BitVec 32) : Prop :=
  (∀ a, (k0_off1068 v4294) a + S7x1x512.size a ≤ S7x50x512.size a)
theorem k0_off1068_inb : ∀ (v4294 : BitVec 32) (k0_hw534 : k0_chk534 v4294), ∀ a, (k0_off1068 v4294) a + S7x1x512.size a ≤ S7x50x512.size a := fun v4294 k0_hw534 => k0_hw534

def k0_off1069 (i : grid0.Coords) : Fin 3 → Nat :=
  let c4_4896 : Index := 4#32
  let c5_4897 : Index := 5#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4300 : Index := Scalar.indexCast v4057
  ![4, 5, v4300.toNat]
def k0_off1070 (v4301 : BitVec 32) : Fin 3 → Nat :=
  let c0_4902 : Index := 0#32
  let v4304 : Index := Scalar.indexCast v4301
  let c0_4903 : Index := 0#32
  ![0, v4304.toNat, 0]

def k0_chk535 (v4301 : BitVec 32) : Prop :=
  (∀ a, (k0_off1070 v4301) a + S7x1x512.size a ≤ S7x50x512.size a)
theorem k0_off1070_inb : ∀ (v4301 : BitVec 32) (k0_hw535 : k0_chk535 v4301), ∀ a, (k0_off1070 v4301) a + S7x1x512.size a ≤ S7x50x512.size a := fun v4301 k0_hw535 => k0_hw535

def k0_off1071 (i : grid0.Coords) : Fin 3 → Nat :=
  let c4_4904 : Index := 4#32
  let c6_4905 : Index := 6#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4307 : Index := Scalar.indexCast v4057
  ![4, 6, v4307.toNat]
def k0_off1072 (v4308 : BitVec 32) : Fin 3 → Nat :=
  let c0_4910 : Index := 0#32
  let v4311 : Index := Scalar.indexCast v4308
  let c0_4911 : Index := 0#32
  ![0, v4311.toNat, 0]

def k0_chk536 (v4308 : BitVec 32) : Prop :=
  (∀ a, (k0_off1072 v4308) a + S7x1x512.size a ≤ S7x50x512.size a)
theorem k0_off1072_inb : ∀ (v4308 : BitVec 32) (k0_hw536 : k0_chk536 v4308), ∀ a, (k0_off1072 v4308) a + S7x1x512.size a ≤ S7x50x512.size a := fun v4308 k0_hw536 => k0_hw536

def k0_off1073 (i : grid0.Coords) : Fin 3 → Nat :=
  let c5_4916 : Index := 5#32
  let c2_4917 : Index := 2#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4318 : Index := Scalar.indexCast v4057
  ![5, 2, v4318.toNat]
def k0_off1074 (v4319 : BitVec 32) : Fin 3 → Nat :=
  let c0_4922 : Index := 0#32
  let v4322 : Index := Scalar.indexCast v4319
  let c0_4923 : Index := 0#32
  ![0, v4322.toNat, 0]

def k0_chk537 (v4319 : BitVec 32) : Prop :=
  (∀ a, (k0_off1074 v4319) a + S7x1x512.size a ≤ S7x50x512.size a)
theorem k0_off1074_inb : ∀ (v4319 : BitVec 32) (k0_hw537 : k0_chk537 v4319), ∀ a, (k0_off1074 v4319) a + S7x1x512.size a ≤ S7x50x512.size a := fun v4319 k0_hw537 => k0_hw537

def k0_off1075 (i : grid0.Coords) : Fin 3 → Nat :=
  let c5_4924 : Index := 5#32
  let c3_4925 : Index := 3#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4324 : Index := Scalar.indexCast v4057
  ![5, 3, v4324.toNat]
def k0_off1076 (v4325 : BitVec 32) : Fin 3 → Nat :=
  let c0_4930 : Index := 0#32
  let v4328 : Index := Scalar.indexCast v4325
  let c0_4931 : Index := 0#32
  ![0, v4328.toNat, 0]

def k0_chk538 (v4325 : BitVec 32) : Prop :=
  (∀ a, (k0_off1076 v4325) a + S7x1x512.size a ≤ S7x50x512.size a)
theorem k0_off1076_inb : ∀ (v4325 : BitVec 32) (k0_hw538 : k0_chk538 v4325), ∀ a, (k0_off1076 v4325) a + S7x1x512.size a ≤ S7x50x512.size a := fun v4325 k0_hw538 => k0_hw538

def k0_off1077 (i : grid0.Coords) : Fin 3 → Nat :=
  let c5_4932 : Index := 5#32
  let c4_4933 : Index := 4#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4331 : Index := Scalar.indexCast v4057
  ![5, 4, v4331.toNat]
def k0_off1078 (v4332 : BitVec 32) : Fin 3 → Nat :=
  let c0_4938 : Index := 0#32
  let v4335 : Index := Scalar.indexCast v4332
  let c0_4939 : Index := 0#32
  ![0, v4335.toNat, 0]

def k0_chk539 (v4332 : BitVec 32) : Prop :=
  (∀ a, (k0_off1078 v4332) a + S7x1x512.size a ≤ S7x50x512.size a)
theorem k0_off1078_inb : ∀ (v4332 : BitVec 32) (k0_hw539 : k0_chk539 v4332), ∀ a, (k0_off1078 v4332) a + S7x1x512.size a ≤ S7x50x512.size a := fun v4332 k0_hw539 => k0_hw539

def k0_off1079 (i : grid0.Coords) : Fin 3 → Nat :=
  let c5_4940 : Index := 5#32
  let c5_4941 : Index := 5#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4338 : Index := Scalar.indexCast v4057
  ![5, 5, v4338.toNat]
def k0_off1080 (v4339 : BitVec 32) : Fin 3 → Nat :=
  let c0_4946 : Index := 0#32
  let v4342 : Index := Scalar.indexCast v4339
  let c0_4947 : Index := 0#32
  ![0, v4342.toNat, 0]

def k0_chk540 (v4339 : BitVec 32) : Prop :=
  (∀ a, (k0_off1080 v4339) a + S7x1x512.size a ≤ S7x50x512.size a)
theorem k0_off1080_inb : ∀ (v4339 : BitVec 32) (k0_hw540 : k0_chk540 v4339), ∀ a, (k0_off1080 v4339) a + S7x1x512.size a ≤ S7x50x512.size a := fun v4339 k0_hw540 => k0_hw540

def k0_off1081 (i : grid0.Coords) : Fin 3 → Nat :=
  let c5_4948 : Index := 5#32
  let c6_4949 : Index := 6#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4345 : Index := Scalar.indexCast v4057
  ![5, 6, v4345.toNat]
def k0_off1082 (v4346 : BitVec 32) : Fin 3 → Nat :=
  let c0_4954 : Index := 0#32
  let v4349 : Index := Scalar.indexCast v4346
  let c0_4955 : Index := 0#32
  ![0, v4349.toNat, 0]

def k0_chk541 (v4346 : BitVec 32) : Prop :=
  (∀ a, (k0_off1082 v4346) a + S7x1x512.size a ≤ S7x50x512.size a)
theorem k0_off1082_inb : ∀ (v4346 : BitVec 32) (k0_hw541 : k0_chk541 v4346), ∀ a, (k0_off1082 v4346) a + S7x1x512.size a ≤ S7x50x512.size a := fun v4346 k0_hw541 => k0_hw541

def k0_off1083 (i : grid0.Coords) : Fin 3 → Nat :=
  let c6_4960 : Index := 6#32
  let c2_4961 : Index := 2#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4356 : Index := Scalar.indexCast v4057
  ![6, 2, v4356.toNat]
def k0_off1084 (v4357 : BitVec 32) : Fin 3 → Nat :=
  let c0_4966 : Index := 0#32
  let v4360 : Index := Scalar.indexCast v4357
  let c0_4967 : Index := 0#32
  ![0, v4360.toNat, 0]

def k0_chk542 (v4357 : BitVec 32) : Prop :=
  (∀ a, (k0_off1084 v4357) a + S7x1x512.size a ≤ S7x50x512.size a)
theorem k0_off1084_inb : ∀ (v4357 : BitVec 32) (k0_hw542 : k0_chk542 v4357), ∀ a, (k0_off1084 v4357) a + S7x1x512.size a ≤ S7x50x512.size a := fun v4357 k0_hw542 => k0_hw542

def k0_off1085 (i : grid0.Coords) : Fin 3 → Nat :=
  let c6_4968 : Index := 6#32
  let c3_4969 : Index := 3#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4362 : Index := Scalar.indexCast v4057
  ![6, 3, v4362.toNat]
def k0_off1086 (v4363 : BitVec 32) : Fin 3 → Nat :=
  let c0_4974 : Index := 0#32
  let v4366 : Index := Scalar.indexCast v4363
  let c0_4975 : Index := 0#32
  ![0, v4366.toNat, 0]

def k0_chk543 (v4363 : BitVec 32) : Prop :=
  (∀ a, (k0_off1086 v4363) a + S7x1x512.size a ≤ S7x50x512.size a)
theorem k0_off1086_inb : ∀ (v4363 : BitVec 32) (k0_hw543 : k0_chk543 v4363), ∀ a, (k0_off1086 v4363) a + S7x1x512.size a ≤ S7x50x512.size a := fun v4363 k0_hw543 => k0_hw543

def k0_off1087 (i : grid0.Coords) : Fin 3 → Nat :=
  let c6_4976 : Index := 6#32
  let c4_4977 : Index := 4#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4369 : Index := Scalar.indexCast v4057
  ![6, 4, v4369.toNat]
def k0_off1088 (v4370 : BitVec 32) : Fin 3 → Nat :=
  let c0_4982 : Index := 0#32
  let v4373 : Index := Scalar.indexCast v4370
  let c0_4983 : Index := 0#32
  ![0, v4373.toNat, 0]

def k0_chk544 (v4370 : BitVec 32) : Prop :=
  (∀ a, (k0_off1088 v4370) a + S7x1x512.size a ≤ S7x50x512.size a)
theorem k0_off1088_inb : ∀ (v4370 : BitVec 32) (k0_hw544 : k0_chk544 v4370), ∀ a, (k0_off1088 v4370) a + S7x1x512.size a ≤ S7x50x512.size a := fun v4370 k0_hw544 => k0_hw544

def k0_off1089 (i : grid0.Coords) : Fin 3 → Nat :=
  let c6_4984 : Index := 6#32
  let c5_4985 : Index := 5#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4376 : Index := Scalar.indexCast v4057
  ![6, 5, v4376.toNat]
def k0_off1090 (v4377 : BitVec 32) : Fin 3 → Nat :=
  let c0_4990 : Index := 0#32
  let v4380 : Index := Scalar.indexCast v4377
  let c0_4991 : Index := 0#32
  ![0, v4380.toNat, 0]

def k0_chk545 (v4377 : BitVec 32) : Prop :=
  (∀ a, (k0_off1090 v4377) a + S7x1x512.size a ≤ S7x50x512.size a)
theorem k0_off1090_inb : ∀ (v4377 : BitVec 32) (k0_hw545 : k0_chk545 v4377), ∀ a, (k0_off1090 v4377) a + S7x1x512.size a ≤ S7x50x512.size a := fun v4377 k0_hw545 => k0_hw545

def k0_off1091 (i : grid0.Coords) : Fin 3 → Nat :=
  let c6_4992 : Index := 6#32
  let c6_4993 : Index := 6#32
  let arg0 : BitVec 32 := BitVec.ofNat 32 (i 0).val
  let c32_i32_4619 : BitVec 32 := 32#32
  let v4056 : BitVec 32 := Scalar.muli arg0 c32_i32_4619
  let c12_i32 : BitVec 32 := 12#32
  let v4057 : BitVec 32 := Scalar.addi v4056 c12_i32
  let v4383 : Index := Scalar.indexCast v4057
  ![6, 6, v4383.toNat]
def k0_off1092 (v4384 : BitVec 32) : Fin 3 → Nat :=
  let c0_4998 : Index := 0#32
  let v4387 : Index := Scalar.indexCast v4384
  let c0_4999 : Index := 0#32
  ![0, v4387.toNat, 0]

def k0_chk546 (v4384 : BitVec 32) : Prop :=
  (∀ a, (k0_off1092 v4384) a + S7x1x512.size a ≤ S7x50x512.size a)
theorem k0_off1092_inb : ∀ (v4384 : BitVec 32) (k0_hw546 : k0_chk546 v4384), ∀ a, (k0_off1092 v4384) a + S7x1x512.size a ≤ S7x50x512.size a := fun v4384 k0_hw546 => k0_hw546

def k0_off1093 (i : grid0.Coords) : Fin 3 → Nat :=
  let c0_5005 : Index := 0#32
  let c0_5006 : Index := 0#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4396 : Index := Scalar.indexCast v4395
  ![0, 0, v4396.toNat]
def k0_off1094 (v4397 : BitVec 32) : Fin 3 → Nat :=
  let v4398 : Index := Scalar.indexCast v4397
  let c0_5007 : Index := 0#32
  let c0_5008 : Index := 0#32
  ![v4398.toNat, 0, 0]

def k0_chk547 (v4397 : BitVec 32) : Prop :=
  (∀ a, (k0_off1094 v4397) a + S1x50x512.size a ≤ S250x50x512.size a)
theorem k0_off1094_inb : ∀ (v4397 : BitVec 32) (k0_hw547 : k0_chk547 v4397), ∀ a, (k0_off1094 v4397) a + S1x50x512.size a ≤ S250x50x512.size a := fun v4397 k0_hw547 => k0_hw547

def k0_off1095 (i : grid0.Coords) : Fin 3 → Nat :=
  let c1_5016 : Index := 1#32
  let c0_5017 : Index := 0#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4406 : Index := Scalar.indexCast v4395
  ![1, 0, v4406.toNat]
def k0_off1096 (v4407 : BitVec 32) : Fin 3 → Nat :=
  let v4408 : Index := Scalar.indexCast v4407
  let c0_5018 : Index := 0#32
  let c0_5019 : Index := 0#32
  ![v4408.toNat, 0, 0]

def k0_chk548 (v4407 : BitVec 32) : Prop :=
  (∀ a, (k0_off1096 v4407) a + S1x50x512.size a ≤ S250x50x512.size a)
theorem k0_off1096_inb : ∀ (v4407 : BitVec 32) (k0_hw548 : k0_chk548 v4407), ∀ a, (k0_off1096 v4407) a + S1x50x512.size a ≤ S250x50x512.size a := fun v4407 k0_hw548 => k0_hw548

def k0_off1097 (i : grid0.Coords) : Fin 3 → Nat :=
  let c2_5027 : Index := 2#32
  let c0_5028 : Index := 0#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4416 : Index := Scalar.indexCast v4395
  ![2, 0, v4416.toNat]
def k0_off1098 (v4417 : BitVec 32) : Fin 3 → Nat :=
  let v4418 : Index := Scalar.indexCast v4417
  let c0_5029 : Index := 0#32
  let c0_5030 : Index := 0#32
  ![v4418.toNat, 0, 0]

def k0_chk549 (v4417 : BitVec 32) : Prop :=
  (∀ a, (k0_off1098 v4417) a + S1x50x512.size a ≤ S250x50x512.size a)
theorem k0_off1098_inb : ∀ (v4417 : BitVec 32) (k0_hw549 : k0_chk549 v4417), ∀ a, (k0_off1098 v4417) a + S1x50x512.size a ≤ S250x50x512.size a := fun v4417 k0_hw549 => k0_hw549

def k0_off1099 (i : grid0.Coords) : Fin 3 → Nat :=
  let c3_5038 : Index := 3#32
  let c0_5039 : Index := 0#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4426 : Index := Scalar.indexCast v4395
  ![3, 0, v4426.toNat]
def k0_off1100 (v4427 : BitVec 32) : Fin 3 → Nat :=
  let v4428 : Index := Scalar.indexCast v4427
  let c0_5040 : Index := 0#32
  let c0_5041 : Index := 0#32
  ![v4428.toNat, 0, 0]

def k0_chk550 (v4427 : BitVec 32) : Prop :=
  (∀ a, (k0_off1100 v4427) a + S1x50x512.size a ≤ S250x50x512.size a)
theorem k0_off1100_inb : ∀ (v4427 : BitVec 32) (k0_hw550 : k0_chk550 v4427), ∀ a, (k0_off1100 v4427) a + S1x50x512.size a ≤ S250x50x512.size a := fun v4427 k0_hw550 => k0_hw550

def k0_off1101 (i : grid0.Coords) : Fin 3 → Nat :=
  let c4_5049 : Index := 4#32
  let c0_5050 : Index := 0#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4436 : Index := Scalar.indexCast v4395
  ![4, 0, v4436.toNat]
def k0_off1102 (v4437 : BitVec 32) : Fin 3 → Nat :=
  let v4438 : Index := Scalar.indexCast v4437
  let c0_5051 : Index := 0#32
  let c0_5052 : Index := 0#32
  ![v4438.toNat, 0, 0]

def k0_chk551 (v4437 : BitVec 32) : Prop :=
  (∀ a, (k0_off1102 v4437) a + S1x50x512.size a ≤ S250x50x512.size a)
theorem k0_off1102_inb : ∀ (v4437 : BitVec 32) (k0_hw551 : k0_chk551 v4437), ∀ a, (k0_off1102 v4437) a + S1x50x512.size a ≤ S250x50x512.size a := fun v4437 k0_hw551 => k0_hw551

def k0_off1103 (i : grid0.Coords) : Fin 3 → Nat :=
  let c5_5060 : Index := 5#32
  let c0_5061 : Index := 0#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4446 : Index := Scalar.indexCast v4395
  ![5, 0, v4446.toNat]
def k0_off1104 (v4447 : BitVec 32) : Fin 3 → Nat :=
  let v4448 : Index := Scalar.indexCast v4447
  let c0_5062 : Index := 0#32
  let c0_5063 : Index := 0#32
  ![v4448.toNat, 0, 0]

def k0_chk552 (v4447 : BitVec 32) : Prop :=
  (∀ a, (k0_off1104 v4447) a + S1x50x512.size a ≤ S250x50x512.size a)
theorem k0_off1104_inb : ∀ (v4447 : BitVec 32) (k0_hw552 : k0_chk552 v4447), ∀ a, (k0_off1104 v4447) a + S1x50x512.size a ≤ S250x50x512.size a := fun v4447 k0_hw552 => k0_hw552

def k0_off1105 (i : grid0.Coords) : Fin 3 → Nat :=
  let c6_5071 : Index := 6#32
  let c0_5072 : Index := 0#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4456 : Index := Scalar.indexCast v4395
  ![6, 0, v4456.toNat]
def k0_off1106 (v4457 : BitVec 32) : Fin 3 → Nat :=
  let v4458 : Index := Scalar.indexCast v4457
  let c0_5073 : Index := 0#32
  let c0_5074 : Index := 0#32
  ![v4458.toNat, 0, 0]

def k0_chk553 (v4457 : BitVec 32) : Prop :=
  (∀ a, (k0_off1106 v4457) a + S1x50x512.size a ≤ S250x50x512.size a)
theorem k0_off1106_inb : ∀ (v4457 : BitVec 32) (k0_hw553 : k0_chk553 v4457), ∀ a, (k0_off1106 v4457) a + S1x50x512.size a ≤ S250x50x512.size a := fun v4457 k0_hw553 => k0_hw553

def k0_off1107 (i : grid0.Coords) : Fin 3 → Nat :=
  let c0_5082 : Index := 0#32
  let c2_5083 : Index := 2#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4466 : Index := Scalar.indexCast v4395
  ![0, 2, v4466.toNat]
def k0_off1108 (v4467 : BitVec 32) : Fin 3 → Nat :=
  let c0_5088 : Index := 0#32
  let v4470 : Index := Scalar.indexCast v4467
  let c0_5089 : Index := 0#32
  ![0, v4470.toNat, 0]

def k0_chk554 (v4467 : BitVec 32) : Prop :=
  (∀ a, (k0_off1108 v4467) a + S7x1x512.size a ≤ S7x50x512.size a)
theorem k0_off1108_inb : ∀ (v4467 : BitVec 32) (k0_hw554 : k0_chk554 v4467), ∀ a, (k0_off1108 v4467) a + S7x1x512.size a ≤ S7x50x512.size a := fun v4467 k0_hw554 => k0_hw554

def k0_off1109 (i : grid0.Coords) : Fin 3 → Nat :=
  let c0_5090 : Index := 0#32
  let c3_5091 : Index := 3#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4472 : Index := Scalar.indexCast v4395
  ![0, 3, v4472.toNat]
def k0_off1110 (v4473 : BitVec 32) : Fin 3 → Nat :=
  let c0_5096 : Index := 0#32
  let v4476 : Index := Scalar.indexCast v4473
  let c0_5097 : Index := 0#32
  ![0, v4476.toNat, 0]

def k0_chk555 (v4473 : BitVec 32) : Prop :=
  (∀ a, (k0_off1110 v4473) a + S7x1x512.size a ≤ S7x50x512.size a)
theorem k0_off1110_inb : ∀ (v4473 : BitVec 32) (k0_hw555 : k0_chk555 v4473), ∀ a, (k0_off1110 v4473) a + S7x1x512.size a ≤ S7x50x512.size a := fun v4473 k0_hw555 => k0_hw555

def k0_off1111 (i : grid0.Coords) : Fin 3 → Nat :=
  let c0_5098 : Index := 0#32
  let c4_5099 : Index := 4#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4479 : Index := Scalar.indexCast v4395
  ![0, 4, v4479.toNat]
def k0_off1112 (v4480 : BitVec 32) : Fin 3 → Nat :=
  let c0_5104 : Index := 0#32
  let v4483 : Index := Scalar.indexCast v4480
  let c0_5105 : Index := 0#32
  ![0, v4483.toNat, 0]

def k0_chk556 (v4480 : BitVec 32) : Prop :=
  (∀ a, (k0_off1112 v4480) a + S7x1x512.size a ≤ S7x50x512.size a)
theorem k0_off1112_inb : ∀ (v4480 : BitVec 32) (k0_hw556 : k0_chk556 v4480), ∀ a, (k0_off1112 v4480) a + S7x1x512.size a ≤ S7x50x512.size a := fun v4480 k0_hw556 => k0_hw556

def k0_off1113 (i : grid0.Coords) : Fin 3 → Nat :=
  let c0_5106 : Index := 0#32
  let c5_5107 : Index := 5#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4486 : Index := Scalar.indexCast v4395
  ![0, 5, v4486.toNat]
def k0_off1114 (v4487 : BitVec 32) : Fin 3 → Nat :=
  let c0_5112 : Index := 0#32
  let v4490 : Index := Scalar.indexCast v4487
  let c0_5113 : Index := 0#32
  ![0, v4490.toNat, 0]

def k0_chk557 (v4487 : BitVec 32) : Prop :=
  (∀ a, (k0_off1114 v4487) a + S7x1x512.size a ≤ S7x50x512.size a)
theorem k0_off1114_inb : ∀ (v4487 : BitVec 32) (k0_hw557 : k0_chk557 v4487), ∀ a, (k0_off1114 v4487) a + S7x1x512.size a ≤ S7x50x512.size a := fun v4487 k0_hw557 => k0_hw557

def k0_off1115 (i : grid0.Coords) : Fin 3 → Nat :=
  let c0_5114 : Index := 0#32
  let c6_5115 : Index := 6#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4493 : Index := Scalar.indexCast v4395
  ![0, 6, v4493.toNat]
def k0_off1116 (v4494 : BitVec 32) : Fin 3 → Nat :=
  let c0_5120 : Index := 0#32
  let v4497 : Index := Scalar.indexCast v4494
  let c0_5121 : Index := 0#32
  ![0, v4497.toNat, 0]

def k0_chk558 (v4494 : BitVec 32) : Prop :=
  (∀ a, (k0_off1116 v4494) a + S7x1x512.size a ≤ S7x50x512.size a)
theorem k0_off1116_inb : ∀ (v4494 : BitVec 32) (k0_hw558 : k0_chk558 v4494), ∀ a, (k0_off1116 v4494) a + S7x1x512.size a ≤ S7x50x512.size a := fun v4494 k0_hw558 => k0_hw558

def k0_off1117 (i : grid0.Coords) : Fin 3 → Nat :=
  let c1_5125 : Index := 1#32
  let c2_5126 : Index := 2#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4504 : Index := Scalar.indexCast v4395
  ![1, 2, v4504.toNat]
def k0_off1118 (v4505 : BitVec 32) : Fin 3 → Nat :=
  let c0_5131 : Index := 0#32
  let v4508 : Index := Scalar.indexCast v4505
  let c0_5132 : Index := 0#32
  ![0, v4508.toNat, 0]

def k0_chk559 (v4505 : BitVec 32) : Prop :=
  (∀ a, (k0_off1118 v4505) a + S7x1x512.size a ≤ S7x50x512.size a)
theorem k0_off1118_inb : ∀ (v4505 : BitVec 32) (k0_hw559 : k0_chk559 v4505), ∀ a, (k0_off1118 v4505) a + S7x1x512.size a ≤ S7x50x512.size a := fun v4505 k0_hw559 => k0_hw559

def k0_off1119 (i : grid0.Coords) : Fin 3 → Nat :=
  let c1_5133 : Index := 1#32
  let c3_5134 : Index := 3#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4510 : Index := Scalar.indexCast v4395
  ![1, 3, v4510.toNat]
def k0_off1120 (v4511 : BitVec 32) : Fin 3 → Nat :=
  let c0_5139 : Index := 0#32
  let v4514 : Index := Scalar.indexCast v4511
  let c0_5140 : Index := 0#32
  ![0, v4514.toNat, 0]

def k0_chk560 (v4511 : BitVec 32) : Prop :=
  (∀ a, (k0_off1120 v4511) a + S7x1x512.size a ≤ S7x50x512.size a)
theorem k0_off1120_inb : ∀ (v4511 : BitVec 32) (k0_hw560 : k0_chk560 v4511), ∀ a, (k0_off1120 v4511) a + S7x1x512.size a ≤ S7x50x512.size a := fun v4511 k0_hw560 => k0_hw560

def k0_off1121 (i : grid0.Coords) : Fin 3 → Nat :=
  let c1_5141 : Index := 1#32
  let c4_5142 : Index := 4#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4517 : Index := Scalar.indexCast v4395
  ![1, 4, v4517.toNat]
def k0_off1122 (v4518 : BitVec 32) : Fin 3 → Nat :=
  let c0_5147 : Index := 0#32
  let v4521 : Index := Scalar.indexCast v4518
  let c0_5148 : Index := 0#32
  ![0, v4521.toNat, 0]

def k0_chk561 (v4518 : BitVec 32) : Prop :=
  (∀ a, (k0_off1122 v4518) a + S7x1x512.size a ≤ S7x50x512.size a)
theorem k0_off1122_inb : ∀ (v4518 : BitVec 32) (k0_hw561 : k0_chk561 v4518), ∀ a, (k0_off1122 v4518) a + S7x1x512.size a ≤ S7x50x512.size a := fun v4518 k0_hw561 => k0_hw561

def k0_off1123 (i : grid0.Coords) : Fin 3 → Nat :=
  let c1_5149 : Index := 1#32
  let c5_5150 : Index := 5#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4524 : Index := Scalar.indexCast v4395
  ![1, 5, v4524.toNat]
def k0_off1124 (v4525 : BitVec 32) : Fin 3 → Nat :=
  let c0_5155 : Index := 0#32
  let v4528 : Index := Scalar.indexCast v4525
  let c0_5156 : Index := 0#32
  ![0, v4528.toNat, 0]

def k0_chk562 (v4525 : BitVec 32) : Prop :=
  (∀ a, (k0_off1124 v4525) a + S7x1x512.size a ≤ S7x50x512.size a)
theorem k0_off1124_inb : ∀ (v4525 : BitVec 32) (k0_hw562 : k0_chk562 v4525), ∀ a, (k0_off1124 v4525) a + S7x1x512.size a ≤ S7x50x512.size a := fun v4525 k0_hw562 => k0_hw562

def k0_off1125 (i : grid0.Coords) : Fin 3 → Nat :=
  let c1_5157 : Index := 1#32
  let c6_5158 : Index := 6#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4531 : Index := Scalar.indexCast v4395
  ![1, 6, v4531.toNat]
def k0_off1126 (v4532 : BitVec 32) : Fin 3 → Nat :=
  let c0_5163 : Index := 0#32
  let v4535 : Index := Scalar.indexCast v4532
  let c0_5164 : Index := 0#32
  ![0, v4535.toNat, 0]

def k0_chk563 (v4532 : BitVec 32) : Prop :=
  (∀ a, (k0_off1126 v4532) a + S7x1x512.size a ≤ S7x50x512.size a)
theorem k0_off1126_inb : ∀ (v4532 : BitVec 32) (k0_hw563 : k0_chk563 v4532), ∀ a, (k0_off1126 v4532) a + S7x1x512.size a ≤ S7x50x512.size a := fun v4532 k0_hw563 => k0_hw563

def k0_off1127 (i : grid0.Coords) : Fin 3 → Nat :=
  let c2_5169 : Index := 2#32
  let c2_5170 : Index := 2#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4542 : Index := Scalar.indexCast v4395
  ![2, 2, v4542.toNat]
def k0_off1128 (v4543 : BitVec 32) : Fin 3 → Nat :=
  let c0_5175 : Index := 0#32
  let v4546 : Index := Scalar.indexCast v4543
  let c0_5176 : Index := 0#32
  ![0, v4546.toNat, 0]

def k0_chk564 (v4543 : BitVec 32) : Prop :=
  (∀ a, (k0_off1128 v4543) a + S7x1x512.size a ≤ S7x50x512.size a)
theorem k0_off1128_inb : ∀ (v4543 : BitVec 32) (k0_hw564 : k0_chk564 v4543), ∀ a, (k0_off1128 v4543) a + S7x1x512.size a ≤ S7x50x512.size a := fun v4543 k0_hw564 => k0_hw564

def k0_off1129 (i : grid0.Coords) : Fin 3 → Nat :=
  let c2_5177 : Index := 2#32
  let c3_5178 : Index := 3#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4548 : Index := Scalar.indexCast v4395
  ![2, 3, v4548.toNat]
def k0_off1130 (v4549 : BitVec 32) : Fin 3 → Nat :=
  let c0_5183 : Index := 0#32
  let v4552 : Index := Scalar.indexCast v4549
  let c0_5184 : Index := 0#32
  ![0, v4552.toNat, 0]

def k0_chk565 (v4549 : BitVec 32) : Prop :=
  (∀ a, (k0_off1130 v4549) a + S7x1x512.size a ≤ S7x50x512.size a)
theorem k0_off1130_inb : ∀ (v4549 : BitVec 32) (k0_hw565 : k0_chk565 v4549), ∀ a, (k0_off1130 v4549) a + S7x1x512.size a ≤ S7x50x512.size a := fun v4549 k0_hw565 => k0_hw565

def k0_off1131 (i : grid0.Coords) : Fin 3 → Nat :=
  let c2_5185 : Index := 2#32
  let c4_5186 : Index := 4#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4555 : Index := Scalar.indexCast v4395
  ![2, 4, v4555.toNat]
def k0_off1132 (v4556 : BitVec 32) : Fin 3 → Nat :=
  let c0_5191 : Index := 0#32
  let v4559 : Index := Scalar.indexCast v4556
  let c0_5192 : Index := 0#32
  ![0, v4559.toNat, 0]

def k0_chk566 (v4556 : BitVec 32) : Prop :=
  (∀ a, (k0_off1132 v4556) a + S7x1x512.size a ≤ S7x50x512.size a)
theorem k0_off1132_inb : ∀ (v4556 : BitVec 32) (k0_hw566 : k0_chk566 v4556), ∀ a, (k0_off1132 v4556) a + S7x1x512.size a ≤ S7x50x512.size a := fun v4556 k0_hw566 => k0_hw566

def k0_off1133 (i : grid0.Coords) : Fin 3 → Nat :=
  let c2_5193 : Index := 2#32
  let c5_5194 : Index := 5#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4562 : Index := Scalar.indexCast v4395
  ![2, 5, v4562.toNat]
def k0_off1134 (v4563 : BitVec 32) : Fin 3 → Nat :=
  let c0_5199 : Index := 0#32
  let v4566 : Index := Scalar.indexCast v4563
  let c0_5200 : Index := 0#32
  ![0, v4566.toNat, 0]

def k0_chk567 (v4563 : BitVec 32) : Prop :=
  (∀ a, (k0_off1134 v4563) a + S7x1x512.size a ≤ S7x50x512.size a)
theorem k0_off1134_inb : ∀ (v4563 : BitVec 32) (k0_hw567 : k0_chk567 v4563), ∀ a, (k0_off1134 v4563) a + S7x1x512.size a ≤ S7x50x512.size a := fun v4563 k0_hw567 => k0_hw567

def k0_off1135 (i : grid0.Coords) : Fin 3 → Nat :=
  let c2_5201 : Index := 2#32
  let c6_5202 : Index := 6#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4569 : Index := Scalar.indexCast v4395
  ![2, 6, v4569.toNat]
def k0_off1136 (v4570 : BitVec 32) : Fin 3 → Nat :=
  let c0_5207 : Index := 0#32
  let v4573 : Index := Scalar.indexCast v4570
  let c0_5208 : Index := 0#32
  ![0, v4573.toNat, 0]

def k0_chk568 (v4570 : BitVec 32) : Prop :=
  (∀ a, (k0_off1136 v4570) a + S7x1x512.size a ≤ S7x50x512.size a)
theorem k0_off1136_inb : ∀ (v4570 : BitVec 32) (k0_hw568 : k0_chk568 v4570), ∀ a, (k0_off1136 v4570) a + S7x1x512.size a ≤ S7x50x512.size a := fun v4570 k0_hw568 => k0_hw568

def k0_off1137 (i : grid0.Coords) : Fin 3 → Nat :=
  let c3_5213 : Index := 3#32
  let c2_5214 : Index := 2#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4580 : Index := Scalar.indexCast v4395
  ![3, 2, v4580.toNat]
def k0_off1138 (v4581 : BitVec 32) : Fin 3 → Nat :=
  let c0_5219 : Index := 0#32
  let v4584 : Index := Scalar.indexCast v4581
  let c0_5220 : Index := 0#32
  ![0, v4584.toNat, 0]

def k0_chk569 (v4581 : BitVec 32) : Prop :=
  (∀ a, (k0_off1138 v4581) a + S7x1x512.size a ≤ S7x50x512.size a)
theorem k0_off1138_inb : ∀ (v4581 : BitVec 32) (k0_hw569 : k0_chk569 v4581), ∀ a, (k0_off1138 v4581) a + S7x1x512.size a ≤ S7x50x512.size a := fun v4581 k0_hw569 => k0_hw569

def k0_off1139 (i : grid0.Coords) : Fin 3 → Nat :=
  let c3_5221 : Index := 3#32
  let c3_5222 : Index := 3#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4586 : Index := Scalar.indexCast v4395
  ![3, 3, v4586.toNat]
def k0_off1140 (v4587 : BitVec 32) : Fin 3 → Nat :=
  let c0_5227 : Index := 0#32
  let v4590 : Index := Scalar.indexCast v4587
  let c0_5228 : Index := 0#32
  ![0, v4590.toNat, 0]

def k0_chk570 (v4587 : BitVec 32) : Prop :=
  (∀ a, (k0_off1140 v4587) a + S7x1x512.size a ≤ S7x50x512.size a)
theorem k0_off1140_inb : ∀ (v4587 : BitVec 32) (k0_hw570 : k0_chk570 v4587), ∀ a, (k0_off1140 v4587) a + S7x1x512.size a ≤ S7x50x512.size a := fun v4587 k0_hw570 => k0_hw570

def k0_off1141 (i : grid0.Coords) : Fin 3 → Nat :=
  let c3_5229 : Index := 3#32
  let c4_5230 : Index := 4#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4593 : Index := Scalar.indexCast v4395
  ![3, 4, v4593.toNat]
def k0_off1142 (v4594 : BitVec 32) : Fin 3 → Nat :=
  let c0_5235 : Index := 0#32
  let v4597 : Index := Scalar.indexCast v4594
  let c0_5236 : Index := 0#32
  ![0, v4597.toNat, 0]

def k0_chk571 (v4594 : BitVec 32) : Prop :=
  (∀ a, (k0_off1142 v4594) a + S7x1x512.size a ≤ S7x50x512.size a)
theorem k0_off1142_inb : ∀ (v4594 : BitVec 32) (k0_hw571 : k0_chk571 v4594), ∀ a, (k0_off1142 v4594) a + S7x1x512.size a ≤ S7x50x512.size a := fun v4594 k0_hw571 => k0_hw571

def k0_off1143 (i : grid0.Coords) : Fin 3 → Nat :=
  let c3_5237 : Index := 3#32
  let c5_5238 : Index := 5#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4600 : Index := Scalar.indexCast v4395
  ![3, 5, v4600.toNat]
def k0_off1144 (v4601 : BitVec 32) : Fin 3 → Nat :=
  let c0_5243 : Index := 0#32
  let v4604 : Index := Scalar.indexCast v4601
  let c0_5244 : Index := 0#32
  ![0, v4604.toNat, 0]

def k0_chk572 (v4601 : BitVec 32) : Prop :=
  (∀ a, (k0_off1144 v4601) a + S7x1x512.size a ≤ S7x50x512.size a)
theorem k0_off1144_inb : ∀ (v4601 : BitVec 32) (k0_hw572 : k0_chk572 v4601), ∀ a, (k0_off1144 v4601) a + S7x1x512.size a ≤ S7x50x512.size a := fun v4601 k0_hw572 => k0_hw572

def k0_off1145 (i : grid0.Coords) : Fin 3 → Nat :=
  let c3_5245 : Index := 3#32
  let c6_5246 : Index := 6#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4607 : Index := Scalar.indexCast v4395
  ![3, 6, v4607.toNat]
def k0_off1146 (v4608 : BitVec 32) : Fin 3 → Nat :=
  let c0_5251 : Index := 0#32
  let v4611 : Index := Scalar.indexCast v4608
  let c0_5252 : Index := 0#32
  ![0, v4611.toNat, 0]

def k0_chk573 (v4608 : BitVec 32) : Prop :=
  (∀ a, (k0_off1146 v4608) a + S7x1x512.size a ≤ S7x50x512.size a)
theorem k0_off1146_inb : ∀ (v4608 : BitVec 32) (k0_hw573 : k0_chk573 v4608), ∀ a, (k0_off1146 v4608) a + S7x1x512.size a ≤ S7x50x512.size a := fun v4608 k0_hw573 => k0_hw573

def k0_off1147 (i : grid0.Coords) : Fin 3 → Nat :=
  let c4_5257 : Index := 4#32
  let c2_5258 : Index := 2#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4618 : Index := Scalar.indexCast v4395
  ![4, 2, v4618.toNat]
def k0_off1148 (v4619 : BitVec 32) : Fin 3 → Nat :=
  let c0_5263 : Index := 0#32
  let v4622 : Index := Scalar.indexCast v4619
  let c0_5264 : Index := 0#32
  ![0, v4622.toNat, 0]

def k0_chk574 (v4619 : BitVec 32) : Prop :=
  (∀ a, (k0_off1148 v4619) a + S7x1x512.size a ≤ S7x50x512.size a)
theorem k0_off1148_inb : ∀ (v4619 : BitVec 32) (k0_hw574 : k0_chk574 v4619), ∀ a, (k0_off1148 v4619) a + S7x1x512.size a ≤ S7x50x512.size a := fun v4619 k0_hw574 => k0_hw574

def k0_off1149 (i : grid0.Coords) : Fin 3 → Nat :=
  let c4_5265 : Index := 4#32
  let c3_5266 : Index := 3#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4624 : Index := Scalar.indexCast v4395
  ![4, 3, v4624.toNat]
def k0_off1150 (v4625 : BitVec 32) : Fin 3 → Nat :=
  let c0_5271 : Index := 0#32
  let v4628 : Index := Scalar.indexCast v4625
  let c0_5272 : Index := 0#32
  ![0, v4628.toNat, 0]

def k0_chk575 (v4625 : BitVec 32) : Prop :=
  (∀ a, (k0_off1150 v4625) a + S7x1x512.size a ≤ S7x50x512.size a)
theorem k0_off1150_inb : ∀ (v4625 : BitVec 32) (k0_hw575 : k0_chk575 v4625), ∀ a, (k0_off1150 v4625) a + S7x1x512.size a ≤ S7x50x512.size a := fun v4625 k0_hw575 => k0_hw575

def k0_off1151 (i : grid0.Coords) : Fin 3 → Nat :=
  let c4_5273 : Index := 4#32
  let c4_5274 : Index := 4#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4631 : Index := Scalar.indexCast v4395
  ![4, 4, v4631.toNat]
def k0_off1152 (v4632 : BitVec 32) : Fin 3 → Nat :=
  let c0_5279 : Index := 0#32
  let v4635 : Index := Scalar.indexCast v4632
  let c0_5280 : Index := 0#32
  ![0, v4635.toNat, 0]

def k0_chk576 (v4632 : BitVec 32) : Prop :=
  (∀ a, (k0_off1152 v4632) a + S7x1x512.size a ≤ S7x50x512.size a)
theorem k0_off1152_inb : ∀ (v4632 : BitVec 32) (k0_hw576 : k0_chk576 v4632), ∀ a, (k0_off1152 v4632) a + S7x1x512.size a ≤ S7x50x512.size a := fun v4632 k0_hw576 => k0_hw576

def k0_off1153 (i : grid0.Coords) : Fin 3 → Nat :=
  let c4_5281 : Index := 4#32
  let c5_5282 : Index := 5#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4638 : Index := Scalar.indexCast v4395
  ![4, 5, v4638.toNat]
def k0_off1154 (v4639 : BitVec 32) : Fin 3 → Nat :=
  let c0_5287 : Index := 0#32
  let v4642 : Index := Scalar.indexCast v4639
  let c0_5288 : Index := 0#32
  ![0, v4642.toNat, 0]

def k0_chk577 (v4639 : BitVec 32) : Prop :=
  (∀ a, (k0_off1154 v4639) a + S7x1x512.size a ≤ S7x50x512.size a)
theorem k0_off1154_inb : ∀ (v4639 : BitVec 32) (k0_hw577 : k0_chk577 v4639), ∀ a, (k0_off1154 v4639) a + S7x1x512.size a ≤ S7x50x512.size a := fun v4639 k0_hw577 => k0_hw577

def k0_off1155 (i : grid0.Coords) : Fin 3 → Nat :=
  let c4_5289 : Index := 4#32
  let c6_5290 : Index := 6#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4645 : Index := Scalar.indexCast v4395
  ![4, 6, v4645.toNat]
def k0_off1156 (v4646 : BitVec 32) : Fin 3 → Nat :=
  let c0_5295 : Index := 0#32
  let v4649 : Index := Scalar.indexCast v4646
  let c0_5296 : Index := 0#32
  ![0, v4649.toNat, 0]

def k0_chk578 (v4646 : BitVec 32) : Prop :=
  (∀ a, (k0_off1156 v4646) a + S7x1x512.size a ≤ S7x50x512.size a)
theorem k0_off1156_inb : ∀ (v4646 : BitVec 32) (k0_hw578 : k0_chk578 v4646), ∀ a, (k0_off1156 v4646) a + S7x1x512.size a ≤ S7x50x512.size a := fun v4646 k0_hw578 => k0_hw578

def k0_off1157 (i : grid0.Coords) : Fin 3 → Nat :=
  let c5_5301 : Index := 5#32
  let c2_5302 : Index := 2#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4656 : Index := Scalar.indexCast v4395
  ![5, 2, v4656.toNat]
def k0_off1158 (v4657 : BitVec 32) : Fin 3 → Nat :=
  let c0_5307 : Index := 0#32
  let v4660 : Index := Scalar.indexCast v4657
  let c0_5308 : Index := 0#32
  ![0, v4660.toNat, 0]

def k0_chk579 (v4657 : BitVec 32) : Prop :=
  (∀ a, (k0_off1158 v4657) a + S7x1x512.size a ≤ S7x50x512.size a)
theorem k0_off1158_inb : ∀ (v4657 : BitVec 32) (k0_hw579 : k0_chk579 v4657), ∀ a, (k0_off1158 v4657) a + S7x1x512.size a ≤ S7x50x512.size a := fun v4657 k0_hw579 => k0_hw579

def k0_off1159 (i : grid0.Coords) : Fin 3 → Nat :=
  let c5_5309 : Index := 5#32
  let c3_5310 : Index := 3#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4662 : Index := Scalar.indexCast v4395
  ![5, 3, v4662.toNat]
def k0_off1160 (v4663 : BitVec 32) : Fin 3 → Nat :=
  let c0_5315 : Index := 0#32
  let v4666 : Index := Scalar.indexCast v4663
  let c0_5316 : Index := 0#32
  ![0, v4666.toNat, 0]

def k0_chk580 (v4663 : BitVec 32) : Prop :=
  (∀ a, (k0_off1160 v4663) a + S7x1x512.size a ≤ S7x50x512.size a)
theorem k0_off1160_inb : ∀ (v4663 : BitVec 32) (k0_hw580 : k0_chk580 v4663), ∀ a, (k0_off1160 v4663) a + S7x1x512.size a ≤ S7x50x512.size a := fun v4663 k0_hw580 => k0_hw580

def k0_off1161 (i : grid0.Coords) : Fin 3 → Nat :=
  let c5_5317 : Index := 5#32
  let c4_5318 : Index := 4#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4669 : Index := Scalar.indexCast v4395
  ![5, 4, v4669.toNat]
def k0_off1162 (v4670 : BitVec 32) : Fin 3 → Nat :=
  let c0_5323 : Index := 0#32
  let v4673 : Index := Scalar.indexCast v4670
  let c0_5324 : Index := 0#32
  ![0, v4673.toNat, 0]

def k0_chk581 (v4670 : BitVec 32) : Prop :=
  (∀ a, (k0_off1162 v4670) a + S7x1x512.size a ≤ S7x50x512.size a)
theorem k0_off1162_inb : ∀ (v4670 : BitVec 32) (k0_hw581 : k0_chk581 v4670), ∀ a, (k0_off1162 v4670) a + S7x1x512.size a ≤ S7x50x512.size a := fun v4670 k0_hw581 => k0_hw581

def k0_off1163 (i : grid0.Coords) : Fin 3 → Nat :=
  let c5_5325 : Index := 5#32
  let c5_5326 : Index := 5#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4676 : Index := Scalar.indexCast v4395
  ![5, 5, v4676.toNat]
def k0_off1164 (v4677 : BitVec 32) : Fin 3 → Nat :=
  let c0_5331 : Index := 0#32
  let v4680 : Index := Scalar.indexCast v4677
  let c0_5332 : Index := 0#32
  ![0, v4680.toNat, 0]

def k0_chk582 (v4677 : BitVec 32) : Prop :=
  (∀ a, (k0_off1164 v4677) a + S7x1x512.size a ≤ S7x50x512.size a)
theorem k0_off1164_inb : ∀ (v4677 : BitVec 32) (k0_hw582 : k0_chk582 v4677), ∀ a, (k0_off1164 v4677) a + S7x1x512.size a ≤ S7x50x512.size a := fun v4677 k0_hw582 => k0_hw582

def k0_off1165 (i : grid0.Coords) : Fin 3 → Nat :=
  let c5_5333 : Index := 5#32
  let c6_5334 : Index := 6#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4683 : Index := Scalar.indexCast v4395
  ![5, 6, v4683.toNat]
def k0_off1166 (v4684 : BitVec 32) : Fin 3 → Nat :=
  let c0_5339 : Index := 0#32
  let v4687 : Index := Scalar.indexCast v4684
  let c0_5340 : Index := 0#32
  ![0, v4687.toNat, 0]

def k0_chk583 (v4684 : BitVec 32) : Prop :=
  (∀ a, (k0_off1166 v4684) a + S7x1x512.size a ≤ S7x50x512.size a)
theorem k0_off1166_inb : ∀ (v4684 : BitVec 32) (k0_hw583 : k0_chk583 v4684), ∀ a, (k0_off1166 v4684) a + S7x1x512.size a ≤ S7x50x512.size a := fun v4684 k0_hw583 => k0_hw583

def k0_off1167 (i : grid0.Coords) : Fin 3 → Nat :=
  let c6_5345 : Index := 6#32
  let c2_5346 : Index := 2#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4694 : Index := Scalar.indexCast v4395
  ![6, 2, v4694.toNat]
def k0_off1168 (v4695 : BitVec 32) : Fin 3 → Nat :=
  let c0_5351 : Index := 0#32
  let v4698 : Index := Scalar.indexCast v4695
  let c0_5352 : Index := 0#32
  ![0, v4698.toNat, 0]

def k0_chk584 (v4695 : BitVec 32) : Prop :=
  (∀ a, (k0_off1168 v4695) a + S7x1x512.size a ≤ S7x50x512.size a)
theorem k0_off1168_inb : ∀ (v4695 : BitVec 32) (k0_hw584 : k0_chk584 v4695), ∀ a, (k0_off1168 v4695) a + S7x1x512.size a ≤ S7x50x512.size a := fun v4695 k0_hw584 => k0_hw584

def k0_off1169 (i : grid0.Coords) : Fin 3 → Nat :=
  let c6_5353 : Index := 6#32
  let c3_5354 : Index := 3#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4700 : Index := Scalar.indexCast v4395
  ![6, 3, v4700.toNat]
def k0_off1170 (v4701 : BitVec 32) : Fin 3 → Nat :=
  let c0_5359 : Index := 0#32
  let v4704 : Index := Scalar.indexCast v4701
  let c0_5360 : Index := 0#32
  ![0, v4704.toNat, 0]

def k0_chk585 (v4701 : BitVec 32) : Prop :=
  (∀ a, (k0_off1170 v4701) a + S7x1x512.size a ≤ S7x50x512.size a)
theorem k0_off1170_inb : ∀ (v4701 : BitVec 32) (k0_hw585 : k0_chk585 v4701), ∀ a, (k0_off1170 v4701) a + S7x1x512.size a ≤ S7x50x512.size a := fun v4701 k0_hw585 => k0_hw585

def k0_off1171 (i : grid0.Coords) : Fin 3 → Nat :=
  let c6_5361 : Index := 6#32
  let c4_5362 : Index := 4#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4707 : Index := Scalar.indexCast v4395
  ![6, 4, v4707.toNat]
def k0_off1172 (v4708 : BitVec 32) : Fin 3 → Nat :=
  let c0_5367 : Index := 0#32
  let v4711 : Index := Scalar.indexCast v4708
  let c0_5368 : Index := 0#32
  ![0, v4711.toNat, 0]

def k0_chk586 (v4708 : BitVec 32) : Prop :=
  (∀ a, (k0_off1172 v4708) a + S7x1x512.size a ≤ S7x50x512.size a)
theorem k0_off1172_inb : ∀ (v4708 : BitVec 32) (k0_hw586 : k0_chk586 v4708), ∀ a, (k0_off1172 v4708) a + S7x1x512.size a ≤ S7x50x512.size a := fun v4708 k0_hw586 => k0_hw586

def k0_off1173 (i : grid0.Coords) : Fin 3 → Nat :=
  let c6_5369 : Index := 6#32
  let c5_5370 : Index := 5#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4714 : Index := Scalar.indexCast v4395
  ![6, 5, v4714.toNat]
def k0_off1174 (v4715 : BitVec 32) : Fin 3 → Nat :=
  let c0_5375 : Index := 0#32
  let v4718 : Index := Scalar.indexCast v4715
  let c0_5376 : Index := 0#32
  ![0, v4718.toNat, 0]

def k0_chk587 (v4715 : BitVec 32) : Prop :=
  (∀ a, (k0_off1174 v4715) a + S7x1x512.size a ≤ S7x50x512.size a)
theorem k0_off1174_inb : ∀ (v4715 : BitVec 32) (k0_hw587 : k0_chk587 v4715), ∀ a, (k0_off1174 v4715) a + S7x1x512.size a ≤ S7x50x512.size a := fun v4715 k0_hw587 => k0_hw587

def k0_off1175 (i : grid0.Coords) : Fin 3 → Nat :=
  let c6_5377 : Index := 6#32
  let c6_5378 : Index := 6#32
  let arg0 : BitVec 32 := BitVec.ofNat 32 (i 0).val
  let c32_i32_5004 : BitVec 32 := 32#32
  let v4394 : BitVec 32 := Scalar.muli arg0 c32_i32_5004
  let c13_i32 : BitVec 32 := 13#32
  let v4395 : BitVec 32 := Scalar.addi v4394 c13_i32
  let v4721 : Index := Scalar.indexCast v4395
  ![6, 6, v4721.toNat]
def k0_off1176 (v4722 : BitVec 32) : Fin 3 → Nat :=
  let c0_5383 : Index := 0#32
  let v4725 : Index := Scalar.indexCast v4722
  let c0_5384 : Index := 0#32
  ![0, v4725.toNat, 0]

def k0_chk588 (v4722 : BitVec 32) : Prop :=
  (∀ a, (k0_off1176 v4722) a + S7x1x512.size a ≤ S7x50x512.size a)
theorem k0_off1176_inb : ∀ (v4722 : BitVec 32) (k0_hw588 : k0_chk588 v4722), ∀ a, (k0_off1176 v4722) a + S7x1x512.size a ≤ S7x50x512.size a := fun v4722 k0_hw588 => k0_hw588

def k0_off1177 (i : grid0.Coords) : Fin 3 → Nat :=
  let c0_5390 : Index := 0#32
  let c0_5391 : Index := 0#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4734 : Index := Scalar.indexCast v4733
  ![0, 0, v4734.toNat]
def k0_off1178 (v4735 : BitVec 32) : Fin 3 → Nat :=
  let v4736 : Index := Scalar.indexCast v4735
  let c0_5392 : Index := 0#32
  let c0_5393 : Index := 0#32
  ![v4736.toNat, 0, 0]

def k0_chk589 (v4735 : BitVec 32) : Prop :=
  (∀ a, (k0_off1178 v4735) a + S1x50x512.size a ≤ S250x50x512.size a)
theorem k0_off1178_inb : ∀ (v4735 : BitVec 32) (k0_hw589 : k0_chk589 v4735), ∀ a, (k0_off1178 v4735) a + S1x50x512.size a ≤ S250x50x512.size a := fun v4735 k0_hw589 => k0_hw589

def k0_off1179 (i : grid0.Coords) : Fin 3 → Nat :=
  let c1_5401 : Index := 1#32
  let c0_5402 : Index := 0#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4744 : Index := Scalar.indexCast v4733
  ![1, 0, v4744.toNat]
def k0_off1180 (v4745 : BitVec 32) : Fin 3 → Nat :=
  let v4746 : Index := Scalar.indexCast v4745
  let c0_5403 : Index := 0#32
  let c0_5404 : Index := 0#32
  ![v4746.toNat, 0, 0]

def k0_chk590 (v4745 : BitVec 32) : Prop :=
  (∀ a, (k0_off1180 v4745) a + S1x50x512.size a ≤ S250x50x512.size a)
theorem k0_off1180_inb : ∀ (v4745 : BitVec 32) (k0_hw590 : k0_chk590 v4745), ∀ a, (k0_off1180 v4745) a + S1x50x512.size a ≤ S250x50x512.size a := fun v4745 k0_hw590 => k0_hw590

def k0_off1181 (i : grid0.Coords) : Fin 3 → Nat :=
  let c2_5412 : Index := 2#32
  let c0_5413 : Index := 0#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4754 : Index := Scalar.indexCast v4733
  ![2, 0, v4754.toNat]
def k0_off1182 (v4755 : BitVec 32) : Fin 3 → Nat :=
  let v4756 : Index := Scalar.indexCast v4755
  let c0_5414 : Index := 0#32
  let c0_5415 : Index := 0#32
  ![v4756.toNat, 0, 0]

def k0_chk591 (v4755 : BitVec 32) : Prop :=
  (∀ a, (k0_off1182 v4755) a + S1x50x512.size a ≤ S250x50x512.size a)
theorem k0_off1182_inb : ∀ (v4755 : BitVec 32) (k0_hw591 : k0_chk591 v4755), ∀ a, (k0_off1182 v4755) a + S1x50x512.size a ≤ S250x50x512.size a := fun v4755 k0_hw591 => k0_hw591

def k0_off1183 (i : grid0.Coords) : Fin 3 → Nat :=
  let c3_5423 : Index := 3#32
  let c0_5424 : Index := 0#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4764 : Index := Scalar.indexCast v4733
  ![3, 0, v4764.toNat]
def k0_off1184 (v4765 : BitVec 32) : Fin 3 → Nat :=
  let v4766 : Index := Scalar.indexCast v4765
  let c0_5425 : Index := 0#32
  let c0_5426 : Index := 0#32
  ![v4766.toNat, 0, 0]

def k0_chk592 (v4765 : BitVec 32) : Prop :=
  (∀ a, (k0_off1184 v4765) a + S1x50x512.size a ≤ S250x50x512.size a)
theorem k0_off1184_inb : ∀ (v4765 : BitVec 32) (k0_hw592 : k0_chk592 v4765), ∀ a, (k0_off1184 v4765) a + S1x50x512.size a ≤ S250x50x512.size a := fun v4765 k0_hw592 => k0_hw592

def k0_off1185 (i : grid0.Coords) : Fin 3 → Nat :=
  let c4_5434 : Index := 4#32
  let c0_5435 : Index := 0#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4774 : Index := Scalar.indexCast v4733
  ![4, 0, v4774.toNat]
def k0_off1186 (v4775 : BitVec 32) : Fin 3 → Nat :=
  let v4776 : Index := Scalar.indexCast v4775
  let c0_5436 : Index := 0#32
  let c0_5437 : Index := 0#32
  ![v4776.toNat, 0, 0]

def k0_chk593 (v4775 : BitVec 32) : Prop :=
  (∀ a, (k0_off1186 v4775) a + S1x50x512.size a ≤ S250x50x512.size a)
theorem k0_off1186_inb : ∀ (v4775 : BitVec 32) (k0_hw593 : k0_chk593 v4775), ∀ a, (k0_off1186 v4775) a + S1x50x512.size a ≤ S250x50x512.size a := fun v4775 k0_hw593 => k0_hw593

def k0_off1187 (i : grid0.Coords) : Fin 3 → Nat :=
  let c5_5445 : Index := 5#32
  let c0_5446 : Index := 0#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4784 : Index := Scalar.indexCast v4733
  ![5, 0, v4784.toNat]
def k0_off1188 (v4785 : BitVec 32) : Fin 3 → Nat :=
  let v4786 : Index := Scalar.indexCast v4785
  let c0_5447 : Index := 0#32
  let c0_5448 : Index := 0#32
  ![v4786.toNat, 0, 0]

def k0_chk594 (v4785 : BitVec 32) : Prop :=
  (∀ a, (k0_off1188 v4785) a + S1x50x512.size a ≤ S250x50x512.size a)
theorem k0_off1188_inb : ∀ (v4785 : BitVec 32) (k0_hw594 : k0_chk594 v4785), ∀ a, (k0_off1188 v4785) a + S1x50x512.size a ≤ S250x50x512.size a := fun v4785 k0_hw594 => k0_hw594

def k0_off1189 (i : grid0.Coords) : Fin 3 → Nat :=
  let c6_5456 : Index := 6#32
  let c0_5457 : Index := 0#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4794 : Index := Scalar.indexCast v4733
  ![6, 0, v4794.toNat]
def k0_off1190 (v4795 : BitVec 32) : Fin 3 → Nat :=
  let v4796 : Index := Scalar.indexCast v4795
  let c0_5458 : Index := 0#32
  let c0_5459 : Index := 0#32
  ![v4796.toNat, 0, 0]

def k0_chk595 (v4795 : BitVec 32) : Prop :=
  (∀ a, (k0_off1190 v4795) a + S1x50x512.size a ≤ S250x50x512.size a)
theorem k0_off1190_inb : ∀ (v4795 : BitVec 32) (k0_hw595 : k0_chk595 v4795), ∀ a, (k0_off1190 v4795) a + S1x50x512.size a ≤ S250x50x512.size a := fun v4795 k0_hw595 => k0_hw595

def k0_off1191 (i : grid0.Coords) : Fin 3 → Nat :=
  let c0_5467 : Index := 0#32
  let c2_5468 : Index := 2#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4804 : Index := Scalar.indexCast v4733
  ![0, 2, v4804.toNat]
def k0_off1192 (v4805 : BitVec 32) : Fin 3 → Nat :=
  let c0_5473 : Index := 0#32
  let v4808 : Index := Scalar.indexCast v4805
  let c0_5474 : Index := 0#32
  ![0, v4808.toNat, 0]

def k0_chk596 (v4805 : BitVec 32) : Prop :=
  (∀ a, (k0_off1192 v4805) a + S7x1x512.size a ≤ S7x50x512.size a)
theorem k0_off1192_inb : ∀ (v4805 : BitVec 32) (k0_hw596 : k0_chk596 v4805), ∀ a, (k0_off1192 v4805) a + S7x1x512.size a ≤ S7x50x512.size a := fun v4805 k0_hw596 => k0_hw596

def k0_off1193 (i : grid0.Coords) : Fin 3 → Nat :=
  let c0_5475 : Index := 0#32
  let c3_5476 : Index := 3#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4810 : Index := Scalar.indexCast v4733
  ![0, 3, v4810.toNat]
def k0_off1194 (v4811 : BitVec 32) : Fin 3 → Nat :=
  let c0_5481 : Index := 0#32
  let v4814 : Index := Scalar.indexCast v4811
  let c0_5482 : Index := 0#32
  ![0, v4814.toNat, 0]

def k0_chk597 (v4811 : BitVec 32) : Prop :=
  (∀ a, (k0_off1194 v4811) a + S7x1x512.size a ≤ S7x50x512.size a)
theorem k0_off1194_inb : ∀ (v4811 : BitVec 32) (k0_hw597 : k0_chk597 v4811), ∀ a, (k0_off1194 v4811) a + S7x1x512.size a ≤ S7x50x512.size a := fun v4811 k0_hw597 => k0_hw597

def k0_off1195 (i : grid0.Coords) : Fin 3 → Nat :=
  let c0_5483 : Index := 0#32
  let c4_5484 : Index := 4#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4817 : Index := Scalar.indexCast v4733
  ![0, 4, v4817.toNat]
def k0_off1196 (v4818 : BitVec 32) : Fin 3 → Nat :=
  let c0_5489 : Index := 0#32
  let v4821 : Index := Scalar.indexCast v4818
  let c0_5490 : Index := 0#32
  ![0, v4821.toNat, 0]

def k0_chk598 (v4818 : BitVec 32) : Prop :=
  (∀ a, (k0_off1196 v4818) a + S7x1x512.size a ≤ S7x50x512.size a)
theorem k0_off1196_inb : ∀ (v4818 : BitVec 32) (k0_hw598 : k0_chk598 v4818), ∀ a, (k0_off1196 v4818) a + S7x1x512.size a ≤ S7x50x512.size a := fun v4818 k0_hw598 => k0_hw598

def k0_off1197 (i : grid0.Coords) : Fin 3 → Nat :=
  let c0_5491 : Index := 0#32
  let c5_5492 : Index := 5#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4824 : Index := Scalar.indexCast v4733
  ![0, 5, v4824.toNat]
def k0_off1198 (v4825 : BitVec 32) : Fin 3 → Nat :=
  let c0_5497 : Index := 0#32
  let v4828 : Index := Scalar.indexCast v4825
  let c0_5498 : Index := 0#32
  ![0, v4828.toNat, 0]

def k0_chk599 (v4825 : BitVec 32) : Prop :=
  (∀ a, (k0_off1198 v4825) a + S7x1x512.size a ≤ S7x50x512.size a)
theorem k0_off1198_inb : ∀ (v4825 : BitVec 32) (k0_hw599 : k0_chk599 v4825), ∀ a, (k0_off1198 v4825) a + S7x1x512.size a ≤ S7x50x512.size a := fun v4825 k0_hw599 => k0_hw599

def k0_off1199 (i : grid0.Coords) : Fin 3 → Nat :=
  let c0_5499 : Index := 0#32
  let c6_5500 : Index := 6#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4831 : Index := Scalar.indexCast v4733
  ![0, 6, v4831.toNat]
def k0_off1200 (v4832 : BitVec 32) : Fin 3 → Nat :=
  let c0_5505 : Index := 0#32
  let v4835 : Index := Scalar.indexCast v4832
  let c0_5506 : Index := 0#32
  ![0, v4835.toNat, 0]

def k0_chk600 (v4832 : BitVec 32) : Prop :=
  (∀ a, (k0_off1200 v4832) a + S7x1x512.size a ≤ S7x50x512.size a)
theorem k0_off1200_inb : ∀ (v4832 : BitVec 32) (k0_hw600 : k0_chk600 v4832), ∀ a, (k0_off1200 v4832) a + S7x1x512.size a ≤ S7x50x512.size a := fun v4832 k0_hw600 => k0_hw600

def k0_off1201 (i : grid0.Coords) : Fin 3 → Nat :=
  let c1_5510 : Index := 1#32
  let c2_5511 : Index := 2#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4842 : Index := Scalar.indexCast v4733
  ![1, 2, v4842.toNat]
def k0_off1202 (v4843 : BitVec 32) : Fin 3 → Nat :=
  let c0_5516 : Index := 0#32
  let v4846 : Index := Scalar.indexCast v4843
  let c0_5517 : Index := 0#32
  ![0, v4846.toNat, 0]

def k0_chk601 (v4843 : BitVec 32) : Prop :=
  (∀ a, (k0_off1202 v4843) a + S7x1x512.size a ≤ S7x50x512.size a)
theorem k0_off1202_inb : ∀ (v4843 : BitVec 32) (k0_hw601 : k0_chk601 v4843), ∀ a, (k0_off1202 v4843) a + S7x1x512.size a ≤ S7x50x512.size a := fun v4843 k0_hw601 => k0_hw601

def k0_off1203 (i : grid0.Coords) : Fin 3 → Nat :=
  let c1_5518 : Index := 1#32
  let c3_5519 : Index := 3#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4848 : Index := Scalar.indexCast v4733
  ![1, 3, v4848.toNat]
def k0_off1204 (v4849 : BitVec 32) : Fin 3 → Nat :=
  let c0_5524 : Index := 0#32
  let v4852 : Index := Scalar.indexCast v4849
  let c0_5525 : Index := 0#32
  ![0, v4852.toNat, 0]

def k0_chk602 (v4849 : BitVec 32) : Prop :=
  (∀ a, (k0_off1204 v4849) a + S7x1x512.size a ≤ S7x50x512.size a)
theorem k0_off1204_inb : ∀ (v4849 : BitVec 32) (k0_hw602 : k0_chk602 v4849), ∀ a, (k0_off1204 v4849) a + S7x1x512.size a ≤ S7x50x512.size a := fun v4849 k0_hw602 => k0_hw602

def k0_off1205 (i : grid0.Coords) : Fin 3 → Nat :=
  let c1_5526 : Index := 1#32
  let c4_5527 : Index := 4#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4855 : Index := Scalar.indexCast v4733
  ![1, 4, v4855.toNat]
def k0_off1206 (v4856 : BitVec 32) : Fin 3 → Nat :=
  let c0_5532 : Index := 0#32
  let v4859 : Index := Scalar.indexCast v4856
  let c0_5533 : Index := 0#32
  ![0, v4859.toNat, 0]

def k0_chk603 (v4856 : BitVec 32) : Prop :=
  (∀ a, (k0_off1206 v4856) a + S7x1x512.size a ≤ S7x50x512.size a)
theorem k0_off1206_inb : ∀ (v4856 : BitVec 32) (k0_hw603 : k0_chk603 v4856), ∀ a, (k0_off1206 v4856) a + S7x1x512.size a ≤ S7x50x512.size a := fun v4856 k0_hw603 => k0_hw603

def k0_off1207 (i : grid0.Coords) : Fin 3 → Nat :=
  let c1_5534 : Index := 1#32
  let c5_5535 : Index := 5#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4862 : Index := Scalar.indexCast v4733
  ![1, 5, v4862.toNat]
def k0_off1208 (v4863 : BitVec 32) : Fin 3 → Nat :=
  let c0_5540 : Index := 0#32
  let v4866 : Index := Scalar.indexCast v4863
  let c0_5541 : Index := 0#32
  ![0, v4866.toNat, 0]

def k0_chk604 (v4863 : BitVec 32) : Prop :=
  (∀ a, (k0_off1208 v4863) a + S7x1x512.size a ≤ S7x50x512.size a)
theorem k0_off1208_inb : ∀ (v4863 : BitVec 32) (k0_hw604 : k0_chk604 v4863), ∀ a, (k0_off1208 v4863) a + S7x1x512.size a ≤ S7x50x512.size a := fun v4863 k0_hw604 => k0_hw604

def k0_off1209 (i : grid0.Coords) : Fin 3 → Nat :=
  let c1_5542 : Index := 1#32
  let c6_5543 : Index := 6#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4869 : Index := Scalar.indexCast v4733
  ![1, 6, v4869.toNat]
def k0_off1210 (v4870 : BitVec 32) : Fin 3 → Nat :=
  let c0_5548 : Index := 0#32
  let v4873 : Index := Scalar.indexCast v4870
  let c0_5549 : Index := 0#32
  ![0, v4873.toNat, 0]

def k0_chk605 (v4870 : BitVec 32) : Prop :=
  (∀ a, (k0_off1210 v4870) a + S7x1x512.size a ≤ S7x50x512.size a)
theorem k0_off1210_inb : ∀ (v4870 : BitVec 32) (k0_hw605 : k0_chk605 v4870), ∀ a, (k0_off1210 v4870) a + S7x1x512.size a ≤ S7x50x512.size a := fun v4870 k0_hw605 => k0_hw605

def k0_off1211 (i : grid0.Coords) : Fin 3 → Nat :=
  let c2_5554 : Index := 2#32
  let c2_5555 : Index := 2#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4880 : Index := Scalar.indexCast v4733
  ![2, 2, v4880.toNat]
def k0_off1212 (v4881 : BitVec 32) : Fin 3 → Nat :=
  let c0_5560 : Index := 0#32
  let v4884 : Index := Scalar.indexCast v4881
  let c0_5561 : Index := 0#32
  ![0, v4884.toNat, 0]

def k0_chk606 (v4881 : BitVec 32) : Prop :=
  (∀ a, (k0_off1212 v4881) a + S7x1x512.size a ≤ S7x50x512.size a)
theorem k0_off1212_inb : ∀ (v4881 : BitVec 32) (k0_hw606 : k0_chk606 v4881), ∀ a, (k0_off1212 v4881) a + S7x1x512.size a ≤ S7x50x512.size a := fun v4881 k0_hw606 => k0_hw606

def k0_off1213 (i : grid0.Coords) : Fin 3 → Nat :=
  let c2_5562 : Index := 2#32
  let c3_5563 : Index := 3#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4886 : Index := Scalar.indexCast v4733
  ![2, 3, v4886.toNat]
def k0_off1214 (v4887 : BitVec 32) : Fin 3 → Nat :=
  let c0_5568 : Index := 0#32
  let v4890 : Index := Scalar.indexCast v4887
  let c0_5569 : Index := 0#32
  ![0, v4890.toNat, 0]

def k0_chk607 (v4887 : BitVec 32) : Prop :=
  (∀ a, (k0_off1214 v4887) a + S7x1x512.size a ≤ S7x50x512.size a)
theorem k0_off1214_inb : ∀ (v4887 : BitVec 32) (k0_hw607 : k0_chk607 v4887), ∀ a, (k0_off1214 v4887) a + S7x1x512.size a ≤ S7x50x512.size a := fun v4887 k0_hw607 => k0_hw607

def k0_off1215 (i : grid0.Coords) : Fin 3 → Nat :=
  let c2_5570 : Index := 2#32
  let c4_5571 : Index := 4#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4893 : Index := Scalar.indexCast v4733
  ![2, 4, v4893.toNat]
def k0_off1216 (v4894 : BitVec 32) : Fin 3 → Nat :=
  let c0_5576 : Index := 0#32
  let v4897 : Index := Scalar.indexCast v4894
  let c0_5577 : Index := 0#32
  ![0, v4897.toNat, 0]

def k0_chk608 (v4894 : BitVec 32) : Prop :=
  (∀ a, (k0_off1216 v4894) a + S7x1x512.size a ≤ S7x50x512.size a)
theorem k0_off1216_inb : ∀ (v4894 : BitVec 32) (k0_hw608 : k0_chk608 v4894), ∀ a, (k0_off1216 v4894) a + S7x1x512.size a ≤ S7x50x512.size a := fun v4894 k0_hw608 => k0_hw608

def k0_off1217 (i : grid0.Coords) : Fin 3 → Nat :=
  let c2_5578 : Index := 2#32
  let c5_5579 : Index := 5#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4900 : Index := Scalar.indexCast v4733
  ![2, 5, v4900.toNat]
def k0_off1218 (v4901 : BitVec 32) : Fin 3 → Nat :=
  let c0_5584 : Index := 0#32
  let v4904 : Index := Scalar.indexCast v4901
  let c0_5585 : Index := 0#32
  ![0, v4904.toNat, 0]

def k0_chk609 (v4901 : BitVec 32) : Prop :=
  (∀ a, (k0_off1218 v4901) a + S7x1x512.size a ≤ S7x50x512.size a)
theorem k0_off1218_inb : ∀ (v4901 : BitVec 32) (k0_hw609 : k0_chk609 v4901), ∀ a, (k0_off1218 v4901) a + S7x1x512.size a ≤ S7x50x512.size a := fun v4901 k0_hw609 => k0_hw609

def k0_off1219 (i : grid0.Coords) : Fin 3 → Nat :=
  let c2_5586 : Index := 2#32
  let c6_5587 : Index := 6#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4907 : Index := Scalar.indexCast v4733
  ![2, 6, v4907.toNat]
def k0_off1220 (v4908 : BitVec 32) : Fin 3 → Nat :=
  let c0_5592 : Index := 0#32
  let v4911 : Index := Scalar.indexCast v4908
  let c0_5593 : Index := 0#32
  ![0, v4911.toNat, 0]

def k0_chk610 (v4908 : BitVec 32) : Prop :=
  (∀ a, (k0_off1220 v4908) a + S7x1x512.size a ≤ S7x50x512.size a)
theorem k0_off1220_inb : ∀ (v4908 : BitVec 32) (k0_hw610 : k0_chk610 v4908), ∀ a, (k0_off1220 v4908) a + S7x1x512.size a ≤ S7x50x512.size a := fun v4908 k0_hw610 => k0_hw610

def k0_off1221 (i : grid0.Coords) : Fin 3 → Nat :=
  let c3_5598 : Index := 3#32
  let c2_5599 : Index := 2#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4918 : Index := Scalar.indexCast v4733
  ![3, 2, v4918.toNat]
def k0_off1222 (v4919 : BitVec 32) : Fin 3 → Nat :=
  let c0_5604 : Index := 0#32
  let v4922 : Index := Scalar.indexCast v4919
  let c0_5605 : Index := 0#32
  ![0, v4922.toNat, 0]

def k0_chk611 (v4919 : BitVec 32) : Prop :=
  (∀ a, (k0_off1222 v4919) a + S7x1x512.size a ≤ S7x50x512.size a)
theorem k0_off1222_inb : ∀ (v4919 : BitVec 32) (k0_hw611 : k0_chk611 v4919), ∀ a, (k0_off1222 v4919) a + S7x1x512.size a ≤ S7x50x512.size a := fun v4919 k0_hw611 => k0_hw611

def k0_off1223 (i : grid0.Coords) : Fin 3 → Nat :=
  let c3_5606 : Index := 3#32
  let c3_5607 : Index := 3#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4924 : Index := Scalar.indexCast v4733
  ![3, 3, v4924.toNat]
def k0_off1224 (v4925 : BitVec 32) : Fin 3 → Nat :=
  let c0_5612 : Index := 0#32
  let v4928 : Index := Scalar.indexCast v4925
  let c0_5613 : Index := 0#32
  ![0, v4928.toNat, 0]

def k0_chk612 (v4925 : BitVec 32) : Prop :=
  (∀ a, (k0_off1224 v4925) a + S7x1x512.size a ≤ S7x50x512.size a)
theorem k0_off1224_inb : ∀ (v4925 : BitVec 32) (k0_hw612 : k0_chk612 v4925), ∀ a, (k0_off1224 v4925) a + S7x1x512.size a ≤ S7x50x512.size a := fun v4925 k0_hw612 => k0_hw612

def k0_off1225 (i : grid0.Coords) : Fin 3 → Nat :=
  let c3_5614 : Index := 3#32
  let c4_5615 : Index := 4#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4931 : Index := Scalar.indexCast v4733
  ![3, 4, v4931.toNat]
def k0_off1226 (v4932 : BitVec 32) : Fin 3 → Nat :=
  let c0_5620 : Index := 0#32
  let v4935 : Index := Scalar.indexCast v4932
  let c0_5621 : Index := 0#32
  ![0, v4935.toNat, 0]

def k0_chk613 (v4932 : BitVec 32) : Prop :=
  (∀ a, (k0_off1226 v4932) a + S7x1x512.size a ≤ S7x50x512.size a)
theorem k0_off1226_inb : ∀ (v4932 : BitVec 32) (k0_hw613 : k0_chk613 v4932), ∀ a, (k0_off1226 v4932) a + S7x1x512.size a ≤ S7x50x512.size a := fun v4932 k0_hw613 => k0_hw613

def k0_off1227 (i : grid0.Coords) : Fin 3 → Nat :=
  let c3_5622 : Index := 3#32
  let c5_5623 : Index := 5#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4938 : Index := Scalar.indexCast v4733
  ![3, 5, v4938.toNat]
def k0_off1228 (v4939 : BitVec 32) : Fin 3 → Nat :=
  let c0_5628 : Index := 0#32
  let v4942 : Index := Scalar.indexCast v4939
  let c0_5629 : Index := 0#32
  ![0, v4942.toNat, 0]

def k0_chk614 (v4939 : BitVec 32) : Prop :=
  (∀ a, (k0_off1228 v4939) a + S7x1x512.size a ≤ S7x50x512.size a)
theorem k0_off1228_inb : ∀ (v4939 : BitVec 32) (k0_hw614 : k0_chk614 v4939), ∀ a, (k0_off1228 v4939) a + S7x1x512.size a ≤ S7x50x512.size a := fun v4939 k0_hw614 => k0_hw614

def k0_off1229 (i : grid0.Coords) : Fin 3 → Nat :=
  let c3_5630 : Index := 3#32
  let c6_5631 : Index := 6#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4945 : Index := Scalar.indexCast v4733
  ![3, 6, v4945.toNat]
def k0_off1230 (v4946 : BitVec 32) : Fin 3 → Nat :=
  let c0_5636 : Index := 0#32
  let v4949 : Index := Scalar.indexCast v4946
  let c0_5637 : Index := 0#32
  ![0, v4949.toNat, 0]

def k0_chk615 (v4946 : BitVec 32) : Prop :=
  (∀ a, (k0_off1230 v4946) a + S7x1x512.size a ≤ S7x50x512.size a)
theorem k0_off1230_inb : ∀ (v4946 : BitVec 32) (k0_hw615 : k0_chk615 v4946), ∀ a, (k0_off1230 v4946) a + S7x1x512.size a ≤ S7x50x512.size a := fun v4946 k0_hw615 => k0_hw615

def k0_off1231 (i : grid0.Coords) : Fin 3 → Nat :=
  let c4_5642 : Index := 4#32
  let c2_5643 : Index := 2#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4956 : Index := Scalar.indexCast v4733
  ![4, 2, v4956.toNat]
def k0_off1232 (v4957 : BitVec 32) : Fin 3 → Nat :=
  let c0_5648 : Index := 0#32
  let v4960 : Index := Scalar.indexCast v4957
  let c0_5649 : Index := 0#32
  ![0, v4960.toNat, 0]

def k0_chk616 (v4957 : BitVec 32) : Prop :=
  (∀ a, (k0_off1232 v4957) a + S7x1x512.size a ≤ S7x50x512.size a)
theorem k0_off1232_inb : ∀ (v4957 : BitVec 32) (k0_hw616 : k0_chk616 v4957), ∀ a, (k0_off1232 v4957) a + S7x1x512.size a ≤ S7x50x512.size a := fun v4957 k0_hw616 => k0_hw616

def k0_off1233 (i : grid0.Coords) : Fin 3 → Nat :=
  let c4_5650 : Index := 4#32
  let c3_5651 : Index := 3#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4962 : Index := Scalar.indexCast v4733
  ![4, 3, v4962.toNat]
def k0_off1234 (v4963 : BitVec 32) : Fin 3 → Nat :=
  let c0_5656 : Index := 0#32
  let v4966 : Index := Scalar.indexCast v4963
  let c0_5657 : Index := 0#32
  ![0, v4966.toNat, 0]

def k0_chk617 (v4963 : BitVec 32) : Prop :=
  (∀ a, (k0_off1234 v4963) a + S7x1x512.size a ≤ S7x50x512.size a)
theorem k0_off1234_inb : ∀ (v4963 : BitVec 32) (k0_hw617 : k0_chk617 v4963), ∀ a, (k0_off1234 v4963) a + S7x1x512.size a ≤ S7x50x512.size a := fun v4963 k0_hw617 => k0_hw617

def k0_off1235 (i : grid0.Coords) : Fin 3 → Nat :=
  let c4_5658 : Index := 4#32
  let c4_5659 : Index := 4#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4969 : Index := Scalar.indexCast v4733
  ![4, 4, v4969.toNat]
def k0_off1236 (v4970 : BitVec 32) : Fin 3 → Nat :=
  let c0_5664 : Index := 0#32
  let v4973 : Index := Scalar.indexCast v4970
  let c0_5665 : Index := 0#32
  ![0, v4973.toNat, 0]

def k0_chk618 (v4970 : BitVec 32) : Prop :=
  (∀ a, (k0_off1236 v4970) a + S7x1x512.size a ≤ S7x50x512.size a)
theorem k0_off1236_inb : ∀ (v4970 : BitVec 32) (k0_hw618 : k0_chk618 v4970), ∀ a, (k0_off1236 v4970) a + S7x1x512.size a ≤ S7x50x512.size a := fun v4970 k0_hw618 => k0_hw618

def k0_off1237 (i : grid0.Coords) : Fin 3 → Nat :=
  let c4_5666 : Index := 4#32
  let c5_5667 : Index := 5#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4976 : Index := Scalar.indexCast v4733
  ![4, 5, v4976.toNat]
def k0_off1238 (v4977 : BitVec 32) : Fin 3 → Nat :=
  let c0_5672 : Index := 0#32
  let v4980 : Index := Scalar.indexCast v4977
  let c0_5673 : Index := 0#32
  ![0, v4980.toNat, 0]

def k0_chk619 (v4977 : BitVec 32) : Prop :=
  (∀ a, (k0_off1238 v4977) a + S7x1x512.size a ≤ S7x50x512.size a)
theorem k0_off1238_inb : ∀ (v4977 : BitVec 32) (k0_hw619 : k0_chk619 v4977), ∀ a, (k0_off1238 v4977) a + S7x1x512.size a ≤ S7x50x512.size a := fun v4977 k0_hw619 => k0_hw619

def k0_off1239 (i : grid0.Coords) : Fin 3 → Nat :=
  let c4_5674 : Index := 4#32
  let c6_5675 : Index := 6#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4983 : Index := Scalar.indexCast v4733
  ![4, 6, v4983.toNat]
def k0_off1240 (v4984 : BitVec 32) : Fin 3 → Nat :=
  let c0_5680 : Index := 0#32
  let v4987 : Index := Scalar.indexCast v4984
  let c0_5681 : Index := 0#32
  ![0, v4987.toNat, 0]

def k0_chk620 (v4984 : BitVec 32) : Prop :=
  (∀ a, (k0_off1240 v4984) a + S7x1x512.size a ≤ S7x50x512.size a)
theorem k0_off1240_inb : ∀ (v4984 : BitVec 32) (k0_hw620 : k0_chk620 v4984), ∀ a, (k0_off1240 v4984) a + S7x1x512.size a ≤ S7x50x512.size a := fun v4984 k0_hw620 => k0_hw620

def k0_off1241 (i : grid0.Coords) : Fin 3 → Nat :=
  let c5_5686 : Index := 5#32
  let c2_5687 : Index := 2#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v4994 : Index := Scalar.indexCast v4733
  ![5, 2, v4994.toNat]
def k0_off1242 (v4995 : BitVec 32) : Fin 3 → Nat :=
  let c0_5692 : Index := 0#32
  let v4998 : Index := Scalar.indexCast v4995
  let c0_5693 : Index := 0#32
  ![0, v4998.toNat, 0]

def k0_chk621 (v4995 : BitVec 32) : Prop :=
  (∀ a, (k0_off1242 v4995) a + S7x1x512.size a ≤ S7x50x512.size a)
theorem k0_off1242_inb : ∀ (v4995 : BitVec 32) (k0_hw621 : k0_chk621 v4995), ∀ a, (k0_off1242 v4995) a + S7x1x512.size a ≤ S7x50x512.size a := fun v4995 k0_hw621 => k0_hw621

def k0_off1243 (i : grid0.Coords) : Fin 3 → Nat :=
  let c5_5694 : Index := 5#32
  let c3_5695 : Index := 3#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v5000 : Index := Scalar.indexCast v4733
  ![5, 3, v5000.toNat]
def k0_off1244 (v5001 : BitVec 32) : Fin 3 → Nat :=
  let c0_5700 : Index := 0#32
  let v5004 : Index := Scalar.indexCast v5001
  let c0_5701 : Index := 0#32
  ![0, v5004.toNat, 0]

def k0_chk622 (v5001 : BitVec 32) : Prop :=
  (∀ a, (k0_off1244 v5001) a + S7x1x512.size a ≤ S7x50x512.size a)
theorem k0_off1244_inb : ∀ (v5001 : BitVec 32) (k0_hw622 : k0_chk622 v5001), ∀ a, (k0_off1244 v5001) a + S7x1x512.size a ≤ S7x50x512.size a := fun v5001 k0_hw622 => k0_hw622

def k0_off1245 (i : grid0.Coords) : Fin 3 → Nat :=
  let c5_5702 : Index := 5#32
  let c4_5703 : Index := 4#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v5007 : Index := Scalar.indexCast v4733
  ![5, 4, v5007.toNat]
def k0_off1246 (v5008 : BitVec 32) : Fin 3 → Nat :=
  let c0_5708 : Index := 0#32
  let v5011 : Index := Scalar.indexCast v5008
  let c0_5709 : Index := 0#32
  ![0, v5011.toNat, 0]

def k0_chk623 (v5008 : BitVec 32) : Prop :=
  (∀ a, (k0_off1246 v5008) a + S7x1x512.size a ≤ S7x50x512.size a)
theorem k0_off1246_inb : ∀ (v5008 : BitVec 32) (k0_hw623 : k0_chk623 v5008), ∀ a, (k0_off1246 v5008) a + S7x1x512.size a ≤ S7x50x512.size a := fun v5008 k0_hw623 => k0_hw623

def k0_off1247 (i : grid0.Coords) : Fin 3 → Nat :=
  let c5_5710 : Index := 5#32
  let c5_5711 : Index := 5#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v5014 : Index := Scalar.indexCast v4733
  ![5, 5, v5014.toNat]
def k0_off1248 (v5015 : BitVec 32) : Fin 3 → Nat :=
  let c0_5716 : Index := 0#32
  let v5018 : Index := Scalar.indexCast v5015
  let c0_5717 : Index := 0#32
  ![0, v5018.toNat, 0]

def k0_chk624 (v5015 : BitVec 32) : Prop :=
  (∀ a, (k0_off1248 v5015) a + S7x1x512.size a ≤ S7x50x512.size a)
theorem k0_off1248_inb : ∀ (v5015 : BitVec 32) (k0_hw624 : k0_chk624 v5015), ∀ a, (k0_off1248 v5015) a + S7x1x512.size a ≤ S7x50x512.size a := fun v5015 k0_hw624 => k0_hw624

def k0_off1249 (i : grid0.Coords) : Fin 3 → Nat :=
  let c5_5718 : Index := 5#32
  let c6_5719 : Index := 6#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v5021 : Index := Scalar.indexCast v4733
  ![5, 6, v5021.toNat]
def k0_off1250 (v5022 : BitVec 32) : Fin 3 → Nat :=
  let c0_5724 : Index := 0#32
  let v5025 : Index := Scalar.indexCast v5022
  let c0_5725 : Index := 0#32
  ![0, v5025.toNat, 0]

def k0_chk625 (v5022 : BitVec 32) : Prop :=
  (∀ a, (k0_off1250 v5022) a + S7x1x512.size a ≤ S7x50x512.size a)
theorem k0_off1250_inb : ∀ (v5022 : BitVec 32) (k0_hw625 : k0_chk625 v5022), ∀ a, (k0_off1250 v5022) a + S7x1x512.size a ≤ S7x50x512.size a := fun v5022 k0_hw625 => k0_hw625

def k0_off1251 (i : grid0.Coords) : Fin 3 → Nat :=
  let c6_5730 : Index := 6#32
  let c2_5731 : Index := 2#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v5032 : Index := Scalar.indexCast v4733
  ![6, 2, v5032.toNat]
def k0_off1252 (v5033 : BitVec 32) : Fin 3 → Nat :=
  let c0_5736 : Index := 0#32
  let v5036 : Index := Scalar.indexCast v5033
  let c0_5737 : Index := 0#32
  ![0, v5036.toNat, 0]

def k0_chk626 (v5033 : BitVec 32) : Prop :=
  (∀ a, (k0_off1252 v5033) a + S7x1x512.size a ≤ S7x50x512.size a)
theorem k0_off1252_inb : ∀ (v5033 : BitVec 32) (k0_hw626 : k0_chk626 v5033), ∀ a, (k0_off1252 v5033) a + S7x1x512.size a ≤ S7x50x512.size a := fun v5033 k0_hw626 => k0_hw626

def k0_off1253 (i : grid0.Coords) : Fin 3 → Nat :=
  let c6_5738 : Index := 6#32
  let c3_5739 : Index := 3#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v5038 : Index := Scalar.indexCast v4733
  ![6, 3, v5038.toNat]
def k0_off1254 (v5039 : BitVec 32) : Fin 3 → Nat :=
  let c0_5744 : Index := 0#32
  let v5042 : Index := Scalar.indexCast v5039
  let c0_5745 : Index := 0#32
  ![0, v5042.toNat, 0]

def k0_chk627 (v5039 : BitVec 32) : Prop :=
  (∀ a, (k0_off1254 v5039) a + S7x1x512.size a ≤ S7x50x512.size a)
theorem k0_off1254_inb : ∀ (v5039 : BitVec 32) (k0_hw627 : k0_chk627 v5039), ∀ a, (k0_off1254 v5039) a + S7x1x512.size a ≤ S7x50x512.size a := fun v5039 k0_hw627 => k0_hw627

def k0_off1255 (i : grid0.Coords) : Fin 3 → Nat :=
  let c6_5746 : Index := 6#32
  let c4_5747 : Index := 4#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v5045 : Index := Scalar.indexCast v4733
  ![6, 4, v5045.toNat]
def k0_off1256 (v5046 : BitVec 32) : Fin 3 → Nat :=
  let c0_5752 : Index := 0#32
  let v5049 : Index := Scalar.indexCast v5046
  let c0_5753 : Index := 0#32
  ![0, v5049.toNat, 0]

def k0_chk628 (v5046 : BitVec 32) : Prop :=
  (∀ a, (k0_off1256 v5046) a + S7x1x512.size a ≤ S7x50x512.size a)
theorem k0_off1256_inb : ∀ (v5046 : BitVec 32) (k0_hw628 : k0_chk628 v5046), ∀ a, (k0_off1256 v5046) a + S7x1x512.size a ≤ S7x50x512.size a := fun v5046 k0_hw628 => k0_hw628

def k0_off1257 (i : grid0.Coords) : Fin 3 → Nat :=
  let c6_5754 : Index := 6#32
  let c5_5755 : Index := 5#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v5052 : Index := Scalar.indexCast v4733
  ![6, 5, v5052.toNat]
def k0_off1258 (v5053 : BitVec 32) : Fin 3 → Nat :=
  let c0_5760 : Index := 0#32
  let v5056 : Index := Scalar.indexCast v5053
  let c0_5761 : Index := 0#32
  ![0, v5056.toNat, 0]

def k0_chk629 (v5053 : BitVec 32) : Prop :=
  (∀ a, (k0_off1258 v5053) a + S7x1x512.size a ≤ S7x50x512.size a)
theorem k0_off1258_inb : ∀ (v5053 : BitVec 32) (k0_hw629 : k0_chk629 v5053), ∀ a, (k0_off1258 v5053) a + S7x1x512.size a ≤ S7x50x512.size a := fun v5053 k0_hw629 => k0_hw629

def k0_off1259 (i : grid0.Coords) : Fin 3 → Nat :=
  let c6_5762 : Index := 6#32
  let c6_5763 : Index := 6#32
  let arg0 : BitVec 32 := BitVec.ofNat 32 (i 0).val
  let c32_i32_5389 : BitVec 32 := 32#32
  let v4732 : BitVec 32 := Scalar.muli arg0 c32_i32_5389
  let c14_i32 : BitVec 32 := 14#32
  let v4733 : BitVec 32 := Scalar.addi v4732 c14_i32
  let v5059 : Index := Scalar.indexCast v4733
  ![6, 6, v5059.toNat]
def k0_off1260 (v5060 : BitVec 32) : Fin 3 → Nat :=
  let c0_5768 : Index := 0#32
  let v5063 : Index := Scalar.indexCast v5060
  let c0_5769 : Index := 0#32
  ![0, v5063.toNat, 0]

def k0_chk630 (v5060 : BitVec 32) : Prop :=
  (∀ a, (k0_off1260 v5060) a + S7x1x512.size a ≤ S7x50x512.size a)
theorem k0_off1260_inb : ∀ (v5060 : BitVec 32) (k0_hw630 : k0_chk630 v5060), ∀ a, (k0_off1260 v5060) a + S7x1x512.size a ≤ S7x50x512.size a := fun v5060 k0_hw630 => k0_hw630

def k0_off1261 (i : grid0.Coords) : Fin 3 → Nat :=
  let c0_5775 : Index := 0#32
  let c0_5776 : Index := 0#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5072 : Index := Scalar.indexCast v5071
  ![0, 0, v5072.toNat]
def k0_off1262 (v5073 : BitVec 32) : Fin 3 → Nat :=
  let v5074 : Index := Scalar.indexCast v5073
  let c0_5777 : Index := 0#32
  let c0_5778 : Index := 0#32
  ![v5074.toNat, 0, 0]

def k0_chk631 (v5073 : BitVec 32) : Prop :=
  (∀ a, (k0_off1262 v5073) a + S1x50x512.size a ≤ S250x50x512.size a)
theorem k0_off1262_inb : ∀ (v5073 : BitVec 32) (k0_hw631 : k0_chk631 v5073), ∀ a, (k0_off1262 v5073) a + S1x50x512.size a ≤ S250x50x512.size a := fun v5073 k0_hw631 => k0_hw631

def k0_off1263 (i : grid0.Coords) : Fin 3 → Nat :=
  let c1_5786 : Index := 1#32
  let c0_5787 : Index := 0#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5082 : Index := Scalar.indexCast v5071
  ![1, 0, v5082.toNat]
def k0_off1264 (v5083 : BitVec 32) : Fin 3 → Nat :=
  let v5084 : Index := Scalar.indexCast v5083
  let c0_5788 : Index := 0#32
  let c0_5789 : Index := 0#32
  ![v5084.toNat, 0, 0]

def k0_chk632 (v5083 : BitVec 32) : Prop :=
  (∀ a, (k0_off1264 v5083) a + S1x50x512.size a ≤ S250x50x512.size a)
theorem k0_off1264_inb : ∀ (v5083 : BitVec 32) (k0_hw632 : k0_chk632 v5083), ∀ a, (k0_off1264 v5083) a + S1x50x512.size a ≤ S250x50x512.size a := fun v5083 k0_hw632 => k0_hw632

def k0_off1265 (i : grid0.Coords) : Fin 3 → Nat :=
  let c2_5797 : Index := 2#32
  let c0_5798 : Index := 0#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5092 : Index := Scalar.indexCast v5071
  ![2, 0, v5092.toNat]
def k0_off1266 (v5093 : BitVec 32) : Fin 3 → Nat :=
  let v5094 : Index := Scalar.indexCast v5093
  let c0_5799 : Index := 0#32
  let c0_5800 : Index := 0#32
  ![v5094.toNat, 0, 0]

def k0_chk633 (v5093 : BitVec 32) : Prop :=
  (∀ a, (k0_off1266 v5093) a + S1x50x512.size a ≤ S250x50x512.size a)
theorem k0_off1266_inb : ∀ (v5093 : BitVec 32) (k0_hw633 : k0_chk633 v5093), ∀ a, (k0_off1266 v5093) a + S1x50x512.size a ≤ S250x50x512.size a := fun v5093 k0_hw633 => k0_hw633

def k0_off1267 (i : grid0.Coords) : Fin 3 → Nat :=
  let c3_5808 : Index := 3#32
  let c0_5809 : Index := 0#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5102 : Index := Scalar.indexCast v5071
  ![3, 0, v5102.toNat]
def k0_off1268 (v5103 : BitVec 32) : Fin 3 → Nat :=
  let v5104 : Index := Scalar.indexCast v5103
  let c0_5810 : Index := 0#32
  let c0_5811 : Index := 0#32
  ![v5104.toNat, 0, 0]

def k0_chk634 (v5103 : BitVec 32) : Prop :=
  (∀ a, (k0_off1268 v5103) a + S1x50x512.size a ≤ S250x50x512.size a)
theorem k0_off1268_inb : ∀ (v5103 : BitVec 32) (k0_hw634 : k0_chk634 v5103), ∀ a, (k0_off1268 v5103) a + S1x50x512.size a ≤ S250x50x512.size a := fun v5103 k0_hw634 => k0_hw634

def k0_off1269 (i : grid0.Coords) : Fin 3 → Nat :=
  let c4_5819 : Index := 4#32
  let c0_5820 : Index := 0#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5112 : Index := Scalar.indexCast v5071
  ![4, 0, v5112.toNat]
def k0_off1270 (v5113 : BitVec 32) : Fin 3 → Nat :=
  let v5114 : Index := Scalar.indexCast v5113
  let c0_5821 : Index := 0#32
  let c0_5822 : Index := 0#32
  ![v5114.toNat, 0, 0]

def k0_chk635 (v5113 : BitVec 32) : Prop :=
  (∀ a, (k0_off1270 v5113) a + S1x50x512.size a ≤ S250x50x512.size a)
theorem k0_off1270_inb : ∀ (v5113 : BitVec 32) (k0_hw635 : k0_chk635 v5113), ∀ a, (k0_off1270 v5113) a + S1x50x512.size a ≤ S250x50x512.size a := fun v5113 k0_hw635 => k0_hw635

def k0_off1271 (i : grid0.Coords) : Fin 3 → Nat :=
  let c5_5830 : Index := 5#32
  let c0_5831 : Index := 0#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5122 : Index := Scalar.indexCast v5071
  ![5, 0, v5122.toNat]
def k0_off1272 (v5123 : BitVec 32) : Fin 3 → Nat :=
  let v5124 : Index := Scalar.indexCast v5123
  let c0_5832 : Index := 0#32
  let c0_5833 : Index := 0#32
  ![v5124.toNat, 0, 0]

def k0_chk636 (v5123 : BitVec 32) : Prop :=
  (∀ a, (k0_off1272 v5123) a + S1x50x512.size a ≤ S250x50x512.size a)
theorem k0_off1272_inb : ∀ (v5123 : BitVec 32) (k0_hw636 : k0_chk636 v5123), ∀ a, (k0_off1272 v5123) a + S1x50x512.size a ≤ S250x50x512.size a := fun v5123 k0_hw636 => k0_hw636

def k0_off1273 (i : grid0.Coords) : Fin 3 → Nat :=
  let c6_5841 : Index := 6#32
  let c0_5842 : Index := 0#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5132 : Index := Scalar.indexCast v5071
  ![6, 0, v5132.toNat]
def k0_off1274 (v5133 : BitVec 32) : Fin 3 → Nat :=
  let v5134 : Index := Scalar.indexCast v5133
  let c0_5843 : Index := 0#32
  let c0_5844 : Index := 0#32
  ![v5134.toNat, 0, 0]

def k0_chk637 (v5133 : BitVec 32) : Prop :=
  (∀ a, (k0_off1274 v5133) a + S1x50x512.size a ≤ S250x50x512.size a)
theorem k0_off1274_inb : ∀ (v5133 : BitVec 32) (k0_hw637 : k0_chk637 v5133), ∀ a, (k0_off1274 v5133) a + S1x50x512.size a ≤ S250x50x512.size a := fun v5133 k0_hw637 => k0_hw637

def k0_off1275 (i : grid0.Coords) : Fin 3 → Nat :=
  let c0_5852 : Index := 0#32
  let c2_5853 : Index := 2#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5142 : Index := Scalar.indexCast v5071
  ![0, 2, v5142.toNat]
def k0_off1276 (v5143 : BitVec 32) : Fin 3 → Nat :=
  let c0_5858 : Index := 0#32
  let v5146 : Index := Scalar.indexCast v5143
  let c0_5859 : Index := 0#32
  ![0, v5146.toNat, 0]

def k0_chk638 (v5143 : BitVec 32) : Prop :=
  (∀ a, (k0_off1276 v5143) a + S7x1x512.size a ≤ S7x50x512.size a)
theorem k0_off1276_inb : ∀ (v5143 : BitVec 32) (k0_hw638 : k0_chk638 v5143), ∀ a, (k0_off1276 v5143) a + S7x1x512.size a ≤ S7x50x512.size a := fun v5143 k0_hw638 => k0_hw638

def k0_off1277 (i : grid0.Coords) : Fin 3 → Nat :=
  let c0_5860 : Index := 0#32
  let c3_5861 : Index := 3#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5148 : Index := Scalar.indexCast v5071
  ![0, 3, v5148.toNat]
def k0_off1278 (v5149 : BitVec 32) : Fin 3 → Nat :=
  let c0_5866 : Index := 0#32
  let v5152 : Index := Scalar.indexCast v5149
  let c0_5867 : Index := 0#32
  ![0, v5152.toNat, 0]

def k0_chk639 (v5149 : BitVec 32) : Prop :=
  (∀ a, (k0_off1278 v5149) a + S7x1x512.size a ≤ S7x50x512.size a)
theorem k0_off1278_inb : ∀ (v5149 : BitVec 32) (k0_hw639 : k0_chk639 v5149), ∀ a, (k0_off1278 v5149) a + S7x1x512.size a ≤ S7x50x512.size a := fun v5149 k0_hw639 => k0_hw639

def k0_off1279 (i : grid0.Coords) : Fin 3 → Nat :=
  let c0_5868 : Index := 0#32
  let c4_5869 : Index := 4#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5155 : Index := Scalar.indexCast v5071
  ![0, 4, v5155.toNat]
def k0_off1280 (v5156 : BitVec 32) : Fin 3 → Nat :=
  let c0_5874 : Index := 0#32
  let v5159 : Index := Scalar.indexCast v5156
  let c0_5875 : Index := 0#32
  ![0, v5159.toNat, 0]

def k0_chk640 (v5156 : BitVec 32) : Prop :=
  (∀ a, (k0_off1280 v5156) a + S7x1x512.size a ≤ S7x50x512.size a)
theorem k0_off1280_inb : ∀ (v5156 : BitVec 32) (k0_hw640 : k0_chk640 v5156), ∀ a, (k0_off1280 v5156) a + S7x1x512.size a ≤ S7x50x512.size a := fun v5156 k0_hw640 => k0_hw640

def k0_off1281 (i : grid0.Coords) : Fin 3 → Nat :=
  let c0_5876 : Index := 0#32
  let c5_5877 : Index := 5#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5162 : Index := Scalar.indexCast v5071
  ![0, 5, v5162.toNat]
def k0_off1282 (v5163 : BitVec 32) : Fin 3 → Nat :=
  let c0_5882 : Index := 0#32
  let v5166 : Index := Scalar.indexCast v5163
  let c0_5883 : Index := 0#32
  ![0, v5166.toNat, 0]

def k0_chk641 (v5163 : BitVec 32) : Prop :=
  (∀ a, (k0_off1282 v5163) a + S7x1x512.size a ≤ S7x50x512.size a)
theorem k0_off1282_inb : ∀ (v5163 : BitVec 32) (k0_hw641 : k0_chk641 v5163), ∀ a, (k0_off1282 v5163) a + S7x1x512.size a ≤ S7x50x512.size a := fun v5163 k0_hw641 => k0_hw641

def k0_off1283 (i : grid0.Coords) : Fin 3 → Nat :=
  let c0_5884 : Index := 0#32
  let c6_5885 : Index := 6#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5169 : Index := Scalar.indexCast v5071
  ![0, 6, v5169.toNat]
def k0_off1284 (v5170 : BitVec 32) : Fin 3 → Nat :=
  let c0_5890 : Index := 0#32
  let v5173 : Index := Scalar.indexCast v5170
  let c0_5891 : Index := 0#32
  ![0, v5173.toNat, 0]

def k0_chk642 (v5170 : BitVec 32) : Prop :=
  (∀ a, (k0_off1284 v5170) a + S7x1x512.size a ≤ S7x50x512.size a)
theorem k0_off1284_inb : ∀ (v5170 : BitVec 32) (k0_hw642 : k0_chk642 v5170), ∀ a, (k0_off1284 v5170) a + S7x1x512.size a ≤ S7x50x512.size a := fun v5170 k0_hw642 => k0_hw642

def k0_off1285 (i : grid0.Coords) : Fin 3 → Nat :=
  let c1_5895 : Index := 1#32
  let c2_5896 : Index := 2#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5180 : Index := Scalar.indexCast v5071
  ![1, 2, v5180.toNat]
def k0_off1286 (v5181 : BitVec 32) : Fin 3 → Nat :=
  let c0_5901 : Index := 0#32
  let v5184 : Index := Scalar.indexCast v5181
  let c0_5902 : Index := 0#32
  ![0, v5184.toNat, 0]

def k0_chk643 (v5181 : BitVec 32) : Prop :=
  (∀ a, (k0_off1286 v5181) a + S7x1x512.size a ≤ S7x50x512.size a)
theorem k0_off1286_inb : ∀ (v5181 : BitVec 32) (k0_hw643 : k0_chk643 v5181), ∀ a, (k0_off1286 v5181) a + S7x1x512.size a ≤ S7x50x512.size a := fun v5181 k0_hw643 => k0_hw643

def k0_off1287 (i : grid0.Coords) : Fin 3 → Nat :=
  let c1_5903 : Index := 1#32
  let c3_5904 : Index := 3#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5186 : Index := Scalar.indexCast v5071
  ![1, 3, v5186.toNat]
def k0_off1288 (v5187 : BitVec 32) : Fin 3 → Nat :=
  let c0_5909 : Index := 0#32
  let v5190 : Index := Scalar.indexCast v5187
  let c0_5910 : Index := 0#32
  ![0, v5190.toNat, 0]

def k0_chk644 (v5187 : BitVec 32) : Prop :=
  (∀ a, (k0_off1288 v5187) a + S7x1x512.size a ≤ S7x50x512.size a)
theorem k0_off1288_inb : ∀ (v5187 : BitVec 32) (k0_hw644 : k0_chk644 v5187), ∀ a, (k0_off1288 v5187) a + S7x1x512.size a ≤ S7x50x512.size a := fun v5187 k0_hw644 => k0_hw644

def k0_off1289 (i : grid0.Coords) : Fin 3 → Nat :=
  let c1_5911 : Index := 1#32
  let c4_5912 : Index := 4#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5193 : Index := Scalar.indexCast v5071
  ![1, 4, v5193.toNat]
def k0_off1290 (v5194 : BitVec 32) : Fin 3 → Nat :=
  let c0_5917 : Index := 0#32
  let v5197 : Index := Scalar.indexCast v5194
  let c0_5918 : Index := 0#32
  ![0, v5197.toNat, 0]

def k0_chk645 (v5194 : BitVec 32) : Prop :=
  (∀ a, (k0_off1290 v5194) a + S7x1x512.size a ≤ S7x50x512.size a)
theorem k0_off1290_inb : ∀ (v5194 : BitVec 32) (k0_hw645 : k0_chk645 v5194), ∀ a, (k0_off1290 v5194) a + S7x1x512.size a ≤ S7x50x512.size a := fun v5194 k0_hw645 => k0_hw645

def k0_off1291 (i : grid0.Coords) : Fin 3 → Nat :=
  let c1_5919 : Index := 1#32
  let c5_5920 : Index := 5#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5200 : Index := Scalar.indexCast v5071
  ![1, 5, v5200.toNat]
def k0_off1292 (v5201 : BitVec 32) : Fin 3 → Nat :=
  let c0_5925 : Index := 0#32
  let v5204 : Index := Scalar.indexCast v5201
  let c0_5926 : Index := 0#32
  ![0, v5204.toNat, 0]

def k0_chk646 (v5201 : BitVec 32) : Prop :=
  (∀ a, (k0_off1292 v5201) a + S7x1x512.size a ≤ S7x50x512.size a)
theorem k0_off1292_inb : ∀ (v5201 : BitVec 32) (k0_hw646 : k0_chk646 v5201), ∀ a, (k0_off1292 v5201) a + S7x1x512.size a ≤ S7x50x512.size a := fun v5201 k0_hw646 => k0_hw646

def k0_off1293 (i : grid0.Coords) : Fin 3 → Nat :=
  let c1_5927 : Index := 1#32
  let c6_5928 : Index := 6#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5207 : Index := Scalar.indexCast v5071
  ![1, 6, v5207.toNat]
def k0_off1294 (v5208 : BitVec 32) : Fin 3 → Nat :=
  let c0_5933 : Index := 0#32
  let v5211 : Index := Scalar.indexCast v5208
  let c0_5934 : Index := 0#32
  ![0, v5211.toNat, 0]

def k0_chk647 (v5208 : BitVec 32) : Prop :=
  (∀ a, (k0_off1294 v5208) a + S7x1x512.size a ≤ S7x50x512.size a)
theorem k0_off1294_inb : ∀ (v5208 : BitVec 32) (k0_hw647 : k0_chk647 v5208), ∀ a, (k0_off1294 v5208) a + S7x1x512.size a ≤ S7x50x512.size a := fun v5208 k0_hw647 => k0_hw647

def k0_off1295 (i : grid0.Coords) : Fin 3 → Nat :=
  let c2_5939 : Index := 2#32
  let c2_5940 : Index := 2#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5218 : Index := Scalar.indexCast v5071
  ![2, 2, v5218.toNat]
def k0_off1296 (v5219 : BitVec 32) : Fin 3 → Nat :=
  let c0_5945 : Index := 0#32
  let v5222 : Index := Scalar.indexCast v5219
  let c0_5946 : Index := 0#32
  ![0, v5222.toNat, 0]

def k0_chk648 (v5219 : BitVec 32) : Prop :=
  (∀ a, (k0_off1296 v5219) a + S7x1x512.size a ≤ S7x50x512.size a)
theorem k0_off1296_inb : ∀ (v5219 : BitVec 32) (k0_hw648 : k0_chk648 v5219), ∀ a, (k0_off1296 v5219) a + S7x1x512.size a ≤ S7x50x512.size a := fun v5219 k0_hw648 => k0_hw648

def k0_off1297 (i : grid0.Coords) : Fin 3 → Nat :=
  let c2_5947 : Index := 2#32
  let c3_5948 : Index := 3#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5224 : Index := Scalar.indexCast v5071
  ![2, 3, v5224.toNat]
def k0_off1298 (v5225 : BitVec 32) : Fin 3 → Nat :=
  let c0_5953 : Index := 0#32
  let v5228 : Index := Scalar.indexCast v5225
  let c0_5954 : Index := 0#32
  ![0, v5228.toNat, 0]

def k0_chk649 (v5225 : BitVec 32) : Prop :=
  (∀ a, (k0_off1298 v5225) a + S7x1x512.size a ≤ S7x50x512.size a)
theorem k0_off1298_inb : ∀ (v5225 : BitVec 32) (k0_hw649 : k0_chk649 v5225), ∀ a, (k0_off1298 v5225) a + S7x1x512.size a ≤ S7x50x512.size a := fun v5225 k0_hw649 => k0_hw649

def k0_off1299 (i : grid0.Coords) : Fin 3 → Nat :=
  let c2_5955 : Index := 2#32
  let c4_5956 : Index := 4#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5231 : Index := Scalar.indexCast v5071
  ![2, 4, v5231.toNat]
def k0_off1300 (v5232 : BitVec 32) : Fin 3 → Nat :=
  let c0_5961 : Index := 0#32
  let v5235 : Index := Scalar.indexCast v5232
  let c0_5962 : Index := 0#32
  ![0, v5235.toNat, 0]

def k0_chk650 (v5232 : BitVec 32) : Prop :=
  (∀ a, (k0_off1300 v5232) a + S7x1x512.size a ≤ S7x50x512.size a)
theorem k0_off1300_inb : ∀ (v5232 : BitVec 32) (k0_hw650 : k0_chk650 v5232), ∀ a, (k0_off1300 v5232) a + S7x1x512.size a ≤ S7x50x512.size a := fun v5232 k0_hw650 => k0_hw650

def k0_off1301 (i : grid0.Coords) : Fin 3 → Nat :=
  let c2_5963 : Index := 2#32
  let c5_5964 : Index := 5#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5238 : Index := Scalar.indexCast v5071
  ![2, 5, v5238.toNat]
def k0_off1302 (v5239 : BitVec 32) : Fin 3 → Nat :=
  let c0_5969 : Index := 0#32
  let v5242 : Index := Scalar.indexCast v5239
  let c0_5970 : Index := 0#32
  ![0, v5242.toNat, 0]

def k0_chk651 (v5239 : BitVec 32) : Prop :=
  (∀ a, (k0_off1302 v5239) a + S7x1x512.size a ≤ S7x50x512.size a)
theorem k0_off1302_inb : ∀ (v5239 : BitVec 32) (k0_hw651 : k0_chk651 v5239), ∀ a, (k0_off1302 v5239) a + S7x1x512.size a ≤ S7x50x512.size a := fun v5239 k0_hw651 => k0_hw651

def k0_off1303 (i : grid0.Coords) : Fin 3 → Nat :=
  let c2_5971 : Index := 2#32
  let c6_5972 : Index := 6#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5245 : Index := Scalar.indexCast v5071
  ![2, 6, v5245.toNat]
def k0_off1304 (v5246 : BitVec 32) : Fin 3 → Nat :=
  let c0_5977 : Index := 0#32
  let v5249 : Index := Scalar.indexCast v5246
  let c0_5978 : Index := 0#32
  ![0, v5249.toNat, 0]

def k0_chk652 (v5246 : BitVec 32) : Prop :=
  (∀ a, (k0_off1304 v5246) a + S7x1x512.size a ≤ S7x50x512.size a)
theorem k0_off1304_inb : ∀ (v5246 : BitVec 32) (k0_hw652 : k0_chk652 v5246), ∀ a, (k0_off1304 v5246) a + S7x1x512.size a ≤ S7x50x512.size a := fun v5246 k0_hw652 => k0_hw652

def k0_off1305 (i : grid0.Coords) : Fin 3 → Nat :=
  let c3_5983 : Index := 3#32
  let c2_5984 : Index := 2#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5256 : Index := Scalar.indexCast v5071
  ![3, 2, v5256.toNat]
def k0_off1306 (v5257 : BitVec 32) : Fin 3 → Nat :=
  let c0_5989 : Index := 0#32
  let v5260 : Index := Scalar.indexCast v5257
  let c0_5990 : Index := 0#32
  ![0, v5260.toNat, 0]

def k0_chk653 (v5257 : BitVec 32) : Prop :=
  (∀ a, (k0_off1306 v5257) a + S7x1x512.size a ≤ S7x50x512.size a)
theorem k0_off1306_inb : ∀ (v5257 : BitVec 32) (k0_hw653 : k0_chk653 v5257), ∀ a, (k0_off1306 v5257) a + S7x1x512.size a ≤ S7x50x512.size a := fun v5257 k0_hw653 => k0_hw653

def k0_off1307 (i : grid0.Coords) : Fin 3 → Nat :=
  let c3_5991 : Index := 3#32
  let c3_5992 : Index := 3#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5262 : Index := Scalar.indexCast v5071
  ![3, 3, v5262.toNat]
def k0_off1308 (v5263 : BitVec 32) : Fin 3 → Nat :=
  let c0_5997 : Index := 0#32
  let v5266 : Index := Scalar.indexCast v5263
  let c0_5998 : Index := 0#32
  ![0, v5266.toNat, 0]

def k0_chk654 (v5263 : BitVec 32) : Prop :=
  (∀ a, (k0_off1308 v5263) a + S7x1x512.size a ≤ S7x50x512.size a)
theorem k0_off1308_inb : ∀ (v5263 : BitVec 32) (k0_hw654 : k0_chk654 v5263), ∀ a, (k0_off1308 v5263) a + S7x1x512.size a ≤ S7x50x512.size a := fun v5263 k0_hw654 => k0_hw654

def k0_off1309 (i : grid0.Coords) : Fin 3 → Nat :=
  let c3_5999 : Index := 3#32
  let c4_6000 : Index := 4#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5269 : Index := Scalar.indexCast v5071
  ![3, 4, v5269.toNat]
def k0_off1310 (v5270 : BitVec 32) : Fin 3 → Nat :=
  let c0_6005 : Index := 0#32
  let v5273 : Index := Scalar.indexCast v5270
  let c0_6006 : Index := 0#32
  ![0, v5273.toNat, 0]

def k0_chk655 (v5270 : BitVec 32) : Prop :=
  (∀ a, (k0_off1310 v5270) a + S7x1x512.size a ≤ S7x50x512.size a)
theorem k0_off1310_inb : ∀ (v5270 : BitVec 32) (k0_hw655 : k0_chk655 v5270), ∀ a, (k0_off1310 v5270) a + S7x1x512.size a ≤ S7x50x512.size a := fun v5270 k0_hw655 => k0_hw655

def k0_off1311 (i : grid0.Coords) : Fin 3 → Nat :=
  let c3_6007 : Index := 3#32
  let c5_6008 : Index := 5#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5276 : Index := Scalar.indexCast v5071
  ![3, 5, v5276.toNat]
def k0_off1312 (v5277 : BitVec 32) : Fin 3 → Nat :=
  let c0_6013 : Index := 0#32
  let v5280 : Index := Scalar.indexCast v5277
  let c0_6014 : Index := 0#32
  ![0, v5280.toNat, 0]

def k0_chk656 (v5277 : BitVec 32) : Prop :=
  (∀ a, (k0_off1312 v5277) a + S7x1x512.size a ≤ S7x50x512.size a)
theorem k0_off1312_inb : ∀ (v5277 : BitVec 32) (k0_hw656 : k0_chk656 v5277), ∀ a, (k0_off1312 v5277) a + S7x1x512.size a ≤ S7x50x512.size a := fun v5277 k0_hw656 => k0_hw656

def k0_off1313 (i : grid0.Coords) : Fin 3 → Nat :=
  let c3_6015 : Index := 3#32
  let c6_6016 : Index := 6#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5283 : Index := Scalar.indexCast v5071
  ![3, 6, v5283.toNat]
def k0_off1314 (v5284 : BitVec 32) : Fin 3 → Nat :=
  let c0_6021 : Index := 0#32
  let v5287 : Index := Scalar.indexCast v5284
  let c0_6022 : Index := 0#32
  ![0, v5287.toNat, 0]

def k0_chk657 (v5284 : BitVec 32) : Prop :=
  (∀ a, (k0_off1314 v5284) a + S7x1x512.size a ≤ S7x50x512.size a)
theorem k0_off1314_inb : ∀ (v5284 : BitVec 32) (k0_hw657 : k0_chk657 v5284), ∀ a, (k0_off1314 v5284) a + S7x1x512.size a ≤ S7x50x512.size a := fun v5284 k0_hw657 => k0_hw657

def k0_off1315 (i : grid0.Coords) : Fin 3 → Nat :=
  let c4_6027 : Index := 4#32
  let c2_6028 : Index := 2#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5294 : Index := Scalar.indexCast v5071
  ![4, 2, v5294.toNat]
def k0_off1316 (v5295 : BitVec 32) : Fin 3 → Nat :=
  let c0_6033 : Index := 0#32
  let v5298 : Index := Scalar.indexCast v5295
  let c0_6034 : Index := 0#32
  ![0, v5298.toNat, 0]

def k0_chk658 (v5295 : BitVec 32) : Prop :=
  (∀ a, (k0_off1316 v5295) a + S7x1x512.size a ≤ S7x50x512.size a)
theorem k0_off1316_inb : ∀ (v5295 : BitVec 32) (k0_hw658 : k0_chk658 v5295), ∀ a, (k0_off1316 v5295) a + S7x1x512.size a ≤ S7x50x512.size a := fun v5295 k0_hw658 => k0_hw658

def k0_off1317 (i : grid0.Coords) : Fin 3 → Nat :=
  let c4_6035 : Index := 4#32
  let c3_6036 : Index := 3#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5300 : Index := Scalar.indexCast v5071
  ![4, 3, v5300.toNat]
def k0_off1318 (v5301 : BitVec 32) : Fin 3 → Nat :=
  let c0_6041 : Index := 0#32
  let v5304 : Index := Scalar.indexCast v5301
  let c0_6042 : Index := 0#32
  ![0, v5304.toNat, 0]

def k0_chk659 (v5301 : BitVec 32) : Prop :=
  (∀ a, (k0_off1318 v5301) a + S7x1x512.size a ≤ S7x50x512.size a)
theorem k0_off1318_inb : ∀ (v5301 : BitVec 32) (k0_hw659 : k0_chk659 v5301), ∀ a, (k0_off1318 v5301) a + S7x1x512.size a ≤ S7x50x512.size a := fun v5301 k0_hw659 => k0_hw659

def k0_off1319 (i : grid0.Coords) : Fin 3 → Nat :=
  let c4_6043 : Index := 4#32
  let c4_6044 : Index := 4#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5307 : Index := Scalar.indexCast v5071
  ![4, 4, v5307.toNat]
def k0_off1320 (v5308 : BitVec 32) : Fin 3 → Nat :=
  let c0_6049 : Index := 0#32
  let v5311 : Index := Scalar.indexCast v5308
  let c0_6050 : Index := 0#32
  ![0, v5311.toNat, 0]

def k0_chk660 (v5308 : BitVec 32) : Prop :=
  (∀ a, (k0_off1320 v5308) a + S7x1x512.size a ≤ S7x50x512.size a)
theorem k0_off1320_inb : ∀ (v5308 : BitVec 32) (k0_hw660 : k0_chk660 v5308), ∀ a, (k0_off1320 v5308) a + S7x1x512.size a ≤ S7x50x512.size a := fun v5308 k0_hw660 => k0_hw660

def k0_off1321 (i : grid0.Coords) : Fin 3 → Nat :=
  let c4_6051 : Index := 4#32
  let c5_6052 : Index := 5#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5314 : Index := Scalar.indexCast v5071
  ![4, 5, v5314.toNat]
def k0_off1322 (v5315 : BitVec 32) : Fin 3 → Nat :=
  let c0_6057 : Index := 0#32
  let v5318 : Index := Scalar.indexCast v5315
  let c0_6058 : Index := 0#32
  ![0, v5318.toNat, 0]

def k0_chk661 (v5315 : BitVec 32) : Prop :=
  (∀ a, (k0_off1322 v5315) a + S7x1x512.size a ≤ S7x50x512.size a)
theorem k0_off1322_inb : ∀ (v5315 : BitVec 32) (k0_hw661 : k0_chk661 v5315), ∀ a, (k0_off1322 v5315) a + S7x1x512.size a ≤ S7x50x512.size a := fun v5315 k0_hw661 => k0_hw661

def k0_off1323 (i : grid0.Coords) : Fin 3 → Nat :=
  let c4_6059 : Index := 4#32
  let c6_6060 : Index := 6#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5321 : Index := Scalar.indexCast v5071
  ![4, 6, v5321.toNat]
def k0_off1324 (v5322 : BitVec 32) : Fin 3 → Nat :=
  let c0_6065 : Index := 0#32
  let v5325 : Index := Scalar.indexCast v5322
  let c0_6066 : Index := 0#32
  ![0, v5325.toNat, 0]

def k0_chk662 (v5322 : BitVec 32) : Prop :=
  (∀ a, (k0_off1324 v5322) a + S7x1x512.size a ≤ S7x50x512.size a)
theorem k0_off1324_inb : ∀ (v5322 : BitVec 32) (k0_hw662 : k0_chk662 v5322), ∀ a, (k0_off1324 v5322) a + S7x1x512.size a ≤ S7x50x512.size a := fun v5322 k0_hw662 => k0_hw662

def k0_off1325 (i : grid0.Coords) : Fin 3 → Nat :=
  let c5_6071 : Index := 5#32
  let c2_6072 : Index := 2#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5332 : Index := Scalar.indexCast v5071
  ![5, 2, v5332.toNat]
def k0_off1326 (v5333 : BitVec 32) : Fin 3 → Nat :=
  let c0_6077 : Index := 0#32
  let v5336 : Index := Scalar.indexCast v5333
  let c0_6078 : Index := 0#32
  ![0, v5336.toNat, 0]

def k0_chk663 (v5333 : BitVec 32) : Prop :=
  (∀ a, (k0_off1326 v5333) a + S7x1x512.size a ≤ S7x50x512.size a)
theorem k0_off1326_inb : ∀ (v5333 : BitVec 32) (k0_hw663 : k0_chk663 v5333), ∀ a, (k0_off1326 v5333) a + S7x1x512.size a ≤ S7x50x512.size a := fun v5333 k0_hw663 => k0_hw663

def k0_off1327 (i : grid0.Coords) : Fin 3 → Nat :=
  let c5_6079 : Index := 5#32
  let c3_6080 : Index := 3#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5338 : Index := Scalar.indexCast v5071
  ![5, 3, v5338.toNat]
def k0_off1328 (v5339 : BitVec 32) : Fin 3 → Nat :=
  let c0_6085 : Index := 0#32
  let v5342 : Index := Scalar.indexCast v5339
  let c0_6086 : Index := 0#32
  ![0, v5342.toNat, 0]

def k0_chk664 (v5339 : BitVec 32) : Prop :=
  (∀ a, (k0_off1328 v5339) a + S7x1x512.size a ≤ S7x50x512.size a)
theorem k0_off1328_inb : ∀ (v5339 : BitVec 32) (k0_hw664 : k0_chk664 v5339), ∀ a, (k0_off1328 v5339) a + S7x1x512.size a ≤ S7x50x512.size a := fun v5339 k0_hw664 => k0_hw664

def k0_off1329 (i : grid0.Coords) : Fin 3 → Nat :=
  let c5_6087 : Index := 5#32
  let c4_6088 : Index := 4#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5345 : Index := Scalar.indexCast v5071
  ![5, 4, v5345.toNat]
def k0_off1330 (v5346 : BitVec 32) : Fin 3 → Nat :=
  let c0_6093 : Index := 0#32
  let v5349 : Index := Scalar.indexCast v5346
  let c0_6094 : Index := 0#32
  ![0, v5349.toNat, 0]

def k0_chk665 (v5346 : BitVec 32) : Prop :=
  (∀ a, (k0_off1330 v5346) a + S7x1x512.size a ≤ S7x50x512.size a)
theorem k0_off1330_inb : ∀ (v5346 : BitVec 32) (k0_hw665 : k0_chk665 v5346), ∀ a, (k0_off1330 v5346) a + S7x1x512.size a ≤ S7x50x512.size a := fun v5346 k0_hw665 => k0_hw665

def k0_off1331 (i : grid0.Coords) : Fin 3 → Nat :=
  let c5_6095 : Index := 5#32
  let c5_6096 : Index := 5#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5352 : Index := Scalar.indexCast v5071
  ![5, 5, v5352.toNat]
def k0_off1332 (v5353 : BitVec 32) : Fin 3 → Nat :=
  let c0_6101 : Index := 0#32
  let v5356 : Index := Scalar.indexCast v5353
  let c0_6102 : Index := 0#32
  ![0, v5356.toNat, 0]

def k0_chk666 (v5353 : BitVec 32) : Prop :=
  (∀ a, (k0_off1332 v5353) a + S7x1x512.size a ≤ S7x50x512.size a)
theorem k0_off1332_inb : ∀ (v5353 : BitVec 32) (k0_hw666 : k0_chk666 v5353), ∀ a, (k0_off1332 v5353) a + S7x1x512.size a ≤ S7x50x512.size a := fun v5353 k0_hw666 => k0_hw666

def k0_off1333 (i : grid0.Coords) : Fin 3 → Nat :=
  let c5_6103 : Index := 5#32
  let c6_6104 : Index := 6#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5359 : Index := Scalar.indexCast v5071
  ![5, 6, v5359.toNat]
def k0_off1334 (v5360 : BitVec 32) : Fin 3 → Nat :=
  let c0_6109 : Index := 0#32
  let v5363 : Index := Scalar.indexCast v5360
  let c0_6110 : Index := 0#32
  ![0, v5363.toNat, 0]

def k0_chk667 (v5360 : BitVec 32) : Prop :=
  (∀ a, (k0_off1334 v5360) a + S7x1x512.size a ≤ S7x50x512.size a)
theorem k0_off1334_inb : ∀ (v5360 : BitVec 32) (k0_hw667 : k0_chk667 v5360), ∀ a, (k0_off1334 v5360) a + S7x1x512.size a ≤ S7x50x512.size a := fun v5360 k0_hw667 => k0_hw667

def k0_off1335 (i : grid0.Coords) : Fin 3 → Nat :=
  let c6_6115 : Index := 6#32
  let c2_6116 : Index := 2#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5370 : Index := Scalar.indexCast v5071
  ![6, 2, v5370.toNat]
def k0_off1336 (v5371 : BitVec 32) : Fin 3 → Nat :=
  let c0_6121 : Index := 0#32
  let v5374 : Index := Scalar.indexCast v5371
  let c0_6122 : Index := 0#32
  ![0, v5374.toNat, 0]

def k0_chk668 (v5371 : BitVec 32) : Prop :=
  (∀ a, (k0_off1336 v5371) a + S7x1x512.size a ≤ S7x50x512.size a)
theorem k0_off1336_inb : ∀ (v5371 : BitVec 32) (k0_hw668 : k0_chk668 v5371), ∀ a, (k0_off1336 v5371) a + S7x1x512.size a ≤ S7x50x512.size a := fun v5371 k0_hw668 => k0_hw668

def k0_off1337 (i : grid0.Coords) : Fin 3 → Nat :=
  let c6_6123 : Index := 6#32
  let c3_6124 : Index := 3#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5376 : Index := Scalar.indexCast v5071
  ![6, 3, v5376.toNat]
def k0_off1338 (v5377 : BitVec 32) : Fin 3 → Nat :=
  let c0_6129 : Index := 0#32
  let v5380 : Index := Scalar.indexCast v5377
  let c0_6130 : Index := 0#32
  ![0, v5380.toNat, 0]

def k0_chk669 (v5377 : BitVec 32) : Prop :=
  (∀ a, (k0_off1338 v5377) a + S7x1x512.size a ≤ S7x50x512.size a)
theorem k0_off1338_inb : ∀ (v5377 : BitVec 32) (k0_hw669 : k0_chk669 v5377), ∀ a, (k0_off1338 v5377) a + S7x1x512.size a ≤ S7x50x512.size a := fun v5377 k0_hw669 => k0_hw669

def k0_off1339 (i : grid0.Coords) : Fin 3 → Nat :=
  let c6_6131 : Index := 6#32
  let c4_6132 : Index := 4#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5383 : Index := Scalar.indexCast v5071
  ![6, 4, v5383.toNat]
def k0_off1340 (v5384 : BitVec 32) : Fin 3 → Nat :=
  let c0_6137 : Index := 0#32
  let v5387 : Index := Scalar.indexCast v5384
  let c0_6138 : Index := 0#32
  ![0, v5387.toNat, 0]

def k0_chk670 (v5384 : BitVec 32) : Prop :=
  (∀ a, (k0_off1340 v5384) a + S7x1x512.size a ≤ S7x50x512.size a)
theorem k0_off1340_inb : ∀ (v5384 : BitVec 32) (k0_hw670 : k0_chk670 v5384), ∀ a, (k0_off1340 v5384) a + S7x1x512.size a ≤ S7x50x512.size a := fun v5384 k0_hw670 => k0_hw670

def k0_off1341 (i : grid0.Coords) : Fin 3 → Nat :=
  let c6_6139 : Index := 6#32
  let c5_6140 : Index := 5#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5390 : Index := Scalar.indexCast v5071
  ![6, 5, v5390.toNat]
def k0_off1342 (v5391 : BitVec 32) : Fin 3 → Nat :=
  let c0_6145 : Index := 0#32
  let v5394 : Index := Scalar.indexCast v5391
  let c0_6146 : Index := 0#32
  ![0, v5394.toNat, 0]

def k0_chk671 (v5391 : BitVec 32) : Prop :=
  (∀ a, (k0_off1342 v5391) a + S7x1x512.size a ≤ S7x50x512.size a)
theorem k0_off1342_inb : ∀ (v5391 : BitVec 32) (k0_hw671 : k0_chk671 v5391), ∀ a, (k0_off1342 v5391) a + S7x1x512.size a ≤ S7x50x512.size a := fun v5391 k0_hw671 => k0_hw671

def k0_off1343 (i : grid0.Coords) : Fin 3 → Nat :=
  let c6_6147 : Index := 6#32
  let c6_6148 : Index := 6#32
  let arg0 : BitVec 32 := BitVec.ofNat 32 (i 0).val
  let c32_i32_5774 : BitVec 32 := 32#32
  let v5070 : BitVec 32 := Scalar.muli arg0 c32_i32_5774
  let c15_i32 : BitVec 32 := 15#32
  let v5071 : BitVec 32 := Scalar.addi v5070 c15_i32
  let v5397 : Index := Scalar.indexCast v5071
  ![6, 6, v5397.toNat]
def k0_off1344 (v5398 : BitVec 32) : Fin 3 → Nat :=
  let c0_6153 : Index := 0#32
  let v5401 : Index := Scalar.indexCast v5398
  let c0_6154 : Index := 0#32
  ![0, v5401.toNat, 0]

def k0_chk672 (v5398 : BitVec 32) : Prop :=
  (∀ a, (k0_off1344 v5398) a + S7x1x512.size a ≤ S7x50x512.size a)
theorem k0_off1344_inb : ∀ (v5398 : BitVec 32) (k0_hw672 : k0_chk672 v5398), ∀ a, (k0_off1344 v5398) a + S7x1x512.size a ≤ S7x50x512.size a := fun v5398 k0_hw672 => k0_hw672

def k0_off1345 (i : grid0.Coords) : Fin 3 → Nat :=
  let c0_6160 : Index := 0#32
  let c0_6161 : Index := 0#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5410 : Index := Scalar.indexCast v5409
  ![0, 0, v5410.toNat]
def k0_off1346 (v5411 : BitVec 32) : Fin 3 → Nat :=
  let v5412 : Index := Scalar.indexCast v5411
  let c0_6162 : Index := 0#32
  let c0_6163 : Index := 0#32
  ![v5412.toNat, 0, 0]

def k0_chk673 (v5411 : BitVec 32) : Prop :=
  (∀ a, (k0_off1346 v5411) a + S1x50x512.size a ≤ S250x50x512.size a)
theorem k0_off1346_inb : ∀ (v5411 : BitVec 32) (k0_hw673 : k0_chk673 v5411), ∀ a, (k0_off1346 v5411) a + S1x50x512.size a ≤ S250x50x512.size a := fun v5411 k0_hw673 => k0_hw673

def k0_off1347 (i : grid0.Coords) : Fin 3 → Nat :=
  let c1_6171 : Index := 1#32
  let c0_6172 : Index := 0#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5420 : Index := Scalar.indexCast v5409
  ![1, 0, v5420.toNat]
def k0_off1348 (v5421 : BitVec 32) : Fin 3 → Nat :=
  let v5422 : Index := Scalar.indexCast v5421
  let c0_6173 : Index := 0#32
  let c0_6174 : Index := 0#32
  ![v5422.toNat, 0, 0]

def k0_chk674 (v5421 : BitVec 32) : Prop :=
  (∀ a, (k0_off1348 v5421) a + S1x50x512.size a ≤ S250x50x512.size a)
theorem k0_off1348_inb : ∀ (v5421 : BitVec 32) (k0_hw674 : k0_chk674 v5421), ∀ a, (k0_off1348 v5421) a + S1x50x512.size a ≤ S250x50x512.size a := fun v5421 k0_hw674 => k0_hw674

def k0_off1349 (i : grid0.Coords) : Fin 3 → Nat :=
  let c2_6182 : Index := 2#32
  let c0_6183 : Index := 0#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5430 : Index := Scalar.indexCast v5409
  ![2, 0, v5430.toNat]
def k0_off1350 (v5431 : BitVec 32) : Fin 3 → Nat :=
  let v5432 : Index := Scalar.indexCast v5431
  let c0_6184 : Index := 0#32
  let c0_6185 : Index := 0#32
  ![v5432.toNat, 0, 0]

def k0_chk675 (v5431 : BitVec 32) : Prop :=
  (∀ a, (k0_off1350 v5431) a + S1x50x512.size a ≤ S250x50x512.size a)
theorem k0_off1350_inb : ∀ (v5431 : BitVec 32) (k0_hw675 : k0_chk675 v5431), ∀ a, (k0_off1350 v5431) a + S1x50x512.size a ≤ S250x50x512.size a := fun v5431 k0_hw675 => k0_hw675

def k0_off1351 (i : grid0.Coords) : Fin 3 → Nat :=
  let c3_6193 : Index := 3#32
  let c0_6194 : Index := 0#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5440 : Index := Scalar.indexCast v5409
  ![3, 0, v5440.toNat]
def k0_off1352 (v5441 : BitVec 32) : Fin 3 → Nat :=
  let v5442 : Index := Scalar.indexCast v5441
  let c0_6195 : Index := 0#32
  let c0_6196 : Index := 0#32
  ![v5442.toNat, 0, 0]

def k0_chk676 (v5441 : BitVec 32) : Prop :=
  (∀ a, (k0_off1352 v5441) a + S1x50x512.size a ≤ S250x50x512.size a)
theorem k0_off1352_inb : ∀ (v5441 : BitVec 32) (k0_hw676 : k0_chk676 v5441), ∀ a, (k0_off1352 v5441) a + S1x50x512.size a ≤ S250x50x512.size a := fun v5441 k0_hw676 => k0_hw676

def k0_off1353 (i : grid0.Coords) : Fin 3 → Nat :=
  let c4_6204 : Index := 4#32
  let c0_6205 : Index := 0#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5450 : Index := Scalar.indexCast v5409
  ![4, 0, v5450.toNat]
def k0_off1354 (v5451 : BitVec 32) : Fin 3 → Nat :=
  let v5452 : Index := Scalar.indexCast v5451
  let c0_6206 : Index := 0#32
  let c0_6207 : Index := 0#32
  ![v5452.toNat, 0, 0]

def k0_chk677 (v5451 : BitVec 32) : Prop :=
  (∀ a, (k0_off1354 v5451) a + S1x50x512.size a ≤ S250x50x512.size a)
theorem k0_off1354_inb : ∀ (v5451 : BitVec 32) (k0_hw677 : k0_chk677 v5451), ∀ a, (k0_off1354 v5451) a + S1x50x512.size a ≤ S250x50x512.size a := fun v5451 k0_hw677 => k0_hw677

def k0_off1355 (i : grid0.Coords) : Fin 3 → Nat :=
  let c5_6215 : Index := 5#32
  let c0_6216 : Index := 0#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5460 : Index := Scalar.indexCast v5409
  ![5, 0, v5460.toNat]
def k0_off1356 (v5461 : BitVec 32) : Fin 3 → Nat :=
  let v5462 : Index := Scalar.indexCast v5461
  let c0_6217 : Index := 0#32
  let c0_6218 : Index := 0#32
  ![v5462.toNat, 0, 0]

def k0_chk678 (v5461 : BitVec 32) : Prop :=
  (∀ a, (k0_off1356 v5461) a + S1x50x512.size a ≤ S250x50x512.size a)
theorem k0_off1356_inb : ∀ (v5461 : BitVec 32) (k0_hw678 : k0_chk678 v5461), ∀ a, (k0_off1356 v5461) a + S1x50x512.size a ≤ S250x50x512.size a := fun v5461 k0_hw678 => k0_hw678

def k0_off1357 (i : grid0.Coords) : Fin 3 → Nat :=
  let c6_6226 : Index := 6#32
  let c0_6227 : Index := 0#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5470 : Index := Scalar.indexCast v5409
  ![6, 0, v5470.toNat]
def k0_off1358 (v5471 : BitVec 32) : Fin 3 → Nat :=
  let v5472 : Index := Scalar.indexCast v5471
  let c0_6228 : Index := 0#32
  let c0_6229 : Index := 0#32
  ![v5472.toNat, 0, 0]

def k0_chk679 (v5471 : BitVec 32) : Prop :=
  (∀ a, (k0_off1358 v5471) a + S1x50x512.size a ≤ S250x50x512.size a)
theorem k0_off1358_inb : ∀ (v5471 : BitVec 32) (k0_hw679 : k0_chk679 v5471), ∀ a, (k0_off1358 v5471) a + S1x50x512.size a ≤ S250x50x512.size a := fun v5471 k0_hw679 => k0_hw679

def k0_off1359 (i : grid0.Coords) : Fin 3 → Nat :=
  let c0_6237 : Index := 0#32
  let c2_6238 : Index := 2#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5480 : Index := Scalar.indexCast v5409
  ![0, 2, v5480.toNat]
def k0_off1360 (v5481 : BitVec 32) : Fin 3 → Nat :=
  let c0_6243 : Index := 0#32
  let v5484 : Index := Scalar.indexCast v5481
  let c0_6244 : Index := 0#32
  ![0, v5484.toNat, 0]

def k0_chk680 (v5481 : BitVec 32) : Prop :=
  (∀ a, (k0_off1360 v5481) a + S7x1x512.size a ≤ S7x50x512.size a)
theorem k0_off1360_inb : ∀ (v5481 : BitVec 32) (k0_hw680 : k0_chk680 v5481), ∀ a, (k0_off1360 v5481) a + S7x1x512.size a ≤ S7x50x512.size a := fun v5481 k0_hw680 => k0_hw680

def k0_off1361 (i : grid0.Coords) : Fin 3 → Nat :=
  let c0_6245 : Index := 0#32
  let c3_6246 : Index := 3#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5486 : Index := Scalar.indexCast v5409
  ![0, 3, v5486.toNat]
def k0_off1362 (v5487 : BitVec 32) : Fin 3 → Nat :=
  let c0_6251 : Index := 0#32
  let v5490 : Index := Scalar.indexCast v5487
  let c0_6252 : Index := 0#32
  ![0, v5490.toNat, 0]

def k0_chk681 (v5487 : BitVec 32) : Prop :=
  (∀ a, (k0_off1362 v5487) a + S7x1x512.size a ≤ S7x50x512.size a)
theorem k0_off1362_inb : ∀ (v5487 : BitVec 32) (k0_hw681 : k0_chk681 v5487), ∀ a, (k0_off1362 v5487) a + S7x1x512.size a ≤ S7x50x512.size a := fun v5487 k0_hw681 => k0_hw681

def k0_off1363 (i : grid0.Coords) : Fin 3 → Nat :=
  let c0_6253 : Index := 0#32
  let c4_6254 : Index := 4#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5493 : Index := Scalar.indexCast v5409
  ![0, 4, v5493.toNat]
def k0_off1364 (v5494 : BitVec 32) : Fin 3 → Nat :=
  let c0_6259 : Index := 0#32
  let v5497 : Index := Scalar.indexCast v5494
  let c0_6260 : Index := 0#32
  ![0, v5497.toNat, 0]

def k0_chk682 (v5494 : BitVec 32) : Prop :=
  (∀ a, (k0_off1364 v5494) a + S7x1x512.size a ≤ S7x50x512.size a)
theorem k0_off1364_inb : ∀ (v5494 : BitVec 32) (k0_hw682 : k0_chk682 v5494), ∀ a, (k0_off1364 v5494) a + S7x1x512.size a ≤ S7x50x512.size a := fun v5494 k0_hw682 => k0_hw682

def k0_off1365 (i : grid0.Coords) : Fin 3 → Nat :=
  let c0_6261 : Index := 0#32
  let c5_6262 : Index := 5#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5500 : Index := Scalar.indexCast v5409
  ![0, 5, v5500.toNat]
def k0_off1366 (v5501 : BitVec 32) : Fin 3 → Nat :=
  let c0_6267 : Index := 0#32
  let v5504 : Index := Scalar.indexCast v5501
  let c0_6268 : Index := 0#32
  ![0, v5504.toNat, 0]

def k0_chk683 (v5501 : BitVec 32) : Prop :=
  (∀ a, (k0_off1366 v5501) a + S7x1x512.size a ≤ S7x50x512.size a)
theorem k0_off1366_inb : ∀ (v5501 : BitVec 32) (k0_hw683 : k0_chk683 v5501), ∀ a, (k0_off1366 v5501) a + S7x1x512.size a ≤ S7x50x512.size a := fun v5501 k0_hw683 => k0_hw683

def k0_off1367 (i : grid0.Coords) : Fin 3 → Nat :=
  let c0_6269 : Index := 0#32
  let c6_6270 : Index := 6#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5507 : Index := Scalar.indexCast v5409
  ![0, 6, v5507.toNat]
def k0_off1368 (v5508 : BitVec 32) : Fin 3 → Nat :=
  let c0_6275 : Index := 0#32
  let v5511 : Index := Scalar.indexCast v5508
  let c0_6276 : Index := 0#32
  ![0, v5511.toNat, 0]

def k0_chk684 (v5508 : BitVec 32) : Prop :=
  (∀ a, (k0_off1368 v5508) a + S7x1x512.size a ≤ S7x50x512.size a)
theorem k0_off1368_inb : ∀ (v5508 : BitVec 32) (k0_hw684 : k0_chk684 v5508), ∀ a, (k0_off1368 v5508) a + S7x1x512.size a ≤ S7x50x512.size a := fun v5508 k0_hw684 => k0_hw684

def k0_off1369 (i : grid0.Coords) : Fin 3 → Nat :=
  let c1_6280 : Index := 1#32
  let c2_6281 : Index := 2#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5518 : Index := Scalar.indexCast v5409
  ![1, 2, v5518.toNat]
def k0_off1370 (v5519 : BitVec 32) : Fin 3 → Nat :=
  let c0_6286 : Index := 0#32
  let v5522 : Index := Scalar.indexCast v5519
  let c0_6287 : Index := 0#32
  ![0, v5522.toNat, 0]

def k0_chk685 (v5519 : BitVec 32) : Prop :=
  (∀ a, (k0_off1370 v5519) a + S7x1x512.size a ≤ S7x50x512.size a)
theorem k0_off1370_inb : ∀ (v5519 : BitVec 32) (k0_hw685 : k0_chk685 v5519), ∀ a, (k0_off1370 v5519) a + S7x1x512.size a ≤ S7x50x512.size a := fun v5519 k0_hw685 => k0_hw685

def k0_off1371 (i : grid0.Coords) : Fin 3 → Nat :=
  let c1_6288 : Index := 1#32
  let c3_6289 : Index := 3#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5524 : Index := Scalar.indexCast v5409
  ![1, 3, v5524.toNat]
def k0_off1372 (v5525 : BitVec 32) : Fin 3 → Nat :=
  let c0_6294 : Index := 0#32
  let v5528 : Index := Scalar.indexCast v5525
  let c0_6295 : Index := 0#32
  ![0, v5528.toNat, 0]

def k0_chk686 (v5525 : BitVec 32) : Prop :=
  (∀ a, (k0_off1372 v5525) a + S7x1x512.size a ≤ S7x50x512.size a)
theorem k0_off1372_inb : ∀ (v5525 : BitVec 32) (k0_hw686 : k0_chk686 v5525), ∀ a, (k0_off1372 v5525) a + S7x1x512.size a ≤ S7x50x512.size a := fun v5525 k0_hw686 => k0_hw686

def k0_off1373 (i : grid0.Coords) : Fin 3 → Nat :=
  let c1_6296 : Index := 1#32
  let c4_6297 : Index := 4#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5531 : Index := Scalar.indexCast v5409
  ![1, 4, v5531.toNat]
def k0_off1374 (v5532 : BitVec 32) : Fin 3 → Nat :=
  let c0_6302 : Index := 0#32
  let v5535 : Index := Scalar.indexCast v5532
  let c0_6303 : Index := 0#32
  ![0, v5535.toNat, 0]

def k0_chk687 (v5532 : BitVec 32) : Prop :=
  (∀ a, (k0_off1374 v5532) a + S7x1x512.size a ≤ S7x50x512.size a)
theorem k0_off1374_inb : ∀ (v5532 : BitVec 32) (k0_hw687 : k0_chk687 v5532), ∀ a, (k0_off1374 v5532) a + S7x1x512.size a ≤ S7x50x512.size a := fun v5532 k0_hw687 => k0_hw687

def k0_off1375 (i : grid0.Coords) : Fin 3 → Nat :=
  let c1_6304 : Index := 1#32
  let c5_6305 : Index := 5#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5538 : Index := Scalar.indexCast v5409
  ![1, 5, v5538.toNat]
def k0_off1376 (v5539 : BitVec 32) : Fin 3 → Nat :=
  let c0_6310 : Index := 0#32
  let v5542 : Index := Scalar.indexCast v5539
  let c0_6311 : Index := 0#32
  ![0, v5542.toNat, 0]

def k0_chk688 (v5539 : BitVec 32) : Prop :=
  (∀ a, (k0_off1376 v5539) a + S7x1x512.size a ≤ S7x50x512.size a)
theorem k0_off1376_inb : ∀ (v5539 : BitVec 32) (k0_hw688 : k0_chk688 v5539), ∀ a, (k0_off1376 v5539) a + S7x1x512.size a ≤ S7x50x512.size a := fun v5539 k0_hw688 => k0_hw688

def k0_off1377 (i : grid0.Coords) : Fin 3 → Nat :=
  let c1_6312 : Index := 1#32
  let c6_6313 : Index := 6#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5545 : Index := Scalar.indexCast v5409
  ![1, 6, v5545.toNat]
def k0_off1378 (v5546 : BitVec 32) : Fin 3 → Nat :=
  let c0_6318 : Index := 0#32
  let v5549 : Index := Scalar.indexCast v5546
  let c0_6319 : Index := 0#32
  ![0, v5549.toNat, 0]

def k0_chk689 (v5546 : BitVec 32) : Prop :=
  (∀ a, (k0_off1378 v5546) a + S7x1x512.size a ≤ S7x50x512.size a)
theorem k0_off1378_inb : ∀ (v5546 : BitVec 32) (k0_hw689 : k0_chk689 v5546), ∀ a, (k0_off1378 v5546) a + S7x1x512.size a ≤ S7x50x512.size a := fun v5546 k0_hw689 => k0_hw689

def k0_off1379 (i : grid0.Coords) : Fin 3 → Nat :=
  let c2_6324 : Index := 2#32
  let c2_6325 : Index := 2#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5556 : Index := Scalar.indexCast v5409
  ![2, 2, v5556.toNat]
def k0_off1380 (v5557 : BitVec 32) : Fin 3 → Nat :=
  let c0_6330 : Index := 0#32
  let v5560 : Index := Scalar.indexCast v5557
  let c0_6331 : Index := 0#32
  ![0, v5560.toNat, 0]

def k0_chk690 (v5557 : BitVec 32) : Prop :=
  (∀ a, (k0_off1380 v5557) a + S7x1x512.size a ≤ S7x50x512.size a)
theorem k0_off1380_inb : ∀ (v5557 : BitVec 32) (k0_hw690 : k0_chk690 v5557), ∀ a, (k0_off1380 v5557) a + S7x1x512.size a ≤ S7x50x512.size a := fun v5557 k0_hw690 => k0_hw690

def k0_off1381 (i : grid0.Coords) : Fin 3 → Nat :=
  let c2_6332 : Index := 2#32
  let c3_6333 : Index := 3#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5562 : Index := Scalar.indexCast v5409
  ![2, 3, v5562.toNat]
def k0_off1382 (v5563 : BitVec 32) : Fin 3 → Nat :=
  let c0_6338 : Index := 0#32
  let v5566 : Index := Scalar.indexCast v5563
  let c0_6339 : Index := 0#32
  ![0, v5566.toNat, 0]

def k0_chk691 (v5563 : BitVec 32) : Prop :=
  (∀ a, (k0_off1382 v5563) a + S7x1x512.size a ≤ S7x50x512.size a)
theorem k0_off1382_inb : ∀ (v5563 : BitVec 32) (k0_hw691 : k0_chk691 v5563), ∀ a, (k0_off1382 v5563) a + S7x1x512.size a ≤ S7x50x512.size a := fun v5563 k0_hw691 => k0_hw691

def k0_off1383 (i : grid0.Coords) : Fin 3 → Nat :=
  let c2_6340 : Index := 2#32
  let c4_6341 : Index := 4#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5569 : Index := Scalar.indexCast v5409
  ![2, 4, v5569.toNat]
def k0_off1384 (v5570 : BitVec 32) : Fin 3 → Nat :=
  let c0_6346 : Index := 0#32
  let v5573 : Index := Scalar.indexCast v5570
  let c0_6347 : Index := 0#32
  ![0, v5573.toNat, 0]

def k0_chk692 (v5570 : BitVec 32) : Prop :=
  (∀ a, (k0_off1384 v5570) a + S7x1x512.size a ≤ S7x50x512.size a)
theorem k0_off1384_inb : ∀ (v5570 : BitVec 32) (k0_hw692 : k0_chk692 v5570), ∀ a, (k0_off1384 v5570) a + S7x1x512.size a ≤ S7x50x512.size a := fun v5570 k0_hw692 => k0_hw692

def k0_off1385 (i : grid0.Coords) : Fin 3 → Nat :=
  let c2_6348 : Index := 2#32
  let c5_6349 : Index := 5#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5576 : Index := Scalar.indexCast v5409
  ![2, 5, v5576.toNat]
def k0_off1386 (v5577 : BitVec 32) : Fin 3 → Nat :=
  let c0_6354 : Index := 0#32
  let v5580 : Index := Scalar.indexCast v5577
  let c0_6355 : Index := 0#32
  ![0, v5580.toNat, 0]

def k0_chk693 (v5577 : BitVec 32) : Prop :=
  (∀ a, (k0_off1386 v5577) a + S7x1x512.size a ≤ S7x50x512.size a)
theorem k0_off1386_inb : ∀ (v5577 : BitVec 32) (k0_hw693 : k0_chk693 v5577), ∀ a, (k0_off1386 v5577) a + S7x1x512.size a ≤ S7x50x512.size a := fun v5577 k0_hw693 => k0_hw693

def k0_off1387 (i : grid0.Coords) : Fin 3 → Nat :=
  let c2_6356 : Index := 2#32
  let c6_6357 : Index := 6#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5583 : Index := Scalar.indexCast v5409
  ![2, 6, v5583.toNat]
def k0_off1388 (v5584 : BitVec 32) : Fin 3 → Nat :=
  let c0_6362 : Index := 0#32
  let v5587 : Index := Scalar.indexCast v5584
  let c0_6363 : Index := 0#32
  ![0, v5587.toNat, 0]

def k0_chk694 (v5584 : BitVec 32) : Prop :=
  (∀ a, (k0_off1388 v5584) a + S7x1x512.size a ≤ S7x50x512.size a)
theorem k0_off1388_inb : ∀ (v5584 : BitVec 32) (k0_hw694 : k0_chk694 v5584), ∀ a, (k0_off1388 v5584) a + S7x1x512.size a ≤ S7x50x512.size a := fun v5584 k0_hw694 => k0_hw694

def k0_off1389 (i : grid0.Coords) : Fin 3 → Nat :=
  let c3_6368 : Index := 3#32
  let c2_6369 : Index := 2#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5594 : Index := Scalar.indexCast v5409
  ![3, 2, v5594.toNat]
def k0_off1390 (v5595 : BitVec 32) : Fin 3 → Nat :=
  let c0_6374 : Index := 0#32
  let v5598 : Index := Scalar.indexCast v5595
  let c0_6375 : Index := 0#32
  ![0, v5598.toNat, 0]

def k0_chk695 (v5595 : BitVec 32) : Prop :=
  (∀ a, (k0_off1390 v5595) a + S7x1x512.size a ≤ S7x50x512.size a)
theorem k0_off1390_inb : ∀ (v5595 : BitVec 32) (k0_hw695 : k0_chk695 v5595), ∀ a, (k0_off1390 v5595) a + S7x1x512.size a ≤ S7x50x512.size a := fun v5595 k0_hw695 => k0_hw695

def k0_off1391 (i : grid0.Coords) : Fin 3 → Nat :=
  let c3_6376 : Index := 3#32
  let c3_6377 : Index := 3#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5600 : Index := Scalar.indexCast v5409
  ![3, 3, v5600.toNat]
def k0_off1392 (v5601 : BitVec 32) : Fin 3 → Nat :=
  let c0_6382 : Index := 0#32
  let v5604 : Index := Scalar.indexCast v5601
  let c0_6383 : Index := 0#32
  ![0, v5604.toNat, 0]

def k0_chk696 (v5601 : BitVec 32) : Prop :=
  (∀ a, (k0_off1392 v5601) a + S7x1x512.size a ≤ S7x50x512.size a)
theorem k0_off1392_inb : ∀ (v5601 : BitVec 32) (k0_hw696 : k0_chk696 v5601), ∀ a, (k0_off1392 v5601) a + S7x1x512.size a ≤ S7x50x512.size a := fun v5601 k0_hw696 => k0_hw696

def k0_off1393 (i : grid0.Coords) : Fin 3 → Nat :=
  let c3_6384 : Index := 3#32
  let c4_6385 : Index := 4#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5607 : Index := Scalar.indexCast v5409
  ![3, 4, v5607.toNat]
def k0_off1394 (v5608 : BitVec 32) : Fin 3 → Nat :=
  let c0_6390 : Index := 0#32
  let v5611 : Index := Scalar.indexCast v5608
  let c0_6391 : Index := 0#32
  ![0, v5611.toNat, 0]

def k0_chk697 (v5608 : BitVec 32) : Prop :=
  (∀ a, (k0_off1394 v5608) a + S7x1x512.size a ≤ S7x50x512.size a)
theorem k0_off1394_inb : ∀ (v5608 : BitVec 32) (k0_hw697 : k0_chk697 v5608), ∀ a, (k0_off1394 v5608) a + S7x1x512.size a ≤ S7x50x512.size a := fun v5608 k0_hw697 => k0_hw697

def k0_off1395 (i : grid0.Coords) : Fin 3 → Nat :=
  let c3_6392 : Index := 3#32
  let c5_6393 : Index := 5#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5614 : Index := Scalar.indexCast v5409
  ![3, 5, v5614.toNat]
def k0_off1396 (v5615 : BitVec 32) : Fin 3 → Nat :=
  let c0_6398 : Index := 0#32
  let v5618 : Index := Scalar.indexCast v5615
  let c0_6399 : Index := 0#32
  ![0, v5618.toNat, 0]

def k0_chk698 (v5615 : BitVec 32) : Prop :=
  (∀ a, (k0_off1396 v5615) a + S7x1x512.size a ≤ S7x50x512.size a)
theorem k0_off1396_inb : ∀ (v5615 : BitVec 32) (k0_hw698 : k0_chk698 v5615), ∀ a, (k0_off1396 v5615) a + S7x1x512.size a ≤ S7x50x512.size a := fun v5615 k0_hw698 => k0_hw698

def k0_off1397 (i : grid0.Coords) : Fin 3 → Nat :=
  let c3_6400 : Index := 3#32
  let c6_6401 : Index := 6#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5621 : Index := Scalar.indexCast v5409
  ![3, 6, v5621.toNat]
def k0_off1398 (v5622 : BitVec 32) : Fin 3 → Nat :=
  let c0_6406 : Index := 0#32
  let v5625 : Index := Scalar.indexCast v5622
  let c0_6407 : Index := 0#32
  ![0, v5625.toNat, 0]

def k0_chk699 (v5622 : BitVec 32) : Prop :=
  (∀ a, (k0_off1398 v5622) a + S7x1x512.size a ≤ S7x50x512.size a)
theorem k0_off1398_inb : ∀ (v5622 : BitVec 32) (k0_hw699 : k0_chk699 v5622), ∀ a, (k0_off1398 v5622) a + S7x1x512.size a ≤ S7x50x512.size a := fun v5622 k0_hw699 => k0_hw699

def k0_off1399 (i : grid0.Coords) : Fin 3 → Nat :=
  let c4_6412 : Index := 4#32
  let c2_6413 : Index := 2#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5632 : Index := Scalar.indexCast v5409
  ![4, 2, v5632.toNat]
def k0_off1400 (v5633 : BitVec 32) : Fin 3 → Nat :=
  let c0_6418 : Index := 0#32
  let v5636 : Index := Scalar.indexCast v5633
  let c0_6419 : Index := 0#32
  ![0, v5636.toNat, 0]

def k0_chk700 (v5633 : BitVec 32) : Prop :=
  (∀ a, (k0_off1400 v5633) a + S7x1x512.size a ≤ S7x50x512.size a)
theorem k0_off1400_inb : ∀ (v5633 : BitVec 32) (k0_hw700 : k0_chk700 v5633), ∀ a, (k0_off1400 v5633) a + S7x1x512.size a ≤ S7x50x512.size a := fun v5633 k0_hw700 => k0_hw700

def k0_off1401 (i : grid0.Coords) : Fin 3 → Nat :=
  let c4_6420 : Index := 4#32
  let c3_6421 : Index := 3#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5638 : Index := Scalar.indexCast v5409
  ![4, 3, v5638.toNat]
def k0_off1402 (v5639 : BitVec 32) : Fin 3 → Nat :=
  let c0_6426 : Index := 0#32
  let v5642 : Index := Scalar.indexCast v5639
  let c0_6427 : Index := 0#32
  ![0, v5642.toNat, 0]

def k0_chk701 (v5639 : BitVec 32) : Prop :=
  (∀ a, (k0_off1402 v5639) a + S7x1x512.size a ≤ S7x50x512.size a)
theorem k0_off1402_inb : ∀ (v5639 : BitVec 32) (k0_hw701 : k0_chk701 v5639), ∀ a, (k0_off1402 v5639) a + S7x1x512.size a ≤ S7x50x512.size a := fun v5639 k0_hw701 => k0_hw701

def k0_off1403 (i : grid0.Coords) : Fin 3 → Nat :=
  let c4_6428 : Index := 4#32
  let c4_6429 : Index := 4#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5645 : Index := Scalar.indexCast v5409
  ![4, 4, v5645.toNat]
def k0_off1404 (v5646 : BitVec 32) : Fin 3 → Nat :=
  let c0_6434 : Index := 0#32
  let v5649 : Index := Scalar.indexCast v5646
  let c0_6435 : Index := 0#32
  ![0, v5649.toNat, 0]

def k0_chk702 (v5646 : BitVec 32) : Prop :=
  (∀ a, (k0_off1404 v5646) a + S7x1x512.size a ≤ S7x50x512.size a)
theorem k0_off1404_inb : ∀ (v5646 : BitVec 32) (k0_hw702 : k0_chk702 v5646), ∀ a, (k0_off1404 v5646) a + S7x1x512.size a ≤ S7x50x512.size a := fun v5646 k0_hw702 => k0_hw702

def k0_off1405 (i : grid0.Coords) : Fin 3 → Nat :=
  let c4_6436 : Index := 4#32
  let c5_6437 : Index := 5#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5652 : Index := Scalar.indexCast v5409
  ![4, 5, v5652.toNat]
def k0_off1406 (v5653 : BitVec 32) : Fin 3 → Nat :=
  let c0_6442 : Index := 0#32
  let v5656 : Index := Scalar.indexCast v5653
  let c0_6443 : Index := 0#32
  ![0, v5656.toNat, 0]

def k0_chk703 (v5653 : BitVec 32) : Prop :=
  (∀ a, (k0_off1406 v5653) a + S7x1x512.size a ≤ S7x50x512.size a)
theorem k0_off1406_inb : ∀ (v5653 : BitVec 32) (k0_hw703 : k0_chk703 v5653), ∀ a, (k0_off1406 v5653) a + S7x1x512.size a ≤ S7x50x512.size a := fun v5653 k0_hw703 => k0_hw703

def k0_off1407 (i : grid0.Coords) : Fin 3 → Nat :=
  let c4_6444 : Index := 4#32
  let c6_6445 : Index := 6#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5659 : Index := Scalar.indexCast v5409
  ![4, 6, v5659.toNat]
def k0_off1408 (v5660 : BitVec 32) : Fin 3 → Nat :=
  let c0_6450 : Index := 0#32
  let v5663 : Index := Scalar.indexCast v5660
  let c0_6451 : Index := 0#32
  ![0, v5663.toNat, 0]

def k0_chk704 (v5660 : BitVec 32) : Prop :=
  (∀ a, (k0_off1408 v5660) a + S7x1x512.size a ≤ S7x50x512.size a)
theorem k0_off1408_inb : ∀ (v5660 : BitVec 32) (k0_hw704 : k0_chk704 v5660), ∀ a, (k0_off1408 v5660) a + S7x1x512.size a ≤ S7x50x512.size a := fun v5660 k0_hw704 => k0_hw704

def k0_off1409 (i : grid0.Coords) : Fin 3 → Nat :=
  let c5_6456 : Index := 5#32
  let c2_6457 : Index := 2#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5670 : Index := Scalar.indexCast v5409
  ![5, 2, v5670.toNat]
def k0_off1410 (v5671 : BitVec 32) : Fin 3 → Nat :=
  let c0_6462 : Index := 0#32
  let v5674 : Index := Scalar.indexCast v5671
  let c0_6463 : Index := 0#32
  ![0, v5674.toNat, 0]

def k0_chk705 (v5671 : BitVec 32) : Prop :=
  (∀ a, (k0_off1410 v5671) a + S7x1x512.size a ≤ S7x50x512.size a)
theorem k0_off1410_inb : ∀ (v5671 : BitVec 32) (k0_hw705 : k0_chk705 v5671), ∀ a, (k0_off1410 v5671) a + S7x1x512.size a ≤ S7x50x512.size a := fun v5671 k0_hw705 => k0_hw705

def k0_off1411 (i : grid0.Coords) : Fin 3 → Nat :=
  let c5_6464 : Index := 5#32
  let c3_6465 : Index := 3#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5676 : Index := Scalar.indexCast v5409
  ![5, 3, v5676.toNat]
def k0_off1412 (v5677 : BitVec 32) : Fin 3 → Nat :=
  let c0_6470 : Index := 0#32
  let v5680 : Index := Scalar.indexCast v5677
  let c0_6471 : Index := 0#32
  ![0, v5680.toNat, 0]

def k0_chk706 (v5677 : BitVec 32) : Prop :=
  (∀ a, (k0_off1412 v5677) a + S7x1x512.size a ≤ S7x50x512.size a)
theorem k0_off1412_inb : ∀ (v5677 : BitVec 32) (k0_hw706 : k0_chk706 v5677), ∀ a, (k0_off1412 v5677) a + S7x1x512.size a ≤ S7x50x512.size a := fun v5677 k0_hw706 => k0_hw706

def k0_off1413 (i : grid0.Coords) : Fin 3 → Nat :=
  let c5_6472 : Index := 5#32
  let c4_6473 : Index := 4#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5683 : Index := Scalar.indexCast v5409
  ![5, 4, v5683.toNat]
def k0_off1414 (v5684 : BitVec 32) : Fin 3 → Nat :=
  let c0_6478 : Index := 0#32
  let v5687 : Index := Scalar.indexCast v5684
  let c0_6479 : Index := 0#32
  ![0, v5687.toNat, 0]

def k0_chk707 (v5684 : BitVec 32) : Prop :=
  (∀ a, (k0_off1414 v5684) a + S7x1x512.size a ≤ S7x50x512.size a)
theorem k0_off1414_inb : ∀ (v5684 : BitVec 32) (k0_hw707 : k0_chk707 v5684), ∀ a, (k0_off1414 v5684) a + S7x1x512.size a ≤ S7x50x512.size a := fun v5684 k0_hw707 => k0_hw707

def k0_off1415 (i : grid0.Coords) : Fin 3 → Nat :=
  let c5_6480 : Index := 5#32
  let c5_6481 : Index := 5#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5690 : Index := Scalar.indexCast v5409
  ![5, 5, v5690.toNat]
def k0_off1416 (v5691 : BitVec 32) : Fin 3 → Nat :=
  let c0_6486 : Index := 0#32
  let v5694 : Index := Scalar.indexCast v5691
  let c0_6487 : Index := 0#32
  ![0, v5694.toNat, 0]

def k0_chk708 (v5691 : BitVec 32) : Prop :=
  (∀ a, (k0_off1416 v5691) a + S7x1x512.size a ≤ S7x50x512.size a)
theorem k0_off1416_inb : ∀ (v5691 : BitVec 32) (k0_hw708 : k0_chk708 v5691), ∀ a, (k0_off1416 v5691) a + S7x1x512.size a ≤ S7x50x512.size a := fun v5691 k0_hw708 => k0_hw708

def k0_off1417 (i : grid0.Coords) : Fin 3 → Nat :=
  let c5_6488 : Index := 5#32
  let c6_6489 : Index := 6#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5697 : Index := Scalar.indexCast v5409
  ![5, 6, v5697.toNat]
def k0_off1418 (v5698 : BitVec 32) : Fin 3 → Nat :=
  let c0_6494 : Index := 0#32
  let v5701 : Index := Scalar.indexCast v5698
  let c0_6495 : Index := 0#32
  ![0, v5701.toNat, 0]

def k0_chk709 (v5698 : BitVec 32) : Prop :=
  (∀ a, (k0_off1418 v5698) a + S7x1x512.size a ≤ S7x50x512.size a)
theorem k0_off1418_inb : ∀ (v5698 : BitVec 32) (k0_hw709 : k0_chk709 v5698), ∀ a, (k0_off1418 v5698) a + S7x1x512.size a ≤ S7x50x512.size a := fun v5698 k0_hw709 => k0_hw709

def k0_off1419 (i : grid0.Coords) : Fin 3 → Nat :=
  let c6_6500 : Index := 6#32
  let c2_6501 : Index := 2#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5708 : Index := Scalar.indexCast v5409
  ![6, 2, v5708.toNat]
def k0_off1420 (v5709 : BitVec 32) : Fin 3 → Nat :=
  let c0_6506 : Index := 0#32
  let v5712 : Index := Scalar.indexCast v5709
  let c0_6507 : Index := 0#32
  ![0, v5712.toNat, 0]

def k0_chk710 (v5709 : BitVec 32) : Prop :=
  (∀ a, (k0_off1420 v5709) a + S7x1x512.size a ≤ S7x50x512.size a)
theorem k0_off1420_inb : ∀ (v5709 : BitVec 32) (k0_hw710 : k0_chk710 v5709), ∀ a, (k0_off1420 v5709) a + S7x1x512.size a ≤ S7x50x512.size a := fun v5709 k0_hw710 => k0_hw710

def k0_off1421 (i : grid0.Coords) : Fin 3 → Nat :=
  let c6_6508 : Index := 6#32
  let c3_6509 : Index := 3#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5714 : Index := Scalar.indexCast v5409
  ![6, 3, v5714.toNat]
def k0_off1422 (v5715 : BitVec 32) : Fin 3 → Nat :=
  let c0_6514 : Index := 0#32
  let v5718 : Index := Scalar.indexCast v5715
  let c0_6515 : Index := 0#32
  ![0, v5718.toNat, 0]

def k0_chk711 (v5715 : BitVec 32) : Prop :=
  (∀ a, (k0_off1422 v5715) a + S7x1x512.size a ≤ S7x50x512.size a)
theorem k0_off1422_inb : ∀ (v5715 : BitVec 32) (k0_hw711 : k0_chk711 v5715), ∀ a, (k0_off1422 v5715) a + S7x1x512.size a ≤ S7x50x512.size a := fun v5715 k0_hw711 => k0_hw711

def k0_off1423 (i : grid0.Coords) : Fin 3 → Nat :=
  let c6_6516 : Index := 6#32
  let c4_6517 : Index := 4#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5721 : Index := Scalar.indexCast v5409
  ![6, 4, v5721.toNat]
def k0_off1424 (v5722 : BitVec 32) : Fin 3 → Nat :=
  let c0_6522 : Index := 0#32
  let v5725 : Index := Scalar.indexCast v5722
  let c0_6523 : Index := 0#32
  ![0, v5725.toNat, 0]

def k0_chk712 (v5722 : BitVec 32) : Prop :=
  (∀ a, (k0_off1424 v5722) a + S7x1x512.size a ≤ S7x50x512.size a)
theorem k0_off1424_inb : ∀ (v5722 : BitVec 32) (k0_hw712 : k0_chk712 v5722), ∀ a, (k0_off1424 v5722) a + S7x1x512.size a ≤ S7x50x512.size a := fun v5722 k0_hw712 => k0_hw712

def k0_off1425 (i : grid0.Coords) : Fin 3 → Nat :=
  let c6_6524 : Index := 6#32
  let c5_6525 : Index := 5#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5728 : Index := Scalar.indexCast v5409
  ![6, 5, v5728.toNat]
def k0_off1426 (v5729 : BitVec 32) : Fin 3 → Nat :=
  let c0_6530 : Index := 0#32
  let v5732 : Index := Scalar.indexCast v5729
  let c0_6531 : Index := 0#32
  ![0, v5732.toNat, 0]

def k0_chk713 (v5729 : BitVec 32) : Prop :=
  (∀ a, (k0_off1426 v5729) a + S7x1x512.size a ≤ S7x50x512.size a)
theorem k0_off1426_inb : ∀ (v5729 : BitVec 32) (k0_hw713 : k0_chk713 v5729), ∀ a, (k0_off1426 v5729) a + S7x1x512.size a ≤ S7x50x512.size a := fun v5729 k0_hw713 => k0_hw713

def k0_off1427 (i : grid0.Coords) : Fin 3 → Nat :=
  let c6_6532 : Index := 6#32
  let c6_6533 : Index := 6#32
  let arg0 : BitVec 32 := BitVec.ofNat 32 (i 0).val
  let c32_i32_6159 : BitVec 32 := 32#32
  let v5408 : BitVec 32 := Scalar.muli arg0 c32_i32_6159
  let c16_i32 : BitVec 32 := 16#32
  let v5409 : BitVec 32 := Scalar.addi v5408 c16_i32
  let v5735 : Index := Scalar.indexCast v5409
  ![6, 6, v5735.toNat]
def k0_off1428 (v5736 : BitVec 32) : Fin 3 → Nat :=
  let c0_6538 : Index := 0#32
  let v5739 : Index := Scalar.indexCast v5736
  let c0_6539 : Index := 0#32
  ![0, v5739.toNat, 0]

def k0_chk714 (v5736 : BitVec 32) : Prop :=
  (∀ a, (k0_off1428 v5736) a + S7x1x512.size a ≤ S7x50x512.size a)
theorem k0_off1428_inb : ∀ (v5736 : BitVec 32) (k0_hw714 : k0_chk714 v5736), ∀ a, (k0_off1428 v5736) a + S7x1x512.size a ≤ S7x50x512.size a := fun v5736 k0_hw714 => k0_hw714

def k0_off1429 (i : grid0.Coords) : Fin 3 → Nat :=
  let c0_6545 : Index := 0#32
  let c0_6546 : Index := 0#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5748 : Index := Scalar.indexCast v5747
  ![0, 0, v5748.toNat]
def k0_off1430 (v5749 : BitVec 32) : Fin 3 → Nat :=
  let v5750 : Index := Scalar.indexCast v5749
  let c0_6547 : Index := 0#32
  let c0_6548 : Index := 0#32
  ![v5750.toNat, 0, 0]

def k0_chk715 (v5749 : BitVec 32) : Prop :=
  (∀ a, (k0_off1430 v5749) a + S1x50x512.size a ≤ S250x50x512.size a)
theorem k0_off1430_inb : ∀ (v5749 : BitVec 32) (k0_hw715 : k0_chk715 v5749), ∀ a, (k0_off1430 v5749) a + S1x50x512.size a ≤ S250x50x512.size a := fun v5749 k0_hw715 => k0_hw715

def k0_off1431 (i : grid0.Coords) : Fin 3 → Nat :=
  let c1_6556 : Index := 1#32
  let c0_6557 : Index := 0#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5758 : Index := Scalar.indexCast v5747
  ![1, 0, v5758.toNat]
def k0_off1432 (v5759 : BitVec 32) : Fin 3 → Nat :=
  let v5760 : Index := Scalar.indexCast v5759
  let c0_6558 : Index := 0#32
  let c0_6559 : Index := 0#32
  ![v5760.toNat, 0, 0]

def k0_chk716 (v5759 : BitVec 32) : Prop :=
  (∀ a, (k0_off1432 v5759) a + S1x50x512.size a ≤ S250x50x512.size a)
theorem k0_off1432_inb : ∀ (v5759 : BitVec 32) (k0_hw716 : k0_chk716 v5759), ∀ a, (k0_off1432 v5759) a + S1x50x512.size a ≤ S250x50x512.size a := fun v5759 k0_hw716 => k0_hw716

def k0_off1433 (i : grid0.Coords) : Fin 3 → Nat :=
  let c2_6567 : Index := 2#32
  let c0_6568 : Index := 0#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5768 : Index := Scalar.indexCast v5747
  ![2, 0, v5768.toNat]
def k0_off1434 (v5769 : BitVec 32) : Fin 3 → Nat :=
  let v5770 : Index := Scalar.indexCast v5769
  let c0_6569 : Index := 0#32
  let c0_6570 : Index := 0#32
  ![v5770.toNat, 0, 0]

def k0_chk717 (v5769 : BitVec 32) : Prop :=
  (∀ a, (k0_off1434 v5769) a + S1x50x512.size a ≤ S250x50x512.size a)
theorem k0_off1434_inb : ∀ (v5769 : BitVec 32) (k0_hw717 : k0_chk717 v5769), ∀ a, (k0_off1434 v5769) a + S1x50x512.size a ≤ S250x50x512.size a := fun v5769 k0_hw717 => k0_hw717

def k0_off1435 (i : grid0.Coords) : Fin 3 → Nat :=
  let c3_6578 : Index := 3#32
  let c0_6579 : Index := 0#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5778 : Index := Scalar.indexCast v5747
  ![3, 0, v5778.toNat]
def k0_off1436 (v5779 : BitVec 32) : Fin 3 → Nat :=
  let v5780 : Index := Scalar.indexCast v5779
  let c0_6580 : Index := 0#32
  let c0_6581 : Index := 0#32
  ![v5780.toNat, 0, 0]

def k0_chk718 (v5779 : BitVec 32) : Prop :=
  (∀ a, (k0_off1436 v5779) a + S1x50x512.size a ≤ S250x50x512.size a)
theorem k0_off1436_inb : ∀ (v5779 : BitVec 32) (k0_hw718 : k0_chk718 v5779), ∀ a, (k0_off1436 v5779) a + S1x50x512.size a ≤ S250x50x512.size a := fun v5779 k0_hw718 => k0_hw718

def k0_off1437 (i : grid0.Coords) : Fin 3 → Nat :=
  let c4_6589 : Index := 4#32
  let c0_6590 : Index := 0#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5788 : Index := Scalar.indexCast v5747
  ![4, 0, v5788.toNat]
def k0_off1438 (v5789 : BitVec 32) : Fin 3 → Nat :=
  let v5790 : Index := Scalar.indexCast v5789
  let c0_6591 : Index := 0#32
  let c0_6592 : Index := 0#32
  ![v5790.toNat, 0, 0]

def k0_chk719 (v5789 : BitVec 32) : Prop :=
  (∀ a, (k0_off1438 v5789) a + S1x50x512.size a ≤ S250x50x512.size a)
theorem k0_off1438_inb : ∀ (v5789 : BitVec 32) (k0_hw719 : k0_chk719 v5789), ∀ a, (k0_off1438 v5789) a + S1x50x512.size a ≤ S250x50x512.size a := fun v5789 k0_hw719 => k0_hw719

def k0_off1439 (i : grid0.Coords) : Fin 3 → Nat :=
  let c5_6600 : Index := 5#32
  let c0_6601 : Index := 0#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5798 : Index := Scalar.indexCast v5747
  ![5, 0, v5798.toNat]
def k0_off1440 (v5799 : BitVec 32) : Fin 3 → Nat :=
  let v5800 : Index := Scalar.indexCast v5799
  let c0_6602 : Index := 0#32
  let c0_6603 : Index := 0#32
  ![v5800.toNat, 0, 0]

def k0_chk720 (v5799 : BitVec 32) : Prop :=
  (∀ a, (k0_off1440 v5799) a + S1x50x512.size a ≤ S250x50x512.size a)
theorem k0_off1440_inb : ∀ (v5799 : BitVec 32) (k0_hw720 : k0_chk720 v5799), ∀ a, (k0_off1440 v5799) a + S1x50x512.size a ≤ S250x50x512.size a := fun v5799 k0_hw720 => k0_hw720

def k0_off1441 (i : grid0.Coords) : Fin 3 → Nat :=
  let c6_6611 : Index := 6#32
  let c0_6612 : Index := 0#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5808 : Index := Scalar.indexCast v5747
  ![6, 0, v5808.toNat]
def k0_off1442 (v5809 : BitVec 32) : Fin 3 → Nat :=
  let v5810 : Index := Scalar.indexCast v5809
  let c0_6613 : Index := 0#32
  let c0_6614 : Index := 0#32
  ![v5810.toNat, 0, 0]

def k0_chk721 (v5809 : BitVec 32) : Prop :=
  (∀ a, (k0_off1442 v5809) a + S1x50x512.size a ≤ S250x50x512.size a)
theorem k0_off1442_inb : ∀ (v5809 : BitVec 32) (k0_hw721 : k0_chk721 v5809), ∀ a, (k0_off1442 v5809) a + S1x50x512.size a ≤ S250x50x512.size a := fun v5809 k0_hw721 => k0_hw721

def k0_off1443 (i : grid0.Coords) : Fin 3 → Nat :=
  let c0_6622 : Index := 0#32
  let c2_6623 : Index := 2#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5818 : Index := Scalar.indexCast v5747
  ![0, 2, v5818.toNat]
def k0_off1444 (v5819 : BitVec 32) : Fin 3 → Nat :=
  let c0_6628 : Index := 0#32
  let v5822 : Index := Scalar.indexCast v5819
  let c0_6629 : Index := 0#32
  ![0, v5822.toNat, 0]

def k0_chk722 (v5819 : BitVec 32) : Prop :=
  (∀ a, (k0_off1444 v5819) a + S7x1x512.size a ≤ S7x50x512.size a)
theorem k0_off1444_inb : ∀ (v5819 : BitVec 32) (k0_hw722 : k0_chk722 v5819), ∀ a, (k0_off1444 v5819) a + S7x1x512.size a ≤ S7x50x512.size a := fun v5819 k0_hw722 => k0_hw722

def k0_off1445 (i : grid0.Coords) : Fin 3 → Nat :=
  let c0_6630 : Index := 0#32
  let c3_6631 : Index := 3#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5824 : Index := Scalar.indexCast v5747
  ![0, 3, v5824.toNat]
def k0_off1446 (v5825 : BitVec 32) : Fin 3 → Nat :=
  let c0_6636 : Index := 0#32
  let v5828 : Index := Scalar.indexCast v5825
  let c0_6637 : Index := 0#32
  ![0, v5828.toNat, 0]

def k0_chk723 (v5825 : BitVec 32) : Prop :=
  (∀ a, (k0_off1446 v5825) a + S7x1x512.size a ≤ S7x50x512.size a)
theorem k0_off1446_inb : ∀ (v5825 : BitVec 32) (k0_hw723 : k0_chk723 v5825), ∀ a, (k0_off1446 v5825) a + S7x1x512.size a ≤ S7x50x512.size a := fun v5825 k0_hw723 => k0_hw723

def k0_off1447 (i : grid0.Coords) : Fin 3 → Nat :=
  let c0_6638 : Index := 0#32
  let c4_6639 : Index := 4#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5831 : Index := Scalar.indexCast v5747
  ![0, 4, v5831.toNat]
def k0_off1448 (v5832 : BitVec 32) : Fin 3 → Nat :=
  let c0_6644 : Index := 0#32
  let v5835 : Index := Scalar.indexCast v5832
  let c0_6645 : Index := 0#32
  ![0, v5835.toNat, 0]

def k0_chk724 (v5832 : BitVec 32) : Prop :=
  (∀ a, (k0_off1448 v5832) a + S7x1x512.size a ≤ S7x50x512.size a)
theorem k0_off1448_inb : ∀ (v5832 : BitVec 32) (k0_hw724 : k0_chk724 v5832), ∀ a, (k0_off1448 v5832) a + S7x1x512.size a ≤ S7x50x512.size a := fun v5832 k0_hw724 => k0_hw724

def k0_off1449 (i : grid0.Coords) : Fin 3 → Nat :=
  let c0_6646 : Index := 0#32
  let c5_6647 : Index := 5#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5838 : Index := Scalar.indexCast v5747
  ![0, 5, v5838.toNat]
def k0_off1450 (v5839 : BitVec 32) : Fin 3 → Nat :=
  let c0_6652 : Index := 0#32
  let v5842 : Index := Scalar.indexCast v5839
  let c0_6653 : Index := 0#32
  ![0, v5842.toNat, 0]

def k0_chk725 (v5839 : BitVec 32) : Prop :=
  (∀ a, (k0_off1450 v5839) a + S7x1x512.size a ≤ S7x50x512.size a)
theorem k0_off1450_inb : ∀ (v5839 : BitVec 32) (k0_hw725 : k0_chk725 v5839), ∀ a, (k0_off1450 v5839) a + S7x1x512.size a ≤ S7x50x512.size a := fun v5839 k0_hw725 => k0_hw725

def k0_off1451 (i : grid0.Coords) : Fin 3 → Nat :=
  let c0_6654 : Index := 0#32
  let c6_6655 : Index := 6#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5845 : Index := Scalar.indexCast v5747
  ![0, 6, v5845.toNat]
def k0_off1452 (v5846 : BitVec 32) : Fin 3 → Nat :=
  let c0_6660 : Index := 0#32
  let v5849 : Index := Scalar.indexCast v5846
  let c0_6661 : Index := 0#32
  ![0, v5849.toNat, 0]

def k0_chk726 (v5846 : BitVec 32) : Prop :=
  (∀ a, (k0_off1452 v5846) a + S7x1x512.size a ≤ S7x50x512.size a)
theorem k0_off1452_inb : ∀ (v5846 : BitVec 32) (k0_hw726 : k0_chk726 v5846), ∀ a, (k0_off1452 v5846) a + S7x1x512.size a ≤ S7x50x512.size a := fun v5846 k0_hw726 => k0_hw726

def k0_off1453 (i : grid0.Coords) : Fin 3 → Nat :=
  let c1_6665 : Index := 1#32
  let c2_6666 : Index := 2#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5856 : Index := Scalar.indexCast v5747
  ![1, 2, v5856.toNat]
def k0_off1454 (v5857 : BitVec 32) : Fin 3 → Nat :=
  let c0_6671 : Index := 0#32
  let v5860 : Index := Scalar.indexCast v5857
  let c0_6672 : Index := 0#32
  ![0, v5860.toNat, 0]

def k0_chk727 (v5857 : BitVec 32) : Prop :=
  (∀ a, (k0_off1454 v5857) a + S7x1x512.size a ≤ S7x50x512.size a)
theorem k0_off1454_inb : ∀ (v5857 : BitVec 32) (k0_hw727 : k0_chk727 v5857), ∀ a, (k0_off1454 v5857) a + S7x1x512.size a ≤ S7x50x512.size a := fun v5857 k0_hw727 => k0_hw727

def k0_off1455 (i : grid0.Coords) : Fin 3 → Nat :=
  let c1_6673 : Index := 1#32
  let c3_6674 : Index := 3#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5862 : Index := Scalar.indexCast v5747
  ![1, 3, v5862.toNat]
def k0_off1456 (v5863 : BitVec 32) : Fin 3 → Nat :=
  let c0_6679 : Index := 0#32
  let v5866 : Index := Scalar.indexCast v5863
  let c0_6680 : Index := 0#32
  ![0, v5866.toNat, 0]

def k0_chk728 (v5863 : BitVec 32) : Prop :=
  (∀ a, (k0_off1456 v5863) a + S7x1x512.size a ≤ S7x50x512.size a)
theorem k0_off1456_inb : ∀ (v5863 : BitVec 32) (k0_hw728 : k0_chk728 v5863), ∀ a, (k0_off1456 v5863) a + S7x1x512.size a ≤ S7x50x512.size a := fun v5863 k0_hw728 => k0_hw728

def k0_off1457 (i : grid0.Coords) : Fin 3 → Nat :=
  let c1_6681 : Index := 1#32
  let c4_6682 : Index := 4#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5869 : Index := Scalar.indexCast v5747
  ![1, 4, v5869.toNat]
def k0_off1458 (v5870 : BitVec 32) : Fin 3 → Nat :=
  let c0_6687 : Index := 0#32
  let v5873 : Index := Scalar.indexCast v5870
  let c0_6688 : Index := 0#32
  ![0, v5873.toNat, 0]

def k0_chk729 (v5870 : BitVec 32) : Prop :=
  (∀ a, (k0_off1458 v5870) a + S7x1x512.size a ≤ S7x50x512.size a)
theorem k0_off1458_inb : ∀ (v5870 : BitVec 32) (k0_hw729 : k0_chk729 v5870), ∀ a, (k0_off1458 v5870) a + S7x1x512.size a ≤ S7x50x512.size a := fun v5870 k0_hw729 => k0_hw729

def k0_off1459 (i : grid0.Coords) : Fin 3 → Nat :=
  let c1_6689 : Index := 1#32
  let c5_6690 : Index := 5#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5876 : Index := Scalar.indexCast v5747
  ![1, 5, v5876.toNat]
def k0_off1460 (v5877 : BitVec 32) : Fin 3 → Nat :=
  let c0_6695 : Index := 0#32
  let v5880 : Index := Scalar.indexCast v5877
  let c0_6696 : Index := 0#32
  ![0, v5880.toNat, 0]

def k0_chk730 (v5877 : BitVec 32) : Prop :=
  (∀ a, (k0_off1460 v5877) a + S7x1x512.size a ≤ S7x50x512.size a)
theorem k0_off1460_inb : ∀ (v5877 : BitVec 32) (k0_hw730 : k0_chk730 v5877), ∀ a, (k0_off1460 v5877) a + S7x1x512.size a ≤ S7x50x512.size a := fun v5877 k0_hw730 => k0_hw730

def k0_off1461 (i : grid0.Coords) : Fin 3 → Nat :=
  let c1_6697 : Index := 1#32
  let c6_6698 : Index := 6#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5883 : Index := Scalar.indexCast v5747
  ![1, 6, v5883.toNat]
def k0_off1462 (v5884 : BitVec 32) : Fin 3 → Nat :=
  let c0_6703 : Index := 0#32
  let v5887 : Index := Scalar.indexCast v5884
  let c0_6704 : Index := 0#32
  ![0, v5887.toNat, 0]

def k0_chk731 (v5884 : BitVec 32) : Prop :=
  (∀ a, (k0_off1462 v5884) a + S7x1x512.size a ≤ S7x50x512.size a)
theorem k0_off1462_inb : ∀ (v5884 : BitVec 32) (k0_hw731 : k0_chk731 v5884), ∀ a, (k0_off1462 v5884) a + S7x1x512.size a ≤ S7x50x512.size a := fun v5884 k0_hw731 => k0_hw731

def k0_off1463 (i : grid0.Coords) : Fin 3 → Nat :=
  let c2_6709 : Index := 2#32
  let c2_6710 : Index := 2#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5894 : Index := Scalar.indexCast v5747
  ![2, 2, v5894.toNat]
def k0_off1464 (v5895 : BitVec 32) : Fin 3 → Nat :=
  let c0_6715 : Index := 0#32
  let v5898 : Index := Scalar.indexCast v5895
  let c0_6716 : Index := 0#32
  ![0, v5898.toNat, 0]

def k0_chk732 (v5895 : BitVec 32) : Prop :=
  (∀ a, (k0_off1464 v5895) a + S7x1x512.size a ≤ S7x50x512.size a)
theorem k0_off1464_inb : ∀ (v5895 : BitVec 32) (k0_hw732 : k0_chk732 v5895), ∀ a, (k0_off1464 v5895) a + S7x1x512.size a ≤ S7x50x512.size a := fun v5895 k0_hw732 => k0_hw732

def k0_off1465 (i : grid0.Coords) : Fin 3 → Nat :=
  let c2_6717 : Index := 2#32
  let c3_6718 : Index := 3#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5900 : Index := Scalar.indexCast v5747
  ![2, 3, v5900.toNat]
def k0_off1466 (v5901 : BitVec 32) : Fin 3 → Nat :=
  let c0_6723 : Index := 0#32
  let v5904 : Index := Scalar.indexCast v5901
  let c0_6724 : Index := 0#32
  ![0, v5904.toNat, 0]

def k0_chk733 (v5901 : BitVec 32) : Prop :=
  (∀ a, (k0_off1466 v5901) a + S7x1x512.size a ≤ S7x50x512.size a)
theorem k0_off1466_inb : ∀ (v5901 : BitVec 32) (k0_hw733 : k0_chk733 v5901), ∀ a, (k0_off1466 v5901) a + S7x1x512.size a ≤ S7x50x512.size a := fun v5901 k0_hw733 => k0_hw733

def k0_off1467 (i : grid0.Coords) : Fin 3 → Nat :=
  let c2_6725 : Index := 2#32
  let c4_6726 : Index := 4#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5907 : Index := Scalar.indexCast v5747
  ![2, 4, v5907.toNat]
def k0_off1468 (v5908 : BitVec 32) : Fin 3 → Nat :=
  let c0_6731 : Index := 0#32
  let v5911 : Index := Scalar.indexCast v5908
  let c0_6732 : Index := 0#32
  ![0, v5911.toNat, 0]

def k0_chk734 (v5908 : BitVec 32) : Prop :=
  (∀ a, (k0_off1468 v5908) a + S7x1x512.size a ≤ S7x50x512.size a)
theorem k0_off1468_inb : ∀ (v5908 : BitVec 32) (k0_hw734 : k0_chk734 v5908), ∀ a, (k0_off1468 v5908) a + S7x1x512.size a ≤ S7x50x512.size a := fun v5908 k0_hw734 => k0_hw734

def k0_off1469 (i : grid0.Coords) : Fin 3 → Nat :=
  let c2_6733 : Index := 2#32
  let c5_6734 : Index := 5#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5914 : Index := Scalar.indexCast v5747
  ![2, 5, v5914.toNat]
def k0_off1470 (v5915 : BitVec 32) : Fin 3 → Nat :=
  let c0_6739 : Index := 0#32
  let v5918 : Index := Scalar.indexCast v5915
  let c0_6740 : Index := 0#32
  ![0, v5918.toNat, 0]

def k0_chk735 (v5915 : BitVec 32) : Prop :=
  (∀ a, (k0_off1470 v5915) a + S7x1x512.size a ≤ S7x50x512.size a)
theorem k0_off1470_inb : ∀ (v5915 : BitVec 32) (k0_hw735 : k0_chk735 v5915), ∀ a, (k0_off1470 v5915) a + S7x1x512.size a ≤ S7x50x512.size a := fun v5915 k0_hw735 => k0_hw735

def k0_off1471 (i : grid0.Coords) : Fin 3 → Nat :=
  let c2_6741 : Index := 2#32
  let c6_6742 : Index := 6#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5921 : Index := Scalar.indexCast v5747
  ![2, 6, v5921.toNat]
def k0_off1472 (v5922 : BitVec 32) : Fin 3 → Nat :=
  let c0_6747 : Index := 0#32
  let v5925 : Index := Scalar.indexCast v5922
  let c0_6748 : Index := 0#32
  ![0, v5925.toNat, 0]

def k0_chk736 (v5922 : BitVec 32) : Prop :=
  (∀ a, (k0_off1472 v5922) a + S7x1x512.size a ≤ S7x50x512.size a)
theorem k0_off1472_inb : ∀ (v5922 : BitVec 32) (k0_hw736 : k0_chk736 v5922), ∀ a, (k0_off1472 v5922) a + S7x1x512.size a ≤ S7x50x512.size a := fun v5922 k0_hw736 => k0_hw736

def k0_off1473 (i : grid0.Coords) : Fin 3 → Nat :=
  let c3_6753 : Index := 3#32
  let c2_6754 : Index := 2#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5932 : Index := Scalar.indexCast v5747
  ![3, 2, v5932.toNat]
def k0_off1474 (v5933 : BitVec 32) : Fin 3 → Nat :=
  let c0_6759 : Index := 0#32
  let v5936 : Index := Scalar.indexCast v5933
  let c0_6760 : Index := 0#32
  ![0, v5936.toNat, 0]

def k0_chk737 (v5933 : BitVec 32) : Prop :=
  (∀ a, (k0_off1474 v5933) a + S7x1x512.size a ≤ S7x50x512.size a)
theorem k0_off1474_inb : ∀ (v5933 : BitVec 32) (k0_hw737 : k0_chk737 v5933), ∀ a, (k0_off1474 v5933) a + S7x1x512.size a ≤ S7x50x512.size a := fun v5933 k0_hw737 => k0_hw737

def k0_off1475 (i : grid0.Coords) : Fin 3 → Nat :=
  let c3_6761 : Index := 3#32
  let c3_6762 : Index := 3#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5938 : Index := Scalar.indexCast v5747
  ![3, 3, v5938.toNat]
def k0_off1476 (v5939 : BitVec 32) : Fin 3 → Nat :=
  let c0_6767 : Index := 0#32
  let v5942 : Index := Scalar.indexCast v5939
  let c0_6768 : Index := 0#32
  ![0, v5942.toNat, 0]

def k0_chk738 (v5939 : BitVec 32) : Prop :=
  (∀ a, (k0_off1476 v5939) a + S7x1x512.size a ≤ S7x50x512.size a)
theorem k0_off1476_inb : ∀ (v5939 : BitVec 32) (k0_hw738 : k0_chk738 v5939), ∀ a, (k0_off1476 v5939) a + S7x1x512.size a ≤ S7x50x512.size a := fun v5939 k0_hw738 => k0_hw738

def k0_off1477 (i : grid0.Coords) : Fin 3 → Nat :=
  let c3_6769 : Index := 3#32
  let c4_6770 : Index := 4#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5945 : Index := Scalar.indexCast v5747
  ![3, 4, v5945.toNat]
def k0_off1478 (v5946 : BitVec 32) : Fin 3 → Nat :=
  let c0_6775 : Index := 0#32
  let v5949 : Index := Scalar.indexCast v5946
  let c0_6776 : Index := 0#32
  ![0, v5949.toNat, 0]

def k0_chk739 (v5946 : BitVec 32) : Prop :=
  (∀ a, (k0_off1478 v5946) a + S7x1x512.size a ≤ S7x50x512.size a)
theorem k0_off1478_inb : ∀ (v5946 : BitVec 32) (k0_hw739 : k0_chk739 v5946), ∀ a, (k0_off1478 v5946) a + S7x1x512.size a ≤ S7x50x512.size a := fun v5946 k0_hw739 => k0_hw739

def k0_off1479 (i : grid0.Coords) : Fin 3 → Nat :=
  let c3_6777 : Index := 3#32
  let c5_6778 : Index := 5#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5952 : Index := Scalar.indexCast v5747
  ![3, 5, v5952.toNat]
def k0_off1480 (v5953 : BitVec 32) : Fin 3 → Nat :=
  let c0_6783 : Index := 0#32
  let v5956 : Index := Scalar.indexCast v5953
  let c0_6784 : Index := 0#32
  ![0, v5956.toNat, 0]

def k0_chk740 (v5953 : BitVec 32) : Prop :=
  (∀ a, (k0_off1480 v5953) a + S7x1x512.size a ≤ S7x50x512.size a)
theorem k0_off1480_inb : ∀ (v5953 : BitVec 32) (k0_hw740 : k0_chk740 v5953), ∀ a, (k0_off1480 v5953) a + S7x1x512.size a ≤ S7x50x512.size a := fun v5953 k0_hw740 => k0_hw740

def k0_off1481 (i : grid0.Coords) : Fin 3 → Nat :=
  let c3_6785 : Index := 3#32
  let c6_6786 : Index := 6#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5959 : Index := Scalar.indexCast v5747
  ![3, 6, v5959.toNat]
def k0_off1482 (v5960 : BitVec 32) : Fin 3 → Nat :=
  let c0_6791 : Index := 0#32
  let v5963 : Index := Scalar.indexCast v5960
  let c0_6792 : Index := 0#32
  ![0, v5963.toNat, 0]

def k0_chk741 (v5960 : BitVec 32) : Prop :=
  (∀ a, (k0_off1482 v5960) a + S7x1x512.size a ≤ S7x50x512.size a)
theorem k0_off1482_inb : ∀ (v5960 : BitVec 32) (k0_hw741 : k0_chk741 v5960), ∀ a, (k0_off1482 v5960) a + S7x1x512.size a ≤ S7x50x512.size a := fun v5960 k0_hw741 => k0_hw741

def k0_off1483 (i : grid0.Coords) : Fin 3 → Nat :=
  let c4_6797 : Index := 4#32
  let c2_6798 : Index := 2#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5970 : Index := Scalar.indexCast v5747
  ![4, 2, v5970.toNat]
def k0_off1484 (v5971 : BitVec 32) : Fin 3 → Nat :=
  let c0_6803 : Index := 0#32
  let v5974 : Index := Scalar.indexCast v5971
  let c0_6804 : Index := 0#32
  ![0, v5974.toNat, 0]

def k0_chk742 (v5971 : BitVec 32) : Prop :=
  (∀ a, (k0_off1484 v5971) a + S7x1x512.size a ≤ S7x50x512.size a)
theorem k0_off1484_inb : ∀ (v5971 : BitVec 32) (k0_hw742 : k0_chk742 v5971), ∀ a, (k0_off1484 v5971) a + S7x1x512.size a ≤ S7x50x512.size a := fun v5971 k0_hw742 => k0_hw742

def k0_off1485 (i : grid0.Coords) : Fin 3 → Nat :=
  let c4_6805 : Index := 4#32
  let c3_6806 : Index := 3#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5976 : Index := Scalar.indexCast v5747
  ![4, 3, v5976.toNat]
def k0_off1486 (v5977 : BitVec 32) : Fin 3 → Nat :=
  let c0_6811 : Index := 0#32
  let v5980 : Index := Scalar.indexCast v5977
  let c0_6812 : Index := 0#32
  ![0, v5980.toNat, 0]

def k0_chk743 (v5977 : BitVec 32) : Prop :=
  (∀ a, (k0_off1486 v5977) a + S7x1x512.size a ≤ S7x50x512.size a)
theorem k0_off1486_inb : ∀ (v5977 : BitVec 32) (k0_hw743 : k0_chk743 v5977), ∀ a, (k0_off1486 v5977) a + S7x1x512.size a ≤ S7x50x512.size a := fun v5977 k0_hw743 => k0_hw743

def k0_off1487 (i : grid0.Coords) : Fin 3 → Nat :=
  let c4_6813 : Index := 4#32
  let c4_6814 : Index := 4#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5983 : Index := Scalar.indexCast v5747
  ![4, 4, v5983.toNat]
def k0_off1488 (v5984 : BitVec 32) : Fin 3 → Nat :=
  let c0_6819 : Index := 0#32
  let v5987 : Index := Scalar.indexCast v5984
  let c0_6820 : Index := 0#32
  ![0, v5987.toNat, 0]

def k0_chk744 (v5984 : BitVec 32) : Prop :=
  (∀ a, (k0_off1488 v5984) a + S7x1x512.size a ≤ S7x50x512.size a)
theorem k0_off1488_inb : ∀ (v5984 : BitVec 32) (k0_hw744 : k0_chk744 v5984), ∀ a, (k0_off1488 v5984) a + S7x1x512.size a ≤ S7x50x512.size a := fun v5984 k0_hw744 => k0_hw744

def k0_off1489 (i : grid0.Coords) : Fin 3 → Nat :=
  let c4_6821 : Index := 4#32
  let c5_6822 : Index := 5#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5990 : Index := Scalar.indexCast v5747
  ![4, 5, v5990.toNat]
def k0_off1490 (v5991 : BitVec 32) : Fin 3 → Nat :=
  let c0_6827 : Index := 0#32
  let v5994 : Index := Scalar.indexCast v5991
  let c0_6828 : Index := 0#32
  ![0, v5994.toNat, 0]

def k0_chk745 (v5991 : BitVec 32) : Prop :=
  (∀ a, (k0_off1490 v5991) a + S7x1x512.size a ≤ S7x50x512.size a)
theorem k0_off1490_inb : ∀ (v5991 : BitVec 32) (k0_hw745 : k0_chk745 v5991), ∀ a, (k0_off1490 v5991) a + S7x1x512.size a ≤ S7x50x512.size a := fun v5991 k0_hw745 => k0_hw745

def k0_off1491 (i : grid0.Coords) : Fin 3 → Nat :=
  let c4_6829 : Index := 4#32
  let c6_6830 : Index := 6#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v5997 : Index := Scalar.indexCast v5747
  ![4, 6, v5997.toNat]
def k0_off1492 (v5998 : BitVec 32) : Fin 3 → Nat :=
  let c0_6835 : Index := 0#32
  let v6001 : Index := Scalar.indexCast v5998
  let c0_6836 : Index := 0#32
  ![0, v6001.toNat, 0]

def k0_chk746 (v5998 : BitVec 32) : Prop :=
  (∀ a, (k0_off1492 v5998) a + S7x1x512.size a ≤ S7x50x512.size a)
theorem k0_off1492_inb : ∀ (v5998 : BitVec 32) (k0_hw746 : k0_chk746 v5998), ∀ a, (k0_off1492 v5998) a + S7x1x512.size a ≤ S7x50x512.size a := fun v5998 k0_hw746 => k0_hw746

def k0_off1493 (i : grid0.Coords) : Fin 3 → Nat :=
  let c5_6841 : Index := 5#32
  let c2_6842 : Index := 2#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v6008 : Index := Scalar.indexCast v5747
  ![5, 2, v6008.toNat]
def k0_off1494 (v6009 : BitVec 32) : Fin 3 → Nat :=
  let c0_6847 : Index := 0#32
  let v6012 : Index := Scalar.indexCast v6009
  let c0_6848 : Index := 0#32
  ![0, v6012.toNat, 0]

def k0_chk747 (v6009 : BitVec 32) : Prop :=
  (∀ a, (k0_off1494 v6009) a + S7x1x512.size a ≤ S7x50x512.size a)
theorem k0_off1494_inb : ∀ (v6009 : BitVec 32) (k0_hw747 : k0_chk747 v6009), ∀ a, (k0_off1494 v6009) a + S7x1x512.size a ≤ S7x50x512.size a := fun v6009 k0_hw747 => k0_hw747

def k0_off1495 (i : grid0.Coords) : Fin 3 → Nat :=
  let c5_6849 : Index := 5#32
  let c3_6850 : Index := 3#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v6014 : Index := Scalar.indexCast v5747
  ![5, 3, v6014.toNat]
def k0_off1496 (v6015 : BitVec 32) : Fin 3 → Nat :=
  let c0_6855 : Index := 0#32
  let v6018 : Index := Scalar.indexCast v6015
  let c0_6856 : Index := 0#32
  ![0, v6018.toNat, 0]

def k0_chk748 (v6015 : BitVec 32) : Prop :=
  (∀ a, (k0_off1496 v6015) a + S7x1x512.size a ≤ S7x50x512.size a)
theorem k0_off1496_inb : ∀ (v6015 : BitVec 32) (k0_hw748 : k0_chk748 v6015), ∀ a, (k0_off1496 v6015) a + S7x1x512.size a ≤ S7x50x512.size a := fun v6015 k0_hw748 => k0_hw748

def k0_off1497 (i : grid0.Coords) : Fin 3 → Nat :=
  let c5_6857 : Index := 5#32
  let c4_6858 : Index := 4#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v6021 : Index := Scalar.indexCast v5747
  ![5, 4, v6021.toNat]
def k0_off1498 (v6022 : BitVec 32) : Fin 3 → Nat :=
  let c0_6863 : Index := 0#32
  let v6025 : Index := Scalar.indexCast v6022
  let c0_6864 : Index := 0#32
  ![0, v6025.toNat, 0]

def k0_chk749 (v6022 : BitVec 32) : Prop :=
  (∀ a, (k0_off1498 v6022) a + S7x1x512.size a ≤ S7x50x512.size a)
theorem k0_off1498_inb : ∀ (v6022 : BitVec 32) (k0_hw749 : k0_chk749 v6022), ∀ a, (k0_off1498 v6022) a + S7x1x512.size a ≤ S7x50x512.size a := fun v6022 k0_hw749 => k0_hw749

def k0_off1499 (i : grid0.Coords) : Fin 3 → Nat :=
  let c5_6865 : Index := 5#32
  let c5_6866 : Index := 5#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v6028 : Index := Scalar.indexCast v5747
  ![5, 5, v6028.toNat]
def k0_off1500 (v6029 : BitVec 32) : Fin 3 → Nat :=
  let c0_6871 : Index := 0#32
  let v6032 : Index := Scalar.indexCast v6029
  let c0_6872 : Index := 0#32
  ![0, v6032.toNat, 0]

def k0_chk750 (v6029 : BitVec 32) : Prop :=
  (∀ a, (k0_off1500 v6029) a + S7x1x512.size a ≤ S7x50x512.size a)
theorem k0_off1500_inb : ∀ (v6029 : BitVec 32) (k0_hw750 : k0_chk750 v6029), ∀ a, (k0_off1500 v6029) a + S7x1x512.size a ≤ S7x50x512.size a := fun v6029 k0_hw750 => k0_hw750

def k0_off1501 (i : grid0.Coords) : Fin 3 → Nat :=
  let c5_6873 : Index := 5#32
  let c6_6874 : Index := 6#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v6035 : Index := Scalar.indexCast v5747
  ![5, 6, v6035.toNat]
def k0_off1502 (v6036 : BitVec 32) : Fin 3 → Nat :=
  let c0_6879 : Index := 0#32
  let v6039 : Index := Scalar.indexCast v6036
  let c0_6880 : Index := 0#32
  ![0, v6039.toNat, 0]

def k0_chk751 (v6036 : BitVec 32) : Prop :=
  (∀ a, (k0_off1502 v6036) a + S7x1x512.size a ≤ S7x50x512.size a)
theorem k0_off1502_inb : ∀ (v6036 : BitVec 32) (k0_hw751 : k0_chk751 v6036), ∀ a, (k0_off1502 v6036) a + S7x1x512.size a ≤ S7x50x512.size a := fun v6036 k0_hw751 => k0_hw751

def k0_off1503 (i : grid0.Coords) : Fin 3 → Nat :=
  let c6_6885 : Index := 6#32
  let c2_6886 : Index := 2#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v6046 : Index := Scalar.indexCast v5747
  ![6, 2, v6046.toNat]
def k0_off1504 (v6047 : BitVec 32) : Fin 3 → Nat :=
  let c0_6891 : Index := 0#32
  let v6050 : Index := Scalar.indexCast v6047
  let c0_6892 : Index := 0#32
  ![0, v6050.toNat, 0]

def k0_chk752 (v6047 : BitVec 32) : Prop :=
  (∀ a, (k0_off1504 v6047) a + S7x1x512.size a ≤ S7x50x512.size a)
theorem k0_off1504_inb : ∀ (v6047 : BitVec 32) (k0_hw752 : k0_chk752 v6047), ∀ a, (k0_off1504 v6047) a + S7x1x512.size a ≤ S7x50x512.size a := fun v6047 k0_hw752 => k0_hw752

def k0_off1505 (i : grid0.Coords) : Fin 3 → Nat :=
  let c6_6893 : Index := 6#32
  let c3_6894 : Index := 3#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v6052 : Index := Scalar.indexCast v5747
  ![6, 3, v6052.toNat]
def k0_off1506 (v6053 : BitVec 32) : Fin 3 → Nat :=
  let c0_6899 : Index := 0#32
  let v6056 : Index := Scalar.indexCast v6053
  let c0_6900 : Index := 0#32
  ![0, v6056.toNat, 0]

def k0_chk753 (v6053 : BitVec 32) : Prop :=
  (∀ a, (k0_off1506 v6053) a + S7x1x512.size a ≤ S7x50x512.size a)
theorem k0_off1506_inb : ∀ (v6053 : BitVec 32) (k0_hw753 : k0_chk753 v6053), ∀ a, (k0_off1506 v6053) a + S7x1x512.size a ≤ S7x50x512.size a := fun v6053 k0_hw753 => k0_hw753

def k0_off1507 (i : grid0.Coords) : Fin 3 → Nat :=
  let c6_6901 : Index := 6#32
  let c4_6902 : Index := 4#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v6059 : Index := Scalar.indexCast v5747
  ![6, 4, v6059.toNat]
def k0_off1508 (v6060 : BitVec 32) : Fin 3 → Nat :=
  let c0_6907 : Index := 0#32
  let v6063 : Index := Scalar.indexCast v6060
  let c0_6908 : Index := 0#32
  ![0, v6063.toNat, 0]

def k0_chk754 (v6060 : BitVec 32) : Prop :=
  (∀ a, (k0_off1508 v6060) a + S7x1x512.size a ≤ S7x50x512.size a)
theorem k0_off1508_inb : ∀ (v6060 : BitVec 32) (k0_hw754 : k0_chk754 v6060), ∀ a, (k0_off1508 v6060) a + S7x1x512.size a ≤ S7x50x512.size a := fun v6060 k0_hw754 => k0_hw754

def k0_off1509 (i : grid0.Coords) : Fin 3 → Nat :=
  let c6_6909 : Index := 6#32
  let c5_6910 : Index := 5#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v6066 : Index := Scalar.indexCast v5747
  ![6, 5, v6066.toNat]
def k0_off1510 (v6067 : BitVec 32) : Fin 3 → Nat :=
  let c0_6915 : Index := 0#32
  let v6070 : Index := Scalar.indexCast v6067
  let c0_6916 : Index := 0#32
  ![0, v6070.toNat, 0]

def k0_chk755 (v6067 : BitVec 32) : Prop :=
  (∀ a, (k0_off1510 v6067) a + S7x1x512.size a ≤ S7x50x512.size a)
theorem k0_off1510_inb : ∀ (v6067 : BitVec 32) (k0_hw755 : k0_chk755 v6067), ∀ a, (k0_off1510 v6067) a + S7x1x512.size a ≤ S7x50x512.size a := fun v6067 k0_hw755 => k0_hw755

def k0_off1511 (i : grid0.Coords) : Fin 3 → Nat :=
  let c6_6917 : Index := 6#32
  let c6_6918 : Index := 6#32
  let arg0 : BitVec 32 := BitVec.ofNat 32 (i 0).val
  let c32_i32_6544 : BitVec 32 := 32#32
  let v5746 : BitVec 32 := Scalar.muli arg0 c32_i32_6544
  let c17_i32 : BitVec 32 := 17#32
  let v5747 : BitVec 32 := Scalar.addi v5746 c17_i32
  let v6073 : Index := Scalar.indexCast v5747
  ![6, 6, v6073.toNat]
def k0_off1512 (v6074 : BitVec 32) : Fin 3 → Nat :=
  let c0_6923 : Index := 0#32
  let v6077 : Index := Scalar.indexCast v6074
  let c0_6924 : Index := 0#32
  ![0, v6077.toNat, 0]

def k0_chk756 (v6074 : BitVec 32) : Prop :=
  (∀ a, (k0_off1512 v6074) a + S7x1x512.size a ≤ S7x50x512.size a)
theorem k0_off1512_inb : ∀ (v6074 : BitVec 32) (k0_hw756 : k0_chk756 v6074), ∀ a, (k0_off1512 v6074) a + S7x1x512.size a ≤ S7x50x512.size a := fun v6074 k0_hw756 => k0_hw756

def k0_off1513 (i : grid0.Coords) : Fin 3 → Nat :=
  let c0_6930 : Index := 0#32
  let c0_6931 : Index := 0#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6086 : Index := Scalar.indexCast v6085
  ![0, 0, v6086.toNat]
def k0_off1514 (v6087 : BitVec 32) : Fin 3 → Nat :=
  let v6088 : Index := Scalar.indexCast v6087
  let c0_6932 : Index := 0#32
  let c0_6933 : Index := 0#32
  ![v6088.toNat, 0, 0]

def k0_chk757 (v6087 : BitVec 32) : Prop :=
  (∀ a, (k0_off1514 v6087) a + S1x50x512.size a ≤ S250x50x512.size a)
theorem k0_off1514_inb : ∀ (v6087 : BitVec 32) (k0_hw757 : k0_chk757 v6087), ∀ a, (k0_off1514 v6087) a + S1x50x512.size a ≤ S250x50x512.size a := fun v6087 k0_hw757 => k0_hw757

def k0_off1515 (i : grid0.Coords) : Fin 3 → Nat :=
  let c1_6941 : Index := 1#32
  let c0_6942 : Index := 0#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6096 : Index := Scalar.indexCast v6085
  ![1, 0, v6096.toNat]
def k0_off1516 (v6097 : BitVec 32) : Fin 3 → Nat :=
  let v6098 : Index := Scalar.indexCast v6097
  let c0_6943 : Index := 0#32
  let c0_6944 : Index := 0#32
  ![v6098.toNat, 0, 0]

def k0_chk758 (v6097 : BitVec 32) : Prop :=
  (∀ a, (k0_off1516 v6097) a + S1x50x512.size a ≤ S250x50x512.size a)
theorem k0_off1516_inb : ∀ (v6097 : BitVec 32) (k0_hw758 : k0_chk758 v6097), ∀ a, (k0_off1516 v6097) a + S1x50x512.size a ≤ S250x50x512.size a := fun v6097 k0_hw758 => k0_hw758

def k0_off1517 (i : grid0.Coords) : Fin 3 → Nat :=
  let c2_6952 : Index := 2#32
  let c0_6953 : Index := 0#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6106 : Index := Scalar.indexCast v6085
  ![2, 0, v6106.toNat]
def k0_off1518 (v6107 : BitVec 32) : Fin 3 → Nat :=
  let v6108 : Index := Scalar.indexCast v6107
  let c0_6954 : Index := 0#32
  let c0_6955 : Index := 0#32
  ![v6108.toNat, 0, 0]

def k0_chk759 (v6107 : BitVec 32) : Prop :=
  (∀ a, (k0_off1518 v6107) a + S1x50x512.size a ≤ S250x50x512.size a)
theorem k0_off1518_inb : ∀ (v6107 : BitVec 32) (k0_hw759 : k0_chk759 v6107), ∀ a, (k0_off1518 v6107) a + S1x50x512.size a ≤ S250x50x512.size a := fun v6107 k0_hw759 => k0_hw759

def k0_off1519 (i : grid0.Coords) : Fin 3 → Nat :=
  let c3_6963 : Index := 3#32
  let c0_6964 : Index := 0#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6116 : Index := Scalar.indexCast v6085
  ![3, 0, v6116.toNat]
def k0_off1520 (v6117 : BitVec 32) : Fin 3 → Nat :=
  let v6118 : Index := Scalar.indexCast v6117
  let c0_6965 : Index := 0#32
  let c0_6966 : Index := 0#32
  ![v6118.toNat, 0, 0]

def k0_chk760 (v6117 : BitVec 32) : Prop :=
  (∀ a, (k0_off1520 v6117) a + S1x50x512.size a ≤ S250x50x512.size a)
theorem k0_off1520_inb : ∀ (v6117 : BitVec 32) (k0_hw760 : k0_chk760 v6117), ∀ a, (k0_off1520 v6117) a + S1x50x512.size a ≤ S250x50x512.size a := fun v6117 k0_hw760 => k0_hw760

def k0_off1521 (i : grid0.Coords) : Fin 3 → Nat :=
  let c4_6974 : Index := 4#32
  let c0_6975 : Index := 0#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6126 : Index := Scalar.indexCast v6085
  ![4, 0, v6126.toNat]
def k0_off1522 (v6127 : BitVec 32) : Fin 3 → Nat :=
  let v6128 : Index := Scalar.indexCast v6127
  let c0_6976 : Index := 0#32
  let c0_6977 : Index := 0#32
  ![v6128.toNat, 0, 0]

def k0_chk761 (v6127 : BitVec 32) : Prop :=
  (∀ a, (k0_off1522 v6127) a + S1x50x512.size a ≤ S250x50x512.size a)
theorem k0_off1522_inb : ∀ (v6127 : BitVec 32) (k0_hw761 : k0_chk761 v6127), ∀ a, (k0_off1522 v6127) a + S1x50x512.size a ≤ S250x50x512.size a := fun v6127 k0_hw761 => k0_hw761

def k0_off1523 (i : grid0.Coords) : Fin 3 → Nat :=
  let c5_6985 : Index := 5#32
  let c0_6986 : Index := 0#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6136 : Index := Scalar.indexCast v6085
  ![5, 0, v6136.toNat]
def k0_off1524 (v6137 : BitVec 32) : Fin 3 → Nat :=
  let v6138 : Index := Scalar.indexCast v6137
  let c0_6987 : Index := 0#32
  let c0_6988 : Index := 0#32
  ![v6138.toNat, 0, 0]

def k0_chk762 (v6137 : BitVec 32) : Prop :=
  (∀ a, (k0_off1524 v6137) a + S1x50x512.size a ≤ S250x50x512.size a)
theorem k0_off1524_inb : ∀ (v6137 : BitVec 32) (k0_hw762 : k0_chk762 v6137), ∀ a, (k0_off1524 v6137) a + S1x50x512.size a ≤ S250x50x512.size a := fun v6137 k0_hw762 => k0_hw762

def k0_off1525 (i : grid0.Coords) : Fin 3 → Nat :=
  let c6_6996 : Index := 6#32
  let c0_6997 : Index := 0#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6146 : Index := Scalar.indexCast v6085
  ![6, 0, v6146.toNat]
def k0_off1526 (v6147 : BitVec 32) : Fin 3 → Nat :=
  let v6148 : Index := Scalar.indexCast v6147
  let c0_6998 : Index := 0#32
  let c0_6999 : Index := 0#32
  ![v6148.toNat, 0, 0]

def k0_chk763 (v6147 : BitVec 32) : Prop :=
  (∀ a, (k0_off1526 v6147) a + S1x50x512.size a ≤ S250x50x512.size a)
theorem k0_off1526_inb : ∀ (v6147 : BitVec 32) (k0_hw763 : k0_chk763 v6147), ∀ a, (k0_off1526 v6147) a + S1x50x512.size a ≤ S250x50x512.size a := fun v6147 k0_hw763 => k0_hw763

def k0_off1527 (i : grid0.Coords) : Fin 3 → Nat :=
  let c0_7007 : Index := 0#32
  let c2_7008 : Index := 2#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6156 : Index := Scalar.indexCast v6085
  ![0, 2, v6156.toNat]
def k0_off1528 (v6157 : BitVec 32) : Fin 3 → Nat :=
  let c0_7013 : Index := 0#32
  let v6160 : Index := Scalar.indexCast v6157
  let c0_7014 : Index := 0#32
  ![0, v6160.toNat, 0]

def k0_chk764 (v6157 : BitVec 32) : Prop :=
  (∀ a, (k0_off1528 v6157) a + S7x1x512.size a ≤ S7x50x512.size a)
theorem k0_off1528_inb : ∀ (v6157 : BitVec 32) (k0_hw764 : k0_chk764 v6157), ∀ a, (k0_off1528 v6157) a + S7x1x512.size a ≤ S7x50x512.size a := fun v6157 k0_hw764 => k0_hw764

def k0_off1529 (i : grid0.Coords) : Fin 3 → Nat :=
  let c0_7015 : Index := 0#32
  let c3_7016 : Index := 3#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6162 : Index := Scalar.indexCast v6085
  ![0, 3, v6162.toNat]
def k0_off1530 (v6163 : BitVec 32) : Fin 3 → Nat :=
  let c0_7021 : Index := 0#32
  let v6166 : Index := Scalar.indexCast v6163
  let c0_7022 : Index := 0#32
  ![0, v6166.toNat, 0]

def k0_chk765 (v6163 : BitVec 32) : Prop :=
  (∀ a, (k0_off1530 v6163) a + S7x1x512.size a ≤ S7x50x512.size a)
theorem k0_off1530_inb : ∀ (v6163 : BitVec 32) (k0_hw765 : k0_chk765 v6163), ∀ a, (k0_off1530 v6163) a + S7x1x512.size a ≤ S7x50x512.size a := fun v6163 k0_hw765 => k0_hw765

def k0_off1531 (i : grid0.Coords) : Fin 3 → Nat :=
  let c0_7023 : Index := 0#32
  let c4_7024 : Index := 4#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6169 : Index := Scalar.indexCast v6085
  ![0, 4, v6169.toNat]
def k0_off1532 (v6170 : BitVec 32) : Fin 3 → Nat :=
  let c0_7029 : Index := 0#32
  let v6173 : Index := Scalar.indexCast v6170
  let c0_7030 : Index := 0#32
  ![0, v6173.toNat, 0]

def k0_chk766 (v6170 : BitVec 32) : Prop :=
  (∀ a, (k0_off1532 v6170) a + S7x1x512.size a ≤ S7x50x512.size a)
theorem k0_off1532_inb : ∀ (v6170 : BitVec 32) (k0_hw766 : k0_chk766 v6170), ∀ a, (k0_off1532 v6170) a + S7x1x512.size a ≤ S7x50x512.size a := fun v6170 k0_hw766 => k0_hw766

def k0_off1533 (i : grid0.Coords) : Fin 3 → Nat :=
  let c0_7031 : Index := 0#32
  let c5_7032 : Index := 5#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6176 : Index := Scalar.indexCast v6085
  ![0, 5, v6176.toNat]
def k0_off1534 (v6177 : BitVec 32) : Fin 3 → Nat :=
  let c0_7037 : Index := 0#32
  let v6180 : Index := Scalar.indexCast v6177
  let c0_7038 : Index := 0#32
  ![0, v6180.toNat, 0]

def k0_chk767 (v6177 : BitVec 32) : Prop :=
  (∀ a, (k0_off1534 v6177) a + S7x1x512.size a ≤ S7x50x512.size a)
theorem k0_off1534_inb : ∀ (v6177 : BitVec 32) (k0_hw767 : k0_chk767 v6177), ∀ a, (k0_off1534 v6177) a + S7x1x512.size a ≤ S7x50x512.size a := fun v6177 k0_hw767 => k0_hw767

def k0_off1535 (i : grid0.Coords) : Fin 3 → Nat :=
  let c0_7039 : Index := 0#32
  let c6_7040 : Index := 6#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6183 : Index := Scalar.indexCast v6085
  ![0, 6, v6183.toNat]
def k0_off1536 (v6184 : BitVec 32) : Fin 3 → Nat :=
  let c0_7045 : Index := 0#32
  let v6187 : Index := Scalar.indexCast v6184
  let c0_7046 : Index := 0#32
  ![0, v6187.toNat, 0]

def k0_chk768 (v6184 : BitVec 32) : Prop :=
  (∀ a, (k0_off1536 v6184) a + S7x1x512.size a ≤ S7x50x512.size a)
theorem k0_off1536_inb : ∀ (v6184 : BitVec 32) (k0_hw768 : k0_chk768 v6184), ∀ a, (k0_off1536 v6184) a + S7x1x512.size a ≤ S7x50x512.size a := fun v6184 k0_hw768 => k0_hw768

def k0_off1537 (i : grid0.Coords) : Fin 3 → Nat :=
  let c1_7050 : Index := 1#32
  let c2_7051 : Index := 2#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6194 : Index := Scalar.indexCast v6085
  ![1, 2, v6194.toNat]
def k0_off1538 (v6195 : BitVec 32) : Fin 3 → Nat :=
  let c0_7056 : Index := 0#32
  let v6198 : Index := Scalar.indexCast v6195
  let c0_7057 : Index := 0#32
  ![0, v6198.toNat, 0]

def k0_chk769 (v6195 : BitVec 32) : Prop :=
  (∀ a, (k0_off1538 v6195) a + S7x1x512.size a ≤ S7x50x512.size a)
theorem k0_off1538_inb : ∀ (v6195 : BitVec 32) (k0_hw769 : k0_chk769 v6195), ∀ a, (k0_off1538 v6195) a + S7x1x512.size a ≤ S7x50x512.size a := fun v6195 k0_hw769 => k0_hw769

def k0_off1539 (i : grid0.Coords) : Fin 3 → Nat :=
  let c1_7058 : Index := 1#32
  let c3_7059 : Index := 3#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6200 : Index := Scalar.indexCast v6085
  ![1, 3, v6200.toNat]
def k0_off1540 (v6201 : BitVec 32) : Fin 3 → Nat :=
  let c0_7064 : Index := 0#32
  let v6204 : Index := Scalar.indexCast v6201
  let c0_7065 : Index := 0#32
  ![0, v6204.toNat, 0]

def k0_chk770 (v6201 : BitVec 32) : Prop :=
  (∀ a, (k0_off1540 v6201) a + S7x1x512.size a ≤ S7x50x512.size a)
theorem k0_off1540_inb : ∀ (v6201 : BitVec 32) (k0_hw770 : k0_chk770 v6201), ∀ a, (k0_off1540 v6201) a + S7x1x512.size a ≤ S7x50x512.size a := fun v6201 k0_hw770 => k0_hw770

def k0_off1541 (i : grid0.Coords) : Fin 3 → Nat :=
  let c1_7066 : Index := 1#32
  let c4_7067 : Index := 4#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6207 : Index := Scalar.indexCast v6085
  ![1, 4, v6207.toNat]
def k0_off1542 (v6208 : BitVec 32) : Fin 3 → Nat :=
  let c0_7072 : Index := 0#32
  let v6211 : Index := Scalar.indexCast v6208
  let c0_7073 : Index := 0#32
  ![0, v6211.toNat, 0]

def k0_chk771 (v6208 : BitVec 32) : Prop :=
  (∀ a, (k0_off1542 v6208) a + S7x1x512.size a ≤ S7x50x512.size a)
theorem k0_off1542_inb : ∀ (v6208 : BitVec 32) (k0_hw771 : k0_chk771 v6208), ∀ a, (k0_off1542 v6208) a + S7x1x512.size a ≤ S7x50x512.size a := fun v6208 k0_hw771 => k0_hw771

def k0_off1543 (i : grid0.Coords) : Fin 3 → Nat :=
  let c1_7074 : Index := 1#32
  let c5_7075 : Index := 5#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6214 : Index := Scalar.indexCast v6085
  ![1, 5, v6214.toNat]
def k0_off1544 (v6215 : BitVec 32) : Fin 3 → Nat :=
  let c0_7080 : Index := 0#32
  let v6218 : Index := Scalar.indexCast v6215
  let c0_7081 : Index := 0#32
  ![0, v6218.toNat, 0]

def k0_chk772 (v6215 : BitVec 32) : Prop :=
  (∀ a, (k0_off1544 v6215) a + S7x1x512.size a ≤ S7x50x512.size a)
theorem k0_off1544_inb : ∀ (v6215 : BitVec 32) (k0_hw772 : k0_chk772 v6215), ∀ a, (k0_off1544 v6215) a + S7x1x512.size a ≤ S7x50x512.size a := fun v6215 k0_hw772 => k0_hw772

def k0_off1545 (i : grid0.Coords) : Fin 3 → Nat :=
  let c1_7082 : Index := 1#32
  let c6_7083 : Index := 6#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6221 : Index := Scalar.indexCast v6085
  ![1, 6, v6221.toNat]
def k0_off1546 (v6222 : BitVec 32) : Fin 3 → Nat :=
  let c0_7088 : Index := 0#32
  let v6225 : Index := Scalar.indexCast v6222
  let c0_7089 : Index := 0#32
  ![0, v6225.toNat, 0]

def k0_chk773 (v6222 : BitVec 32) : Prop :=
  (∀ a, (k0_off1546 v6222) a + S7x1x512.size a ≤ S7x50x512.size a)
theorem k0_off1546_inb : ∀ (v6222 : BitVec 32) (k0_hw773 : k0_chk773 v6222), ∀ a, (k0_off1546 v6222) a + S7x1x512.size a ≤ S7x50x512.size a := fun v6222 k0_hw773 => k0_hw773

def k0_off1547 (i : grid0.Coords) : Fin 3 → Nat :=
  let c2_7094 : Index := 2#32
  let c2_7095 : Index := 2#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6232 : Index := Scalar.indexCast v6085
  ![2, 2, v6232.toNat]
def k0_off1548 (v6233 : BitVec 32) : Fin 3 → Nat :=
  let c0_7100 : Index := 0#32
  let v6236 : Index := Scalar.indexCast v6233
  let c0_7101 : Index := 0#32
  ![0, v6236.toNat, 0]

def k0_chk774 (v6233 : BitVec 32) : Prop :=
  (∀ a, (k0_off1548 v6233) a + S7x1x512.size a ≤ S7x50x512.size a)
theorem k0_off1548_inb : ∀ (v6233 : BitVec 32) (k0_hw774 : k0_chk774 v6233), ∀ a, (k0_off1548 v6233) a + S7x1x512.size a ≤ S7x50x512.size a := fun v6233 k0_hw774 => k0_hw774

def k0_off1549 (i : grid0.Coords) : Fin 3 → Nat :=
  let c2_7102 : Index := 2#32
  let c3_7103 : Index := 3#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6238 : Index := Scalar.indexCast v6085
  ![2, 3, v6238.toNat]
def k0_off1550 (v6239 : BitVec 32) : Fin 3 → Nat :=
  let c0_7108 : Index := 0#32
  let v6242 : Index := Scalar.indexCast v6239
  let c0_7109 : Index := 0#32
  ![0, v6242.toNat, 0]

def k0_chk775 (v6239 : BitVec 32) : Prop :=
  (∀ a, (k0_off1550 v6239) a + S7x1x512.size a ≤ S7x50x512.size a)
theorem k0_off1550_inb : ∀ (v6239 : BitVec 32) (k0_hw775 : k0_chk775 v6239), ∀ a, (k0_off1550 v6239) a + S7x1x512.size a ≤ S7x50x512.size a := fun v6239 k0_hw775 => k0_hw775

def k0_off1551 (i : grid0.Coords) : Fin 3 → Nat :=
  let c2_7110 : Index := 2#32
  let c4_7111 : Index := 4#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6245 : Index := Scalar.indexCast v6085
  ![2, 4, v6245.toNat]
def k0_off1552 (v6246 : BitVec 32) : Fin 3 → Nat :=
  let c0_7116 : Index := 0#32
  let v6249 : Index := Scalar.indexCast v6246
  let c0_7117 : Index := 0#32
  ![0, v6249.toNat, 0]

def k0_chk776 (v6246 : BitVec 32) : Prop :=
  (∀ a, (k0_off1552 v6246) a + S7x1x512.size a ≤ S7x50x512.size a)
theorem k0_off1552_inb : ∀ (v6246 : BitVec 32) (k0_hw776 : k0_chk776 v6246), ∀ a, (k0_off1552 v6246) a + S7x1x512.size a ≤ S7x50x512.size a := fun v6246 k0_hw776 => k0_hw776

def k0_off1553 (i : grid0.Coords) : Fin 3 → Nat :=
  let c2_7118 : Index := 2#32
  let c5_7119 : Index := 5#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6252 : Index := Scalar.indexCast v6085
  ![2, 5, v6252.toNat]
def k0_off1554 (v6253 : BitVec 32) : Fin 3 → Nat :=
  let c0_7124 : Index := 0#32
  let v6256 : Index := Scalar.indexCast v6253
  let c0_7125 : Index := 0#32
  ![0, v6256.toNat, 0]

def k0_chk777 (v6253 : BitVec 32) : Prop :=
  (∀ a, (k0_off1554 v6253) a + S7x1x512.size a ≤ S7x50x512.size a)
theorem k0_off1554_inb : ∀ (v6253 : BitVec 32) (k0_hw777 : k0_chk777 v6253), ∀ a, (k0_off1554 v6253) a + S7x1x512.size a ≤ S7x50x512.size a := fun v6253 k0_hw777 => k0_hw777

def k0_off1555 (i : grid0.Coords) : Fin 3 → Nat :=
  let c2_7126 : Index := 2#32
  let c6_7127 : Index := 6#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6259 : Index := Scalar.indexCast v6085
  ![2, 6, v6259.toNat]
def k0_off1556 (v6260 : BitVec 32) : Fin 3 → Nat :=
  let c0_7132 : Index := 0#32
  let v6263 : Index := Scalar.indexCast v6260
  let c0_7133 : Index := 0#32
  ![0, v6263.toNat, 0]

def k0_chk778 (v6260 : BitVec 32) : Prop :=
  (∀ a, (k0_off1556 v6260) a + S7x1x512.size a ≤ S7x50x512.size a)
theorem k0_off1556_inb : ∀ (v6260 : BitVec 32) (k0_hw778 : k0_chk778 v6260), ∀ a, (k0_off1556 v6260) a + S7x1x512.size a ≤ S7x50x512.size a := fun v6260 k0_hw778 => k0_hw778

def k0_off1557 (i : grid0.Coords) : Fin 3 → Nat :=
  let c3_7138 : Index := 3#32
  let c2_7139 : Index := 2#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6270 : Index := Scalar.indexCast v6085
  ![3, 2, v6270.toNat]
def k0_off1558 (v6271 : BitVec 32) : Fin 3 → Nat :=
  let c0_7144 : Index := 0#32
  let v6274 : Index := Scalar.indexCast v6271
  let c0_7145 : Index := 0#32
  ![0, v6274.toNat, 0]

def k0_chk779 (v6271 : BitVec 32) : Prop :=
  (∀ a, (k0_off1558 v6271) a + S7x1x512.size a ≤ S7x50x512.size a)
theorem k0_off1558_inb : ∀ (v6271 : BitVec 32) (k0_hw779 : k0_chk779 v6271), ∀ a, (k0_off1558 v6271) a + S7x1x512.size a ≤ S7x50x512.size a := fun v6271 k0_hw779 => k0_hw779

def k0_off1559 (i : grid0.Coords) : Fin 3 → Nat :=
  let c3_7146 : Index := 3#32
  let c3_7147 : Index := 3#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6276 : Index := Scalar.indexCast v6085
  ![3, 3, v6276.toNat]
def k0_off1560 (v6277 : BitVec 32) : Fin 3 → Nat :=
  let c0_7152 : Index := 0#32
  let v6280 : Index := Scalar.indexCast v6277
  let c0_7153 : Index := 0#32
  ![0, v6280.toNat, 0]

def k0_chk780 (v6277 : BitVec 32) : Prop :=
  (∀ a, (k0_off1560 v6277) a + S7x1x512.size a ≤ S7x50x512.size a)
theorem k0_off1560_inb : ∀ (v6277 : BitVec 32) (k0_hw780 : k0_chk780 v6277), ∀ a, (k0_off1560 v6277) a + S7x1x512.size a ≤ S7x50x512.size a := fun v6277 k0_hw780 => k0_hw780

def k0_off1561 (i : grid0.Coords) : Fin 3 → Nat :=
  let c3_7154 : Index := 3#32
  let c4_7155 : Index := 4#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6283 : Index := Scalar.indexCast v6085
  ![3, 4, v6283.toNat]
def k0_off1562 (v6284 : BitVec 32) : Fin 3 → Nat :=
  let c0_7160 : Index := 0#32
  let v6287 : Index := Scalar.indexCast v6284
  let c0_7161 : Index := 0#32
  ![0, v6287.toNat, 0]

def k0_chk781 (v6284 : BitVec 32) : Prop :=
  (∀ a, (k0_off1562 v6284) a + S7x1x512.size a ≤ S7x50x512.size a)
theorem k0_off1562_inb : ∀ (v6284 : BitVec 32) (k0_hw781 : k0_chk781 v6284), ∀ a, (k0_off1562 v6284) a + S7x1x512.size a ≤ S7x50x512.size a := fun v6284 k0_hw781 => k0_hw781

def k0_off1563 (i : grid0.Coords) : Fin 3 → Nat :=
  let c3_7162 : Index := 3#32
  let c5_7163 : Index := 5#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6290 : Index := Scalar.indexCast v6085
  ![3, 5, v6290.toNat]
def k0_off1564 (v6291 : BitVec 32) : Fin 3 → Nat :=
  let c0_7168 : Index := 0#32
  let v6294 : Index := Scalar.indexCast v6291
  let c0_7169 : Index := 0#32
  ![0, v6294.toNat, 0]

def k0_chk782 (v6291 : BitVec 32) : Prop :=
  (∀ a, (k0_off1564 v6291) a + S7x1x512.size a ≤ S7x50x512.size a)
theorem k0_off1564_inb : ∀ (v6291 : BitVec 32) (k0_hw782 : k0_chk782 v6291), ∀ a, (k0_off1564 v6291) a + S7x1x512.size a ≤ S7x50x512.size a := fun v6291 k0_hw782 => k0_hw782

def k0_off1565 (i : grid0.Coords) : Fin 3 → Nat :=
  let c3_7170 : Index := 3#32
  let c6_7171 : Index := 6#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6297 : Index := Scalar.indexCast v6085
  ![3, 6, v6297.toNat]
def k0_off1566 (v6298 : BitVec 32) : Fin 3 → Nat :=
  let c0_7176 : Index := 0#32
  let v6301 : Index := Scalar.indexCast v6298
  let c0_7177 : Index := 0#32
  ![0, v6301.toNat, 0]

def k0_chk783 (v6298 : BitVec 32) : Prop :=
  (∀ a, (k0_off1566 v6298) a + S7x1x512.size a ≤ S7x50x512.size a)
theorem k0_off1566_inb : ∀ (v6298 : BitVec 32) (k0_hw783 : k0_chk783 v6298), ∀ a, (k0_off1566 v6298) a + S7x1x512.size a ≤ S7x50x512.size a := fun v6298 k0_hw783 => k0_hw783

def k0_off1567 (i : grid0.Coords) : Fin 3 → Nat :=
  let c4_7182 : Index := 4#32
  let c2_7183 : Index := 2#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6308 : Index := Scalar.indexCast v6085
  ![4, 2, v6308.toNat]
def k0_off1568 (v6309 : BitVec 32) : Fin 3 → Nat :=
  let c0_7188 : Index := 0#32
  let v6312 : Index := Scalar.indexCast v6309
  let c0_7189 : Index := 0#32
  ![0, v6312.toNat, 0]

def k0_chk784 (v6309 : BitVec 32) : Prop :=
  (∀ a, (k0_off1568 v6309) a + S7x1x512.size a ≤ S7x50x512.size a)
theorem k0_off1568_inb : ∀ (v6309 : BitVec 32) (k0_hw784 : k0_chk784 v6309), ∀ a, (k0_off1568 v6309) a + S7x1x512.size a ≤ S7x50x512.size a := fun v6309 k0_hw784 => k0_hw784

def k0_off1569 (i : grid0.Coords) : Fin 3 → Nat :=
  let c4_7190 : Index := 4#32
  let c3_7191 : Index := 3#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6314 : Index := Scalar.indexCast v6085
  ![4, 3, v6314.toNat]
def k0_off1570 (v6315 : BitVec 32) : Fin 3 → Nat :=
  let c0_7196 : Index := 0#32
  let v6318 : Index := Scalar.indexCast v6315
  let c0_7197 : Index := 0#32
  ![0, v6318.toNat, 0]

def k0_chk785 (v6315 : BitVec 32) : Prop :=
  (∀ a, (k0_off1570 v6315) a + S7x1x512.size a ≤ S7x50x512.size a)
theorem k0_off1570_inb : ∀ (v6315 : BitVec 32) (k0_hw785 : k0_chk785 v6315), ∀ a, (k0_off1570 v6315) a + S7x1x512.size a ≤ S7x50x512.size a := fun v6315 k0_hw785 => k0_hw785

def k0_off1571 (i : grid0.Coords) : Fin 3 → Nat :=
  let c4_7198 : Index := 4#32
  let c4_7199 : Index := 4#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6321 : Index := Scalar.indexCast v6085
  ![4, 4, v6321.toNat]
def k0_off1572 (v6322 : BitVec 32) : Fin 3 → Nat :=
  let c0_7204 : Index := 0#32
  let v6325 : Index := Scalar.indexCast v6322
  let c0_7205 : Index := 0#32
  ![0, v6325.toNat, 0]

def k0_chk786 (v6322 : BitVec 32) : Prop :=
  (∀ a, (k0_off1572 v6322) a + S7x1x512.size a ≤ S7x50x512.size a)
theorem k0_off1572_inb : ∀ (v6322 : BitVec 32) (k0_hw786 : k0_chk786 v6322), ∀ a, (k0_off1572 v6322) a + S7x1x512.size a ≤ S7x50x512.size a := fun v6322 k0_hw786 => k0_hw786

def k0_off1573 (i : grid0.Coords) : Fin 3 → Nat :=
  let c4_7206 : Index := 4#32
  let c5_7207 : Index := 5#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6328 : Index := Scalar.indexCast v6085
  ![4, 5, v6328.toNat]
def k0_off1574 (v6329 : BitVec 32) : Fin 3 → Nat :=
  let c0_7212 : Index := 0#32
  let v6332 : Index := Scalar.indexCast v6329
  let c0_7213 : Index := 0#32
  ![0, v6332.toNat, 0]

def k0_chk787 (v6329 : BitVec 32) : Prop :=
  (∀ a, (k0_off1574 v6329) a + S7x1x512.size a ≤ S7x50x512.size a)
theorem k0_off1574_inb : ∀ (v6329 : BitVec 32) (k0_hw787 : k0_chk787 v6329), ∀ a, (k0_off1574 v6329) a + S7x1x512.size a ≤ S7x50x512.size a := fun v6329 k0_hw787 => k0_hw787

def k0_off1575 (i : grid0.Coords) : Fin 3 → Nat :=
  let c4_7214 : Index := 4#32
  let c6_7215 : Index := 6#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6335 : Index := Scalar.indexCast v6085
  ![4, 6, v6335.toNat]
def k0_off1576 (v6336 : BitVec 32) : Fin 3 → Nat :=
  let c0_7220 : Index := 0#32
  let v6339 : Index := Scalar.indexCast v6336
  let c0_7221 : Index := 0#32
  ![0, v6339.toNat, 0]

def k0_chk788 (v6336 : BitVec 32) : Prop :=
  (∀ a, (k0_off1576 v6336) a + S7x1x512.size a ≤ S7x50x512.size a)
theorem k0_off1576_inb : ∀ (v6336 : BitVec 32) (k0_hw788 : k0_chk788 v6336), ∀ a, (k0_off1576 v6336) a + S7x1x512.size a ≤ S7x50x512.size a := fun v6336 k0_hw788 => k0_hw788

def k0_off1577 (i : grid0.Coords) : Fin 3 → Nat :=
  let c5_7226 : Index := 5#32
  let c2_7227 : Index := 2#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6346 : Index := Scalar.indexCast v6085
  ![5, 2, v6346.toNat]
def k0_off1578 (v6347 : BitVec 32) : Fin 3 → Nat :=
  let c0_7232 : Index := 0#32
  let v6350 : Index := Scalar.indexCast v6347
  let c0_7233 : Index := 0#32
  ![0, v6350.toNat, 0]

def k0_chk789 (v6347 : BitVec 32) : Prop :=
  (∀ a, (k0_off1578 v6347) a + S7x1x512.size a ≤ S7x50x512.size a)
theorem k0_off1578_inb : ∀ (v6347 : BitVec 32) (k0_hw789 : k0_chk789 v6347), ∀ a, (k0_off1578 v6347) a + S7x1x512.size a ≤ S7x50x512.size a := fun v6347 k0_hw789 => k0_hw789

def k0_off1579 (i : grid0.Coords) : Fin 3 → Nat :=
  let c5_7234 : Index := 5#32
  let c3_7235 : Index := 3#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6352 : Index := Scalar.indexCast v6085
  ![5, 3, v6352.toNat]
def k0_off1580 (v6353 : BitVec 32) : Fin 3 → Nat :=
  let c0_7240 : Index := 0#32
  let v6356 : Index := Scalar.indexCast v6353
  let c0_7241 : Index := 0#32
  ![0, v6356.toNat, 0]

def k0_chk790 (v6353 : BitVec 32) : Prop :=
  (∀ a, (k0_off1580 v6353) a + S7x1x512.size a ≤ S7x50x512.size a)
theorem k0_off1580_inb : ∀ (v6353 : BitVec 32) (k0_hw790 : k0_chk790 v6353), ∀ a, (k0_off1580 v6353) a + S7x1x512.size a ≤ S7x50x512.size a := fun v6353 k0_hw790 => k0_hw790

def k0_off1581 (i : grid0.Coords) : Fin 3 → Nat :=
  let c5_7242 : Index := 5#32
  let c4_7243 : Index := 4#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6359 : Index := Scalar.indexCast v6085
  ![5, 4, v6359.toNat]
def k0_off1582 (v6360 : BitVec 32) : Fin 3 → Nat :=
  let c0_7248 : Index := 0#32
  let v6363 : Index := Scalar.indexCast v6360
  let c0_7249 : Index := 0#32
  ![0, v6363.toNat, 0]

def k0_chk791 (v6360 : BitVec 32) : Prop :=
  (∀ a, (k0_off1582 v6360) a + S7x1x512.size a ≤ S7x50x512.size a)
theorem k0_off1582_inb : ∀ (v6360 : BitVec 32) (k0_hw791 : k0_chk791 v6360), ∀ a, (k0_off1582 v6360) a + S7x1x512.size a ≤ S7x50x512.size a := fun v6360 k0_hw791 => k0_hw791

def k0_off1583 (i : grid0.Coords) : Fin 3 → Nat :=
  let c5_7250 : Index := 5#32
  let c5_7251 : Index := 5#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6366 : Index := Scalar.indexCast v6085
  ![5, 5, v6366.toNat]
def k0_off1584 (v6367 : BitVec 32) : Fin 3 → Nat :=
  let c0_7256 : Index := 0#32
  let v6370 : Index := Scalar.indexCast v6367
  let c0_7257 : Index := 0#32
  ![0, v6370.toNat, 0]

def k0_chk792 (v6367 : BitVec 32) : Prop :=
  (∀ a, (k0_off1584 v6367) a + S7x1x512.size a ≤ S7x50x512.size a)
theorem k0_off1584_inb : ∀ (v6367 : BitVec 32) (k0_hw792 : k0_chk792 v6367), ∀ a, (k0_off1584 v6367) a + S7x1x512.size a ≤ S7x50x512.size a := fun v6367 k0_hw792 => k0_hw792

def k0_off1585 (i : grid0.Coords) : Fin 3 → Nat :=
  let c5_7258 : Index := 5#32
  let c6_7259 : Index := 6#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6373 : Index := Scalar.indexCast v6085
  ![5, 6, v6373.toNat]
def k0_off1586 (v6374 : BitVec 32) : Fin 3 → Nat :=
  let c0_7264 : Index := 0#32
  let v6377 : Index := Scalar.indexCast v6374
  let c0_7265 : Index := 0#32
  ![0, v6377.toNat, 0]

def k0_chk793 (v6374 : BitVec 32) : Prop :=
  (∀ a, (k0_off1586 v6374) a + S7x1x512.size a ≤ S7x50x512.size a)
theorem k0_off1586_inb : ∀ (v6374 : BitVec 32) (k0_hw793 : k0_chk793 v6374), ∀ a, (k0_off1586 v6374) a + S7x1x512.size a ≤ S7x50x512.size a := fun v6374 k0_hw793 => k0_hw793

def k0_off1587 (i : grid0.Coords) : Fin 3 → Nat :=
  let c6_7270 : Index := 6#32
  let c2_7271 : Index := 2#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6384 : Index := Scalar.indexCast v6085
  ![6, 2, v6384.toNat]
def k0_off1588 (v6385 : BitVec 32) : Fin 3 → Nat :=
  let c0_7276 : Index := 0#32
  let v6388 : Index := Scalar.indexCast v6385
  let c0_7277 : Index := 0#32
  ![0, v6388.toNat, 0]

def k0_chk794 (v6385 : BitVec 32) : Prop :=
  (∀ a, (k0_off1588 v6385) a + S7x1x512.size a ≤ S7x50x512.size a)
theorem k0_off1588_inb : ∀ (v6385 : BitVec 32) (k0_hw794 : k0_chk794 v6385), ∀ a, (k0_off1588 v6385) a + S7x1x512.size a ≤ S7x50x512.size a := fun v6385 k0_hw794 => k0_hw794

def k0_off1589 (i : grid0.Coords) : Fin 3 → Nat :=
  let c6_7278 : Index := 6#32
  let c3_7279 : Index := 3#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6390 : Index := Scalar.indexCast v6085
  ![6, 3, v6390.toNat]
def k0_off1590 (v6391 : BitVec 32) : Fin 3 → Nat :=
  let c0_7284 : Index := 0#32
  let v6394 : Index := Scalar.indexCast v6391
  let c0_7285 : Index := 0#32
  ![0, v6394.toNat, 0]

def k0_chk795 (v6391 : BitVec 32) : Prop :=
  (∀ a, (k0_off1590 v6391) a + S7x1x512.size a ≤ S7x50x512.size a)
theorem k0_off1590_inb : ∀ (v6391 : BitVec 32) (k0_hw795 : k0_chk795 v6391), ∀ a, (k0_off1590 v6391) a + S7x1x512.size a ≤ S7x50x512.size a := fun v6391 k0_hw795 => k0_hw795

def k0_off1591 (i : grid0.Coords) : Fin 3 → Nat :=
  let c6_7286 : Index := 6#32
  let c4_7287 : Index := 4#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6397 : Index := Scalar.indexCast v6085
  ![6, 4, v6397.toNat]
def k0_off1592 (v6398 : BitVec 32) : Fin 3 → Nat :=
  let c0_7292 : Index := 0#32
  let v6401 : Index := Scalar.indexCast v6398
  let c0_7293 : Index := 0#32
  ![0, v6401.toNat, 0]

def k0_chk796 (v6398 : BitVec 32) : Prop :=
  (∀ a, (k0_off1592 v6398) a + S7x1x512.size a ≤ S7x50x512.size a)
theorem k0_off1592_inb : ∀ (v6398 : BitVec 32) (k0_hw796 : k0_chk796 v6398), ∀ a, (k0_off1592 v6398) a + S7x1x512.size a ≤ S7x50x512.size a := fun v6398 k0_hw796 => k0_hw796

def k0_off1593 (i : grid0.Coords) : Fin 3 → Nat :=
  let c6_7294 : Index := 6#32
  let c5_7295 : Index := 5#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6404 : Index := Scalar.indexCast v6085
  ![6, 5, v6404.toNat]
def k0_off1594 (v6405 : BitVec 32) : Fin 3 → Nat :=
  let c0_7300 : Index := 0#32
  let v6408 : Index := Scalar.indexCast v6405
  let c0_7301 : Index := 0#32
  ![0, v6408.toNat, 0]

def k0_chk797 (v6405 : BitVec 32) : Prop :=
  (∀ a, (k0_off1594 v6405) a + S7x1x512.size a ≤ S7x50x512.size a)
theorem k0_off1594_inb : ∀ (v6405 : BitVec 32) (k0_hw797 : k0_chk797 v6405), ∀ a, (k0_off1594 v6405) a + S7x1x512.size a ≤ S7x50x512.size a := fun v6405 k0_hw797 => k0_hw797

def k0_off1595 (i : grid0.Coords) : Fin 3 → Nat :=
  let c6_7302 : Index := 6#32
  let c6_7303 : Index := 6#32
  let arg0 : BitVec 32 := BitVec.ofNat 32 (i 0).val
  let c32_i32_6929 : BitVec 32 := 32#32
  let v6084 : BitVec 32 := Scalar.muli arg0 c32_i32_6929
  let c18_i32 : BitVec 32 := 18#32
  let v6085 : BitVec 32 := Scalar.addi v6084 c18_i32
  let v6411 : Index := Scalar.indexCast v6085
  ![6, 6, v6411.toNat]
def k0_off1596 (v6412 : BitVec 32) : Fin 3 → Nat :=
  let c0_7308 : Index := 0#32
  let v6415 : Index := Scalar.indexCast v6412
  let c0_7309 : Index := 0#32
  ![0, v6415.toNat, 0]

def k0_chk798 (v6412 : BitVec 32) : Prop :=
  (∀ a, (k0_off1596 v6412) a + S7x1x512.size a ≤ S7x50x512.size a)
theorem k0_off1596_inb : ∀ (v6412 : BitVec 32) (k0_hw798 : k0_chk798 v6412), ∀ a, (k0_off1596 v6412) a + S7x1x512.size a ≤ S7x50x512.size a := fun v6412 k0_hw798 => k0_hw798

def k0_off1597 (i : grid0.Coords) : Fin 3 → Nat :=
  let c0_7315 : Index := 0#32
  let c0_7316 : Index := 0#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6424 : Index := Scalar.indexCast v6423
  ![0, 0, v6424.toNat]
def k0_off1598 (v6425 : BitVec 32) : Fin 3 → Nat :=
  let v6426 : Index := Scalar.indexCast v6425
  let c0_7317 : Index := 0#32
  let c0_7318 : Index := 0#32
  ![v6426.toNat, 0, 0]

def k0_chk799 (v6425 : BitVec 32) : Prop :=
  (∀ a, (k0_off1598 v6425) a + S1x50x512.size a ≤ S250x50x512.size a)
theorem k0_off1598_inb : ∀ (v6425 : BitVec 32) (k0_hw799 : k0_chk799 v6425), ∀ a, (k0_off1598 v6425) a + S1x50x512.size a ≤ S250x50x512.size a := fun v6425 k0_hw799 => k0_hw799

def k0_off1599 (i : grid0.Coords) : Fin 3 → Nat :=
  let c1_7326 : Index := 1#32
  let c0_7327 : Index := 0#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6434 : Index := Scalar.indexCast v6423
  ![1, 0, v6434.toNat]
def k0_off1600 (v6435 : BitVec 32) : Fin 3 → Nat :=
  let v6436 : Index := Scalar.indexCast v6435
  let c0_7328 : Index := 0#32
  let c0_7329 : Index := 0#32
  ![v6436.toNat, 0, 0]

def k0_chk800 (v6435 : BitVec 32) : Prop :=
  (∀ a, (k0_off1600 v6435) a + S1x50x512.size a ≤ S250x50x512.size a)
theorem k0_off1600_inb : ∀ (v6435 : BitVec 32) (k0_hw800 : k0_chk800 v6435), ∀ a, (k0_off1600 v6435) a + S1x50x512.size a ≤ S250x50x512.size a := fun v6435 k0_hw800 => k0_hw800

def k0_off1601 (i : grid0.Coords) : Fin 3 → Nat :=
  let c2_7337 : Index := 2#32
  let c0_7338 : Index := 0#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6444 : Index := Scalar.indexCast v6423
  ![2, 0, v6444.toNat]
def k0_off1602 (v6445 : BitVec 32) : Fin 3 → Nat :=
  let v6446 : Index := Scalar.indexCast v6445
  let c0_7339 : Index := 0#32
  let c0_7340 : Index := 0#32
  ![v6446.toNat, 0, 0]

def k0_chk801 (v6445 : BitVec 32) : Prop :=
  (∀ a, (k0_off1602 v6445) a + S1x50x512.size a ≤ S250x50x512.size a)
theorem k0_off1602_inb : ∀ (v6445 : BitVec 32) (k0_hw801 : k0_chk801 v6445), ∀ a, (k0_off1602 v6445) a + S1x50x512.size a ≤ S250x50x512.size a := fun v6445 k0_hw801 => k0_hw801

def k0_off1603 (i : grid0.Coords) : Fin 3 → Nat :=
  let c3_7348 : Index := 3#32
  let c0_7349 : Index := 0#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6454 : Index := Scalar.indexCast v6423
  ![3, 0, v6454.toNat]
def k0_off1604 (v6455 : BitVec 32) : Fin 3 → Nat :=
  let v6456 : Index := Scalar.indexCast v6455
  let c0_7350 : Index := 0#32
  let c0_7351 : Index := 0#32
  ![v6456.toNat, 0, 0]

def k0_chk802 (v6455 : BitVec 32) : Prop :=
  (∀ a, (k0_off1604 v6455) a + S1x50x512.size a ≤ S250x50x512.size a)
theorem k0_off1604_inb : ∀ (v6455 : BitVec 32) (k0_hw802 : k0_chk802 v6455), ∀ a, (k0_off1604 v6455) a + S1x50x512.size a ≤ S250x50x512.size a := fun v6455 k0_hw802 => k0_hw802

def k0_off1605 (i : grid0.Coords) : Fin 3 → Nat :=
  let c4_7359 : Index := 4#32
  let c0_7360 : Index := 0#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6464 : Index := Scalar.indexCast v6423
  ![4, 0, v6464.toNat]
def k0_off1606 (v6465 : BitVec 32) : Fin 3 → Nat :=
  let v6466 : Index := Scalar.indexCast v6465
  let c0_7361 : Index := 0#32
  let c0_7362 : Index := 0#32
  ![v6466.toNat, 0, 0]

def k0_chk803 (v6465 : BitVec 32) : Prop :=
  (∀ a, (k0_off1606 v6465) a + S1x50x512.size a ≤ S250x50x512.size a)
theorem k0_off1606_inb : ∀ (v6465 : BitVec 32) (k0_hw803 : k0_chk803 v6465), ∀ a, (k0_off1606 v6465) a + S1x50x512.size a ≤ S250x50x512.size a := fun v6465 k0_hw803 => k0_hw803

def k0_off1607 (i : grid0.Coords) : Fin 3 → Nat :=
  let c5_7370 : Index := 5#32
  let c0_7371 : Index := 0#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6474 : Index := Scalar.indexCast v6423
  ![5, 0, v6474.toNat]
def k0_off1608 (v6475 : BitVec 32) : Fin 3 → Nat :=
  let v6476 : Index := Scalar.indexCast v6475
  let c0_7372 : Index := 0#32
  let c0_7373 : Index := 0#32
  ![v6476.toNat, 0, 0]

def k0_chk804 (v6475 : BitVec 32) : Prop :=
  (∀ a, (k0_off1608 v6475) a + S1x50x512.size a ≤ S250x50x512.size a)
theorem k0_off1608_inb : ∀ (v6475 : BitVec 32) (k0_hw804 : k0_chk804 v6475), ∀ a, (k0_off1608 v6475) a + S1x50x512.size a ≤ S250x50x512.size a := fun v6475 k0_hw804 => k0_hw804

def k0_off1609 (i : grid0.Coords) : Fin 3 → Nat :=
  let c6_7381 : Index := 6#32
  let c0_7382 : Index := 0#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6484 : Index := Scalar.indexCast v6423
  ![6, 0, v6484.toNat]
def k0_off1610 (v6485 : BitVec 32) : Fin 3 → Nat :=
  let v6486 : Index := Scalar.indexCast v6485
  let c0_7383 : Index := 0#32
  let c0_7384 : Index := 0#32
  ![v6486.toNat, 0, 0]

def k0_chk805 (v6485 : BitVec 32) : Prop :=
  (∀ a, (k0_off1610 v6485) a + S1x50x512.size a ≤ S250x50x512.size a)
theorem k0_off1610_inb : ∀ (v6485 : BitVec 32) (k0_hw805 : k0_chk805 v6485), ∀ a, (k0_off1610 v6485) a + S1x50x512.size a ≤ S250x50x512.size a := fun v6485 k0_hw805 => k0_hw805

def k0_off1611 (i : grid0.Coords) : Fin 3 → Nat :=
  let c0_7392 : Index := 0#32
  let c2_7393 : Index := 2#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6494 : Index := Scalar.indexCast v6423
  ![0, 2, v6494.toNat]
def k0_off1612 (v6495 : BitVec 32) : Fin 3 → Nat :=
  let c0_7398 : Index := 0#32
  let v6498 : Index := Scalar.indexCast v6495
  let c0_7399 : Index := 0#32
  ![0, v6498.toNat, 0]

def k0_chk806 (v6495 : BitVec 32) : Prop :=
  (∀ a, (k0_off1612 v6495) a + S7x1x512.size a ≤ S7x50x512.size a)
theorem k0_off1612_inb : ∀ (v6495 : BitVec 32) (k0_hw806 : k0_chk806 v6495), ∀ a, (k0_off1612 v6495) a + S7x1x512.size a ≤ S7x50x512.size a := fun v6495 k0_hw806 => k0_hw806

def k0_off1613 (i : grid0.Coords) : Fin 3 → Nat :=
  let c0_7400 : Index := 0#32
  let c3_7401 : Index := 3#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6500 : Index := Scalar.indexCast v6423
  ![0, 3, v6500.toNat]
def k0_off1614 (v6501 : BitVec 32) : Fin 3 → Nat :=
  let c0_7406 : Index := 0#32
  let v6504 : Index := Scalar.indexCast v6501
  let c0_7407 : Index := 0#32
  ![0, v6504.toNat, 0]

def k0_chk807 (v6501 : BitVec 32) : Prop :=
  (∀ a, (k0_off1614 v6501) a + S7x1x512.size a ≤ S7x50x512.size a)
theorem k0_off1614_inb : ∀ (v6501 : BitVec 32) (k0_hw807 : k0_chk807 v6501), ∀ a, (k0_off1614 v6501) a + S7x1x512.size a ≤ S7x50x512.size a := fun v6501 k0_hw807 => k0_hw807

def k0_off1615 (i : grid0.Coords) : Fin 3 → Nat :=
  let c0_7408 : Index := 0#32
  let c4_7409 : Index := 4#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6507 : Index := Scalar.indexCast v6423
  ![0, 4, v6507.toNat]
def k0_off1616 (v6508 : BitVec 32) : Fin 3 → Nat :=
  let c0_7414 : Index := 0#32
  let v6511 : Index := Scalar.indexCast v6508
  let c0_7415 : Index := 0#32
  ![0, v6511.toNat, 0]

def k0_chk808 (v6508 : BitVec 32) : Prop :=
  (∀ a, (k0_off1616 v6508) a + S7x1x512.size a ≤ S7x50x512.size a)
theorem k0_off1616_inb : ∀ (v6508 : BitVec 32) (k0_hw808 : k0_chk808 v6508), ∀ a, (k0_off1616 v6508) a + S7x1x512.size a ≤ S7x50x512.size a := fun v6508 k0_hw808 => k0_hw808

def k0_off1617 (i : grid0.Coords) : Fin 3 → Nat :=
  let c0_7416 : Index := 0#32
  let c5_7417 : Index := 5#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6514 : Index := Scalar.indexCast v6423
  ![0, 5, v6514.toNat]
def k0_off1618 (v6515 : BitVec 32) : Fin 3 → Nat :=
  let c0_7422 : Index := 0#32
  let v6518 : Index := Scalar.indexCast v6515
  let c0_7423 : Index := 0#32
  ![0, v6518.toNat, 0]

def k0_chk809 (v6515 : BitVec 32) : Prop :=
  (∀ a, (k0_off1618 v6515) a + S7x1x512.size a ≤ S7x50x512.size a)
theorem k0_off1618_inb : ∀ (v6515 : BitVec 32) (k0_hw809 : k0_chk809 v6515), ∀ a, (k0_off1618 v6515) a + S7x1x512.size a ≤ S7x50x512.size a := fun v6515 k0_hw809 => k0_hw809

def k0_off1619 (i : grid0.Coords) : Fin 3 → Nat :=
  let c0_7424 : Index := 0#32
  let c6_7425 : Index := 6#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6521 : Index := Scalar.indexCast v6423
  ![0, 6, v6521.toNat]
def k0_off1620 (v6522 : BitVec 32) : Fin 3 → Nat :=
  let c0_7430 : Index := 0#32
  let v6525 : Index := Scalar.indexCast v6522
  let c0_7431 : Index := 0#32
  ![0, v6525.toNat, 0]

def k0_chk810 (v6522 : BitVec 32) : Prop :=
  (∀ a, (k0_off1620 v6522) a + S7x1x512.size a ≤ S7x50x512.size a)
theorem k0_off1620_inb : ∀ (v6522 : BitVec 32) (k0_hw810 : k0_chk810 v6522), ∀ a, (k0_off1620 v6522) a + S7x1x512.size a ≤ S7x50x512.size a := fun v6522 k0_hw810 => k0_hw810

def k0_off1621 (i : grid0.Coords) : Fin 3 → Nat :=
  let c1_7435 : Index := 1#32
  let c2_7436 : Index := 2#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6532 : Index := Scalar.indexCast v6423
  ![1, 2, v6532.toNat]
def k0_off1622 (v6533 : BitVec 32) : Fin 3 → Nat :=
  let c0_7441 : Index := 0#32
  let v6536 : Index := Scalar.indexCast v6533
  let c0_7442 : Index := 0#32
  ![0, v6536.toNat, 0]

def k0_chk811 (v6533 : BitVec 32) : Prop :=
  (∀ a, (k0_off1622 v6533) a + S7x1x512.size a ≤ S7x50x512.size a)
theorem k0_off1622_inb : ∀ (v6533 : BitVec 32) (k0_hw811 : k0_chk811 v6533), ∀ a, (k0_off1622 v6533) a + S7x1x512.size a ≤ S7x50x512.size a := fun v6533 k0_hw811 => k0_hw811

def k0_off1623 (i : grid0.Coords) : Fin 3 → Nat :=
  let c1_7443 : Index := 1#32
  let c3_7444 : Index := 3#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6538 : Index := Scalar.indexCast v6423
  ![1, 3, v6538.toNat]
def k0_off1624 (v6539 : BitVec 32) : Fin 3 → Nat :=
  let c0_7449 : Index := 0#32
  let v6542 : Index := Scalar.indexCast v6539
  let c0_7450 : Index := 0#32
  ![0, v6542.toNat, 0]

def k0_chk812 (v6539 : BitVec 32) : Prop :=
  (∀ a, (k0_off1624 v6539) a + S7x1x512.size a ≤ S7x50x512.size a)
theorem k0_off1624_inb : ∀ (v6539 : BitVec 32) (k0_hw812 : k0_chk812 v6539), ∀ a, (k0_off1624 v6539) a + S7x1x512.size a ≤ S7x50x512.size a := fun v6539 k0_hw812 => k0_hw812

def k0_off1625 (i : grid0.Coords) : Fin 3 → Nat :=
  let c1_7451 : Index := 1#32
  let c4_7452 : Index := 4#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6545 : Index := Scalar.indexCast v6423
  ![1, 4, v6545.toNat]
def k0_off1626 (v6546 : BitVec 32) : Fin 3 → Nat :=
  let c0_7457 : Index := 0#32
  let v6549 : Index := Scalar.indexCast v6546
  let c0_7458 : Index := 0#32
  ![0, v6549.toNat, 0]

def k0_chk813 (v6546 : BitVec 32) : Prop :=
  (∀ a, (k0_off1626 v6546) a + S7x1x512.size a ≤ S7x50x512.size a)
theorem k0_off1626_inb : ∀ (v6546 : BitVec 32) (k0_hw813 : k0_chk813 v6546), ∀ a, (k0_off1626 v6546) a + S7x1x512.size a ≤ S7x50x512.size a := fun v6546 k0_hw813 => k0_hw813

def k0_off1627 (i : grid0.Coords) : Fin 3 → Nat :=
  let c1_7459 : Index := 1#32
  let c5_7460 : Index := 5#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6552 : Index := Scalar.indexCast v6423
  ![1, 5, v6552.toNat]
def k0_off1628 (v6553 : BitVec 32) : Fin 3 → Nat :=
  let c0_7465 : Index := 0#32
  let v6556 : Index := Scalar.indexCast v6553
  let c0_7466 : Index := 0#32
  ![0, v6556.toNat, 0]

def k0_chk814 (v6553 : BitVec 32) : Prop :=
  (∀ a, (k0_off1628 v6553) a + S7x1x512.size a ≤ S7x50x512.size a)
theorem k0_off1628_inb : ∀ (v6553 : BitVec 32) (k0_hw814 : k0_chk814 v6553), ∀ a, (k0_off1628 v6553) a + S7x1x512.size a ≤ S7x50x512.size a := fun v6553 k0_hw814 => k0_hw814

def k0_off1629 (i : grid0.Coords) : Fin 3 → Nat :=
  let c1_7467 : Index := 1#32
  let c6_7468 : Index := 6#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6559 : Index := Scalar.indexCast v6423
  ![1, 6, v6559.toNat]
def k0_off1630 (v6560 : BitVec 32) : Fin 3 → Nat :=
  let c0_7473 : Index := 0#32
  let v6563 : Index := Scalar.indexCast v6560
  let c0_7474 : Index := 0#32
  ![0, v6563.toNat, 0]

def k0_chk815 (v6560 : BitVec 32) : Prop :=
  (∀ a, (k0_off1630 v6560) a + S7x1x512.size a ≤ S7x50x512.size a)
theorem k0_off1630_inb : ∀ (v6560 : BitVec 32) (k0_hw815 : k0_chk815 v6560), ∀ a, (k0_off1630 v6560) a + S7x1x512.size a ≤ S7x50x512.size a := fun v6560 k0_hw815 => k0_hw815

def k0_off1631 (i : grid0.Coords) : Fin 3 → Nat :=
  let c2_7479 : Index := 2#32
  let c2_7480 : Index := 2#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6570 : Index := Scalar.indexCast v6423
  ![2, 2, v6570.toNat]
def k0_off1632 (v6571 : BitVec 32) : Fin 3 → Nat :=
  let c0_7485 : Index := 0#32
  let v6574 : Index := Scalar.indexCast v6571
  let c0_7486 : Index := 0#32
  ![0, v6574.toNat, 0]

def k0_chk816 (v6571 : BitVec 32) : Prop :=
  (∀ a, (k0_off1632 v6571) a + S7x1x512.size a ≤ S7x50x512.size a)
theorem k0_off1632_inb : ∀ (v6571 : BitVec 32) (k0_hw816 : k0_chk816 v6571), ∀ a, (k0_off1632 v6571) a + S7x1x512.size a ≤ S7x50x512.size a := fun v6571 k0_hw816 => k0_hw816

def k0_off1633 (i : grid0.Coords) : Fin 3 → Nat :=
  let c2_7487 : Index := 2#32
  let c3_7488 : Index := 3#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6576 : Index := Scalar.indexCast v6423
  ![2, 3, v6576.toNat]
def k0_off1634 (v6577 : BitVec 32) : Fin 3 → Nat :=
  let c0_7493 : Index := 0#32
  let v6580 : Index := Scalar.indexCast v6577
  let c0_7494 : Index := 0#32
  ![0, v6580.toNat, 0]

def k0_chk817 (v6577 : BitVec 32) : Prop :=
  (∀ a, (k0_off1634 v6577) a + S7x1x512.size a ≤ S7x50x512.size a)
theorem k0_off1634_inb : ∀ (v6577 : BitVec 32) (k0_hw817 : k0_chk817 v6577), ∀ a, (k0_off1634 v6577) a + S7x1x512.size a ≤ S7x50x512.size a := fun v6577 k0_hw817 => k0_hw817

def k0_off1635 (i : grid0.Coords) : Fin 3 → Nat :=
  let c2_7495 : Index := 2#32
  let c4_7496 : Index := 4#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6583 : Index := Scalar.indexCast v6423
  ![2, 4, v6583.toNat]
def k0_off1636 (v6584 : BitVec 32) : Fin 3 → Nat :=
  let c0_7501 : Index := 0#32
  let v6587 : Index := Scalar.indexCast v6584
  let c0_7502 : Index := 0#32
  ![0, v6587.toNat, 0]

def k0_chk818 (v6584 : BitVec 32) : Prop :=
  (∀ a, (k0_off1636 v6584) a + S7x1x512.size a ≤ S7x50x512.size a)
theorem k0_off1636_inb : ∀ (v6584 : BitVec 32) (k0_hw818 : k0_chk818 v6584), ∀ a, (k0_off1636 v6584) a + S7x1x512.size a ≤ S7x50x512.size a := fun v6584 k0_hw818 => k0_hw818

def k0_off1637 (i : grid0.Coords) : Fin 3 → Nat :=
  let c2_7503 : Index := 2#32
  let c5_7504 : Index := 5#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6590 : Index := Scalar.indexCast v6423
  ![2, 5, v6590.toNat]
def k0_off1638 (v6591 : BitVec 32) : Fin 3 → Nat :=
  let c0_7509 : Index := 0#32
  let v6594 : Index := Scalar.indexCast v6591
  let c0_7510 : Index := 0#32
  ![0, v6594.toNat, 0]

def k0_chk819 (v6591 : BitVec 32) : Prop :=
  (∀ a, (k0_off1638 v6591) a + S7x1x512.size a ≤ S7x50x512.size a)
theorem k0_off1638_inb : ∀ (v6591 : BitVec 32) (k0_hw819 : k0_chk819 v6591), ∀ a, (k0_off1638 v6591) a + S7x1x512.size a ≤ S7x50x512.size a := fun v6591 k0_hw819 => k0_hw819

def k0_off1639 (i : grid0.Coords) : Fin 3 → Nat :=
  let c2_7511 : Index := 2#32
  let c6_7512 : Index := 6#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6597 : Index := Scalar.indexCast v6423
  ![2, 6, v6597.toNat]
def k0_off1640 (v6598 : BitVec 32) : Fin 3 → Nat :=
  let c0_7517 : Index := 0#32
  let v6601 : Index := Scalar.indexCast v6598
  let c0_7518 : Index := 0#32
  ![0, v6601.toNat, 0]

def k0_chk820 (v6598 : BitVec 32) : Prop :=
  (∀ a, (k0_off1640 v6598) a + S7x1x512.size a ≤ S7x50x512.size a)
theorem k0_off1640_inb : ∀ (v6598 : BitVec 32) (k0_hw820 : k0_chk820 v6598), ∀ a, (k0_off1640 v6598) a + S7x1x512.size a ≤ S7x50x512.size a := fun v6598 k0_hw820 => k0_hw820

def k0_off1641 (i : grid0.Coords) : Fin 3 → Nat :=
  let c3_7523 : Index := 3#32
  let c2_7524 : Index := 2#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6608 : Index := Scalar.indexCast v6423
  ![3, 2, v6608.toNat]
def k0_off1642 (v6609 : BitVec 32) : Fin 3 → Nat :=
  let c0_7529 : Index := 0#32
  let v6612 : Index := Scalar.indexCast v6609
  let c0_7530 : Index := 0#32
  ![0, v6612.toNat, 0]

def k0_chk821 (v6609 : BitVec 32) : Prop :=
  (∀ a, (k0_off1642 v6609) a + S7x1x512.size a ≤ S7x50x512.size a)
theorem k0_off1642_inb : ∀ (v6609 : BitVec 32) (k0_hw821 : k0_chk821 v6609), ∀ a, (k0_off1642 v6609) a + S7x1x512.size a ≤ S7x50x512.size a := fun v6609 k0_hw821 => k0_hw821

def k0_off1643 (i : grid0.Coords) : Fin 3 → Nat :=
  let c3_7531 : Index := 3#32
  let c3_7532 : Index := 3#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6614 : Index := Scalar.indexCast v6423
  ![3, 3, v6614.toNat]
def k0_off1644 (v6615 : BitVec 32) : Fin 3 → Nat :=
  let c0_7537 : Index := 0#32
  let v6618 : Index := Scalar.indexCast v6615
  let c0_7538 : Index := 0#32
  ![0, v6618.toNat, 0]

def k0_chk822 (v6615 : BitVec 32) : Prop :=
  (∀ a, (k0_off1644 v6615) a + S7x1x512.size a ≤ S7x50x512.size a)
theorem k0_off1644_inb : ∀ (v6615 : BitVec 32) (k0_hw822 : k0_chk822 v6615), ∀ a, (k0_off1644 v6615) a + S7x1x512.size a ≤ S7x50x512.size a := fun v6615 k0_hw822 => k0_hw822

def k0_off1645 (i : grid0.Coords) : Fin 3 → Nat :=
  let c3_7539 : Index := 3#32
  let c4_7540 : Index := 4#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6621 : Index := Scalar.indexCast v6423
  ![3, 4, v6621.toNat]
def k0_off1646 (v6622 : BitVec 32) : Fin 3 → Nat :=
  let c0_7545 : Index := 0#32
  let v6625 : Index := Scalar.indexCast v6622
  let c0_7546 : Index := 0#32
  ![0, v6625.toNat, 0]

def k0_chk823 (v6622 : BitVec 32) : Prop :=
  (∀ a, (k0_off1646 v6622) a + S7x1x512.size a ≤ S7x50x512.size a)
theorem k0_off1646_inb : ∀ (v6622 : BitVec 32) (k0_hw823 : k0_chk823 v6622), ∀ a, (k0_off1646 v6622) a + S7x1x512.size a ≤ S7x50x512.size a := fun v6622 k0_hw823 => k0_hw823

def k0_off1647 (i : grid0.Coords) : Fin 3 → Nat :=
  let c3_7547 : Index := 3#32
  let c5_7548 : Index := 5#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6628 : Index := Scalar.indexCast v6423
  ![3, 5, v6628.toNat]
def k0_off1648 (v6629 : BitVec 32) : Fin 3 → Nat :=
  let c0_7553 : Index := 0#32
  let v6632 : Index := Scalar.indexCast v6629
  let c0_7554 : Index := 0#32
  ![0, v6632.toNat, 0]

def k0_chk824 (v6629 : BitVec 32) : Prop :=
  (∀ a, (k0_off1648 v6629) a + S7x1x512.size a ≤ S7x50x512.size a)
theorem k0_off1648_inb : ∀ (v6629 : BitVec 32) (k0_hw824 : k0_chk824 v6629), ∀ a, (k0_off1648 v6629) a + S7x1x512.size a ≤ S7x50x512.size a := fun v6629 k0_hw824 => k0_hw824

def k0_off1649 (i : grid0.Coords) : Fin 3 → Nat :=
  let c3_7555 : Index := 3#32
  let c6_7556 : Index := 6#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6635 : Index := Scalar.indexCast v6423
  ![3, 6, v6635.toNat]
def k0_off1650 (v6636 : BitVec 32) : Fin 3 → Nat :=
  let c0_7561 : Index := 0#32
  let v6639 : Index := Scalar.indexCast v6636
  let c0_7562 : Index := 0#32
  ![0, v6639.toNat, 0]

def k0_chk825 (v6636 : BitVec 32) : Prop :=
  (∀ a, (k0_off1650 v6636) a + S7x1x512.size a ≤ S7x50x512.size a)
theorem k0_off1650_inb : ∀ (v6636 : BitVec 32) (k0_hw825 : k0_chk825 v6636), ∀ a, (k0_off1650 v6636) a + S7x1x512.size a ≤ S7x50x512.size a := fun v6636 k0_hw825 => k0_hw825

def k0_off1651 (i : grid0.Coords) : Fin 3 → Nat :=
  let c4_7567 : Index := 4#32
  let c2_7568 : Index := 2#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6646 : Index := Scalar.indexCast v6423
  ![4, 2, v6646.toNat]
def k0_off1652 (v6647 : BitVec 32) : Fin 3 → Nat :=
  let c0_7573 : Index := 0#32
  let v6650 : Index := Scalar.indexCast v6647
  let c0_7574 : Index := 0#32
  ![0, v6650.toNat, 0]

def k0_chk826 (v6647 : BitVec 32) : Prop :=
  (∀ a, (k0_off1652 v6647) a + S7x1x512.size a ≤ S7x50x512.size a)
theorem k0_off1652_inb : ∀ (v6647 : BitVec 32) (k0_hw826 : k0_chk826 v6647), ∀ a, (k0_off1652 v6647) a + S7x1x512.size a ≤ S7x50x512.size a := fun v6647 k0_hw826 => k0_hw826

def k0_off1653 (i : grid0.Coords) : Fin 3 → Nat :=
  let c4_7575 : Index := 4#32
  let c3_7576 : Index := 3#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6652 : Index := Scalar.indexCast v6423
  ![4, 3, v6652.toNat]
def k0_off1654 (v6653 : BitVec 32) : Fin 3 → Nat :=
  let c0_7581 : Index := 0#32
  let v6656 : Index := Scalar.indexCast v6653
  let c0_7582 : Index := 0#32
  ![0, v6656.toNat, 0]

def k0_chk827 (v6653 : BitVec 32) : Prop :=
  (∀ a, (k0_off1654 v6653) a + S7x1x512.size a ≤ S7x50x512.size a)
theorem k0_off1654_inb : ∀ (v6653 : BitVec 32) (k0_hw827 : k0_chk827 v6653), ∀ a, (k0_off1654 v6653) a + S7x1x512.size a ≤ S7x50x512.size a := fun v6653 k0_hw827 => k0_hw827

def k0_off1655 (i : grid0.Coords) : Fin 3 → Nat :=
  let c4_7583 : Index := 4#32
  let c4_7584 : Index := 4#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6659 : Index := Scalar.indexCast v6423
  ![4, 4, v6659.toNat]
def k0_off1656 (v6660 : BitVec 32) : Fin 3 → Nat :=
  let c0_7589 : Index := 0#32
  let v6663 : Index := Scalar.indexCast v6660
  let c0_7590 : Index := 0#32
  ![0, v6663.toNat, 0]

def k0_chk828 (v6660 : BitVec 32) : Prop :=
  (∀ a, (k0_off1656 v6660) a + S7x1x512.size a ≤ S7x50x512.size a)
theorem k0_off1656_inb : ∀ (v6660 : BitVec 32) (k0_hw828 : k0_chk828 v6660), ∀ a, (k0_off1656 v6660) a + S7x1x512.size a ≤ S7x50x512.size a := fun v6660 k0_hw828 => k0_hw828

def k0_off1657 (i : grid0.Coords) : Fin 3 → Nat :=
  let c4_7591 : Index := 4#32
  let c5_7592 : Index := 5#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6666 : Index := Scalar.indexCast v6423
  ![4, 5, v6666.toNat]
def k0_off1658 (v6667 : BitVec 32) : Fin 3 → Nat :=
  let c0_7597 : Index := 0#32
  let v6670 : Index := Scalar.indexCast v6667
  let c0_7598 : Index := 0#32
  ![0, v6670.toNat, 0]

def k0_chk829 (v6667 : BitVec 32) : Prop :=
  (∀ a, (k0_off1658 v6667) a + S7x1x512.size a ≤ S7x50x512.size a)
theorem k0_off1658_inb : ∀ (v6667 : BitVec 32) (k0_hw829 : k0_chk829 v6667), ∀ a, (k0_off1658 v6667) a + S7x1x512.size a ≤ S7x50x512.size a := fun v6667 k0_hw829 => k0_hw829

def k0_off1659 (i : grid0.Coords) : Fin 3 → Nat :=
  let c4_7599 : Index := 4#32
  let c6_7600 : Index := 6#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6673 : Index := Scalar.indexCast v6423
  ![4, 6, v6673.toNat]
def k0_off1660 (v6674 : BitVec 32) : Fin 3 → Nat :=
  let c0_7605 : Index := 0#32
  let v6677 : Index := Scalar.indexCast v6674
  let c0_7606 : Index := 0#32
  ![0, v6677.toNat, 0]

def k0_chk830 (v6674 : BitVec 32) : Prop :=
  (∀ a, (k0_off1660 v6674) a + S7x1x512.size a ≤ S7x50x512.size a)
theorem k0_off1660_inb : ∀ (v6674 : BitVec 32) (k0_hw830 : k0_chk830 v6674), ∀ a, (k0_off1660 v6674) a + S7x1x512.size a ≤ S7x50x512.size a := fun v6674 k0_hw830 => k0_hw830

def k0_off1661 (i : grid0.Coords) : Fin 3 → Nat :=
  let c5_7611 : Index := 5#32
  let c2_7612 : Index := 2#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6684 : Index := Scalar.indexCast v6423
  ![5, 2, v6684.toNat]
def k0_off1662 (v6685 : BitVec 32) : Fin 3 → Nat :=
  let c0_7617 : Index := 0#32
  let v6688 : Index := Scalar.indexCast v6685
  let c0_7618 : Index := 0#32
  ![0, v6688.toNat, 0]

def k0_chk831 (v6685 : BitVec 32) : Prop :=
  (∀ a, (k0_off1662 v6685) a + S7x1x512.size a ≤ S7x50x512.size a)
theorem k0_off1662_inb : ∀ (v6685 : BitVec 32) (k0_hw831 : k0_chk831 v6685), ∀ a, (k0_off1662 v6685) a + S7x1x512.size a ≤ S7x50x512.size a := fun v6685 k0_hw831 => k0_hw831

def k0_off1663 (i : grid0.Coords) : Fin 3 → Nat :=
  let c5_7619 : Index := 5#32
  let c3_7620 : Index := 3#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6690 : Index := Scalar.indexCast v6423
  ![5, 3, v6690.toNat]
def k0_off1664 (v6691 : BitVec 32) : Fin 3 → Nat :=
  let c0_7625 : Index := 0#32
  let v6694 : Index := Scalar.indexCast v6691
  let c0_7626 : Index := 0#32
  ![0, v6694.toNat, 0]

def k0_chk832 (v6691 : BitVec 32) : Prop :=
  (∀ a, (k0_off1664 v6691) a + S7x1x512.size a ≤ S7x50x512.size a)
theorem k0_off1664_inb : ∀ (v6691 : BitVec 32) (k0_hw832 : k0_chk832 v6691), ∀ a, (k0_off1664 v6691) a + S7x1x512.size a ≤ S7x50x512.size a := fun v6691 k0_hw832 => k0_hw832

def k0_off1665 (i : grid0.Coords) : Fin 3 → Nat :=
  let c5_7627 : Index := 5#32
  let c4_7628 : Index := 4#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6697 : Index := Scalar.indexCast v6423
  ![5, 4, v6697.toNat]
def k0_off1666 (v6698 : BitVec 32) : Fin 3 → Nat :=
  let c0_7633 : Index := 0#32
  let v6701 : Index := Scalar.indexCast v6698
  let c0_7634 : Index := 0#32
  ![0, v6701.toNat, 0]

def k0_chk833 (v6698 : BitVec 32) : Prop :=
  (∀ a, (k0_off1666 v6698) a + S7x1x512.size a ≤ S7x50x512.size a)
theorem k0_off1666_inb : ∀ (v6698 : BitVec 32) (k0_hw833 : k0_chk833 v6698), ∀ a, (k0_off1666 v6698) a + S7x1x512.size a ≤ S7x50x512.size a := fun v6698 k0_hw833 => k0_hw833

def k0_off1667 (i : grid0.Coords) : Fin 3 → Nat :=
  let c5_7635 : Index := 5#32
  let c5_7636 : Index := 5#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6704 : Index := Scalar.indexCast v6423
  ![5, 5, v6704.toNat]
def k0_off1668 (v6705 : BitVec 32) : Fin 3 → Nat :=
  let c0_7641 : Index := 0#32
  let v6708 : Index := Scalar.indexCast v6705
  let c0_7642 : Index := 0#32
  ![0, v6708.toNat, 0]

def k0_chk834 (v6705 : BitVec 32) : Prop :=
  (∀ a, (k0_off1668 v6705) a + S7x1x512.size a ≤ S7x50x512.size a)
theorem k0_off1668_inb : ∀ (v6705 : BitVec 32) (k0_hw834 : k0_chk834 v6705), ∀ a, (k0_off1668 v6705) a + S7x1x512.size a ≤ S7x50x512.size a := fun v6705 k0_hw834 => k0_hw834

def k0_off1669 (i : grid0.Coords) : Fin 3 → Nat :=
  let c5_7643 : Index := 5#32
  let c6_7644 : Index := 6#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6711 : Index := Scalar.indexCast v6423
  ![5, 6, v6711.toNat]
def k0_off1670 (v6712 : BitVec 32) : Fin 3 → Nat :=
  let c0_7649 : Index := 0#32
  let v6715 : Index := Scalar.indexCast v6712
  let c0_7650 : Index := 0#32
  ![0, v6715.toNat, 0]

def k0_chk835 (v6712 : BitVec 32) : Prop :=
  (∀ a, (k0_off1670 v6712) a + S7x1x512.size a ≤ S7x50x512.size a)
theorem k0_off1670_inb : ∀ (v6712 : BitVec 32) (k0_hw835 : k0_chk835 v6712), ∀ a, (k0_off1670 v6712) a + S7x1x512.size a ≤ S7x50x512.size a := fun v6712 k0_hw835 => k0_hw835

def k0_off1671 (i : grid0.Coords) : Fin 3 → Nat :=
  let c6_7655 : Index := 6#32
  let c2_7656 : Index := 2#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6722 : Index := Scalar.indexCast v6423
  ![6, 2, v6722.toNat]
def k0_off1672 (v6723 : BitVec 32) : Fin 3 → Nat :=
  let c0_7661 : Index := 0#32
  let v6726 : Index := Scalar.indexCast v6723
  let c0_7662 : Index := 0#32
  ![0, v6726.toNat, 0]

def k0_chk836 (v6723 : BitVec 32) : Prop :=
  (∀ a, (k0_off1672 v6723) a + S7x1x512.size a ≤ S7x50x512.size a)
theorem k0_off1672_inb : ∀ (v6723 : BitVec 32) (k0_hw836 : k0_chk836 v6723), ∀ a, (k0_off1672 v6723) a + S7x1x512.size a ≤ S7x50x512.size a := fun v6723 k0_hw836 => k0_hw836

def k0_off1673 (i : grid0.Coords) : Fin 3 → Nat :=
  let c6_7663 : Index := 6#32
  let c3_7664 : Index := 3#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6728 : Index := Scalar.indexCast v6423
  ![6, 3, v6728.toNat]
def k0_off1674 (v6729 : BitVec 32) : Fin 3 → Nat :=
  let c0_7669 : Index := 0#32
  let v6732 : Index := Scalar.indexCast v6729
  let c0_7670 : Index := 0#32
  ![0, v6732.toNat, 0]

def k0_chk837 (v6729 : BitVec 32) : Prop :=
  (∀ a, (k0_off1674 v6729) a + S7x1x512.size a ≤ S7x50x512.size a)
theorem k0_off1674_inb : ∀ (v6729 : BitVec 32) (k0_hw837 : k0_chk837 v6729), ∀ a, (k0_off1674 v6729) a + S7x1x512.size a ≤ S7x50x512.size a := fun v6729 k0_hw837 => k0_hw837

def k0_off1675 (i : grid0.Coords) : Fin 3 → Nat :=
  let c6_7671 : Index := 6#32
  let c4_7672 : Index := 4#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6735 : Index := Scalar.indexCast v6423
  ![6, 4, v6735.toNat]
def k0_off1676 (v6736 : BitVec 32) : Fin 3 → Nat :=
  let c0_7677 : Index := 0#32
  let v6739 : Index := Scalar.indexCast v6736
  let c0_7678 : Index := 0#32
  ![0, v6739.toNat, 0]

def k0_chk838 (v6736 : BitVec 32) : Prop :=
  (∀ a, (k0_off1676 v6736) a + S7x1x512.size a ≤ S7x50x512.size a)
theorem k0_off1676_inb : ∀ (v6736 : BitVec 32) (k0_hw838 : k0_chk838 v6736), ∀ a, (k0_off1676 v6736) a + S7x1x512.size a ≤ S7x50x512.size a := fun v6736 k0_hw838 => k0_hw838

def k0_off1677 (i : grid0.Coords) : Fin 3 → Nat :=
  let c6_7679 : Index := 6#32
  let c5_7680 : Index := 5#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6742 : Index := Scalar.indexCast v6423
  ![6, 5, v6742.toNat]
def k0_off1678 (v6743 : BitVec 32) : Fin 3 → Nat :=
  let c0_7685 : Index := 0#32
  let v6746 : Index := Scalar.indexCast v6743
  let c0_7686 : Index := 0#32
  ![0, v6746.toNat, 0]

def k0_chk839 (v6743 : BitVec 32) : Prop :=
  (∀ a, (k0_off1678 v6743) a + S7x1x512.size a ≤ S7x50x512.size a)
theorem k0_off1678_inb : ∀ (v6743 : BitVec 32) (k0_hw839 : k0_chk839 v6743), ∀ a, (k0_off1678 v6743) a + S7x1x512.size a ≤ S7x50x512.size a := fun v6743 k0_hw839 => k0_hw839

def k0_off1679 (i : grid0.Coords) : Fin 3 → Nat :=
  let c6_7687 : Index := 6#32
  let c6_7688 : Index := 6#32
  let arg0 : BitVec 32 := BitVec.ofNat 32 (i 0).val
  let c32_i32_7314 : BitVec 32 := 32#32
  let v6422 : BitVec 32 := Scalar.muli arg0 c32_i32_7314
  let c19_i32 : BitVec 32 := 19#32
  let v6423 : BitVec 32 := Scalar.addi v6422 c19_i32
  let v6749 : Index := Scalar.indexCast v6423
  ![6, 6, v6749.toNat]
def k0_off1680 (v6750 : BitVec 32) : Fin 3 → Nat :=
  let c0_7693 : Index := 0#32
  let v6753 : Index := Scalar.indexCast v6750
  let c0_7694 : Index := 0#32
  ![0, v6753.toNat, 0]

def k0_chk840 (v6750 : BitVec 32) : Prop :=
  (∀ a, (k0_off1680 v6750) a + S7x1x512.size a ≤ S7x50x512.size a)
theorem k0_off1680_inb : ∀ (v6750 : BitVec 32) (k0_hw840 : k0_chk840 v6750), ∀ a, (k0_off1680 v6750) a + S7x1x512.size a ≤ S7x50x512.size a := fun v6750 k0_hw840 => k0_hw840

def k0_off1681 (i : grid0.Coords) : Fin 3 → Nat :=
  let c0_7700 : Index := 0#32
  let c0_7701 : Index := 0#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6762 : Index := Scalar.indexCast v6761
  ![0, 0, v6762.toNat]
def k0_off1682 (v6763 : BitVec 32) : Fin 3 → Nat :=
  let v6764 : Index := Scalar.indexCast v6763
  let c0_7702 : Index := 0#32
  let c0_7703 : Index := 0#32
  ![v6764.toNat, 0, 0]

def k0_chk841 (v6763 : BitVec 32) : Prop :=
  (∀ a, (k0_off1682 v6763) a + S1x50x512.size a ≤ S250x50x512.size a)
theorem k0_off1682_inb : ∀ (v6763 : BitVec 32) (k0_hw841 : k0_chk841 v6763), ∀ a, (k0_off1682 v6763) a + S1x50x512.size a ≤ S250x50x512.size a := fun v6763 k0_hw841 => k0_hw841

def k0_off1683 (i : grid0.Coords) : Fin 3 → Nat :=
  let c1_7711 : Index := 1#32
  let c0_7712 : Index := 0#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6772 : Index := Scalar.indexCast v6761
  ![1, 0, v6772.toNat]
def k0_off1684 (v6773 : BitVec 32) : Fin 3 → Nat :=
  let v6774 : Index := Scalar.indexCast v6773
  let c0_7713 : Index := 0#32
  let c0_7714 : Index := 0#32
  ![v6774.toNat, 0, 0]

def k0_chk842 (v6773 : BitVec 32) : Prop :=
  (∀ a, (k0_off1684 v6773) a + S1x50x512.size a ≤ S250x50x512.size a)
theorem k0_off1684_inb : ∀ (v6773 : BitVec 32) (k0_hw842 : k0_chk842 v6773), ∀ a, (k0_off1684 v6773) a + S1x50x512.size a ≤ S250x50x512.size a := fun v6773 k0_hw842 => k0_hw842

def k0_off1685 (i : grid0.Coords) : Fin 3 → Nat :=
  let c2_7722 : Index := 2#32
  let c0_7723 : Index := 0#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6782 : Index := Scalar.indexCast v6761
  ![2, 0, v6782.toNat]
def k0_off1686 (v6783 : BitVec 32) : Fin 3 → Nat :=
  let v6784 : Index := Scalar.indexCast v6783
  let c0_7724 : Index := 0#32
  let c0_7725 : Index := 0#32
  ![v6784.toNat, 0, 0]

def k0_chk843 (v6783 : BitVec 32) : Prop :=
  (∀ a, (k0_off1686 v6783) a + S1x50x512.size a ≤ S250x50x512.size a)
theorem k0_off1686_inb : ∀ (v6783 : BitVec 32) (k0_hw843 : k0_chk843 v6783), ∀ a, (k0_off1686 v6783) a + S1x50x512.size a ≤ S250x50x512.size a := fun v6783 k0_hw843 => k0_hw843

def k0_off1687 (i : grid0.Coords) : Fin 3 → Nat :=
  let c3_7733 : Index := 3#32
  let c0_7734 : Index := 0#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6792 : Index := Scalar.indexCast v6761
  ![3, 0, v6792.toNat]
def k0_off1688 (v6793 : BitVec 32) : Fin 3 → Nat :=
  let v6794 : Index := Scalar.indexCast v6793
  let c0_7735 : Index := 0#32
  let c0_7736 : Index := 0#32
  ![v6794.toNat, 0, 0]

def k0_chk844 (v6793 : BitVec 32) : Prop :=
  (∀ a, (k0_off1688 v6793) a + S1x50x512.size a ≤ S250x50x512.size a)
theorem k0_off1688_inb : ∀ (v6793 : BitVec 32) (k0_hw844 : k0_chk844 v6793), ∀ a, (k0_off1688 v6793) a + S1x50x512.size a ≤ S250x50x512.size a := fun v6793 k0_hw844 => k0_hw844

def k0_off1689 (i : grid0.Coords) : Fin 3 → Nat :=
  let c4_7744 : Index := 4#32
  let c0_7745 : Index := 0#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6802 : Index := Scalar.indexCast v6761
  ![4, 0, v6802.toNat]
def k0_off1690 (v6803 : BitVec 32) : Fin 3 → Nat :=
  let v6804 : Index := Scalar.indexCast v6803
  let c0_7746 : Index := 0#32
  let c0_7747 : Index := 0#32
  ![v6804.toNat, 0, 0]

def k0_chk845 (v6803 : BitVec 32) : Prop :=
  (∀ a, (k0_off1690 v6803) a + S1x50x512.size a ≤ S250x50x512.size a)
theorem k0_off1690_inb : ∀ (v6803 : BitVec 32) (k0_hw845 : k0_chk845 v6803), ∀ a, (k0_off1690 v6803) a + S1x50x512.size a ≤ S250x50x512.size a := fun v6803 k0_hw845 => k0_hw845

def k0_off1691 (i : grid0.Coords) : Fin 3 → Nat :=
  let c5_7755 : Index := 5#32
  let c0_7756 : Index := 0#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6812 : Index := Scalar.indexCast v6761
  ![5, 0, v6812.toNat]
def k0_off1692 (v6813 : BitVec 32) : Fin 3 → Nat :=
  let v6814 : Index := Scalar.indexCast v6813
  let c0_7757 : Index := 0#32
  let c0_7758 : Index := 0#32
  ![v6814.toNat, 0, 0]

def k0_chk846 (v6813 : BitVec 32) : Prop :=
  (∀ a, (k0_off1692 v6813) a + S1x50x512.size a ≤ S250x50x512.size a)
theorem k0_off1692_inb : ∀ (v6813 : BitVec 32) (k0_hw846 : k0_chk846 v6813), ∀ a, (k0_off1692 v6813) a + S1x50x512.size a ≤ S250x50x512.size a := fun v6813 k0_hw846 => k0_hw846

def k0_off1693 (i : grid0.Coords) : Fin 3 → Nat :=
  let c6_7766 : Index := 6#32
  let c0_7767 : Index := 0#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6822 : Index := Scalar.indexCast v6761
  ![6, 0, v6822.toNat]
def k0_off1694 (v6823 : BitVec 32) : Fin 3 → Nat :=
  let v6824 : Index := Scalar.indexCast v6823
  let c0_7768 : Index := 0#32
  let c0_7769 : Index := 0#32
  ![v6824.toNat, 0, 0]

def k0_chk847 (v6823 : BitVec 32) : Prop :=
  (∀ a, (k0_off1694 v6823) a + S1x50x512.size a ≤ S250x50x512.size a)
theorem k0_off1694_inb : ∀ (v6823 : BitVec 32) (k0_hw847 : k0_chk847 v6823), ∀ a, (k0_off1694 v6823) a + S1x50x512.size a ≤ S250x50x512.size a := fun v6823 k0_hw847 => k0_hw847

def k0_off1695 (i : grid0.Coords) : Fin 3 → Nat :=
  let c0_7777 : Index := 0#32
  let c2_7778 : Index := 2#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6832 : Index := Scalar.indexCast v6761
  ![0, 2, v6832.toNat]
def k0_off1696 (v6833 : BitVec 32) : Fin 3 → Nat :=
  let c0_7783 : Index := 0#32
  let v6836 : Index := Scalar.indexCast v6833
  let c0_7784 : Index := 0#32
  ![0, v6836.toNat, 0]

def k0_chk848 (v6833 : BitVec 32) : Prop :=
  (∀ a, (k0_off1696 v6833) a + S7x1x512.size a ≤ S7x50x512.size a)
theorem k0_off1696_inb : ∀ (v6833 : BitVec 32) (k0_hw848 : k0_chk848 v6833), ∀ a, (k0_off1696 v6833) a + S7x1x512.size a ≤ S7x50x512.size a := fun v6833 k0_hw848 => k0_hw848

def k0_off1697 (i : grid0.Coords) : Fin 3 → Nat :=
  let c0_7785 : Index := 0#32
  let c3_7786 : Index := 3#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6838 : Index := Scalar.indexCast v6761
  ![0, 3, v6838.toNat]
def k0_off1698 (v6839 : BitVec 32) : Fin 3 → Nat :=
  let c0_7791 : Index := 0#32
  let v6842 : Index := Scalar.indexCast v6839
  let c0_7792 : Index := 0#32
  ![0, v6842.toNat, 0]

def k0_chk849 (v6839 : BitVec 32) : Prop :=
  (∀ a, (k0_off1698 v6839) a + S7x1x512.size a ≤ S7x50x512.size a)
theorem k0_off1698_inb : ∀ (v6839 : BitVec 32) (k0_hw849 : k0_chk849 v6839), ∀ a, (k0_off1698 v6839) a + S7x1x512.size a ≤ S7x50x512.size a := fun v6839 k0_hw849 => k0_hw849

def k0_off1699 (i : grid0.Coords) : Fin 3 → Nat :=
  let c0_7793 : Index := 0#32
  let c4_7794 : Index := 4#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6845 : Index := Scalar.indexCast v6761
  ![0, 4, v6845.toNat]
def k0_off1700 (v6846 : BitVec 32) : Fin 3 → Nat :=
  let c0_7799 : Index := 0#32
  let v6849 : Index := Scalar.indexCast v6846
  let c0_7800 : Index := 0#32
  ![0, v6849.toNat, 0]

def k0_chk850 (v6846 : BitVec 32) : Prop :=
  (∀ a, (k0_off1700 v6846) a + S7x1x512.size a ≤ S7x50x512.size a)
theorem k0_off1700_inb : ∀ (v6846 : BitVec 32) (k0_hw850 : k0_chk850 v6846), ∀ a, (k0_off1700 v6846) a + S7x1x512.size a ≤ S7x50x512.size a := fun v6846 k0_hw850 => k0_hw850

def k0_off1701 (i : grid0.Coords) : Fin 3 → Nat :=
  let c0_7801 : Index := 0#32
  let c5_7802 : Index := 5#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6852 : Index := Scalar.indexCast v6761
  ![0, 5, v6852.toNat]
def k0_off1702 (v6853 : BitVec 32) : Fin 3 → Nat :=
  let c0_7807 : Index := 0#32
  let v6856 : Index := Scalar.indexCast v6853
  let c0_7808 : Index := 0#32
  ![0, v6856.toNat, 0]

def k0_chk851 (v6853 : BitVec 32) : Prop :=
  (∀ a, (k0_off1702 v6853) a + S7x1x512.size a ≤ S7x50x512.size a)
theorem k0_off1702_inb : ∀ (v6853 : BitVec 32) (k0_hw851 : k0_chk851 v6853), ∀ a, (k0_off1702 v6853) a + S7x1x512.size a ≤ S7x50x512.size a := fun v6853 k0_hw851 => k0_hw851

def k0_off1703 (i : grid0.Coords) : Fin 3 → Nat :=
  let c0_7809 : Index := 0#32
  let c6_7810 : Index := 6#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6859 : Index := Scalar.indexCast v6761
  ![0, 6, v6859.toNat]
def k0_off1704 (v6860 : BitVec 32) : Fin 3 → Nat :=
  let c0_7815 : Index := 0#32
  let v6863 : Index := Scalar.indexCast v6860
  let c0_7816 : Index := 0#32
  ![0, v6863.toNat, 0]

def k0_chk852 (v6860 : BitVec 32) : Prop :=
  (∀ a, (k0_off1704 v6860) a + S7x1x512.size a ≤ S7x50x512.size a)
theorem k0_off1704_inb : ∀ (v6860 : BitVec 32) (k0_hw852 : k0_chk852 v6860), ∀ a, (k0_off1704 v6860) a + S7x1x512.size a ≤ S7x50x512.size a := fun v6860 k0_hw852 => k0_hw852

def k0_off1705 (i : grid0.Coords) : Fin 3 → Nat :=
  let c1_7820 : Index := 1#32
  let c2_7821 : Index := 2#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6870 : Index := Scalar.indexCast v6761
  ![1, 2, v6870.toNat]
def k0_off1706 (v6871 : BitVec 32) : Fin 3 → Nat :=
  let c0_7826 : Index := 0#32
  let v6874 : Index := Scalar.indexCast v6871
  let c0_7827 : Index := 0#32
  ![0, v6874.toNat, 0]

def k0_chk853 (v6871 : BitVec 32) : Prop :=
  (∀ a, (k0_off1706 v6871) a + S7x1x512.size a ≤ S7x50x512.size a)
theorem k0_off1706_inb : ∀ (v6871 : BitVec 32) (k0_hw853 : k0_chk853 v6871), ∀ a, (k0_off1706 v6871) a + S7x1x512.size a ≤ S7x50x512.size a := fun v6871 k0_hw853 => k0_hw853

def k0_off1707 (i : grid0.Coords) : Fin 3 → Nat :=
  let c1_7828 : Index := 1#32
  let c3_7829 : Index := 3#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6876 : Index := Scalar.indexCast v6761
  ![1, 3, v6876.toNat]
def k0_off1708 (v6877 : BitVec 32) : Fin 3 → Nat :=
  let c0_7834 : Index := 0#32
  let v6880 : Index := Scalar.indexCast v6877
  let c0_7835 : Index := 0#32
  ![0, v6880.toNat, 0]

def k0_chk854 (v6877 : BitVec 32) : Prop :=
  (∀ a, (k0_off1708 v6877) a + S7x1x512.size a ≤ S7x50x512.size a)
theorem k0_off1708_inb : ∀ (v6877 : BitVec 32) (k0_hw854 : k0_chk854 v6877), ∀ a, (k0_off1708 v6877) a + S7x1x512.size a ≤ S7x50x512.size a := fun v6877 k0_hw854 => k0_hw854

def k0_off1709 (i : grid0.Coords) : Fin 3 → Nat :=
  let c1_7836 : Index := 1#32
  let c4_7837 : Index := 4#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6883 : Index := Scalar.indexCast v6761
  ![1, 4, v6883.toNat]
def k0_off1710 (v6884 : BitVec 32) : Fin 3 → Nat :=
  let c0_7842 : Index := 0#32
  let v6887 : Index := Scalar.indexCast v6884
  let c0_7843 : Index := 0#32
  ![0, v6887.toNat, 0]

def k0_chk855 (v6884 : BitVec 32) : Prop :=
  (∀ a, (k0_off1710 v6884) a + S7x1x512.size a ≤ S7x50x512.size a)
theorem k0_off1710_inb : ∀ (v6884 : BitVec 32) (k0_hw855 : k0_chk855 v6884), ∀ a, (k0_off1710 v6884) a + S7x1x512.size a ≤ S7x50x512.size a := fun v6884 k0_hw855 => k0_hw855

def k0_off1711 (i : grid0.Coords) : Fin 3 → Nat :=
  let c1_7844 : Index := 1#32
  let c5_7845 : Index := 5#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6890 : Index := Scalar.indexCast v6761
  ![1, 5, v6890.toNat]
def k0_off1712 (v6891 : BitVec 32) : Fin 3 → Nat :=
  let c0_7850 : Index := 0#32
  let v6894 : Index := Scalar.indexCast v6891
  let c0_7851 : Index := 0#32
  ![0, v6894.toNat, 0]

def k0_chk856 (v6891 : BitVec 32) : Prop :=
  (∀ a, (k0_off1712 v6891) a + S7x1x512.size a ≤ S7x50x512.size a)
theorem k0_off1712_inb : ∀ (v6891 : BitVec 32) (k0_hw856 : k0_chk856 v6891), ∀ a, (k0_off1712 v6891) a + S7x1x512.size a ≤ S7x50x512.size a := fun v6891 k0_hw856 => k0_hw856

def k0_off1713 (i : grid0.Coords) : Fin 3 → Nat :=
  let c1_7852 : Index := 1#32
  let c6_7853 : Index := 6#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6897 : Index := Scalar.indexCast v6761
  ![1, 6, v6897.toNat]
def k0_off1714 (v6898 : BitVec 32) : Fin 3 → Nat :=
  let c0_7858 : Index := 0#32
  let v6901 : Index := Scalar.indexCast v6898
  let c0_7859 : Index := 0#32
  ![0, v6901.toNat, 0]

def k0_chk857 (v6898 : BitVec 32) : Prop :=
  (∀ a, (k0_off1714 v6898) a + S7x1x512.size a ≤ S7x50x512.size a)
theorem k0_off1714_inb : ∀ (v6898 : BitVec 32) (k0_hw857 : k0_chk857 v6898), ∀ a, (k0_off1714 v6898) a + S7x1x512.size a ≤ S7x50x512.size a := fun v6898 k0_hw857 => k0_hw857

def k0_off1715 (i : grid0.Coords) : Fin 3 → Nat :=
  let c2_7864 : Index := 2#32
  let c2_7865 : Index := 2#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6908 : Index := Scalar.indexCast v6761
  ![2, 2, v6908.toNat]
def k0_off1716 (v6909 : BitVec 32) : Fin 3 → Nat :=
  let c0_7870 : Index := 0#32
  let v6912 : Index := Scalar.indexCast v6909
  let c0_7871 : Index := 0#32
  ![0, v6912.toNat, 0]

def k0_chk858 (v6909 : BitVec 32) : Prop :=
  (∀ a, (k0_off1716 v6909) a + S7x1x512.size a ≤ S7x50x512.size a)
theorem k0_off1716_inb : ∀ (v6909 : BitVec 32) (k0_hw858 : k0_chk858 v6909), ∀ a, (k0_off1716 v6909) a + S7x1x512.size a ≤ S7x50x512.size a := fun v6909 k0_hw858 => k0_hw858

def k0_off1717 (i : grid0.Coords) : Fin 3 → Nat :=
  let c2_7872 : Index := 2#32
  let c3_7873 : Index := 3#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6914 : Index := Scalar.indexCast v6761
  ![2, 3, v6914.toNat]
def k0_off1718 (v6915 : BitVec 32) : Fin 3 → Nat :=
  let c0_7878 : Index := 0#32
  let v6918 : Index := Scalar.indexCast v6915
  let c0_7879 : Index := 0#32
  ![0, v6918.toNat, 0]

def k0_chk859 (v6915 : BitVec 32) : Prop :=
  (∀ a, (k0_off1718 v6915) a + S7x1x512.size a ≤ S7x50x512.size a)
theorem k0_off1718_inb : ∀ (v6915 : BitVec 32) (k0_hw859 : k0_chk859 v6915), ∀ a, (k0_off1718 v6915) a + S7x1x512.size a ≤ S7x50x512.size a := fun v6915 k0_hw859 => k0_hw859

def k0_off1719 (i : grid0.Coords) : Fin 3 → Nat :=
  let c2_7880 : Index := 2#32
  let c4_7881 : Index := 4#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6921 : Index := Scalar.indexCast v6761
  ![2, 4, v6921.toNat]
def k0_off1720 (v6922 : BitVec 32) : Fin 3 → Nat :=
  let c0_7886 : Index := 0#32
  let v6925 : Index := Scalar.indexCast v6922
  let c0_7887 : Index := 0#32
  ![0, v6925.toNat, 0]

def k0_chk860 (v6922 : BitVec 32) : Prop :=
  (∀ a, (k0_off1720 v6922) a + S7x1x512.size a ≤ S7x50x512.size a)
theorem k0_off1720_inb : ∀ (v6922 : BitVec 32) (k0_hw860 : k0_chk860 v6922), ∀ a, (k0_off1720 v6922) a + S7x1x512.size a ≤ S7x50x512.size a := fun v6922 k0_hw860 => k0_hw860

def k0_off1721 (i : grid0.Coords) : Fin 3 → Nat :=
  let c2_7888 : Index := 2#32
  let c5_7889 : Index := 5#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6928 : Index := Scalar.indexCast v6761
  ![2, 5, v6928.toNat]
def k0_off1722 (v6929 : BitVec 32) : Fin 3 → Nat :=
  let c0_7894 : Index := 0#32
  let v6932 : Index := Scalar.indexCast v6929
  let c0_7895 : Index := 0#32
  ![0, v6932.toNat, 0]

def k0_chk861 (v6929 : BitVec 32) : Prop :=
  (∀ a, (k0_off1722 v6929) a + S7x1x512.size a ≤ S7x50x512.size a)
theorem k0_off1722_inb : ∀ (v6929 : BitVec 32) (k0_hw861 : k0_chk861 v6929), ∀ a, (k0_off1722 v6929) a + S7x1x512.size a ≤ S7x50x512.size a := fun v6929 k0_hw861 => k0_hw861

def k0_off1723 (i : grid0.Coords) : Fin 3 → Nat :=
  let c2_7896 : Index := 2#32
  let c6_7897 : Index := 6#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6935 : Index := Scalar.indexCast v6761
  ![2, 6, v6935.toNat]
def k0_off1724 (v6936 : BitVec 32) : Fin 3 → Nat :=
  let c0_7902 : Index := 0#32
  let v6939 : Index := Scalar.indexCast v6936
  let c0_7903 : Index := 0#32
  ![0, v6939.toNat, 0]

def k0_chk862 (v6936 : BitVec 32) : Prop :=
  (∀ a, (k0_off1724 v6936) a + S7x1x512.size a ≤ S7x50x512.size a)
theorem k0_off1724_inb : ∀ (v6936 : BitVec 32) (k0_hw862 : k0_chk862 v6936), ∀ a, (k0_off1724 v6936) a + S7x1x512.size a ≤ S7x50x512.size a := fun v6936 k0_hw862 => k0_hw862

def k0_off1725 (i : grid0.Coords) : Fin 3 → Nat :=
  let c3_7908 : Index := 3#32
  let c2_7909 : Index := 2#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6946 : Index := Scalar.indexCast v6761
  ![3, 2, v6946.toNat]
def k0_off1726 (v6947 : BitVec 32) : Fin 3 → Nat :=
  let c0_7914 : Index := 0#32
  let v6950 : Index := Scalar.indexCast v6947
  let c0_7915 : Index := 0#32
  ![0, v6950.toNat, 0]

def k0_chk863 (v6947 : BitVec 32) : Prop :=
  (∀ a, (k0_off1726 v6947) a + S7x1x512.size a ≤ S7x50x512.size a)
theorem k0_off1726_inb : ∀ (v6947 : BitVec 32) (k0_hw863 : k0_chk863 v6947), ∀ a, (k0_off1726 v6947) a + S7x1x512.size a ≤ S7x50x512.size a := fun v6947 k0_hw863 => k0_hw863

def k0_off1727 (i : grid0.Coords) : Fin 3 → Nat :=
  let c3_7916 : Index := 3#32
  let c3_7917 : Index := 3#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6952 : Index := Scalar.indexCast v6761
  ![3, 3, v6952.toNat]
def k0_off1728 (v6953 : BitVec 32) : Fin 3 → Nat :=
  let c0_7922 : Index := 0#32
  let v6956 : Index := Scalar.indexCast v6953
  let c0_7923 : Index := 0#32
  ![0, v6956.toNat, 0]

def k0_chk864 (v6953 : BitVec 32) : Prop :=
  (∀ a, (k0_off1728 v6953) a + S7x1x512.size a ≤ S7x50x512.size a)
theorem k0_off1728_inb : ∀ (v6953 : BitVec 32) (k0_hw864 : k0_chk864 v6953), ∀ a, (k0_off1728 v6953) a + S7x1x512.size a ≤ S7x50x512.size a := fun v6953 k0_hw864 => k0_hw864

def k0_off1729 (i : grid0.Coords) : Fin 3 → Nat :=
  let c3_7924 : Index := 3#32
  let c4_7925 : Index := 4#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6959 : Index := Scalar.indexCast v6761
  ![3, 4, v6959.toNat]
def k0_off1730 (v6960 : BitVec 32) : Fin 3 → Nat :=
  let c0_7930 : Index := 0#32
  let v6963 : Index := Scalar.indexCast v6960
  let c0_7931 : Index := 0#32
  ![0, v6963.toNat, 0]

def k0_chk865 (v6960 : BitVec 32) : Prop :=
  (∀ a, (k0_off1730 v6960) a + S7x1x512.size a ≤ S7x50x512.size a)
theorem k0_off1730_inb : ∀ (v6960 : BitVec 32) (k0_hw865 : k0_chk865 v6960), ∀ a, (k0_off1730 v6960) a + S7x1x512.size a ≤ S7x50x512.size a := fun v6960 k0_hw865 => k0_hw865

def k0_off1731 (i : grid0.Coords) : Fin 3 → Nat :=
  let c3_7932 : Index := 3#32
  let c5_7933 : Index := 5#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6966 : Index := Scalar.indexCast v6761
  ![3, 5, v6966.toNat]
def k0_off1732 (v6967 : BitVec 32) : Fin 3 → Nat :=
  let c0_7938 : Index := 0#32
  let v6970 : Index := Scalar.indexCast v6967
  let c0_7939 : Index := 0#32
  ![0, v6970.toNat, 0]

def k0_chk866 (v6967 : BitVec 32) : Prop :=
  (∀ a, (k0_off1732 v6967) a + S7x1x512.size a ≤ S7x50x512.size a)
theorem k0_off1732_inb : ∀ (v6967 : BitVec 32) (k0_hw866 : k0_chk866 v6967), ∀ a, (k0_off1732 v6967) a + S7x1x512.size a ≤ S7x50x512.size a := fun v6967 k0_hw866 => k0_hw866

def k0_off1733 (i : grid0.Coords) : Fin 3 → Nat :=
  let c3_7940 : Index := 3#32
  let c6_7941 : Index := 6#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6973 : Index := Scalar.indexCast v6761
  ![3, 6, v6973.toNat]
def k0_off1734 (v6974 : BitVec 32) : Fin 3 → Nat :=
  let c0_7946 : Index := 0#32
  let v6977 : Index := Scalar.indexCast v6974
  let c0_7947 : Index := 0#32
  ![0, v6977.toNat, 0]

def k0_chk867 (v6974 : BitVec 32) : Prop :=
  (∀ a, (k0_off1734 v6974) a + S7x1x512.size a ≤ S7x50x512.size a)
theorem k0_off1734_inb : ∀ (v6974 : BitVec 32) (k0_hw867 : k0_chk867 v6974), ∀ a, (k0_off1734 v6974) a + S7x1x512.size a ≤ S7x50x512.size a := fun v6974 k0_hw867 => k0_hw867

def k0_off1735 (i : grid0.Coords) : Fin 3 → Nat :=
  let c4_7952 : Index := 4#32
  let c2_7953 : Index := 2#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6984 : Index := Scalar.indexCast v6761
  ![4, 2, v6984.toNat]
def k0_off1736 (v6985 : BitVec 32) : Fin 3 → Nat :=
  let c0_7958 : Index := 0#32
  let v6988 : Index := Scalar.indexCast v6985
  let c0_7959 : Index := 0#32
  ![0, v6988.toNat, 0]

def k0_chk868 (v6985 : BitVec 32) : Prop :=
  (∀ a, (k0_off1736 v6985) a + S7x1x512.size a ≤ S7x50x512.size a)
theorem k0_off1736_inb : ∀ (v6985 : BitVec 32) (k0_hw868 : k0_chk868 v6985), ∀ a, (k0_off1736 v6985) a + S7x1x512.size a ≤ S7x50x512.size a := fun v6985 k0_hw868 => k0_hw868

def k0_off1737 (i : grid0.Coords) : Fin 3 → Nat :=
  let c4_7960 : Index := 4#32
  let c3_7961 : Index := 3#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6990 : Index := Scalar.indexCast v6761
  ![4, 3, v6990.toNat]
def k0_off1738 (v6991 : BitVec 32) : Fin 3 → Nat :=
  let c0_7966 : Index := 0#32
  let v6994 : Index := Scalar.indexCast v6991
  let c0_7967 : Index := 0#32
  ![0, v6994.toNat, 0]

def k0_chk869 (v6991 : BitVec 32) : Prop :=
  (∀ a, (k0_off1738 v6991) a + S7x1x512.size a ≤ S7x50x512.size a)
theorem k0_off1738_inb : ∀ (v6991 : BitVec 32) (k0_hw869 : k0_chk869 v6991), ∀ a, (k0_off1738 v6991) a + S7x1x512.size a ≤ S7x50x512.size a := fun v6991 k0_hw869 => k0_hw869

def k0_off1739 (i : grid0.Coords) : Fin 3 → Nat :=
  let c4_7968 : Index := 4#32
  let c4_7969 : Index := 4#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v6997 : Index := Scalar.indexCast v6761
  ![4, 4, v6997.toNat]
def k0_off1740 (v6998 : BitVec 32) : Fin 3 → Nat :=
  let c0_7974 : Index := 0#32
  let v7001 : Index := Scalar.indexCast v6998
  let c0_7975 : Index := 0#32
  ![0, v7001.toNat, 0]

def k0_chk870 (v6998 : BitVec 32) : Prop :=
  (∀ a, (k0_off1740 v6998) a + S7x1x512.size a ≤ S7x50x512.size a)
theorem k0_off1740_inb : ∀ (v6998 : BitVec 32) (k0_hw870 : k0_chk870 v6998), ∀ a, (k0_off1740 v6998) a + S7x1x512.size a ≤ S7x50x512.size a := fun v6998 k0_hw870 => k0_hw870

def k0_off1741 (i : grid0.Coords) : Fin 3 → Nat :=
  let c4_7976 : Index := 4#32
  let c5_7977 : Index := 5#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7004 : Index := Scalar.indexCast v6761
  ![4, 5, v7004.toNat]
def k0_off1742 (v7005 : BitVec 32) : Fin 3 → Nat :=
  let c0_7982 : Index := 0#32
  let v7008 : Index := Scalar.indexCast v7005
  let c0_7983 : Index := 0#32
  ![0, v7008.toNat, 0]

def k0_chk871 (v7005 : BitVec 32) : Prop :=
  (∀ a, (k0_off1742 v7005) a + S7x1x512.size a ≤ S7x50x512.size a)
theorem k0_off1742_inb : ∀ (v7005 : BitVec 32) (k0_hw871 : k0_chk871 v7005), ∀ a, (k0_off1742 v7005) a + S7x1x512.size a ≤ S7x50x512.size a := fun v7005 k0_hw871 => k0_hw871

def k0_off1743 (i : grid0.Coords) : Fin 3 → Nat :=
  let c4_7984 : Index := 4#32
  let c6_7985 : Index := 6#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7011 : Index := Scalar.indexCast v6761
  ![4, 6, v7011.toNat]
def k0_off1744 (v7012 : BitVec 32) : Fin 3 → Nat :=
  let c0_7990 : Index := 0#32
  let v7015 : Index := Scalar.indexCast v7012
  let c0_7991 : Index := 0#32
  ![0, v7015.toNat, 0]

def k0_chk872 (v7012 : BitVec 32) : Prop :=
  (∀ a, (k0_off1744 v7012) a + S7x1x512.size a ≤ S7x50x512.size a)
theorem k0_off1744_inb : ∀ (v7012 : BitVec 32) (k0_hw872 : k0_chk872 v7012), ∀ a, (k0_off1744 v7012) a + S7x1x512.size a ≤ S7x50x512.size a := fun v7012 k0_hw872 => k0_hw872

def k0_off1745 (i : grid0.Coords) : Fin 3 → Nat :=
  let c5_7996 : Index := 5#32
  let c2_7997 : Index := 2#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7022 : Index := Scalar.indexCast v6761
  ![5, 2, v7022.toNat]
def k0_off1746 (v7023 : BitVec 32) : Fin 3 → Nat :=
  let c0_8002 : Index := 0#32
  let v7026 : Index := Scalar.indexCast v7023
  let c0_8003 : Index := 0#32
  ![0, v7026.toNat, 0]

def k0_chk873 (v7023 : BitVec 32) : Prop :=
  (∀ a, (k0_off1746 v7023) a + S7x1x512.size a ≤ S7x50x512.size a)
theorem k0_off1746_inb : ∀ (v7023 : BitVec 32) (k0_hw873 : k0_chk873 v7023), ∀ a, (k0_off1746 v7023) a + S7x1x512.size a ≤ S7x50x512.size a := fun v7023 k0_hw873 => k0_hw873

def k0_off1747 (i : grid0.Coords) : Fin 3 → Nat :=
  let c5_8004 : Index := 5#32
  let c3_8005 : Index := 3#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7028 : Index := Scalar.indexCast v6761
  ![5, 3, v7028.toNat]
def k0_off1748 (v7029 : BitVec 32) : Fin 3 → Nat :=
  let c0_8010 : Index := 0#32
  let v7032 : Index := Scalar.indexCast v7029
  let c0_8011 : Index := 0#32
  ![0, v7032.toNat, 0]

def k0_chk874 (v7029 : BitVec 32) : Prop :=
  (∀ a, (k0_off1748 v7029) a + S7x1x512.size a ≤ S7x50x512.size a)
theorem k0_off1748_inb : ∀ (v7029 : BitVec 32) (k0_hw874 : k0_chk874 v7029), ∀ a, (k0_off1748 v7029) a + S7x1x512.size a ≤ S7x50x512.size a := fun v7029 k0_hw874 => k0_hw874

def k0_off1749 (i : grid0.Coords) : Fin 3 → Nat :=
  let c5_8012 : Index := 5#32
  let c4_8013 : Index := 4#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7035 : Index := Scalar.indexCast v6761
  ![5, 4, v7035.toNat]
def k0_off1750 (v7036 : BitVec 32) : Fin 3 → Nat :=
  let c0_8018 : Index := 0#32
  let v7039 : Index := Scalar.indexCast v7036
  let c0_8019 : Index := 0#32
  ![0, v7039.toNat, 0]

def k0_chk875 (v7036 : BitVec 32) : Prop :=
  (∀ a, (k0_off1750 v7036) a + S7x1x512.size a ≤ S7x50x512.size a)
theorem k0_off1750_inb : ∀ (v7036 : BitVec 32) (k0_hw875 : k0_chk875 v7036), ∀ a, (k0_off1750 v7036) a + S7x1x512.size a ≤ S7x50x512.size a := fun v7036 k0_hw875 => k0_hw875

def k0_off1751 (i : grid0.Coords) : Fin 3 → Nat :=
  let c5_8020 : Index := 5#32
  let c5_8021 : Index := 5#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7042 : Index := Scalar.indexCast v6761
  ![5, 5, v7042.toNat]
def k0_off1752 (v7043 : BitVec 32) : Fin 3 → Nat :=
  let c0_8026 : Index := 0#32
  let v7046 : Index := Scalar.indexCast v7043
  let c0_8027 : Index := 0#32
  ![0, v7046.toNat, 0]

def k0_chk876 (v7043 : BitVec 32) : Prop :=
  (∀ a, (k0_off1752 v7043) a + S7x1x512.size a ≤ S7x50x512.size a)
theorem k0_off1752_inb : ∀ (v7043 : BitVec 32) (k0_hw876 : k0_chk876 v7043), ∀ a, (k0_off1752 v7043) a + S7x1x512.size a ≤ S7x50x512.size a := fun v7043 k0_hw876 => k0_hw876

def k0_off1753 (i : grid0.Coords) : Fin 3 → Nat :=
  let c5_8028 : Index := 5#32
  let c6_8029 : Index := 6#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7049 : Index := Scalar.indexCast v6761
  ![5, 6, v7049.toNat]
def k0_off1754 (v7050 : BitVec 32) : Fin 3 → Nat :=
  let c0_8034 : Index := 0#32
  let v7053 : Index := Scalar.indexCast v7050
  let c0_8035 : Index := 0#32
  ![0, v7053.toNat, 0]

def k0_chk877 (v7050 : BitVec 32) : Prop :=
  (∀ a, (k0_off1754 v7050) a + S7x1x512.size a ≤ S7x50x512.size a)
theorem k0_off1754_inb : ∀ (v7050 : BitVec 32) (k0_hw877 : k0_chk877 v7050), ∀ a, (k0_off1754 v7050) a + S7x1x512.size a ≤ S7x50x512.size a := fun v7050 k0_hw877 => k0_hw877

def k0_off1755 (i : grid0.Coords) : Fin 3 → Nat :=
  let c6_8040 : Index := 6#32
  let c2_8041 : Index := 2#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7060 : Index := Scalar.indexCast v6761
  ![6, 2, v7060.toNat]
def k0_off1756 (v7061 : BitVec 32) : Fin 3 → Nat :=
  let c0_8046 : Index := 0#32
  let v7064 : Index := Scalar.indexCast v7061
  let c0_8047 : Index := 0#32
  ![0, v7064.toNat, 0]

def k0_chk878 (v7061 : BitVec 32) : Prop :=
  (∀ a, (k0_off1756 v7061) a + S7x1x512.size a ≤ S7x50x512.size a)
theorem k0_off1756_inb : ∀ (v7061 : BitVec 32) (k0_hw878 : k0_chk878 v7061), ∀ a, (k0_off1756 v7061) a + S7x1x512.size a ≤ S7x50x512.size a := fun v7061 k0_hw878 => k0_hw878

def k0_off1757 (i : grid0.Coords) : Fin 3 → Nat :=
  let c6_8048 : Index := 6#32
  let c3_8049 : Index := 3#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7066 : Index := Scalar.indexCast v6761
  ![6, 3, v7066.toNat]
def k0_off1758 (v7067 : BitVec 32) : Fin 3 → Nat :=
  let c0_8054 : Index := 0#32
  let v7070 : Index := Scalar.indexCast v7067
  let c0_8055 : Index := 0#32
  ![0, v7070.toNat, 0]

def k0_chk879 (v7067 : BitVec 32) : Prop :=
  (∀ a, (k0_off1758 v7067) a + S7x1x512.size a ≤ S7x50x512.size a)
theorem k0_off1758_inb : ∀ (v7067 : BitVec 32) (k0_hw879 : k0_chk879 v7067), ∀ a, (k0_off1758 v7067) a + S7x1x512.size a ≤ S7x50x512.size a := fun v7067 k0_hw879 => k0_hw879

def k0_off1759 (i : grid0.Coords) : Fin 3 → Nat :=
  let c6_8056 : Index := 6#32
  let c4_8057 : Index := 4#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7073 : Index := Scalar.indexCast v6761
  ![6, 4, v7073.toNat]
def k0_off1760 (v7074 : BitVec 32) : Fin 3 → Nat :=
  let c0_8062 : Index := 0#32
  let v7077 : Index := Scalar.indexCast v7074
  let c0_8063 : Index := 0#32
  ![0, v7077.toNat, 0]

def k0_chk880 (v7074 : BitVec 32) : Prop :=
  (∀ a, (k0_off1760 v7074) a + S7x1x512.size a ≤ S7x50x512.size a)
theorem k0_off1760_inb : ∀ (v7074 : BitVec 32) (k0_hw880 : k0_chk880 v7074), ∀ a, (k0_off1760 v7074) a + S7x1x512.size a ≤ S7x50x512.size a := fun v7074 k0_hw880 => k0_hw880

def k0_off1761 (i : grid0.Coords) : Fin 3 → Nat :=
  let c6_8064 : Index := 6#32
  let c5_8065 : Index := 5#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7080 : Index := Scalar.indexCast v6761
  ![6, 5, v7080.toNat]
def k0_off1762 (v7081 : BitVec 32) : Fin 3 → Nat :=
  let c0_8070 : Index := 0#32
  let v7084 : Index := Scalar.indexCast v7081
  let c0_8071 : Index := 0#32
  ![0, v7084.toNat, 0]

def k0_chk881 (v7081 : BitVec 32) : Prop :=
  (∀ a, (k0_off1762 v7081) a + S7x1x512.size a ≤ S7x50x512.size a)
theorem k0_off1762_inb : ∀ (v7081 : BitVec 32) (k0_hw881 : k0_chk881 v7081), ∀ a, (k0_off1762 v7081) a + S7x1x512.size a ≤ S7x50x512.size a := fun v7081 k0_hw881 => k0_hw881

def k0_off1763 (i : grid0.Coords) : Fin 3 → Nat :=
  let c6_8072 : Index := 6#32
  let c6_8073 : Index := 6#32
  let arg0 : BitVec 32 := BitVec.ofNat 32 (i 0).val
  let c32_i32_7699 : BitVec 32 := 32#32
  let v6760 : BitVec 32 := Scalar.muli arg0 c32_i32_7699
  let c20_i32 : BitVec 32 := 20#32
  let v6761 : BitVec 32 := Scalar.addi v6760 c20_i32
  let v7087 : Index := Scalar.indexCast v6761
  ![6, 6, v7087.toNat]
def k0_off1764 (v7088 : BitVec 32) : Fin 3 → Nat :=
  let c0_8078 : Index := 0#32
  let v7091 : Index := Scalar.indexCast v7088
  let c0_8079 : Index := 0#32
  ![0, v7091.toNat, 0]

def k0_chk882 (v7088 : BitVec 32) : Prop :=
  (∀ a, (k0_off1764 v7088) a + S7x1x512.size a ≤ S7x50x512.size a)
theorem k0_off1764_inb : ∀ (v7088 : BitVec 32) (k0_hw882 : k0_chk882 v7088), ∀ a, (k0_off1764 v7088) a + S7x1x512.size a ≤ S7x50x512.size a := fun v7088 k0_hw882 => k0_hw882

def k0_off1765 (i : grid0.Coords) : Fin 3 → Nat :=
  let c0_8085 : Index := 0#32
  let c0_8086 : Index := 0#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7100 : Index := Scalar.indexCast v7099
  ![0, 0, v7100.toNat]
def k0_off1766 (v7101 : BitVec 32) : Fin 3 → Nat :=
  let v7102 : Index := Scalar.indexCast v7101
  let c0_8087 : Index := 0#32
  let c0_8088 : Index := 0#32
  ![v7102.toNat, 0, 0]

def k0_chk883 (v7101 : BitVec 32) : Prop :=
  (∀ a, (k0_off1766 v7101) a + S1x50x512.size a ≤ S250x50x512.size a)
theorem k0_off1766_inb : ∀ (v7101 : BitVec 32) (k0_hw883 : k0_chk883 v7101), ∀ a, (k0_off1766 v7101) a + S1x50x512.size a ≤ S250x50x512.size a := fun v7101 k0_hw883 => k0_hw883

def k0_off1767 (i : grid0.Coords) : Fin 3 → Nat :=
  let c1_8096 : Index := 1#32
  let c0_8097 : Index := 0#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7110 : Index := Scalar.indexCast v7099
  ![1, 0, v7110.toNat]
def k0_off1768 (v7111 : BitVec 32) : Fin 3 → Nat :=
  let v7112 : Index := Scalar.indexCast v7111
  let c0_8098 : Index := 0#32
  let c0_8099 : Index := 0#32
  ![v7112.toNat, 0, 0]

def k0_chk884 (v7111 : BitVec 32) : Prop :=
  (∀ a, (k0_off1768 v7111) a + S1x50x512.size a ≤ S250x50x512.size a)
theorem k0_off1768_inb : ∀ (v7111 : BitVec 32) (k0_hw884 : k0_chk884 v7111), ∀ a, (k0_off1768 v7111) a + S1x50x512.size a ≤ S250x50x512.size a := fun v7111 k0_hw884 => k0_hw884

def k0_off1769 (i : grid0.Coords) : Fin 3 → Nat :=
  let c2_8107 : Index := 2#32
  let c0_8108 : Index := 0#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7120 : Index := Scalar.indexCast v7099
  ![2, 0, v7120.toNat]
def k0_off1770 (v7121 : BitVec 32) : Fin 3 → Nat :=
  let v7122 : Index := Scalar.indexCast v7121
  let c0_8109 : Index := 0#32
  let c0_8110 : Index := 0#32
  ![v7122.toNat, 0, 0]

def k0_chk885 (v7121 : BitVec 32) : Prop :=
  (∀ a, (k0_off1770 v7121) a + S1x50x512.size a ≤ S250x50x512.size a)
theorem k0_off1770_inb : ∀ (v7121 : BitVec 32) (k0_hw885 : k0_chk885 v7121), ∀ a, (k0_off1770 v7121) a + S1x50x512.size a ≤ S250x50x512.size a := fun v7121 k0_hw885 => k0_hw885

def k0_off1771 (i : grid0.Coords) : Fin 3 → Nat :=
  let c3_8118 : Index := 3#32
  let c0_8119 : Index := 0#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7130 : Index := Scalar.indexCast v7099
  ![3, 0, v7130.toNat]
def k0_off1772 (v7131 : BitVec 32) : Fin 3 → Nat :=
  let v7132 : Index := Scalar.indexCast v7131
  let c0_8120 : Index := 0#32
  let c0_8121 : Index := 0#32
  ![v7132.toNat, 0, 0]

def k0_chk886 (v7131 : BitVec 32) : Prop :=
  (∀ a, (k0_off1772 v7131) a + S1x50x512.size a ≤ S250x50x512.size a)
theorem k0_off1772_inb : ∀ (v7131 : BitVec 32) (k0_hw886 : k0_chk886 v7131), ∀ a, (k0_off1772 v7131) a + S1x50x512.size a ≤ S250x50x512.size a := fun v7131 k0_hw886 => k0_hw886

def k0_off1773 (i : grid0.Coords) : Fin 3 → Nat :=
  let c4_8129 : Index := 4#32
  let c0_8130 : Index := 0#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7140 : Index := Scalar.indexCast v7099
  ![4, 0, v7140.toNat]
def k0_off1774 (v7141 : BitVec 32) : Fin 3 → Nat :=
  let v7142 : Index := Scalar.indexCast v7141
  let c0_8131 : Index := 0#32
  let c0_8132 : Index := 0#32
  ![v7142.toNat, 0, 0]

def k0_chk887 (v7141 : BitVec 32) : Prop :=
  (∀ a, (k0_off1774 v7141) a + S1x50x512.size a ≤ S250x50x512.size a)
theorem k0_off1774_inb : ∀ (v7141 : BitVec 32) (k0_hw887 : k0_chk887 v7141), ∀ a, (k0_off1774 v7141) a + S1x50x512.size a ≤ S250x50x512.size a := fun v7141 k0_hw887 => k0_hw887

def k0_off1775 (i : grid0.Coords) : Fin 3 → Nat :=
  let c5_8140 : Index := 5#32
  let c0_8141 : Index := 0#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7150 : Index := Scalar.indexCast v7099
  ![5, 0, v7150.toNat]
def k0_off1776 (v7151 : BitVec 32) : Fin 3 → Nat :=
  let v7152 : Index := Scalar.indexCast v7151
  let c0_8142 : Index := 0#32
  let c0_8143 : Index := 0#32
  ![v7152.toNat, 0, 0]

def k0_chk888 (v7151 : BitVec 32) : Prop :=
  (∀ a, (k0_off1776 v7151) a + S1x50x512.size a ≤ S250x50x512.size a)
theorem k0_off1776_inb : ∀ (v7151 : BitVec 32) (k0_hw888 : k0_chk888 v7151), ∀ a, (k0_off1776 v7151) a + S1x50x512.size a ≤ S250x50x512.size a := fun v7151 k0_hw888 => k0_hw888

def k0_off1777 (i : grid0.Coords) : Fin 3 → Nat :=
  let c6_8151 : Index := 6#32
  let c0_8152 : Index := 0#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7160 : Index := Scalar.indexCast v7099
  ![6, 0, v7160.toNat]
def k0_off1778 (v7161 : BitVec 32) : Fin 3 → Nat :=
  let v7162 : Index := Scalar.indexCast v7161
  let c0_8153 : Index := 0#32
  let c0_8154 : Index := 0#32
  ![v7162.toNat, 0, 0]

def k0_chk889 (v7161 : BitVec 32) : Prop :=
  (∀ a, (k0_off1778 v7161) a + S1x50x512.size a ≤ S250x50x512.size a)
theorem k0_off1778_inb : ∀ (v7161 : BitVec 32) (k0_hw889 : k0_chk889 v7161), ∀ a, (k0_off1778 v7161) a + S1x50x512.size a ≤ S250x50x512.size a := fun v7161 k0_hw889 => k0_hw889

def k0_off1779 (i : grid0.Coords) : Fin 3 → Nat :=
  let c0_8162 : Index := 0#32
  let c2_8163 : Index := 2#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7170 : Index := Scalar.indexCast v7099
  ![0, 2, v7170.toNat]
def k0_off1780 (v7171 : BitVec 32) : Fin 3 → Nat :=
  let c0_8168 : Index := 0#32
  let v7174 : Index := Scalar.indexCast v7171
  let c0_8169 : Index := 0#32
  ![0, v7174.toNat, 0]

def k0_chk890 (v7171 : BitVec 32) : Prop :=
  (∀ a, (k0_off1780 v7171) a + S7x1x512.size a ≤ S7x50x512.size a)
theorem k0_off1780_inb : ∀ (v7171 : BitVec 32) (k0_hw890 : k0_chk890 v7171), ∀ a, (k0_off1780 v7171) a + S7x1x512.size a ≤ S7x50x512.size a := fun v7171 k0_hw890 => k0_hw890

def k0_off1781 (i : grid0.Coords) : Fin 3 → Nat :=
  let c0_8170 : Index := 0#32
  let c3_8171 : Index := 3#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7176 : Index := Scalar.indexCast v7099
  ![0, 3, v7176.toNat]
def k0_off1782 (v7177 : BitVec 32) : Fin 3 → Nat :=
  let c0_8176 : Index := 0#32
  let v7180 : Index := Scalar.indexCast v7177
  let c0_8177 : Index := 0#32
  ![0, v7180.toNat, 0]

def k0_chk891 (v7177 : BitVec 32) : Prop :=
  (∀ a, (k0_off1782 v7177) a + S7x1x512.size a ≤ S7x50x512.size a)
theorem k0_off1782_inb : ∀ (v7177 : BitVec 32) (k0_hw891 : k0_chk891 v7177), ∀ a, (k0_off1782 v7177) a + S7x1x512.size a ≤ S7x50x512.size a := fun v7177 k0_hw891 => k0_hw891

def k0_off1783 (i : grid0.Coords) : Fin 3 → Nat :=
  let c0_8178 : Index := 0#32
  let c4_8179 : Index := 4#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7183 : Index := Scalar.indexCast v7099
  ![0, 4, v7183.toNat]
def k0_off1784 (v7184 : BitVec 32) : Fin 3 → Nat :=
  let c0_8184 : Index := 0#32
  let v7187 : Index := Scalar.indexCast v7184
  let c0_8185 : Index := 0#32
  ![0, v7187.toNat, 0]

def k0_chk892 (v7184 : BitVec 32) : Prop :=
  (∀ a, (k0_off1784 v7184) a + S7x1x512.size a ≤ S7x50x512.size a)
theorem k0_off1784_inb : ∀ (v7184 : BitVec 32) (k0_hw892 : k0_chk892 v7184), ∀ a, (k0_off1784 v7184) a + S7x1x512.size a ≤ S7x50x512.size a := fun v7184 k0_hw892 => k0_hw892

def k0_off1785 (i : grid0.Coords) : Fin 3 → Nat :=
  let c0_8186 : Index := 0#32
  let c5_8187 : Index := 5#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7190 : Index := Scalar.indexCast v7099
  ![0, 5, v7190.toNat]
def k0_off1786 (v7191 : BitVec 32) : Fin 3 → Nat :=
  let c0_8192 : Index := 0#32
  let v7194 : Index := Scalar.indexCast v7191
  let c0_8193 : Index := 0#32
  ![0, v7194.toNat, 0]

def k0_chk893 (v7191 : BitVec 32) : Prop :=
  (∀ a, (k0_off1786 v7191) a + S7x1x512.size a ≤ S7x50x512.size a)
theorem k0_off1786_inb : ∀ (v7191 : BitVec 32) (k0_hw893 : k0_chk893 v7191), ∀ a, (k0_off1786 v7191) a + S7x1x512.size a ≤ S7x50x512.size a := fun v7191 k0_hw893 => k0_hw893

def k0_off1787 (i : grid0.Coords) : Fin 3 → Nat :=
  let c0_8194 : Index := 0#32
  let c6_8195 : Index := 6#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7197 : Index := Scalar.indexCast v7099
  ![0, 6, v7197.toNat]
def k0_off1788 (v7198 : BitVec 32) : Fin 3 → Nat :=
  let c0_8200 : Index := 0#32
  let v7201 : Index := Scalar.indexCast v7198
  let c0_8201 : Index := 0#32
  ![0, v7201.toNat, 0]

def k0_chk894 (v7198 : BitVec 32) : Prop :=
  (∀ a, (k0_off1788 v7198) a + S7x1x512.size a ≤ S7x50x512.size a)
theorem k0_off1788_inb : ∀ (v7198 : BitVec 32) (k0_hw894 : k0_chk894 v7198), ∀ a, (k0_off1788 v7198) a + S7x1x512.size a ≤ S7x50x512.size a := fun v7198 k0_hw894 => k0_hw894

def k0_off1789 (i : grid0.Coords) : Fin 3 → Nat :=
  let c1_8205 : Index := 1#32
  let c2_8206 : Index := 2#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7208 : Index := Scalar.indexCast v7099
  ![1, 2, v7208.toNat]
def k0_off1790 (v7209 : BitVec 32) : Fin 3 → Nat :=
  let c0_8211 : Index := 0#32
  let v7212 : Index := Scalar.indexCast v7209
  let c0_8212 : Index := 0#32
  ![0, v7212.toNat, 0]

def k0_chk895 (v7209 : BitVec 32) : Prop :=
  (∀ a, (k0_off1790 v7209) a + S7x1x512.size a ≤ S7x50x512.size a)
theorem k0_off1790_inb : ∀ (v7209 : BitVec 32) (k0_hw895 : k0_chk895 v7209), ∀ a, (k0_off1790 v7209) a + S7x1x512.size a ≤ S7x50x512.size a := fun v7209 k0_hw895 => k0_hw895

def k0_off1791 (i : grid0.Coords) : Fin 3 → Nat :=
  let c1_8213 : Index := 1#32
  let c3_8214 : Index := 3#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7214 : Index := Scalar.indexCast v7099
  ![1, 3, v7214.toNat]
def k0_off1792 (v7215 : BitVec 32) : Fin 3 → Nat :=
  let c0_8219 : Index := 0#32
  let v7218 : Index := Scalar.indexCast v7215
  let c0_8220 : Index := 0#32
  ![0, v7218.toNat, 0]

def k0_chk896 (v7215 : BitVec 32) : Prop :=
  (∀ a, (k0_off1792 v7215) a + S7x1x512.size a ≤ S7x50x512.size a)
theorem k0_off1792_inb : ∀ (v7215 : BitVec 32) (k0_hw896 : k0_chk896 v7215), ∀ a, (k0_off1792 v7215) a + S7x1x512.size a ≤ S7x50x512.size a := fun v7215 k0_hw896 => k0_hw896

def k0_off1793 (i : grid0.Coords) : Fin 3 → Nat :=
  let c1_8221 : Index := 1#32
  let c4_8222 : Index := 4#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7221 : Index := Scalar.indexCast v7099
  ![1, 4, v7221.toNat]
def k0_off1794 (v7222 : BitVec 32) : Fin 3 → Nat :=
  let c0_8227 : Index := 0#32
  let v7225 : Index := Scalar.indexCast v7222
  let c0_8228 : Index := 0#32
  ![0, v7225.toNat, 0]

def k0_chk897 (v7222 : BitVec 32) : Prop :=
  (∀ a, (k0_off1794 v7222) a + S7x1x512.size a ≤ S7x50x512.size a)
theorem k0_off1794_inb : ∀ (v7222 : BitVec 32) (k0_hw897 : k0_chk897 v7222), ∀ a, (k0_off1794 v7222) a + S7x1x512.size a ≤ S7x50x512.size a := fun v7222 k0_hw897 => k0_hw897

def k0_off1795 (i : grid0.Coords) : Fin 3 → Nat :=
  let c1_8229 : Index := 1#32
  let c5_8230 : Index := 5#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7228 : Index := Scalar.indexCast v7099
  ![1, 5, v7228.toNat]
def k0_off1796 (v7229 : BitVec 32) : Fin 3 → Nat :=
  let c0_8235 : Index := 0#32
  let v7232 : Index := Scalar.indexCast v7229
  let c0_8236 : Index := 0#32
  ![0, v7232.toNat, 0]

def k0_chk898 (v7229 : BitVec 32) : Prop :=
  (∀ a, (k0_off1796 v7229) a + S7x1x512.size a ≤ S7x50x512.size a)
theorem k0_off1796_inb : ∀ (v7229 : BitVec 32) (k0_hw898 : k0_chk898 v7229), ∀ a, (k0_off1796 v7229) a + S7x1x512.size a ≤ S7x50x512.size a := fun v7229 k0_hw898 => k0_hw898

def k0_off1797 (i : grid0.Coords) : Fin 3 → Nat :=
  let c1_8237 : Index := 1#32
  let c6_8238 : Index := 6#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7235 : Index := Scalar.indexCast v7099
  ![1, 6, v7235.toNat]
def k0_off1798 (v7236 : BitVec 32) : Fin 3 → Nat :=
  let c0_8243 : Index := 0#32
  let v7239 : Index := Scalar.indexCast v7236
  let c0_8244 : Index := 0#32
  ![0, v7239.toNat, 0]

def k0_chk899 (v7236 : BitVec 32) : Prop :=
  (∀ a, (k0_off1798 v7236) a + S7x1x512.size a ≤ S7x50x512.size a)
theorem k0_off1798_inb : ∀ (v7236 : BitVec 32) (k0_hw899 : k0_chk899 v7236), ∀ a, (k0_off1798 v7236) a + S7x1x512.size a ≤ S7x50x512.size a := fun v7236 k0_hw899 => k0_hw899

def k0_off1799 (i : grid0.Coords) : Fin 3 → Nat :=
  let c2_8249 : Index := 2#32
  let c2_8250 : Index := 2#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7246 : Index := Scalar.indexCast v7099
  ![2, 2, v7246.toNat]
def k0_off1800 (v7247 : BitVec 32) : Fin 3 → Nat :=
  let c0_8255 : Index := 0#32
  let v7250 : Index := Scalar.indexCast v7247
  let c0_8256 : Index := 0#32
  ![0, v7250.toNat, 0]

def k0_chk900 (v7247 : BitVec 32) : Prop :=
  (∀ a, (k0_off1800 v7247) a + S7x1x512.size a ≤ S7x50x512.size a)
theorem k0_off1800_inb : ∀ (v7247 : BitVec 32) (k0_hw900 : k0_chk900 v7247), ∀ a, (k0_off1800 v7247) a + S7x1x512.size a ≤ S7x50x512.size a := fun v7247 k0_hw900 => k0_hw900

def k0_off1801 (i : grid0.Coords) : Fin 3 → Nat :=
  let c2_8257 : Index := 2#32
  let c3_8258 : Index := 3#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7252 : Index := Scalar.indexCast v7099
  ![2, 3, v7252.toNat]
def k0_off1802 (v7253 : BitVec 32) : Fin 3 → Nat :=
  let c0_8263 : Index := 0#32
  let v7256 : Index := Scalar.indexCast v7253
  let c0_8264 : Index := 0#32
  ![0, v7256.toNat, 0]

def k0_chk901 (v7253 : BitVec 32) : Prop :=
  (∀ a, (k0_off1802 v7253) a + S7x1x512.size a ≤ S7x50x512.size a)
theorem k0_off1802_inb : ∀ (v7253 : BitVec 32) (k0_hw901 : k0_chk901 v7253), ∀ a, (k0_off1802 v7253) a + S7x1x512.size a ≤ S7x50x512.size a := fun v7253 k0_hw901 => k0_hw901

def k0_off1803 (i : grid0.Coords) : Fin 3 → Nat :=
  let c2_8265 : Index := 2#32
  let c4_8266 : Index := 4#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7259 : Index := Scalar.indexCast v7099
  ![2, 4, v7259.toNat]
def k0_off1804 (v7260 : BitVec 32) : Fin 3 → Nat :=
  let c0_8271 : Index := 0#32
  let v7263 : Index := Scalar.indexCast v7260
  let c0_8272 : Index := 0#32
  ![0, v7263.toNat, 0]

def k0_chk902 (v7260 : BitVec 32) : Prop :=
  (∀ a, (k0_off1804 v7260) a + S7x1x512.size a ≤ S7x50x512.size a)
theorem k0_off1804_inb : ∀ (v7260 : BitVec 32) (k0_hw902 : k0_chk902 v7260), ∀ a, (k0_off1804 v7260) a + S7x1x512.size a ≤ S7x50x512.size a := fun v7260 k0_hw902 => k0_hw902

def k0_off1805 (i : grid0.Coords) : Fin 3 → Nat :=
  let c2_8273 : Index := 2#32
  let c5_8274 : Index := 5#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7266 : Index := Scalar.indexCast v7099
  ![2, 5, v7266.toNat]
def k0_off1806 (v7267 : BitVec 32) : Fin 3 → Nat :=
  let c0_8279 : Index := 0#32
  let v7270 : Index := Scalar.indexCast v7267
  let c0_8280 : Index := 0#32
  ![0, v7270.toNat, 0]

def k0_chk903 (v7267 : BitVec 32) : Prop :=
  (∀ a, (k0_off1806 v7267) a + S7x1x512.size a ≤ S7x50x512.size a)
theorem k0_off1806_inb : ∀ (v7267 : BitVec 32) (k0_hw903 : k0_chk903 v7267), ∀ a, (k0_off1806 v7267) a + S7x1x512.size a ≤ S7x50x512.size a := fun v7267 k0_hw903 => k0_hw903

def k0_off1807 (i : grid0.Coords) : Fin 3 → Nat :=
  let c2_8281 : Index := 2#32
  let c6_8282 : Index := 6#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7273 : Index := Scalar.indexCast v7099
  ![2, 6, v7273.toNat]
def k0_off1808 (v7274 : BitVec 32) : Fin 3 → Nat :=
  let c0_8287 : Index := 0#32
  let v7277 : Index := Scalar.indexCast v7274
  let c0_8288 : Index := 0#32
  ![0, v7277.toNat, 0]

def k0_chk904 (v7274 : BitVec 32) : Prop :=
  (∀ a, (k0_off1808 v7274) a + S7x1x512.size a ≤ S7x50x512.size a)
theorem k0_off1808_inb : ∀ (v7274 : BitVec 32) (k0_hw904 : k0_chk904 v7274), ∀ a, (k0_off1808 v7274) a + S7x1x512.size a ≤ S7x50x512.size a := fun v7274 k0_hw904 => k0_hw904

def k0_off1809 (i : grid0.Coords) : Fin 3 → Nat :=
  let c3_8293 : Index := 3#32
  let c2_8294 : Index := 2#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7284 : Index := Scalar.indexCast v7099
  ![3, 2, v7284.toNat]
def k0_off1810 (v7285 : BitVec 32) : Fin 3 → Nat :=
  let c0_8299 : Index := 0#32
  let v7288 : Index := Scalar.indexCast v7285
  let c0_8300 : Index := 0#32
  ![0, v7288.toNat, 0]

def k0_chk905 (v7285 : BitVec 32) : Prop :=
  (∀ a, (k0_off1810 v7285) a + S7x1x512.size a ≤ S7x50x512.size a)
theorem k0_off1810_inb : ∀ (v7285 : BitVec 32) (k0_hw905 : k0_chk905 v7285), ∀ a, (k0_off1810 v7285) a + S7x1x512.size a ≤ S7x50x512.size a := fun v7285 k0_hw905 => k0_hw905

def k0_off1811 (i : grid0.Coords) : Fin 3 → Nat :=
  let c3_8301 : Index := 3#32
  let c3_8302 : Index := 3#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7290 : Index := Scalar.indexCast v7099
  ![3, 3, v7290.toNat]
def k0_off1812 (v7291 : BitVec 32) : Fin 3 → Nat :=
  let c0_8307 : Index := 0#32
  let v7294 : Index := Scalar.indexCast v7291
  let c0_8308 : Index := 0#32
  ![0, v7294.toNat, 0]

def k0_chk906 (v7291 : BitVec 32) : Prop :=
  (∀ a, (k0_off1812 v7291) a + S7x1x512.size a ≤ S7x50x512.size a)
theorem k0_off1812_inb : ∀ (v7291 : BitVec 32) (k0_hw906 : k0_chk906 v7291), ∀ a, (k0_off1812 v7291) a + S7x1x512.size a ≤ S7x50x512.size a := fun v7291 k0_hw906 => k0_hw906

def k0_off1813 (i : grid0.Coords) : Fin 3 → Nat :=
  let c3_8309 : Index := 3#32
  let c4_8310 : Index := 4#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7297 : Index := Scalar.indexCast v7099
  ![3, 4, v7297.toNat]
def k0_off1814 (v7298 : BitVec 32) : Fin 3 → Nat :=
  let c0_8315 : Index := 0#32
  let v7301 : Index := Scalar.indexCast v7298
  let c0_8316 : Index := 0#32
  ![0, v7301.toNat, 0]

def k0_chk907 (v7298 : BitVec 32) : Prop :=
  (∀ a, (k0_off1814 v7298) a + S7x1x512.size a ≤ S7x50x512.size a)
theorem k0_off1814_inb : ∀ (v7298 : BitVec 32) (k0_hw907 : k0_chk907 v7298), ∀ a, (k0_off1814 v7298) a + S7x1x512.size a ≤ S7x50x512.size a := fun v7298 k0_hw907 => k0_hw907

def k0_off1815 (i : grid0.Coords) : Fin 3 → Nat :=
  let c3_8317 : Index := 3#32
  let c5_8318 : Index := 5#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7304 : Index := Scalar.indexCast v7099
  ![3, 5, v7304.toNat]
def k0_off1816 (v7305 : BitVec 32) : Fin 3 → Nat :=
  let c0_8323 : Index := 0#32
  let v7308 : Index := Scalar.indexCast v7305
  let c0_8324 : Index := 0#32
  ![0, v7308.toNat, 0]

def k0_chk908 (v7305 : BitVec 32) : Prop :=
  (∀ a, (k0_off1816 v7305) a + S7x1x512.size a ≤ S7x50x512.size a)
theorem k0_off1816_inb : ∀ (v7305 : BitVec 32) (k0_hw908 : k0_chk908 v7305), ∀ a, (k0_off1816 v7305) a + S7x1x512.size a ≤ S7x50x512.size a := fun v7305 k0_hw908 => k0_hw908

def k0_off1817 (i : grid0.Coords) : Fin 3 → Nat :=
  let c3_8325 : Index := 3#32
  let c6_8326 : Index := 6#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7311 : Index := Scalar.indexCast v7099
  ![3, 6, v7311.toNat]
def k0_off1818 (v7312 : BitVec 32) : Fin 3 → Nat :=
  let c0_8331 : Index := 0#32
  let v7315 : Index := Scalar.indexCast v7312
  let c0_8332 : Index := 0#32
  ![0, v7315.toNat, 0]

def k0_chk909 (v7312 : BitVec 32) : Prop :=
  (∀ a, (k0_off1818 v7312) a + S7x1x512.size a ≤ S7x50x512.size a)
theorem k0_off1818_inb : ∀ (v7312 : BitVec 32) (k0_hw909 : k0_chk909 v7312), ∀ a, (k0_off1818 v7312) a + S7x1x512.size a ≤ S7x50x512.size a := fun v7312 k0_hw909 => k0_hw909

def k0_off1819 (i : grid0.Coords) : Fin 3 → Nat :=
  let c4_8337 : Index := 4#32
  let c2_8338 : Index := 2#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7322 : Index := Scalar.indexCast v7099
  ![4, 2, v7322.toNat]
def k0_off1820 (v7323 : BitVec 32) : Fin 3 → Nat :=
  let c0_8343 : Index := 0#32
  let v7326 : Index := Scalar.indexCast v7323
  let c0_8344 : Index := 0#32
  ![0, v7326.toNat, 0]

def k0_chk910 (v7323 : BitVec 32) : Prop :=
  (∀ a, (k0_off1820 v7323) a + S7x1x512.size a ≤ S7x50x512.size a)
theorem k0_off1820_inb : ∀ (v7323 : BitVec 32) (k0_hw910 : k0_chk910 v7323), ∀ a, (k0_off1820 v7323) a + S7x1x512.size a ≤ S7x50x512.size a := fun v7323 k0_hw910 => k0_hw910

def k0_off1821 (i : grid0.Coords) : Fin 3 → Nat :=
  let c4_8345 : Index := 4#32
  let c3_8346 : Index := 3#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7328 : Index := Scalar.indexCast v7099
  ![4, 3, v7328.toNat]
def k0_off1822 (v7329 : BitVec 32) : Fin 3 → Nat :=
  let c0_8351 : Index := 0#32
  let v7332 : Index := Scalar.indexCast v7329
  let c0_8352 : Index := 0#32
  ![0, v7332.toNat, 0]

def k0_chk911 (v7329 : BitVec 32) : Prop :=
  (∀ a, (k0_off1822 v7329) a + S7x1x512.size a ≤ S7x50x512.size a)
theorem k0_off1822_inb : ∀ (v7329 : BitVec 32) (k0_hw911 : k0_chk911 v7329), ∀ a, (k0_off1822 v7329) a + S7x1x512.size a ≤ S7x50x512.size a := fun v7329 k0_hw911 => k0_hw911

def k0_off1823 (i : grid0.Coords) : Fin 3 → Nat :=
  let c4_8353 : Index := 4#32
  let c4_8354 : Index := 4#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7335 : Index := Scalar.indexCast v7099
  ![4, 4, v7335.toNat]
def k0_off1824 (v7336 : BitVec 32) : Fin 3 → Nat :=
  let c0_8359 : Index := 0#32
  let v7339 : Index := Scalar.indexCast v7336
  let c0_8360 : Index := 0#32
  ![0, v7339.toNat, 0]

def k0_chk912 (v7336 : BitVec 32) : Prop :=
  (∀ a, (k0_off1824 v7336) a + S7x1x512.size a ≤ S7x50x512.size a)
theorem k0_off1824_inb : ∀ (v7336 : BitVec 32) (k0_hw912 : k0_chk912 v7336), ∀ a, (k0_off1824 v7336) a + S7x1x512.size a ≤ S7x50x512.size a := fun v7336 k0_hw912 => k0_hw912

def k0_off1825 (i : grid0.Coords) : Fin 3 → Nat :=
  let c4_8361 : Index := 4#32
  let c5_8362 : Index := 5#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7342 : Index := Scalar.indexCast v7099
  ![4, 5, v7342.toNat]
def k0_off1826 (v7343 : BitVec 32) : Fin 3 → Nat :=
  let c0_8367 : Index := 0#32
  let v7346 : Index := Scalar.indexCast v7343
  let c0_8368 : Index := 0#32
  ![0, v7346.toNat, 0]

def k0_chk913 (v7343 : BitVec 32) : Prop :=
  (∀ a, (k0_off1826 v7343) a + S7x1x512.size a ≤ S7x50x512.size a)
theorem k0_off1826_inb : ∀ (v7343 : BitVec 32) (k0_hw913 : k0_chk913 v7343), ∀ a, (k0_off1826 v7343) a + S7x1x512.size a ≤ S7x50x512.size a := fun v7343 k0_hw913 => k0_hw913

def k0_off1827 (i : grid0.Coords) : Fin 3 → Nat :=
  let c4_8369 : Index := 4#32
  let c6_8370 : Index := 6#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7349 : Index := Scalar.indexCast v7099
  ![4, 6, v7349.toNat]
def k0_off1828 (v7350 : BitVec 32) : Fin 3 → Nat :=
  let c0_8375 : Index := 0#32
  let v7353 : Index := Scalar.indexCast v7350
  let c0_8376 : Index := 0#32
  ![0, v7353.toNat, 0]

def k0_chk914 (v7350 : BitVec 32) : Prop :=
  (∀ a, (k0_off1828 v7350) a + S7x1x512.size a ≤ S7x50x512.size a)
theorem k0_off1828_inb : ∀ (v7350 : BitVec 32) (k0_hw914 : k0_chk914 v7350), ∀ a, (k0_off1828 v7350) a + S7x1x512.size a ≤ S7x50x512.size a := fun v7350 k0_hw914 => k0_hw914

def k0_off1829 (i : grid0.Coords) : Fin 3 → Nat :=
  let c5_8381 : Index := 5#32
  let c2_8382 : Index := 2#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7360 : Index := Scalar.indexCast v7099
  ![5, 2, v7360.toNat]
def k0_off1830 (v7361 : BitVec 32) : Fin 3 → Nat :=
  let c0_8387 : Index := 0#32
  let v7364 : Index := Scalar.indexCast v7361
  let c0_8388 : Index := 0#32
  ![0, v7364.toNat, 0]

def k0_chk915 (v7361 : BitVec 32) : Prop :=
  (∀ a, (k0_off1830 v7361) a + S7x1x512.size a ≤ S7x50x512.size a)
theorem k0_off1830_inb : ∀ (v7361 : BitVec 32) (k0_hw915 : k0_chk915 v7361), ∀ a, (k0_off1830 v7361) a + S7x1x512.size a ≤ S7x50x512.size a := fun v7361 k0_hw915 => k0_hw915

def k0_off1831 (i : grid0.Coords) : Fin 3 → Nat :=
  let c5_8389 : Index := 5#32
  let c3_8390 : Index := 3#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7366 : Index := Scalar.indexCast v7099
  ![5, 3, v7366.toNat]
def k0_off1832 (v7367 : BitVec 32) : Fin 3 → Nat :=
  let c0_8395 : Index := 0#32
  let v7370 : Index := Scalar.indexCast v7367
  let c0_8396 : Index := 0#32
  ![0, v7370.toNat, 0]

def k0_chk916 (v7367 : BitVec 32) : Prop :=
  (∀ a, (k0_off1832 v7367) a + S7x1x512.size a ≤ S7x50x512.size a)
theorem k0_off1832_inb : ∀ (v7367 : BitVec 32) (k0_hw916 : k0_chk916 v7367), ∀ a, (k0_off1832 v7367) a + S7x1x512.size a ≤ S7x50x512.size a := fun v7367 k0_hw916 => k0_hw916

def k0_off1833 (i : grid0.Coords) : Fin 3 → Nat :=
  let c5_8397 : Index := 5#32
  let c4_8398 : Index := 4#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7373 : Index := Scalar.indexCast v7099
  ![5, 4, v7373.toNat]
def k0_off1834 (v7374 : BitVec 32) : Fin 3 → Nat :=
  let c0_8403 : Index := 0#32
  let v7377 : Index := Scalar.indexCast v7374
  let c0_8404 : Index := 0#32
  ![0, v7377.toNat, 0]

def k0_chk917 (v7374 : BitVec 32) : Prop :=
  (∀ a, (k0_off1834 v7374) a + S7x1x512.size a ≤ S7x50x512.size a)
theorem k0_off1834_inb : ∀ (v7374 : BitVec 32) (k0_hw917 : k0_chk917 v7374), ∀ a, (k0_off1834 v7374) a + S7x1x512.size a ≤ S7x50x512.size a := fun v7374 k0_hw917 => k0_hw917

def k0_off1835 (i : grid0.Coords) : Fin 3 → Nat :=
  let c5_8405 : Index := 5#32
  let c5_8406 : Index := 5#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7380 : Index := Scalar.indexCast v7099
  ![5, 5, v7380.toNat]
def k0_off1836 (v7381 : BitVec 32) : Fin 3 → Nat :=
  let c0_8411 : Index := 0#32
  let v7384 : Index := Scalar.indexCast v7381
  let c0_8412 : Index := 0#32
  ![0, v7384.toNat, 0]

def k0_chk918 (v7381 : BitVec 32) : Prop :=
  (∀ a, (k0_off1836 v7381) a + S7x1x512.size a ≤ S7x50x512.size a)
theorem k0_off1836_inb : ∀ (v7381 : BitVec 32) (k0_hw918 : k0_chk918 v7381), ∀ a, (k0_off1836 v7381) a + S7x1x512.size a ≤ S7x50x512.size a := fun v7381 k0_hw918 => k0_hw918

def k0_off1837 (i : grid0.Coords) : Fin 3 → Nat :=
  let c5_8413 : Index := 5#32
  let c6_8414 : Index := 6#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7387 : Index := Scalar.indexCast v7099
  ![5, 6, v7387.toNat]
def k0_off1838 (v7388 : BitVec 32) : Fin 3 → Nat :=
  let c0_8419 : Index := 0#32
  let v7391 : Index := Scalar.indexCast v7388
  let c0_8420 : Index := 0#32
  ![0, v7391.toNat, 0]

def k0_chk919 (v7388 : BitVec 32) : Prop :=
  (∀ a, (k0_off1838 v7388) a + S7x1x512.size a ≤ S7x50x512.size a)
theorem k0_off1838_inb : ∀ (v7388 : BitVec 32) (k0_hw919 : k0_chk919 v7388), ∀ a, (k0_off1838 v7388) a + S7x1x512.size a ≤ S7x50x512.size a := fun v7388 k0_hw919 => k0_hw919

def k0_off1839 (i : grid0.Coords) : Fin 3 → Nat :=
  let c6_8425 : Index := 6#32
  let c2_8426 : Index := 2#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7398 : Index := Scalar.indexCast v7099
  ![6, 2, v7398.toNat]
def k0_off1840 (v7399 : BitVec 32) : Fin 3 → Nat :=
  let c0_8431 : Index := 0#32
  let v7402 : Index := Scalar.indexCast v7399
  let c0_8432 : Index := 0#32
  ![0, v7402.toNat, 0]

def k0_chk920 (v7399 : BitVec 32) : Prop :=
  (∀ a, (k0_off1840 v7399) a + S7x1x512.size a ≤ S7x50x512.size a)
theorem k0_off1840_inb : ∀ (v7399 : BitVec 32) (k0_hw920 : k0_chk920 v7399), ∀ a, (k0_off1840 v7399) a + S7x1x512.size a ≤ S7x50x512.size a := fun v7399 k0_hw920 => k0_hw920

def k0_off1841 (i : grid0.Coords) : Fin 3 → Nat :=
  let c6_8433 : Index := 6#32
  let c3_8434 : Index := 3#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7404 : Index := Scalar.indexCast v7099
  ![6, 3, v7404.toNat]
def k0_off1842 (v7405 : BitVec 32) : Fin 3 → Nat :=
  let c0_8439 : Index := 0#32
  let v7408 : Index := Scalar.indexCast v7405
  let c0_8440 : Index := 0#32
  ![0, v7408.toNat, 0]

def k0_chk921 (v7405 : BitVec 32) : Prop :=
  (∀ a, (k0_off1842 v7405) a + S7x1x512.size a ≤ S7x50x512.size a)
theorem k0_off1842_inb : ∀ (v7405 : BitVec 32) (k0_hw921 : k0_chk921 v7405), ∀ a, (k0_off1842 v7405) a + S7x1x512.size a ≤ S7x50x512.size a := fun v7405 k0_hw921 => k0_hw921

def k0_off1843 (i : grid0.Coords) : Fin 3 → Nat :=
  let c6_8441 : Index := 6#32
  let c4_8442 : Index := 4#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7411 : Index := Scalar.indexCast v7099
  ![6, 4, v7411.toNat]
def k0_off1844 (v7412 : BitVec 32) : Fin 3 → Nat :=
  let c0_8447 : Index := 0#32
  let v7415 : Index := Scalar.indexCast v7412
  let c0_8448 : Index := 0#32
  ![0, v7415.toNat, 0]

def k0_chk922 (v7412 : BitVec 32) : Prop :=
  (∀ a, (k0_off1844 v7412) a + S7x1x512.size a ≤ S7x50x512.size a)
theorem k0_off1844_inb : ∀ (v7412 : BitVec 32) (k0_hw922 : k0_chk922 v7412), ∀ a, (k0_off1844 v7412) a + S7x1x512.size a ≤ S7x50x512.size a := fun v7412 k0_hw922 => k0_hw922

def k0_off1845 (i : grid0.Coords) : Fin 3 → Nat :=
  let c6_8449 : Index := 6#32
  let c5_8450 : Index := 5#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7418 : Index := Scalar.indexCast v7099
  ![6, 5, v7418.toNat]
def k0_off1846 (v7419 : BitVec 32) : Fin 3 → Nat :=
  let c0_8455 : Index := 0#32
  let v7422 : Index := Scalar.indexCast v7419
  let c0_8456 : Index := 0#32
  ![0, v7422.toNat, 0]

def k0_chk923 (v7419 : BitVec 32) : Prop :=
  (∀ a, (k0_off1846 v7419) a + S7x1x512.size a ≤ S7x50x512.size a)
theorem k0_off1846_inb : ∀ (v7419 : BitVec 32) (k0_hw923 : k0_chk923 v7419), ∀ a, (k0_off1846 v7419) a + S7x1x512.size a ≤ S7x50x512.size a := fun v7419 k0_hw923 => k0_hw923

def k0_off1847 (i : grid0.Coords) : Fin 3 → Nat :=
  let c6_8457 : Index := 6#32
  let c6_8458 : Index := 6#32
  let arg0 : BitVec 32 := BitVec.ofNat 32 (i 0).val
  let c32_i32_8084 : BitVec 32 := 32#32
  let v7098 : BitVec 32 := Scalar.muli arg0 c32_i32_8084
  let c21_i32 : BitVec 32 := 21#32
  let v7099 : BitVec 32 := Scalar.addi v7098 c21_i32
  let v7425 : Index := Scalar.indexCast v7099
  ![6, 6, v7425.toNat]
def k0_off1848 (v7426 : BitVec 32) : Fin 3 → Nat :=
  let c0_8463 : Index := 0#32
  let v7429 : Index := Scalar.indexCast v7426
  let c0_8464 : Index := 0#32
  ![0, v7429.toNat, 0]

def k0_chk924 (v7426 : BitVec 32) : Prop :=
  (∀ a, (k0_off1848 v7426) a + S7x1x512.size a ≤ S7x50x512.size a)
theorem k0_off1848_inb : ∀ (v7426 : BitVec 32) (k0_hw924 : k0_chk924 v7426), ∀ a, (k0_off1848 v7426) a + S7x1x512.size a ≤ S7x50x512.size a := fun v7426 k0_hw924 => k0_hw924

def k0_off1849 (i : grid0.Coords) : Fin 3 → Nat :=
  let c0_8470 : Index := 0#32
  let c0_8471 : Index := 0#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7438 : Index := Scalar.indexCast v7437
  ![0, 0, v7438.toNat]
def k0_off1850 (v7439 : BitVec 32) : Fin 3 → Nat :=
  let v7440 : Index := Scalar.indexCast v7439
  let c0_8472 : Index := 0#32
  let c0_8473 : Index := 0#32
  ![v7440.toNat, 0, 0]

def k0_chk925 (v7439 : BitVec 32) : Prop :=
  (∀ a, (k0_off1850 v7439) a + S1x50x512.size a ≤ S250x50x512.size a)
theorem k0_off1850_inb : ∀ (v7439 : BitVec 32) (k0_hw925 : k0_chk925 v7439), ∀ a, (k0_off1850 v7439) a + S1x50x512.size a ≤ S250x50x512.size a := fun v7439 k0_hw925 => k0_hw925

def k0_off1851 (i : grid0.Coords) : Fin 3 → Nat :=
  let c1_8481 : Index := 1#32
  let c0_8482 : Index := 0#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7448 : Index := Scalar.indexCast v7437
  ![1, 0, v7448.toNat]
def k0_off1852 (v7449 : BitVec 32) : Fin 3 → Nat :=
  let v7450 : Index := Scalar.indexCast v7449
  let c0_8483 : Index := 0#32
  let c0_8484 : Index := 0#32
  ![v7450.toNat, 0, 0]

def k0_chk926 (v7449 : BitVec 32) : Prop :=
  (∀ a, (k0_off1852 v7449) a + S1x50x512.size a ≤ S250x50x512.size a)
theorem k0_off1852_inb : ∀ (v7449 : BitVec 32) (k0_hw926 : k0_chk926 v7449), ∀ a, (k0_off1852 v7449) a + S1x50x512.size a ≤ S250x50x512.size a := fun v7449 k0_hw926 => k0_hw926

def k0_off1853 (i : grid0.Coords) : Fin 3 → Nat :=
  let c2_8492 : Index := 2#32
  let c0_8493 : Index := 0#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7458 : Index := Scalar.indexCast v7437
  ![2, 0, v7458.toNat]
def k0_off1854 (v7459 : BitVec 32) : Fin 3 → Nat :=
  let v7460 : Index := Scalar.indexCast v7459
  let c0_8494 : Index := 0#32
  let c0_8495 : Index := 0#32
  ![v7460.toNat, 0, 0]

def k0_chk927 (v7459 : BitVec 32) : Prop :=
  (∀ a, (k0_off1854 v7459) a + S1x50x512.size a ≤ S250x50x512.size a)
theorem k0_off1854_inb : ∀ (v7459 : BitVec 32) (k0_hw927 : k0_chk927 v7459), ∀ a, (k0_off1854 v7459) a + S1x50x512.size a ≤ S250x50x512.size a := fun v7459 k0_hw927 => k0_hw927

def k0_off1855 (i : grid0.Coords) : Fin 3 → Nat :=
  let c3_8503 : Index := 3#32
  let c0_8504 : Index := 0#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7468 : Index := Scalar.indexCast v7437
  ![3, 0, v7468.toNat]
def k0_off1856 (v7469 : BitVec 32) : Fin 3 → Nat :=
  let v7470 : Index := Scalar.indexCast v7469
  let c0_8505 : Index := 0#32
  let c0_8506 : Index := 0#32
  ![v7470.toNat, 0, 0]

def k0_chk928 (v7469 : BitVec 32) : Prop :=
  (∀ a, (k0_off1856 v7469) a + S1x50x512.size a ≤ S250x50x512.size a)
theorem k0_off1856_inb : ∀ (v7469 : BitVec 32) (k0_hw928 : k0_chk928 v7469), ∀ a, (k0_off1856 v7469) a + S1x50x512.size a ≤ S250x50x512.size a := fun v7469 k0_hw928 => k0_hw928

def k0_off1857 (i : grid0.Coords) : Fin 3 → Nat :=
  let c4_8514 : Index := 4#32
  let c0_8515 : Index := 0#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7478 : Index := Scalar.indexCast v7437
  ![4, 0, v7478.toNat]
def k0_off1858 (v7479 : BitVec 32) : Fin 3 → Nat :=
  let v7480 : Index := Scalar.indexCast v7479
  let c0_8516 : Index := 0#32
  let c0_8517 : Index := 0#32
  ![v7480.toNat, 0, 0]

def k0_chk929 (v7479 : BitVec 32) : Prop :=
  (∀ a, (k0_off1858 v7479) a + S1x50x512.size a ≤ S250x50x512.size a)
theorem k0_off1858_inb : ∀ (v7479 : BitVec 32) (k0_hw929 : k0_chk929 v7479), ∀ a, (k0_off1858 v7479) a + S1x50x512.size a ≤ S250x50x512.size a := fun v7479 k0_hw929 => k0_hw929

def k0_off1859 (i : grid0.Coords) : Fin 3 → Nat :=
  let c5_8525 : Index := 5#32
  let c0_8526 : Index := 0#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7488 : Index := Scalar.indexCast v7437
  ![5, 0, v7488.toNat]
def k0_off1860 (v7489 : BitVec 32) : Fin 3 → Nat :=
  let v7490 : Index := Scalar.indexCast v7489
  let c0_8527 : Index := 0#32
  let c0_8528 : Index := 0#32
  ![v7490.toNat, 0, 0]

def k0_chk930 (v7489 : BitVec 32) : Prop :=
  (∀ a, (k0_off1860 v7489) a + S1x50x512.size a ≤ S250x50x512.size a)
theorem k0_off1860_inb : ∀ (v7489 : BitVec 32) (k0_hw930 : k0_chk930 v7489), ∀ a, (k0_off1860 v7489) a + S1x50x512.size a ≤ S250x50x512.size a := fun v7489 k0_hw930 => k0_hw930

def k0_off1861 (i : grid0.Coords) : Fin 3 → Nat :=
  let c6_8536 : Index := 6#32
  let c0_8537 : Index := 0#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7498 : Index := Scalar.indexCast v7437
  ![6, 0, v7498.toNat]
def k0_off1862 (v7499 : BitVec 32) : Fin 3 → Nat :=
  let v7500 : Index := Scalar.indexCast v7499
  let c0_8538 : Index := 0#32
  let c0_8539 : Index := 0#32
  ![v7500.toNat, 0, 0]

def k0_chk931 (v7499 : BitVec 32) : Prop :=
  (∀ a, (k0_off1862 v7499) a + S1x50x512.size a ≤ S250x50x512.size a)
theorem k0_off1862_inb : ∀ (v7499 : BitVec 32) (k0_hw931 : k0_chk931 v7499), ∀ a, (k0_off1862 v7499) a + S1x50x512.size a ≤ S250x50x512.size a := fun v7499 k0_hw931 => k0_hw931

def k0_off1863 (i : grid0.Coords) : Fin 3 → Nat :=
  let c0_8547 : Index := 0#32
  let c2_8548 : Index := 2#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7508 : Index := Scalar.indexCast v7437
  ![0, 2, v7508.toNat]
def k0_off1864 (v7509 : BitVec 32) : Fin 3 → Nat :=
  let c0_8553 : Index := 0#32
  let v7512 : Index := Scalar.indexCast v7509
  let c0_8554 : Index := 0#32
  ![0, v7512.toNat, 0]

def k0_chk932 (v7509 : BitVec 32) : Prop :=
  (∀ a, (k0_off1864 v7509) a + S7x1x512.size a ≤ S7x50x512.size a)
theorem k0_off1864_inb : ∀ (v7509 : BitVec 32) (k0_hw932 : k0_chk932 v7509), ∀ a, (k0_off1864 v7509) a + S7x1x512.size a ≤ S7x50x512.size a := fun v7509 k0_hw932 => k0_hw932

def k0_off1865 (i : grid0.Coords) : Fin 3 → Nat :=
  let c0_8555 : Index := 0#32
  let c3_8556 : Index := 3#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7514 : Index := Scalar.indexCast v7437
  ![0, 3, v7514.toNat]
def k0_off1866 (v7515 : BitVec 32) : Fin 3 → Nat :=
  let c0_8561 : Index := 0#32
  let v7518 : Index := Scalar.indexCast v7515
  let c0_8562 : Index := 0#32
  ![0, v7518.toNat, 0]

def k0_chk933 (v7515 : BitVec 32) : Prop :=
  (∀ a, (k0_off1866 v7515) a + S7x1x512.size a ≤ S7x50x512.size a)
theorem k0_off1866_inb : ∀ (v7515 : BitVec 32) (k0_hw933 : k0_chk933 v7515), ∀ a, (k0_off1866 v7515) a + S7x1x512.size a ≤ S7x50x512.size a := fun v7515 k0_hw933 => k0_hw933

def k0_off1867 (i : grid0.Coords) : Fin 3 → Nat :=
  let c0_8563 : Index := 0#32
  let c4_8564 : Index := 4#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7521 : Index := Scalar.indexCast v7437
  ![0, 4, v7521.toNat]
def k0_off1868 (v7522 : BitVec 32) : Fin 3 → Nat :=
  let c0_8569 : Index := 0#32
  let v7525 : Index := Scalar.indexCast v7522
  let c0_8570 : Index := 0#32
  ![0, v7525.toNat, 0]

def k0_chk934 (v7522 : BitVec 32) : Prop :=
  (∀ a, (k0_off1868 v7522) a + S7x1x512.size a ≤ S7x50x512.size a)
theorem k0_off1868_inb : ∀ (v7522 : BitVec 32) (k0_hw934 : k0_chk934 v7522), ∀ a, (k0_off1868 v7522) a + S7x1x512.size a ≤ S7x50x512.size a := fun v7522 k0_hw934 => k0_hw934

def k0_off1869 (i : grid0.Coords) : Fin 3 → Nat :=
  let c0_8571 : Index := 0#32
  let c5_8572 : Index := 5#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7528 : Index := Scalar.indexCast v7437
  ![0, 5, v7528.toNat]
def k0_off1870 (v7529 : BitVec 32) : Fin 3 → Nat :=
  let c0_8577 : Index := 0#32
  let v7532 : Index := Scalar.indexCast v7529
  let c0_8578 : Index := 0#32
  ![0, v7532.toNat, 0]

def k0_chk935 (v7529 : BitVec 32) : Prop :=
  (∀ a, (k0_off1870 v7529) a + S7x1x512.size a ≤ S7x50x512.size a)
theorem k0_off1870_inb : ∀ (v7529 : BitVec 32) (k0_hw935 : k0_chk935 v7529), ∀ a, (k0_off1870 v7529) a + S7x1x512.size a ≤ S7x50x512.size a := fun v7529 k0_hw935 => k0_hw935

def k0_off1871 (i : grid0.Coords) : Fin 3 → Nat :=
  let c0_8579 : Index := 0#32
  let c6_8580 : Index := 6#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7535 : Index := Scalar.indexCast v7437
  ![0, 6, v7535.toNat]
def k0_off1872 (v7536 : BitVec 32) : Fin 3 → Nat :=
  let c0_8585 : Index := 0#32
  let v7539 : Index := Scalar.indexCast v7536
  let c0_8586 : Index := 0#32
  ![0, v7539.toNat, 0]

def k0_chk936 (v7536 : BitVec 32) : Prop :=
  (∀ a, (k0_off1872 v7536) a + S7x1x512.size a ≤ S7x50x512.size a)
theorem k0_off1872_inb : ∀ (v7536 : BitVec 32) (k0_hw936 : k0_chk936 v7536), ∀ a, (k0_off1872 v7536) a + S7x1x512.size a ≤ S7x50x512.size a := fun v7536 k0_hw936 => k0_hw936

def k0_off1873 (i : grid0.Coords) : Fin 3 → Nat :=
  let c1_8590 : Index := 1#32
  let c2_8591 : Index := 2#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7546 : Index := Scalar.indexCast v7437
  ![1, 2, v7546.toNat]
def k0_off1874 (v7547 : BitVec 32) : Fin 3 → Nat :=
  let c0_8596 : Index := 0#32
  let v7550 : Index := Scalar.indexCast v7547
  let c0_8597 : Index := 0#32
  ![0, v7550.toNat, 0]

def k0_chk937 (v7547 : BitVec 32) : Prop :=
  (∀ a, (k0_off1874 v7547) a + S7x1x512.size a ≤ S7x50x512.size a)
theorem k0_off1874_inb : ∀ (v7547 : BitVec 32) (k0_hw937 : k0_chk937 v7547), ∀ a, (k0_off1874 v7547) a + S7x1x512.size a ≤ S7x50x512.size a := fun v7547 k0_hw937 => k0_hw937

def k0_off1875 (i : grid0.Coords) : Fin 3 → Nat :=
  let c1_8598 : Index := 1#32
  let c3_8599 : Index := 3#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7552 : Index := Scalar.indexCast v7437
  ![1, 3, v7552.toNat]
def k0_off1876 (v7553 : BitVec 32) : Fin 3 → Nat :=
  let c0_8604 : Index := 0#32
  let v7556 : Index := Scalar.indexCast v7553
  let c0_8605 : Index := 0#32
  ![0, v7556.toNat, 0]

def k0_chk938 (v7553 : BitVec 32) : Prop :=
  (∀ a, (k0_off1876 v7553) a + S7x1x512.size a ≤ S7x50x512.size a)
theorem k0_off1876_inb : ∀ (v7553 : BitVec 32) (k0_hw938 : k0_chk938 v7553), ∀ a, (k0_off1876 v7553) a + S7x1x512.size a ≤ S7x50x512.size a := fun v7553 k0_hw938 => k0_hw938

def k0_off1877 (i : grid0.Coords) : Fin 3 → Nat :=
  let c1_8606 : Index := 1#32
  let c4_8607 : Index := 4#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7559 : Index := Scalar.indexCast v7437
  ![1, 4, v7559.toNat]
def k0_off1878 (v7560 : BitVec 32) : Fin 3 → Nat :=
  let c0_8612 : Index := 0#32
  let v7563 : Index := Scalar.indexCast v7560
  let c0_8613 : Index := 0#32
  ![0, v7563.toNat, 0]

def k0_chk939 (v7560 : BitVec 32) : Prop :=
  (∀ a, (k0_off1878 v7560) a + S7x1x512.size a ≤ S7x50x512.size a)
theorem k0_off1878_inb : ∀ (v7560 : BitVec 32) (k0_hw939 : k0_chk939 v7560), ∀ a, (k0_off1878 v7560) a + S7x1x512.size a ≤ S7x50x512.size a := fun v7560 k0_hw939 => k0_hw939

def k0_off1879 (i : grid0.Coords) : Fin 3 → Nat :=
  let c1_8614 : Index := 1#32
  let c5_8615 : Index := 5#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7566 : Index := Scalar.indexCast v7437
  ![1, 5, v7566.toNat]
def k0_off1880 (v7567 : BitVec 32) : Fin 3 → Nat :=
  let c0_8620 : Index := 0#32
  let v7570 : Index := Scalar.indexCast v7567
  let c0_8621 : Index := 0#32
  ![0, v7570.toNat, 0]

def k0_chk940 (v7567 : BitVec 32) : Prop :=
  (∀ a, (k0_off1880 v7567) a + S7x1x512.size a ≤ S7x50x512.size a)
theorem k0_off1880_inb : ∀ (v7567 : BitVec 32) (k0_hw940 : k0_chk940 v7567), ∀ a, (k0_off1880 v7567) a + S7x1x512.size a ≤ S7x50x512.size a := fun v7567 k0_hw940 => k0_hw940

def k0_off1881 (i : grid0.Coords) : Fin 3 → Nat :=
  let c1_8622 : Index := 1#32
  let c6_8623 : Index := 6#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7573 : Index := Scalar.indexCast v7437
  ![1, 6, v7573.toNat]
def k0_off1882 (v7574 : BitVec 32) : Fin 3 → Nat :=
  let c0_8628 : Index := 0#32
  let v7577 : Index := Scalar.indexCast v7574
  let c0_8629 : Index := 0#32
  ![0, v7577.toNat, 0]

def k0_chk941 (v7574 : BitVec 32) : Prop :=
  (∀ a, (k0_off1882 v7574) a + S7x1x512.size a ≤ S7x50x512.size a)
theorem k0_off1882_inb : ∀ (v7574 : BitVec 32) (k0_hw941 : k0_chk941 v7574), ∀ a, (k0_off1882 v7574) a + S7x1x512.size a ≤ S7x50x512.size a := fun v7574 k0_hw941 => k0_hw941

def k0_off1883 (i : grid0.Coords) : Fin 3 → Nat :=
  let c2_8634 : Index := 2#32
  let c2_8635 : Index := 2#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7584 : Index := Scalar.indexCast v7437
  ![2, 2, v7584.toNat]
def k0_off1884 (v7585 : BitVec 32) : Fin 3 → Nat :=
  let c0_8640 : Index := 0#32
  let v7588 : Index := Scalar.indexCast v7585
  let c0_8641 : Index := 0#32
  ![0, v7588.toNat, 0]

def k0_chk942 (v7585 : BitVec 32) : Prop :=
  (∀ a, (k0_off1884 v7585) a + S7x1x512.size a ≤ S7x50x512.size a)
theorem k0_off1884_inb : ∀ (v7585 : BitVec 32) (k0_hw942 : k0_chk942 v7585), ∀ a, (k0_off1884 v7585) a + S7x1x512.size a ≤ S7x50x512.size a := fun v7585 k0_hw942 => k0_hw942

def k0_off1885 (i : grid0.Coords) : Fin 3 → Nat :=
  let c2_8642 : Index := 2#32
  let c3_8643 : Index := 3#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7590 : Index := Scalar.indexCast v7437
  ![2, 3, v7590.toNat]
def k0_off1886 (v7591 : BitVec 32) : Fin 3 → Nat :=
  let c0_8648 : Index := 0#32
  let v7594 : Index := Scalar.indexCast v7591
  let c0_8649 : Index := 0#32
  ![0, v7594.toNat, 0]

def k0_chk943 (v7591 : BitVec 32) : Prop :=
  (∀ a, (k0_off1886 v7591) a + S7x1x512.size a ≤ S7x50x512.size a)
theorem k0_off1886_inb : ∀ (v7591 : BitVec 32) (k0_hw943 : k0_chk943 v7591), ∀ a, (k0_off1886 v7591) a + S7x1x512.size a ≤ S7x50x512.size a := fun v7591 k0_hw943 => k0_hw943

def k0_off1887 (i : grid0.Coords) : Fin 3 → Nat :=
  let c2_8650 : Index := 2#32
  let c4_8651 : Index := 4#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7597 : Index := Scalar.indexCast v7437
  ![2, 4, v7597.toNat]
def k0_off1888 (v7598 : BitVec 32) : Fin 3 → Nat :=
  let c0_8656 : Index := 0#32
  let v7601 : Index := Scalar.indexCast v7598
  let c0_8657 : Index := 0#32
  ![0, v7601.toNat, 0]

def k0_chk944 (v7598 : BitVec 32) : Prop :=
  (∀ a, (k0_off1888 v7598) a + S7x1x512.size a ≤ S7x50x512.size a)
theorem k0_off1888_inb : ∀ (v7598 : BitVec 32) (k0_hw944 : k0_chk944 v7598), ∀ a, (k0_off1888 v7598) a + S7x1x512.size a ≤ S7x50x512.size a := fun v7598 k0_hw944 => k0_hw944

def k0_off1889 (i : grid0.Coords) : Fin 3 → Nat :=
  let c2_8658 : Index := 2#32
  let c5_8659 : Index := 5#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7604 : Index := Scalar.indexCast v7437
  ![2, 5, v7604.toNat]
def k0_off1890 (v7605 : BitVec 32) : Fin 3 → Nat :=
  let c0_8664 : Index := 0#32
  let v7608 : Index := Scalar.indexCast v7605
  let c0_8665 : Index := 0#32
  ![0, v7608.toNat, 0]

def k0_chk945 (v7605 : BitVec 32) : Prop :=
  (∀ a, (k0_off1890 v7605) a + S7x1x512.size a ≤ S7x50x512.size a)
theorem k0_off1890_inb : ∀ (v7605 : BitVec 32) (k0_hw945 : k0_chk945 v7605), ∀ a, (k0_off1890 v7605) a + S7x1x512.size a ≤ S7x50x512.size a := fun v7605 k0_hw945 => k0_hw945

def k0_off1891 (i : grid0.Coords) : Fin 3 → Nat :=
  let c2_8666 : Index := 2#32
  let c6_8667 : Index := 6#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7611 : Index := Scalar.indexCast v7437
  ![2, 6, v7611.toNat]
def k0_off1892 (v7612 : BitVec 32) : Fin 3 → Nat :=
  let c0_8672 : Index := 0#32
  let v7615 : Index := Scalar.indexCast v7612
  let c0_8673 : Index := 0#32
  ![0, v7615.toNat, 0]

def k0_chk946 (v7612 : BitVec 32) : Prop :=
  (∀ a, (k0_off1892 v7612) a + S7x1x512.size a ≤ S7x50x512.size a)
theorem k0_off1892_inb : ∀ (v7612 : BitVec 32) (k0_hw946 : k0_chk946 v7612), ∀ a, (k0_off1892 v7612) a + S7x1x512.size a ≤ S7x50x512.size a := fun v7612 k0_hw946 => k0_hw946

def k0_off1893 (i : grid0.Coords) : Fin 3 → Nat :=
  let c3_8678 : Index := 3#32
  let c2_8679 : Index := 2#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7622 : Index := Scalar.indexCast v7437
  ![3, 2, v7622.toNat]
def k0_off1894 (v7623 : BitVec 32) : Fin 3 → Nat :=
  let c0_8684 : Index := 0#32
  let v7626 : Index := Scalar.indexCast v7623
  let c0_8685 : Index := 0#32
  ![0, v7626.toNat, 0]

def k0_chk947 (v7623 : BitVec 32) : Prop :=
  (∀ a, (k0_off1894 v7623) a + S7x1x512.size a ≤ S7x50x512.size a)
theorem k0_off1894_inb : ∀ (v7623 : BitVec 32) (k0_hw947 : k0_chk947 v7623), ∀ a, (k0_off1894 v7623) a + S7x1x512.size a ≤ S7x50x512.size a := fun v7623 k0_hw947 => k0_hw947

def k0_off1895 (i : grid0.Coords) : Fin 3 → Nat :=
  let c3_8686 : Index := 3#32
  let c3_8687 : Index := 3#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7628 : Index := Scalar.indexCast v7437
  ![3, 3, v7628.toNat]
def k0_off1896 (v7629 : BitVec 32) : Fin 3 → Nat :=
  let c0_8692 : Index := 0#32
  let v7632 : Index := Scalar.indexCast v7629
  let c0_8693 : Index := 0#32
  ![0, v7632.toNat, 0]

def k0_chk948 (v7629 : BitVec 32) : Prop :=
  (∀ a, (k0_off1896 v7629) a + S7x1x512.size a ≤ S7x50x512.size a)
theorem k0_off1896_inb : ∀ (v7629 : BitVec 32) (k0_hw948 : k0_chk948 v7629), ∀ a, (k0_off1896 v7629) a + S7x1x512.size a ≤ S7x50x512.size a := fun v7629 k0_hw948 => k0_hw948

def k0_off1897 (i : grid0.Coords) : Fin 3 → Nat :=
  let c3_8694 : Index := 3#32
  let c4_8695 : Index := 4#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7635 : Index := Scalar.indexCast v7437
  ![3, 4, v7635.toNat]
def k0_off1898 (v7636 : BitVec 32) : Fin 3 → Nat :=
  let c0_8700 : Index := 0#32
  let v7639 : Index := Scalar.indexCast v7636
  let c0_8701 : Index := 0#32
  ![0, v7639.toNat, 0]

def k0_chk949 (v7636 : BitVec 32) : Prop :=
  (∀ a, (k0_off1898 v7636) a + S7x1x512.size a ≤ S7x50x512.size a)
theorem k0_off1898_inb : ∀ (v7636 : BitVec 32) (k0_hw949 : k0_chk949 v7636), ∀ a, (k0_off1898 v7636) a + S7x1x512.size a ≤ S7x50x512.size a := fun v7636 k0_hw949 => k0_hw949

def k0_off1899 (i : grid0.Coords) : Fin 3 → Nat :=
  let c3_8702 : Index := 3#32
  let c5_8703 : Index := 5#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7642 : Index := Scalar.indexCast v7437
  ![3, 5, v7642.toNat]
def k0_off1900 (v7643 : BitVec 32) : Fin 3 → Nat :=
  let c0_8708 : Index := 0#32
  let v7646 : Index := Scalar.indexCast v7643
  let c0_8709 : Index := 0#32
  ![0, v7646.toNat, 0]

def k0_chk950 (v7643 : BitVec 32) : Prop :=
  (∀ a, (k0_off1900 v7643) a + S7x1x512.size a ≤ S7x50x512.size a)
theorem k0_off1900_inb : ∀ (v7643 : BitVec 32) (k0_hw950 : k0_chk950 v7643), ∀ a, (k0_off1900 v7643) a + S7x1x512.size a ≤ S7x50x512.size a := fun v7643 k0_hw950 => k0_hw950

def k0_off1901 (i : grid0.Coords) : Fin 3 → Nat :=
  let c3_8710 : Index := 3#32
  let c6_8711 : Index := 6#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7649 : Index := Scalar.indexCast v7437
  ![3, 6, v7649.toNat]
def k0_off1902 (v7650 : BitVec 32) : Fin 3 → Nat :=
  let c0_8716 : Index := 0#32
  let v7653 : Index := Scalar.indexCast v7650
  let c0_8717 : Index := 0#32
  ![0, v7653.toNat, 0]

def k0_chk951 (v7650 : BitVec 32) : Prop :=
  (∀ a, (k0_off1902 v7650) a + S7x1x512.size a ≤ S7x50x512.size a)
theorem k0_off1902_inb : ∀ (v7650 : BitVec 32) (k0_hw951 : k0_chk951 v7650), ∀ a, (k0_off1902 v7650) a + S7x1x512.size a ≤ S7x50x512.size a := fun v7650 k0_hw951 => k0_hw951

def k0_off1903 (i : grid0.Coords) : Fin 3 → Nat :=
  let c4_8722 : Index := 4#32
  let c2_8723 : Index := 2#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7660 : Index := Scalar.indexCast v7437
  ![4, 2, v7660.toNat]
def k0_off1904 (v7661 : BitVec 32) : Fin 3 → Nat :=
  let c0_8728 : Index := 0#32
  let v7664 : Index := Scalar.indexCast v7661
  let c0_8729 : Index := 0#32
  ![0, v7664.toNat, 0]

def k0_chk952 (v7661 : BitVec 32) : Prop :=
  (∀ a, (k0_off1904 v7661) a + S7x1x512.size a ≤ S7x50x512.size a)
theorem k0_off1904_inb : ∀ (v7661 : BitVec 32) (k0_hw952 : k0_chk952 v7661), ∀ a, (k0_off1904 v7661) a + S7x1x512.size a ≤ S7x50x512.size a := fun v7661 k0_hw952 => k0_hw952

def k0_off1905 (i : grid0.Coords) : Fin 3 → Nat :=
  let c4_8730 : Index := 4#32
  let c3_8731 : Index := 3#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7666 : Index := Scalar.indexCast v7437
  ![4, 3, v7666.toNat]
def k0_off1906 (v7667 : BitVec 32) : Fin 3 → Nat :=
  let c0_8736 : Index := 0#32
  let v7670 : Index := Scalar.indexCast v7667
  let c0_8737 : Index := 0#32
  ![0, v7670.toNat, 0]

def k0_chk953 (v7667 : BitVec 32) : Prop :=
  (∀ a, (k0_off1906 v7667) a + S7x1x512.size a ≤ S7x50x512.size a)
theorem k0_off1906_inb : ∀ (v7667 : BitVec 32) (k0_hw953 : k0_chk953 v7667), ∀ a, (k0_off1906 v7667) a + S7x1x512.size a ≤ S7x50x512.size a := fun v7667 k0_hw953 => k0_hw953

def k0_off1907 (i : grid0.Coords) : Fin 3 → Nat :=
  let c4_8738 : Index := 4#32
  let c4_8739 : Index := 4#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7673 : Index := Scalar.indexCast v7437
  ![4, 4, v7673.toNat]
def k0_off1908 (v7674 : BitVec 32) : Fin 3 → Nat :=
  let c0_8744 : Index := 0#32
  let v7677 : Index := Scalar.indexCast v7674
  let c0_8745 : Index := 0#32
  ![0, v7677.toNat, 0]

def k0_chk954 (v7674 : BitVec 32) : Prop :=
  (∀ a, (k0_off1908 v7674) a + S7x1x512.size a ≤ S7x50x512.size a)
theorem k0_off1908_inb : ∀ (v7674 : BitVec 32) (k0_hw954 : k0_chk954 v7674), ∀ a, (k0_off1908 v7674) a + S7x1x512.size a ≤ S7x50x512.size a := fun v7674 k0_hw954 => k0_hw954

def k0_off1909 (i : grid0.Coords) : Fin 3 → Nat :=
  let c4_8746 : Index := 4#32
  let c5_8747 : Index := 5#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7680 : Index := Scalar.indexCast v7437
  ![4, 5, v7680.toNat]
def k0_off1910 (v7681 : BitVec 32) : Fin 3 → Nat :=
  let c0_8752 : Index := 0#32
  let v7684 : Index := Scalar.indexCast v7681
  let c0_8753 : Index := 0#32
  ![0, v7684.toNat, 0]

def k0_chk955 (v7681 : BitVec 32) : Prop :=
  (∀ a, (k0_off1910 v7681) a + S7x1x512.size a ≤ S7x50x512.size a)
theorem k0_off1910_inb : ∀ (v7681 : BitVec 32) (k0_hw955 : k0_chk955 v7681), ∀ a, (k0_off1910 v7681) a + S7x1x512.size a ≤ S7x50x512.size a := fun v7681 k0_hw955 => k0_hw955

def k0_off1911 (i : grid0.Coords) : Fin 3 → Nat :=
  let c4_8754 : Index := 4#32
  let c6_8755 : Index := 6#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7687 : Index := Scalar.indexCast v7437
  ![4, 6, v7687.toNat]
def k0_off1912 (v7688 : BitVec 32) : Fin 3 → Nat :=
  let c0_8760 : Index := 0#32
  let v7691 : Index := Scalar.indexCast v7688
  let c0_8761 : Index := 0#32
  ![0, v7691.toNat, 0]

def k0_chk956 (v7688 : BitVec 32) : Prop :=
  (∀ a, (k0_off1912 v7688) a + S7x1x512.size a ≤ S7x50x512.size a)
theorem k0_off1912_inb : ∀ (v7688 : BitVec 32) (k0_hw956 : k0_chk956 v7688), ∀ a, (k0_off1912 v7688) a + S7x1x512.size a ≤ S7x50x512.size a := fun v7688 k0_hw956 => k0_hw956

def k0_off1913 (i : grid0.Coords) : Fin 3 → Nat :=
  let c5_8766 : Index := 5#32
  let c2_8767 : Index := 2#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7698 : Index := Scalar.indexCast v7437
  ![5, 2, v7698.toNat]
def k0_off1914 (v7699 : BitVec 32) : Fin 3 → Nat :=
  let c0_8772 : Index := 0#32
  let v7702 : Index := Scalar.indexCast v7699
  let c0_8773 : Index := 0#32
  ![0, v7702.toNat, 0]

def k0_chk957 (v7699 : BitVec 32) : Prop :=
  (∀ a, (k0_off1914 v7699) a + S7x1x512.size a ≤ S7x50x512.size a)
theorem k0_off1914_inb : ∀ (v7699 : BitVec 32) (k0_hw957 : k0_chk957 v7699), ∀ a, (k0_off1914 v7699) a + S7x1x512.size a ≤ S7x50x512.size a := fun v7699 k0_hw957 => k0_hw957

def k0_off1915 (i : grid0.Coords) : Fin 3 → Nat :=
  let c5_8774 : Index := 5#32
  let c3_8775 : Index := 3#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7704 : Index := Scalar.indexCast v7437
  ![5, 3, v7704.toNat]
def k0_off1916 (v7705 : BitVec 32) : Fin 3 → Nat :=
  let c0_8780 : Index := 0#32
  let v7708 : Index := Scalar.indexCast v7705
  let c0_8781 : Index := 0#32
  ![0, v7708.toNat, 0]

def k0_chk958 (v7705 : BitVec 32) : Prop :=
  (∀ a, (k0_off1916 v7705) a + S7x1x512.size a ≤ S7x50x512.size a)
theorem k0_off1916_inb : ∀ (v7705 : BitVec 32) (k0_hw958 : k0_chk958 v7705), ∀ a, (k0_off1916 v7705) a + S7x1x512.size a ≤ S7x50x512.size a := fun v7705 k0_hw958 => k0_hw958

def k0_off1917 (i : grid0.Coords) : Fin 3 → Nat :=
  let c5_8782 : Index := 5#32
  let c4_8783 : Index := 4#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7711 : Index := Scalar.indexCast v7437
  ![5, 4, v7711.toNat]
def k0_off1918 (v7712 : BitVec 32) : Fin 3 → Nat :=
  let c0_8788 : Index := 0#32
  let v7715 : Index := Scalar.indexCast v7712
  let c0_8789 : Index := 0#32
  ![0, v7715.toNat, 0]

def k0_chk959 (v7712 : BitVec 32) : Prop :=
  (∀ a, (k0_off1918 v7712) a + S7x1x512.size a ≤ S7x50x512.size a)
theorem k0_off1918_inb : ∀ (v7712 : BitVec 32) (k0_hw959 : k0_chk959 v7712), ∀ a, (k0_off1918 v7712) a + S7x1x512.size a ≤ S7x50x512.size a := fun v7712 k0_hw959 => k0_hw959

def k0_off1919 (i : grid0.Coords) : Fin 3 → Nat :=
  let c5_8790 : Index := 5#32
  let c5_8791 : Index := 5#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7718 : Index := Scalar.indexCast v7437
  ![5, 5, v7718.toNat]
def k0_off1920 (v7719 : BitVec 32) : Fin 3 → Nat :=
  let c0_8796 : Index := 0#32
  let v7722 : Index := Scalar.indexCast v7719
  let c0_8797 : Index := 0#32
  ![0, v7722.toNat, 0]

def k0_chk960 (v7719 : BitVec 32) : Prop :=
  (∀ a, (k0_off1920 v7719) a + S7x1x512.size a ≤ S7x50x512.size a)
theorem k0_off1920_inb : ∀ (v7719 : BitVec 32) (k0_hw960 : k0_chk960 v7719), ∀ a, (k0_off1920 v7719) a + S7x1x512.size a ≤ S7x50x512.size a := fun v7719 k0_hw960 => k0_hw960

def k0_off1921 (i : grid0.Coords) : Fin 3 → Nat :=
  let c5_8798 : Index := 5#32
  let c6_8799 : Index := 6#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7725 : Index := Scalar.indexCast v7437
  ![5, 6, v7725.toNat]
def k0_off1922 (v7726 : BitVec 32) : Fin 3 → Nat :=
  let c0_8804 : Index := 0#32
  let v7729 : Index := Scalar.indexCast v7726
  let c0_8805 : Index := 0#32
  ![0, v7729.toNat, 0]

def k0_chk961 (v7726 : BitVec 32) : Prop :=
  (∀ a, (k0_off1922 v7726) a + S7x1x512.size a ≤ S7x50x512.size a)
theorem k0_off1922_inb : ∀ (v7726 : BitVec 32) (k0_hw961 : k0_chk961 v7726), ∀ a, (k0_off1922 v7726) a + S7x1x512.size a ≤ S7x50x512.size a := fun v7726 k0_hw961 => k0_hw961

def k0_off1923 (i : grid0.Coords) : Fin 3 → Nat :=
  let c6_8810 : Index := 6#32
  let c2_8811 : Index := 2#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7736 : Index := Scalar.indexCast v7437
  ![6, 2, v7736.toNat]
def k0_off1924 (v7737 : BitVec 32) : Fin 3 → Nat :=
  let c0_8816 : Index := 0#32
  let v7740 : Index := Scalar.indexCast v7737
  let c0_8817 : Index := 0#32
  ![0, v7740.toNat, 0]

def k0_chk962 (v7737 : BitVec 32) : Prop :=
  (∀ a, (k0_off1924 v7737) a + S7x1x512.size a ≤ S7x50x512.size a)
theorem k0_off1924_inb : ∀ (v7737 : BitVec 32) (k0_hw962 : k0_chk962 v7737), ∀ a, (k0_off1924 v7737) a + S7x1x512.size a ≤ S7x50x512.size a := fun v7737 k0_hw962 => k0_hw962

def k0_off1925 (i : grid0.Coords) : Fin 3 → Nat :=
  let c6_8818 : Index := 6#32
  let c3_8819 : Index := 3#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7742 : Index := Scalar.indexCast v7437
  ![6, 3, v7742.toNat]
def k0_off1926 (v7743 : BitVec 32) : Fin 3 → Nat :=
  let c0_8824 : Index := 0#32
  let v7746 : Index := Scalar.indexCast v7743
  let c0_8825 : Index := 0#32
  ![0, v7746.toNat, 0]

def k0_chk963 (v7743 : BitVec 32) : Prop :=
  (∀ a, (k0_off1926 v7743) a + S7x1x512.size a ≤ S7x50x512.size a)
theorem k0_off1926_inb : ∀ (v7743 : BitVec 32) (k0_hw963 : k0_chk963 v7743), ∀ a, (k0_off1926 v7743) a + S7x1x512.size a ≤ S7x50x512.size a := fun v7743 k0_hw963 => k0_hw963

def k0_off1927 (i : grid0.Coords) : Fin 3 → Nat :=
  let c6_8826 : Index := 6#32
  let c4_8827 : Index := 4#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7749 : Index := Scalar.indexCast v7437
  ![6, 4, v7749.toNat]
def k0_off1928 (v7750 : BitVec 32) : Fin 3 → Nat :=
  let c0_8832 : Index := 0#32
  let v7753 : Index := Scalar.indexCast v7750
  let c0_8833 : Index := 0#32
  ![0, v7753.toNat, 0]

def k0_chk964 (v7750 : BitVec 32) : Prop :=
  (∀ a, (k0_off1928 v7750) a + S7x1x512.size a ≤ S7x50x512.size a)
theorem k0_off1928_inb : ∀ (v7750 : BitVec 32) (k0_hw964 : k0_chk964 v7750), ∀ a, (k0_off1928 v7750) a + S7x1x512.size a ≤ S7x50x512.size a := fun v7750 k0_hw964 => k0_hw964

def k0_off1929 (i : grid0.Coords) : Fin 3 → Nat :=
  let c6_8834 : Index := 6#32
  let c5_8835 : Index := 5#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7756 : Index := Scalar.indexCast v7437
  ![6, 5, v7756.toNat]
def k0_off1930 (v7757 : BitVec 32) : Fin 3 → Nat :=
  let c0_8840 : Index := 0#32
  let v7760 : Index := Scalar.indexCast v7757
  let c0_8841 : Index := 0#32
  ![0, v7760.toNat, 0]

def k0_chk965 (v7757 : BitVec 32) : Prop :=
  (∀ a, (k0_off1930 v7757) a + S7x1x512.size a ≤ S7x50x512.size a)
theorem k0_off1930_inb : ∀ (v7757 : BitVec 32) (k0_hw965 : k0_chk965 v7757), ∀ a, (k0_off1930 v7757) a + S7x1x512.size a ≤ S7x50x512.size a := fun v7757 k0_hw965 => k0_hw965

def k0_off1931 (i : grid0.Coords) : Fin 3 → Nat :=
  let c6_8842 : Index := 6#32
  let c6_8843 : Index := 6#32
  let arg0 : BitVec 32 := BitVec.ofNat 32 (i 0).val
  let c32_i32_8469 : BitVec 32 := 32#32
  let v7436 : BitVec 32 := Scalar.muli arg0 c32_i32_8469
  let c22_i32 : BitVec 32 := 22#32
  let v7437 : BitVec 32 := Scalar.addi v7436 c22_i32
  let v7763 : Index := Scalar.indexCast v7437
  ![6, 6, v7763.toNat]
def k0_off1932 (v7764 : BitVec 32) : Fin 3 → Nat :=
  let c0_8848 : Index := 0#32
  let v7767 : Index := Scalar.indexCast v7764
  let c0_8849 : Index := 0#32
  ![0, v7767.toNat, 0]

def k0_chk966 (v7764 : BitVec 32) : Prop :=
  (∀ a, (k0_off1932 v7764) a + S7x1x512.size a ≤ S7x50x512.size a)
theorem k0_off1932_inb : ∀ (v7764 : BitVec 32) (k0_hw966 : k0_chk966 v7764), ∀ a, (k0_off1932 v7764) a + S7x1x512.size a ≤ S7x50x512.size a := fun v7764 k0_hw966 => k0_hw966

def k0_off1933 (i : grid0.Coords) : Fin 3 → Nat :=
  let c0_8855 : Index := 0#32
  let c0_8856 : Index := 0#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7776 : Index := Scalar.indexCast v7775
  ![0, 0, v7776.toNat]
def k0_off1934 (v7777 : BitVec 32) : Fin 3 → Nat :=
  let v7778 : Index := Scalar.indexCast v7777
  let c0_8857 : Index := 0#32
  let c0_8858 : Index := 0#32
  ![v7778.toNat, 0, 0]

def k0_chk967 (v7777 : BitVec 32) : Prop :=
  (∀ a, (k0_off1934 v7777) a + S1x50x512.size a ≤ S250x50x512.size a)
theorem k0_off1934_inb : ∀ (v7777 : BitVec 32) (k0_hw967 : k0_chk967 v7777), ∀ a, (k0_off1934 v7777) a + S1x50x512.size a ≤ S250x50x512.size a := fun v7777 k0_hw967 => k0_hw967

def k0_off1935 (i : grid0.Coords) : Fin 3 → Nat :=
  let c1_8866 : Index := 1#32
  let c0_8867 : Index := 0#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7786 : Index := Scalar.indexCast v7775
  ![1, 0, v7786.toNat]
def k0_off1936 (v7787 : BitVec 32) : Fin 3 → Nat :=
  let v7788 : Index := Scalar.indexCast v7787
  let c0_8868 : Index := 0#32
  let c0_8869 : Index := 0#32
  ![v7788.toNat, 0, 0]

def k0_chk968 (v7787 : BitVec 32) : Prop :=
  (∀ a, (k0_off1936 v7787) a + S1x50x512.size a ≤ S250x50x512.size a)
theorem k0_off1936_inb : ∀ (v7787 : BitVec 32) (k0_hw968 : k0_chk968 v7787), ∀ a, (k0_off1936 v7787) a + S1x50x512.size a ≤ S250x50x512.size a := fun v7787 k0_hw968 => k0_hw968

def k0_off1937 (i : grid0.Coords) : Fin 3 → Nat :=
  let c2_8877 : Index := 2#32
  let c0_8878 : Index := 0#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7796 : Index := Scalar.indexCast v7775
  ![2, 0, v7796.toNat]
def k0_off1938 (v7797 : BitVec 32) : Fin 3 → Nat :=
  let v7798 : Index := Scalar.indexCast v7797
  let c0_8879 : Index := 0#32
  let c0_8880 : Index := 0#32
  ![v7798.toNat, 0, 0]

def k0_chk969 (v7797 : BitVec 32) : Prop :=
  (∀ a, (k0_off1938 v7797) a + S1x50x512.size a ≤ S250x50x512.size a)
theorem k0_off1938_inb : ∀ (v7797 : BitVec 32) (k0_hw969 : k0_chk969 v7797), ∀ a, (k0_off1938 v7797) a + S1x50x512.size a ≤ S250x50x512.size a := fun v7797 k0_hw969 => k0_hw969

def k0_off1939 (i : grid0.Coords) : Fin 3 → Nat :=
  let c3_8888 : Index := 3#32
  let c0_8889 : Index := 0#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7806 : Index := Scalar.indexCast v7775
  ![3, 0, v7806.toNat]
def k0_off1940 (v7807 : BitVec 32) : Fin 3 → Nat :=
  let v7808 : Index := Scalar.indexCast v7807
  let c0_8890 : Index := 0#32
  let c0_8891 : Index := 0#32
  ![v7808.toNat, 0, 0]

def k0_chk970 (v7807 : BitVec 32) : Prop :=
  (∀ a, (k0_off1940 v7807) a + S1x50x512.size a ≤ S250x50x512.size a)
theorem k0_off1940_inb : ∀ (v7807 : BitVec 32) (k0_hw970 : k0_chk970 v7807), ∀ a, (k0_off1940 v7807) a + S1x50x512.size a ≤ S250x50x512.size a := fun v7807 k0_hw970 => k0_hw970

def k0_off1941 (i : grid0.Coords) : Fin 3 → Nat :=
  let c4_8899 : Index := 4#32
  let c0_8900 : Index := 0#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7816 : Index := Scalar.indexCast v7775
  ![4, 0, v7816.toNat]
def k0_off1942 (v7817 : BitVec 32) : Fin 3 → Nat :=
  let v7818 : Index := Scalar.indexCast v7817
  let c0_8901 : Index := 0#32
  let c0_8902 : Index := 0#32
  ![v7818.toNat, 0, 0]

def k0_chk971 (v7817 : BitVec 32) : Prop :=
  (∀ a, (k0_off1942 v7817) a + S1x50x512.size a ≤ S250x50x512.size a)
theorem k0_off1942_inb : ∀ (v7817 : BitVec 32) (k0_hw971 : k0_chk971 v7817), ∀ a, (k0_off1942 v7817) a + S1x50x512.size a ≤ S250x50x512.size a := fun v7817 k0_hw971 => k0_hw971

def k0_off1943 (i : grid0.Coords) : Fin 3 → Nat :=
  let c5_8910 : Index := 5#32
  let c0_8911 : Index := 0#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7826 : Index := Scalar.indexCast v7775
  ![5, 0, v7826.toNat]
def k0_off1944 (v7827 : BitVec 32) : Fin 3 → Nat :=
  let v7828 : Index := Scalar.indexCast v7827
  let c0_8912 : Index := 0#32
  let c0_8913 : Index := 0#32
  ![v7828.toNat, 0, 0]

def k0_chk972 (v7827 : BitVec 32) : Prop :=
  (∀ a, (k0_off1944 v7827) a + S1x50x512.size a ≤ S250x50x512.size a)
theorem k0_off1944_inb : ∀ (v7827 : BitVec 32) (k0_hw972 : k0_chk972 v7827), ∀ a, (k0_off1944 v7827) a + S1x50x512.size a ≤ S250x50x512.size a := fun v7827 k0_hw972 => k0_hw972

def k0_off1945 (i : grid0.Coords) : Fin 3 → Nat :=
  let c6_8921 : Index := 6#32
  let c0_8922 : Index := 0#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7836 : Index := Scalar.indexCast v7775
  ![6, 0, v7836.toNat]
def k0_off1946 (v7837 : BitVec 32) : Fin 3 → Nat :=
  let v7838 : Index := Scalar.indexCast v7837
  let c0_8923 : Index := 0#32
  let c0_8924 : Index := 0#32
  ![v7838.toNat, 0, 0]

def k0_chk973 (v7837 : BitVec 32) : Prop :=
  (∀ a, (k0_off1946 v7837) a + S1x50x512.size a ≤ S250x50x512.size a)
theorem k0_off1946_inb : ∀ (v7837 : BitVec 32) (k0_hw973 : k0_chk973 v7837), ∀ a, (k0_off1946 v7837) a + S1x50x512.size a ≤ S250x50x512.size a := fun v7837 k0_hw973 => k0_hw973

def k0_off1947 (i : grid0.Coords) : Fin 3 → Nat :=
  let c0_8932 : Index := 0#32
  let c2_8933 : Index := 2#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7846 : Index := Scalar.indexCast v7775
  ![0, 2, v7846.toNat]
def k0_off1948 (v7847 : BitVec 32) : Fin 3 → Nat :=
  let c0_8938 : Index := 0#32
  let v7850 : Index := Scalar.indexCast v7847
  let c0_8939 : Index := 0#32
  ![0, v7850.toNat, 0]

def k0_chk974 (v7847 : BitVec 32) : Prop :=
  (∀ a, (k0_off1948 v7847) a + S7x1x512.size a ≤ S7x50x512.size a)
theorem k0_off1948_inb : ∀ (v7847 : BitVec 32) (k0_hw974 : k0_chk974 v7847), ∀ a, (k0_off1948 v7847) a + S7x1x512.size a ≤ S7x50x512.size a := fun v7847 k0_hw974 => k0_hw974

def k0_off1949 (i : grid0.Coords) : Fin 3 → Nat :=
  let c0_8940 : Index := 0#32
  let c3_8941 : Index := 3#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7852 : Index := Scalar.indexCast v7775
  ![0, 3, v7852.toNat]
def k0_off1950 (v7853 : BitVec 32) : Fin 3 → Nat :=
  let c0_8946 : Index := 0#32
  let v7856 : Index := Scalar.indexCast v7853
  let c0_8947 : Index := 0#32
  ![0, v7856.toNat, 0]

def k0_chk975 (v7853 : BitVec 32) : Prop :=
  (∀ a, (k0_off1950 v7853) a + S7x1x512.size a ≤ S7x50x512.size a)
theorem k0_off1950_inb : ∀ (v7853 : BitVec 32) (k0_hw975 : k0_chk975 v7853), ∀ a, (k0_off1950 v7853) a + S7x1x512.size a ≤ S7x50x512.size a := fun v7853 k0_hw975 => k0_hw975

def k0_off1951 (i : grid0.Coords) : Fin 3 → Nat :=
  let c0_8948 : Index := 0#32
  let c4_8949 : Index := 4#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7859 : Index := Scalar.indexCast v7775
  ![0, 4, v7859.toNat]
def k0_off1952 (v7860 : BitVec 32) : Fin 3 → Nat :=
  let c0_8954 : Index := 0#32
  let v7863 : Index := Scalar.indexCast v7860
  let c0_8955 : Index := 0#32
  ![0, v7863.toNat, 0]

def k0_chk976 (v7860 : BitVec 32) : Prop :=
  (∀ a, (k0_off1952 v7860) a + S7x1x512.size a ≤ S7x50x512.size a)
theorem k0_off1952_inb : ∀ (v7860 : BitVec 32) (k0_hw976 : k0_chk976 v7860), ∀ a, (k0_off1952 v7860) a + S7x1x512.size a ≤ S7x50x512.size a := fun v7860 k0_hw976 => k0_hw976

def k0_off1953 (i : grid0.Coords) : Fin 3 → Nat :=
  let c0_8956 : Index := 0#32
  let c5_8957 : Index := 5#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7866 : Index := Scalar.indexCast v7775
  ![0, 5, v7866.toNat]
def k0_off1954 (v7867 : BitVec 32) : Fin 3 → Nat :=
  let c0_8962 : Index := 0#32
  let v7870 : Index := Scalar.indexCast v7867
  let c0_8963 : Index := 0#32
  ![0, v7870.toNat, 0]

def k0_chk977 (v7867 : BitVec 32) : Prop :=
  (∀ a, (k0_off1954 v7867) a + S7x1x512.size a ≤ S7x50x512.size a)
theorem k0_off1954_inb : ∀ (v7867 : BitVec 32) (k0_hw977 : k0_chk977 v7867), ∀ a, (k0_off1954 v7867) a + S7x1x512.size a ≤ S7x50x512.size a := fun v7867 k0_hw977 => k0_hw977

def k0_off1955 (i : grid0.Coords) : Fin 3 → Nat :=
  let c0_8964 : Index := 0#32
  let c6_8965 : Index := 6#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7873 : Index := Scalar.indexCast v7775
  ![0, 6, v7873.toNat]
def k0_off1956 (v7874 : BitVec 32) : Fin 3 → Nat :=
  let c0_8970 : Index := 0#32
  let v7877 : Index := Scalar.indexCast v7874
  let c0_8971 : Index := 0#32
  ![0, v7877.toNat, 0]

def k0_chk978 (v7874 : BitVec 32) : Prop :=
  (∀ a, (k0_off1956 v7874) a + S7x1x512.size a ≤ S7x50x512.size a)
theorem k0_off1956_inb : ∀ (v7874 : BitVec 32) (k0_hw978 : k0_chk978 v7874), ∀ a, (k0_off1956 v7874) a + S7x1x512.size a ≤ S7x50x512.size a := fun v7874 k0_hw978 => k0_hw978

def k0_off1957 (i : grid0.Coords) : Fin 3 → Nat :=
  let c1_8975 : Index := 1#32
  let c2_8976 : Index := 2#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7884 : Index := Scalar.indexCast v7775
  ![1, 2, v7884.toNat]
def k0_off1958 (v7885 : BitVec 32) : Fin 3 → Nat :=
  let c0_8981 : Index := 0#32
  let v7888 : Index := Scalar.indexCast v7885
  let c0_8982 : Index := 0#32
  ![0, v7888.toNat, 0]

def k0_chk979 (v7885 : BitVec 32) : Prop :=
  (∀ a, (k0_off1958 v7885) a + S7x1x512.size a ≤ S7x50x512.size a)
theorem k0_off1958_inb : ∀ (v7885 : BitVec 32) (k0_hw979 : k0_chk979 v7885), ∀ a, (k0_off1958 v7885) a + S7x1x512.size a ≤ S7x50x512.size a := fun v7885 k0_hw979 => k0_hw979

def k0_off1959 (i : grid0.Coords) : Fin 3 → Nat :=
  let c1_8983 : Index := 1#32
  let c3_8984 : Index := 3#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7890 : Index := Scalar.indexCast v7775
  ![1, 3, v7890.toNat]
def k0_off1960 (v7891 : BitVec 32) : Fin 3 → Nat :=
  let c0_8989 : Index := 0#32
  let v7894 : Index := Scalar.indexCast v7891
  let c0_8990 : Index := 0#32
  ![0, v7894.toNat, 0]

def k0_chk980 (v7891 : BitVec 32) : Prop :=
  (∀ a, (k0_off1960 v7891) a + S7x1x512.size a ≤ S7x50x512.size a)
theorem k0_off1960_inb : ∀ (v7891 : BitVec 32) (k0_hw980 : k0_chk980 v7891), ∀ a, (k0_off1960 v7891) a + S7x1x512.size a ≤ S7x50x512.size a := fun v7891 k0_hw980 => k0_hw980

def k0_off1961 (i : grid0.Coords) : Fin 3 → Nat :=
  let c1_8991 : Index := 1#32
  let c4_8992 : Index := 4#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7897 : Index := Scalar.indexCast v7775
  ![1, 4, v7897.toNat]
def k0_off1962 (v7898 : BitVec 32) : Fin 3 → Nat :=
  let c0_8997 : Index := 0#32
  let v7901 : Index := Scalar.indexCast v7898
  let c0_8998 : Index := 0#32
  ![0, v7901.toNat, 0]

def k0_chk981 (v7898 : BitVec 32) : Prop :=
  (∀ a, (k0_off1962 v7898) a + S7x1x512.size a ≤ S7x50x512.size a)
theorem k0_off1962_inb : ∀ (v7898 : BitVec 32) (k0_hw981 : k0_chk981 v7898), ∀ a, (k0_off1962 v7898) a + S7x1x512.size a ≤ S7x50x512.size a := fun v7898 k0_hw981 => k0_hw981

def k0_off1963 (i : grid0.Coords) : Fin 3 → Nat :=
  let c1_8999 : Index := 1#32
  let c5_9000 : Index := 5#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7904 : Index := Scalar.indexCast v7775
  ![1, 5, v7904.toNat]
def k0_off1964 (v7905 : BitVec 32) : Fin 3 → Nat :=
  let c0_9005 : Index := 0#32
  let v7908 : Index := Scalar.indexCast v7905
  let c0_9006 : Index := 0#32
  ![0, v7908.toNat, 0]

def k0_chk982 (v7905 : BitVec 32) : Prop :=
  (∀ a, (k0_off1964 v7905) a + S7x1x512.size a ≤ S7x50x512.size a)
theorem k0_off1964_inb : ∀ (v7905 : BitVec 32) (k0_hw982 : k0_chk982 v7905), ∀ a, (k0_off1964 v7905) a + S7x1x512.size a ≤ S7x50x512.size a := fun v7905 k0_hw982 => k0_hw982

def k0_off1965 (i : grid0.Coords) : Fin 3 → Nat :=
  let c1_9007 : Index := 1#32
  let c6_9008 : Index := 6#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7911 : Index := Scalar.indexCast v7775
  ![1, 6, v7911.toNat]
def k0_off1966 (v7912 : BitVec 32) : Fin 3 → Nat :=
  let c0_9013 : Index := 0#32
  let v7915 : Index := Scalar.indexCast v7912
  let c0_9014 : Index := 0#32
  ![0, v7915.toNat, 0]

def k0_chk983 (v7912 : BitVec 32) : Prop :=
  (∀ a, (k0_off1966 v7912) a + S7x1x512.size a ≤ S7x50x512.size a)
theorem k0_off1966_inb : ∀ (v7912 : BitVec 32) (k0_hw983 : k0_chk983 v7912), ∀ a, (k0_off1966 v7912) a + S7x1x512.size a ≤ S7x50x512.size a := fun v7912 k0_hw983 => k0_hw983

def k0_off1967 (i : grid0.Coords) : Fin 3 → Nat :=
  let c2_9019 : Index := 2#32
  let c2_9020 : Index := 2#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7922 : Index := Scalar.indexCast v7775
  ![2, 2, v7922.toNat]
def k0_off1968 (v7923 : BitVec 32) : Fin 3 → Nat :=
  let c0_9025 : Index := 0#32
  let v7926 : Index := Scalar.indexCast v7923
  let c0_9026 : Index := 0#32
  ![0, v7926.toNat, 0]

def k0_chk984 (v7923 : BitVec 32) : Prop :=
  (∀ a, (k0_off1968 v7923) a + S7x1x512.size a ≤ S7x50x512.size a)
theorem k0_off1968_inb : ∀ (v7923 : BitVec 32) (k0_hw984 : k0_chk984 v7923), ∀ a, (k0_off1968 v7923) a + S7x1x512.size a ≤ S7x50x512.size a := fun v7923 k0_hw984 => k0_hw984

def k0_off1969 (i : grid0.Coords) : Fin 3 → Nat :=
  let c2_9027 : Index := 2#32
  let c3_9028 : Index := 3#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7928 : Index := Scalar.indexCast v7775
  ![2, 3, v7928.toNat]
def k0_off1970 (v7929 : BitVec 32) : Fin 3 → Nat :=
  let c0_9033 : Index := 0#32
  let v7932 : Index := Scalar.indexCast v7929
  let c0_9034 : Index := 0#32
  ![0, v7932.toNat, 0]

def k0_chk985 (v7929 : BitVec 32) : Prop :=
  (∀ a, (k0_off1970 v7929) a + S7x1x512.size a ≤ S7x50x512.size a)
theorem k0_off1970_inb : ∀ (v7929 : BitVec 32) (k0_hw985 : k0_chk985 v7929), ∀ a, (k0_off1970 v7929) a + S7x1x512.size a ≤ S7x50x512.size a := fun v7929 k0_hw985 => k0_hw985

def k0_off1971 (i : grid0.Coords) : Fin 3 → Nat :=
  let c2_9035 : Index := 2#32
  let c4_9036 : Index := 4#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7935 : Index := Scalar.indexCast v7775
  ![2, 4, v7935.toNat]
def k0_off1972 (v7936 : BitVec 32) : Fin 3 → Nat :=
  let c0_9041 : Index := 0#32
  let v7939 : Index := Scalar.indexCast v7936
  let c0_9042 : Index := 0#32
  ![0, v7939.toNat, 0]

def k0_chk986 (v7936 : BitVec 32) : Prop :=
  (∀ a, (k0_off1972 v7936) a + S7x1x512.size a ≤ S7x50x512.size a)
theorem k0_off1972_inb : ∀ (v7936 : BitVec 32) (k0_hw986 : k0_chk986 v7936), ∀ a, (k0_off1972 v7936) a + S7x1x512.size a ≤ S7x50x512.size a := fun v7936 k0_hw986 => k0_hw986

def k0_off1973 (i : grid0.Coords) : Fin 3 → Nat :=
  let c2_9043 : Index := 2#32
  let c5_9044 : Index := 5#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7942 : Index := Scalar.indexCast v7775
  ![2, 5, v7942.toNat]
def k0_off1974 (v7943 : BitVec 32) : Fin 3 → Nat :=
  let c0_9049 : Index := 0#32
  let v7946 : Index := Scalar.indexCast v7943
  let c0_9050 : Index := 0#32
  ![0, v7946.toNat, 0]

def k0_chk987 (v7943 : BitVec 32) : Prop :=
  (∀ a, (k0_off1974 v7943) a + S7x1x512.size a ≤ S7x50x512.size a)
theorem k0_off1974_inb : ∀ (v7943 : BitVec 32) (k0_hw987 : k0_chk987 v7943), ∀ a, (k0_off1974 v7943) a + S7x1x512.size a ≤ S7x50x512.size a := fun v7943 k0_hw987 => k0_hw987

def k0_off1975 (i : grid0.Coords) : Fin 3 → Nat :=
  let c2_9051 : Index := 2#32
  let c6_9052 : Index := 6#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7949 : Index := Scalar.indexCast v7775
  ![2, 6, v7949.toNat]
def k0_off1976 (v7950 : BitVec 32) : Fin 3 → Nat :=
  let c0_9057 : Index := 0#32
  let v7953 : Index := Scalar.indexCast v7950
  let c0_9058 : Index := 0#32
  ![0, v7953.toNat, 0]

def k0_chk988 (v7950 : BitVec 32) : Prop :=
  (∀ a, (k0_off1976 v7950) a + S7x1x512.size a ≤ S7x50x512.size a)
theorem k0_off1976_inb : ∀ (v7950 : BitVec 32) (k0_hw988 : k0_chk988 v7950), ∀ a, (k0_off1976 v7950) a + S7x1x512.size a ≤ S7x50x512.size a := fun v7950 k0_hw988 => k0_hw988

def k0_off1977 (i : grid0.Coords) : Fin 3 → Nat :=
  let c3_9063 : Index := 3#32
  let c2_9064 : Index := 2#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7960 : Index := Scalar.indexCast v7775
  ![3, 2, v7960.toNat]
def k0_off1978 (v7961 : BitVec 32) : Fin 3 → Nat :=
  let c0_9069 : Index := 0#32
  let v7964 : Index := Scalar.indexCast v7961
  let c0_9070 : Index := 0#32
  ![0, v7964.toNat, 0]

def k0_chk989 (v7961 : BitVec 32) : Prop :=
  (∀ a, (k0_off1978 v7961) a + S7x1x512.size a ≤ S7x50x512.size a)
theorem k0_off1978_inb : ∀ (v7961 : BitVec 32) (k0_hw989 : k0_chk989 v7961), ∀ a, (k0_off1978 v7961) a + S7x1x512.size a ≤ S7x50x512.size a := fun v7961 k0_hw989 => k0_hw989

def k0_off1979 (i : grid0.Coords) : Fin 3 → Nat :=
  let c3_9071 : Index := 3#32
  let c3_9072 : Index := 3#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7966 : Index := Scalar.indexCast v7775
  ![3, 3, v7966.toNat]
def k0_off1980 (v7967 : BitVec 32) : Fin 3 → Nat :=
  let c0_9077 : Index := 0#32
  let v7970 : Index := Scalar.indexCast v7967
  let c0_9078 : Index := 0#32
  ![0, v7970.toNat, 0]

def k0_chk990 (v7967 : BitVec 32) : Prop :=
  (∀ a, (k0_off1980 v7967) a + S7x1x512.size a ≤ S7x50x512.size a)
theorem k0_off1980_inb : ∀ (v7967 : BitVec 32) (k0_hw990 : k0_chk990 v7967), ∀ a, (k0_off1980 v7967) a + S7x1x512.size a ≤ S7x50x512.size a := fun v7967 k0_hw990 => k0_hw990

def k0_off1981 (i : grid0.Coords) : Fin 3 → Nat :=
  let c3_9079 : Index := 3#32
  let c4_9080 : Index := 4#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7973 : Index := Scalar.indexCast v7775
  ![3, 4, v7973.toNat]
def k0_off1982 (v7974 : BitVec 32) : Fin 3 → Nat :=
  let c0_9085 : Index := 0#32
  let v7977 : Index := Scalar.indexCast v7974
  let c0_9086 : Index := 0#32
  ![0, v7977.toNat, 0]

def k0_chk991 (v7974 : BitVec 32) : Prop :=
  (∀ a, (k0_off1982 v7974) a + S7x1x512.size a ≤ S7x50x512.size a)
theorem k0_off1982_inb : ∀ (v7974 : BitVec 32) (k0_hw991 : k0_chk991 v7974), ∀ a, (k0_off1982 v7974) a + S7x1x512.size a ≤ S7x50x512.size a := fun v7974 k0_hw991 => k0_hw991

def k0_off1983 (i : grid0.Coords) : Fin 3 → Nat :=
  let c3_9087 : Index := 3#32
  let c5_9088 : Index := 5#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7980 : Index := Scalar.indexCast v7775
  ![3, 5, v7980.toNat]
def k0_off1984 (v7981 : BitVec 32) : Fin 3 → Nat :=
  let c0_9093 : Index := 0#32
  let v7984 : Index := Scalar.indexCast v7981
  let c0_9094 : Index := 0#32
  ![0, v7984.toNat, 0]

def k0_chk992 (v7981 : BitVec 32) : Prop :=
  (∀ a, (k0_off1984 v7981) a + S7x1x512.size a ≤ S7x50x512.size a)
theorem k0_off1984_inb : ∀ (v7981 : BitVec 32) (k0_hw992 : k0_chk992 v7981), ∀ a, (k0_off1984 v7981) a + S7x1x512.size a ≤ S7x50x512.size a := fun v7981 k0_hw992 => k0_hw992

def k0_off1985 (i : grid0.Coords) : Fin 3 → Nat :=
  let c3_9095 : Index := 3#32
  let c6_9096 : Index := 6#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7987 : Index := Scalar.indexCast v7775
  ![3, 6, v7987.toNat]
def k0_off1986 (v7988 : BitVec 32) : Fin 3 → Nat :=
  let c0_9101 : Index := 0#32
  let v7991 : Index := Scalar.indexCast v7988
  let c0_9102 : Index := 0#32
  ![0, v7991.toNat, 0]

def k0_chk993 (v7988 : BitVec 32) : Prop :=
  (∀ a, (k0_off1986 v7988) a + S7x1x512.size a ≤ S7x50x512.size a)
theorem k0_off1986_inb : ∀ (v7988 : BitVec 32) (k0_hw993 : k0_chk993 v7988), ∀ a, (k0_off1986 v7988) a + S7x1x512.size a ≤ S7x50x512.size a := fun v7988 k0_hw993 => k0_hw993

def k0_off1987 (i : grid0.Coords) : Fin 3 → Nat :=
  let c4_9107 : Index := 4#32
  let c2_9108 : Index := 2#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v7998 : Index := Scalar.indexCast v7775
  ![4, 2, v7998.toNat]
def k0_off1988 (v7999 : BitVec 32) : Fin 3 → Nat :=
  let c0_9113 : Index := 0#32
  let v8002 : Index := Scalar.indexCast v7999
  let c0_9114 : Index := 0#32
  ![0, v8002.toNat, 0]

def k0_chk994 (v7999 : BitVec 32) : Prop :=
  (∀ a, (k0_off1988 v7999) a + S7x1x512.size a ≤ S7x50x512.size a)
theorem k0_off1988_inb : ∀ (v7999 : BitVec 32) (k0_hw994 : k0_chk994 v7999), ∀ a, (k0_off1988 v7999) a + S7x1x512.size a ≤ S7x50x512.size a := fun v7999 k0_hw994 => k0_hw994

def k0_off1989 (i : grid0.Coords) : Fin 3 → Nat :=
  let c4_9115 : Index := 4#32
  let c3_9116 : Index := 3#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8004 : Index := Scalar.indexCast v7775
  ![4, 3, v8004.toNat]
def k0_off1990 (v8005 : BitVec 32) : Fin 3 → Nat :=
  let c0_9121 : Index := 0#32
  let v8008 : Index := Scalar.indexCast v8005
  let c0_9122 : Index := 0#32
  ![0, v8008.toNat, 0]

def k0_chk995 (v8005 : BitVec 32) : Prop :=
  (∀ a, (k0_off1990 v8005) a + S7x1x512.size a ≤ S7x50x512.size a)
theorem k0_off1990_inb : ∀ (v8005 : BitVec 32) (k0_hw995 : k0_chk995 v8005), ∀ a, (k0_off1990 v8005) a + S7x1x512.size a ≤ S7x50x512.size a := fun v8005 k0_hw995 => k0_hw995

def k0_off1991 (i : grid0.Coords) : Fin 3 → Nat :=
  let c4_9123 : Index := 4#32
  let c4_9124 : Index := 4#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8011 : Index := Scalar.indexCast v7775
  ![4, 4, v8011.toNat]
def k0_off1992 (v8012 : BitVec 32) : Fin 3 → Nat :=
  let c0_9129 : Index := 0#32
  let v8015 : Index := Scalar.indexCast v8012
  let c0_9130 : Index := 0#32
  ![0, v8015.toNat, 0]

def k0_chk996 (v8012 : BitVec 32) : Prop :=
  (∀ a, (k0_off1992 v8012) a + S7x1x512.size a ≤ S7x50x512.size a)
theorem k0_off1992_inb : ∀ (v8012 : BitVec 32) (k0_hw996 : k0_chk996 v8012), ∀ a, (k0_off1992 v8012) a + S7x1x512.size a ≤ S7x50x512.size a := fun v8012 k0_hw996 => k0_hw996

def k0_off1993 (i : grid0.Coords) : Fin 3 → Nat :=
  let c4_9131 : Index := 4#32
  let c5_9132 : Index := 5#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8018 : Index := Scalar.indexCast v7775
  ![4, 5, v8018.toNat]
def k0_off1994 (v8019 : BitVec 32) : Fin 3 → Nat :=
  let c0_9137 : Index := 0#32
  let v8022 : Index := Scalar.indexCast v8019
  let c0_9138 : Index := 0#32
  ![0, v8022.toNat, 0]

def k0_chk997 (v8019 : BitVec 32) : Prop :=
  (∀ a, (k0_off1994 v8019) a + S7x1x512.size a ≤ S7x50x512.size a)
theorem k0_off1994_inb : ∀ (v8019 : BitVec 32) (k0_hw997 : k0_chk997 v8019), ∀ a, (k0_off1994 v8019) a + S7x1x512.size a ≤ S7x50x512.size a := fun v8019 k0_hw997 => k0_hw997

def k0_off1995 (i : grid0.Coords) : Fin 3 → Nat :=
  let c4_9139 : Index := 4#32
  let c6_9140 : Index := 6#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8025 : Index := Scalar.indexCast v7775
  ![4, 6, v8025.toNat]
def k0_off1996 (v8026 : BitVec 32) : Fin 3 → Nat :=
  let c0_9145 : Index := 0#32
  let v8029 : Index := Scalar.indexCast v8026
  let c0_9146 : Index := 0#32
  ![0, v8029.toNat, 0]

def k0_chk998 (v8026 : BitVec 32) : Prop :=
  (∀ a, (k0_off1996 v8026) a + S7x1x512.size a ≤ S7x50x512.size a)
theorem k0_off1996_inb : ∀ (v8026 : BitVec 32) (k0_hw998 : k0_chk998 v8026), ∀ a, (k0_off1996 v8026) a + S7x1x512.size a ≤ S7x50x512.size a := fun v8026 k0_hw998 => k0_hw998

def k0_off1997 (i : grid0.Coords) : Fin 3 → Nat :=
  let c5_9151 : Index := 5#32
  let c2_9152 : Index := 2#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8036 : Index := Scalar.indexCast v7775
  ![5, 2, v8036.toNat]
def k0_off1998 (v8037 : BitVec 32) : Fin 3 → Nat :=
  let c0_9157 : Index := 0#32
  let v8040 : Index := Scalar.indexCast v8037
  let c0_9158 : Index := 0#32
  ![0, v8040.toNat, 0]

def k0_chk999 (v8037 : BitVec 32) : Prop :=
  (∀ a, (k0_off1998 v8037) a + S7x1x512.size a ≤ S7x50x512.size a)
theorem k0_off1998_inb : ∀ (v8037 : BitVec 32) (k0_hw999 : k0_chk999 v8037), ∀ a, (k0_off1998 v8037) a + S7x1x512.size a ≤ S7x50x512.size a := fun v8037 k0_hw999 => k0_hw999

def k0_off1999 (i : grid0.Coords) : Fin 3 → Nat :=
  let c5_9159 : Index := 5#32
  let c3_9160 : Index := 3#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8042 : Index := Scalar.indexCast v7775
  ![5, 3, v8042.toNat]
def k0_off2000 (v8043 : BitVec 32) : Fin 3 → Nat :=
  let c0_9165 : Index := 0#32
  let v8046 : Index := Scalar.indexCast v8043
  let c0_9166 : Index := 0#32
  ![0, v8046.toNat, 0]

def k0_chk1000 (v8043 : BitVec 32) : Prop :=
  (∀ a, (k0_off2000 v8043) a + S7x1x512.size a ≤ S7x50x512.size a)
theorem k0_off2000_inb : ∀ (v8043 : BitVec 32) (k0_hw1000 : k0_chk1000 v8043), ∀ a, (k0_off2000 v8043) a + S7x1x512.size a ≤ S7x50x512.size a := fun v8043 k0_hw1000 => k0_hw1000

def k0_off2001 (i : grid0.Coords) : Fin 3 → Nat :=
  let c5_9167 : Index := 5#32
  let c4_9168 : Index := 4#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8049 : Index := Scalar.indexCast v7775
  ![5, 4, v8049.toNat]
def k0_off2002 (v8050 : BitVec 32) : Fin 3 → Nat :=
  let c0_9173 : Index := 0#32
  let v8053 : Index := Scalar.indexCast v8050
  let c0_9174 : Index := 0#32
  ![0, v8053.toNat, 0]

def k0_chk1001 (v8050 : BitVec 32) : Prop :=
  (∀ a, (k0_off2002 v8050) a + S7x1x512.size a ≤ S7x50x512.size a)
theorem k0_off2002_inb : ∀ (v8050 : BitVec 32) (k0_hw1001 : k0_chk1001 v8050), ∀ a, (k0_off2002 v8050) a + S7x1x512.size a ≤ S7x50x512.size a := fun v8050 k0_hw1001 => k0_hw1001

def k0_off2003 (i : grid0.Coords) : Fin 3 → Nat :=
  let c5_9175 : Index := 5#32
  let c5_9176 : Index := 5#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8056 : Index := Scalar.indexCast v7775
  ![5, 5, v8056.toNat]
def k0_off2004 (v8057 : BitVec 32) : Fin 3 → Nat :=
  let c0_9181 : Index := 0#32
  let v8060 : Index := Scalar.indexCast v8057
  let c0_9182 : Index := 0#32
  ![0, v8060.toNat, 0]

def k0_chk1002 (v8057 : BitVec 32) : Prop :=
  (∀ a, (k0_off2004 v8057) a + S7x1x512.size a ≤ S7x50x512.size a)
theorem k0_off2004_inb : ∀ (v8057 : BitVec 32) (k0_hw1002 : k0_chk1002 v8057), ∀ a, (k0_off2004 v8057) a + S7x1x512.size a ≤ S7x50x512.size a := fun v8057 k0_hw1002 => k0_hw1002

def k0_off2005 (i : grid0.Coords) : Fin 3 → Nat :=
  let c5_9183 : Index := 5#32
  let c6_9184 : Index := 6#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8063 : Index := Scalar.indexCast v7775
  ![5, 6, v8063.toNat]
def k0_off2006 (v8064 : BitVec 32) : Fin 3 → Nat :=
  let c0_9189 : Index := 0#32
  let v8067 : Index := Scalar.indexCast v8064
  let c0_9190 : Index := 0#32
  ![0, v8067.toNat, 0]

def k0_chk1003 (v8064 : BitVec 32) : Prop :=
  (∀ a, (k0_off2006 v8064) a + S7x1x512.size a ≤ S7x50x512.size a)
theorem k0_off2006_inb : ∀ (v8064 : BitVec 32) (k0_hw1003 : k0_chk1003 v8064), ∀ a, (k0_off2006 v8064) a + S7x1x512.size a ≤ S7x50x512.size a := fun v8064 k0_hw1003 => k0_hw1003

def k0_off2007 (i : grid0.Coords) : Fin 3 → Nat :=
  let c6_9195 : Index := 6#32
  let c2_9196 : Index := 2#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8074 : Index := Scalar.indexCast v7775
  ![6, 2, v8074.toNat]
def k0_off2008 (v8075 : BitVec 32) : Fin 3 → Nat :=
  let c0_9201 : Index := 0#32
  let v8078 : Index := Scalar.indexCast v8075
  let c0_9202 : Index := 0#32
  ![0, v8078.toNat, 0]

def k0_chk1004 (v8075 : BitVec 32) : Prop :=
  (∀ a, (k0_off2008 v8075) a + S7x1x512.size a ≤ S7x50x512.size a)
theorem k0_off2008_inb : ∀ (v8075 : BitVec 32) (k0_hw1004 : k0_chk1004 v8075), ∀ a, (k0_off2008 v8075) a + S7x1x512.size a ≤ S7x50x512.size a := fun v8075 k0_hw1004 => k0_hw1004

def k0_off2009 (i : grid0.Coords) : Fin 3 → Nat :=
  let c6_9203 : Index := 6#32
  let c3_9204 : Index := 3#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8080 : Index := Scalar.indexCast v7775
  ![6, 3, v8080.toNat]
def k0_off2010 (v8081 : BitVec 32) : Fin 3 → Nat :=
  let c0_9209 : Index := 0#32
  let v8084 : Index := Scalar.indexCast v8081
  let c0_9210 : Index := 0#32
  ![0, v8084.toNat, 0]

def k0_chk1005 (v8081 : BitVec 32) : Prop :=
  (∀ a, (k0_off2010 v8081) a + S7x1x512.size a ≤ S7x50x512.size a)
theorem k0_off2010_inb : ∀ (v8081 : BitVec 32) (k0_hw1005 : k0_chk1005 v8081), ∀ a, (k0_off2010 v8081) a + S7x1x512.size a ≤ S7x50x512.size a := fun v8081 k0_hw1005 => k0_hw1005

def k0_off2011 (i : grid0.Coords) : Fin 3 → Nat :=
  let c6_9211 : Index := 6#32
  let c4_9212 : Index := 4#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8087 : Index := Scalar.indexCast v7775
  ![6, 4, v8087.toNat]
def k0_off2012 (v8088 : BitVec 32) : Fin 3 → Nat :=
  let c0_9217 : Index := 0#32
  let v8091 : Index := Scalar.indexCast v8088
  let c0_9218 : Index := 0#32
  ![0, v8091.toNat, 0]

def k0_chk1006 (v8088 : BitVec 32) : Prop :=
  (∀ a, (k0_off2012 v8088) a + S7x1x512.size a ≤ S7x50x512.size a)
theorem k0_off2012_inb : ∀ (v8088 : BitVec 32) (k0_hw1006 : k0_chk1006 v8088), ∀ a, (k0_off2012 v8088) a + S7x1x512.size a ≤ S7x50x512.size a := fun v8088 k0_hw1006 => k0_hw1006

def k0_off2013 (i : grid0.Coords) : Fin 3 → Nat :=
  let c6_9219 : Index := 6#32
  let c5_9220 : Index := 5#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8094 : Index := Scalar.indexCast v7775
  ![6, 5, v8094.toNat]
def k0_off2014 (v8095 : BitVec 32) : Fin 3 → Nat :=
  let c0_9225 : Index := 0#32
  let v8098 : Index := Scalar.indexCast v8095
  let c0_9226 : Index := 0#32
  ![0, v8098.toNat, 0]

def k0_chk1007 (v8095 : BitVec 32) : Prop :=
  (∀ a, (k0_off2014 v8095) a + S7x1x512.size a ≤ S7x50x512.size a)
theorem k0_off2014_inb : ∀ (v8095 : BitVec 32) (k0_hw1007 : k0_chk1007 v8095), ∀ a, (k0_off2014 v8095) a + S7x1x512.size a ≤ S7x50x512.size a := fun v8095 k0_hw1007 => k0_hw1007

def k0_off2015 (i : grid0.Coords) : Fin 3 → Nat :=
  let c6_9227 : Index := 6#32
  let c6_9228 : Index := 6#32
  let arg0 : BitVec 32 := BitVec.ofNat 32 (i 0).val
  let c32_i32_8854 : BitVec 32 := 32#32
  let v7774 : BitVec 32 := Scalar.muli arg0 c32_i32_8854
  let c23_i32 : BitVec 32 := 23#32
  let v7775 : BitVec 32 := Scalar.addi v7774 c23_i32
  let v8101 : Index := Scalar.indexCast v7775
  ![6, 6, v8101.toNat]
def k0_off2016 (v8102 : BitVec 32) : Fin 3 → Nat :=
  let c0_9233 : Index := 0#32
  let v8105 : Index := Scalar.indexCast v8102
  let c0_9234 : Index := 0#32
  ![0, v8105.toNat, 0]

def k0_chk1008 (v8102 : BitVec 32) : Prop :=
  (∀ a, (k0_off2016 v8102) a + S7x1x512.size a ≤ S7x50x512.size a)
theorem k0_off2016_inb : ∀ (v8102 : BitVec 32) (k0_hw1008 : k0_chk1008 v8102), ∀ a, (k0_off2016 v8102) a + S7x1x512.size a ≤ S7x50x512.size a := fun v8102 k0_hw1008 => k0_hw1008

def k0_off2017 (i : grid0.Coords) : Fin 3 → Nat :=
  let c0_9240 : Index := 0#32
  let c0_9241 : Index := 0#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8114 : Index := Scalar.indexCast v8113
  ![0, 0, v8114.toNat]
def k0_off2018 (v8115 : BitVec 32) : Fin 3 → Nat :=
  let v8116 : Index := Scalar.indexCast v8115
  let c0_9242 : Index := 0#32
  let c0_9243 : Index := 0#32
  ![v8116.toNat, 0, 0]

def k0_chk1009 (v8115 : BitVec 32) : Prop :=
  (∀ a, (k0_off2018 v8115) a + S1x50x512.size a ≤ S250x50x512.size a)
theorem k0_off2018_inb : ∀ (v8115 : BitVec 32) (k0_hw1009 : k0_chk1009 v8115), ∀ a, (k0_off2018 v8115) a + S1x50x512.size a ≤ S250x50x512.size a := fun v8115 k0_hw1009 => k0_hw1009

def k0_off2019 (i : grid0.Coords) : Fin 3 → Nat :=
  let c1_9251 : Index := 1#32
  let c0_9252 : Index := 0#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8124 : Index := Scalar.indexCast v8113
  ![1, 0, v8124.toNat]
def k0_off2020 (v8125 : BitVec 32) : Fin 3 → Nat :=
  let v8126 : Index := Scalar.indexCast v8125
  let c0_9253 : Index := 0#32
  let c0_9254 : Index := 0#32
  ![v8126.toNat, 0, 0]

def k0_chk1010 (v8125 : BitVec 32) : Prop :=
  (∀ a, (k0_off2020 v8125) a + S1x50x512.size a ≤ S250x50x512.size a)
theorem k0_off2020_inb : ∀ (v8125 : BitVec 32) (k0_hw1010 : k0_chk1010 v8125), ∀ a, (k0_off2020 v8125) a + S1x50x512.size a ≤ S250x50x512.size a := fun v8125 k0_hw1010 => k0_hw1010

def k0_off2021 (i : grid0.Coords) : Fin 3 → Nat :=
  let c2_9262 : Index := 2#32
  let c0_9263 : Index := 0#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8134 : Index := Scalar.indexCast v8113
  ![2, 0, v8134.toNat]
def k0_off2022 (v8135 : BitVec 32) : Fin 3 → Nat :=
  let v8136 : Index := Scalar.indexCast v8135
  let c0_9264 : Index := 0#32
  let c0_9265 : Index := 0#32
  ![v8136.toNat, 0, 0]

def k0_chk1011 (v8135 : BitVec 32) : Prop :=
  (∀ a, (k0_off2022 v8135) a + S1x50x512.size a ≤ S250x50x512.size a)
theorem k0_off2022_inb : ∀ (v8135 : BitVec 32) (k0_hw1011 : k0_chk1011 v8135), ∀ a, (k0_off2022 v8135) a + S1x50x512.size a ≤ S250x50x512.size a := fun v8135 k0_hw1011 => k0_hw1011

def k0_off2023 (i : grid0.Coords) : Fin 3 → Nat :=
  let c3_9273 : Index := 3#32
  let c0_9274 : Index := 0#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8144 : Index := Scalar.indexCast v8113
  ![3, 0, v8144.toNat]
def k0_off2024 (v8145 : BitVec 32) : Fin 3 → Nat :=
  let v8146 : Index := Scalar.indexCast v8145
  let c0_9275 : Index := 0#32
  let c0_9276 : Index := 0#32
  ![v8146.toNat, 0, 0]

def k0_chk1012 (v8145 : BitVec 32) : Prop :=
  (∀ a, (k0_off2024 v8145) a + S1x50x512.size a ≤ S250x50x512.size a)
theorem k0_off2024_inb : ∀ (v8145 : BitVec 32) (k0_hw1012 : k0_chk1012 v8145), ∀ a, (k0_off2024 v8145) a + S1x50x512.size a ≤ S250x50x512.size a := fun v8145 k0_hw1012 => k0_hw1012

def k0_off2025 (i : grid0.Coords) : Fin 3 → Nat :=
  let c4_9284 : Index := 4#32
  let c0_9285 : Index := 0#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8154 : Index := Scalar.indexCast v8113
  ![4, 0, v8154.toNat]
def k0_off2026 (v8155 : BitVec 32) : Fin 3 → Nat :=
  let v8156 : Index := Scalar.indexCast v8155
  let c0_9286 : Index := 0#32
  let c0_9287 : Index := 0#32
  ![v8156.toNat, 0, 0]

def k0_chk1013 (v8155 : BitVec 32) : Prop :=
  (∀ a, (k0_off2026 v8155) a + S1x50x512.size a ≤ S250x50x512.size a)
theorem k0_off2026_inb : ∀ (v8155 : BitVec 32) (k0_hw1013 : k0_chk1013 v8155), ∀ a, (k0_off2026 v8155) a + S1x50x512.size a ≤ S250x50x512.size a := fun v8155 k0_hw1013 => k0_hw1013

def k0_off2027 (i : grid0.Coords) : Fin 3 → Nat :=
  let c5_9295 : Index := 5#32
  let c0_9296 : Index := 0#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8164 : Index := Scalar.indexCast v8113
  ![5, 0, v8164.toNat]
def k0_off2028 (v8165 : BitVec 32) : Fin 3 → Nat :=
  let v8166 : Index := Scalar.indexCast v8165
  let c0_9297 : Index := 0#32
  let c0_9298 : Index := 0#32
  ![v8166.toNat, 0, 0]

def k0_chk1014 (v8165 : BitVec 32) : Prop :=
  (∀ a, (k0_off2028 v8165) a + S1x50x512.size a ≤ S250x50x512.size a)
theorem k0_off2028_inb : ∀ (v8165 : BitVec 32) (k0_hw1014 : k0_chk1014 v8165), ∀ a, (k0_off2028 v8165) a + S1x50x512.size a ≤ S250x50x512.size a := fun v8165 k0_hw1014 => k0_hw1014

def k0_off2029 (i : grid0.Coords) : Fin 3 → Nat :=
  let c6_9306 : Index := 6#32
  let c0_9307 : Index := 0#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8174 : Index := Scalar.indexCast v8113
  ![6, 0, v8174.toNat]
def k0_off2030 (v8175 : BitVec 32) : Fin 3 → Nat :=
  let v8176 : Index := Scalar.indexCast v8175
  let c0_9308 : Index := 0#32
  let c0_9309 : Index := 0#32
  ![v8176.toNat, 0, 0]

def k0_chk1015 (v8175 : BitVec 32) : Prop :=
  (∀ a, (k0_off2030 v8175) a + S1x50x512.size a ≤ S250x50x512.size a)
theorem k0_off2030_inb : ∀ (v8175 : BitVec 32) (k0_hw1015 : k0_chk1015 v8175), ∀ a, (k0_off2030 v8175) a + S1x50x512.size a ≤ S250x50x512.size a := fun v8175 k0_hw1015 => k0_hw1015

def k0_off2031 (i : grid0.Coords) : Fin 3 → Nat :=
  let c0_9317 : Index := 0#32
  let c2_9318 : Index := 2#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8184 : Index := Scalar.indexCast v8113
  ![0, 2, v8184.toNat]
def k0_off2032 (v8185 : BitVec 32) : Fin 3 → Nat :=
  let c0_9323 : Index := 0#32
  let v8188 : Index := Scalar.indexCast v8185
  let c0_9324 : Index := 0#32
  ![0, v8188.toNat, 0]

def k0_chk1016 (v8185 : BitVec 32) : Prop :=
  (∀ a, (k0_off2032 v8185) a + S7x1x512.size a ≤ S7x50x512.size a)
theorem k0_off2032_inb : ∀ (v8185 : BitVec 32) (k0_hw1016 : k0_chk1016 v8185), ∀ a, (k0_off2032 v8185) a + S7x1x512.size a ≤ S7x50x512.size a := fun v8185 k0_hw1016 => k0_hw1016

def k0_off2033 (i : grid0.Coords) : Fin 3 → Nat :=
  let c0_9325 : Index := 0#32
  let c3_9326 : Index := 3#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8190 : Index := Scalar.indexCast v8113
  ![0, 3, v8190.toNat]
def k0_off2034 (v8191 : BitVec 32) : Fin 3 → Nat :=
  let c0_9331 : Index := 0#32
  let v8194 : Index := Scalar.indexCast v8191
  let c0_9332 : Index := 0#32
  ![0, v8194.toNat, 0]

def k0_chk1017 (v8191 : BitVec 32) : Prop :=
  (∀ a, (k0_off2034 v8191) a + S7x1x512.size a ≤ S7x50x512.size a)
theorem k0_off2034_inb : ∀ (v8191 : BitVec 32) (k0_hw1017 : k0_chk1017 v8191), ∀ a, (k0_off2034 v8191) a + S7x1x512.size a ≤ S7x50x512.size a := fun v8191 k0_hw1017 => k0_hw1017

def k0_off2035 (i : grid0.Coords) : Fin 3 → Nat :=
  let c0_9333 : Index := 0#32
  let c4_9334 : Index := 4#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8197 : Index := Scalar.indexCast v8113
  ![0, 4, v8197.toNat]
def k0_off2036 (v8198 : BitVec 32) : Fin 3 → Nat :=
  let c0_9339 : Index := 0#32
  let v8201 : Index := Scalar.indexCast v8198
  let c0_9340 : Index := 0#32
  ![0, v8201.toNat, 0]

def k0_chk1018 (v8198 : BitVec 32) : Prop :=
  (∀ a, (k0_off2036 v8198) a + S7x1x512.size a ≤ S7x50x512.size a)
theorem k0_off2036_inb : ∀ (v8198 : BitVec 32) (k0_hw1018 : k0_chk1018 v8198), ∀ a, (k0_off2036 v8198) a + S7x1x512.size a ≤ S7x50x512.size a := fun v8198 k0_hw1018 => k0_hw1018

def k0_off2037 (i : grid0.Coords) : Fin 3 → Nat :=
  let c0_9341 : Index := 0#32
  let c5_9342 : Index := 5#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8204 : Index := Scalar.indexCast v8113
  ![0, 5, v8204.toNat]
def k0_off2038 (v8205 : BitVec 32) : Fin 3 → Nat :=
  let c0_9347 : Index := 0#32
  let v8208 : Index := Scalar.indexCast v8205
  let c0_9348 : Index := 0#32
  ![0, v8208.toNat, 0]

def k0_chk1019 (v8205 : BitVec 32) : Prop :=
  (∀ a, (k0_off2038 v8205) a + S7x1x512.size a ≤ S7x50x512.size a)
theorem k0_off2038_inb : ∀ (v8205 : BitVec 32) (k0_hw1019 : k0_chk1019 v8205), ∀ a, (k0_off2038 v8205) a + S7x1x512.size a ≤ S7x50x512.size a := fun v8205 k0_hw1019 => k0_hw1019

def k0_off2039 (i : grid0.Coords) : Fin 3 → Nat :=
  let c0_9349 : Index := 0#32
  let c6_9350 : Index := 6#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8211 : Index := Scalar.indexCast v8113
  ![0, 6, v8211.toNat]
def k0_off2040 (v8212 : BitVec 32) : Fin 3 → Nat :=
  let c0_9355 : Index := 0#32
  let v8215 : Index := Scalar.indexCast v8212
  let c0_9356 : Index := 0#32
  ![0, v8215.toNat, 0]

def k0_chk1020 (v8212 : BitVec 32) : Prop :=
  (∀ a, (k0_off2040 v8212) a + S7x1x512.size a ≤ S7x50x512.size a)
theorem k0_off2040_inb : ∀ (v8212 : BitVec 32) (k0_hw1020 : k0_chk1020 v8212), ∀ a, (k0_off2040 v8212) a + S7x1x512.size a ≤ S7x50x512.size a := fun v8212 k0_hw1020 => k0_hw1020

def k0_off2041 (i : grid0.Coords) : Fin 3 → Nat :=
  let c1_9360 : Index := 1#32
  let c2_9361 : Index := 2#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8222 : Index := Scalar.indexCast v8113
  ![1, 2, v8222.toNat]
def k0_off2042 (v8223 : BitVec 32) : Fin 3 → Nat :=
  let c0_9366 : Index := 0#32
  let v8226 : Index := Scalar.indexCast v8223
  let c0_9367 : Index := 0#32
  ![0, v8226.toNat, 0]

def k0_chk1021 (v8223 : BitVec 32) : Prop :=
  (∀ a, (k0_off2042 v8223) a + S7x1x512.size a ≤ S7x50x512.size a)
theorem k0_off2042_inb : ∀ (v8223 : BitVec 32) (k0_hw1021 : k0_chk1021 v8223), ∀ a, (k0_off2042 v8223) a + S7x1x512.size a ≤ S7x50x512.size a := fun v8223 k0_hw1021 => k0_hw1021

def k0_off2043 (i : grid0.Coords) : Fin 3 → Nat :=
  let c1_9368 : Index := 1#32
  let c3_9369 : Index := 3#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8228 : Index := Scalar.indexCast v8113
  ![1, 3, v8228.toNat]
def k0_off2044 (v8229 : BitVec 32) : Fin 3 → Nat :=
  let c0_9374 : Index := 0#32
  let v8232 : Index := Scalar.indexCast v8229
  let c0_9375 : Index := 0#32
  ![0, v8232.toNat, 0]

def k0_chk1022 (v8229 : BitVec 32) : Prop :=
  (∀ a, (k0_off2044 v8229) a + S7x1x512.size a ≤ S7x50x512.size a)
theorem k0_off2044_inb : ∀ (v8229 : BitVec 32) (k0_hw1022 : k0_chk1022 v8229), ∀ a, (k0_off2044 v8229) a + S7x1x512.size a ≤ S7x50x512.size a := fun v8229 k0_hw1022 => k0_hw1022

def k0_off2045 (i : grid0.Coords) : Fin 3 → Nat :=
  let c1_9376 : Index := 1#32
  let c4_9377 : Index := 4#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8235 : Index := Scalar.indexCast v8113
  ![1, 4, v8235.toNat]
def k0_off2046 (v8236 : BitVec 32) : Fin 3 → Nat :=
  let c0_9382 : Index := 0#32
  let v8239 : Index := Scalar.indexCast v8236
  let c0_9383 : Index := 0#32
  ![0, v8239.toNat, 0]

def k0_chk1023 (v8236 : BitVec 32) : Prop :=
  (∀ a, (k0_off2046 v8236) a + S7x1x512.size a ≤ S7x50x512.size a)
theorem k0_off2046_inb : ∀ (v8236 : BitVec 32) (k0_hw1023 : k0_chk1023 v8236), ∀ a, (k0_off2046 v8236) a + S7x1x512.size a ≤ S7x50x512.size a := fun v8236 k0_hw1023 => k0_hw1023

def k0_off2047 (i : grid0.Coords) : Fin 3 → Nat :=
  let c1_9384 : Index := 1#32
  let c5_9385 : Index := 5#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8242 : Index := Scalar.indexCast v8113
  ![1, 5, v8242.toNat]
def k0_off2048 (v8243 : BitVec 32) : Fin 3 → Nat :=
  let c0_9390 : Index := 0#32
  let v8246 : Index := Scalar.indexCast v8243
  let c0_9391 : Index := 0#32
  ![0, v8246.toNat, 0]

def k0_chk1024 (v8243 : BitVec 32) : Prop :=
  (∀ a, (k0_off2048 v8243) a + S7x1x512.size a ≤ S7x50x512.size a)
theorem k0_off2048_inb : ∀ (v8243 : BitVec 32) (k0_hw1024 : k0_chk1024 v8243), ∀ a, (k0_off2048 v8243) a + S7x1x512.size a ≤ S7x50x512.size a := fun v8243 k0_hw1024 => k0_hw1024

def k0_off2049 (i : grid0.Coords) : Fin 3 → Nat :=
  let c1_9392 : Index := 1#32
  let c6_9393 : Index := 6#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8249 : Index := Scalar.indexCast v8113
  ![1, 6, v8249.toNat]
def k0_off2050 (v8250 : BitVec 32) : Fin 3 → Nat :=
  let c0_9398 : Index := 0#32
  let v8253 : Index := Scalar.indexCast v8250
  let c0_9399 : Index := 0#32
  ![0, v8253.toNat, 0]

def k0_chk1025 (v8250 : BitVec 32) : Prop :=
  (∀ a, (k0_off2050 v8250) a + S7x1x512.size a ≤ S7x50x512.size a)
theorem k0_off2050_inb : ∀ (v8250 : BitVec 32) (k0_hw1025 : k0_chk1025 v8250), ∀ a, (k0_off2050 v8250) a + S7x1x512.size a ≤ S7x50x512.size a := fun v8250 k0_hw1025 => k0_hw1025

def k0_off2051 (i : grid0.Coords) : Fin 3 → Nat :=
  let c2_9404 : Index := 2#32
  let c2_9405 : Index := 2#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8260 : Index := Scalar.indexCast v8113
  ![2, 2, v8260.toNat]
def k0_off2052 (v8261 : BitVec 32) : Fin 3 → Nat :=
  let c0_9410 : Index := 0#32
  let v8264 : Index := Scalar.indexCast v8261
  let c0_9411 : Index := 0#32
  ![0, v8264.toNat, 0]

def k0_chk1026 (v8261 : BitVec 32) : Prop :=
  (∀ a, (k0_off2052 v8261) a + S7x1x512.size a ≤ S7x50x512.size a)
theorem k0_off2052_inb : ∀ (v8261 : BitVec 32) (k0_hw1026 : k0_chk1026 v8261), ∀ a, (k0_off2052 v8261) a + S7x1x512.size a ≤ S7x50x512.size a := fun v8261 k0_hw1026 => k0_hw1026

def k0_off2053 (i : grid0.Coords) : Fin 3 → Nat :=
  let c2_9412 : Index := 2#32
  let c3_9413 : Index := 3#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8266 : Index := Scalar.indexCast v8113
  ![2, 3, v8266.toNat]
def k0_off2054 (v8267 : BitVec 32) : Fin 3 → Nat :=
  let c0_9418 : Index := 0#32
  let v8270 : Index := Scalar.indexCast v8267
  let c0_9419 : Index := 0#32
  ![0, v8270.toNat, 0]

def k0_chk1027 (v8267 : BitVec 32) : Prop :=
  (∀ a, (k0_off2054 v8267) a + S7x1x512.size a ≤ S7x50x512.size a)
theorem k0_off2054_inb : ∀ (v8267 : BitVec 32) (k0_hw1027 : k0_chk1027 v8267), ∀ a, (k0_off2054 v8267) a + S7x1x512.size a ≤ S7x50x512.size a := fun v8267 k0_hw1027 => k0_hw1027

def k0_off2055 (i : grid0.Coords) : Fin 3 → Nat :=
  let c2_9420 : Index := 2#32
  let c4_9421 : Index := 4#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8273 : Index := Scalar.indexCast v8113
  ![2, 4, v8273.toNat]
def k0_off2056 (v8274 : BitVec 32) : Fin 3 → Nat :=
  let c0_9426 : Index := 0#32
  let v8277 : Index := Scalar.indexCast v8274
  let c0_9427 : Index := 0#32
  ![0, v8277.toNat, 0]

def k0_chk1028 (v8274 : BitVec 32) : Prop :=
  (∀ a, (k0_off2056 v8274) a + S7x1x512.size a ≤ S7x50x512.size a)
theorem k0_off2056_inb : ∀ (v8274 : BitVec 32) (k0_hw1028 : k0_chk1028 v8274), ∀ a, (k0_off2056 v8274) a + S7x1x512.size a ≤ S7x50x512.size a := fun v8274 k0_hw1028 => k0_hw1028

def k0_off2057 (i : grid0.Coords) : Fin 3 → Nat :=
  let c2_9428 : Index := 2#32
  let c5_9429 : Index := 5#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8280 : Index := Scalar.indexCast v8113
  ![2, 5, v8280.toNat]
def k0_off2058 (v8281 : BitVec 32) : Fin 3 → Nat :=
  let c0_9434 : Index := 0#32
  let v8284 : Index := Scalar.indexCast v8281
  let c0_9435 : Index := 0#32
  ![0, v8284.toNat, 0]

def k0_chk1029 (v8281 : BitVec 32) : Prop :=
  (∀ a, (k0_off2058 v8281) a + S7x1x512.size a ≤ S7x50x512.size a)
theorem k0_off2058_inb : ∀ (v8281 : BitVec 32) (k0_hw1029 : k0_chk1029 v8281), ∀ a, (k0_off2058 v8281) a + S7x1x512.size a ≤ S7x50x512.size a := fun v8281 k0_hw1029 => k0_hw1029

def k0_off2059 (i : grid0.Coords) : Fin 3 → Nat :=
  let c2_9436 : Index := 2#32
  let c6_9437 : Index := 6#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8287 : Index := Scalar.indexCast v8113
  ![2, 6, v8287.toNat]
def k0_off2060 (v8288 : BitVec 32) : Fin 3 → Nat :=
  let c0_9442 : Index := 0#32
  let v8291 : Index := Scalar.indexCast v8288
  let c0_9443 : Index := 0#32
  ![0, v8291.toNat, 0]

def k0_chk1030 (v8288 : BitVec 32) : Prop :=
  (∀ a, (k0_off2060 v8288) a + S7x1x512.size a ≤ S7x50x512.size a)
theorem k0_off2060_inb : ∀ (v8288 : BitVec 32) (k0_hw1030 : k0_chk1030 v8288), ∀ a, (k0_off2060 v8288) a + S7x1x512.size a ≤ S7x50x512.size a := fun v8288 k0_hw1030 => k0_hw1030

def k0_off2061 (i : grid0.Coords) : Fin 3 → Nat :=
  let c3_9448 : Index := 3#32
  let c2_9449 : Index := 2#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8298 : Index := Scalar.indexCast v8113
  ![3, 2, v8298.toNat]
def k0_off2062 (v8299 : BitVec 32) : Fin 3 → Nat :=
  let c0_9454 : Index := 0#32
  let v8302 : Index := Scalar.indexCast v8299
  let c0_9455 : Index := 0#32
  ![0, v8302.toNat, 0]

def k0_chk1031 (v8299 : BitVec 32) : Prop :=
  (∀ a, (k0_off2062 v8299) a + S7x1x512.size a ≤ S7x50x512.size a)
theorem k0_off2062_inb : ∀ (v8299 : BitVec 32) (k0_hw1031 : k0_chk1031 v8299), ∀ a, (k0_off2062 v8299) a + S7x1x512.size a ≤ S7x50x512.size a := fun v8299 k0_hw1031 => k0_hw1031

def k0_off2063 (i : grid0.Coords) : Fin 3 → Nat :=
  let c3_9456 : Index := 3#32
  let c3_9457 : Index := 3#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8304 : Index := Scalar.indexCast v8113
  ![3, 3, v8304.toNat]
def k0_off2064 (v8305 : BitVec 32) : Fin 3 → Nat :=
  let c0_9462 : Index := 0#32
  let v8308 : Index := Scalar.indexCast v8305
  let c0_9463 : Index := 0#32
  ![0, v8308.toNat, 0]

def k0_chk1032 (v8305 : BitVec 32) : Prop :=
  (∀ a, (k0_off2064 v8305) a + S7x1x512.size a ≤ S7x50x512.size a)
theorem k0_off2064_inb : ∀ (v8305 : BitVec 32) (k0_hw1032 : k0_chk1032 v8305), ∀ a, (k0_off2064 v8305) a + S7x1x512.size a ≤ S7x50x512.size a := fun v8305 k0_hw1032 => k0_hw1032

def k0_off2065 (i : grid0.Coords) : Fin 3 → Nat :=
  let c3_9464 : Index := 3#32
  let c4_9465 : Index := 4#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8311 : Index := Scalar.indexCast v8113
  ![3, 4, v8311.toNat]
def k0_off2066 (v8312 : BitVec 32) : Fin 3 → Nat :=
  let c0_9470 : Index := 0#32
  let v8315 : Index := Scalar.indexCast v8312
  let c0_9471 : Index := 0#32
  ![0, v8315.toNat, 0]

def k0_chk1033 (v8312 : BitVec 32) : Prop :=
  (∀ a, (k0_off2066 v8312) a + S7x1x512.size a ≤ S7x50x512.size a)
theorem k0_off2066_inb : ∀ (v8312 : BitVec 32) (k0_hw1033 : k0_chk1033 v8312), ∀ a, (k0_off2066 v8312) a + S7x1x512.size a ≤ S7x50x512.size a := fun v8312 k0_hw1033 => k0_hw1033

def k0_off2067 (i : grid0.Coords) : Fin 3 → Nat :=
  let c3_9472 : Index := 3#32
  let c5_9473 : Index := 5#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8318 : Index := Scalar.indexCast v8113
  ![3, 5, v8318.toNat]
def k0_off2068 (v8319 : BitVec 32) : Fin 3 → Nat :=
  let c0_9478 : Index := 0#32
  let v8322 : Index := Scalar.indexCast v8319
  let c0_9479 : Index := 0#32
  ![0, v8322.toNat, 0]

def k0_chk1034 (v8319 : BitVec 32) : Prop :=
  (∀ a, (k0_off2068 v8319) a + S7x1x512.size a ≤ S7x50x512.size a)
theorem k0_off2068_inb : ∀ (v8319 : BitVec 32) (k0_hw1034 : k0_chk1034 v8319), ∀ a, (k0_off2068 v8319) a + S7x1x512.size a ≤ S7x50x512.size a := fun v8319 k0_hw1034 => k0_hw1034

def k0_off2069 (i : grid0.Coords) : Fin 3 → Nat :=
  let c3_9480 : Index := 3#32
  let c6_9481 : Index := 6#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8325 : Index := Scalar.indexCast v8113
  ![3, 6, v8325.toNat]
def k0_off2070 (v8326 : BitVec 32) : Fin 3 → Nat :=
  let c0_9486 : Index := 0#32
  let v8329 : Index := Scalar.indexCast v8326
  let c0_9487 : Index := 0#32
  ![0, v8329.toNat, 0]

def k0_chk1035 (v8326 : BitVec 32) : Prop :=
  (∀ a, (k0_off2070 v8326) a + S7x1x512.size a ≤ S7x50x512.size a)
theorem k0_off2070_inb : ∀ (v8326 : BitVec 32) (k0_hw1035 : k0_chk1035 v8326), ∀ a, (k0_off2070 v8326) a + S7x1x512.size a ≤ S7x50x512.size a := fun v8326 k0_hw1035 => k0_hw1035

def k0_off2071 (i : grid0.Coords) : Fin 3 → Nat :=
  let c4_9492 : Index := 4#32
  let c2_9493 : Index := 2#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8336 : Index := Scalar.indexCast v8113
  ![4, 2, v8336.toNat]
def k0_off2072 (v8337 : BitVec 32) : Fin 3 → Nat :=
  let c0_9498 : Index := 0#32
  let v8340 : Index := Scalar.indexCast v8337
  let c0_9499 : Index := 0#32
  ![0, v8340.toNat, 0]

def k0_chk1036 (v8337 : BitVec 32) : Prop :=
  (∀ a, (k0_off2072 v8337) a + S7x1x512.size a ≤ S7x50x512.size a)
theorem k0_off2072_inb : ∀ (v8337 : BitVec 32) (k0_hw1036 : k0_chk1036 v8337), ∀ a, (k0_off2072 v8337) a + S7x1x512.size a ≤ S7x50x512.size a := fun v8337 k0_hw1036 => k0_hw1036

def k0_off2073 (i : grid0.Coords) : Fin 3 → Nat :=
  let c4_9500 : Index := 4#32
  let c3_9501 : Index := 3#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8342 : Index := Scalar.indexCast v8113
  ![4, 3, v8342.toNat]
def k0_off2074 (v8343 : BitVec 32) : Fin 3 → Nat :=
  let c0_9506 : Index := 0#32
  let v8346 : Index := Scalar.indexCast v8343
  let c0_9507 : Index := 0#32
  ![0, v8346.toNat, 0]

def k0_chk1037 (v8343 : BitVec 32) : Prop :=
  (∀ a, (k0_off2074 v8343) a + S7x1x512.size a ≤ S7x50x512.size a)
theorem k0_off2074_inb : ∀ (v8343 : BitVec 32) (k0_hw1037 : k0_chk1037 v8343), ∀ a, (k0_off2074 v8343) a + S7x1x512.size a ≤ S7x50x512.size a := fun v8343 k0_hw1037 => k0_hw1037

def k0_off2075 (i : grid0.Coords) : Fin 3 → Nat :=
  let c4_9508 : Index := 4#32
  let c4_9509 : Index := 4#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8349 : Index := Scalar.indexCast v8113
  ![4, 4, v8349.toNat]
def k0_off2076 (v8350 : BitVec 32) : Fin 3 → Nat :=
  let c0_9514 : Index := 0#32
  let v8353 : Index := Scalar.indexCast v8350
  let c0_9515 : Index := 0#32
  ![0, v8353.toNat, 0]

def k0_chk1038 (v8350 : BitVec 32) : Prop :=
  (∀ a, (k0_off2076 v8350) a + S7x1x512.size a ≤ S7x50x512.size a)
theorem k0_off2076_inb : ∀ (v8350 : BitVec 32) (k0_hw1038 : k0_chk1038 v8350), ∀ a, (k0_off2076 v8350) a + S7x1x512.size a ≤ S7x50x512.size a := fun v8350 k0_hw1038 => k0_hw1038

def k0_off2077 (i : grid0.Coords) : Fin 3 → Nat :=
  let c4_9516 : Index := 4#32
  let c5_9517 : Index := 5#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8356 : Index := Scalar.indexCast v8113
  ![4, 5, v8356.toNat]
def k0_off2078 (v8357 : BitVec 32) : Fin 3 → Nat :=
  let c0_9522 : Index := 0#32
  let v8360 : Index := Scalar.indexCast v8357
  let c0_9523 : Index := 0#32
  ![0, v8360.toNat, 0]

def k0_chk1039 (v8357 : BitVec 32) : Prop :=
  (∀ a, (k0_off2078 v8357) a + S7x1x512.size a ≤ S7x50x512.size a)
theorem k0_off2078_inb : ∀ (v8357 : BitVec 32) (k0_hw1039 : k0_chk1039 v8357), ∀ a, (k0_off2078 v8357) a + S7x1x512.size a ≤ S7x50x512.size a := fun v8357 k0_hw1039 => k0_hw1039

def k0_off2079 (i : grid0.Coords) : Fin 3 → Nat :=
  let c4_9524 : Index := 4#32
  let c6_9525 : Index := 6#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8363 : Index := Scalar.indexCast v8113
  ![4, 6, v8363.toNat]
def k0_off2080 (v8364 : BitVec 32) : Fin 3 → Nat :=
  let c0_9530 : Index := 0#32
  let v8367 : Index := Scalar.indexCast v8364
  let c0_9531 : Index := 0#32
  ![0, v8367.toNat, 0]

def k0_chk1040 (v8364 : BitVec 32) : Prop :=
  (∀ a, (k0_off2080 v8364) a + S7x1x512.size a ≤ S7x50x512.size a)
theorem k0_off2080_inb : ∀ (v8364 : BitVec 32) (k0_hw1040 : k0_chk1040 v8364), ∀ a, (k0_off2080 v8364) a + S7x1x512.size a ≤ S7x50x512.size a := fun v8364 k0_hw1040 => k0_hw1040

def k0_off2081 (i : grid0.Coords) : Fin 3 → Nat :=
  let c5_9536 : Index := 5#32
  let c2_9537 : Index := 2#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8374 : Index := Scalar.indexCast v8113
  ![5, 2, v8374.toNat]
def k0_off2082 (v8375 : BitVec 32) : Fin 3 → Nat :=
  let c0_9542 : Index := 0#32
  let v8378 : Index := Scalar.indexCast v8375
  let c0_9543 : Index := 0#32
  ![0, v8378.toNat, 0]

def k0_chk1041 (v8375 : BitVec 32) : Prop :=
  (∀ a, (k0_off2082 v8375) a + S7x1x512.size a ≤ S7x50x512.size a)
theorem k0_off2082_inb : ∀ (v8375 : BitVec 32) (k0_hw1041 : k0_chk1041 v8375), ∀ a, (k0_off2082 v8375) a + S7x1x512.size a ≤ S7x50x512.size a := fun v8375 k0_hw1041 => k0_hw1041

def k0_off2083 (i : grid0.Coords) : Fin 3 → Nat :=
  let c5_9544 : Index := 5#32
  let c3_9545 : Index := 3#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8380 : Index := Scalar.indexCast v8113
  ![5, 3, v8380.toNat]
def k0_off2084 (v8381 : BitVec 32) : Fin 3 → Nat :=
  let c0_9550 : Index := 0#32
  let v8384 : Index := Scalar.indexCast v8381
  let c0_9551 : Index := 0#32
  ![0, v8384.toNat, 0]

def k0_chk1042 (v8381 : BitVec 32) : Prop :=
  (∀ a, (k0_off2084 v8381) a + S7x1x512.size a ≤ S7x50x512.size a)
theorem k0_off2084_inb : ∀ (v8381 : BitVec 32) (k0_hw1042 : k0_chk1042 v8381), ∀ a, (k0_off2084 v8381) a + S7x1x512.size a ≤ S7x50x512.size a := fun v8381 k0_hw1042 => k0_hw1042

def k0_off2085 (i : grid0.Coords) : Fin 3 → Nat :=
  let c5_9552 : Index := 5#32
  let c4_9553 : Index := 4#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8387 : Index := Scalar.indexCast v8113
  ![5, 4, v8387.toNat]
def k0_off2086 (v8388 : BitVec 32) : Fin 3 → Nat :=
  let c0_9558 : Index := 0#32
  let v8391 : Index := Scalar.indexCast v8388
  let c0_9559 : Index := 0#32
  ![0, v8391.toNat, 0]

def k0_chk1043 (v8388 : BitVec 32) : Prop :=
  (∀ a, (k0_off2086 v8388) a + S7x1x512.size a ≤ S7x50x512.size a)
theorem k0_off2086_inb : ∀ (v8388 : BitVec 32) (k0_hw1043 : k0_chk1043 v8388), ∀ a, (k0_off2086 v8388) a + S7x1x512.size a ≤ S7x50x512.size a := fun v8388 k0_hw1043 => k0_hw1043

def k0_off2087 (i : grid0.Coords) : Fin 3 → Nat :=
  let c5_9560 : Index := 5#32
  let c5_9561 : Index := 5#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8394 : Index := Scalar.indexCast v8113
  ![5, 5, v8394.toNat]
def k0_off2088 (v8395 : BitVec 32) : Fin 3 → Nat :=
  let c0_9566 : Index := 0#32
  let v8398 : Index := Scalar.indexCast v8395
  let c0_9567 : Index := 0#32
  ![0, v8398.toNat, 0]

def k0_chk1044 (v8395 : BitVec 32) : Prop :=
  (∀ a, (k0_off2088 v8395) a + S7x1x512.size a ≤ S7x50x512.size a)
theorem k0_off2088_inb : ∀ (v8395 : BitVec 32) (k0_hw1044 : k0_chk1044 v8395), ∀ a, (k0_off2088 v8395) a + S7x1x512.size a ≤ S7x50x512.size a := fun v8395 k0_hw1044 => k0_hw1044

def k0_off2089 (i : grid0.Coords) : Fin 3 → Nat :=
  let c5_9568 : Index := 5#32
  let c6_9569 : Index := 6#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8401 : Index := Scalar.indexCast v8113
  ![5, 6, v8401.toNat]
def k0_off2090 (v8402 : BitVec 32) : Fin 3 → Nat :=
  let c0_9574 : Index := 0#32
  let v8405 : Index := Scalar.indexCast v8402
  let c0_9575 : Index := 0#32
  ![0, v8405.toNat, 0]

def k0_chk1045 (v8402 : BitVec 32) : Prop :=
  (∀ a, (k0_off2090 v8402) a + S7x1x512.size a ≤ S7x50x512.size a)
theorem k0_off2090_inb : ∀ (v8402 : BitVec 32) (k0_hw1045 : k0_chk1045 v8402), ∀ a, (k0_off2090 v8402) a + S7x1x512.size a ≤ S7x50x512.size a := fun v8402 k0_hw1045 => k0_hw1045

def k0_off2091 (i : grid0.Coords) : Fin 3 → Nat :=
  let c6_9580 : Index := 6#32
  let c2_9581 : Index := 2#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8412 : Index := Scalar.indexCast v8113
  ![6, 2, v8412.toNat]
def k0_off2092 (v8413 : BitVec 32) : Fin 3 → Nat :=
  let c0_9586 : Index := 0#32
  let v8416 : Index := Scalar.indexCast v8413
  let c0_9587 : Index := 0#32
  ![0, v8416.toNat, 0]

def k0_chk1046 (v8413 : BitVec 32) : Prop :=
  (∀ a, (k0_off2092 v8413) a + S7x1x512.size a ≤ S7x50x512.size a)
theorem k0_off2092_inb : ∀ (v8413 : BitVec 32) (k0_hw1046 : k0_chk1046 v8413), ∀ a, (k0_off2092 v8413) a + S7x1x512.size a ≤ S7x50x512.size a := fun v8413 k0_hw1046 => k0_hw1046

def k0_off2093 (i : grid0.Coords) : Fin 3 → Nat :=
  let c6_9588 : Index := 6#32
  let c3_9589 : Index := 3#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8418 : Index := Scalar.indexCast v8113
  ![6, 3, v8418.toNat]
def k0_off2094 (v8419 : BitVec 32) : Fin 3 → Nat :=
  let c0_9594 : Index := 0#32
  let v8422 : Index := Scalar.indexCast v8419
  let c0_9595 : Index := 0#32
  ![0, v8422.toNat, 0]

def k0_chk1047 (v8419 : BitVec 32) : Prop :=
  (∀ a, (k0_off2094 v8419) a + S7x1x512.size a ≤ S7x50x512.size a)
theorem k0_off2094_inb : ∀ (v8419 : BitVec 32) (k0_hw1047 : k0_chk1047 v8419), ∀ a, (k0_off2094 v8419) a + S7x1x512.size a ≤ S7x50x512.size a := fun v8419 k0_hw1047 => k0_hw1047

def k0_off2095 (i : grid0.Coords) : Fin 3 → Nat :=
  let c6_9596 : Index := 6#32
  let c4_9597 : Index := 4#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8425 : Index := Scalar.indexCast v8113
  ![6, 4, v8425.toNat]
def k0_off2096 (v8426 : BitVec 32) : Fin 3 → Nat :=
  let c0_9602 : Index := 0#32
  let v8429 : Index := Scalar.indexCast v8426
  let c0_9603 : Index := 0#32
  ![0, v8429.toNat, 0]

def k0_chk1048 (v8426 : BitVec 32) : Prop :=
  (∀ a, (k0_off2096 v8426) a + S7x1x512.size a ≤ S7x50x512.size a)
theorem k0_off2096_inb : ∀ (v8426 : BitVec 32) (k0_hw1048 : k0_chk1048 v8426), ∀ a, (k0_off2096 v8426) a + S7x1x512.size a ≤ S7x50x512.size a := fun v8426 k0_hw1048 => k0_hw1048

def k0_off2097 (i : grid0.Coords) : Fin 3 → Nat :=
  let c6_9604 : Index := 6#32
  let c5_9605 : Index := 5#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8432 : Index := Scalar.indexCast v8113
  ![6, 5, v8432.toNat]
def k0_off2098 (v8433 : BitVec 32) : Fin 3 → Nat :=
  let c0_9610 : Index := 0#32
  let v8436 : Index := Scalar.indexCast v8433
  let c0_9611 : Index := 0#32
  ![0, v8436.toNat, 0]

def k0_chk1049 (v8433 : BitVec 32) : Prop :=
  (∀ a, (k0_off2098 v8433) a + S7x1x512.size a ≤ S7x50x512.size a)
theorem k0_off2098_inb : ∀ (v8433 : BitVec 32) (k0_hw1049 : k0_chk1049 v8433), ∀ a, (k0_off2098 v8433) a + S7x1x512.size a ≤ S7x50x512.size a := fun v8433 k0_hw1049 => k0_hw1049

def k0_off2099 (i : grid0.Coords) : Fin 3 → Nat :=
  let c6_9612 : Index := 6#32
  let c6_9613 : Index := 6#32
  let arg0 : BitVec 32 := BitVec.ofNat 32 (i 0).val
  let c32_i32_9239 : BitVec 32 := 32#32
  let v8112 : BitVec 32 := Scalar.muli arg0 c32_i32_9239
  let c24_i32 : BitVec 32 := 24#32
  let v8113 : BitVec 32 := Scalar.addi v8112 c24_i32
  let v8439 : Index := Scalar.indexCast v8113
  ![6, 6, v8439.toNat]
def k0_off2100 (v8440 : BitVec 32) : Fin 3 → Nat :=
  let c0_9618 : Index := 0#32
  let v8443 : Index := Scalar.indexCast v8440
  let c0_9619 : Index := 0#32
  ![0, v8443.toNat, 0]

def k0_chk1050 (v8440 : BitVec 32) : Prop :=
  (∀ a, (k0_off2100 v8440) a + S7x1x512.size a ≤ S7x50x512.size a)
theorem k0_off2100_inb : ∀ (v8440 : BitVec 32) (k0_hw1050 : k0_chk1050 v8440), ∀ a, (k0_off2100 v8440) a + S7x1x512.size a ≤ S7x50x512.size a := fun v8440 k0_hw1050 => k0_hw1050

def k0_off2101 (i : grid0.Coords) : Fin 3 → Nat :=
  let c0_9625 : Index := 0#32
  let c0_9626 : Index := 0#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8452 : Index := Scalar.indexCast v8451
  ![0, 0, v8452.toNat]
def k0_off2102 (v8453 : BitVec 32) : Fin 3 → Nat :=
  let v8454 : Index := Scalar.indexCast v8453
  let c0_9627 : Index := 0#32
  let c0_9628 : Index := 0#32
  ![v8454.toNat, 0, 0]

def k0_chk1051 (v8453 : BitVec 32) : Prop :=
  (∀ a, (k0_off2102 v8453) a + S1x50x512.size a ≤ S250x50x512.size a)
theorem k0_off2102_inb : ∀ (v8453 : BitVec 32) (k0_hw1051 : k0_chk1051 v8453), ∀ a, (k0_off2102 v8453) a + S1x50x512.size a ≤ S250x50x512.size a := fun v8453 k0_hw1051 => k0_hw1051

def k0_off2103 (i : grid0.Coords) : Fin 3 → Nat :=
  let c1_9636 : Index := 1#32
  let c0_9637 : Index := 0#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8462 : Index := Scalar.indexCast v8451
  ![1, 0, v8462.toNat]
def k0_off2104 (v8463 : BitVec 32) : Fin 3 → Nat :=
  let v8464 : Index := Scalar.indexCast v8463
  let c0_9638 : Index := 0#32
  let c0_9639 : Index := 0#32
  ![v8464.toNat, 0, 0]

def k0_chk1052 (v8463 : BitVec 32) : Prop :=
  (∀ a, (k0_off2104 v8463) a + S1x50x512.size a ≤ S250x50x512.size a)
theorem k0_off2104_inb : ∀ (v8463 : BitVec 32) (k0_hw1052 : k0_chk1052 v8463), ∀ a, (k0_off2104 v8463) a + S1x50x512.size a ≤ S250x50x512.size a := fun v8463 k0_hw1052 => k0_hw1052

def k0_off2105 (i : grid0.Coords) : Fin 3 → Nat :=
  let c2_9647 : Index := 2#32
  let c0_9648 : Index := 0#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8472 : Index := Scalar.indexCast v8451
  ![2, 0, v8472.toNat]
def k0_off2106 (v8473 : BitVec 32) : Fin 3 → Nat :=
  let v8474 : Index := Scalar.indexCast v8473
  let c0_9649 : Index := 0#32
  let c0_9650 : Index := 0#32
  ![v8474.toNat, 0, 0]

def k0_chk1053 (v8473 : BitVec 32) : Prop :=
  (∀ a, (k0_off2106 v8473) a + S1x50x512.size a ≤ S250x50x512.size a)
theorem k0_off2106_inb : ∀ (v8473 : BitVec 32) (k0_hw1053 : k0_chk1053 v8473), ∀ a, (k0_off2106 v8473) a + S1x50x512.size a ≤ S250x50x512.size a := fun v8473 k0_hw1053 => k0_hw1053

def k0_off2107 (i : grid0.Coords) : Fin 3 → Nat :=
  let c3_9658 : Index := 3#32
  let c0_9659 : Index := 0#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8482 : Index := Scalar.indexCast v8451
  ![3, 0, v8482.toNat]
def k0_off2108 (v8483 : BitVec 32) : Fin 3 → Nat :=
  let v8484 : Index := Scalar.indexCast v8483
  let c0_9660 : Index := 0#32
  let c0_9661 : Index := 0#32
  ![v8484.toNat, 0, 0]

def k0_chk1054 (v8483 : BitVec 32) : Prop :=
  (∀ a, (k0_off2108 v8483) a + S1x50x512.size a ≤ S250x50x512.size a)
theorem k0_off2108_inb : ∀ (v8483 : BitVec 32) (k0_hw1054 : k0_chk1054 v8483), ∀ a, (k0_off2108 v8483) a + S1x50x512.size a ≤ S250x50x512.size a := fun v8483 k0_hw1054 => k0_hw1054

def k0_off2109 (i : grid0.Coords) : Fin 3 → Nat :=
  let c4_9669 : Index := 4#32
  let c0_9670 : Index := 0#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8492 : Index := Scalar.indexCast v8451
  ![4, 0, v8492.toNat]
def k0_off2110 (v8493 : BitVec 32) : Fin 3 → Nat :=
  let v8494 : Index := Scalar.indexCast v8493
  let c0_9671 : Index := 0#32
  let c0_9672 : Index := 0#32
  ![v8494.toNat, 0, 0]

def k0_chk1055 (v8493 : BitVec 32) : Prop :=
  (∀ a, (k0_off2110 v8493) a + S1x50x512.size a ≤ S250x50x512.size a)
theorem k0_off2110_inb : ∀ (v8493 : BitVec 32) (k0_hw1055 : k0_chk1055 v8493), ∀ a, (k0_off2110 v8493) a + S1x50x512.size a ≤ S250x50x512.size a := fun v8493 k0_hw1055 => k0_hw1055

def k0_off2111 (i : grid0.Coords) : Fin 3 → Nat :=
  let c5_9680 : Index := 5#32
  let c0_9681 : Index := 0#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8502 : Index := Scalar.indexCast v8451
  ![5, 0, v8502.toNat]
def k0_off2112 (v8503 : BitVec 32) : Fin 3 → Nat :=
  let v8504 : Index := Scalar.indexCast v8503
  let c0_9682 : Index := 0#32
  let c0_9683 : Index := 0#32
  ![v8504.toNat, 0, 0]

def k0_chk1056 (v8503 : BitVec 32) : Prop :=
  (∀ a, (k0_off2112 v8503) a + S1x50x512.size a ≤ S250x50x512.size a)
theorem k0_off2112_inb : ∀ (v8503 : BitVec 32) (k0_hw1056 : k0_chk1056 v8503), ∀ a, (k0_off2112 v8503) a + S1x50x512.size a ≤ S250x50x512.size a := fun v8503 k0_hw1056 => k0_hw1056

def k0_off2113 (i : grid0.Coords) : Fin 3 → Nat :=
  let c6_9691 : Index := 6#32
  let c0_9692 : Index := 0#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8512 : Index := Scalar.indexCast v8451
  ![6, 0, v8512.toNat]
def k0_off2114 (v8513 : BitVec 32) : Fin 3 → Nat :=
  let v8514 : Index := Scalar.indexCast v8513
  let c0_9693 : Index := 0#32
  let c0_9694 : Index := 0#32
  ![v8514.toNat, 0, 0]

def k0_chk1057 (v8513 : BitVec 32) : Prop :=
  (∀ a, (k0_off2114 v8513) a + S1x50x512.size a ≤ S250x50x512.size a)
theorem k0_off2114_inb : ∀ (v8513 : BitVec 32) (k0_hw1057 : k0_chk1057 v8513), ∀ a, (k0_off2114 v8513) a + S1x50x512.size a ≤ S250x50x512.size a := fun v8513 k0_hw1057 => k0_hw1057

def k0_off2115 (i : grid0.Coords) : Fin 3 → Nat :=
  let c0_9702 : Index := 0#32
  let c2_9703 : Index := 2#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8522 : Index := Scalar.indexCast v8451
  ![0, 2, v8522.toNat]
def k0_off2116 (v8523 : BitVec 32) : Fin 3 → Nat :=
  let c0_9708 : Index := 0#32
  let v8526 : Index := Scalar.indexCast v8523
  let c0_9709 : Index := 0#32
  ![0, v8526.toNat, 0]

def k0_chk1058 (v8523 : BitVec 32) : Prop :=
  (∀ a, (k0_off2116 v8523) a + S7x1x512.size a ≤ S7x50x512.size a)
theorem k0_off2116_inb : ∀ (v8523 : BitVec 32) (k0_hw1058 : k0_chk1058 v8523), ∀ a, (k0_off2116 v8523) a + S7x1x512.size a ≤ S7x50x512.size a := fun v8523 k0_hw1058 => k0_hw1058

def k0_off2117 (i : grid0.Coords) : Fin 3 → Nat :=
  let c0_9710 : Index := 0#32
  let c3_9711 : Index := 3#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8528 : Index := Scalar.indexCast v8451
  ![0, 3, v8528.toNat]
def k0_off2118 (v8529 : BitVec 32) : Fin 3 → Nat :=
  let c0_9716 : Index := 0#32
  let v8532 : Index := Scalar.indexCast v8529
  let c0_9717 : Index := 0#32
  ![0, v8532.toNat, 0]

def k0_chk1059 (v8529 : BitVec 32) : Prop :=
  (∀ a, (k0_off2118 v8529) a + S7x1x512.size a ≤ S7x50x512.size a)
theorem k0_off2118_inb : ∀ (v8529 : BitVec 32) (k0_hw1059 : k0_chk1059 v8529), ∀ a, (k0_off2118 v8529) a + S7x1x512.size a ≤ S7x50x512.size a := fun v8529 k0_hw1059 => k0_hw1059

def k0_off2119 (i : grid0.Coords) : Fin 3 → Nat :=
  let c0_9718 : Index := 0#32
  let c4_9719 : Index := 4#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8535 : Index := Scalar.indexCast v8451
  ![0, 4, v8535.toNat]
def k0_off2120 (v8536 : BitVec 32) : Fin 3 → Nat :=
  let c0_9724 : Index := 0#32
  let v8539 : Index := Scalar.indexCast v8536
  let c0_9725 : Index := 0#32
  ![0, v8539.toNat, 0]

def k0_chk1060 (v8536 : BitVec 32) : Prop :=
  (∀ a, (k0_off2120 v8536) a + S7x1x512.size a ≤ S7x50x512.size a)
theorem k0_off2120_inb : ∀ (v8536 : BitVec 32) (k0_hw1060 : k0_chk1060 v8536), ∀ a, (k0_off2120 v8536) a + S7x1x512.size a ≤ S7x50x512.size a := fun v8536 k0_hw1060 => k0_hw1060

def k0_off2121 (i : grid0.Coords) : Fin 3 → Nat :=
  let c0_9726 : Index := 0#32
  let c5_9727 : Index := 5#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8542 : Index := Scalar.indexCast v8451
  ![0, 5, v8542.toNat]
def k0_off2122 (v8543 : BitVec 32) : Fin 3 → Nat :=
  let c0_9732 : Index := 0#32
  let v8546 : Index := Scalar.indexCast v8543
  let c0_9733 : Index := 0#32
  ![0, v8546.toNat, 0]

def k0_chk1061 (v8543 : BitVec 32) : Prop :=
  (∀ a, (k0_off2122 v8543) a + S7x1x512.size a ≤ S7x50x512.size a)
theorem k0_off2122_inb : ∀ (v8543 : BitVec 32) (k0_hw1061 : k0_chk1061 v8543), ∀ a, (k0_off2122 v8543) a + S7x1x512.size a ≤ S7x50x512.size a := fun v8543 k0_hw1061 => k0_hw1061

def k0_off2123 (i : grid0.Coords) : Fin 3 → Nat :=
  let c0_9734 : Index := 0#32
  let c6_9735 : Index := 6#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8549 : Index := Scalar.indexCast v8451
  ![0, 6, v8549.toNat]
def k0_off2124 (v8550 : BitVec 32) : Fin 3 → Nat :=
  let c0_9740 : Index := 0#32
  let v8553 : Index := Scalar.indexCast v8550
  let c0_9741 : Index := 0#32
  ![0, v8553.toNat, 0]

def k0_chk1062 (v8550 : BitVec 32) : Prop :=
  (∀ a, (k0_off2124 v8550) a + S7x1x512.size a ≤ S7x50x512.size a)
theorem k0_off2124_inb : ∀ (v8550 : BitVec 32) (k0_hw1062 : k0_chk1062 v8550), ∀ a, (k0_off2124 v8550) a + S7x1x512.size a ≤ S7x50x512.size a := fun v8550 k0_hw1062 => k0_hw1062

def k0_off2125 (i : grid0.Coords) : Fin 3 → Nat :=
  let c1_9745 : Index := 1#32
  let c2_9746 : Index := 2#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8560 : Index := Scalar.indexCast v8451
  ![1, 2, v8560.toNat]
def k0_off2126 (v8561 : BitVec 32) : Fin 3 → Nat :=
  let c0_9751 : Index := 0#32
  let v8564 : Index := Scalar.indexCast v8561
  let c0_9752 : Index := 0#32
  ![0, v8564.toNat, 0]

def k0_chk1063 (v8561 : BitVec 32) : Prop :=
  (∀ a, (k0_off2126 v8561) a + S7x1x512.size a ≤ S7x50x512.size a)
theorem k0_off2126_inb : ∀ (v8561 : BitVec 32) (k0_hw1063 : k0_chk1063 v8561), ∀ a, (k0_off2126 v8561) a + S7x1x512.size a ≤ S7x50x512.size a := fun v8561 k0_hw1063 => k0_hw1063

def k0_off2127 (i : grid0.Coords) : Fin 3 → Nat :=
  let c1_9753 : Index := 1#32
  let c3_9754 : Index := 3#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8566 : Index := Scalar.indexCast v8451
  ![1, 3, v8566.toNat]
def k0_off2128 (v8567 : BitVec 32) : Fin 3 → Nat :=
  let c0_9759 : Index := 0#32
  let v8570 : Index := Scalar.indexCast v8567
  let c0_9760 : Index := 0#32
  ![0, v8570.toNat, 0]

def k0_chk1064 (v8567 : BitVec 32) : Prop :=
  (∀ a, (k0_off2128 v8567) a + S7x1x512.size a ≤ S7x50x512.size a)
theorem k0_off2128_inb : ∀ (v8567 : BitVec 32) (k0_hw1064 : k0_chk1064 v8567), ∀ a, (k0_off2128 v8567) a + S7x1x512.size a ≤ S7x50x512.size a := fun v8567 k0_hw1064 => k0_hw1064

def k0_off2129 (i : grid0.Coords) : Fin 3 → Nat :=
  let c1_9761 : Index := 1#32
  let c4_9762 : Index := 4#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8573 : Index := Scalar.indexCast v8451
  ![1, 4, v8573.toNat]
def k0_off2130 (v8574 : BitVec 32) : Fin 3 → Nat :=
  let c0_9767 : Index := 0#32
  let v8577 : Index := Scalar.indexCast v8574
  let c0_9768 : Index := 0#32
  ![0, v8577.toNat, 0]

def k0_chk1065 (v8574 : BitVec 32) : Prop :=
  (∀ a, (k0_off2130 v8574) a + S7x1x512.size a ≤ S7x50x512.size a)
theorem k0_off2130_inb : ∀ (v8574 : BitVec 32) (k0_hw1065 : k0_chk1065 v8574), ∀ a, (k0_off2130 v8574) a + S7x1x512.size a ≤ S7x50x512.size a := fun v8574 k0_hw1065 => k0_hw1065

def k0_off2131 (i : grid0.Coords) : Fin 3 → Nat :=
  let c1_9769 : Index := 1#32
  let c5_9770 : Index := 5#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8580 : Index := Scalar.indexCast v8451
  ![1, 5, v8580.toNat]
def k0_off2132 (v8581 : BitVec 32) : Fin 3 → Nat :=
  let c0_9775 : Index := 0#32
  let v8584 : Index := Scalar.indexCast v8581
  let c0_9776 : Index := 0#32
  ![0, v8584.toNat, 0]

def k0_chk1066 (v8581 : BitVec 32) : Prop :=
  (∀ a, (k0_off2132 v8581) a + S7x1x512.size a ≤ S7x50x512.size a)
theorem k0_off2132_inb : ∀ (v8581 : BitVec 32) (k0_hw1066 : k0_chk1066 v8581), ∀ a, (k0_off2132 v8581) a + S7x1x512.size a ≤ S7x50x512.size a := fun v8581 k0_hw1066 => k0_hw1066

def k0_off2133 (i : grid0.Coords) : Fin 3 → Nat :=
  let c1_9777 : Index := 1#32
  let c6_9778 : Index := 6#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8587 : Index := Scalar.indexCast v8451
  ![1, 6, v8587.toNat]
def k0_off2134 (v8588 : BitVec 32) : Fin 3 → Nat :=
  let c0_9783 : Index := 0#32
  let v8591 : Index := Scalar.indexCast v8588
  let c0_9784 : Index := 0#32
  ![0, v8591.toNat, 0]

def k0_chk1067 (v8588 : BitVec 32) : Prop :=
  (∀ a, (k0_off2134 v8588) a + S7x1x512.size a ≤ S7x50x512.size a)
theorem k0_off2134_inb : ∀ (v8588 : BitVec 32) (k0_hw1067 : k0_chk1067 v8588), ∀ a, (k0_off2134 v8588) a + S7x1x512.size a ≤ S7x50x512.size a := fun v8588 k0_hw1067 => k0_hw1067

def k0_off2135 (i : grid0.Coords) : Fin 3 → Nat :=
  let c2_9789 : Index := 2#32
  let c2_9790 : Index := 2#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8598 : Index := Scalar.indexCast v8451
  ![2, 2, v8598.toNat]
def k0_off2136 (v8599 : BitVec 32) : Fin 3 → Nat :=
  let c0_9795 : Index := 0#32
  let v8602 : Index := Scalar.indexCast v8599
  let c0_9796 : Index := 0#32
  ![0, v8602.toNat, 0]

def k0_chk1068 (v8599 : BitVec 32) : Prop :=
  (∀ a, (k0_off2136 v8599) a + S7x1x512.size a ≤ S7x50x512.size a)
theorem k0_off2136_inb : ∀ (v8599 : BitVec 32) (k0_hw1068 : k0_chk1068 v8599), ∀ a, (k0_off2136 v8599) a + S7x1x512.size a ≤ S7x50x512.size a := fun v8599 k0_hw1068 => k0_hw1068

def k0_off2137 (i : grid0.Coords) : Fin 3 → Nat :=
  let c2_9797 : Index := 2#32
  let c3_9798 : Index := 3#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8604 : Index := Scalar.indexCast v8451
  ![2, 3, v8604.toNat]
def k0_off2138 (v8605 : BitVec 32) : Fin 3 → Nat :=
  let c0_9803 : Index := 0#32
  let v8608 : Index := Scalar.indexCast v8605
  let c0_9804 : Index := 0#32
  ![0, v8608.toNat, 0]

def k0_chk1069 (v8605 : BitVec 32) : Prop :=
  (∀ a, (k0_off2138 v8605) a + S7x1x512.size a ≤ S7x50x512.size a)
theorem k0_off2138_inb : ∀ (v8605 : BitVec 32) (k0_hw1069 : k0_chk1069 v8605), ∀ a, (k0_off2138 v8605) a + S7x1x512.size a ≤ S7x50x512.size a := fun v8605 k0_hw1069 => k0_hw1069

def k0_off2139 (i : grid0.Coords) : Fin 3 → Nat :=
  let c2_9805 : Index := 2#32
  let c4_9806 : Index := 4#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8611 : Index := Scalar.indexCast v8451
  ![2, 4, v8611.toNat]
def k0_off2140 (v8612 : BitVec 32) : Fin 3 → Nat :=
  let c0_9811 : Index := 0#32
  let v8615 : Index := Scalar.indexCast v8612
  let c0_9812 : Index := 0#32
  ![0, v8615.toNat, 0]

def k0_chk1070 (v8612 : BitVec 32) : Prop :=
  (∀ a, (k0_off2140 v8612) a + S7x1x512.size a ≤ S7x50x512.size a)
theorem k0_off2140_inb : ∀ (v8612 : BitVec 32) (k0_hw1070 : k0_chk1070 v8612), ∀ a, (k0_off2140 v8612) a + S7x1x512.size a ≤ S7x50x512.size a := fun v8612 k0_hw1070 => k0_hw1070

def k0_off2141 (i : grid0.Coords) : Fin 3 → Nat :=
  let c2_9813 : Index := 2#32
  let c5_9814 : Index := 5#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8618 : Index := Scalar.indexCast v8451
  ![2, 5, v8618.toNat]
def k0_off2142 (v8619 : BitVec 32) : Fin 3 → Nat :=
  let c0_9819 : Index := 0#32
  let v8622 : Index := Scalar.indexCast v8619
  let c0_9820 : Index := 0#32
  ![0, v8622.toNat, 0]

def k0_chk1071 (v8619 : BitVec 32) : Prop :=
  (∀ a, (k0_off2142 v8619) a + S7x1x512.size a ≤ S7x50x512.size a)
theorem k0_off2142_inb : ∀ (v8619 : BitVec 32) (k0_hw1071 : k0_chk1071 v8619), ∀ a, (k0_off2142 v8619) a + S7x1x512.size a ≤ S7x50x512.size a := fun v8619 k0_hw1071 => k0_hw1071

def k0_off2143 (i : grid0.Coords) : Fin 3 → Nat :=
  let c2_9821 : Index := 2#32
  let c6_9822 : Index := 6#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8625 : Index := Scalar.indexCast v8451
  ![2, 6, v8625.toNat]
def k0_off2144 (v8626 : BitVec 32) : Fin 3 → Nat :=
  let c0_9827 : Index := 0#32
  let v8629 : Index := Scalar.indexCast v8626
  let c0_9828 : Index := 0#32
  ![0, v8629.toNat, 0]

def k0_chk1072 (v8626 : BitVec 32) : Prop :=
  (∀ a, (k0_off2144 v8626) a + S7x1x512.size a ≤ S7x50x512.size a)
theorem k0_off2144_inb : ∀ (v8626 : BitVec 32) (k0_hw1072 : k0_chk1072 v8626), ∀ a, (k0_off2144 v8626) a + S7x1x512.size a ≤ S7x50x512.size a := fun v8626 k0_hw1072 => k0_hw1072

def k0_off2145 (i : grid0.Coords) : Fin 3 → Nat :=
  let c3_9833 : Index := 3#32
  let c2_9834 : Index := 2#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8636 : Index := Scalar.indexCast v8451
  ![3, 2, v8636.toNat]
def k0_off2146 (v8637 : BitVec 32) : Fin 3 → Nat :=
  let c0_9839 : Index := 0#32
  let v8640 : Index := Scalar.indexCast v8637
  let c0_9840 : Index := 0#32
  ![0, v8640.toNat, 0]

def k0_chk1073 (v8637 : BitVec 32) : Prop :=
  (∀ a, (k0_off2146 v8637) a + S7x1x512.size a ≤ S7x50x512.size a)
theorem k0_off2146_inb : ∀ (v8637 : BitVec 32) (k0_hw1073 : k0_chk1073 v8637), ∀ a, (k0_off2146 v8637) a + S7x1x512.size a ≤ S7x50x512.size a := fun v8637 k0_hw1073 => k0_hw1073

def k0_off2147 (i : grid0.Coords) : Fin 3 → Nat :=
  let c3_9841 : Index := 3#32
  let c3_9842 : Index := 3#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8642 : Index := Scalar.indexCast v8451
  ![3, 3, v8642.toNat]
def k0_off2148 (v8643 : BitVec 32) : Fin 3 → Nat :=
  let c0_9847 : Index := 0#32
  let v8646 : Index := Scalar.indexCast v8643
  let c0_9848 : Index := 0#32
  ![0, v8646.toNat, 0]

def k0_chk1074 (v8643 : BitVec 32) : Prop :=
  (∀ a, (k0_off2148 v8643) a + S7x1x512.size a ≤ S7x50x512.size a)
theorem k0_off2148_inb : ∀ (v8643 : BitVec 32) (k0_hw1074 : k0_chk1074 v8643), ∀ a, (k0_off2148 v8643) a + S7x1x512.size a ≤ S7x50x512.size a := fun v8643 k0_hw1074 => k0_hw1074

def k0_off2149 (i : grid0.Coords) : Fin 3 → Nat :=
  let c3_9849 : Index := 3#32
  let c4_9850 : Index := 4#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8649 : Index := Scalar.indexCast v8451
  ![3, 4, v8649.toNat]
def k0_off2150 (v8650 : BitVec 32) : Fin 3 → Nat :=
  let c0_9855 : Index := 0#32
  let v8653 : Index := Scalar.indexCast v8650
  let c0_9856 : Index := 0#32
  ![0, v8653.toNat, 0]

def k0_chk1075 (v8650 : BitVec 32) : Prop :=
  (∀ a, (k0_off2150 v8650) a + S7x1x512.size a ≤ S7x50x512.size a)
theorem k0_off2150_inb : ∀ (v8650 : BitVec 32) (k0_hw1075 : k0_chk1075 v8650), ∀ a, (k0_off2150 v8650) a + S7x1x512.size a ≤ S7x50x512.size a := fun v8650 k0_hw1075 => k0_hw1075

variable {F : FTy → Type} [FloatOps F]

def k0_off2151 (i : grid0.Coords) : Fin 3 → Nat :=
  let c3_9857 : Index := 3#32
  let c5_9858 : Index := 5#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8656 : Index := Scalar.indexCast v8451
  ![3, 5, v8656.toNat]
def k0_off2152 (v8657 : BitVec 32) : Fin 3 → Nat :=
  let c0_9863 : Index := 0#32
  let v8660 : Index := Scalar.indexCast v8657
  let c0_9864 : Index := 0#32
  ![0, v8660.toNat, 0]

def k0_chk1076 (v8657 : BitVec 32) : Prop :=
  (∀ a, (k0_off2152 v8657) a + S7x1x512.size a ≤ S7x50x512.size a)
theorem k0_off2152_inb : ∀ (v8657 : BitVec 32) (k0_hw1076 : k0_chk1076 v8657), ∀ a, (k0_off2152 v8657) a + S7x1x512.size a ≤ S7x50x512.size a := fun v8657 k0_hw1076 => k0_hw1076

def k0_off2153 (i : grid0.Coords) : Fin 3 → Nat :=
  let c3_9865 : Index := 3#32
  let c6_9866 : Index := 6#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8663 : Index := Scalar.indexCast v8451
  ![3, 6, v8663.toNat]
def k0_off2154 (v8664 : BitVec 32) : Fin 3 → Nat :=
  let c0_9871 : Index := 0#32
  let v8667 : Index := Scalar.indexCast v8664
  let c0_9872 : Index := 0#32
  ![0, v8667.toNat, 0]

def k0_chk1077 (v8664 : BitVec 32) : Prop :=
  (∀ a, (k0_off2154 v8664) a + S7x1x512.size a ≤ S7x50x512.size a)
theorem k0_off2154_inb : ∀ (v8664 : BitVec 32) (k0_hw1077 : k0_chk1077 v8664), ∀ a, (k0_off2154 v8664) a + S7x1x512.size a ≤ S7x50x512.size a := fun v8664 k0_hw1077 => k0_hw1077

def k0_off2155 (i : grid0.Coords) : Fin 3 → Nat :=
  let c4_9877 : Index := 4#32
  let c2_9878 : Index := 2#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8674 : Index := Scalar.indexCast v8451
  ![4, 2, v8674.toNat]
def k0_off2156 (v8675 : BitVec 32) : Fin 3 → Nat :=
  let c0_9883 : Index := 0#32
  let v8678 : Index := Scalar.indexCast v8675
  let c0_9884 : Index := 0#32
  ![0, v8678.toNat, 0]

def k0_chk1078 (v8675 : BitVec 32) : Prop :=
  (∀ a, (k0_off2156 v8675) a + S7x1x512.size a ≤ S7x50x512.size a)
theorem k0_off2156_inb : ∀ (v8675 : BitVec 32) (k0_hw1078 : k0_chk1078 v8675), ∀ a, (k0_off2156 v8675) a + S7x1x512.size a ≤ S7x50x512.size a := fun v8675 k0_hw1078 => k0_hw1078

def k0_off2157 (i : grid0.Coords) : Fin 3 → Nat :=
  let c4_9885 : Index := 4#32
  let c3_9886 : Index := 3#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8680 : Index := Scalar.indexCast v8451
  ![4, 3, v8680.toNat]
def k0_off2158 (v8681 : BitVec 32) : Fin 3 → Nat :=
  let c0_9891 : Index := 0#32
  let v8684 : Index := Scalar.indexCast v8681
  let c0_9892 : Index := 0#32
  ![0, v8684.toNat, 0]

def k0_chk1079 (v8681 : BitVec 32) : Prop :=
  (∀ a, (k0_off2158 v8681) a + S7x1x512.size a ≤ S7x50x512.size a)
theorem k0_off2158_inb : ∀ (v8681 : BitVec 32) (k0_hw1079 : k0_chk1079 v8681), ∀ a, (k0_off2158 v8681) a + S7x1x512.size a ≤ S7x50x512.size a := fun v8681 k0_hw1079 => k0_hw1079

def k0_off2159 (i : grid0.Coords) : Fin 3 → Nat :=
  let c4_9893 : Index := 4#32
  let c4_9894 : Index := 4#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8687 : Index := Scalar.indexCast v8451
  ![4, 4, v8687.toNat]
def k0_off2160 (v8688 : BitVec 32) : Fin 3 → Nat :=
  let c0_9899 : Index := 0#32
  let v8691 : Index := Scalar.indexCast v8688
  let c0_9900 : Index := 0#32
  ![0, v8691.toNat, 0]

def k0_chk1080 (v8688 : BitVec 32) : Prop :=
  (∀ a, (k0_off2160 v8688) a + S7x1x512.size a ≤ S7x50x512.size a)
theorem k0_off2160_inb : ∀ (v8688 : BitVec 32) (k0_hw1080 : k0_chk1080 v8688), ∀ a, (k0_off2160 v8688) a + S7x1x512.size a ≤ S7x50x512.size a := fun v8688 k0_hw1080 => k0_hw1080

def k0_off2161 (i : grid0.Coords) : Fin 3 → Nat :=
  let c4_9901 : Index := 4#32
  let c5_9902 : Index := 5#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8694 : Index := Scalar.indexCast v8451
  ![4, 5, v8694.toNat]
def k0_off2162 (v8695 : BitVec 32) : Fin 3 → Nat :=
  let c0_9907 : Index := 0#32
  let v8698 : Index := Scalar.indexCast v8695
  let c0_9908 : Index := 0#32
  ![0, v8698.toNat, 0]

def k0_chk1081 (v8695 : BitVec 32) : Prop :=
  (∀ a, (k0_off2162 v8695) a + S7x1x512.size a ≤ S7x50x512.size a)
theorem k0_off2162_inb : ∀ (v8695 : BitVec 32) (k0_hw1081 : k0_chk1081 v8695), ∀ a, (k0_off2162 v8695) a + S7x1x512.size a ≤ S7x50x512.size a := fun v8695 k0_hw1081 => k0_hw1081

def k0_off2163 (i : grid0.Coords) : Fin 3 → Nat :=
  let c4_9909 : Index := 4#32
  let c6_9910 : Index := 6#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8701 : Index := Scalar.indexCast v8451
  ![4, 6, v8701.toNat]
def k0_off2164 (v8702 : BitVec 32) : Fin 3 → Nat :=
  let c0_9915 : Index := 0#32
  let v8705 : Index := Scalar.indexCast v8702
  let c0_9916 : Index := 0#32
  ![0, v8705.toNat, 0]

def k0_chk1082 (v8702 : BitVec 32) : Prop :=
  (∀ a, (k0_off2164 v8702) a + S7x1x512.size a ≤ S7x50x512.size a)
theorem k0_off2164_inb : ∀ (v8702 : BitVec 32) (k0_hw1082 : k0_chk1082 v8702), ∀ a, (k0_off2164 v8702) a + S7x1x512.size a ≤ S7x50x512.size a := fun v8702 k0_hw1082 => k0_hw1082

def k0_off2165 (i : grid0.Coords) : Fin 3 → Nat :=
  let c5_9921 : Index := 5#32
  let c2_9922 : Index := 2#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8712 : Index := Scalar.indexCast v8451
  ![5, 2, v8712.toNat]
def k0_off2166 (v8713 : BitVec 32) : Fin 3 → Nat :=
  let c0_9927 : Index := 0#32
  let v8716 : Index := Scalar.indexCast v8713
  let c0_9928 : Index := 0#32
  ![0, v8716.toNat, 0]

def k0_chk1083 (v8713 : BitVec 32) : Prop :=
  (∀ a, (k0_off2166 v8713) a + S7x1x512.size a ≤ S7x50x512.size a)
theorem k0_off2166_inb : ∀ (v8713 : BitVec 32) (k0_hw1083 : k0_chk1083 v8713), ∀ a, (k0_off2166 v8713) a + S7x1x512.size a ≤ S7x50x512.size a := fun v8713 k0_hw1083 => k0_hw1083

def k0_off2167 (i : grid0.Coords) : Fin 3 → Nat :=
  let c5_9929 : Index := 5#32
  let c3_9930 : Index := 3#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8718 : Index := Scalar.indexCast v8451
  ![5, 3, v8718.toNat]
def k0_off2168 (v8719 : BitVec 32) : Fin 3 → Nat :=
  let c0_9935 : Index := 0#32
  let v8722 : Index := Scalar.indexCast v8719
  let c0_9936 : Index := 0#32
  ![0, v8722.toNat, 0]

def k0_chk1084 (v8719 : BitVec 32) : Prop :=
  (∀ a, (k0_off2168 v8719) a + S7x1x512.size a ≤ S7x50x512.size a)
theorem k0_off2168_inb : ∀ (v8719 : BitVec 32) (k0_hw1084 : k0_chk1084 v8719), ∀ a, (k0_off2168 v8719) a + S7x1x512.size a ≤ S7x50x512.size a := fun v8719 k0_hw1084 => k0_hw1084

def k0_off2169 (i : grid0.Coords) : Fin 3 → Nat :=
  let c5_9937 : Index := 5#32
  let c4_9938 : Index := 4#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8725 : Index := Scalar.indexCast v8451
  ![5, 4, v8725.toNat]
def k0_off2170 (v8726 : BitVec 32) : Fin 3 → Nat :=
  let c0_9943 : Index := 0#32
  let v8729 : Index := Scalar.indexCast v8726
  let c0_9944 : Index := 0#32
  ![0, v8729.toNat, 0]

def k0_chk1085 (v8726 : BitVec 32) : Prop :=
  (∀ a, (k0_off2170 v8726) a + S7x1x512.size a ≤ S7x50x512.size a)
theorem k0_off2170_inb : ∀ (v8726 : BitVec 32) (k0_hw1085 : k0_chk1085 v8726), ∀ a, (k0_off2170 v8726) a + S7x1x512.size a ≤ S7x50x512.size a := fun v8726 k0_hw1085 => k0_hw1085

def k0_off2171 (i : grid0.Coords) : Fin 3 → Nat :=
  let c5_9945 : Index := 5#32
  let c5_9946 : Index := 5#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8732 : Index := Scalar.indexCast v8451
  ![5, 5, v8732.toNat]
def k0_off2172 (v8733 : BitVec 32) : Fin 3 → Nat :=
  let c0_9951 : Index := 0#32
  let v8736 : Index := Scalar.indexCast v8733
  let c0_9952 : Index := 0#32
  ![0, v8736.toNat, 0]

def k0_chk1086 (v8733 : BitVec 32) : Prop :=
  (∀ a, (k0_off2172 v8733) a + S7x1x512.size a ≤ S7x50x512.size a)
theorem k0_off2172_inb : ∀ (v8733 : BitVec 32) (k0_hw1086 : k0_chk1086 v8733), ∀ a, (k0_off2172 v8733) a + S7x1x512.size a ≤ S7x50x512.size a := fun v8733 k0_hw1086 => k0_hw1086

def k0_off2173 (i : grid0.Coords) : Fin 3 → Nat :=
  let c5_9953 : Index := 5#32
  let c6_9954 : Index := 6#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8739 : Index := Scalar.indexCast v8451
  ![5, 6, v8739.toNat]
def k0_off2174 (v8740 : BitVec 32) : Fin 3 → Nat :=
  let c0_9959 : Index := 0#32
  let v8743 : Index := Scalar.indexCast v8740
  let c0_9960 : Index := 0#32
  ![0, v8743.toNat, 0]

def k0_chk1087 (v8740 : BitVec 32) : Prop :=
  (∀ a, (k0_off2174 v8740) a + S7x1x512.size a ≤ S7x50x512.size a)
theorem k0_off2174_inb : ∀ (v8740 : BitVec 32) (k0_hw1087 : k0_chk1087 v8740), ∀ a, (k0_off2174 v8740) a + S7x1x512.size a ≤ S7x50x512.size a := fun v8740 k0_hw1087 => k0_hw1087

def k0_off2175 (i : grid0.Coords) : Fin 3 → Nat :=
  let c6_9965 : Index := 6#32
  let c2_9966 : Index := 2#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8750 : Index := Scalar.indexCast v8451
  ![6, 2, v8750.toNat]
def k0_off2176 (v8751 : BitVec 32) : Fin 3 → Nat :=
  let c0_9971 : Index := 0#32
  let v8754 : Index := Scalar.indexCast v8751
  let c0_9972 : Index := 0#32
  ![0, v8754.toNat, 0]

def k0_chk1088 (v8751 : BitVec 32) : Prop :=
  (∀ a, (k0_off2176 v8751) a + S7x1x512.size a ≤ S7x50x512.size a)
theorem k0_off2176_inb : ∀ (v8751 : BitVec 32) (k0_hw1088 : k0_chk1088 v8751), ∀ a, (k0_off2176 v8751) a + S7x1x512.size a ≤ S7x50x512.size a := fun v8751 k0_hw1088 => k0_hw1088

def k0_off2177 (i : grid0.Coords) : Fin 3 → Nat :=
  let c6_9973 : Index := 6#32
  let c3_9974 : Index := 3#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8756 : Index := Scalar.indexCast v8451
  ![6, 3, v8756.toNat]
def k0_off2178 (v8757 : BitVec 32) : Fin 3 → Nat :=
  let c0_9979 : Index := 0#32
  let v8760 : Index := Scalar.indexCast v8757
  let c0_9980 : Index := 0#32
  ![0, v8760.toNat, 0]

def k0_chk1089 (v8757 : BitVec 32) : Prop :=
  (∀ a, (k0_off2178 v8757) a + S7x1x512.size a ≤ S7x50x512.size a)
theorem k0_off2178_inb : ∀ (v8757 : BitVec 32) (k0_hw1089 : k0_chk1089 v8757), ∀ a, (k0_off2178 v8757) a + S7x1x512.size a ≤ S7x50x512.size a := fun v8757 k0_hw1089 => k0_hw1089

def k0_off2179 (i : grid0.Coords) : Fin 3 → Nat :=
  let c6_9981 : Index := 6#32
  let c4_9982 : Index := 4#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8763 : Index := Scalar.indexCast v8451
  ![6, 4, v8763.toNat]
def k0_off2180 (v8764 : BitVec 32) : Fin 3 → Nat :=
  let c0_9987 : Index := 0#32
  let v8767 : Index := Scalar.indexCast v8764
  let c0_9988 : Index := 0#32
  ![0, v8767.toNat, 0]

def k0_chk1090 (v8764 : BitVec 32) : Prop :=
  (∀ a, (k0_off2180 v8764) a + S7x1x512.size a ≤ S7x50x512.size a)
theorem k0_off2180_inb : ∀ (v8764 : BitVec 32) (k0_hw1090 : k0_chk1090 v8764), ∀ a, (k0_off2180 v8764) a + S7x1x512.size a ≤ S7x50x512.size a := fun v8764 k0_hw1090 => k0_hw1090

def k0_off2181 (i : grid0.Coords) : Fin 3 → Nat :=
  let c6_9989 : Index := 6#32
  let c5_9990 : Index := 5#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8770 : Index := Scalar.indexCast v8451
  ![6, 5, v8770.toNat]
def k0_off2182 (v8771 : BitVec 32) : Fin 3 → Nat :=
  let c0_9995 : Index := 0#32
  let v8774 : Index := Scalar.indexCast v8771
  let c0_9996 : Index := 0#32
  ![0, v8774.toNat, 0]

def k0_chk1091 (v8771 : BitVec 32) : Prop :=
  (∀ a, (k0_off2182 v8771) a + S7x1x512.size a ≤ S7x50x512.size a)
theorem k0_off2182_inb : ∀ (v8771 : BitVec 32) (k0_hw1091 : k0_chk1091 v8771), ∀ a, (k0_off2182 v8771) a + S7x1x512.size a ≤ S7x50x512.size a := fun v8771 k0_hw1091 => k0_hw1091

def k0_off2183 (i : grid0.Coords) : Fin 3 → Nat :=
  let c6_9997 : Index := 6#32
  let c6_9998 : Index := 6#32
  let arg0 : BitVec 32 := BitVec.ofNat 32 (i 0).val
  let c32_i32_9624 : BitVec 32 := 32#32
  let v8450 : BitVec 32 := Scalar.muli arg0 c32_i32_9624
  let c25_i32 : BitVec 32 := 25#32
  let v8451 : BitVec 32 := Scalar.addi v8450 c25_i32
  let v8777 : Index := Scalar.indexCast v8451
  ![6, 6, v8777.toNat]
def k0_off2184 (v8778 : BitVec 32) : Fin 3 → Nat :=
  let c0_10003 : Index := 0#32
  let v8781 : Index := Scalar.indexCast v8778
  let c0_10004 : Index := 0#32
  ![0, v8781.toNat, 0]

def k0_chk1092 (v8778 : BitVec 32) : Prop :=
  (∀ a, (k0_off2184 v8778) a + S7x1x512.size a ≤ S7x50x512.size a)
theorem k0_off2184_inb : ∀ (v8778 : BitVec 32) (k0_hw1092 : k0_chk1092 v8778), ∀ a, (k0_off2184 v8778) a + S7x1x512.size a ≤ S7x50x512.size a := fun v8778 k0_hw1092 => k0_hw1092

def k0_off2185 (i : grid0.Coords) : Fin 3 → Nat :=
  let c0_10010 : Index := 0#32
  let c0_10011 : Index := 0#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8790 : Index := Scalar.indexCast v8789
  ![0, 0, v8790.toNat]
def k0_off2186 (v8791 : BitVec 32) : Fin 3 → Nat :=
  let v8792 : Index := Scalar.indexCast v8791
  let c0_10012 : Index := 0#32
  let c0_10013 : Index := 0#32
  ![v8792.toNat, 0, 0]

def k0_chk1093 (v8791 : BitVec 32) : Prop :=
  (∀ a, (k0_off2186 v8791) a + S1x50x512.size a ≤ S250x50x512.size a)
theorem k0_off2186_inb : ∀ (v8791 : BitVec 32) (k0_hw1093 : k0_chk1093 v8791), ∀ a, (k0_off2186 v8791) a + S1x50x512.size a ≤ S250x50x512.size a := fun v8791 k0_hw1093 => k0_hw1093

def k0_off2187 (i : grid0.Coords) : Fin 3 → Nat :=
  let c1_10021 : Index := 1#32
  let c0_10022 : Index := 0#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8800 : Index := Scalar.indexCast v8789
  ![1, 0, v8800.toNat]
def k0_off2188 (v8801 : BitVec 32) : Fin 3 → Nat :=
  let v8802 : Index := Scalar.indexCast v8801
  let c0_10023 : Index := 0#32
  let c0_10024 : Index := 0#32
  ![v8802.toNat, 0, 0]

def k0_chk1094 (v8801 : BitVec 32) : Prop :=
  (∀ a, (k0_off2188 v8801) a + S1x50x512.size a ≤ S250x50x512.size a)
theorem k0_off2188_inb : ∀ (v8801 : BitVec 32) (k0_hw1094 : k0_chk1094 v8801), ∀ a, (k0_off2188 v8801) a + S1x50x512.size a ≤ S250x50x512.size a := fun v8801 k0_hw1094 => k0_hw1094

def k0_off2189 (i : grid0.Coords) : Fin 3 → Nat :=
  let c2_10032 : Index := 2#32
  let c0_10033 : Index := 0#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8810 : Index := Scalar.indexCast v8789
  ![2, 0, v8810.toNat]
def k0_off2190 (v8811 : BitVec 32) : Fin 3 → Nat :=
  let v8812 : Index := Scalar.indexCast v8811
  let c0_10034 : Index := 0#32
  let c0_10035 : Index := 0#32
  ![v8812.toNat, 0, 0]

def k0_chk1095 (v8811 : BitVec 32) : Prop :=
  (∀ a, (k0_off2190 v8811) a + S1x50x512.size a ≤ S250x50x512.size a)
theorem k0_off2190_inb : ∀ (v8811 : BitVec 32) (k0_hw1095 : k0_chk1095 v8811), ∀ a, (k0_off2190 v8811) a + S1x50x512.size a ≤ S250x50x512.size a := fun v8811 k0_hw1095 => k0_hw1095

def k0_off2191 (i : grid0.Coords) : Fin 3 → Nat :=
  let c3_10043 : Index := 3#32
  let c0_10044 : Index := 0#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8820 : Index := Scalar.indexCast v8789
  ![3, 0, v8820.toNat]
def k0_off2192 (v8821 : BitVec 32) : Fin 3 → Nat :=
  let v8822 : Index := Scalar.indexCast v8821
  let c0_10045 : Index := 0#32
  let c0_10046 : Index := 0#32
  ![v8822.toNat, 0, 0]

def k0_chk1096 (v8821 : BitVec 32) : Prop :=
  (∀ a, (k0_off2192 v8821) a + S1x50x512.size a ≤ S250x50x512.size a)
theorem k0_off2192_inb : ∀ (v8821 : BitVec 32) (k0_hw1096 : k0_chk1096 v8821), ∀ a, (k0_off2192 v8821) a + S1x50x512.size a ≤ S250x50x512.size a := fun v8821 k0_hw1096 => k0_hw1096

def k0_off2193 (i : grid0.Coords) : Fin 3 → Nat :=
  let c4_10054 : Index := 4#32
  let c0_10055 : Index := 0#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8830 : Index := Scalar.indexCast v8789
  ![4, 0, v8830.toNat]
def k0_off2194 (v8831 : BitVec 32) : Fin 3 → Nat :=
  let v8832 : Index := Scalar.indexCast v8831
  let c0_10056 : Index := 0#32
  let c0_10057 : Index := 0#32
  ![v8832.toNat, 0, 0]

def k0_chk1097 (v8831 : BitVec 32) : Prop :=
  (∀ a, (k0_off2194 v8831) a + S1x50x512.size a ≤ S250x50x512.size a)
theorem k0_off2194_inb : ∀ (v8831 : BitVec 32) (k0_hw1097 : k0_chk1097 v8831), ∀ a, (k0_off2194 v8831) a + S1x50x512.size a ≤ S250x50x512.size a := fun v8831 k0_hw1097 => k0_hw1097

def k0_off2195 (i : grid0.Coords) : Fin 3 → Nat :=
  let c5_10065 : Index := 5#32
  let c0_10066 : Index := 0#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8840 : Index := Scalar.indexCast v8789
  ![5, 0, v8840.toNat]
def k0_off2196 (v8841 : BitVec 32) : Fin 3 → Nat :=
  let v8842 : Index := Scalar.indexCast v8841
  let c0_10067 : Index := 0#32
  let c0_10068 : Index := 0#32
  ![v8842.toNat, 0, 0]

def k0_chk1098 (v8841 : BitVec 32) : Prop :=
  (∀ a, (k0_off2196 v8841) a + S1x50x512.size a ≤ S250x50x512.size a)
theorem k0_off2196_inb : ∀ (v8841 : BitVec 32) (k0_hw1098 : k0_chk1098 v8841), ∀ a, (k0_off2196 v8841) a + S1x50x512.size a ≤ S250x50x512.size a := fun v8841 k0_hw1098 => k0_hw1098

def k0_off2197 (i : grid0.Coords) : Fin 3 → Nat :=
  let c6_10076 : Index := 6#32
  let c0_10077 : Index := 0#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8850 : Index := Scalar.indexCast v8789
  ![6, 0, v8850.toNat]
def k0_off2198 (v8851 : BitVec 32) : Fin 3 → Nat :=
  let v8852 : Index := Scalar.indexCast v8851
  let c0_10078 : Index := 0#32
  let c0_10079 : Index := 0#32
  ![v8852.toNat, 0, 0]

def k0_chk1099 (v8851 : BitVec 32) : Prop :=
  (∀ a, (k0_off2198 v8851) a + S1x50x512.size a ≤ S250x50x512.size a)
theorem k0_off2198_inb : ∀ (v8851 : BitVec 32) (k0_hw1099 : k0_chk1099 v8851), ∀ a, (k0_off2198 v8851) a + S1x50x512.size a ≤ S250x50x512.size a := fun v8851 k0_hw1099 => k0_hw1099

def k0_off2199 (i : grid0.Coords) : Fin 3 → Nat :=
  let c0_10087 : Index := 0#32
  let c2_10088 : Index := 2#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8860 : Index := Scalar.indexCast v8789
  ![0, 2, v8860.toNat]
def k0_off2200 (v8861 : BitVec 32) : Fin 3 → Nat :=
  let c0_10093 : Index := 0#32
  let v8864 : Index := Scalar.indexCast v8861
  let c0_10094 : Index := 0#32
  ![0, v8864.toNat, 0]

def k0_chk1100 (v8861 : BitVec 32) : Prop :=
  (∀ a, (k0_off2200 v8861) a + S7x1x512.size a ≤ S7x50x512.size a)
theorem k0_off2200_inb : ∀ (v8861 : BitVec 32) (k0_hw1100 : k0_chk1100 v8861), ∀ a, (k0_off2200 v8861) a + S7x1x512.size a ≤ S7x50x512.size a := fun v8861 k0_hw1100 => k0_hw1100

def k0_off2201 (i : grid0.Coords) : Fin 3 → Nat :=
  let c0_10095 : Index := 0#32
  let c3_10096 : Index := 3#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8866 : Index := Scalar.indexCast v8789
  ![0, 3, v8866.toNat]
def k0_off2202 (v8867 : BitVec 32) : Fin 3 → Nat :=
  let c0_10101 : Index := 0#32
  let v8870 : Index := Scalar.indexCast v8867
  let c0_10102 : Index := 0#32
  ![0, v8870.toNat, 0]

def k0_chk1101 (v8867 : BitVec 32) : Prop :=
  (∀ a, (k0_off2202 v8867) a + S7x1x512.size a ≤ S7x50x512.size a)
theorem k0_off2202_inb : ∀ (v8867 : BitVec 32) (k0_hw1101 : k0_chk1101 v8867), ∀ a, (k0_off2202 v8867) a + S7x1x512.size a ≤ S7x50x512.size a := fun v8867 k0_hw1101 => k0_hw1101

def k0_off2203 (i : grid0.Coords) : Fin 3 → Nat :=
  let c0_10103 : Index := 0#32
  let c4_10104 : Index := 4#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8873 : Index := Scalar.indexCast v8789
  ![0, 4, v8873.toNat]
def k0_off2204 (v8874 : BitVec 32) : Fin 3 → Nat :=
  let c0_10109 : Index := 0#32
  let v8877 : Index := Scalar.indexCast v8874
  let c0_10110 : Index := 0#32
  ![0, v8877.toNat, 0]

def k0_chk1102 (v8874 : BitVec 32) : Prop :=
  (∀ a, (k0_off2204 v8874) a + S7x1x512.size a ≤ S7x50x512.size a)
theorem k0_off2204_inb : ∀ (v8874 : BitVec 32) (k0_hw1102 : k0_chk1102 v8874), ∀ a, (k0_off2204 v8874) a + S7x1x512.size a ≤ S7x50x512.size a := fun v8874 k0_hw1102 => k0_hw1102

def k0_off2205 (i : grid0.Coords) : Fin 3 → Nat :=
  let c0_10111 : Index := 0#32
  let c5_10112 : Index := 5#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8880 : Index := Scalar.indexCast v8789
  ![0, 5, v8880.toNat]
def k0_off2206 (v8881 : BitVec 32) : Fin 3 → Nat :=
  let c0_10117 : Index := 0#32
  let v8884 : Index := Scalar.indexCast v8881
  let c0_10118 : Index := 0#32
  ![0, v8884.toNat, 0]

def k0_chk1103 (v8881 : BitVec 32) : Prop :=
  (∀ a, (k0_off2206 v8881) a + S7x1x512.size a ≤ S7x50x512.size a)
theorem k0_off2206_inb : ∀ (v8881 : BitVec 32) (k0_hw1103 : k0_chk1103 v8881), ∀ a, (k0_off2206 v8881) a + S7x1x512.size a ≤ S7x50x512.size a := fun v8881 k0_hw1103 => k0_hw1103

def k0_off2207 (i : grid0.Coords) : Fin 3 → Nat :=
  let c0_10119 : Index := 0#32
  let c6_10120 : Index := 6#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8887 : Index := Scalar.indexCast v8789
  ![0, 6, v8887.toNat]
def k0_off2208 (v8888 : BitVec 32) : Fin 3 → Nat :=
  let c0_10125 : Index := 0#32
  let v8891 : Index := Scalar.indexCast v8888
  let c0_10126 : Index := 0#32
  ![0, v8891.toNat, 0]

def k0_chk1104 (v8888 : BitVec 32) : Prop :=
  (∀ a, (k0_off2208 v8888) a + S7x1x512.size a ≤ S7x50x512.size a)
theorem k0_off2208_inb : ∀ (v8888 : BitVec 32) (k0_hw1104 : k0_chk1104 v8888), ∀ a, (k0_off2208 v8888) a + S7x1x512.size a ≤ S7x50x512.size a := fun v8888 k0_hw1104 => k0_hw1104

def k0_off2209 (i : grid0.Coords) : Fin 3 → Nat :=
  let c1_10130 : Index := 1#32
  let c2_10131 : Index := 2#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8898 : Index := Scalar.indexCast v8789
  ![1, 2, v8898.toNat]
def k0_off2210 (v8899 : BitVec 32) : Fin 3 → Nat :=
  let c0_10136 : Index := 0#32
  let v8902 : Index := Scalar.indexCast v8899
  let c0_10137 : Index := 0#32
  ![0, v8902.toNat, 0]

def k0_chk1105 (v8899 : BitVec 32) : Prop :=
  (∀ a, (k0_off2210 v8899) a + S7x1x512.size a ≤ S7x50x512.size a)
theorem k0_off2210_inb : ∀ (v8899 : BitVec 32) (k0_hw1105 : k0_chk1105 v8899), ∀ a, (k0_off2210 v8899) a + S7x1x512.size a ≤ S7x50x512.size a := fun v8899 k0_hw1105 => k0_hw1105

def k0_off2211 (i : grid0.Coords) : Fin 3 → Nat :=
  let c1_10138 : Index := 1#32
  let c3_10139 : Index := 3#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8904 : Index := Scalar.indexCast v8789
  ![1, 3, v8904.toNat]
def k0_off2212 (v8905 : BitVec 32) : Fin 3 → Nat :=
  let c0_10144 : Index := 0#32
  let v8908 : Index := Scalar.indexCast v8905
  let c0_10145 : Index := 0#32
  ![0, v8908.toNat, 0]

def k0_chk1106 (v8905 : BitVec 32) : Prop :=
  (∀ a, (k0_off2212 v8905) a + S7x1x512.size a ≤ S7x50x512.size a)
theorem k0_off2212_inb : ∀ (v8905 : BitVec 32) (k0_hw1106 : k0_chk1106 v8905), ∀ a, (k0_off2212 v8905) a + S7x1x512.size a ≤ S7x50x512.size a := fun v8905 k0_hw1106 => k0_hw1106

def k0_off2213 (i : grid0.Coords) : Fin 3 → Nat :=
  let c1_10146 : Index := 1#32
  let c4_10147 : Index := 4#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8911 : Index := Scalar.indexCast v8789
  ![1, 4, v8911.toNat]
def k0_off2214 (v8912 : BitVec 32) : Fin 3 → Nat :=
  let c0_10152 : Index := 0#32
  let v8915 : Index := Scalar.indexCast v8912
  let c0_10153 : Index := 0#32
  ![0, v8915.toNat, 0]

def k0_chk1107 (v8912 : BitVec 32) : Prop :=
  (∀ a, (k0_off2214 v8912) a + S7x1x512.size a ≤ S7x50x512.size a)
theorem k0_off2214_inb : ∀ (v8912 : BitVec 32) (k0_hw1107 : k0_chk1107 v8912), ∀ a, (k0_off2214 v8912) a + S7x1x512.size a ≤ S7x50x512.size a := fun v8912 k0_hw1107 => k0_hw1107

def k0_off2215 (i : grid0.Coords) : Fin 3 → Nat :=
  let c1_10154 : Index := 1#32
  let c5_10155 : Index := 5#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8918 : Index := Scalar.indexCast v8789
  ![1, 5, v8918.toNat]
def k0_off2216 (v8919 : BitVec 32) : Fin 3 → Nat :=
  let c0_10160 : Index := 0#32
  let v8922 : Index := Scalar.indexCast v8919
  let c0_10161 : Index := 0#32
  ![0, v8922.toNat, 0]

def k0_chk1108 (v8919 : BitVec 32) : Prop :=
  (∀ a, (k0_off2216 v8919) a + S7x1x512.size a ≤ S7x50x512.size a)
theorem k0_off2216_inb : ∀ (v8919 : BitVec 32) (k0_hw1108 : k0_chk1108 v8919), ∀ a, (k0_off2216 v8919) a + S7x1x512.size a ≤ S7x50x512.size a := fun v8919 k0_hw1108 => k0_hw1108

def k0_off2217 (i : grid0.Coords) : Fin 3 → Nat :=
  let c1_10162 : Index := 1#32
  let c6_10163 : Index := 6#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8925 : Index := Scalar.indexCast v8789
  ![1, 6, v8925.toNat]
def k0_off2218 (v8926 : BitVec 32) : Fin 3 → Nat :=
  let c0_10168 : Index := 0#32
  let v8929 : Index := Scalar.indexCast v8926
  let c0_10169 : Index := 0#32
  ![0, v8929.toNat, 0]

def k0_chk1109 (v8926 : BitVec 32) : Prop :=
  (∀ a, (k0_off2218 v8926) a + S7x1x512.size a ≤ S7x50x512.size a)
theorem k0_off2218_inb : ∀ (v8926 : BitVec 32) (k0_hw1109 : k0_chk1109 v8926), ∀ a, (k0_off2218 v8926) a + S7x1x512.size a ≤ S7x50x512.size a := fun v8926 k0_hw1109 => k0_hw1109

def k0_off2219 (i : grid0.Coords) : Fin 3 → Nat :=
  let c2_10174 : Index := 2#32
  let c2_10175 : Index := 2#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8936 : Index := Scalar.indexCast v8789
  ![2, 2, v8936.toNat]
def k0_off2220 (v8937 : BitVec 32) : Fin 3 → Nat :=
  let c0_10180 : Index := 0#32
  let v8940 : Index := Scalar.indexCast v8937
  let c0_10181 : Index := 0#32
  ![0, v8940.toNat, 0]

def k0_chk1110 (v8937 : BitVec 32) : Prop :=
  (∀ a, (k0_off2220 v8937) a + S7x1x512.size a ≤ S7x50x512.size a)
theorem k0_off2220_inb : ∀ (v8937 : BitVec 32) (k0_hw1110 : k0_chk1110 v8937), ∀ a, (k0_off2220 v8937) a + S7x1x512.size a ≤ S7x50x512.size a := fun v8937 k0_hw1110 => k0_hw1110

def k0_off2221 (i : grid0.Coords) : Fin 3 → Nat :=
  let c2_10182 : Index := 2#32
  let c3_10183 : Index := 3#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8942 : Index := Scalar.indexCast v8789
  ![2, 3, v8942.toNat]
def k0_off2222 (v8943 : BitVec 32) : Fin 3 → Nat :=
  let c0_10188 : Index := 0#32
  let v8946 : Index := Scalar.indexCast v8943
  let c0_10189 : Index := 0#32
  ![0, v8946.toNat, 0]

def k0_chk1111 (v8943 : BitVec 32) : Prop :=
  (∀ a, (k0_off2222 v8943) a + S7x1x512.size a ≤ S7x50x512.size a)
theorem k0_off2222_inb : ∀ (v8943 : BitVec 32) (k0_hw1111 : k0_chk1111 v8943), ∀ a, (k0_off2222 v8943) a + S7x1x512.size a ≤ S7x50x512.size a := fun v8943 k0_hw1111 => k0_hw1111

def k0_off2223 (i : grid0.Coords) : Fin 3 → Nat :=
  let c2_10190 : Index := 2#32
  let c4_10191 : Index := 4#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8949 : Index := Scalar.indexCast v8789
  ![2, 4, v8949.toNat]
def k0_off2224 (v8950 : BitVec 32) : Fin 3 → Nat :=
  let c0_10196 : Index := 0#32
  let v8953 : Index := Scalar.indexCast v8950
  let c0_10197 : Index := 0#32
  ![0, v8953.toNat, 0]

def k0_chk1112 (v8950 : BitVec 32) : Prop :=
  (∀ a, (k0_off2224 v8950) a + S7x1x512.size a ≤ S7x50x512.size a)
theorem k0_off2224_inb : ∀ (v8950 : BitVec 32) (k0_hw1112 : k0_chk1112 v8950), ∀ a, (k0_off2224 v8950) a + S7x1x512.size a ≤ S7x50x512.size a := fun v8950 k0_hw1112 => k0_hw1112

def k0_off2225 (i : grid0.Coords) : Fin 3 → Nat :=
  let c2_10198 : Index := 2#32
  let c5_10199 : Index := 5#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8956 : Index := Scalar.indexCast v8789
  ![2, 5, v8956.toNat]
def k0_off2226 (v8957 : BitVec 32) : Fin 3 → Nat :=
  let c0_10204 : Index := 0#32
  let v8960 : Index := Scalar.indexCast v8957
  let c0_10205 : Index := 0#32
  ![0, v8960.toNat, 0]

def k0_chk1113 (v8957 : BitVec 32) : Prop :=
  (∀ a, (k0_off2226 v8957) a + S7x1x512.size a ≤ S7x50x512.size a)
theorem k0_off2226_inb : ∀ (v8957 : BitVec 32) (k0_hw1113 : k0_chk1113 v8957), ∀ a, (k0_off2226 v8957) a + S7x1x512.size a ≤ S7x50x512.size a := fun v8957 k0_hw1113 => k0_hw1113

def k0_off2227 (i : grid0.Coords) : Fin 3 → Nat :=
  let c2_10206 : Index := 2#32
  let c6_10207 : Index := 6#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8963 : Index := Scalar.indexCast v8789
  ![2, 6, v8963.toNat]
def k0_off2228 (v8964 : BitVec 32) : Fin 3 → Nat :=
  let c0_10212 : Index := 0#32
  let v8967 : Index := Scalar.indexCast v8964
  let c0_10213 : Index := 0#32
  ![0, v8967.toNat, 0]

def k0_chk1114 (v8964 : BitVec 32) : Prop :=
  (∀ a, (k0_off2228 v8964) a + S7x1x512.size a ≤ S7x50x512.size a)
theorem k0_off2228_inb : ∀ (v8964 : BitVec 32) (k0_hw1114 : k0_chk1114 v8964), ∀ a, (k0_off2228 v8964) a + S7x1x512.size a ≤ S7x50x512.size a := fun v8964 k0_hw1114 => k0_hw1114

def k0_off2229 (i : grid0.Coords) : Fin 3 → Nat :=
  let c3_10218 : Index := 3#32
  let c2_10219 : Index := 2#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8974 : Index := Scalar.indexCast v8789
  ![3, 2, v8974.toNat]
def k0_off2230 (v8975 : BitVec 32) : Fin 3 → Nat :=
  let c0_10224 : Index := 0#32
  let v8978 : Index := Scalar.indexCast v8975
  let c0_10225 : Index := 0#32
  ![0, v8978.toNat, 0]

def k0_chk1115 (v8975 : BitVec 32) : Prop :=
  (∀ a, (k0_off2230 v8975) a + S7x1x512.size a ≤ S7x50x512.size a)
theorem k0_off2230_inb : ∀ (v8975 : BitVec 32) (k0_hw1115 : k0_chk1115 v8975), ∀ a, (k0_off2230 v8975) a + S7x1x512.size a ≤ S7x50x512.size a := fun v8975 k0_hw1115 => k0_hw1115

def k0_off2231 (i : grid0.Coords) : Fin 3 → Nat :=
  let c3_10226 : Index := 3#32
  let c3_10227 : Index := 3#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8980 : Index := Scalar.indexCast v8789
  ![3, 3, v8980.toNat]
def k0_off2232 (v8981 : BitVec 32) : Fin 3 → Nat :=
  let c0_10232 : Index := 0#32
  let v8984 : Index := Scalar.indexCast v8981
  let c0_10233 : Index := 0#32
  ![0, v8984.toNat, 0]

def k0_chk1116 (v8981 : BitVec 32) : Prop :=
  (∀ a, (k0_off2232 v8981) a + S7x1x512.size a ≤ S7x50x512.size a)
theorem k0_off2232_inb : ∀ (v8981 : BitVec 32) (k0_hw1116 : k0_chk1116 v8981), ∀ a, (k0_off2232 v8981) a + S7x1x512.size a ≤ S7x50x512.size a := fun v8981 k0_hw1116 => k0_hw1116

def k0_off2233 (i : grid0.Coords) : Fin 3 → Nat :=
  let c3_10234 : Index := 3#32
  let c4_10235 : Index := 4#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8987 : Index := Scalar.indexCast v8789
  ![3, 4, v8987.toNat]
def k0_off2234 (v8988 : BitVec 32) : Fin 3 → Nat :=
  let c0_10240 : Index := 0#32
  let v8991 : Index := Scalar.indexCast v8988
  let c0_10241 : Index := 0#32
  ![0, v8991.toNat, 0]

def k0_chk1117 (v8988 : BitVec 32) : Prop :=
  (∀ a, (k0_off2234 v8988) a + S7x1x512.size a ≤ S7x50x512.size a)
theorem k0_off2234_inb : ∀ (v8988 : BitVec 32) (k0_hw1117 : k0_chk1117 v8988), ∀ a, (k0_off2234 v8988) a + S7x1x512.size a ≤ S7x50x512.size a := fun v8988 k0_hw1117 => k0_hw1117

def k0_off2235 (i : grid0.Coords) : Fin 3 → Nat :=
  let c3_10242 : Index := 3#32
  let c5_10243 : Index := 5#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v8994 : Index := Scalar.indexCast v8789
  ![3, 5, v8994.toNat]
def k0_off2236 (v8995 : BitVec 32) : Fin 3 → Nat :=
  let c0_10248 : Index := 0#32
  let v8998 : Index := Scalar.indexCast v8995
  let c0_10249 : Index := 0#32
  ![0, v8998.toNat, 0]

def k0_chk1118 (v8995 : BitVec 32) : Prop :=
  (∀ a, (k0_off2236 v8995) a + S7x1x512.size a ≤ S7x50x512.size a)
theorem k0_off2236_inb : ∀ (v8995 : BitVec 32) (k0_hw1118 : k0_chk1118 v8995), ∀ a, (k0_off2236 v8995) a + S7x1x512.size a ≤ S7x50x512.size a := fun v8995 k0_hw1118 => k0_hw1118

def k0_off2237 (i : grid0.Coords) : Fin 3 → Nat :=
  let c3_10250 : Index := 3#32
  let c6_10251 : Index := 6#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9001 : Index := Scalar.indexCast v8789
  ![3, 6, v9001.toNat]
def k0_off2238 (v9002 : BitVec 32) : Fin 3 → Nat :=
  let c0_10256 : Index := 0#32
  let v9005 : Index := Scalar.indexCast v9002
  let c0_10257 : Index := 0#32
  ![0, v9005.toNat, 0]

def k0_chk1119 (v9002 : BitVec 32) : Prop :=
  (∀ a, (k0_off2238 v9002) a + S7x1x512.size a ≤ S7x50x512.size a)
theorem k0_off2238_inb : ∀ (v9002 : BitVec 32) (k0_hw1119 : k0_chk1119 v9002), ∀ a, (k0_off2238 v9002) a + S7x1x512.size a ≤ S7x50x512.size a := fun v9002 k0_hw1119 => k0_hw1119

def k0_off2239 (i : grid0.Coords) : Fin 3 → Nat :=
  let c4_10262 : Index := 4#32
  let c2_10263 : Index := 2#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9012 : Index := Scalar.indexCast v8789
  ![4, 2, v9012.toNat]
def k0_off2240 (v9013 : BitVec 32) : Fin 3 → Nat :=
  let c0_10268 : Index := 0#32
  let v9016 : Index := Scalar.indexCast v9013
  let c0_10269 : Index := 0#32
  ![0, v9016.toNat, 0]

def k0_chk1120 (v9013 : BitVec 32) : Prop :=
  (∀ a, (k0_off2240 v9013) a + S7x1x512.size a ≤ S7x50x512.size a)
theorem k0_off2240_inb : ∀ (v9013 : BitVec 32) (k0_hw1120 : k0_chk1120 v9013), ∀ a, (k0_off2240 v9013) a + S7x1x512.size a ≤ S7x50x512.size a := fun v9013 k0_hw1120 => k0_hw1120

def k0_off2241 (i : grid0.Coords) : Fin 3 → Nat :=
  let c4_10270 : Index := 4#32
  let c3_10271 : Index := 3#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9018 : Index := Scalar.indexCast v8789
  ![4, 3, v9018.toNat]
def k0_off2242 (v9019 : BitVec 32) : Fin 3 → Nat :=
  let c0_10276 : Index := 0#32
  let v9022 : Index := Scalar.indexCast v9019
  let c0_10277 : Index := 0#32
  ![0, v9022.toNat, 0]

def k0_chk1121 (v9019 : BitVec 32) : Prop :=
  (∀ a, (k0_off2242 v9019) a + S7x1x512.size a ≤ S7x50x512.size a)
theorem k0_off2242_inb : ∀ (v9019 : BitVec 32) (k0_hw1121 : k0_chk1121 v9019), ∀ a, (k0_off2242 v9019) a + S7x1x512.size a ≤ S7x50x512.size a := fun v9019 k0_hw1121 => k0_hw1121

def k0_off2243 (i : grid0.Coords) : Fin 3 → Nat :=
  let c4_10278 : Index := 4#32
  let c4_10279 : Index := 4#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9025 : Index := Scalar.indexCast v8789
  ![4, 4, v9025.toNat]
def k0_off2244 (v9026 : BitVec 32) : Fin 3 → Nat :=
  let c0_10284 : Index := 0#32
  let v9029 : Index := Scalar.indexCast v9026
  let c0_10285 : Index := 0#32
  ![0, v9029.toNat, 0]

def k0_chk1122 (v9026 : BitVec 32) : Prop :=
  (∀ a, (k0_off2244 v9026) a + S7x1x512.size a ≤ S7x50x512.size a)
theorem k0_off2244_inb : ∀ (v9026 : BitVec 32) (k0_hw1122 : k0_chk1122 v9026), ∀ a, (k0_off2244 v9026) a + S7x1x512.size a ≤ S7x50x512.size a := fun v9026 k0_hw1122 => k0_hw1122

def k0_off2245 (i : grid0.Coords) : Fin 3 → Nat :=
  let c4_10286 : Index := 4#32
  let c5_10287 : Index := 5#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9032 : Index := Scalar.indexCast v8789
  ![4, 5, v9032.toNat]
def k0_off2246 (v9033 : BitVec 32) : Fin 3 → Nat :=
  let c0_10292 : Index := 0#32
  let v9036 : Index := Scalar.indexCast v9033
  let c0_10293 : Index := 0#32
  ![0, v9036.toNat, 0]

def k0_chk1123 (v9033 : BitVec 32) : Prop :=
  (∀ a, (k0_off2246 v9033) a + S7x1x512.size a ≤ S7x50x512.size a)
theorem k0_off2246_inb : ∀ (v9033 : BitVec 32) (k0_hw1123 : k0_chk1123 v9033), ∀ a, (k0_off2246 v9033) a + S7x1x512.size a ≤ S7x50x512.size a := fun v9033 k0_hw1123 => k0_hw1123

def k0_off2247 (i : grid0.Coords) : Fin 3 → Nat :=
  let c4_10294 : Index := 4#32
  let c6_10295 : Index := 6#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9039 : Index := Scalar.indexCast v8789
  ![4, 6, v9039.toNat]
def k0_off2248 (v9040 : BitVec 32) : Fin 3 → Nat :=
  let c0_10300 : Index := 0#32
  let v9043 : Index := Scalar.indexCast v9040
  let c0_10301 : Index := 0#32
  ![0, v9043.toNat, 0]

def k0_chk1124 (v9040 : BitVec 32) : Prop :=
  (∀ a, (k0_off2248 v9040) a + S7x1x512.size a ≤ S7x50x512.size a)
theorem k0_off2248_inb : ∀ (v9040 : BitVec 32) (k0_hw1124 : k0_chk1124 v9040), ∀ a, (k0_off2248 v9040) a + S7x1x512.size a ≤ S7x50x512.size a := fun v9040 k0_hw1124 => k0_hw1124

def k0_off2249 (i : grid0.Coords) : Fin 3 → Nat :=
  let c5_10306 : Index := 5#32
  let c2_10307 : Index := 2#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9050 : Index := Scalar.indexCast v8789
  ![5, 2, v9050.toNat]
def k0_off2250 (v9051 : BitVec 32) : Fin 3 → Nat :=
  let c0_10312 : Index := 0#32
  let v9054 : Index := Scalar.indexCast v9051
  let c0_10313 : Index := 0#32
  ![0, v9054.toNat, 0]

def k0_chk1125 (v9051 : BitVec 32) : Prop :=
  (∀ a, (k0_off2250 v9051) a + S7x1x512.size a ≤ S7x50x512.size a)
theorem k0_off2250_inb : ∀ (v9051 : BitVec 32) (k0_hw1125 : k0_chk1125 v9051), ∀ a, (k0_off2250 v9051) a + S7x1x512.size a ≤ S7x50x512.size a := fun v9051 k0_hw1125 => k0_hw1125

def k0_off2251 (i : grid0.Coords) : Fin 3 → Nat :=
  let c5_10314 : Index := 5#32
  let c3_10315 : Index := 3#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9056 : Index := Scalar.indexCast v8789
  ![5, 3, v9056.toNat]
def k0_off2252 (v9057 : BitVec 32) : Fin 3 → Nat :=
  let c0_10320 : Index := 0#32
  let v9060 : Index := Scalar.indexCast v9057
  let c0_10321 : Index := 0#32
  ![0, v9060.toNat, 0]

def k0_chk1126 (v9057 : BitVec 32) : Prop :=
  (∀ a, (k0_off2252 v9057) a + S7x1x512.size a ≤ S7x50x512.size a)
theorem k0_off2252_inb : ∀ (v9057 : BitVec 32) (k0_hw1126 : k0_chk1126 v9057), ∀ a, (k0_off2252 v9057) a + S7x1x512.size a ≤ S7x50x512.size a := fun v9057 k0_hw1126 => k0_hw1126

def k0_off2253 (i : grid0.Coords) : Fin 3 → Nat :=
  let c5_10322 : Index := 5#32
  let c4_10323 : Index := 4#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9063 : Index := Scalar.indexCast v8789
  ![5, 4, v9063.toNat]
def k0_off2254 (v9064 : BitVec 32) : Fin 3 → Nat :=
  let c0_10328 : Index := 0#32
  let v9067 : Index := Scalar.indexCast v9064
  let c0_10329 : Index := 0#32
  ![0, v9067.toNat, 0]

def k0_chk1127 (v9064 : BitVec 32) : Prop :=
  (∀ a, (k0_off2254 v9064) a + S7x1x512.size a ≤ S7x50x512.size a)
theorem k0_off2254_inb : ∀ (v9064 : BitVec 32) (k0_hw1127 : k0_chk1127 v9064), ∀ a, (k0_off2254 v9064) a + S7x1x512.size a ≤ S7x50x512.size a := fun v9064 k0_hw1127 => k0_hw1127

def k0_off2255 (i : grid0.Coords) : Fin 3 → Nat :=
  let c5_10330 : Index := 5#32
  let c5_10331 : Index := 5#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9070 : Index := Scalar.indexCast v8789
  ![5, 5, v9070.toNat]
def k0_off2256 (v9071 : BitVec 32) : Fin 3 → Nat :=
  let c0_10336 : Index := 0#32
  let v9074 : Index := Scalar.indexCast v9071
  let c0_10337 : Index := 0#32
  ![0, v9074.toNat, 0]

def k0_chk1128 (v9071 : BitVec 32) : Prop :=
  (∀ a, (k0_off2256 v9071) a + S7x1x512.size a ≤ S7x50x512.size a)
theorem k0_off2256_inb : ∀ (v9071 : BitVec 32) (k0_hw1128 : k0_chk1128 v9071), ∀ a, (k0_off2256 v9071) a + S7x1x512.size a ≤ S7x50x512.size a := fun v9071 k0_hw1128 => k0_hw1128

def k0_off2257 (i : grid0.Coords) : Fin 3 → Nat :=
  let c5_10338 : Index := 5#32
  let c6_10339 : Index := 6#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9077 : Index := Scalar.indexCast v8789
  ![5, 6, v9077.toNat]
def k0_off2258 (v9078 : BitVec 32) : Fin 3 → Nat :=
  let c0_10344 : Index := 0#32
  let v9081 : Index := Scalar.indexCast v9078
  let c0_10345 : Index := 0#32
  ![0, v9081.toNat, 0]

def k0_chk1129 (v9078 : BitVec 32) : Prop :=
  (∀ a, (k0_off2258 v9078) a + S7x1x512.size a ≤ S7x50x512.size a)
theorem k0_off2258_inb : ∀ (v9078 : BitVec 32) (k0_hw1129 : k0_chk1129 v9078), ∀ a, (k0_off2258 v9078) a + S7x1x512.size a ≤ S7x50x512.size a := fun v9078 k0_hw1129 => k0_hw1129

def k0_off2259 (i : grid0.Coords) : Fin 3 → Nat :=
  let c6_10350 : Index := 6#32
  let c2_10351 : Index := 2#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9088 : Index := Scalar.indexCast v8789
  ![6, 2, v9088.toNat]
def k0_off2260 (v9089 : BitVec 32) : Fin 3 → Nat :=
  let c0_10356 : Index := 0#32
  let v9092 : Index := Scalar.indexCast v9089
  let c0_10357 : Index := 0#32
  ![0, v9092.toNat, 0]

def k0_chk1130 (v9089 : BitVec 32) : Prop :=
  (∀ a, (k0_off2260 v9089) a + S7x1x512.size a ≤ S7x50x512.size a)
theorem k0_off2260_inb : ∀ (v9089 : BitVec 32) (k0_hw1130 : k0_chk1130 v9089), ∀ a, (k0_off2260 v9089) a + S7x1x512.size a ≤ S7x50x512.size a := fun v9089 k0_hw1130 => k0_hw1130

def k0_off2261 (i : grid0.Coords) : Fin 3 → Nat :=
  let c6_10358 : Index := 6#32
  let c3_10359 : Index := 3#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9094 : Index := Scalar.indexCast v8789
  ![6, 3, v9094.toNat]
def k0_off2262 (v9095 : BitVec 32) : Fin 3 → Nat :=
  let c0_10364 : Index := 0#32
  let v9098 : Index := Scalar.indexCast v9095
  let c0_10365 : Index := 0#32
  ![0, v9098.toNat, 0]

def k0_chk1131 (v9095 : BitVec 32) : Prop :=
  (∀ a, (k0_off2262 v9095) a + S7x1x512.size a ≤ S7x50x512.size a)
theorem k0_off2262_inb : ∀ (v9095 : BitVec 32) (k0_hw1131 : k0_chk1131 v9095), ∀ a, (k0_off2262 v9095) a + S7x1x512.size a ≤ S7x50x512.size a := fun v9095 k0_hw1131 => k0_hw1131

def k0_off2263 (i : grid0.Coords) : Fin 3 → Nat :=
  let c6_10366 : Index := 6#32
  let c4_10367 : Index := 4#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9101 : Index := Scalar.indexCast v8789
  ![6, 4, v9101.toNat]
def k0_off2264 (v9102 : BitVec 32) : Fin 3 → Nat :=
  let c0_10372 : Index := 0#32
  let v9105 : Index := Scalar.indexCast v9102
  let c0_10373 : Index := 0#32
  ![0, v9105.toNat, 0]

def k0_chk1132 (v9102 : BitVec 32) : Prop :=
  (∀ a, (k0_off2264 v9102) a + S7x1x512.size a ≤ S7x50x512.size a)
theorem k0_off2264_inb : ∀ (v9102 : BitVec 32) (k0_hw1132 : k0_chk1132 v9102), ∀ a, (k0_off2264 v9102) a + S7x1x512.size a ≤ S7x50x512.size a := fun v9102 k0_hw1132 => k0_hw1132

def k0_off2265 (i : grid0.Coords) : Fin 3 → Nat :=
  let c6_10374 : Index := 6#32
  let c5_10375 : Index := 5#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9108 : Index := Scalar.indexCast v8789
  ![6, 5, v9108.toNat]
def k0_off2266 (v9109 : BitVec 32) : Fin 3 → Nat :=
  let c0_10380 : Index := 0#32
  let v9112 : Index := Scalar.indexCast v9109
  let c0_10381 : Index := 0#32
  ![0, v9112.toNat, 0]

def k0_chk1133 (v9109 : BitVec 32) : Prop :=
  (∀ a, (k0_off2266 v9109) a + S7x1x512.size a ≤ S7x50x512.size a)
theorem k0_off2266_inb : ∀ (v9109 : BitVec 32) (k0_hw1133 : k0_chk1133 v9109), ∀ a, (k0_off2266 v9109) a + S7x1x512.size a ≤ S7x50x512.size a := fun v9109 k0_hw1133 => k0_hw1133

def k0_off2267 (i : grid0.Coords) : Fin 3 → Nat :=
  let c6_10382 : Index := 6#32
  let c6_10383 : Index := 6#32
  let arg0 : BitVec 32 := BitVec.ofNat 32 (i 0).val
  let c32_i32_10009 : BitVec 32 := 32#32
  let v8788 : BitVec 32 := Scalar.muli arg0 c32_i32_10009
  let c26_i32 : BitVec 32 := 26#32
  let v8789 : BitVec 32 := Scalar.addi v8788 c26_i32
  let v9115 : Index := Scalar.indexCast v8789
  ![6, 6, v9115.toNat]
def k0_off2268 (v9116 : BitVec 32) : Fin 3 → Nat :=
  let c0_10388 : Index := 0#32
  let v9119 : Index := Scalar.indexCast v9116
  let c0_10389 : Index := 0#32
  ![0, v9119.toNat, 0]

def k0_chk1134 (v9116 : BitVec 32) : Prop :=
  (∀ a, (k0_off2268 v9116) a + S7x1x512.size a ≤ S7x50x512.size a)
theorem k0_off2268_inb : ∀ (v9116 : BitVec 32) (k0_hw1134 : k0_chk1134 v9116), ∀ a, (k0_off2268 v9116) a + S7x1x512.size a ≤ S7x50x512.size a := fun v9116 k0_hw1134 => k0_hw1134

def k0_off2269 (i : grid0.Coords) : Fin 3 → Nat :=
  let c0_10395 : Index := 0#32
  let c0_10396 : Index := 0#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9128 : Index := Scalar.indexCast v9127
  ![0, 0, v9128.toNat]
def k0_off2270 (v9129 : BitVec 32) : Fin 3 → Nat :=
  let v9130 : Index := Scalar.indexCast v9129
  let c0_10397 : Index := 0#32
  let c0_10398 : Index := 0#32
  ![v9130.toNat, 0, 0]

def k0_chk1135 (v9129 : BitVec 32) : Prop :=
  (∀ a, (k0_off2270 v9129) a + S1x50x512.size a ≤ S250x50x512.size a)
theorem k0_off2270_inb : ∀ (v9129 : BitVec 32) (k0_hw1135 : k0_chk1135 v9129), ∀ a, (k0_off2270 v9129) a + S1x50x512.size a ≤ S250x50x512.size a := fun v9129 k0_hw1135 => k0_hw1135

def k0_off2271 (i : grid0.Coords) : Fin 3 → Nat :=
  let c1_10406 : Index := 1#32
  let c0_10407 : Index := 0#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9138 : Index := Scalar.indexCast v9127
  ![1, 0, v9138.toNat]
def k0_off2272 (v9139 : BitVec 32) : Fin 3 → Nat :=
  let v9140 : Index := Scalar.indexCast v9139
  let c0_10408 : Index := 0#32
  let c0_10409 : Index := 0#32
  ![v9140.toNat, 0, 0]

def k0_chk1136 (v9139 : BitVec 32) : Prop :=
  (∀ a, (k0_off2272 v9139) a + S1x50x512.size a ≤ S250x50x512.size a)
theorem k0_off2272_inb : ∀ (v9139 : BitVec 32) (k0_hw1136 : k0_chk1136 v9139), ∀ a, (k0_off2272 v9139) a + S1x50x512.size a ≤ S250x50x512.size a := fun v9139 k0_hw1136 => k0_hw1136

def k0_off2273 (i : grid0.Coords) : Fin 3 → Nat :=
  let c2_10417 : Index := 2#32
  let c0_10418 : Index := 0#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9148 : Index := Scalar.indexCast v9127
  ![2, 0, v9148.toNat]
def k0_off2274 (v9149 : BitVec 32) : Fin 3 → Nat :=
  let v9150 : Index := Scalar.indexCast v9149
  let c0_10419 : Index := 0#32
  let c0_10420 : Index := 0#32
  ![v9150.toNat, 0, 0]

def k0_chk1137 (v9149 : BitVec 32) : Prop :=
  (∀ a, (k0_off2274 v9149) a + S1x50x512.size a ≤ S250x50x512.size a)
theorem k0_off2274_inb : ∀ (v9149 : BitVec 32) (k0_hw1137 : k0_chk1137 v9149), ∀ a, (k0_off2274 v9149) a + S1x50x512.size a ≤ S250x50x512.size a := fun v9149 k0_hw1137 => k0_hw1137

def k0_off2275 (i : grid0.Coords) : Fin 3 → Nat :=
  let c3_10428 : Index := 3#32
  let c0_10429 : Index := 0#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9158 : Index := Scalar.indexCast v9127
  ![3, 0, v9158.toNat]
def k0_off2276 (v9159 : BitVec 32) : Fin 3 → Nat :=
  let v9160 : Index := Scalar.indexCast v9159
  let c0_10430 : Index := 0#32
  let c0_10431 : Index := 0#32
  ![v9160.toNat, 0, 0]

def k0_chk1138 (v9159 : BitVec 32) : Prop :=
  (∀ a, (k0_off2276 v9159) a + S1x50x512.size a ≤ S250x50x512.size a)
theorem k0_off2276_inb : ∀ (v9159 : BitVec 32) (k0_hw1138 : k0_chk1138 v9159), ∀ a, (k0_off2276 v9159) a + S1x50x512.size a ≤ S250x50x512.size a := fun v9159 k0_hw1138 => k0_hw1138

def k0_off2277 (i : grid0.Coords) : Fin 3 → Nat :=
  let c4_10439 : Index := 4#32
  let c0_10440 : Index := 0#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9168 : Index := Scalar.indexCast v9127
  ![4, 0, v9168.toNat]
def k0_off2278 (v9169 : BitVec 32) : Fin 3 → Nat :=
  let v9170 : Index := Scalar.indexCast v9169
  let c0_10441 : Index := 0#32
  let c0_10442 : Index := 0#32
  ![v9170.toNat, 0, 0]

def k0_chk1139 (v9169 : BitVec 32) : Prop :=
  (∀ a, (k0_off2278 v9169) a + S1x50x512.size a ≤ S250x50x512.size a)
theorem k0_off2278_inb : ∀ (v9169 : BitVec 32) (k0_hw1139 : k0_chk1139 v9169), ∀ a, (k0_off2278 v9169) a + S1x50x512.size a ≤ S250x50x512.size a := fun v9169 k0_hw1139 => k0_hw1139

def k0_off2279 (i : grid0.Coords) : Fin 3 → Nat :=
  let c5_10450 : Index := 5#32
  let c0_10451 : Index := 0#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9178 : Index := Scalar.indexCast v9127
  ![5, 0, v9178.toNat]
def k0_off2280 (v9179 : BitVec 32) : Fin 3 → Nat :=
  let v9180 : Index := Scalar.indexCast v9179
  let c0_10452 : Index := 0#32
  let c0_10453 : Index := 0#32
  ![v9180.toNat, 0, 0]

def k0_chk1140 (v9179 : BitVec 32) : Prop :=
  (∀ a, (k0_off2280 v9179) a + S1x50x512.size a ≤ S250x50x512.size a)
theorem k0_off2280_inb : ∀ (v9179 : BitVec 32) (k0_hw1140 : k0_chk1140 v9179), ∀ a, (k0_off2280 v9179) a + S1x50x512.size a ≤ S250x50x512.size a := fun v9179 k0_hw1140 => k0_hw1140

def k0_off2281 (i : grid0.Coords) : Fin 3 → Nat :=
  let c6_10461 : Index := 6#32
  let c0_10462 : Index := 0#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9188 : Index := Scalar.indexCast v9127
  ![6, 0, v9188.toNat]
def k0_off2282 (v9189 : BitVec 32) : Fin 3 → Nat :=
  let v9190 : Index := Scalar.indexCast v9189
  let c0_10463 : Index := 0#32
  let c0_10464 : Index := 0#32
  ![v9190.toNat, 0, 0]

def k0_chk1141 (v9189 : BitVec 32) : Prop :=
  (∀ a, (k0_off2282 v9189) a + S1x50x512.size a ≤ S250x50x512.size a)
theorem k0_off2282_inb : ∀ (v9189 : BitVec 32) (k0_hw1141 : k0_chk1141 v9189), ∀ a, (k0_off2282 v9189) a + S1x50x512.size a ≤ S250x50x512.size a := fun v9189 k0_hw1141 => k0_hw1141

def k0_off2283 (i : grid0.Coords) : Fin 3 → Nat :=
  let c0_10472 : Index := 0#32
  let c2_10473 : Index := 2#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9198 : Index := Scalar.indexCast v9127
  ![0, 2, v9198.toNat]
def k0_off2284 (v9199 : BitVec 32) : Fin 3 → Nat :=
  let c0_10478 : Index := 0#32
  let v9202 : Index := Scalar.indexCast v9199
  let c0_10479 : Index := 0#32
  ![0, v9202.toNat, 0]

def k0_chk1142 (v9199 : BitVec 32) : Prop :=
  (∀ a, (k0_off2284 v9199) a + S7x1x512.size a ≤ S7x50x512.size a)
theorem k0_off2284_inb : ∀ (v9199 : BitVec 32) (k0_hw1142 : k0_chk1142 v9199), ∀ a, (k0_off2284 v9199) a + S7x1x512.size a ≤ S7x50x512.size a := fun v9199 k0_hw1142 => k0_hw1142

def k0_off2285 (i : grid0.Coords) : Fin 3 → Nat :=
  let c0_10480 : Index := 0#32
  let c3_10481 : Index := 3#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9204 : Index := Scalar.indexCast v9127
  ![0, 3, v9204.toNat]
def k0_off2286 (v9205 : BitVec 32) : Fin 3 → Nat :=
  let c0_10486 : Index := 0#32
  let v9208 : Index := Scalar.indexCast v9205
  let c0_10487 : Index := 0#32
  ![0, v9208.toNat, 0]

def k0_chk1143 (v9205 : BitVec 32) : Prop :=
  (∀ a, (k0_off2286 v9205) a + S7x1x512.size a ≤ S7x50x512.size a)
theorem k0_off2286_inb : ∀ (v9205 : BitVec 32) (k0_hw1143 : k0_chk1143 v9205), ∀ a, (k0_off2286 v9205) a + S7x1x512.size a ≤ S7x50x512.size a := fun v9205 k0_hw1143 => k0_hw1143

def k0_off2287 (i : grid0.Coords) : Fin 3 → Nat :=
  let c0_10488 : Index := 0#32
  let c4_10489 : Index := 4#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9211 : Index := Scalar.indexCast v9127
  ![0, 4, v9211.toNat]
def k0_off2288 (v9212 : BitVec 32) : Fin 3 → Nat :=
  let c0_10494 : Index := 0#32
  let v9215 : Index := Scalar.indexCast v9212
  let c0_10495 : Index := 0#32
  ![0, v9215.toNat, 0]

def k0_chk1144 (v9212 : BitVec 32) : Prop :=
  (∀ a, (k0_off2288 v9212) a + S7x1x512.size a ≤ S7x50x512.size a)
theorem k0_off2288_inb : ∀ (v9212 : BitVec 32) (k0_hw1144 : k0_chk1144 v9212), ∀ a, (k0_off2288 v9212) a + S7x1x512.size a ≤ S7x50x512.size a := fun v9212 k0_hw1144 => k0_hw1144

def k0_off2289 (i : grid0.Coords) : Fin 3 → Nat :=
  let c0_10496 : Index := 0#32
  let c5_10497 : Index := 5#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9218 : Index := Scalar.indexCast v9127
  ![0, 5, v9218.toNat]
def k0_off2290 (v9219 : BitVec 32) : Fin 3 → Nat :=
  let c0_10502 : Index := 0#32
  let v9222 : Index := Scalar.indexCast v9219
  let c0_10503 : Index := 0#32
  ![0, v9222.toNat, 0]

def k0_chk1145 (v9219 : BitVec 32) : Prop :=
  (∀ a, (k0_off2290 v9219) a + S7x1x512.size a ≤ S7x50x512.size a)
theorem k0_off2290_inb : ∀ (v9219 : BitVec 32) (k0_hw1145 : k0_chk1145 v9219), ∀ a, (k0_off2290 v9219) a + S7x1x512.size a ≤ S7x50x512.size a := fun v9219 k0_hw1145 => k0_hw1145

def k0_off2291 (i : grid0.Coords) : Fin 3 → Nat :=
  let c0_10504 : Index := 0#32
  let c6_10505 : Index := 6#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9225 : Index := Scalar.indexCast v9127
  ![0, 6, v9225.toNat]
def k0_off2292 (v9226 : BitVec 32) : Fin 3 → Nat :=
  let c0_10510 : Index := 0#32
  let v9229 : Index := Scalar.indexCast v9226
  let c0_10511 : Index := 0#32
  ![0, v9229.toNat, 0]

def k0_chk1146 (v9226 : BitVec 32) : Prop :=
  (∀ a, (k0_off2292 v9226) a + S7x1x512.size a ≤ S7x50x512.size a)
theorem k0_off2292_inb : ∀ (v9226 : BitVec 32) (k0_hw1146 : k0_chk1146 v9226), ∀ a, (k0_off2292 v9226) a + S7x1x512.size a ≤ S7x50x512.size a := fun v9226 k0_hw1146 => k0_hw1146

def k0_off2293 (i : grid0.Coords) : Fin 3 → Nat :=
  let c1_10515 : Index := 1#32
  let c2_10516 : Index := 2#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9236 : Index := Scalar.indexCast v9127
  ![1, 2, v9236.toNat]
def k0_off2294 (v9237 : BitVec 32) : Fin 3 → Nat :=
  let c0_10521 : Index := 0#32
  let v9240 : Index := Scalar.indexCast v9237
  let c0_10522 : Index := 0#32
  ![0, v9240.toNat, 0]

def k0_chk1147 (v9237 : BitVec 32) : Prop :=
  (∀ a, (k0_off2294 v9237) a + S7x1x512.size a ≤ S7x50x512.size a)
theorem k0_off2294_inb : ∀ (v9237 : BitVec 32) (k0_hw1147 : k0_chk1147 v9237), ∀ a, (k0_off2294 v9237) a + S7x1x512.size a ≤ S7x50x512.size a := fun v9237 k0_hw1147 => k0_hw1147

def k0_off2295 (i : grid0.Coords) : Fin 3 → Nat :=
  let c1_10523 : Index := 1#32
  let c3_10524 : Index := 3#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9242 : Index := Scalar.indexCast v9127
  ![1, 3, v9242.toNat]
def k0_off2296 (v9243 : BitVec 32) : Fin 3 → Nat :=
  let c0_10529 : Index := 0#32
  let v9246 : Index := Scalar.indexCast v9243
  let c0_10530 : Index := 0#32
  ![0, v9246.toNat, 0]

def k0_chk1148 (v9243 : BitVec 32) : Prop :=
  (∀ a, (k0_off2296 v9243) a + S7x1x512.size a ≤ S7x50x512.size a)
theorem k0_off2296_inb : ∀ (v9243 : BitVec 32) (k0_hw1148 : k0_chk1148 v9243), ∀ a, (k0_off2296 v9243) a + S7x1x512.size a ≤ S7x50x512.size a := fun v9243 k0_hw1148 => k0_hw1148

def k0_off2297 (i : grid0.Coords) : Fin 3 → Nat :=
  let c1_10531 : Index := 1#32
  let c4_10532 : Index := 4#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9249 : Index := Scalar.indexCast v9127
  ![1, 4, v9249.toNat]
def k0_off2298 (v9250 : BitVec 32) : Fin 3 → Nat :=
  let c0_10537 : Index := 0#32
  let v9253 : Index := Scalar.indexCast v9250
  let c0_10538 : Index := 0#32
  ![0, v9253.toNat, 0]

def k0_chk1149 (v9250 : BitVec 32) : Prop :=
  (∀ a, (k0_off2298 v9250) a + S7x1x512.size a ≤ S7x50x512.size a)
theorem k0_off2298_inb : ∀ (v9250 : BitVec 32) (k0_hw1149 : k0_chk1149 v9250), ∀ a, (k0_off2298 v9250) a + S7x1x512.size a ≤ S7x50x512.size a := fun v9250 k0_hw1149 => k0_hw1149

def k0_off2299 (i : grid0.Coords) : Fin 3 → Nat :=
  let c1_10539 : Index := 1#32
  let c5_10540 : Index := 5#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9256 : Index := Scalar.indexCast v9127
  ![1, 5, v9256.toNat]
def k0_off2300 (v9257 : BitVec 32) : Fin 3 → Nat :=
  let c0_10545 : Index := 0#32
  let v9260 : Index := Scalar.indexCast v9257
  let c0_10546 : Index := 0#32
  ![0, v9260.toNat, 0]

def k0_chk1150 (v9257 : BitVec 32) : Prop :=
  (∀ a, (k0_off2300 v9257) a + S7x1x512.size a ≤ S7x50x512.size a)
theorem k0_off2300_inb : ∀ (v9257 : BitVec 32) (k0_hw1150 : k0_chk1150 v9257), ∀ a, (k0_off2300 v9257) a + S7x1x512.size a ≤ S7x50x512.size a := fun v9257 k0_hw1150 => k0_hw1150

def k0_off2301 (i : grid0.Coords) : Fin 3 → Nat :=
  let c1_10547 : Index := 1#32
  let c6_10548 : Index := 6#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9263 : Index := Scalar.indexCast v9127
  ![1, 6, v9263.toNat]
def k0_off2302 (v9264 : BitVec 32) : Fin 3 → Nat :=
  let c0_10553 : Index := 0#32
  let v9267 : Index := Scalar.indexCast v9264
  let c0_10554 : Index := 0#32
  ![0, v9267.toNat, 0]

def k0_chk1151 (v9264 : BitVec 32) : Prop :=
  (∀ a, (k0_off2302 v9264) a + S7x1x512.size a ≤ S7x50x512.size a)
theorem k0_off2302_inb : ∀ (v9264 : BitVec 32) (k0_hw1151 : k0_chk1151 v9264), ∀ a, (k0_off2302 v9264) a + S7x1x512.size a ≤ S7x50x512.size a := fun v9264 k0_hw1151 => k0_hw1151

def k0_off2303 (i : grid0.Coords) : Fin 3 → Nat :=
  let c2_10559 : Index := 2#32
  let c2_10560 : Index := 2#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9274 : Index := Scalar.indexCast v9127
  ![2, 2, v9274.toNat]
def k0_off2304 (v9275 : BitVec 32) : Fin 3 → Nat :=
  let c0_10565 : Index := 0#32
  let v9278 : Index := Scalar.indexCast v9275
  let c0_10566 : Index := 0#32
  ![0, v9278.toNat, 0]

def k0_chk1152 (v9275 : BitVec 32) : Prop :=
  (∀ a, (k0_off2304 v9275) a + S7x1x512.size a ≤ S7x50x512.size a)
theorem k0_off2304_inb : ∀ (v9275 : BitVec 32) (k0_hw1152 : k0_chk1152 v9275), ∀ a, (k0_off2304 v9275) a + S7x1x512.size a ≤ S7x50x512.size a := fun v9275 k0_hw1152 => k0_hw1152

def k0_off2305 (i : grid0.Coords) : Fin 3 → Nat :=
  let c2_10567 : Index := 2#32
  let c3_10568 : Index := 3#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9280 : Index := Scalar.indexCast v9127
  ![2, 3, v9280.toNat]
def k0_off2306 (v9281 : BitVec 32) : Fin 3 → Nat :=
  let c0_10573 : Index := 0#32
  let v9284 : Index := Scalar.indexCast v9281
  let c0_10574 : Index := 0#32
  ![0, v9284.toNat, 0]

def k0_chk1153 (v9281 : BitVec 32) : Prop :=
  (∀ a, (k0_off2306 v9281) a + S7x1x512.size a ≤ S7x50x512.size a)
theorem k0_off2306_inb : ∀ (v9281 : BitVec 32) (k0_hw1153 : k0_chk1153 v9281), ∀ a, (k0_off2306 v9281) a + S7x1x512.size a ≤ S7x50x512.size a := fun v9281 k0_hw1153 => k0_hw1153

def k0_off2307 (i : grid0.Coords) : Fin 3 → Nat :=
  let c2_10575 : Index := 2#32
  let c4_10576 : Index := 4#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9287 : Index := Scalar.indexCast v9127
  ![2, 4, v9287.toNat]
def k0_off2308 (v9288 : BitVec 32) : Fin 3 → Nat :=
  let c0_10581 : Index := 0#32
  let v9291 : Index := Scalar.indexCast v9288
  let c0_10582 : Index := 0#32
  ![0, v9291.toNat, 0]

def k0_chk1154 (v9288 : BitVec 32) : Prop :=
  (∀ a, (k0_off2308 v9288) a + S7x1x512.size a ≤ S7x50x512.size a)
theorem k0_off2308_inb : ∀ (v9288 : BitVec 32) (k0_hw1154 : k0_chk1154 v9288), ∀ a, (k0_off2308 v9288) a + S7x1x512.size a ≤ S7x50x512.size a := fun v9288 k0_hw1154 => k0_hw1154

def k0_off2309 (i : grid0.Coords) : Fin 3 → Nat :=
  let c2_10583 : Index := 2#32
  let c5_10584 : Index := 5#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9294 : Index := Scalar.indexCast v9127
  ![2, 5, v9294.toNat]
def k0_off2310 (v9295 : BitVec 32) : Fin 3 → Nat :=
  let c0_10589 : Index := 0#32
  let v9298 : Index := Scalar.indexCast v9295
  let c0_10590 : Index := 0#32
  ![0, v9298.toNat, 0]

def k0_chk1155 (v9295 : BitVec 32) : Prop :=
  (∀ a, (k0_off2310 v9295) a + S7x1x512.size a ≤ S7x50x512.size a)
theorem k0_off2310_inb : ∀ (v9295 : BitVec 32) (k0_hw1155 : k0_chk1155 v9295), ∀ a, (k0_off2310 v9295) a + S7x1x512.size a ≤ S7x50x512.size a := fun v9295 k0_hw1155 => k0_hw1155

def k0_off2311 (i : grid0.Coords) : Fin 3 → Nat :=
  let c2_10591 : Index := 2#32
  let c6_10592 : Index := 6#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9301 : Index := Scalar.indexCast v9127
  ![2, 6, v9301.toNat]
def k0_off2312 (v9302 : BitVec 32) : Fin 3 → Nat :=
  let c0_10597 : Index := 0#32
  let v9305 : Index := Scalar.indexCast v9302
  let c0_10598 : Index := 0#32
  ![0, v9305.toNat, 0]

def k0_chk1156 (v9302 : BitVec 32) : Prop :=
  (∀ a, (k0_off2312 v9302) a + S7x1x512.size a ≤ S7x50x512.size a)
theorem k0_off2312_inb : ∀ (v9302 : BitVec 32) (k0_hw1156 : k0_chk1156 v9302), ∀ a, (k0_off2312 v9302) a + S7x1x512.size a ≤ S7x50x512.size a := fun v9302 k0_hw1156 => k0_hw1156

def k0_off2313 (i : grid0.Coords) : Fin 3 → Nat :=
  let c3_10603 : Index := 3#32
  let c2_10604 : Index := 2#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9312 : Index := Scalar.indexCast v9127
  ![3, 2, v9312.toNat]
def k0_off2314 (v9313 : BitVec 32) : Fin 3 → Nat :=
  let c0_10609 : Index := 0#32
  let v9316 : Index := Scalar.indexCast v9313
  let c0_10610 : Index := 0#32
  ![0, v9316.toNat, 0]

def k0_chk1157 (v9313 : BitVec 32) : Prop :=
  (∀ a, (k0_off2314 v9313) a + S7x1x512.size a ≤ S7x50x512.size a)
theorem k0_off2314_inb : ∀ (v9313 : BitVec 32) (k0_hw1157 : k0_chk1157 v9313), ∀ a, (k0_off2314 v9313) a + S7x1x512.size a ≤ S7x50x512.size a := fun v9313 k0_hw1157 => k0_hw1157

def k0_off2315 (i : grid0.Coords) : Fin 3 → Nat :=
  let c3_10611 : Index := 3#32
  let c3_10612 : Index := 3#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9318 : Index := Scalar.indexCast v9127
  ![3, 3, v9318.toNat]
def k0_off2316 (v9319 : BitVec 32) : Fin 3 → Nat :=
  let c0_10617 : Index := 0#32
  let v9322 : Index := Scalar.indexCast v9319
  let c0_10618 : Index := 0#32
  ![0, v9322.toNat, 0]

def k0_chk1158 (v9319 : BitVec 32) : Prop :=
  (∀ a, (k0_off2316 v9319) a + S7x1x512.size a ≤ S7x50x512.size a)
theorem k0_off2316_inb : ∀ (v9319 : BitVec 32) (k0_hw1158 : k0_chk1158 v9319), ∀ a, (k0_off2316 v9319) a + S7x1x512.size a ≤ S7x50x512.size a := fun v9319 k0_hw1158 => k0_hw1158

def k0_off2317 (i : grid0.Coords) : Fin 3 → Nat :=
  let c3_10619 : Index := 3#32
  let c4_10620 : Index := 4#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9325 : Index := Scalar.indexCast v9127
  ![3, 4, v9325.toNat]
def k0_off2318 (v9326 : BitVec 32) : Fin 3 → Nat :=
  let c0_10625 : Index := 0#32
  let v9329 : Index := Scalar.indexCast v9326
  let c0_10626 : Index := 0#32
  ![0, v9329.toNat, 0]

def k0_chk1159 (v9326 : BitVec 32) : Prop :=
  (∀ a, (k0_off2318 v9326) a + S7x1x512.size a ≤ S7x50x512.size a)
theorem k0_off2318_inb : ∀ (v9326 : BitVec 32) (k0_hw1159 : k0_chk1159 v9326), ∀ a, (k0_off2318 v9326) a + S7x1x512.size a ≤ S7x50x512.size a := fun v9326 k0_hw1159 => k0_hw1159

def k0_off2319 (i : grid0.Coords) : Fin 3 → Nat :=
  let c3_10627 : Index := 3#32
  let c5_10628 : Index := 5#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9332 : Index := Scalar.indexCast v9127
  ![3, 5, v9332.toNat]
def k0_off2320 (v9333 : BitVec 32) : Fin 3 → Nat :=
  let c0_10633 : Index := 0#32
  let v9336 : Index := Scalar.indexCast v9333
  let c0_10634 : Index := 0#32
  ![0, v9336.toNat, 0]

def k0_chk1160 (v9333 : BitVec 32) : Prop :=
  (∀ a, (k0_off2320 v9333) a + S7x1x512.size a ≤ S7x50x512.size a)
theorem k0_off2320_inb : ∀ (v9333 : BitVec 32) (k0_hw1160 : k0_chk1160 v9333), ∀ a, (k0_off2320 v9333) a + S7x1x512.size a ≤ S7x50x512.size a := fun v9333 k0_hw1160 => k0_hw1160

def k0_off2321 (i : grid0.Coords) : Fin 3 → Nat :=
  let c3_10635 : Index := 3#32
  let c6_10636 : Index := 6#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9339 : Index := Scalar.indexCast v9127
  ![3, 6, v9339.toNat]
def k0_off2322 (v9340 : BitVec 32) : Fin 3 → Nat :=
  let c0_10641 : Index := 0#32
  let v9343 : Index := Scalar.indexCast v9340
  let c0_10642 : Index := 0#32
  ![0, v9343.toNat, 0]

def k0_chk1161 (v9340 : BitVec 32) : Prop :=
  (∀ a, (k0_off2322 v9340) a + S7x1x512.size a ≤ S7x50x512.size a)
theorem k0_off2322_inb : ∀ (v9340 : BitVec 32) (k0_hw1161 : k0_chk1161 v9340), ∀ a, (k0_off2322 v9340) a + S7x1x512.size a ≤ S7x50x512.size a := fun v9340 k0_hw1161 => k0_hw1161

def k0_off2323 (i : grid0.Coords) : Fin 3 → Nat :=
  let c4_10647 : Index := 4#32
  let c2_10648 : Index := 2#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9350 : Index := Scalar.indexCast v9127
  ![4, 2, v9350.toNat]
def k0_off2324 (v9351 : BitVec 32) : Fin 3 → Nat :=
  let c0_10653 : Index := 0#32
  let v9354 : Index := Scalar.indexCast v9351
  let c0_10654 : Index := 0#32
  ![0, v9354.toNat, 0]

def k0_chk1162 (v9351 : BitVec 32) : Prop :=
  (∀ a, (k0_off2324 v9351) a + S7x1x512.size a ≤ S7x50x512.size a)
theorem k0_off2324_inb : ∀ (v9351 : BitVec 32) (k0_hw1162 : k0_chk1162 v9351), ∀ a, (k0_off2324 v9351) a + S7x1x512.size a ≤ S7x50x512.size a := fun v9351 k0_hw1162 => k0_hw1162

def k0_off2325 (i : grid0.Coords) : Fin 3 → Nat :=
  let c4_10655 : Index := 4#32
  let c3_10656 : Index := 3#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9356 : Index := Scalar.indexCast v9127
  ![4, 3, v9356.toNat]
def k0_off2326 (v9357 : BitVec 32) : Fin 3 → Nat :=
  let c0_10661 : Index := 0#32
  let v9360 : Index := Scalar.indexCast v9357
  let c0_10662 : Index := 0#32
  ![0, v9360.toNat, 0]

def k0_chk1163 (v9357 : BitVec 32) : Prop :=
  (∀ a, (k0_off2326 v9357) a + S7x1x512.size a ≤ S7x50x512.size a)
theorem k0_off2326_inb : ∀ (v9357 : BitVec 32) (k0_hw1163 : k0_chk1163 v9357), ∀ a, (k0_off2326 v9357) a + S7x1x512.size a ≤ S7x50x512.size a := fun v9357 k0_hw1163 => k0_hw1163

def k0_off2327 (i : grid0.Coords) : Fin 3 → Nat :=
  let c4_10663 : Index := 4#32
  let c4_10664 : Index := 4#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9363 : Index := Scalar.indexCast v9127
  ![4, 4, v9363.toNat]
def k0_off2328 (v9364 : BitVec 32) : Fin 3 → Nat :=
  let c0_10669 : Index := 0#32
  let v9367 : Index := Scalar.indexCast v9364
  let c0_10670 : Index := 0#32
  ![0, v9367.toNat, 0]

def k0_chk1164 (v9364 : BitVec 32) : Prop :=
  (∀ a, (k0_off2328 v9364) a + S7x1x512.size a ≤ S7x50x512.size a)
theorem k0_off2328_inb : ∀ (v9364 : BitVec 32) (k0_hw1164 : k0_chk1164 v9364), ∀ a, (k0_off2328 v9364) a + S7x1x512.size a ≤ S7x50x512.size a := fun v9364 k0_hw1164 => k0_hw1164

def k0_off2329 (i : grid0.Coords) : Fin 3 → Nat :=
  let c4_10671 : Index := 4#32
  let c5_10672 : Index := 5#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9370 : Index := Scalar.indexCast v9127
  ![4, 5, v9370.toNat]
def k0_off2330 (v9371 : BitVec 32) : Fin 3 → Nat :=
  let c0_10677 : Index := 0#32
  let v9374 : Index := Scalar.indexCast v9371
  let c0_10678 : Index := 0#32
  ![0, v9374.toNat, 0]

def k0_chk1165 (v9371 : BitVec 32) : Prop :=
  (∀ a, (k0_off2330 v9371) a + S7x1x512.size a ≤ S7x50x512.size a)
theorem k0_off2330_inb : ∀ (v9371 : BitVec 32) (k0_hw1165 : k0_chk1165 v9371), ∀ a, (k0_off2330 v9371) a + S7x1x512.size a ≤ S7x50x512.size a := fun v9371 k0_hw1165 => k0_hw1165

def k0_off2331 (i : grid0.Coords) : Fin 3 → Nat :=
  let c4_10679 : Index := 4#32
  let c6_10680 : Index := 6#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9377 : Index := Scalar.indexCast v9127
  ![4, 6, v9377.toNat]
def k0_off2332 (v9378 : BitVec 32) : Fin 3 → Nat :=
  let c0_10685 : Index := 0#32
  let v9381 : Index := Scalar.indexCast v9378
  let c0_10686 : Index := 0#32
  ![0, v9381.toNat, 0]

def k0_chk1166 (v9378 : BitVec 32) : Prop :=
  (∀ a, (k0_off2332 v9378) a + S7x1x512.size a ≤ S7x50x512.size a)
theorem k0_off2332_inb : ∀ (v9378 : BitVec 32) (k0_hw1166 : k0_chk1166 v9378), ∀ a, (k0_off2332 v9378) a + S7x1x512.size a ≤ S7x50x512.size a := fun v9378 k0_hw1166 => k0_hw1166

def k0_off2333 (i : grid0.Coords) : Fin 3 → Nat :=
  let c5_10691 : Index := 5#32
  let c2_10692 : Index := 2#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9388 : Index := Scalar.indexCast v9127
  ![5, 2, v9388.toNat]
def k0_off2334 (v9389 : BitVec 32) : Fin 3 → Nat :=
  let c0_10697 : Index := 0#32
  let v9392 : Index := Scalar.indexCast v9389
  let c0_10698 : Index := 0#32
  ![0, v9392.toNat, 0]

def k0_chk1167 (v9389 : BitVec 32) : Prop :=
  (∀ a, (k0_off2334 v9389) a + S7x1x512.size a ≤ S7x50x512.size a)
theorem k0_off2334_inb : ∀ (v9389 : BitVec 32) (k0_hw1167 : k0_chk1167 v9389), ∀ a, (k0_off2334 v9389) a + S7x1x512.size a ≤ S7x50x512.size a := fun v9389 k0_hw1167 => k0_hw1167

def k0_off2335 (i : grid0.Coords) : Fin 3 → Nat :=
  let c5_10699 : Index := 5#32
  let c3_10700 : Index := 3#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9394 : Index := Scalar.indexCast v9127
  ![5, 3, v9394.toNat]
def k0_off2336 (v9395 : BitVec 32) : Fin 3 → Nat :=
  let c0_10705 : Index := 0#32
  let v9398 : Index := Scalar.indexCast v9395
  let c0_10706 : Index := 0#32
  ![0, v9398.toNat, 0]

def k0_chk1168 (v9395 : BitVec 32) : Prop :=
  (∀ a, (k0_off2336 v9395) a + S7x1x512.size a ≤ S7x50x512.size a)
theorem k0_off2336_inb : ∀ (v9395 : BitVec 32) (k0_hw1168 : k0_chk1168 v9395), ∀ a, (k0_off2336 v9395) a + S7x1x512.size a ≤ S7x50x512.size a := fun v9395 k0_hw1168 => k0_hw1168

def k0_off2337 (i : grid0.Coords) : Fin 3 → Nat :=
  let c5_10707 : Index := 5#32
  let c4_10708 : Index := 4#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9401 : Index := Scalar.indexCast v9127
  ![5, 4, v9401.toNat]
def k0_off2338 (v9402 : BitVec 32) : Fin 3 → Nat :=
  let c0_10713 : Index := 0#32
  let v9405 : Index := Scalar.indexCast v9402
  let c0_10714 : Index := 0#32
  ![0, v9405.toNat, 0]

def k0_chk1169 (v9402 : BitVec 32) : Prop :=
  (∀ a, (k0_off2338 v9402) a + S7x1x512.size a ≤ S7x50x512.size a)
theorem k0_off2338_inb : ∀ (v9402 : BitVec 32) (k0_hw1169 : k0_chk1169 v9402), ∀ a, (k0_off2338 v9402) a + S7x1x512.size a ≤ S7x50x512.size a := fun v9402 k0_hw1169 => k0_hw1169

def k0_off2339 (i : grid0.Coords) : Fin 3 → Nat :=
  let c5_10715 : Index := 5#32
  let c5_10716 : Index := 5#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9408 : Index := Scalar.indexCast v9127
  ![5, 5, v9408.toNat]
def k0_off2340 (v9409 : BitVec 32) : Fin 3 → Nat :=
  let c0_10721 : Index := 0#32
  let v9412 : Index := Scalar.indexCast v9409
  let c0_10722 : Index := 0#32
  ![0, v9412.toNat, 0]

def k0_chk1170 (v9409 : BitVec 32) : Prop :=
  (∀ a, (k0_off2340 v9409) a + S7x1x512.size a ≤ S7x50x512.size a)
theorem k0_off2340_inb : ∀ (v9409 : BitVec 32) (k0_hw1170 : k0_chk1170 v9409), ∀ a, (k0_off2340 v9409) a + S7x1x512.size a ≤ S7x50x512.size a := fun v9409 k0_hw1170 => k0_hw1170

def k0_off2341 (i : grid0.Coords) : Fin 3 → Nat :=
  let c5_10723 : Index := 5#32
  let c6_10724 : Index := 6#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9415 : Index := Scalar.indexCast v9127
  ![5, 6, v9415.toNat]
def k0_off2342 (v9416 : BitVec 32) : Fin 3 → Nat :=
  let c0_10729 : Index := 0#32
  let v9419 : Index := Scalar.indexCast v9416
  let c0_10730 : Index := 0#32
  ![0, v9419.toNat, 0]

def k0_chk1171 (v9416 : BitVec 32) : Prop :=
  (∀ a, (k0_off2342 v9416) a + S7x1x512.size a ≤ S7x50x512.size a)
theorem k0_off2342_inb : ∀ (v9416 : BitVec 32) (k0_hw1171 : k0_chk1171 v9416), ∀ a, (k0_off2342 v9416) a + S7x1x512.size a ≤ S7x50x512.size a := fun v9416 k0_hw1171 => k0_hw1171

def k0_off2343 (i : grid0.Coords) : Fin 3 → Nat :=
  let c6_10735 : Index := 6#32
  let c2_10736 : Index := 2#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9426 : Index := Scalar.indexCast v9127
  ![6, 2, v9426.toNat]
def k0_off2344 (v9427 : BitVec 32) : Fin 3 → Nat :=
  let c0_10741 : Index := 0#32
  let v9430 : Index := Scalar.indexCast v9427
  let c0_10742 : Index := 0#32
  ![0, v9430.toNat, 0]

def k0_chk1172 (v9427 : BitVec 32) : Prop :=
  (∀ a, (k0_off2344 v9427) a + S7x1x512.size a ≤ S7x50x512.size a)
theorem k0_off2344_inb : ∀ (v9427 : BitVec 32) (k0_hw1172 : k0_chk1172 v9427), ∀ a, (k0_off2344 v9427) a + S7x1x512.size a ≤ S7x50x512.size a := fun v9427 k0_hw1172 => k0_hw1172

def k0_off2345 (i : grid0.Coords) : Fin 3 → Nat :=
  let c6_10743 : Index := 6#32
  let c3_10744 : Index := 3#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9432 : Index := Scalar.indexCast v9127
  ![6, 3, v9432.toNat]
def k0_off2346 (v9433 : BitVec 32) : Fin 3 → Nat :=
  let c0_10749 : Index := 0#32
  let v9436 : Index := Scalar.indexCast v9433
  let c0_10750 : Index := 0#32
  ![0, v9436.toNat, 0]

def k0_chk1173 (v9433 : BitVec 32) : Prop :=
  (∀ a, (k0_off2346 v9433) a + S7x1x512.size a ≤ S7x50x512.size a)
theorem k0_off2346_inb : ∀ (v9433 : BitVec 32) (k0_hw1173 : k0_chk1173 v9433), ∀ a, (k0_off2346 v9433) a + S7x1x512.size a ≤ S7x50x512.size a := fun v9433 k0_hw1173 => k0_hw1173

def k0_off2347 (i : grid0.Coords) : Fin 3 → Nat :=
  let c6_10751 : Index := 6#32
  let c4_10752 : Index := 4#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9439 : Index := Scalar.indexCast v9127
  ![6, 4, v9439.toNat]
def k0_off2348 (v9440 : BitVec 32) : Fin 3 → Nat :=
  let c0_10757 : Index := 0#32
  let v9443 : Index := Scalar.indexCast v9440
  let c0_10758 : Index := 0#32
  ![0, v9443.toNat, 0]

def k0_chk1174 (v9440 : BitVec 32) : Prop :=
  (∀ a, (k0_off2348 v9440) a + S7x1x512.size a ≤ S7x50x512.size a)
theorem k0_off2348_inb : ∀ (v9440 : BitVec 32) (k0_hw1174 : k0_chk1174 v9440), ∀ a, (k0_off2348 v9440) a + S7x1x512.size a ≤ S7x50x512.size a := fun v9440 k0_hw1174 => k0_hw1174

def k0_off2349 (i : grid0.Coords) : Fin 3 → Nat :=
  let c6_10759 : Index := 6#32
  let c5_10760 : Index := 5#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9446 : Index := Scalar.indexCast v9127
  ![6, 5, v9446.toNat]
def k0_off2350 (v9447 : BitVec 32) : Fin 3 → Nat :=
  let c0_10765 : Index := 0#32
  let v9450 : Index := Scalar.indexCast v9447
  let c0_10766 : Index := 0#32
  ![0, v9450.toNat, 0]

def k0_chk1175 (v9447 : BitVec 32) : Prop :=
  (∀ a, (k0_off2350 v9447) a + S7x1x512.size a ≤ S7x50x512.size a)
theorem k0_off2350_inb : ∀ (v9447 : BitVec 32) (k0_hw1175 : k0_chk1175 v9447), ∀ a, (k0_off2350 v9447) a + S7x1x512.size a ≤ S7x50x512.size a := fun v9447 k0_hw1175 => k0_hw1175

def k0_off2351 (i : grid0.Coords) : Fin 3 → Nat :=
  let c6_10767 : Index := 6#32
  let c6_10768 : Index := 6#32
  let arg0 : BitVec 32 := BitVec.ofNat 32 (i 0).val
  let c32_i32_10394 : BitVec 32 := 32#32
  let v9126 : BitVec 32 := Scalar.muli arg0 c32_i32_10394
  let c27_i32 : BitVec 32 := 27#32
  let v9127 : BitVec 32 := Scalar.addi v9126 c27_i32
  let v9453 : Index := Scalar.indexCast v9127
  ![6, 6, v9453.toNat]
def k0_off2352 (v9454 : BitVec 32) : Fin 3 → Nat :=
  let c0_10773 : Index := 0#32
  let v9457 : Index := Scalar.indexCast v9454
  let c0_10774 : Index := 0#32
  ![0, v9457.toNat, 0]

def k0_chk1176 (v9454 : BitVec 32) : Prop :=
  (∀ a, (k0_off2352 v9454) a + S7x1x512.size a ≤ S7x50x512.size a)
theorem k0_off2352_inb : ∀ (v9454 : BitVec 32) (k0_hw1176 : k0_chk1176 v9454), ∀ a, (k0_off2352 v9454) a + S7x1x512.size a ≤ S7x50x512.size a := fun v9454 k0_hw1176 => k0_hw1176

def k0_off2353 (i : grid0.Coords) : Fin 3 → Nat :=
  let c0_10780 : Index := 0#32
  let c0_10781 : Index := 0#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9466 : Index := Scalar.indexCast v9465
  ![0, 0, v9466.toNat]
def k0_off2354 (v9467 : BitVec 32) : Fin 3 → Nat :=
  let v9468 : Index := Scalar.indexCast v9467
  let c0_10782 : Index := 0#32
  let c0_10783 : Index := 0#32
  ![v9468.toNat, 0, 0]

def k0_chk1177 (v9467 : BitVec 32) : Prop :=
  (∀ a, (k0_off2354 v9467) a + S1x50x512.size a ≤ S250x50x512.size a)
theorem k0_off2354_inb : ∀ (v9467 : BitVec 32) (k0_hw1177 : k0_chk1177 v9467), ∀ a, (k0_off2354 v9467) a + S1x50x512.size a ≤ S250x50x512.size a := fun v9467 k0_hw1177 => k0_hw1177

def k0_off2355 (i : grid0.Coords) : Fin 3 → Nat :=
  let c1_10791 : Index := 1#32
  let c0_10792 : Index := 0#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9476 : Index := Scalar.indexCast v9465
  ![1, 0, v9476.toNat]
def k0_off2356 (v9477 : BitVec 32) : Fin 3 → Nat :=
  let v9478 : Index := Scalar.indexCast v9477
  let c0_10793 : Index := 0#32
  let c0_10794 : Index := 0#32
  ![v9478.toNat, 0, 0]

def k0_chk1178 (v9477 : BitVec 32) : Prop :=
  (∀ a, (k0_off2356 v9477) a + S1x50x512.size a ≤ S250x50x512.size a)
theorem k0_off2356_inb : ∀ (v9477 : BitVec 32) (k0_hw1178 : k0_chk1178 v9477), ∀ a, (k0_off2356 v9477) a + S1x50x512.size a ≤ S250x50x512.size a := fun v9477 k0_hw1178 => k0_hw1178

def k0_off2357 (i : grid0.Coords) : Fin 3 → Nat :=
  let c2_10802 : Index := 2#32
  let c0_10803 : Index := 0#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9486 : Index := Scalar.indexCast v9465
  ![2, 0, v9486.toNat]
def k0_off2358 (v9487 : BitVec 32) : Fin 3 → Nat :=
  let v9488 : Index := Scalar.indexCast v9487
  let c0_10804 : Index := 0#32
  let c0_10805 : Index := 0#32
  ![v9488.toNat, 0, 0]

def k0_chk1179 (v9487 : BitVec 32) : Prop :=
  (∀ a, (k0_off2358 v9487) a + S1x50x512.size a ≤ S250x50x512.size a)
theorem k0_off2358_inb : ∀ (v9487 : BitVec 32) (k0_hw1179 : k0_chk1179 v9487), ∀ a, (k0_off2358 v9487) a + S1x50x512.size a ≤ S250x50x512.size a := fun v9487 k0_hw1179 => k0_hw1179

def k0_off2359 (i : grid0.Coords) : Fin 3 → Nat :=
  let c3_10813 : Index := 3#32
  let c0_10814 : Index := 0#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9496 : Index := Scalar.indexCast v9465
  ![3, 0, v9496.toNat]
def k0_off2360 (v9497 : BitVec 32) : Fin 3 → Nat :=
  let v9498 : Index := Scalar.indexCast v9497
  let c0_10815 : Index := 0#32
  let c0_10816 : Index := 0#32
  ![v9498.toNat, 0, 0]

def k0_chk1180 (v9497 : BitVec 32) : Prop :=
  (∀ a, (k0_off2360 v9497) a + S1x50x512.size a ≤ S250x50x512.size a)
theorem k0_off2360_inb : ∀ (v9497 : BitVec 32) (k0_hw1180 : k0_chk1180 v9497), ∀ a, (k0_off2360 v9497) a + S1x50x512.size a ≤ S250x50x512.size a := fun v9497 k0_hw1180 => k0_hw1180

def k0_off2361 (i : grid0.Coords) : Fin 3 → Nat :=
  let c4_10824 : Index := 4#32
  let c0_10825 : Index := 0#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9506 : Index := Scalar.indexCast v9465
  ![4, 0, v9506.toNat]
def k0_off2362 (v9507 : BitVec 32) : Fin 3 → Nat :=
  let v9508 : Index := Scalar.indexCast v9507
  let c0_10826 : Index := 0#32
  let c0_10827 : Index := 0#32
  ![v9508.toNat, 0, 0]

def k0_chk1181 (v9507 : BitVec 32) : Prop :=
  (∀ a, (k0_off2362 v9507) a + S1x50x512.size a ≤ S250x50x512.size a)
theorem k0_off2362_inb : ∀ (v9507 : BitVec 32) (k0_hw1181 : k0_chk1181 v9507), ∀ a, (k0_off2362 v9507) a + S1x50x512.size a ≤ S250x50x512.size a := fun v9507 k0_hw1181 => k0_hw1181

def k0_off2363 (i : grid0.Coords) : Fin 3 → Nat :=
  let c5_10835 : Index := 5#32
  let c0_10836 : Index := 0#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9516 : Index := Scalar.indexCast v9465
  ![5, 0, v9516.toNat]
def k0_off2364 (v9517 : BitVec 32) : Fin 3 → Nat :=
  let v9518 : Index := Scalar.indexCast v9517
  let c0_10837 : Index := 0#32
  let c0_10838 : Index := 0#32
  ![v9518.toNat, 0, 0]

def k0_chk1182 (v9517 : BitVec 32) : Prop :=
  (∀ a, (k0_off2364 v9517) a + S1x50x512.size a ≤ S250x50x512.size a)
theorem k0_off2364_inb : ∀ (v9517 : BitVec 32) (k0_hw1182 : k0_chk1182 v9517), ∀ a, (k0_off2364 v9517) a + S1x50x512.size a ≤ S250x50x512.size a := fun v9517 k0_hw1182 => k0_hw1182

def k0_off2365 (i : grid0.Coords) : Fin 3 → Nat :=
  let c6_10846 : Index := 6#32
  let c0_10847 : Index := 0#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9526 : Index := Scalar.indexCast v9465
  ![6, 0, v9526.toNat]
def k0_off2366 (v9527 : BitVec 32) : Fin 3 → Nat :=
  let v9528 : Index := Scalar.indexCast v9527
  let c0_10848 : Index := 0#32
  let c0_10849 : Index := 0#32
  ![v9528.toNat, 0, 0]

def k0_chk1183 (v9527 : BitVec 32) : Prop :=
  (∀ a, (k0_off2366 v9527) a + S1x50x512.size a ≤ S250x50x512.size a)
theorem k0_off2366_inb : ∀ (v9527 : BitVec 32) (k0_hw1183 : k0_chk1183 v9527), ∀ a, (k0_off2366 v9527) a + S1x50x512.size a ≤ S250x50x512.size a := fun v9527 k0_hw1183 => k0_hw1183

def k0_off2367 (i : grid0.Coords) : Fin 3 → Nat :=
  let c0_10857 : Index := 0#32
  let c2_10858 : Index := 2#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9536 : Index := Scalar.indexCast v9465
  ![0, 2, v9536.toNat]
def k0_off2368 (v9537 : BitVec 32) : Fin 3 → Nat :=
  let c0_10863 : Index := 0#32
  let v9540 : Index := Scalar.indexCast v9537
  let c0_10864 : Index := 0#32
  ![0, v9540.toNat, 0]

def k0_chk1184 (v9537 : BitVec 32) : Prop :=
  (∀ a, (k0_off2368 v9537) a + S7x1x512.size a ≤ S7x50x512.size a)
theorem k0_off2368_inb : ∀ (v9537 : BitVec 32) (k0_hw1184 : k0_chk1184 v9537), ∀ a, (k0_off2368 v9537) a + S7x1x512.size a ≤ S7x50x512.size a := fun v9537 k0_hw1184 => k0_hw1184

def k0_off2369 (i : grid0.Coords) : Fin 3 → Nat :=
  let c0_10865 : Index := 0#32
  let c3_10866 : Index := 3#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9542 : Index := Scalar.indexCast v9465
  ![0, 3, v9542.toNat]
def k0_off2370 (v9543 : BitVec 32) : Fin 3 → Nat :=
  let c0_10871 : Index := 0#32
  let v9546 : Index := Scalar.indexCast v9543
  let c0_10872 : Index := 0#32
  ![0, v9546.toNat, 0]

def k0_chk1185 (v9543 : BitVec 32) : Prop :=
  (∀ a, (k0_off2370 v9543) a + S7x1x512.size a ≤ S7x50x512.size a)
theorem k0_off2370_inb : ∀ (v9543 : BitVec 32) (k0_hw1185 : k0_chk1185 v9543), ∀ a, (k0_off2370 v9543) a + S7x1x512.size a ≤ S7x50x512.size a := fun v9543 k0_hw1185 => k0_hw1185

def k0_off2371 (i : grid0.Coords) : Fin 3 → Nat :=
  let c0_10873 : Index := 0#32
  let c4_10874 : Index := 4#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9549 : Index := Scalar.indexCast v9465
  ![0, 4, v9549.toNat]
def k0_off2372 (v9550 : BitVec 32) : Fin 3 → Nat :=
  let c0_10879 : Index := 0#32
  let v9553 : Index := Scalar.indexCast v9550
  let c0_10880 : Index := 0#32
  ![0, v9553.toNat, 0]

def k0_chk1186 (v9550 : BitVec 32) : Prop :=
  (∀ a, (k0_off2372 v9550) a + S7x1x512.size a ≤ S7x50x512.size a)
theorem k0_off2372_inb : ∀ (v9550 : BitVec 32) (k0_hw1186 : k0_chk1186 v9550), ∀ a, (k0_off2372 v9550) a + S7x1x512.size a ≤ S7x50x512.size a := fun v9550 k0_hw1186 => k0_hw1186

def k0_off2373 (i : grid0.Coords) : Fin 3 → Nat :=
  let c0_10881 : Index := 0#32
  let c5_10882 : Index := 5#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9556 : Index := Scalar.indexCast v9465
  ![0, 5, v9556.toNat]
def k0_off2374 (v9557 : BitVec 32) : Fin 3 → Nat :=
  let c0_10887 : Index := 0#32
  let v9560 : Index := Scalar.indexCast v9557
  let c0_10888 : Index := 0#32
  ![0, v9560.toNat, 0]

def k0_chk1187 (v9557 : BitVec 32) : Prop :=
  (∀ a, (k0_off2374 v9557) a + S7x1x512.size a ≤ S7x50x512.size a)
theorem k0_off2374_inb : ∀ (v9557 : BitVec 32) (k0_hw1187 : k0_chk1187 v9557), ∀ a, (k0_off2374 v9557) a + S7x1x512.size a ≤ S7x50x512.size a := fun v9557 k0_hw1187 => k0_hw1187

def k0_off2375 (i : grid0.Coords) : Fin 3 → Nat :=
  let c0_10889 : Index := 0#32
  let c6_10890 : Index := 6#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9563 : Index := Scalar.indexCast v9465
  ![0, 6, v9563.toNat]
def k0_off2376 (v9564 : BitVec 32) : Fin 3 → Nat :=
  let c0_10895 : Index := 0#32
  let v9567 : Index := Scalar.indexCast v9564
  let c0_10896 : Index := 0#32
  ![0, v9567.toNat, 0]

def k0_chk1188 (v9564 : BitVec 32) : Prop :=
  (∀ a, (k0_off2376 v9564) a + S7x1x512.size a ≤ S7x50x512.size a)
theorem k0_off2376_inb : ∀ (v9564 : BitVec 32) (k0_hw1188 : k0_chk1188 v9564), ∀ a, (k0_off2376 v9564) a + S7x1x512.size a ≤ S7x50x512.size a := fun v9564 k0_hw1188 => k0_hw1188

def k0_off2377 (i : grid0.Coords) : Fin 3 → Nat :=
  let c1_10900 : Index := 1#32
  let c2_10901 : Index := 2#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9574 : Index := Scalar.indexCast v9465
  ![1, 2, v9574.toNat]
def k0_off2378 (v9575 : BitVec 32) : Fin 3 → Nat :=
  let c0_10906 : Index := 0#32
  let v9578 : Index := Scalar.indexCast v9575
  let c0_10907 : Index := 0#32
  ![0, v9578.toNat, 0]

def k0_chk1189 (v9575 : BitVec 32) : Prop :=
  (∀ a, (k0_off2378 v9575) a + S7x1x512.size a ≤ S7x50x512.size a)
theorem k0_off2378_inb : ∀ (v9575 : BitVec 32) (k0_hw1189 : k0_chk1189 v9575), ∀ a, (k0_off2378 v9575) a + S7x1x512.size a ≤ S7x50x512.size a := fun v9575 k0_hw1189 => k0_hw1189

def k0_off2379 (i : grid0.Coords) : Fin 3 → Nat :=
  let c1_10908 : Index := 1#32
  let c3_10909 : Index := 3#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9580 : Index := Scalar.indexCast v9465
  ![1, 3, v9580.toNat]
def k0_off2380 (v9581 : BitVec 32) : Fin 3 → Nat :=
  let c0_10914 : Index := 0#32
  let v9584 : Index := Scalar.indexCast v9581
  let c0_10915 : Index := 0#32
  ![0, v9584.toNat, 0]

def k0_chk1190 (v9581 : BitVec 32) : Prop :=
  (∀ a, (k0_off2380 v9581) a + S7x1x512.size a ≤ S7x50x512.size a)
theorem k0_off2380_inb : ∀ (v9581 : BitVec 32) (k0_hw1190 : k0_chk1190 v9581), ∀ a, (k0_off2380 v9581) a + S7x1x512.size a ≤ S7x50x512.size a := fun v9581 k0_hw1190 => k0_hw1190

def k0_off2381 (i : grid0.Coords) : Fin 3 → Nat :=
  let c1_10916 : Index := 1#32
  let c4_10917 : Index := 4#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9587 : Index := Scalar.indexCast v9465
  ![1, 4, v9587.toNat]
def k0_off2382 (v9588 : BitVec 32) : Fin 3 → Nat :=
  let c0_10922 : Index := 0#32
  let v9591 : Index := Scalar.indexCast v9588
  let c0_10923 : Index := 0#32
  ![0, v9591.toNat, 0]

def k0_chk1191 (v9588 : BitVec 32) : Prop :=
  (∀ a, (k0_off2382 v9588) a + S7x1x512.size a ≤ S7x50x512.size a)
theorem k0_off2382_inb : ∀ (v9588 : BitVec 32) (k0_hw1191 : k0_chk1191 v9588), ∀ a, (k0_off2382 v9588) a + S7x1x512.size a ≤ S7x50x512.size a := fun v9588 k0_hw1191 => k0_hw1191

def k0_off2383 (i : grid0.Coords) : Fin 3 → Nat :=
  let c1_10924 : Index := 1#32
  let c5_10925 : Index := 5#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9594 : Index := Scalar.indexCast v9465
  ![1, 5, v9594.toNat]
def k0_off2384 (v9595 : BitVec 32) : Fin 3 → Nat :=
  let c0_10930 : Index := 0#32
  let v9598 : Index := Scalar.indexCast v9595
  let c0_10931 : Index := 0#32
  ![0, v9598.toNat, 0]

def k0_chk1192 (v9595 : BitVec 32) : Prop :=
  (∀ a, (k0_off2384 v9595) a + S7x1x512.size a ≤ S7x50x512.size a)
theorem k0_off2384_inb : ∀ (v9595 : BitVec 32) (k0_hw1192 : k0_chk1192 v9595), ∀ a, (k0_off2384 v9595) a + S7x1x512.size a ≤ S7x50x512.size a := fun v9595 k0_hw1192 => k0_hw1192

def k0_off2385 (i : grid0.Coords) : Fin 3 → Nat :=
  let c1_10932 : Index := 1#32
  let c6_10933 : Index := 6#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9601 : Index := Scalar.indexCast v9465
  ![1, 6, v9601.toNat]
def k0_off2386 (v9602 : BitVec 32) : Fin 3 → Nat :=
  let c0_10938 : Index := 0#32
  let v9605 : Index := Scalar.indexCast v9602
  let c0_10939 : Index := 0#32
  ![0, v9605.toNat, 0]

def k0_chk1193 (v9602 : BitVec 32) : Prop :=
  (∀ a, (k0_off2386 v9602) a + S7x1x512.size a ≤ S7x50x512.size a)
theorem k0_off2386_inb : ∀ (v9602 : BitVec 32) (k0_hw1193 : k0_chk1193 v9602), ∀ a, (k0_off2386 v9602) a + S7x1x512.size a ≤ S7x50x512.size a := fun v9602 k0_hw1193 => k0_hw1193

def k0_off2387 (i : grid0.Coords) : Fin 3 → Nat :=
  let c2_10944 : Index := 2#32
  let c2_10945 : Index := 2#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9612 : Index := Scalar.indexCast v9465
  ![2, 2, v9612.toNat]
def k0_off2388 (v9613 : BitVec 32) : Fin 3 → Nat :=
  let c0_10950 : Index := 0#32
  let v9616 : Index := Scalar.indexCast v9613
  let c0_10951 : Index := 0#32
  ![0, v9616.toNat, 0]

def k0_chk1194 (v9613 : BitVec 32) : Prop :=
  (∀ a, (k0_off2388 v9613) a + S7x1x512.size a ≤ S7x50x512.size a)
theorem k0_off2388_inb : ∀ (v9613 : BitVec 32) (k0_hw1194 : k0_chk1194 v9613), ∀ a, (k0_off2388 v9613) a + S7x1x512.size a ≤ S7x50x512.size a := fun v9613 k0_hw1194 => k0_hw1194

def k0_off2389 (i : grid0.Coords) : Fin 3 → Nat :=
  let c2_10952 : Index := 2#32
  let c3_10953 : Index := 3#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9618 : Index := Scalar.indexCast v9465
  ![2, 3, v9618.toNat]
def k0_off2390 (v9619 : BitVec 32) : Fin 3 → Nat :=
  let c0_10958 : Index := 0#32
  let v9622 : Index := Scalar.indexCast v9619
  let c0_10959 : Index := 0#32
  ![0, v9622.toNat, 0]

def k0_chk1195 (v9619 : BitVec 32) : Prop :=
  (∀ a, (k0_off2390 v9619) a + S7x1x512.size a ≤ S7x50x512.size a)
theorem k0_off2390_inb : ∀ (v9619 : BitVec 32) (k0_hw1195 : k0_chk1195 v9619), ∀ a, (k0_off2390 v9619) a + S7x1x512.size a ≤ S7x50x512.size a := fun v9619 k0_hw1195 => k0_hw1195

def k0_off2391 (i : grid0.Coords) : Fin 3 → Nat :=
  let c2_10960 : Index := 2#32
  let c4_10961 : Index := 4#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9625 : Index := Scalar.indexCast v9465
  ![2, 4, v9625.toNat]
def k0_off2392 (v9626 : BitVec 32) : Fin 3 → Nat :=
  let c0_10966 : Index := 0#32
  let v9629 : Index := Scalar.indexCast v9626
  let c0_10967 : Index := 0#32
  ![0, v9629.toNat, 0]

def k0_chk1196 (v9626 : BitVec 32) : Prop :=
  (∀ a, (k0_off2392 v9626) a + S7x1x512.size a ≤ S7x50x512.size a)
theorem k0_off2392_inb : ∀ (v9626 : BitVec 32) (k0_hw1196 : k0_chk1196 v9626), ∀ a, (k0_off2392 v9626) a + S7x1x512.size a ≤ S7x50x512.size a := fun v9626 k0_hw1196 => k0_hw1196

def k0_off2393 (i : grid0.Coords) : Fin 3 → Nat :=
  let c2_10968 : Index := 2#32
  let c5_10969 : Index := 5#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9632 : Index := Scalar.indexCast v9465
  ![2, 5, v9632.toNat]
def k0_off2394 (v9633 : BitVec 32) : Fin 3 → Nat :=
  let c0_10974 : Index := 0#32
  let v9636 : Index := Scalar.indexCast v9633
  let c0_10975 : Index := 0#32
  ![0, v9636.toNat, 0]

def k0_chk1197 (v9633 : BitVec 32) : Prop :=
  (∀ a, (k0_off2394 v9633) a + S7x1x512.size a ≤ S7x50x512.size a)
theorem k0_off2394_inb : ∀ (v9633 : BitVec 32) (k0_hw1197 : k0_chk1197 v9633), ∀ a, (k0_off2394 v9633) a + S7x1x512.size a ≤ S7x50x512.size a := fun v9633 k0_hw1197 => k0_hw1197

def k0_off2395 (i : grid0.Coords) : Fin 3 → Nat :=
  let c2_10976 : Index := 2#32
  let c6_10977 : Index := 6#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9639 : Index := Scalar.indexCast v9465
  ![2, 6, v9639.toNat]
def k0_off2396 (v9640 : BitVec 32) : Fin 3 → Nat :=
  let c0_10982 : Index := 0#32
  let v9643 : Index := Scalar.indexCast v9640
  let c0_10983 : Index := 0#32
  ![0, v9643.toNat, 0]

def k0_chk1198 (v9640 : BitVec 32) : Prop :=
  (∀ a, (k0_off2396 v9640) a + S7x1x512.size a ≤ S7x50x512.size a)
theorem k0_off2396_inb : ∀ (v9640 : BitVec 32) (k0_hw1198 : k0_chk1198 v9640), ∀ a, (k0_off2396 v9640) a + S7x1x512.size a ≤ S7x50x512.size a := fun v9640 k0_hw1198 => k0_hw1198

def k0_off2397 (i : grid0.Coords) : Fin 3 → Nat :=
  let c3_10988 : Index := 3#32
  let c2_10989 : Index := 2#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9650 : Index := Scalar.indexCast v9465
  ![3, 2, v9650.toNat]
def k0_off2398 (v9651 : BitVec 32) : Fin 3 → Nat :=
  let c0_10994 : Index := 0#32
  let v9654 : Index := Scalar.indexCast v9651
  let c0_10995 : Index := 0#32
  ![0, v9654.toNat, 0]

def k0_chk1199 (v9651 : BitVec 32) : Prop :=
  (∀ a, (k0_off2398 v9651) a + S7x1x512.size a ≤ S7x50x512.size a)
theorem k0_off2398_inb : ∀ (v9651 : BitVec 32) (k0_hw1199 : k0_chk1199 v9651), ∀ a, (k0_off2398 v9651) a + S7x1x512.size a ≤ S7x50x512.size a := fun v9651 k0_hw1199 => k0_hw1199

def k0_off2399 (i : grid0.Coords) : Fin 3 → Nat :=
  let c3_10996 : Index := 3#32
  let c3_10997 : Index := 3#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9656 : Index := Scalar.indexCast v9465
  ![3, 3, v9656.toNat]
def k0_off2400 (v9657 : BitVec 32) : Fin 3 → Nat :=
  let c0_11002 : Index := 0#32
  let v9660 : Index := Scalar.indexCast v9657
  let c0_11003 : Index := 0#32
  ![0, v9660.toNat, 0]

def k0_chk1200 (v9657 : BitVec 32) : Prop :=
  (∀ a, (k0_off2400 v9657) a + S7x1x512.size a ≤ S7x50x512.size a)
theorem k0_off2400_inb : ∀ (v9657 : BitVec 32) (k0_hw1200 : k0_chk1200 v9657), ∀ a, (k0_off2400 v9657) a + S7x1x512.size a ≤ S7x50x512.size a := fun v9657 k0_hw1200 => k0_hw1200

def k0_off2401 (i : grid0.Coords) : Fin 3 → Nat :=
  let c3_11004 : Index := 3#32
  let c4_11005 : Index := 4#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9663 : Index := Scalar.indexCast v9465
  ![3, 4, v9663.toNat]
def k0_off2402 (v9664 : BitVec 32) : Fin 3 → Nat :=
  let c0_11010 : Index := 0#32
  let v9667 : Index := Scalar.indexCast v9664
  let c0_11011 : Index := 0#32
  ![0, v9667.toNat, 0]

def k0_chk1201 (v9664 : BitVec 32) : Prop :=
  (∀ a, (k0_off2402 v9664) a + S7x1x512.size a ≤ S7x50x512.size a)
theorem k0_off2402_inb : ∀ (v9664 : BitVec 32) (k0_hw1201 : k0_chk1201 v9664), ∀ a, (k0_off2402 v9664) a + S7x1x512.size a ≤ S7x50x512.size a := fun v9664 k0_hw1201 => k0_hw1201

def k0_off2403 (i : grid0.Coords) : Fin 3 → Nat :=
  let c3_11012 : Index := 3#32
  let c5_11013 : Index := 5#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9670 : Index := Scalar.indexCast v9465
  ![3, 5, v9670.toNat]
def k0_off2404 (v9671 : BitVec 32) : Fin 3 → Nat :=
  let c0_11018 : Index := 0#32
  let v9674 : Index := Scalar.indexCast v9671
  let c0_11019 : Index := 0#32
  ![0, v9674.toNat, 0]

def k0_chk1202 (v9671 : BitVec 32) : Prop :=
  (∀ a, (k0_off2404 v9671) a + S7x1x512.size a ≤ S7x50x512.size a)
theorem k0_off2404_inb : ∀ (v9671 : BitVec 32) (k0_hw1202 : k0_chk1202 v9671), ∀ a, (k0_off2404 v9671) a + S7x1x512.size a ≤ S7x50x512.size a := fun v9671 k0_hw1202 => k0_hw1202

def k0_off2405 (i : grid0.Coords) : Fin 3 → Nat :=
  let c3_11020 : Index := 3#32
  let c6_11021 : Index := 6#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9677 : Index := Scalar.indexCast v9465
  ![3, 6, v9677.toNat]
def k0_off2406 (v9678 : BitVec 32) : Fin 3 → Nat :=
  let c0_11026 : Index := 0#32
  let v9681 : Index := Scalar.indexCast v9678
  let c0_11027 : Index := 0#32
  ![0, v9681.toNat, 0]

def k0_chk1203 (v9678 : BitVec 32) : Prop :=
  (∀ a, (k0_off2406 v9678) a + S7x1x512.size a ≤ S7x50x512.size a)
theorem k0_off2406_inb : ∀ (v9678 : BitVec 32) (k0_hw1203 : k0_chk1203 v9678), ∀ a, (k0_off2406 v9678) a + S7x1x512.size a ≤ S7x50x512.size a := fun v9678 k0_hw1203 => k0_hw1203

def k0_off2407 (i : grid0.Coords) : Fin 3 → Nat :=
  let c4_11032 : Index := 4#32
  let c2_11033 : Index := 2#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9688 : Index := Scalar.indexCast v9465
  ![4, 2, v9688.toNat]
def k0_off2408 (v9689 : BitVec 32) : Fin 3 → Nat :=
  let c0_11038 : Index := 0#32
  let v9692 : Index := Scalar.indexCast v9689
  let c0_11039 : Index := 0#32
  ![0, v9692.toNat, 0]

def k0_chk1204 (v9689 : BitVec 32) : Prop :=
  (∀ a, (k0_off2408 v9689) a + S7x1x512.size a ≤ S7x50x512.size a)
theorem k0_off2408_inb : ∀ (v9689 : BitVec 32) (k0_hw1204 : k0_chk1204 v9689), ∀ a, (k0_off2408 v9689) a + S7x1x512.size a ≤ S7x50x512.size a := fun v9689 k0_hw1204 => k0_hw1204

def k0_off2409 (i : grid0.Coords) : Fin 3 → Nat :=
  let c4_11040 : Index := 4#32
  let c3_11041 : Index := 3#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9694 : Index := Scalar.indexCast v9465
  ![4, 3, v9694.toNat]
def k0_off2410 (v9695 : BitVec 32) : Fin 3 → Nat :=
  let c0_11046 : Index := 0#32
  let v9698 : Index := Scalar.indexCast v9695
  let c0_11047 : Index := 0#32
  ![0, v9698.toNat, 0]

def k0_chk1205 (v9695 : BitVec 32) : Prop :=
  (∀ a, (k0_off2410 v9695) a + S7x1x512.size a ≤ S7x50x512.size a)
theorem k0_off2410_inb : ∀ (v9695 : BitVec 32) (k0_hw1205 : k0_chk1205 v9695), ∀ a, (k0_off2410 v9695) a + S7x1x512.size a ≤ S7x50x512.size a := fun v9695 k0_hw1205 => k0_hw1205

def k0_off2411 (i : grid0.Coords) : Fin 3 → Nat :=
  let c4_11048 : Index := 4#32
  let c4_11049 : Index := 4#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9701 : Index := Scalar.indexCast v9465
  ![4, 4, v9701.toNat]
def k0_off2412 (v9702 : BitVec 32) : Fin 3 → Nat :=
  let c0_11054 : Index := 0#32
  let v9705 : Index := Scalar.indexCast v9702
  let c0_11055 : Index := 0#32
  ![0, v9705.toNat, 0]

def k0_chk1206 (v9702 : BitVec 32) : Prop :=
  (∀ a, (k0_off2412 v9702) a + S7x1x512.size a ≤ S7x50x512.size a)
theorem k0_off2412_inb : ∀ (v9702 : BitVec 32) (k0_hw1206 : k0_chk1206 v9702), ∀ a, (k0_off2412 v9702) a + S7x1x512.size a ≤ S7x50x512.size a := fun v9702 k0_hw1206 => k0_hw1206

def k0_off2413 (i : grid0.Coords) : Fin 3 → Nat :=
  let c4_11056 : Index := 4#32
  let c5_11057 : Index := 5#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9708 : Index := Scalar.indexCast v9465
  ![4, 5, v9708.toNat]
def k0_off2414 (v9709 : BitVec 32) : Fin 3 → Nat :=
  let c0_11062 : Index := 0#32
  let v9712 : Index := Scalar.indexCast v9709
  let c0_11063 : Index := 0#32
  ![0, v9712.toNat, 0]

def k0_chk1207 (v9709 : BitVec 32) : Prop :=
  (∀ a, (k0_off2414 v9709) a + S7x1x512.size a ≤ S7x50x512.size a)
theorem k0_off2414_inb : ∀ (v9709 : BitVec 32) (k0_hw1207 : k0_chk1207 v9709), ∀ a, (k0_off2414 v9709) a + S7x1x512.size a ≤ S7x50x512.size a := fun v9709 k0_hw1207 => k0_hw1207

def k0_off2415 (i : grid0.Coords) : Fin 3 → Nat :=
  let c4_11064 : Index := 4#32
  let c6_11065 : Index := 6#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9715 : Index := Scalar.indexCast v9465
  ![4, 6, v9715.toNat]
def k0_off2416 (v9716 : BitVec 32) : Fin 3 → Nat :=
  let c0_11070 : Index := 0#32
  let v9719 : Index := Scalar.indexCast v9716
  let c0_11071 : Index := 0#32
  ![0, v9719.toNat, 0]

def k0_chk1208 (v9716 : BitVec 32) : Prop :=
  (∀ a, (k0_off2416 v9716) a + S7x1x512.size a ≤ S7x50x512.size a)
theorem k0_off2416_inb : ∀ (v9716 : BitVec 32) (k0_hw1208 : k0_chk1208 v9716), ∀ a, (k0_off2416 v9716) a + S7x1x512.size a ≤ S7x50x512.size a := fun v9716 k0_hw1208 => k0_hw1208

def k0_off2417 (i : grid0.Coords) : Fin 3 → Nat :=
  let c5_11076 : Index := 5#32
  let c2_11077 : Index := 2#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9726 : Index := Scalar.indexCast v9465
  ![5, 2, v9726.toNat]
def k0_off2418 (v9727 : BitVec 32) : Fin 3 → Nat :=
  let c0_11082 : Index := 0#32
  let v9730 : Index := Scalar.indexCast v9727
  let c0_11083 : Index := 0#32
  ![0, v9730.toNat, 0]

def k0_chk1209 (v9727 : BitVec 32) : Prop :=
  (∀ a, (k0_off2418 v9727) a + S7x1x512.size a ≤ S7x50x512.size a)
theorem k0_off2418_inb : ∀ (v9727 : BitVec 32) (k0_hw1209 : k0_chk1209 v9727), ∀ a, (k0_off2418 v9727) a + S7x1x512.size a ≤ S7x50x512.size a := fun v9727 k0_hw1209 => k0_hw1209

def k0_off2419 (i : grid0.Coords) : Fin 3 → Nat :=
  let c5_11084 : Index := 5#32
  let c3_11085 : Index := 3#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9732 : Index := Scalar.indexCast v9465
  ![5, 3, v9732.toNat]
def k0_off2420 (v9733 : BitVec 32) : Fin 3 → Nat :=
  let c0_11090 : Index := 0#32
  let v9736 : Index := Scalar.indexCast v9733
  let c0_11091 : Index := 0#32
  ![0, v9736.toNat, 0]

def k0_chk1210 (v9733 : BitVec 32) : Prop :=
  (∀ a, (k0_off2420 v9733) a + S7x1x512.size a ≤ S7x50x512.size a)
theorem k0_off2420_inb : ∀ (v9733 : BitVec 32) (k0_hw1210 : k0_chk1210 v9733), ∀ a, (k0_off2420 v9733) a + S7x1x512.size a ≤ S7x50x512.size a := fun v9733 k0_hw1210 => k0_hw1210

def k0_off2421 (i : grid0.Coords) : Fin 3 → Nat :=
  let c5_11092 : Index := 5#32
  let c4_11093 : Index := 4#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9739 : Index := Scalar.indexCast v9465
  ![5, 4, v9739.toNat]
def k0_off2422 (v9740 : BitVec 32) : Fin 3 → Nat :=
  let c0_11098 : Index := 0#32
  let v9743 : Index := Scalar.indexCast v9740
  let c0_11099 : Index := 0#32
  ![0, v9743.toNat, 0]

def k0_chk1211 (v9740 : BitVec 32) : Prop :=
  (∀ a, (k0_off2422 v9740) a + S7x1x512.size a ≤ S7x50x512.size a)
theorem k0_off2422_inb : ∀ (v9740 : BitVec 32) (k0_hw1211 : k0_chk1211 v9740), ∀ a, (k0_off2422 v9740) a + S7x1x512.size a ≤ S7x50x512.size a := fun v9740 k0_hw1211 => k0_hw1211

def k0_off2423 (i : grid0.Coords) : Fin 3 → Nat :=
  let c5_11100 : Index := 5#32
  let c5_11101 : Index := 5#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9746 : Index := Scalar.indexCast v9465
  ![5, 5, v9746.toNat]
def k0_off2424 (v9747 : BitVec 32) : Fin 3 → Nat :=
  let c0_11106 : Index := 0#32
  let v9750 : Index := Scalar.indexCast v9747
  let c0_11107 : Index := 0#32
  ![0, v9750.toNat, 0]

def k0_chk1212 (v9747 : BitVec 32) : Prop :=
  (∀ a, (k0_off2424 v9747) a + S7x1x512.size a ≤ S7x50x512.size a)
theorem k0_off2424_inb : ∀ (v9747 : BitVec 32) (k0_hw1212 : k0_chk1212 v9747), ∀ a, (k0_off2424 v9747) a + S7x1x512.size a ≤ S7x50x512.size a := fun v9747 k0_hw1212 => k0_hw1212

def k0_off2425 (i : grid0.Coords) : Fin 3 → Nat :=
  let c5_11108 : Index := 5#32
  let c6_11109 : Index := 6#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9753 : Index := Scalar.indexCast v9465
  ![5, 6, v9753.toNat]
def k0_off2426 (v9754 : BitVec 32) : Fin 3 → Nat :=
  let c0_11114 : Index := 0#32
  let v9757 : Index := Scalar.indexCast v9754
  let c0_11115 : Index := 0#32
  ![0, v9757.toNat, 0]

def k0_chk1213 (v9754 : BitVec 32) : Prop :=
  (∀ a, (k0_off2426 v9754) a + S7x1x512.size a ≤ S7x50x512.size a)
theorem k0_off2426_inb : ∀ (v9754 : BitVec 32) (k0_hw1213 : k0_chk1213 v9754), ∀ a, (k0_off2426 v9754) a + S7x1x512.size a ≤ S7x50x512.size a := fun v9754 k0_hw1213 => k0_hw1213

def k0_off2427 (i : grid0.Coords) : Fin 3 → Nat :=
  let c6_11120 : Index := 6#32
  let c2_11121 : Index := 2#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9764 : Index := Scalar.indexCast v9465
  ![6, 2, v9764.toNat]
def k0_off2428 (v9765 : BitVec 32) : Fin 3 → Nat :=
  let c0_11126 : Index := 0#32
  let v9768 : Index := Scalar.indexCast v9765
  let c0_11127 : Index := 0#32
  ![0, v9768.toNat, 0]

def k0_chk1214 (v9765 : BitVec 32) : Prop :=
  (∀ a, (k0_off2428 v9765) a + S7x1x512.size a ≤ S7x50x512.size a)
theorem k0_off2428_inb : ∀ (v9765 : BitVec 32) (k0_hw1214 : k0_chk1214 v9765), ∀ a, (k0_off2428 v9765) a + S7x1x512.size a ≤ S7x50x512.size a := fun v9765 k0_hw1214 => k0_hw1214

def k0_off2429 (i : grid0.Coords) : Fin 3 → Nat :=
  let c6_11128 : Index := 6#32
  let c3_11129 : Index := 3#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9770 : Index := Scalar.indexCast v9465
  ![6, 3, v9770.toNat]
def k0_off2430 (v9771 : BitVec 32) : Fin 3 → Nat :=
  let c0_11134 : Index := 0#32
  let v9774 : Index := Scalar.indexCast v9771
  let c0_11135 : Index := 0#32
  ![0, v9774.toNat, 0]

def k0_chk1215 (v9771 : BitVec 32) : Prop :=
  (∀ a, (k0_off2430 v9771) a + S7x1x512.size a ≤ S7x50x512.size a)
theorem k0_off2430_inb : ∀ (v9771 : BitVec 32) (k0_hw1215 : k0_chk1215 v9771), ∀ a, (k0_off2430 v9771) a + S7x1x512.size a ≤ S7x50x512.size a := fun v9771 k0_hw1215 => k0_hw1215

def k0_off2431 (i : grid0.Coords) : Fin 3 → Nat :=
  let c6_11136 : Index := 6#32
  let c4_11137 : Index := 4#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9777 : Index := Scalar.indexCast v9465
  ![6, 4, v9777.toNat]
def k0_off2432 (v9778 : BitVec 32) : Fin 3 → Nat :=
  let c0_11142 : Index := 0#32
  let v9781 : Index := Scalar.indexCast v9778
  let c0_11143 : Index := 0#32
  ![0, v9781.toNat, 0]

def k0_chk1216 (v9778 : BitVec 32) : Prop :=
  (∀ a, (k0_off2432 v9778) a + S7x1x512.size a ≤ S7x50x512.size a)
theorem k0_off2432_inb : ∀ (v9778 : BitVec 32) (k0_hw1216 : k0_chk1216 v9778), ∀ a, (k0_off2432 v9778) a + S7x1x512.size a ≤ S7x50x512.size a := fun v9778 k0_hw1216 => k0_hw1216

def k0_off2433 (i : grid0.Coords) : Fin 3 → Nat :=
  let c6_11144 : Index := 6#32
  let c5_11145 : Index := 5#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9784 : Index := Scalar.indexCast v9465
  ![6, 5, v9784.toNat]
def k0_off2434 (v9785 : BitVec 32) : Fin 3 → Nat :=
  let c0_11150 : Index := 0#32
  let v9788 : Index := Scalar.indexCast v9785
  let c0_11151 : Index := 0#32
  ![0, v9788.toNat, 0]

def k0_chk1217 (v9785 : BitVec 32) : Prop :=
  (∀ a, (k0_off2434 v9785) a + S7x1x512.size a ≤ S7x50x512.size a)
theorem k0_off2434_inb : ∀ (v9785 : BitVec 32) (k0_hw1217 : k0_chk1217 v9785), ∀ a, (k0_off2434 v9785) a + S7x1x512.size a ≤ S7x50x512.size a := fun v9785 k0_hw1217 => k0_hw1217

def k0_off2435 (i : grid0.Coords) : Fin 3 → Nat :=
  let c6_11152 : Index := 6#32
  let c6_11153 : Index := 6#32
  let arg0 : BitVec 32 := BitVec.ofNat 32 (i 0).val
  let c32_i32_10779 : BitVec 32 := 32#32
  let v9464 : BitVec 32 := Scalar.muli arg0 c32_i32_10779
  let c28_i32 : BitVec 32 := 28#32
  let v9465 : BitVec 32 := Scalar.addi v9464 c28_i32
  let v9791 : Index := Scalar.indexCast v9465
  ![6, 6, v9791.toNat]
def k0_off2436 (v9792 : BitVec 32) : Fin 3 → Nat :=
  let c0_11158 : Index := 0#32
  let v9795 : Index := Scalar.indexCast v9792
  let c0_11159 : Index := 0#32
  ![0, v9795.toNat, 0]

def k0_chk1218 (v9792 : BitVec 32) : Prop :=
  (∀ a, (k0_off2436 v9792) a + S7x1x512.size a ≤ S7x50x512.size a)
theorem k0_off2436_inb : ∀ (v9792 : BitVec 32) (k0_hw1218 : k0_chk1218 v9792), ∀ a, (k0_off2436 v9792) a + S7x1x512.size a ≤ S7x50x512.size a := fun v9792 k0_hw1218 => k0_hw1218

def k0_off2437 (i : grid0.Coords) : Fin 3 → Nat :=
  let c0_11165 : Index := 0#32
  let c0_11166 : Index := 0#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9804 : Index := Scalar.indexCast v9803
  ![0, 0, v9804.toNat]
def k0_off2438 (v9805 : BitVec 32) : Fin 3 → Nat :=
  let v9806 : Index := Scalar.indexCast v9805
  let c0_11167 : Index := 0#32
  let c0_11168 : Index := 0#32
  ![v9806.toNat, 0, 0]

def k0_chk1219 (v9805 : BitVec 32) : Prop :=
  (∀ a, (k0_off2438 v9805) a + S1x50x512.size a ≤ S250x50x512.size a)
theorem k0_off2438_inb : ∀ (v9805 : BitVec 32) (k0_hw1219 : k0_chk1219 v9805), ∀ a, (k0_off2438 v9805) a + S1x50x512.size a ≤ S250x50x512.size a := fun v9805 k0_hw1219 => k0_hw1219

def k0_off2439 (i : grid0.Coords) : Fin 3 → Nat :=
  let c1_11176 : Index := 1#32
  let c0_11177 : Index := 0#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9814 : Index := Scalar.indexCast v9803
  ![1, 0, v9814.toNat]
def k0_off2440 (v9815 : BitVec 32) : Fin 3 → Nat :=
  let v9816 : Index := Scalar.indexCast v9815
  let c0_11178 : Index := 0#32
  let c0_11179 : Index := 0#32
  ![v9816.toNat, 0, 0]

def k0_chk1220 (v9815 : BitVec 32) : Prop :=
  (∀ a, (k0_off2440 v9815) a + S1x50x512.size a ≤ S250x50x512.size a)
theorem k0_off2440_inb : ∀ (v9815 : BitVec 32) (k0_hw1220 : k0_chk1220 v9815), ∀ a, (k0_off2440 v9815) a + S1x50x512.size a ≤ S250x50x512.size a := fun v9815 k0_hw1220 => k0_hw1220

def k0_off2441 (i : grid0.Coords) : Fin 3 → Nat :=
  let c2_11187 : Index := 2#32
  let c0_11188 : Index := 0#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9824 : Index := Scalar.indexCast v9803
  ![2, 0, v9824.toNat]
def k0_off2442 (v9825 : BitVec 32) : Fin 3 → Nat :=
  let v9826 : Index := Scalar.indexCast v9825
  let c0_11189 : Index := 0#32
  let c0_11190 : Index := 0#32
  ![v9826.toNat, 0, 0]

def k0_chk1221 (v9825 : BitVec 32) : Prop :=
  (∀ a, (k0_off2442 v9825) a + S1x50x512.size a ≤ S250x50x512.size a)
theorem k0_off2442_inb : ∀ (v9825 : BitVec 32) (k0_hw1221 : k0_chk1221 v9825), ∀ a, (k0_off2442 v9825) a + S1x50x512.size a ≤ S250x50x512.size a := fun v9825 k0_hw1221 => k0_hw1221

def k0_off2443 (i : grid0.Coords) : Fin 3 → Nat :=
  let c3_11198 : Index := 3#32
  let c0_11199 : Index := 0#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9834 : Index := Scalar.indexCast v9803
  ![3, 0, v9834.toNat]
def k0_off2444 (v9835 : BitVec 32) : Fin 3 → Nat :=
  let v9836 : Index := Scalar.indexCast v9835
  let c0_11200 : Index := 0#32
  let c0_11201 : Index := 0#32
  ![v9836.toNat, 0, 0]

def k0_chk1222 (v9835 : BitVec 32) : Prop :=
  (∀ a, (k0_off2444 v9835) a + S1x50x512.size a ≤ S250x50x512.size a)
theorem k0_off2444_inb : ∀ (v9835 : BitVec 32) (k0_hw1222 : k0_chk1222 v9835), ∀ a, (k0_off2444 v9835) a + S1x50x512.size a ≤ S250x50x512.size a := fun v9835 k0_hw1222 => k0_hw1222

def k0_off2445 (i : grid0.Coords) : Fin 3 → Nat :=
  let c4_11209 : Index := 4#32
  let c0_11210 : Index := 0#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9844 : Index := Scalar.indexCast v9803
  ![4, 0, v9844.toNat]
def k0_off2446 (v9845 : BitVec 32) : Fin 3 → Nat :=
  let v9846 : Index := Scalar.indexCast v9845
  let c0_11211 : Index := 0#32
  let c0_11212 : Index := 0#32
  ![v9846.toNat, 0, 0]

def k0_chk1223 (v9845 : BitVec 32) : Prop :=
  (∀ a, (k0_off2446 v9845) a + S1x50x512.size a ≤ S250x50x512.size a)
theorem k0_off2446_inb : ∀ (v9845 : BitVec 32) (k0_hw1223 : k0_chk1223 v9845), ∀ a, (k0_off2446 v9845) a + S1x50x512.size a ≤ S250x50x512.size a := fun v9845 k0_hw1223 => k0_hw1223

def k0_off2447 (i : grid0.Coords) : Fin 3 → Nat :=
  let c5_11220 : Index := 5#32
  let c0_11221 : Index := 0#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9854 : Index := Scalar.indexCast v9803
  ![5, 0, v9854.toNat]
def k0_off2448 (v9855 : BitVec 32) : Fin 3 → Nat :=
  let v9856 : Index := Scalar.indexCast v9855
  let c0_11222 : Index := 0#32
  let c0_11223 : Index := 0#32
  ![v9856.toNat, 0, 0]

def k0_chk1224 (v9855 : BitVec 32) : Prop :=
  (∀ a, (k0_off2448 v9855) a + S1x50x512.size a ≤ S250x50x512.size a)
theorem k0_off2448_inb : ∀ (v9855 : BitVec 32) (k0_hw1224 : k0_chk1224 v9855), ∀ a, (k0_off2448 v9855) a + S1x50x512.size a ≤ S250x50x512.size a := fun v9855 k0_hw1224 => k0_hw1224

def k0_off2449 (i : grid0.Coords) : Fin 3 → Nat :=
  let c6_11231 : Index := 6#32
  let c0_11232 : Index := 0#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9864 : Index := Scalar.indexCast v9803
  ![6, 0, v9864.toNat]
def k0_off2450 (v9865 : BitVec 32) : Fin 3 → Nat :=
  let v9866 : Index := Scalar.indexCast v9865
  let c0_11233 : Index := 0#32
  let c0_11234 : Index := 0#32
  ![v9866.toNat, 0, 0]

def k0_chk1225 (v9865 : BitVec 32) : Prop :=
  (∀ a, (k0_off2450 v9865) a + S1x50x512.size a ≤ S250x50x512.size a)
theorem k0_off2450_inb : ∀ (v9865 : BitVec 32) (k0_hw1225 : k0_chk1225 v9865), ∀ a, (k0_off2450 v9865) a + S1x50x512.size a ≤ S250x50x512.size a := fun v9865 k0_hw1225 => k0_hw1225

def k0_off2451 (i : grid0.Coords) : Fin 3 → Nat :=
  let c0_11242 : Index := 0#32
  let c2_11243 : Index := 2#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9874 : Index := Scalar.indexCast v9803
  ![0, 2, v9874.toNat]
def k0_off2452 (v9875 : BitVec 32) : Fin 3 → Nat :=
  let c0_11248 : Index := 0#32
  let v9878 : Index := Scalar.indexCast v9875
  let c0_11249 : Index := 0#32
  ![0, v9878.toNat, 0]

def k0_chk1226 (v9875 : BitVec 32) : Prop :=
  (∀ a, (k0_off2452 v9875) a + S7x1x512.size a ≤ S7x50x512.size a)
theorem k0_off2452_inb : ∀ (v9875 : BitVec 32) (k0_hw1226 : k0_chk1226 v9875), ∀ a, (k0_off2452 v9875) a + S7x1x512.size a ≤ S7x50x512.size a := fun v9875 k0_hw1226 => k0_hw1226

def k0_off2453 (i : grid0.Coords) : Fin 3 → Nat :=
  let c0_11250 : Index := 0#32
  let c3_11251 : Index := 3#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9880 : Index := Scalar.indexCast v9803
  ![0, 3, v9880.toNat]
def k0_off2454 (v9881 : BitVec 32) : Fin 3 → Nat :=
  let c0_11256 : Index := 0#32
  let v9884 : Index := Scalar.indexCast v9881
  let c0_11257 : Index := 0#32
  ![0, v9884.toNat, 0]

def k0_chk1227 (v9881 : BitVec 32) : Prop :=
  (∀ a, (k0_off2454 v9881) a + S7x1x512.size a ≤ S7x50x512.size a)
theorem k0_off2454_inb : ∀ (v9881 : BitVec 32) (k0_hw1227 : k0_chk1227 v9881), ∀ a, (k0_off2454 v9881) a + S7x1x512.size a ≤ S7x50x512.size a := fun v9881 k0_hw1227 => k0_hw1227

def k0_off2455 (i : grid0.Coords) : Fin 3 → Nat :=
  let c0_11258 : Index := 0#32
  let c4_11259 : Index := 4#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9887 : Index := Scalar.indexCast v9803
  ![0, 4, v9887.toNat]
def k0_off2456 (v9888 : BitVec 32) : Fin 3 → Nat :=
  let c0_11264 : Index := 0#32
  let v9891 : Index := Scalar.indexCast v9888
  let c0_11265 : Index := 0#32
  ![0, v9891.toNat, 0]

def k0_chk1228 (v9888 : BitVec 32) : Prop :=
  (∀ a, (k0_off2456 v9888) a + S7x1x512.size a ≤ S7x50x512.size a)
theorem k0_off2456_inb : ∀ (v9888 : BitVec 32) (k0_hw1228 : k0_chk1228 v9888), ∀ a, (k0_off2456 v9888) a + S7x1x512.size a ≤ S7x50x512.size a := fun v9888 k0_hw1228 => k0_hw1228

def k0_off2457 (i : grid0.Coords) : Fin 3 → Nat :=
  let c0_11266 : Index := 0#32
  let c5_11267 : Index := 5#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9894 : Index := Scalar.indexCast v9803
  ![0, 5, v9894.toNat]
def k0_off2458 (v9895 : BitVec 32) : Fin 3 → Nat :=
  let c0_11272 : Index := 0#32
  let v9898 : Index := Scalar.indexCast v9895
  let c0_11273 : Index := 0#32
  ![0, v9898.toNat, 0]

def k0_chk1229 (v9895 : BitVec 32) : Prop :=
  (∀ a, (k0_off2458 v9895) a + S7x1x512.size a ≤ S7x50x512.size a)
theorem k0_off2458_inb : ∀ (v9895 : BitVec 32) (k0_hw1229 : k0_chk1229 v9895), ∀ a, (k0_off2458 v9895) a + S7x1x512.size a ≤ S7x50x512.size a := fun v9895 k0_hw1229 => k0_hw1229

def k0_off2459 (i : grid0.Coords) : Fin 3 → Nat :=
  let c0_11274 : Index := 0#32
  let c6_11275 : Index := 6#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9901 : Index := Scalar.indexCast v9803
  ![0, 6, v9901.toNat]
def k0_off2460 (v9902 : BitVec 32) : Fin 3 → Nat :=
  let c0_11280 : Index := 0#32
  let v9905 : Index := Scalar.indexCast v9902
  let c0_11281 : Index := 0#32
  ![0, v9905.toNat, 0]

def k0_chk1230 (v9902 : BitVec 32) : Prop :=
  (∀ a, (k0_off2460 v9902) a + S7x1x512.size a ≤ S7x50x512.size a)
theorem k0_off2460_inb : ∀ (v9902 : BitVec 32) (k0_hw1230 : k0_chk1230 v9902), ∀ a, (k0_off2460 v9902) a + S7x1x512.size a ≤ S7x50x512.size a := fun v9902 k0_hw1230 => k0_hw1230

def k0_off2461 (i : grid0.Coords) : Fin 3 → Nat :=
  let c1_11285 : Index := 1#32
  let c2_11286 : Index := 2#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9912 : Index := Scalar.indexCast v9803
  ![1, 2, v9912.toNat]
def k0_off2462 (v9913 : BitVec 32) : Fin 3 → Nat :=
  let c0_11291 : Index := 0#32
  let v9916 : Index := Scalar.indexCast v9913
  let c0_11292 : Index := 0#32
  ![0, v9916.toNat, 0]

def k0_chk1231 (v9913 : BitVec 32) : Prop :=
  (∀ a, (k0_off2462 v9913) a + S7x1x512.size a ≤ S7x50x512.size a)
theorem k0_off2462_inb : ∀ (v9913 : BitVec 32) (k0_hw1231 : k0_chk1231 v9913), ∀ a, (k0_off2462 v9913) a + S7x1x512.size a ≤ S7x50x512.size a := fun v9913 k0_hw1231 => k0_hw1231

def k0_off2463 (i : grid0.Coords) : Fin 3 → Nat :=
  let c1_11293 : Index := 1#32
  let c3_11294 : Index := 3#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9918 : Index := Scalar.indexCast v9803
  ![1, 3, v9918.toNat]
def k0_off2464 (v9919 : BitVec 32) : Fin 3 → Nat :=
  let c0_11299 : Index := 0#32
  let v9922 : Index := Scalar.indexCast v9919
  let c0_11300 : Index := 0#32
  ![0, v9922.toNat, 0]

def k0_chk1232 (v9919 : BitVec 32) : Prop :=
  (∀ a, (k0_off2464 v9919) a + S7x1x512.size a ≤ S7x50x512.size a)
theorem k0_off2464_inb : ∀ (v9919 : BitVec 32) (k0_hw1232 : k0_chk1232 v9919), ∀ a, (k0_off2464 v9919) a + S7x1x512.size a ≤ S7x50x512.size a := fun v9919 k0_hw1232 => k0_hw1232

def k0_off2465 (i : grid0.Coords) : Fin 3 → Nat :=
  let c1_11301 : Index := 1#32
  let c4_11302 : Index := 4#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9925 : Index := Scalar.indexCast v9803
  ![1, 4, v9925.toNat]
def k0_off2466 (v9926 : BitVec 32) : Fin 3 → Nat :=
  let c0_11307 : Index := 0#32
  let v9929 : Index := Scalar.indexCast v9926
  let c0_11308 : Index := 0#32
  ![0, v9929.toNat, 0]

def k0_chk1233 (v9926 : BitVec 32) : Prop :=
  (∀ a, (k0_off2466 v9926) a + S7x1x512.size a ≤ S7x50x512.size a)
theorem k0_off2466_inb : ∀ (v9926 : BitVec 32) (k0_hw1233 : k0_chk1233 v9926), ∀ a, (k0_off2466 v9926) a + S7x1x512.size a ≤ S7x50x512.size a := fun v9926 k0_hw1233 => k0_hw1233

def k0_off2467 (i : grid0.Coords) : Fin 3 → Nat :=
  let c1_11309 : Index := 1#32
  let c5_11310 : Index := 5#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9932 : Index := Scalar.indexCast v9803
  ![1, 5, v9932.toNat]
def k0_off2468 (v9933 : BitVec 32) : Fin 3 → Nat :=
  let c0_11315 : Index := 0#32
  let v9936 : Index := Scalar.indexCast v9933
  let c0_11316 : Index := 0#32
  ![0, v9936.toNat, 0]

def k0_chk1234 (v9933 : BitVec 32) : Prop :=
  (∀ a, (k0_off2468 v9933) a + S7x1x512.size a ≤ S7x50x512.size a)
theorem k0_off2468_inb : ∀ (v9933 : BitVec 32) (k0_hw1234 : k0_chk1234 v9933), ∀ a, (k0_off2468 v9933) a + S7x1x512.size a ≤ S7x50x512.size a := fun v9933 k0_hw1234 => k0_hw1234

def k0_off2469 (i : grid0.Coords) : Fin 3 → Nat :=
  let c1_11317 : Index := 1#32
  let c6_11318 : Index := 6#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9939 : Index := Scalar.indexCast v9803
  ![1, 6, v9939.toNat]
def k0_off2470 (v9940 : BitVec 32) : Fin 3 → Nat :=
  let c0_11323 : Index := 0#32
  let v9943 : Index := Scalar.indexCast v9940
  let c0_11324 : Index := 0#32
  ![0, v9943.toNat, 0]

def k0_chk1235 (v9940 : BitVec 32) : Prop :=
  (∀ a, (k0_off2470 v9940) a + S7x1x512.size a ≤ S7x50x512.size a)
theorem k0_off2470_inb : ∀ (v9940 : BitVec 32) (k0_hw1235 : k0_chk1235 v9940), ∀ a, (k0_off2470 v9940) a + S7x1x512.size a ≤ S7x50x512.size a := fun v9940 k0_hw1235 => k0_hw1235

def k0_off2471 (i : grid0.Coords) : Fin 3 → Nat :=
  let c2_11329 : Index := 2#32
  let c2_11330 : Index := 2#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9950 : Index := Scalar.indexCast v9803
  ![2, 2, v9950.toNat]
def k0_off2472 (v9951 : BitVec 32) : Fin 3 → Nat :=
  let c0_11335 : Index := 0#32
  let v9954 : Index := Scalar.indexCast v9951
  let c0_11336 : Index := 0#32
  ![0, v9954.toNat, 0]

def k0_chk1236 (v9951 : BitVec 32) : Prop :=
  (∀ a, (k0_off2472 v9951) a + S7x1x512.size a ≤ S7x50x512.size a)
theorem k0_off2472_inb : ∀ (v9951 : BitVec 32) (k0_hw1236 : k0_chk1236 v9951), ∀ a, (k0_off2472 v9951) a + S7x1x512.size a ≤ S7x50x512.size a := fun v9951 k0_hw1236 => k0_hw1236

def k0_off2473 (i : grid0.Coords) : Fin 3 → Nat :=
  let c2_11337 : Index := 2#32
  let c3_11338 : Index := 3#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9956 : Index := Scalar.indexCast v9803
  ![2, 3, v9956.toNat]
def k0_off2474 (v9957 : BitVec 32) : Fin 3 → Nat :=
  let c0_11343 : Index := 0#32
  let v9960 : Index := Scalar.indexCast v9957
  let c0_11344 : Index := 0#32
  ![0, v9960.toNat, 0]

def k0_chk1237 (v9957 : BitVec 32) : Prop :=
  (∀ a, (k0_off2474 v9957) a + S7x1x512.size a ≤ S7x50x512.size a)
theorem k0_off2474_inb : ∀ (v9957 : BitVec 32) (k0_hw1237 : k0_chk1237 v9957), ∀ a, (k0_off2474 v9957) a + S7x1x512.size a ≤ S7x50x512.size a := fun v9957 k0_hw1237 => k0_hw1237

def k0_off2475 (i : grid0.Coords) : Fin 3 → Nat :=
  let c2_11345 : Index := 2#32
  let c4_11346 : Index := 4#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9963 : Index := Scalar.indexCast v9803
  ![2, 4, v9963.toNat]
def k0_off2476 (v9964 : BitVec 32) : Fin 3 → Nat :=
  let c0_11351 : Index := 0#32
  let v9967 : Index := Scalar.indexCast v9964
  let c0_11352 : Index := 0#32
  ![0, v9967.toNat, 0]

def k0_chk1238 (v9964 : BitVec 32) : Prop :=
  (∀ a, (k0_off2476 v9964) a + S7x1x512.size a ≤ S7x50x512.size a)
theorem k0_off2476_inb : ∀ (v9964 : BitVec 32) (k0_hw1238 : k0_chk1238 v9964), ∀ a, (k0_off2476 v9964) a + S7x1x512.size a ≤ S7x50x512.size a := fun v9964 k0_hw1238 => k0_hw1238

def k0_off2477 (i : grid0.Coords) : Fin 3 → Nat :=
  let c2_11353 : Index := 2#32
  let c5_11354 : Index := 5#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9970 : Index := Scalar.indexCast v9803
  ![2, 5, v9970.toNat]
def k0_off2478 (v9971 : BitVec 32) : Fin 3 → Nat :=
  let c0_11359 : Index := 0#32
  let v9974 : Index := Scalar.indexCast v9971
  let c0_11360 : Index := 0#32
  ![0, v9974.toNat, 0]

def k0_chk1239 (v9971 : BitVec 32) : Prop :=
  (∀ a, (k0_off2478 v9971) a + S7x1x512.size a ≤ S7x50x512.size a)
theorem k0_off2478_inb : ∀ (v9971 : BitVec 32) (k0_hw1239 : k0_chk1239 v9971), ∀ a, (k0_off2478 v9971) a + S7x1x512.size a ≤ S7x50x512.size a := fun v9971 k0_hw1239 => k0_hw1239

def k0_off2479 (i : grid0.Coords) : Fin 3 → Nat :=
  let c2_11361 : Index := 2#32
  let c6_11362 : Index := 6#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9977 : Index := Scalar.indexCast v9803
  ![2, 6, v9977.toNat]
def k0_off2480 (v9978 : BitVec 32) : Fin 3 → Nat :=
  let c0_11367 : Index := 0#32
  let v9981 : Index := Scalar.indexCast v9978
  let c0_11368 : Index := 0#32
  ![0, v9981.toNat, 0]

def k0_chk1240 (v9978 : BitVec 32) : Prop :=
  (∀ a, (k0_off2480 v9978) a + S7x1x512.size a ≤ S7x50x512.size a)
theorem k0_off2480_inb : ∀ (v9978 : BitVec 32) (k0_hw1240 : k0_chk1240 v9978), ∀ a, (k0_off2480 v9978) a + S7x1x512.size a ≤ S7x50x512.size a := fun v9978 k0_hw1240 => k0_hw1240

def k0_off2481 (i : grid0.Coords) : Fin 3 → Nat :=
  let c3_11373 : Index := 3#32
  let c2_11374 : Index := 2#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9988 : Index := Scalar.indexCast v9803
  ![3, 2, v9988.toNat]
def k0_off2482 (v9989 : BitVec 32) : Fin 3 → Nat :=
  let c0_11379 : Index := 0#32
  let v9992 : Index := Scalar.indexCast v9989
  let c0_11380 : Index := 0#32
  ![0, v9992.toNat, 0]

def k0_chk1241 (v9989 : BitVec 32) : Prop :=
  (∀ a, (k0_off2482 v9989) a + S7x1x512.size a ≤ S7x50x512.size a)
theorem k0_off2482_inb : ∀ (v9989 : BitVec 32) (k0_hw1241 : k0_chk1241 v9989), ∀ a, (k0_off2482 v9989) a + S7x1x512.size a ≤ S7x50x512.size a := fun v9989 k0_hw1241 => k0_hw1241

def k0_off2483 (i : grid0.Coords) : Fin 3 → Nat :=
  let c3_11381 : Index := 3#32
  let c3_11382 : Index := 3#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v9994 : Index := Scalar.indexCast v9803
  ![3, 3, v9994.toNat]
def k0_off2484 (v9995 : BitVec 32) : Fin 3 → Nat :=
  let c0_11387 : Index := 0#32
  let v9998 : Index := Scalar.indexCast v9995
  let c0_11388 : Index := 0#32
  ![0, v9998.toNat, 0]

def k0_chk1242 (v9995 : BitVec 32) : Prop :=
  (∀ a, (k0_off2484 v9995) a + S7x1x512.size a ≤ S7x50x512.size a)
theorem k0_off2484_inb : ∀ (v9995 : BitVec 32) (k0_hw1242 : k0_chk1242 v9995), ∀ a, (k0_off2484 v9995) a + S7x1x512.size a ≤ S7x50x512.size a := fun v9995 k0_hw1242 => k0_hw1242

def k0_off2485 (i : grid0.Coords) : Fin 3 → Nat :=
  let c3_11389 : Index := 3#32
  let c4_11390 : Index := 4#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10001 : Index := Scalar.indexCast v9803
  ![3, 4, v10001.toNat]
def k0_off2486 (v10002 : BitVec 32) : Fin 3 → Nat :=
  let c0_11395 : Index := 0#32
  let v10005 : Index := Scalar.indexCast v10002
  let c0_11396 : Index := 0#32
  ![0, v10005.toNat, 0]

def k0_chk1243 (v10002 : BitVec 32) : Prop :=
  (∀ a, (k0_off2486 v10002) a + S7x1x512.size a ≤ S7x50x512.size a)
theorem k0_off2486_inb : ∀ (v10002 : BitVec 32) (k0_hw1243 : k0_chk1243 v10002), ∀ a, (k0_off2486 v10002) a + S7x1x512.size a ≤ S7x50x512.size a := fun v10002 k0_hw1243 => k0_hw1243

def k0_off2487 (i : grid0.Coords) : Fin 3 → Nat :=
  let c3_11397 : Index := 3#32
  let c5_11398 : Index := 5#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10008 : Index := Scalar.indexCast v9803
  ![3, 5, v10008.toNat]
def k0_off2488 (v10009 : BitVec 32) : Fin 3 → Nat :=
  let c0_11403 : Index := 0#32
  let v10012 : Index := Scalar.indexCast v10009
  let c0_11404 : Index := 0#32
  ![0, v10012.toNat, 0]

def k0_chk1244 (v10009 : BitVec 32) : Prop :=
  (∀ a, (k0_off2488 v10009) a + S7x1x512.size a ≤ S7x50x512.size a)
theorem k0_off2488_inb : ∀ (v10009 : BitVec 32) (k0_hw1244 : k0_chk1244 v10009), ∀ a, (k0_off2488 v10009) a + S7x1x512.size a ≤ S7x50x512.size a := fun v10009 k0_hw1244 => k0_hw1244

def k0_off2489 (i : grid0.Coords) : Fin 3 → Nat :=
  let c3_11405 : Index := 3#32
  let c6_11406 : Index := 6#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10015 : Index := Scalar.indexCast v9803
  ![3, 6, v10015.toNat]
def k0_off2490 (v10016 : BitVec 32) : Fin 3 → Nat :=
  let c0_11411 : Index := 0#32
  let v10019 : Index := Scalar.indexCast v10016
  let c0_11412 : Index := 0#32
  ![0, v10019.toNat, 0]

def k0_chk1245 (v10016 : BitVec 32) : Prop :=
  (∀ a, (k0_off2490 v10016) a + S7x1x512.size a ≤ S7x50x512.size a)
theorem k0_off2490_inb : ∀ (v10016 : BitVec 32) (k0_hw1245 : k0_chk1245 v10016), ∀ a, (k0_off2490 v10016) a + S7x1x512.size a ≤ S7x50x512.size a := fun v10016 k0_hw1245 => k0_hw1245

def k0_off2491 (i : grid0.Coords) : Fin 3 → Nat :=
  let c4_11417 : Index := 4#32
  let c2_11418 : Index := 2#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10026 : Index := Scalar.indexCast v9803
  ![4, 2, v10026.toNat]
def k0_off2492 (v10027 : BitVec 32) : Fin 3 → Nat :=
  let c0_11423 : Index := 0#32
  let v10030 : Index := Scalar.indexCast v10027
  let c0_11424 : Index := 0#32
  ![0, v10030.toNat, 0]

def k0_chk1246 (v10027 : BitVec 32) : Prop :=
  (∀ a, (k0_off2492 v10027) a + S7x1x512.size a ≤ S7x50x512.size a)
theorem k0_off2492_inb : ∀ (v10027 : BitVec 32) (k0_hw1246 : k0_chk1246 v10027), ∀ a, (k0_off2492 v10027) a + S7x1x512.size a ≤ S7x50x512.size a := fun v10027 k0_hw1246 => k0_hw1246

def k0_off2493 (i : grid0.Coords) : Fin 3 → Nat :=
  let c4_11425 : Index := 4#32
  let c3_11426 : Index := 3#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10032 : Index := Scalar.indexCast v9803
  ![4, 3, v10032.toNat]
def k0_off2494 (v10033 : BitVec 32) : Fin 3 → Nat :=
  let c0_11431 : Index := 0#32
  let v10036 : Index := Scalar.indexCast v10033
  let c0_11432 : Index := 0#32
  ![0, v10036.toNat, 0]

def k0_chk1247 (v10033 : BitVec 32) : Prop :=
  (∀ a, (k0_off2494 v10033) a + S7x1x512.size a ≤ S7x50x512.size a)
theorem k0_off2494_inb : ∀ (v10033 : BitVec 32) (k0_hw1247 : k0_chk1247 v10033), ∀ a, (k0_off2494 v10033) a + S7x1x512.size a ≤ S7x50x512.size a := fun v10033 k0_hw1247 => k0_hw1247

def k0_off2495 (i : grid0.Coords) : Fin 3 → Nat :=
  let c4_11433 : Index := 4#32
  let c4_11434 : Index := 4#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10039 : Index := Scalar.indexCast v9803
  ![4, 4, v10039.toNat]
def k0_off2496 (v10040 : BitVec 32) : Fin 3 → Nat :=
  let c0_11439 : Index := 0#32
  let v10043 : Index := Scalar.indexCast v10040
  let c0_11440 : Index := 0#32
  ![0, v10043.toNat, 0]

def k0_chk1248 (v10040 : BitVec 32) : Prop :=
  (∀ a, (k0_off2496 v10040) a + S7x1x512.size a ≤ S7x50x512.size a)
theorem k0_off2496_inb : ∀ (v10040 : BitVec 32) (k0_hw1248 : k0_chk1248 v10040), ∀ a, (k0_off2496 v10040) a + S7x1x512.size a ≤ S7x50x512.size a := fun v10040 k0_hw1248 => k0_hw1248

def k0_off2497 (i : grid0.Coords) : Fin 3 → Nat :=
  let c4_11441 : Index := 4#32
  let c5_11442 : Index := 5#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10046 : Index := Scalar.indexCast v9803
  ![4, 5, v10046.toNat]
def k0_off2498 (v10047 : BitVec 32) : Fin 3 → Nat :=
  let c0_11447 : Index := 0#32
  let v10050 : Index := Scalar.indexCast v10047
  let c0_11448 : Index := 0#32
  ![0, v10050.toNat, 0]

def k0_chk1249 (v10047 : BitVec 32) : Prop :=
  (∀ a, (k0_off2498 v10047) a + S7x1x512.size a ≤ S7x50x512.size a)
theorem k0_off2498_inb : ∀ (v10047 : BitVec 32) (k0_hw1249 : k0_chk1249 v10047), ∀ a, (k0_off2498 v10047) a + S7x1x512.size a ≤ S7x50x512.size a := fun v10047 k0_hw1249 => k0_hw1249

def k0_off2499 (i : grid0.Coords) : Fin 3 → Nat :=
  let c4_11449 : Index := 4#32
  let c6_11450 : Index := 6#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10053 : Index := Scalar.indexCast v9803
  ![4, 6, v10053.toNat]
def k0_off2500 (v10054 : BitVec 32) : Fin 3 → Nat :=
  let c0_11455 : Index := 0#32
  let v10057 : Index := Scalar.indexCast v10054
  let c0_11456 : Index := 0#32
  ![0, v10057.toNat, 0]

def k0_chk1250 (v10054 : BitVec 32) : Prop :=
  (∀ a, (k0_off2500 v10054) a + S7x1x512.size a ≤ S7x50x512.size a)
theorem k0_off2500_inb : ∀ (v10054 : BitVec 32) (k0_hw1250 : k0_chk1250 v10054), ∀ a, (k0_off2500 v10054) a + S7x1x512.size a ≤ S7x50x512.size a := fun v10054 k0_hw1250 => k0_hw1250

def k0_off2501 (i : grid0.Coords) : Fin 3 → Nat :=
  let c5_11461 : Index := 5#32
  let c2_11462 : Index := 2#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10064 : Index := Scalar.indexCast v9803
  ![5, 2, v10064.toNat]
def k0_off2502 (v10065 : BitVec 32) : Fin 3 → Nat :=
  let c0_11467 : Index := 0#32
  let v10068 : Index := Scalar.indexCast v10065
  let c0_11468 : Index := 0#32
  ![0, v10068.toNat, 0]

def k0_chk1251 (v10065 : BitVec 32) : Prop :=
  (∀ a, (k0_off2502 v10065) a + S7x1x512.size a ≤ S7x50x512.size a)
theorem k0_off2502_inb : ∀ (v10065 : BitVec 32) (k0_hw1251 : k0_chk1251 v10065), ∀ a, (k0_off2502 v10065) a + S7x1x512.size a ≤ S7x50x512.size a := fun v10065 k0_hw1251 => k0_hw1251

def k0_off2503 (i : grid0.Coords) : Fin 3 → Nat :=
  let c5_11469 : Index := 5#32
  let c3_11470 : Index := 3#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10070 : Index := Scalar.indexCast v9803
  ![5, 3, v10070.toNat]
def k0_off2504 (v10071 : BitVec 32) : Fin 3 → Nat :=
  let c0_11475 : Index := 0#32
  let v10074 : Index := Scalar.indexCast v10071
  let c0_11476 : Index := 0#32
  ![0, v10074.toNat, 0]

def k0_chk1252 (v10071 : BitVec 32) : Prop :=
  (∀ a, (k0_off2504 v10071) a + S7x1x512.size a ≤ S7x50x512.size a)
theorem k0_off2504_inb : ∀ (v10071 : BitVec 32) (k0_hw1252 : k0_chk1252 v10071), ∀ a, (k0_off2504 v10071) a + S7x1x512.size a ≤ S7x50x512.size a := fun v10071 k0_hw1252 => k0_hw1252

def k0_off2505 (i : grid0.Coords) : Fin 3 → Nat :=
  let c5_11477 : Index := 5#32
  let c4_11478 : Index := 4#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10077 : Index := Scalar.indexCast v9803
  ![5, 4, v10077.toNat]
def k0_off2506 (v10078 : BitVec 32) : Fin 3 → Nat :=
  let c0_11483 : Index := 0#32
  let v10081 : Index := Scalar.indexCast v10078
  let c0_11484 : Index := 0#32
  ![0, v10081.toNat, 0]

def k0_chk1253 (v10078 : BitVec 32) : Prop :=
  (∀ a, (k0_off2506 v10078) a + S7x1x512.size a ≤ S7x50x512.size a)
theorem k0_off2506_inb : ∀ (v10078 : BitVec 32) (k0_hw1253 : k0_chk1253 v10078), ∀ a, (k0_off2506 v10078) a + S7x1x512.size a ≤ S7x50x512.size a := fun v10078 k0_hw1253 => k0_hw1253

def k0_off2507 (i : grid0.Coords) : Fin 3 → Nat :=
  let c5_11485 : Index := 5#32
  let c5_11486 : Index := 5#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10084 : Index := Scalar.indexCast v9803
  ![5, 5, v10084.toNat]
def k0_off2508 (v10085 : BitVec 32) : Fin 3 → Nat :=
  let c0_11491 : Index := 0#32
  let v10088 : Index := Scalar.indexCast v10085
  let c0_11492 : Index := 0#32
  ![0, v10088.toNat, 0]

def k0_chk1254 (v10085 : BitVec 32) : Prop :=
  (∀ a, (k0_off2508 v10085) a + S7x1x512.size a ≤ S7x50x512.size a)
theorem k0_off2508_inb : ∀ (v10085 : BitVec 32) (k0_hw1254 : k0_chk1254 v10085), ∀ a, (k0_off2508 v10085) a + S7x1x512.size a ≤ S7x50x512.size a := fun v10085 k0_hw1254 => k0_hw1254

def k0_off2509 (i : grid0.Coords) : Fin 3 → Nat :=
  let c5_11493 : Index := 5#32
  let c6_11494 : Index := 6#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10091 : Index := Scalar.indexCast v9803
  ![5, 6, v10091.toNat]
def k0_off2510 (v10092 : BitVec 32) : Fin 3 → Nat :=
  let c0_11499 : Index := 0#32
  let v10095 : Index := Scalar.indexCast v10092
  let c0_11500 : Index := 0#32
  ![0, v10095.toNat, 0]

def k0_chk1255 (v10092 : BitVec 32) : Prop :=
  (∀ a, (k0_off2510 v10092) a + S7x1x512.size a ≤ S7x50x512.size a)
theorem k0_off2510_inb : ∀ (v10092 : BitVec 32) (k0_hw1255 : k0_chk1255 v10092), ∀ a, (k0_off2510 v10092) a + S7x1x512.size a ≤ S7x50x512.size a := fun v10092 k0_hw1255 => k0_hw1255

def k0_off2511 (i : grid0.Coords) : Fin 3 → Nat :=
  let c6_11505 : Index := 6#32
  let c2_11506 : Index := 2#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10102 : Index := Scalar.indexCast v9803
  ![6, 2, v10102.toNat]
def k0_off2512 (v10103 : BitVec 32) : Fin 3 → Nat :=
  let c0_11511 : Index := 0#32
  let v10106 : Index := Scalar.indexCast v10103
  let c0_11512 : Index := 0#32
  ![0, v10106.toNat, 0]

def k0_chk1256 (v10103 : BitVec 32) : Prop :=
  (∀ a, (k0_off2512 v10103) a + S7x1x512.size a ≤ S7x50x512.size a)
theorem k0_off2512_inb : ∀ (v10103 : BitVec 32) (k0_hw1256 : k0_chk1256 v10103), ∀ a, (k0_off2512 v10103) a + S7x1x512.size a ≤ S7x50x512.size a := fun v10103 k0_hw1256 => k0_hw1256

def k0_off2513 (i : grid0.Coords) : Fin 3 → Nat :=
  let c6_11513 : Index := 6#32
  let c3_11514 : Index := 3#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10108 : Index := Scalar.indexCast v9803
  ![6, 3, v10108.toNat]
def k0_off2514 (v10109 : BitVec 32) : Fin 3 → Nat :=
  let c0_11519 : Index := 0#32
  let v10112 : Index := Scalar.indexCast v10109
  let c0_11520 : Index := 0#32
  ![0, v10112.toNat, 0]

def k0_chk1257 (v10109 : BitVec 32) : Prop :=
  (∀ a, (k0_off2514 v10109) a + S7x1x512.size a ≤ S7x50x512.size a)
theorem k0_off2514_inb : ∀ (v10109 : BitVec 32) (k0_hw1257 : k0_chk1257 v10109), ∀ a, (k0_off2514 v10109) a + S7x1x512.size a ≤ S7x50x512.size a := fun v10109 k0_hw1257 => k0_hw1257

def k0_off2515 (i : grid0.Coords) : Fin 3 → Nat :=
  let c6_11521 : Index := 6#32
  let c4_11522 : Index := 4#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10115 : Index := Scalar.indexCast v9803
  ![6, 4, v10115.toNat]
def k0_off2516 (v10116 : BitVec 32) : Fin 3 → Nat :=
  let c0_11527 : Index := 0#32
  let v10119 : Index := Scalar.indexCast v10116
  let c0_11528 : Index := 0#32
  ![0, v10119.toNat, 0]

def k0_chk1258 (v10116 : BitVec 32) : Prop :=
  (∀ a, (k0_off2516 v10116) a + S7x1x512.size a ≤ S7x50x512.size a)
theorem k0_off2516_inb : ∀ (v10116 : BitVec 32) (k0_hw1258 : k0_chk1258 v10116), ∀ a, (k0_off2516 v10116) a + S7x1x512.size a ≤ S7x50x512.size a := fun v10116 k0_hw1258 => k0_hw1258

def k0_off2517 (i : grid0.Coords) : Fin 3 → Nat :=
  let c6_11529 : Index := 6#32
  let c5_11530 : Index := 5#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10122 : Index := Scalar.indexCast v9803
  ![6, 5, v10122.toNat]
def k0_off2518 (v10123 : BitVec 32) : Fin 3 → Nat :=
  let c0_11535 : Index := 0#32
  let v10126 : Index := Scalar.indexCast v10123
  let c0_11536 : Index := 0#32
  ![0, v10126.toNat, 0]

def k0_chk1259 (v10123 : BitVec 32) : Prop :=
  (∀ a, (k0_off2518 v10123) a + S7x1x512.size a ≤ S7x50x512.size a)
theorem k0_off2518_inb : ∀ (v10123 : BitVec 32) (k0_hw1259 : k0_chk1259 v10123), ∀ a, (k0_off2518 v10123) a + S7x1x512.size a ≤ S7x50x512.size a := fun v10123 k0_hw1259 => k0_hw1259

def k0_off2519 (i : grid0.Coords) : Fin 3 → Nat :=
  let c6_11537 : Index := 6#32
  let c6_11538 : Index := 6#32
  let arg0 : BitVec 32 := BitVec.ofNat 32 (i 0).val
  let c32_i32_11164 : BitVec 32 := 32#32
  let v9802 : BitVec 32 := Scalar.muli arg0 c32_i32_11164
  let c29_i32 : BitVec 32 := 29#32
  let v9803 : BitVec 32 := Scalar.addi v9802 c29_i32
  let v10129 : Index := Scalar.indexCast v9803
  ![6, 6, v10129.toNat]
def k0_off2520 (v10130 : BitVec 32) : Fin 3 → Nat :=
  let c0_11543 : Index := 0#32
  let v10133 : Index := Scalar.indexCast v10130
  let c0_11544 : Index := 0#32
  ![0, v10133.toNat, 0]

def k0_chk1260 (v10130 : BitVec 32) : Prop :=
  (∀ a, (k0_off2520 v10130) a + S7x1x512.size a ≤ S7x50x512.size a)
theorem k0_off2520_inb : ∀ (v10130 : BitVec 32) (k0_hw1260 : k0_chk1260 v10130), ∀ a, (k0_off2520 v10130) a + S7x1x512.size a ≤ S7x50x512.size a := fun v10130 k0_hw1260 => k0_hw1260

def k0_off2521 (i : grid0.Coords) : Fin 3 → Nat :=
  let c0_11550 : Index := 0#32
  let c0_11551 : Index := 0#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10142 : Index := Scalar.indexCast v10141
  ![0, 0, v10142.toNat]
def k0_off2522 (v10143 : BitVec 32) : Fin 3 → Nat :=
  let v10144 : Index := Scalar.indexCast v10143
  let c0_11552 : Index := 0#32
  let c0_11553 : Index := 0#32
  ![v10144.toNat, 0, 0]

def k0_chk1261 (v10143 : BitVec 32) : Prop :=
  (∀ a, (k0_off2522 v10143) a + S1x50x512.size a ≤ S250x50x512.size a)
theorem k0_off2522_inb : ∀ (v10143 : BitVec 32) (k0_hw1261 : k0_chk1261 v10143), ∀ a, (k0_off2522 v10143) a + S1x50x512.size a ≤ S250x50x512.size a := fun v10143 k0_hw1261 => k0_hw1261

def k0_off2523 (i : grid0.Coords) : Fin 3 → Nat :=
  let c1_11561 : Index := 1#32
  let c0_11562 : Index := 0#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10152 : Index := Scalar.indexCast v10141
  ![1, 0, v10152.toNat]
def k0_off2524 (v10153 : BitVec 32) : Fin 3 → Nat :=
  let v10154 : Index := Scalar.indexCast v10153
  let c0_11563 : Index := 0#32
  let c0_11564 : Index := 0#32
  ![v10154.toNat, 0, 0]

def k0_chk1262 (v10153 : BitVec 32) : Prop :=
  (∀ a, (k0_off2524 v10153) a + S1x50x512.size a ≤ S250x50x512.size a)
theorem k0_off2524_inb : ∀ (v10153 : BitVec 32) (k0_hw1262 : k0_chk1262 v10153), ∀ a, (k0_off2524 v10153) a + S1x50x512.size a ≤ S250x50x512.size a := fun v10153 k0_hw1262 => k0_hw1262

def k0_off2525 (i : grid0.Coords) : Fin 3 → Nat :=
  let c2_11572 : Index := 2#32
  let c0_11573 : Index := 0#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10162 : Index := Scalar.indexCast v10141
  ![2, 0, v10162.toNat]
def k0_off2526 (v10163 : BitVec 32) : Fin 3 → Nat :=
  let v10164 : Index := Scalar.indexCast v10163
  let c0_11574 : Index := 0#32
  let c0_11575 : Index := 0#32
  ![v10164.toNat, 0, 0]

def k0_chk1263 (v10163 : BitVec 32) : Prop :=
  (∀ a, (k0_off2526 v10163) a + S1x50x512.size a ≤ S250x50x512.size a)
theorem k0_off2526_inb : ∀ (v10163 : BitVec 32) (k0_hw1263 : k0_chk1263 v10163), ∀ a, (k0_off2526 v10163) a + S1x50x512.size a ≤ S250x50x512.size a := fun v10163 k0_hw1263 => k0_hw1263

def k0_off2527 (i : grid0.Coords) : Fin 3 → Nat :=
  let c3_11583 : Index := 3#32
  let c0_11584 : Index := 0#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10172 : Index := Scalar.indexCast v10141
  ![3, 0, v10172.toNat]
def k0_off2528 (v10173 : BitVec 32) : Fin 3 → Nat :=
  let v10174 : Index := Scalar.indexCast v10173
  let c0_11585 : Index := 0#32
  let c0_11586 : Index := 0#32
  ![v10174.toNat, 0, 0]

def k0_chk1264 (v10173 : BitVec 32) : Prop :=
  (∀ a, (k0_off2528 v10173) a + S1x50x512.size a ≤ S250x50x512.size a)
theorem k0_off2528_inb : ∀ (v10173 : BitVec 32) (k0_hw1264 : k0_chk1264 v10173), ∀ a, (k0_off2528 v10173) a + S1x50x512.size a ≤ S250x50x512.size a := fun v10173 k0_hw1264 => k0_hw1264

def k0_off2529 (i : grid0.Coords) : Fin 3 → Nat :=
  let c4_11594 : Index := 4#32
  let c0_11595 : Index := 0#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10182 : Index := Scalar.indexCast v10141
  ![4, 0, v10182.toNat]
def k0_off2530 (v10183 : BitVec 32) : Fin 3 → Nat :=
  let v10184 : Index := Scalar.indexCast v10183
  let c0_11596 : Index := 0#32
  let c0_11597 : Index := 0#32
  ![v10184.toNat, 0, 0]

def k0_chk1265 (v10183 : BitVec 32) : Prop :=
  (∀ a, (k0_off2530 v10183) a + S1x50x512.size a ≤ S250x50x512.size a)
theorem k0_off2530_inb : ∀ (v10183 : BitVec 32) (k0_hw1265 : k0_chk1265 v10183), ∀ a, (k0_off2530 v10183) a + S1x50x512.size a ≤ S250x50x512.size a := fun v10183 k0_hw1265 => k0_hw1265

def k0_off2531 (i : grid0.Coords) : Fin 3 → Nat :=
  let c5_11605 : Index := 5#32
  let c0_11606 : Index := 0#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10192 : Index := Scalar.indexCast v10141
  ![5, 0, v10192.toNat]
def k0_off2532 (v10193 : BitVec 32) : Fin 3 → Nat :=
  let v10194 : Index := Scalar.indexCast v10193
  let c0_11607 : Index := 0#32
  let c0_11608 : Index := 0#32
  ![v10194.toNat, 0, 0]

def k0_chk1266 (v10193 : BitVec 32) : Prop :=
  (∀ a, (k0_off2532 v10193) a + S1x50x512.size a ≤ S250x50x512.size a)
theorem k0_off2532_inb : ∀ (v10193 : BitVec 32) (k0_hw1266 : k0_chk1266 v10193), ∀ a, (k0_off2532 v10193) a + S1x50x512.size a ≤ S250x50x512.size a := fun v10193 k0_hw1266 => k0_hw1266

def k0_off2533 (i : grid0.Coords) : Fin 3 → Nat :=
  let c6_11616 : Index := 6#32
  let c0_11617 : Index := 0#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10202 : Index := Scalar.indexCast v10141
  ![6, 0, v10202.toNat]
def k0_off2534 (v10203 : BitVec 32) : Fin 3 → Nat :=
  let v10204 : Index := Scalar.indexCast v10203
  let c0_11618 : Index := 0#32
  let c0_11619 : Index := 0#32
  ![v10204.toNat, 0, 0]

def k0_chk1267 (v10203 : BitVec 32) : Prop :=
  (∀ a, (k0_off2534 v10203) a + S1x50x512.size a ≤ S250x50x512.size a)
theorem k0_off2534_inb : ∀ (v10203 : BitVec 32) (k0_hw1267 : k0_chk1267 v10203), ∀ a, (k0_off2534 v10203) a + S1x50x512.size a ≤ S250x50x512.size a := fun v10203 k0_hw1267 => k0_hw1267

def k0_off2535 (i : grid0.Coords) : Fin 3 → Nat :=
  let c0_11627 : Index := 0#32
  let c2_11628 : Index := 2#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10212 : Index := Scalar.indexCast v10141
  ![0, 2, v10212.toNat]
def k0_off2536 (v10213 : BitVec 32) : Fin 3 → Nat :=
  let c0_11633 : Index := 0#32
  let v10216 : Index := Scalar.indexCast v10213
  let c0_11634 : Index := 0#32
  ![0, v10216.toNat, 0]

def k0_chk1268 (v10213 : BitVec 32) : Prop :=
  (∀ a, (k0_off2536 v10213) a + S7x1x512.size a ≤ S7x50x512.size a)
theorem k0_off2536_inb : ∀ (v10213 : BitVec 32) (k0_hw1268 : k0_chk1268 v10213), ∀ a, (k0_off2536 v10213) a + S7x1x512.size a ≤ S7x50x512.size a := fun v10213 k0_hw1268 => k0_hw1268

def k0_off2537 (i : grid0.Coords) : Fin 3 → Nat :=
  let c0_11635 : Index := 0#32
  let c3_11636 : Index := 3#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10218 : Index := Scalar.indexCast v10141
  ![0, 3, v10218.toNat]
def k0_off2538 (v10219 : BitVec 32) : Fin 3 → Nat :=
  let c0_11641 : Index := 0#32
  let v10222 : Index := Scalar.indexCast v10219
  let c0_11642 : Index := 0#32
  ![0, v10222.toNat, 0]

def k0_chk1269 (v10219 : BitVec 32) : Prop :=
  (∀ a, (k0_off2538 v10219) a + S7x1x512.size a ≤ S7x50x512.size a)
theorem k0_off2538_inb : ∀ (v10219 : BitVec 32) (k0_hw1269 : k0_chk1269 v10219), ∀ a, (k0_off2538 v10219) a + S7x1x512.size a ≤ S7x50x512.size a := fun v10219 k0_hw1269 => k0_hw1269

def k0_off2539 (i : grid0.Coords) : Fin 3 → Nat :=
  let c0_11643 : Index := 0#32
  let c4_11644 : Index := 4#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10225 : Index := Scalar.indexCast v10141
  ![0, 4, v10225.toNat]
def k0_off2540 (v10226 : BitVec 32) : Fin 3 → Nat :=
  let c0_11649 : Index := 0#32
  let v10229 : Index := Scalar.indexCast v10226
  let c0_11650 : Index := 0#32
  ![0, v10229.toNat, 0]

def k0_chk1270 (v10226 : BitVec 32) : Prop :=
  (∀ a, (k0_off2540 v10226) a + S7x1x512.size a ≤ S7x50x512.size a)
theorem k0_off2540_inb : ∀ (v10226 : BitVec 32) (k0_hw1270 : k0_chk1270 v10226), ∀ a, (k0_off2540 v10226) a + S7x1x512.size a ≤ S7x50x512.size a := fun v10226 k0_hw1270 => k0_hw1270

def k0_off2541 (i : grid0.Coords) : Fin 3 → Nat :=
  let c0_11651 : Index := 0#32
  let c5_11652 : Index := 5#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10232 : Index := Scalar.indexCast v10141
  ![0, 5, v10232.toNat]
def k0_off2542 (v10233 : BitVec 32) : Fin 3 → Nat :=
  let c0_11657 : Index := 0#32
  let v10236 : Index := Scalar.indexCast v10233
  let c0_11658 : Index := 0#32
  ![0, v10236.toNat, 0]

def k0_chk1271 (v10233 : BitVec 32) : Prop :=
  (∀ a, (k0_off2542 v10233) a + S7x1x512.size a ≤ S7x50x512.size a)
theorem k0_off2542_inb : ∀ (v10233 : BitVec 32) (k0_hw1271 : k0_chk1271 v10233), ∀ a, (k0_off2542 v10233) a + S7x1x512.size a ≤ S7x50x512.size a := fun v10233 k0_hw1271 => k0_hw1271

def k0_off2543 (i : grid0.Coords) : Fin 3 → Nat :=
  let c0_11659 : Index := 0#32
  let c6_11660 : Index := 6#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10239 : Index := Scalar.indexCast v10141
  ![0, 6, v10239.toNat]
def k0_off2544 (v10240 : BitVec 32) : Fin 3 → Nat :=
  let c0_11665 : Index := 0#32
  let v10243 : Index := Scalar.indexCast v10240
  let c0_11666 : Index := 0#32
  ![0, v10243.toNat, 0]

def k0_chk1272 (v10240 : BitVec 32) : Prop :=
  (∀ a, (k0_off2544 v10240) a + S7x1x512.size a ≤ S7x50x512.size a)
theorem k0_off2544_inb : ∀ (v10240 : BitVec 32) (k0_hw1272 : k0_chk1272 v10240), ∀ a, (k0_off2544 v10240) a + S7x1x512.size a ≤ S7x50x512.size a := fun v10240 k0_hw1272 => k0_hw1272

def k0_off2545 (i : grid0.Coords) : Fin 3 → Nat :=
  let c1_11670 : Index := 1#32
  let c2_11671 : Index := 2#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10250 : Index := Scalar.indexCast v10141
  ![1, 2, v10250.toNat]
def k0_off2546 (v10251 : BitVec 32) : Fin 3 → Nat :=
  let c0_11676 : Index := 0#32
  let v10254 : Index := Scalar.indexCast v10251
  let c0_11677 : Index := 0#32
  ![0, v10254.toNat, 0]

def k0_chk1273 (v10251 : BitVec 32) : Prop :=
  (∀ a, (k0_off2546 v10251) a + S7x1x512.size a ≤ S7x50x512.size a)
theorem k0_off2546_inb : ∀ (v10251 : BitVec 32) (k0_hw1273 : k0_chk1273 v10251), ∀ a, (k0_off2546 v10251) a + S7x1x512.size a ≤ S7x50x512.size a := fun v10251 k0_hw1273 => k0_hw1273

def k0_off2547 (i : grid0.Coords) : Fin 3 → Nat :=
  let c1_11678 : Index := 1#32
  let c3_11679 : Index := 3#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10256 : Index := Scalar.indexCast v10141
  ![1, 3, v10256.toNat]
def k0_off2548 (v10257 : BitVec 32) : Fin 3 → Nat :=
  let c0_11684 : Index := 0#32
  let v10260 : Index := Scalar.indexCast v10257
  let c0_11685 : Index := 0#32
  ![0, v10260.toNat, 0]

def k0_chk1274 (v10257 : BitVec 32) : Prop :=
  (∀ a, (k0_off2548 v10257) a + S7x1x512.size a ≤ S7x50x512.size a)
theorem k0_off2548_inb : ∀ (v10257 : BitVec 32) (k0_hw1274 : k0_chk1274 v10257), ∀ a, (k0_off2548 v10257) a + S7x1x512.size a ≤ S7x50x512.size a := fun v10257 k0_hw1274 => k0_hw1274

def k0_off2549 (i : grid0.Coords) : Fin 3 → Nat :=
  let c1_11686 : Index := 1#32
  let c4_11687 : Index := 4#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10263 : Index := Scalar.indexCast v10141
  ![1, 4, v10263.toNat]
def k0_off2550 (v10264 : BitVec 32) : Fin 3 → Nat :=
  let c0_11692 : Index := 0#32
  let v10267 : Index := Scalar.indexCast v10264
  let c0_11693 : Index := 0#32
  ![0, v10267.toNat, 0]

def k0_chk1275 (v10264 : BitVec 32) : Prop :=
  (∀ a, (k0_off2550 v10264) a + S7x1x512.size a ≤ S7x50x512.size a)
theorem k0_off2550_inb : ∀ (v10264 : BitVec 32) (k0_hw1275 : k0_chk1275 v10264), ∀ a, (k0_off2550 v10264) a + S7x1x512.size a ≤ S7x50x512.size a := fun v10264 k0_hw1275 => k0_hw1275

def k0_off2551 (i : grid0.Coords) : Fin 3 → Nat :=
  let c1_11694 : Index := 1#32
  let c5_11695 : Index := 5#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10270 : Index := Scalar.indexCast v10141
  ![1, 5, v10270.toNat]
def k0_off2552 (v10271 : BitVec 32) : Fin 3 → Nat :=
  let c0_11700 : Index := 0#32
  let v10274 : Index := Scalar.indexCast v10271
  let c0_11701 : Index := 0#32
  ![0, v10274.toNat, 0]

def k0_chk1276 (v10271 : BitVec 32) : Prop :=
  (∀ a, (k0_off2552 v10271) a + S7x1x512.size a ≤ S7x50x512.size a)
theorem k0_off2552_inb : ∀ (v10271 : BitVec 32) (k0_hw1276 : k0_chk1276 v10271), ∀ a, (k0_off2552 v10271) a + S7x1x512.size a ≤ S7x50x512.size a := fun v10271 k0_hw1276 => k0_hw1276

def k0_off2553 (i : grid0.Coords) : Fin 3 → Nat :=
  let c1_11702 : Index := 1#32
  let c6_11703 : Index := 6#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10277 : Index := Scalar.indexCast v10141
  ![1, 6, v10277.toNat]
def k0_off2554 (v10278 : BitVec 32) : Fin 3 → Nat :=
  let c0_11708 : Index := 0#32
  let v10281 : Index := Scalar.indexCast v10278
  let c0_11709 : Index := 0#32
  ![0, v10281.toNat, 0]

def k0_chk1277 (v10278 : BitVec 32) : Prop :=
  (∀ a, (k0_off2554 v10278) a + S7x1x512.size a ≤ S7x50x512.size a)
theorem k0_off2554_inb : ∀ (v10278 : BitVec 32) (k0_hw1277 : k0_chk1277 v10278), ∀ a, (k0_off2554 v10278) a + S7x1x512.size a ≤ S7x50x512.size a := fun v10278 k0_hw1277 => k0_hw1277

def k0_off2555 (i : grid0.Coords) : Fin 3 → Nat :=
  let c2_11714 : Index := 2#32
  let c2_11715 : Index := 2#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10288 : Index := Scalar.indexCast v10141
  ![2, 2, v10288.toNat]
def k0_off2556 (v10289 : BitVec 32) : Fin 3 → Nat :=
  let c0_11720 : Index := 0#32
  let v10292 : Index := Scalar.indexCast v10289
  let c0_11721 : Index := 0#32
  ![0, v10292.toNat, 0]

def k0_chk1278 (v10289 : BitVec 32) : Prop :=
  (∀ a, (k0_off2556 v10289) a + S7x1x512.size a ≤ S7x50x512.size a)
theorem k0_off2556_inb : ∀ (v10289 : BitVec 32) (k0_hw1278 : k0_chk1278 v10289), ∀ a, (k0_off2556 v10289) a + S7x1x512.size a ≤ S7x50x512.size a := fun v10289 k0_hw1278 => k0_hw1278

def k0_off2557 (i : grid0.Coords) : Fin 3 → Nat :=
  let c2_11722 : Index := 2#32
  let c3_11723 : Index := 3#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10294 : Index := Scalar.indexCast v10141
  ![2, 3, v10294.toNat]
def k0_off2558 (v10295 : BitVec 32) : Fin 3 → Nat :=
  let c0_11728 : Index := 0#32
  let v10298 : Index := Scalar.indexCast v10295
  let c0_11729 : Index := 0#32
  ![0, v10298.toNat, 0]

def k0_chk1279 (v10295 : BitVec 32) : Prop :=
  (∀ a, (k0_off2558 v10295) a + S7x1x512.size a ≤ S7x50x512.size a)
theorem k0_off2558_inb : ∀ (v10295 : BitVec 32) (k0_hw1279 : k0_chk1279 v10295), ∀ a, (k0_off2558 v10295) a + S7x1x512.size a ≤ S7x50x512.size a := fun v10295 k0_hw1279 => k0_hw1279

def k0_off2559 (i : grid0.Coords) : Fin 3 → Nat :=
  let c2_11730 : Index := 2#32
  let c4_11731 : Index := 4#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10301 : Index := Scalar.indexCast v10141
  ![2, 4, v10301.toNat]
def k0_off2560 (v10302 : BitVec 32) : Fin 3 → Nat :=
  let c0_11736 : Index := 0#32
  let v10305 : Index := Scalar.indexCast v10302
  let c0_11737 : Index := 0#32
  ![0, v10305.toNat, 0]

def k0_chk1280 (v10302 : BitVec 32) : Prop :=
  (∀ a, (k0_off2560 v10302) a + S7x1x512.size a ≤ S7x50x512.size a)
theorem k0_off2560_inb : ∀ (v10302 : BitVec 32) (k0_hw1280 : k0_chk1280 v10302), ∀ a, (k0_off2560 v10302) a + S7x1x512.size a ≤ S7x50x512.size a := fun v10302 k0_hw1280 => k0_hw1280

def k0_off2561 (i : grid0.Coords) : Fin 3 → Nat :=
  let c2_11738 : Index := 2#32
  let c5_11739 : Index := 5#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10308 : Index := Scalar.indexCast v10141
  ![2, 5, v10308.toNat]
def k0_off2562 (v10309 : BitVec 32) : Fin 3 → Nat :=
  let c0_11744 : Index := 0#32
  let v10312 : Index := Scalar.indexCast v10309
  let c0_11745 : Index := 0#32
  ![0, v10312.toNat, 0]

def k0_chk1281 (v10309 : BitVec 32) : Prop :=
  (∀ a, (k0_off2562 v10309) a + S7x1x512.size a ≤ S7x50x512.size a)
theorem k0_off2562_inb : ∀ (v10309 : BitVec 32) (k0_hw1281 : k0_chk1281 v10309), ∀ a, (k0_off2562 v10309) a + S7x1x512.size a ≤ S7x50x512.size a := fun v10309 k0_hw1281 => k0_hw1281

def k0_off2563 (i : grid0.Coords) : Fin 3 → Nat :=
  let c2_11746 : Index := 2#32
  let c6_11747 : Index := 6#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10315 : Index := Scalar.indexCast v10141
  ![2, 6, v10315.toNat]
def k0_off2564 (v10316 : BitVec 32) : Fin 3 → Nat :=
  let c0_11752 : Index := 0#32
  let v10319 : Index := Scalar.indexCast v10316
  let c0_11753 : Index := 0#32
  ![0, v10319.toNat, 0]

def k0_chk1282 (v10316 : BitVec 32) : Prop :=
  (∀ a, (k0_off2564 v10316) a + S7x1x512.size a ≤ S7x50x512.size a)
theorem k0_off2564_inb : ∀ (v10316 : BitVec 32) (k0_hw1282 : k0_chk1282 v10316), ∀ a, (k0_off2564 v10316) a + S7x1x512.size a ≤ S7x50x512.size a := fun v10316 k0_hw1282 => k0_hw1282

def k0_off2565 (i : grid0.Coords) : Fin 3 → Nat :=
  let c3_11758 : Index := 3#32
  let c2_11759 : Index := 2#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10326 : Index := Scalar.indexCast v10141
  ![3, 2, v10326.toNat]
def k0_off2566 (v10327 : BitVec 32) : Fin 3 → Nat :=
  let c0_11764 : Index := 0#32
  let v10330 : Index := Scalar.indexCast v10327
  let c0_11765 : Index := 0#32
  ![0, v10330.toNat, 0]

def k0_chk1283 (v10327 : BitVec 32) : Prop :=
  (∀ a, (k0_off2566 v10327) a + S7x1x512.size a ≤ S7x50x512.size a)
theorem k0_off2566_inb : ∀ (v10327 : BitVec 32) (k0_hw1283 : k0_chk1283 v10327), ∀ a, (k0_off2566 v10327) a + S7x1x512.size a ≤ S7x50x512.size a := fun v10327 k0_hw1283 => k0_hw1283

def k0_off2567 (i : grid0.Coords) : Fin 3 → Nat :=
  let c3_11766 : Index := 3#32
  let c3_11767 : Index := 3#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10332 : Index := Scalar.indexCast v10141
  ![3, 3, v10332.toNat]
def k0_off2568 (v10333 : BitVec 32) : Fin 3 → Nat :=
  let c0_11772 : Index := 0#32
  let v10336 : Index := Scalar.indexCast v10333
  let c0_11773 : Index := 0#32
  ![0, v10336.toNat, 0]

def k0_chk1284 (v10333 : BitVec 32) : Prop :=
  (∀ a, (k0_off2568 v10333) a + S7x1x512.size a ≤ S7x50x512.size a)
theorem k0_off2568_inb : ∀ (v10333 : BitVec 32) (k0_hw1284 : k0_chk1284 v10333), ∀ a, (k0_off2568 v10333) a + S7x1x512.size a ≤ S7x50x512.size a := fun v10333 k0_hw1284 => k0_hw1284

def k0_off2569 (i : grid0.Coords) : Fin 3 → Nat :=
  let c3_11774 : Index := 3#32
  let c4_11775 : Index := 4#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10339 : Index := Scalar.indexCast v10141
  ![3, 4, v10339.toNat]
def k0_off2570 (v10340 : BitVec 32) : Fin 3 → Nat :=
  let c0_11780 : Index := 0#32
  let v10343 : Index := Scalar.indexCast v10340
  let c0_11781 : Index := 0#32
  ![0, v10343.toNat, 0]

def k0_chk1285 (v10340 : BitVec 32) : Prop :=
  (∀ a, (k0_off2570 v10340) a + S7x1x512.size a ≤ S7x50x512.size a)
theorem k0_off2570_inb : ∀ (v10340 : BitVec 32) (k0_hw1285 : k0_chk1285 v10340), ∀ a, (k0_off2570 v10340) a + S7x1x512.size a ≤ S7x50x512.size a := fun v10340 k0_hw1285 => k0_hw1285

def k0_off2571 (i : grid0.Coords) : Fin 3 → Nat :=
  let c3_11782 : Index := 3#32
  let c5_11783 : Index := 5#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10346 : Index := Scalar.indexCast v10141
  ![3, 5, v10346.toNat]
def k0_off2572 (v10347 : BitVec 32) : Fin 3 → Nat :=
  let c0_11788 : Index := 0#32
  let v10350 : Index := Scalar.indexCast v10347
  let c0_11789 : Index := 0#32
  ![0, v10350.toNat, 0]

def k0_chk1286 (v10347 : BitVec 32) : Prop :=
  (∀ a, (k0_off2572 v10347) a + S7x1x512.size a ≤ S7x50x512.size a)
theorem k0_off2572_inb : ∀ (v10347 : BitVec 32) (k0_hw1286 : k0_chk1286 v10347), ∀ a, (k0_off2572 v10347) a + S7x1x512.size a ≤ S7x50x512.size a := fun v10347 k0_hw1286 => k0_hw1286

def k0_off2573 (i : grid0.Coords) : Fin 3 → Nat :=
  let c3_11790 : Index := 3#32
  let c6_11791 : Index := 6#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10353 : Index := Scalar.indexCast v10141
  ![3, 6, v10353.toNat]
def k0_off2574 (v10354 : BitVec 32) : Fin 3 → Nat :=
  let c0_11796 : Index := 0#32
  let v10357 : Index := Scalar.indexCast v10354
  let c0_11797 : Index := 0#32
  ![0, v10357.toNat, 0]

def k0_chk1287 (v10354 : BitVec 32) : Prop :=
  (∀ a, (k0_off2574 v10354) a + S7x1x512.size a ≤ S7x50x512.size a)
theorem k0_off2574_inb : ∀ (v10354 : BitVec 32) (k0_hw1287 : k0_chk1287 v10354), ∀ a, (k0_off2574 v10354) a + S7x1x512.size a ≤ S7x50x512.size a := fun v10354 k0_hw1287 => k0_hw1287

def k0_off2575 (i : grid0.Coords) : Fin 3 → Nat :=
  let c4_11802 : Index := 4#32
  let c2_11803 : Index := 2#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10364 : Index := Scalar.indexCast v10141
  ![4, 2, v10364.toNat]
def k0_off2576 (v10365 : BitVec 32) : Fin 3 → Nat :=
  let c0_11808 : Index := 0#32
  let v10368 : Index := Scalar.indexCast v10365
  let c0_11809 : Index := 0#32
  ![0, v10368.toNat, 0]

def k0_chk1288 (v10365 : BitVec 32) : Prop :=
  (∀ a, (k0_off2576 v10365) a + S7x1x512.size a ≤ S7x50x512.size a)
theorem k0_off2576_inb : ∀ (v10365 : BitVec 32) (k0_hw1288 : k0_chk1288 v10365), ∀ a, (k0_off2576 v10365) a + S7x1x512.size a ≤ S7x50x512.size a := fun v10365 k0_hw1288 => k0_hw1288

def k0_off2577 (i : grid0.Coords) : Fin 3 → Nat :=
  let c4_11810 : Index := 4#32
  let c3_11811 : Index := 3#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10370 : Index := Scalar.indexCast v10141
  ![4, 3, v10370.toNat]
def k0_off2578 (v10371 : BitVec 32) : Fin 3 → Nat :=
  let c0_11816 : Index := 0#32
  let v10374 : Index := Scalar.indexCast v10371
  let c0_11817 : Index := 0#32
  ![0, v10374.toNat, 0]

def k0_chk1289 (v10371 : BitVec 32) : Prop :=
  (∀ a, (k0_off2578 v10371) a + S7x1x512.size a ≤ S7x50x512.size a)
theorem k0_off2578_inb : ∀ (v10371 : BitVec 32) (k0_hw1289 : k0_chk1289 v10371), ∀ a, (k0_off2578 v10371) a + S7x1x512.size a ≤ S7x50x512.size a := fun v10371 k0_hw1289 => k0_hw1289

def k0_off2579 (i : grid0.Coords) : Fin 3 → Nat :=
  let c4_11818 : Index := 4#32
  let c4_11819 : Index := 4#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10377 : Index := Scalar.indexCast v10141
  ![4, 4, v10377.toNat]
def k0_off2580 (v10378 : BitVec 32) : Fin 3 → Nat :=
  let c0_11824 : Index := 0#32
  let v10381 : Index := Scalar.indexCast v10378
  let c0_11825 : Index := 0#32
  ![0, v10381.toNat, 0]

def k0_chk1290 (v10378 : BitVec 32) : Prop :=
  (∀ a, (k0_off2580 v10378) a + S7x1x512.size a ≤ S7x50x512.size a)
theorem k0_off2580_inb : ∀ (v10378 : BitVec 32) (k0_hw1290 : k0_chk1290 v10378), ∀ a, (k0_off2580 v10378) a + S7x1x512.size a ≤ S7x50x512.size a := fun v10378 k0_hw1290 => k0_hw1290

def k0_off2581 (i : grid0.Coords) : Fin 3 → Nat :=
  let c4_11826 : Index := 4#32
  let c5_11827 : Index := 5#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10384 : Index := Scalar.indexCast v10141
  ![4, 5, v10384.toNat]
def k0_off2582 (v10385 : BitVec 32) : Fin 3 → Nat :=
  let c0_11832 : Index := 0#32
  let v10388 : Index := Scalar.indexCast v10385
  let c0_11833 : Index := 0#32
  ![0, v10388.toNat, 0]

def k0_chk1291 (v10385 : BitVec 32) : Prop :=
  (∀ a, (k0_off2582 v10385) a + S7x1x512.size a ≤ S7x50x512.size a)
theorem k0_off2582_inb : ∀ (v10385 : BitVec 32) (k0_hw1291 : k0_chk1291 v10385), ∀ a, (k0_off2582 v10385) a + S7x1x512.size a ≤ S7x50x512.size a := fun v10385 k0_hw1291 => k0_hw1291

def k0_off2583 (i : grid0.Coords) : Fin 3 → Nat :=
  let c4_11834 : Index := 4#32
  let c6_11835 : Index := 6#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10391 : Index := Scalar.indexCast v10141
  ![4, 6, v10391.toNat]
def k0_off2584 (v10392 : BitVec 32) : Fin 3 → Nat :=
  let c0_11840 : Index := 0#32
  let v10395 : Index := Scalar.indexCast v10392
  let c0_11841 : Index := 0#32
  ![0, v10395.toNat, 0]

def k0_chk1292 (v10392 : BitVec 32) : Prop :=
  (∀ a, (k0_off2584 v10392) a + S7x1x512.size a ≤ S7x50x512.size a)
theorem k0_off2584_inb : ∀ (v10392 : BitVec 32) (k0_hw1292 : k0_chk1292 v10392), ∀ a, (k0_off2584 v10392) a + S7x1x512.size a ≤ S7x50x512.size a := fun v10392 k0_hw1292 => k0_hw1292

def k0_off2585 (i : grid0.Coords) : Fin 3 → Nat :=
  let c5_11846 : Index := 5#32
  let c2_11847 : Index := 2#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10402 : Index := Scalar.indexCast v10141
  ![5, 2, v10402.toNat]
def k0_off2586 (v10403 : BitVec 32) : Fin 3 → Nat :=
  let c0_11852 : Index := 0#32
  let v10406 : Index := Scalar.indexCast v10403
  let c0_11853 : Index := 0#32
  ![0, v10406.toNat, 0]

def k0_chk1293 (v10403 : BitVec 32) : Prop :=
  (∀ a, (k0_off2586 v10403) a + S7x1x512.size a ≤ S7x50x512.size a)
theorem k0_off2586_inb : ∀ (v10403 : BitVec 32) (k0_hw1293 : k0_chk1293 v10403), ∀ a, (k0_off2586 v10403) a + S7x1x512.size a ≤ S7x50x512.size a := fun v10403 k0_hw1293 => k0_hw1293

def k0_off2587 (i : grid0.Coords) : Fin 3 → Nat :=
  let c5_11854 : Index := 5#32
  let c3_11855 : Index := 3#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10408 : Index := Scalar.indexCast v10141
  ![5, 3, v10408.toNat]
def k0_off2588 (v10409 : BitVec 32) : Fin 3 → Nat :=
  let c0_11860 : Index := 0#32
  let v10412 : Index := Scalar.indexCast v10409
  let c0_11861 : Index := 0#32
  ![0, v10412.toNat, 0]

def k0_chk1294 (v10409 : BitVec 32) : Prop :=
  (∀ a, (k0_off2588 v10409) a + S7x1x512.size a ≤ S7x50x512.size a)
theorem k0_off2588_inb : ∀ (v10409 : BitVec 32) (k0_hw1294 : k0_chk1294 v10409), ∀ a, (k0_off2588 v10409) a + S7x1x512.size a ≤ S7x50x512.size a := fun v10409 k0_hw1294 => k0_hw1294

def k0_off2589 (i : grid0.Coords) : Fin 3 → Nat :=
  let c5_11862 : Index := 5#32
  let c4_11863 : Index := 4#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10415 : Index := Scalar.indexCast v10141
  ![5, 4, v10415.toNat]
def k0_off2590 (v10416 : BitVec 32) : Fin 3 → Nat :=
  let c0_11868 : Index := 0#32
  let v10419 : Index := Scalar.indexCast v10416
  let c0_11869 : Index := 0#32
  ![0, v10419.toNat, 0]

def k0_chk1295 (v10416 : BitVec 32) : Prop :=
  (∀ a, (k0_off2590 v10416) a + S7x1x512.size a ≤ S7x50x512.size a)
theorem k0_off2590_inb : ∀ (v10416 : BitVec 32) (k0_hw1295 : k0_chk1295 v10416), ∀ a, (k0_off2590 v10416) a + S7x1x512.size a ≤ S7x50x512.size a := fun v10416 k0_hw1295 => k0_hw1295

def k0_off2591 (i : grid0.Coords) : Fin 3 → Nat :=
  let c5_11870 : Index := 5#32
  let c5_11871 : Index := 5#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10422 : Index := Scalar.indexCast v10141
  ![5, 5, v10422.toNat]
def k0_off2592 (v10423 : BitVec 32) : Fin 3 → Nat :=
  let c0_11876 : Index := 0#32
  let v10426 : Index := Scalar.indexCast v10423
  let c0_11877 : Index := 0#32
  ![0, v10426.toNat, 0]

def k0_chk1296 (v10423 : BitVec 32) : Prop :=
  (∀ a, (k0_off2592 v10423) a + S7x1x512.size a ≤ S7x50x512.size a)
theorem k0_off2592_inb : ∀ (v10423 : BitVec 32) (k0_hw1296 : k0_chk1296 v10423), ∀ a, (k0_off2592 v10423) a + S7x1x512.size a ≤ S7x50x512.size a := fun v10423 k0_hw1296 => k0_hw1296

def k0_off2593 (i : grid0.Coords) : Fin 3 → Nat :=
  let c5_11878 : Index := 5#32
  let c6_11879 : Index := 6#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10429 : Index := Scalar.indexCast v10141
  ![5, 6, v10429.toNat]
def k0_off2594 (v10430 : BitVec 32) : Fin 3 → Nat :=
  let c0_11884 : Index := 0#32
  let v10433 : Index := Scalar.indexCast v10430
  let c0_11885 : Index := 0#32
  ![0, v10433.toNat, 0]

def k0_chk1297 (v10430 : BitVec 32) : Prop :=
  (∀ a, (k0_off2594 v10430) a + S7x1x512.size a ≤ S7x50x512.size a)
theorem k0_off2594_inb : ∀ (v10430 : BitVec 32) (k0_hw1297 : k0_chk1297 v10430), ∀ a, (k0_off2594 v10430) a + S7x1x512.size a ≤ S7x50x512.size a := fun v10430 k0_hw1297 => k0_hw1297

def k0_off2595 (i : grid0.Coords) : Fin 3 → Nat :=
  let c6_11890 : Index := 6#32
  let c2_11891 : Index := 2#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10440 : Index := Scalar.indexCast v10141
  ![6, 2, v10440.toNat]
def k0_off2596 (v10441 : BitVec 32) : Fin 3 → Nat :=
  let c0_11896 : Index := 0#32
  let v10444 : Index := Scalar.indexCast v10441
  let c0_11897 : Index := 0#32
  ![0, v10444.toNat, 0]

def k0_chk1298 (v10441 : BitVec 32) : Prop :=
  (∀ a, (k0_off2596 v10441) a + S7x1x512.size a ≤ S7x50x512.size a)
theorem k0_off2596_inb : ∀ (v10441 : BitVec 32) (k0_hw1298 : k0_chk1298 v10441), ∀ a, (k0_off2596 v10441) a + S7x1x512.size a ≤ S7x50x512.size a := fun v10441 k0_hw1298 => k0_hw1298

def k0_off2597 (i : grid0.Coords) : Fin 3 → Nat :=
  let c6_11898 : Index := 6#32
  let c3_11899 : Index := 3#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10446 : Index := Scalar.indexCast v10141
  ![6, 3, v10446.toNat]
def k0_off2598 (v10447 : BitVec 32) : Fin 3 → Nat :=
  let c0_11904 : Index := 0#32
  let v10450 : Index := Scalar.indexCast v10447
  let c0_11905 : Index := 0#32
  ![0, v10450.toNat, 0]

def k0_chk1299 (v10447 : BitVec 32) : Prop :=
  (∀ a, (k0_off2598 v10447) a + S7x1x512.size a ≤ S7x50x512.size a)
theorem k0_off2598_inb : ∀ (v10447 : BitVec 32) (k0_hw1299 : k0_chk1299 v10447), ∀ a, (k0_off2598 v10447) a + S7x1x512.size a ≤ S7x50x512.size a := fun v10447 k0_hw1299 => k0_hw1299

def k0_off2599 (i : grid0.Coords) : Fin 3 → Nat :=
  let c6_11906 : Index := 6#32
  let c4_11907 : Index := 4#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10453 : Index := Scalar.indexCast v10141
  ![6, 4, v10453.toNat]
def k0_off2600 (v10454 : BitVec 32) : Fin 3 → Nat :=
  let c0_11912 : Index := 0#32
  let v10457 : Index := Scalar.indexCast v10454
  let c0_11913 : Index := 0#32
  ![0, v10457.toNat, 0]

def k0_chk1300 (v10454 : BitVec 32) : Prop :=
  (∀ a, (k0_off2600 v10454) a + S7x1x512.size a ≤ S7x50x512.size a)
theorem k0_off2600_inb : ∀ (v10454 : BitVec 32) (k0_hw1300 : k0_chk1300 v10454), ∀ a, (k0_off2600 v10454) a + S7x1x512.size a ≤ S7x50x512.size a := fun v10454 k0_hw1300 => k0_hw1300

def k0_off2601 (i : grid0.Coords) : Fin 3 → Nat :=
  let c6_11914 : Index := 6#32
  let c5_11915 : Index := 5#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10460 : Index := Scalar.indexCast v10141
  ![6, 5, v10460.toNat]
def k0_off2602 (v10461 : BitVec 32) : Fin 3 → Nat :=
  let c0_11920 : Index := 0#32
  let v10464 : Index := Scalar.indexCast v10461
  let c0_11921 : Index := 0#32
  ![0, v10464.toNat, 0]

def k0_chk1301 (v10461 : BitVec 32) : Prop :=
  (∀ a, (k0_off2602 v10461) a + S7x1x512.size a ≤ S7x50x512.size a)
theorem k0_off2602_inb : ∀ (v10461 : BitVec 32) (k0_hw1301 : k0_chk1301 v10461), ∀ a, (k0_off2602 v10461) a + S7x1x512.size a ≤ S7x50x512.size a := fun v10461 k0_hw1301 => k0_hw1301

def k0_off2603 (i : grid0.Coords) : Fin 3 → Nat :=
  let c6_11922 : Index := 6#32
  let c6_11923 : Index := 6#32
  let arg0 : BitVec 32 := BitVec.ofNat 32 (i 0).val
  let c32_i32_11549 : BitVec 32 := 32#32
  let v10140 : BitVec 32 := Scalar.muli arg0 c32_i32_11549
  let c30_i32 : BitVec 32 := 30#32
  let v10141 : BitVec 32 := Scalar.addi v10140 c30_i32
  let v10467 : Index := Scalar.indexCast v10141
  ![6, 6, v10467.toNat]
def k0_off2604 (v10468 : BitVec 32) : Fin 3 → Nat :=
  let c0_11928 : Index := 0#32
  let v10471 : Index := Scalar.indexCast v10468
  let c0_11929 : Index := 0#32
  ![0, v10471.toNat, 0]

def k0_chk1302 (v10468 : BitVec 32) : Prop :=
  (∀ a, (k0_off2604 v10468) a + S7x1x512.size a ≤ S7x50x512.size a)
theorem k0_off2604_inb : ∀ (v10468 : BitVec 32) (k0_hw1302 : k0_chk1302 v10468), ∀ a, (k0_off2604 v10468) a + S7x1x512.size a ≤ S7x50x512.size a := fun v10468 k0_hw1302 => k0_hw1302

def k0_off2605 (i : grid0.Coords) : Fin 3 → Nat :=
  let c0_11935 : Index := 0#32
  let c0_11936 : Index := 0#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10480 : Index := Scalar.indexCast v10479
  ![0, 0, v10480.toNat]
def k0_off2606 (v10481 : BitVec 32) : Fin 3 → Nat :=
  let v10482 : Index := Scalar.indexCast v10481
  let c0_11937 : Index := 0#32
  let c0_11938 : Index := 0#32
  ![v10482.toNat, 0, 0]

def k0_chk1303 (v10481 : BitVec 32) : Prop :=
  (∀ a, (k0_off2606 v10481) a + S1x50x512.size a ≤ S250x50x512.size a)
theorem k0_off2606_inb : ∀ (v10481 : BitVec 32) (k0_hw1303 : k0_chk1303 v10481), ∀ a, (k0_off2606 v10481) a + S1x50x512.size a ≤ S250x50x512.size a := fun v10481 k0_hw1303 => k0_hw1303

def k0_off2607 (i : grid0.Coords) : Fin 3 → Nat :=
  let c1_11946 : Index := 1#32
  let c0_11947 : Index := 0#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10490 : Index := Scalar.indexCast v10479
  ![1, 0, v10490.toNat]
def k0_off2608 (v10491 : BitVec 32) : Fin 3 → Nat :=
  let v10492 : Index := Scalar.indexCast v10491
  let c0_11948 : Index := 0#32
  let c0_11949 : Index := 0#32
  ![v10492.toNat, 0, 0]

def k0_chk1304 (v10491 : BitVec 32) : Prop :=
  (∀ a, (k0_off2608 v10491) a + S1x50x512.size a ≤ S250x50x512.size a)
theorem k0_off2608_inb : ∀ (v10491 : BitVec 32) (k0_hw1304 : k0_chk1304 v10491), ∀ a, (k0_off2608 v10491) a + S1x50x512.size a ≤ S250x50x512.size a := fun v10491 k0_hw1304 => k0_hw1304

def k0_off2609 (i : grid0.Coords) : Fin 3 → Nat :=
  let c2_11957 : Index := 2#32
  let c0_11958 : Index := 0#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10500 : Index := Scalar.indexCast v10479
  ![2, 0, v10500.toNat]
def k0_off2610 (v10501 : BitVec 32) : Fin 3 → Nat :=
  let v10502 : Index := Scalar.indexCast v10501
  let c0_11959 : Index := 0#32
  let c0_11960 : Index := 0#32
  ![v10502.toNat, 0, 0]

def k0_chk1305 (v10501 : BitVec 32) : Prop :=
  (∀ a, (k0_off2610 v10501) a + S1x50x512.size a ≤ S250x50x512.size a)
theorem k0_off2610_inb : ∀ (v10501 : BitVec 32) (k0_hw1305 : k0_chk1305 v10501), ∀ a, (k0_off2610 v10501) a + S1x50x512.size a ≤ S250x50x512.size a := fun v10501 k0_hw1305 => k0_hw1305

def k0_off2611 (i : grid0.Coords) : Fin 3 → Nat :=
  let c3_11968 : Index := 3#32
  let c0_11969 : Index := 0#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10510 : Index := Scalar.indexCast v10479
  ![3, 0, v10510.toNat]
def k0_off2612 (v10511 : BitVec 32) : Fin 3 → Nat :=
  let v10512 : Index := Scalar.indexCast v10511
  let c0_11970 : Index := 0#32
  let c0_11971 : Index := 0#32
  ![v10512.toNat, 0, 0]

def k0_chk1306 (v10511 : BitVec 32) : Prop :=
  (∀ a, (k0_off2612 v10511) a + S1x50x512.size a ≤ S250x50x512.size a)
theorem k0_off2612_inb : ∀ (v10511 : BitVec 32) (k0_hw1306 : k0_chk1306 v10511), ∀ a, (k0_off2612 v10511) a + S1x50x512.size a ≤ S250x50x512.size a := fun v10511 k0_hw1306 => k0_hw1306

def k0_off2613 (i : grid0.Coords) : Fin 3 → Nat :=
  let c4_11979 : Index := 4#32
  let c0_11980 : Index := 0#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10520 : Index := Scalar.indexCast v10479
  ![4, 0, v10520.toNat]
def k0_off2614 (v10521 : BitVec 32) : Fin 3 → Nat :=
  let v10522 : Index := Scalar.indexCast v10521
  let c0_11981 : Index := 0#32
  let c0_11982 : Index := 0#32
  ![v10522.toNat, 0, 0]

def k0_chk1307 (v10521 : BitVec 32) : Prop :=
  (∀ a, (k0_off2614 v10521) a + S1x50x512.size a ≤ S250x50x512.size a)
theorem k0_off2614_inb : ∀ (v10521 : BitVec 32) (k0_hw1307 : k0_chk1307 v10521), ∀ a, (k0_off2614 v10521) a + S1x50x512.size a ≤ S250x50x512.size a := fun v10521 k0_hw1307 => k0_hw1307

def k0_off2615 (i : grid0.Coords) : Fin 3 → Nat :=
  let c5_11990 : Index := 5#32
  let c0_11991 : Index := 0#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10530 : Index := Scalar.indexCast v10479
  ![5, 0, v10530.toNat]
def k0_off2616 (v10531 : BitVec 32) : Fin 3 → Nat :=
  let v10532 : Index := Scalar.indexCast v10531
  let c0_11992 : Index := 0#32
  let c0_11993 : Index := 0#32
  ![v10532.toNat, 0, 0]

def k0_chk1308 (v10531 : BitVec 32) : Prop :=
  (∀ a, (k0_off2616 v10531) a + S1x50x512.size a ≤ S250x50x512.size a)
theorem k0_off2616_inb : ∀ (v10531 : BitVec 32) (k0_hw1308 : k0_chk1308 v10531), ∀ a, (k0_off2616 v10531) a + S1x50x512.size a ≤ S250x50x512.size a := fun v10531 k0_hw1308 => k0_hw1308

def k0_off2617 (i : grid0.Coords) : Fin 3 → Nat :=
  let c6_12001 : Index := 6#32
  let c0_12002 : Index := 0#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10540 : Index := Scalar.indexCast v10479
  ![6, 0, v10540.toNat]
def k0_off2618 (v10541 : BitVec 32) : Fin 3 → Nat :=
  let v10542 : Index := Scalar.indexCast v10541
  let c0_12003 : Index := 0#32
  let c0_12004 : Index := 0#32
  ![v10542.toNat, 0, 0]

def k0_chk1309 (v10541 : BitVec 32) : Prop :=
  (∀ a, (k0_off2618 v10541) a + S1x50x512.size a ≤ S250x50x512.size a)
theorem k0_off2618_inb : ∀ (v10541 : BitVec 32) (k0_hw1309 : k0_chk1309 v10541), ∀ a, (k0_off2618 v10541) a + S1x50x512.size a ≤ S250x50x512.size a := fun v10541 k0_hw1309 => k0_hw1309

def k0_off2619 (i : grid0.Coords) : Fin 3 → Nat :=
  let c0_12012 : Index := 0#32
  let c2_12013 : Index := 2#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10550 : Index := Scalar.indexCast v10479
  ![0, 2, v10550.toNat]
def k0_off2620 (v10551 : BitVec 32) : Fin 3 → Nat :=
  let c0_12018 : Index := 0#32
  let v10554 : Index := Scalar.indexCast v10551
  let c0_12019 : Index := 0#32
  ![0, v10554.toNat, 0]

def k0_chk1310 (v10551 : BitVec 32) : Prop :=
  (∀ a, (k0_off2620 v10551) a + S7x1x512.size a ≤ S7x50x512.size a)
theorem k0_off2620_inb : ∀ (v10551 : BitVec 32) (k0_hw1310 : k0_chk1310 v10551), ∀ a, (k0_off2620 v10551) a + S7x1x512.size a ≤ S7x50x512.size a := fun v10551 k0_hw1310 => k0_hw1310

def k0_off2621 (i : grid0.Coords) : Fin 3 → Nat :=
  let c0_12020 : Index := 0#32
  let c3_12021 : Index := 3#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10556 : Index := Scalar.indexCast v10479
  ![0, 3, v10556.toNat]
def k0_off2622 (v10557 : BitVec 32) : Fin 3 → Nat :=
  let c0_12026 : Index := 0#32
  let v10560 : Index := Scalar.indexCast v10557
  let c0_12027 : Index := 0#32
  ![0, v10560.toNat, 0]

def k0_chk1311 (v10557 : BitVec 32) : Prop :=
  (∀ a, (k0_off2622 v10557) a + S7x1x512.size a ≤ S7x50x512.size a)
theorem k0_off2622_inb : ∀ (v10557 : BitVec 32) (k0_hw1311 : k0_chk1311 v10557), ∀ a, (k0_off2622 v10557) a + S7x1x512.size a ≤ S7x50x512.size a := fun v10557 k0_hw1311 => k0_hw1311

def k0_off2623 (i : grid0.Coords) : Fin 3 → Nat :=
  let c0_12028 : Index := 0#32
  let c4_12029 : Index := 4#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10563 : Index := Scalar.indexCast v10479
  ![0, 4, v10563.toNat]
def k0_off2624 (v10564 : BitVec 32) : Fin 3 → Nat :=
  let c0_12034 : Index := 0#32
  let v10567 : Index := Scalar.indexCast v10564
  let c0_12035 : Index := 0#32
  ![0, v10567.toNat, 0]

def k0_chk1312 (v10564 : BitVec 32) : Prop :=
  (∀ a, (k0_off2624 v10564) a + S7x1x512.size a ≤ S7x50x512.size a)
theorem k0_off2624_inb : ∀ (v10564 : BitVec 32) (k0_hw1312 : k0_chk1312 v10564), ∀ a, (k0_off2624 v10564) a + S7x1x512.size a ≤ S7x50x512.size a := fun v10564 k0_hw1312 => k0_hw1312

def k0_off2625 (i : grid0.Coords) : Fin 3 → Nat :=
  let c0_12036 : Index := 0#32
  let c5_12037 : Index := 5#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10570 : Index := Scalar.indexCast v10479
  ![0, 5, v10570.toNat]
def k0_off2626 (v10571 : BitVec 32) : Fin 3 → Nat :=
  let c0_12042 : Index := 0#32
  let v10574 : Index := Scalar.indexCast v10571
  let c0_12043 : Index := 0#32
  ![0, v10574.toNat, 0]

def k0_chk1313 (v10571 : BitVec 32) : Prop :=
  (∀ a, (k0_off2626 v10571) a + S7x1x512.size a ≤ S7x50x512.size a)
theorem k0_off2626_inb : ∀ (v10571 : BitVec 32) (k0_hw1313 : k0_chk1313 v10571), ∀ a, (k0_off2626 v10571) a + S7x1x512.size a ≤ S7x50x512.size a := fun v10571 k0_hw1313 => k0_hw1313

def k0_off2627 (i : grid0.Coords) : Fin 3 → Nat :=
  let c0_12044 : Index := 0#32
  let c6_12045 : Index := 6#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10577 : Index := Scalar.indexCast v10479
  ![0, 6, v10577.toNat]
def k0_off2628 (v10578 : BitVec 32) : Fin 3 → Nat :=
  let c0_12050 : Index := 0#32
  let v10581 : Index := Scalar.indexCast v10578
  let c0_12051 : Index := 0#32
  ![0, v10581.toNat, 0]

def k0_chk1314 (v10578 : BitVec 32) : Prop :=
  (∀ a, (k0_off2628 v10578) a + S7x1x512.size a ≤ S7x50x512.size a)
theorem k0_off2628_inb : ∀ (v10578 : BitVec 32) (k0_hw1314 : k0_chk1314 v10578), ∀ a, (k0_off2628 v10578) a + S7x1x512.size a ≤ S7x50x512.size a := fun v10578 k0_hw1314 => k0_hw1314

def k0_off2629 (i : grid0.Coords) : Fin 3 → Nat :=
  let c1_12055 : Index := 1#32
  let c2_12056 : Index := 2#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10588 : Index := Scalar.indexCast v10479
  ![1, 2, v10588.toNat]
def k0_off2630 (v10589 : BitVec 32) : Fin 3 → Nat :=
  let c0_12061 : Index := 0#32
  let v10592 : Index := Scalar.indexCast v10589
  let c0_12062 : Index := 0#32
  ![0, v10592.toNat, 0]

def k0_chk1315 (v10589 : BitVec 32) : Prop :=
  (∀ a, (k0_off2630 v10589) a + S7x1x512.size a ≤ S7x50x512.size a)
theorem k0_off2630_inb : ∀ (v10589 : BitVec 32) (k0_hw1315 : k0_chk1315 v10589), ∀ a, (k0_off2630 v10589) a + S7x1x512.size a ≤ S7x50x512.size a := fun v10589 k0_hw1315 => k0_hw1315

def k0_off2631 (i : grid0.Coords) : Fin 3 → Nat :=
  let c1_12063 : Index := 1#32
  let c3_12064 : Index := 3#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10594 : Index := Scalar.indexCast v10479
  ![1, 3, v10594.toNat]
def k0_off2632 (v10595 : BitVec 32) : Fin 3 → Nat :=
  let c0_12069 : Index := 0#32
  let v10598 : Index := Scalar.indexCast v10595
  let c0_12070 : Index := 0#32
  ![0, v10598.toNat, 0]

def k0_chk1316 (v10595 : BitVec 32) : Prop :=
  (∀ a, (k0_off2632 v10595) a + S7x1x512.size a ≤ S7x50x512.size a)
theorem k0_off2632_inb : ∀ (v10595 : BitVec 32) (k0_hw1316 : k0_chk1316 v10595), ∀ a, (k0_off2632 v10595) a + S7x1x512.size a ≤ S7x50x512.size a := fun v10595 k0_hw1316 => k0_hw1316

def k0_off2633 (i : grid0.Coords) : Fin 3 → Nat :=
  let c1_12071 : Index := 1#32
  let c4_12072 : Index := 4#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10601 : Index := Scalar.indexCast v10479
  ![1, 4, v10601.toNat]
def k0_off2634 (v10602 : BitVec 32) : Fin 3 → Nat :=
  let c0_12077 : Index := 0#32
  let v10605 : Index := Scalar.indexCast v10602
  let c0_12078 : Index := 0#32
  ![0, v10605.toNat, 0]

def k0_chk1317 (v10602 : BitVec 32) : Prop :=
  (∀ a, (k0_off2634 v10602) a + S7x1x512.size a ≤ S7x50x512.size a)
theorem k0_off2634_inb : ∀ (v10602 : BitVec 32) (k0_hw1317 : k0_chk1317 v10602), ∀ a, (k0_off2634 v10602) a + S7x1x512.size a ≤ S7x50x512.size a := fun v10602 k0_hw1317 => k0_hw1317

def k0_off2635 (i : grid0.Coords) : Fin 3 → Nat :=
  let c1_12079 : Index := 1#32
  let c5_12080 : Index := 5#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10608 : Index := Scalar.indexCast v10479
  ![1, 5, v10608.toNat]
def k0_off2636 (v10609 : BitVec 32) : Fin 3 → Nat :=
  let c0_12085 : Index := 0#32
  let v10612 : Index := Scalar.indexCast v10609
  let c0_12086 : Index := 0#32
  ![0, v10612.toNat, 0]

def k0_chk1318 (v10609 : BitVec 32) : Prop :=
  (∀ a, (k0_off2636 v10609) a + S7x1x512.size a ≤ S7x50x512.size a)
theorem k0_off2636_inb : ∀ (v10609 : BitVec 32) (k0_hw1318 : k0_chk1318 v10609), ∀ a, (k0_off2636 v10609) a + S7x1x512.size a ≤ S7x50x512.size a := fun v10609 k0_hw1318 => k0_hw1318

def k0_off2637 (i : grid0.Coords) : Fin 3 → Nat :=
  let c1_12087 : Index := 1#32
  let c6_12088 : Index := 6#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10615 : Index := Scalar.indexCast v10479
  ![1, 6, v10615.toNat]
def k0_off2638 (v10616 : BitVec 32) : Fin 3 → Nat :=
  let c0_12093 : Index := 0#32
  let v10619 : Index := Scalar.indexCast v10616
  let c0_12094 : Index := 0#32
  ![0, v10619.toNat, 0]

def k0_chk1319 (v10616 : BitVec 32) : Prop :=
  (∀ a, (k0_off2638 v10616) a + S7x1x512.size a ≤ S7x50x512.size a)
theorem k0_off2638_inb : ∀ (v10616 : BitVec 32) (k0_hw1319 : k0_chk1319 v10616), ∀ a, (k0_off2638 v10616) a + S7x1x512.size a ≤ S7x50x512.size a := fun v10616 k0_hw1319 => k0_hw1319

def k0_off2639 (i : grid0.Coords) : Fin 3 → Nat :=
  let c2_12099 : Index := 2#32
  let c2_12100 : Index := 2#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10626 : Index := Scalar.indexCast v10479
  ![2, 2, v10626.toNat]
def k0_off2640 (v10627 : BitVec 32) : Fin 3 → Nat :=
  let c0_12105 : Index := 0#32
  let v10630 : Index := Scalar.indexCast v10627
  let c0_12106 : Index := 0#32
  ![0, v10630.toNat, 0]

def k0_chk1320 (v10627 : BitVec 32) : Prop :=
  (∀ a, (k0_off2640 v10627) a + S7x1x512.size a ≤ S7x50x512.size a)
theorem k0_off2640_inb : ∀ (v10627 : BitVec 32) (k0_hw1320 : k0_chk1320 v10627), ∀ a, (k0_off2640 v10627) a + S7x1x512.size a ≤ S7x50x512.size a := fun v10627 k0_hw1320 => k0_hw1320

def k0_off2641 (i : grid0.Coords) : Fin 3 → Nat :=
  let c2_12107 : Index := 2#32
  let c3_12108 : Index := 3#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10632 : Index := Scalar.indexCast v10479
  ![2, 3, v10632.toNat]
def k0_off2642 (v10633 : BitVec 32) : Fin 3 → Nat :=
  let c0_12113 : Index := 0#32
  let v10636 : Index := Scalar.indexCast v10633
  let c0_12114 : Index := 0#32
  ![0, v10636.toNat, 0]

def k0_chk1321 (v10633 : BitVec 32) : Prop :=
  (∀ a, (k0_off2642 v10633) a + S7x1x512.size a ≤ S7x50x512.size a)
theorem k0_off2642_inb : ∀ (v10633 : BitVec 32) (k0_hw1321 : k0_chk1321 v10633), ∀ a, (k0_off2642 v10633) a + S7x1x512.size a ≤ S7x50x512.size a := fun v10633 k0_hw1321 => k0_hw1321

def k0_off2643 (i : grid0.Coords) : Fin 3 → Nat :=
  let c2_12115 : Index := 2#32
  let c4_12116 : Index := 4#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10639 : Index := Scalar.indexCast v10479
  ![2, 4, v10639.toNat]
def k0_off2644 (v10640 : BitVec 32) : Fin 3 → Nat :=
  let c0_12121 : Index := 0#32
  let v10643 : Index := Scalar.indexCast v10640
  let c0_12122 : Index := 0#32
  ![0, v10643.toNat, 0]

def k0_chk1322 (v10640 : BitVec 32) : Prop :=
  (∀ a, (k0_off2644 v10640) a + S7x1x512.size a ≤ S7x50x512.size a)
theorem k0_off2644_inb : ∀ (v10640 : BitVec 32) (k0_hw1322 : k0_chk1322 v10640), ∀ a, (k0_off2644 v10640) a + S7x1x512.size a ≤ S7x50x512.size a := fun v10640 k0_hw1322 => k0_hw1322

def k0_off2645 (i : grid0.Coords) : Fin 3 → Nat :=
  let c2_12123 : Index := 2#32
  let c5_12124 : Index := 5#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10646 : Index := Scalar.indexCast v10479
  ![2, 5, v10646.toNat]
def k0_off2646 (v10647 : BitVec 32) : Fin 3 → Nat :=
  let c0_12129 : Index := 0#32
  let v10650 : Index := Scalar.indexCast v10647
  let c0_12130 : Index := 0#32
  ![0, v10650.toNat, 0]

def k0_chk1323 (v10647 : BitVec 32) : Prop :=
  (∀ a, (k0_off2646 v10647) a + S7x1x512.size a ≤ S7x50x512.size a)
theorem k0_off2646_inb : ∀ (v10647 : BitVec 32) (k0_hw1323 : k0_chk1323 v10647), ∀ a, (k0_off2646 v10647) a + S7x1x512.size a ≤ S7x50x512.size a := fun v10647 k0_hw1323 => k0_hw1323

def k0_off2647 (i : grid0.Coords) : Fin 3 → Nat :=
  let c2_12131 : Index := 2#32
  let c6_12132 : Index := 6#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10653 : Index := Scalar.indexCast v10479
  ![2, 6, v10653.toNat]
def k0_off2648 (v10654 : BitVec 32) : Fin 3 → Nat :=
  let c0_12137 : Index := 0#32
  let v10657 : Index := Scalar.indexCast v10654
  let c0_12138 : Index := 0#32
  ![0, v10657.toNat, 0]

def k0_chk1324 (v10654 : BitVec 32) : Prop :=
  (∀ a, (k0_off2648 v10654) a + S7x1x512.size a ≤ S7x50x512.size a)
theorem k0_off2648_inb : ∀ (v10654 : BitVec 32) (k0_hw1324 : k0_chk1324 v10654), ∀ a, (k0_off2648 v10654) a + S7x1x512.size a ≤ S7x50x512.size a := fun v10654 k0_hw1324 => k0_hw1324

def k0_off2649 (i : grid0.Coords) : Fin 3 → Nat :=
  let c3_12143 : Index := 3#32
  let c2_12144 : Index := 2#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10664 : Index := Scalar.indexCast v10479
  ![3, 2, v10664.toNat]
def k0_off2650 (v10665 : BitVec 32) : Fin 3 → Nat :=
  let c0_12149 : Index := 0#32
  let v10668 : Index := Scalar.indexCast v10665
  let c0_12150 : Index := 0#32
  ![0, v10668.toNat, 0]

def k0_chk1325 (v10665 : BitVec 32) : Prop :=
  (∀ a, (k0_off2650 v10665) a + S7x1x512.size a ≤ S7x50x512.size a)
theorem k0_off2650_inb : ∀ (v10665 : BitVec 32) (k0_hw1325 : k0_chk1325 v10665), ∀ a, (k0_off2650 v10665) a + S7x1x512.size a ≤ S7x50x512.size a := fun v10665 k0_hw1325 => k0_hw1325

def k0_off2651 (i : grid0.Coords) : Fin 3 → Nat :=
  let c3_12151 : Index := 3#32
  let c3_12152 : Index := 3#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10670 : Index := Scalar.indexCast v10479
  ![3, 3, v10670.toNat]
def k0_off2652 (v10671 : BitVec 32) : Fin 3 → Nat :=
  let c0_12157 : Index := 0#32
  let v10674 : Index := Scalar.indexCast v10671
  let c0_12158 : Index := 0#32
  ![0, v10674.toNat, 0]

def k0_chk1326 (v10671 : BitVec 32) : Prop :=
  (∀ a, (k0_off2652 v10671) a + S7x1x512.size a ≤ S7x50x512.size a)
theorem k0_off2652_inb : ∀ (v10671 : BitVec 32) (k0_hw1326 : k0_chk1326 v10671), ∀ a, (k0_off2652 v10671) a + S7x1x512.size a ≤ S7x50x512.size a := fun v10671 k0_hw1326 => k0_hw1326

def k0_off2653 (i : grid0.Coords) : Fin 3 → Nat :=
  let c3_12159 : Index := 3#32
  let c4_12160 : Index := 4#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10677 : Index := Scalar.indexCast v10479
  ![3, 4, v10677.toNat]
def k0_off2654 (v10678 : BitVec 32) : Fin 3 → Nat :=
  let c0_12165 : Index := 0#32
  let v10681 : Index := Scalar.indexCast v10678
  let c0_12166 : Index := 0#32
  ![0, v10681.toNat, 0]

def k0_chk1327 (v10678 : BitVec 32) : Prop :=
  (∀ a, (k0_off2654 v10678) a + S7x1x512.size a ≤ S7x50x512.size a)
theorem k0_off2654_inb : ∀ (v10678 : BitVec 32) (k0_hw1327 : k0_chk1327 v10678), ∀ a, (k0_off2654 v10678) a + S7x1x512.size a ≤ S7x50x512.size a := fun v10678 k0_hw1327 => k0_hw1327

def k0_off2655 (i : grid0.Coords) : Fin 3 → Nat :=
  let c3_12167 : Index := 3#32
  let c5_12168 : Index := 5#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10684 : Index := Scalar.indexCast v10479
  ![3, 5, v10684.toNat]
def k0_off2656 (v10685 : BitVec 32) : Fin 3 → Nat :=
  let c0_12173 : Index := 0#32
  let v10688 : Index := Scalar.indexCast v10685
  let c0_12174 : Index := 0#32
  ![0, v10688.toNat, 0]

def k0_chk1328 (v10685 : BitVec 32) : Prop :=
  (∀ a, (k0_off2656 v10685) a + S7x1x512.size a ≤ S7x50x512.size a)
theorem k0_off2656_inb : ∀ (v10685 : BitVec 32) (k0_hw1328 : k0_chk1328 v10685), ∀ a, (k0_off2656 v10685) a + S7x1x512.size a ≤ S7x50x512.size a := fun v10685 k0_hw1328 => k0_hw1328

def k0_off2657 (i : grid0.Coords) : Fin 3 → Nat :=
  let c3_12175 : Index := 3#32
  let c6_12176 : Index := 6#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10691 : Index := Scalar.indexCast v10479
  ![3, 6, v10691.toNat]
def k0_off2658 (v10692 : BitVec 32) : Fin 3 → Nat :=
  let c0_12181 : Index := 0#32
  let v10695 : Index := Scalar.indexCast v10692
  let c0_12182 : Index := 0#32
  ![0, v10695.toNat, 0]

def k0_chk1329 (v10692 : BitVec 32) : Prop :=
  (∀ a, (k0_off2658 v10692) a + S7x1x512.size a ≤ S7x50x512.size a)
theorem k0_off2658_inb : ∀ (v10692 : BitVec 32) (k0_hw1329 : k0_chk1329 v10692), ∀ a, (k0_off2658 v10692) a + S7x1x512.size a ≤ S7x50x512.size a := fun v10692 k0_hw1329 => k0_hw1329

def k0_off2659 (i : grid0.Coords) : Fin 3 → Nat :=
  let c4_12187 : Index := 4#32
  let c2_12188 : Index := 2#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10702 : Index := Scalar.indexCast v10479
  ![4, 2, v10702.toNat]
def k0_off2660 (v10703 : BitVec 32) : Fin 3 → Nat :=
  let c0_12193 : Index := 0#32
  let v10706 : Index := Scalar.indexCast v10703
  let c0_12194 : Index := 0#32
  ![0, v10706.toNat, 0]

def k0_chk1330 (v10703 : BitVec 32) : Prop :=
  (∀ a, (k0_off2660 v10703) a + S7x1x512.size a ≤ S7x50x512.size a)
theorem k0_off2660_inb : ∀ (v10703 : BitVec 32) (k0_hw1330 : k0_chk1330 v10703), ∀ a, (k0_off2660 v10703) a + S7x1x512.size a ≤ S7x50x512.size a := fun v10703 k0_hw1330 => k0_hw1330

def k0_off2661 (i : grid0.Coords) : Fin 3 → Nat :=
  let c4_12195 : Index := 4#32
  let c3_12196 : Index := 3#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10708 : Index := Scalar.indexCast v10479
  ![4, 3, v10708.toNat]
def k0_off2662 (v10709 : BitVec 32) : Fin 3 → Nat :=
  let c0_12201 : Index := 0#32
  let v10712 : Index := Scalar.indexCast v10709
  let c0_12202 : Index := 0#32
  ![0, v10712.toNat, 0]

def k0_chk1331 (v10709 : BitVec 32) : Prop :=
  (∀ a, (k0_off2662 v10709) a + S7x1x512.size a ≤ S7x50x512.size a)
theorem k0_off2662_inb : ∀ (v10709 : BitVec 32) (k0_hw1331 : k0_chk1331 v10709), ∀ a, (k0_off2662 v10709) a + S7x1x512.size a ≤ S7x50x512.size a := fun v10709 k0_hw1331 => k0_hw1331

def k0_off2663 (i : grid0.Coords) : Fin 3 → Nat :=
  let c4_12203 : Index := 4#32
  let c4_12204 : Index := 4#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10715 : Index := Scalar.indexCast v10479
  ![4, 4, v10715.toNat]
def k0_off2664 (v10716 : BitVec 32) : Fin 3 → Nat :=
  let c0_12209 : Index := 0#32
  let v10719 : Index := Scalar.indexCast v10716
  let c0_12210 : Index := 0#32
  ![0, v10719.toNat, 0]

def k0_chk1332 (v10716 : BitVec 32) : Prop :=
  (∀ a, (k0_off2664 v10716) a + S7x1x512.size a ≤ S7x50x512.size a)
theorem k0_off2664_inb : ∀ (v10716 : BitVec 32) (k0_hw1332 : k0_chk1332 v10716), ∀ a, (k0_off2664 v10716) a + S7x1x512.size a ≤ S7x50x512.size a := fun v10716 k0_hw1332 => k0_hw1332

def k0_off2665 (i : grid0.Coords) : Fin 3 → Nat :=
  let c4_12211 : Index := 4#32
  let c5_12212 : Index := 5#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10722 : Index := Scalar.indexCast v10479
  ![4, 5, v10722.toNat]
def k0_off2666 (v10723 : BitVec 32) : Fin 3 → Nat :=
  let c0_12217 : Index := 0#32
  let v10726 : Index := Scalar.indexCast v10723
  let c0_12218 : Index := 0#32
  ![0, v10726.toNat, 0]

def k0_chk1333 (v10723 : BitVec 32) : Prop :=
  (∀ a, (k0_off2666 v10723) a + S7x1x512.size a ≤ S7x50x512.size a)
theorem k0_off2666_inb : ∀ (v10723 : BitVec 32) (k0_hw1333 : k0_chk1333 v10723), ∀ a, (k0_off2666 v10723) a + S7x1x512.size a ≤ S7x50x512.size a := fun v10723 k0_hw1333 => k0_hw1333

def k0_off2667 (i : grid0.Coords) : Fin 3 → Nat :=
  let c4_12219 : Index := 4#32
  let c6_12220 : Index := 6#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10729 : Index := Scalar.indexCast v10479
  ![4, 6, v10729.toNat]
def k0_off2668 (v10730 : BitVec 32) : Fin 3 → Nat :=
  let c0_12225 : Index := 0#32
  let v10733 : Index := Scalar.indexCast v10730
  let c0_12226 : Index := 0#32
  ![0, v10733.toNat, 0]

def k0_chk1334 (v10730 : BitVec 32) : Prop :=
  (∀ a, (k0_off2668 v10730) a + S7x1x512.size a ≤ S7x50x512.size a)
theorem k0_off2668_inb : ∀ (v10730 : BitVec 32) (k0_hw1334 : k0_chk1334 v10730), ∀ a, (k0_off2668 v10730) a + S7x1x512.size a ≤ S7x50x512.size a := fun v10730 k0_hw1334 => k0_hw1334

def k0_off2669 (i : grid0.Coords) : Fin 3 → Nat :=
  let c5_12231 : Index := 5#32
  let c2_12232 : Index := 2#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10740 : Index := Scalar.indexCast v10479
  ![5, 2, v10740.toNat]
def k0_off2670 (v10741 : BitVec 32) : Fin 3 → Nat :=
  let c0_12237 : Index := 0#32
  let v10744 : Index := Scalar.indexCast v10741
  let c0_12238 : Index := 0#32
  ![0, v10744.toNat, 0]

def k0_chk1335 (v10741 : BitVec 32) : Prop :=
  (∀ a, (k0_off2670 v10741) a + S7x1x512.size a ≤ S7x50x512.size a)
theorem k0_off2670_inb : ∀ (v10741 : BitVec 32) (k0_hw1335 : k0_chk1335 v10741), ∀ a, (k0_off2670 v10741) a + S7x1x512.size a ≤ S7x50x512.size a := fun v10741 k0_hw1335 => k0_hw1335

def k0_off2671 (i : grid0.Coords) : Fin 3 → Nat :=
  let c5_12239 : Index := 5#32
  let c3_12240 : Index := 3#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10746 : Index := Scalar.indexCast v10479
  ![5, 3, v10746.toNat]
def k0_off2672 (v10747 : BitVec 32) : Fin 3 → Nat :=
  let c0_12245 : Index := 0#32
  let v10750 : Index := Scalar.indexCast v10747
  let c0_12246 : Index := 0#32
  ![0, v10750.toNat, 0]

def k0_chk1336 (v10747 : BitVec 32) : Prop :=
  (∀ a, (k0_off2672 v10747) a + S7x1x512.size a ≤ S7x50x512.size a)
theorem k0_off2672_inb : ∀ (v10747 : BitVec 32) (k0_hw1336 : k0_chk1336 v10747), ∀ a, (k0_off2672 v10747) a + S7x1x512.size a ≤ S7x50x512.size a := fun v10747 k0_hw1336 => k0_hw1336

def k0_off2673 (i : grid0.Coords) : Fin 3 → Nat :=
  let c5_12247 : Index := 5#32
  let c4_12248 : Index := 4#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10753 : Index := Scalar.indexCast v10479
  ![5, 4, v10753.toNat]
def k0_off2674 (v10754 : BitVec 32) : Fin 3 → Nat :=
  let c0_12253 : Index := 0#32
  let v10757 : Index := Scalar.indexCast v10754
  let c0_12254 : Index := 0#32
  ![0, v10757.toNat, 0]

def k0_chk1337 (v10754 : BitVec 32) : Prop :=
  (∀ a, (k0_off2674 v10754) a + S7x1x512.size a ≤ S7x50x512.size a)
theorem k0_off2674_inb : ∀ (v10754 : BitVec 32) (k0_hw1337 : k0_chk1337 v10754), ∀ a, (k0_off2674 v10754) a + S7x1x512.size a ≤ S7x50x512.size a := fun v10754 k0_hw1337 => k0_hw1337

def k0_off2675 (i : grid0.Coords) : Fin 3 → Nat :=
  let c5_12255 : Index := 5#32
  let c5_12256 : Index := 5#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10760 : Index := Scalar.indexCast v10479
  ![5, 5, v10760.toNat]
def k0_off2676 (v10761 : BitVec 32) : Fin 3 → Nat :=
  let c0_12261 : Index := 0#32
  let v10764 : Index := Scalar.indexCast v10761
  let c0_12262 : Index := 0#32
  ![0, v10764.toNat, 0]

def k0_chk1338 (v10761 : BitVec 32) : Prop :=
  (∀ a, (k0_off2676 v10761) a + S7x1x512.size a ≤ S7x50x512.size a)
theorem k0_off2676_inb : ∀ (v10761 : BitVec 32) (k0_hw1338 : k0_chk1338 v10761), ∀ a, (k0_off2676 v10761) a + S7x1x512.size a ≤ S7x50x512.size a := fun v10761 k0_hw1338 => k0_hw1338

def k0_off2677 (i : grid0.Coords) : Fin 3 → Nat :=
  let c5_12263 : Index := 5#32
  let c6_12264 : Index := 6#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10767 : Index := Scalar.indexCast v10479
  ![5, 6, v10767.toNat]
def k0_off2678 (v10768 : BitVec 32) : Fin 3 → Nat :=
  let c0_12269 : Index := 0#32
  let v10771 : Index := Scalar.indexCast v10768
  let c0_12270 : Index := 0#32
  ![0, v10771.toNat, 0]

def k0_chk1339 (v10768 : BitVec 32) : Prop :=
  (∀ a, (k0_off2678 v10768) a + S7x1x512.size a ≤ S7x50x512.size a)
theorem k0_off2678_inb : ∀ (v10768 : BitVec 32) (k0_hw1339 : k0_chk1339 v10768), ∀ a, (k0_off2678 v10768) a + S7x1x512.size a ≤ S7x50x512.size a := fun v10768 k0_hw1339 => k0_hw1339

def k0_off2679 (i : grid0.Coords) : Fin 3 → Nat :=
  let c6_12275 : Index := 6#32
  let c2_12276 : Index := 2#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10778 : Index := Scalar.indexCast v10479
  ![6, 2, v10778.toNat]
def k0_off2680 (v10779 : BitVec 32) : Fin 3 → Nat :=
  let c0_12281 : Index := 0#32
  let v10782 : Index := Scalar.indexCast v10779
  let c0_12282 : Index := 0#32
  ![0, v10782.toNat, 0]

def k0_chk1340 (v10779 : BitVec 32) : Prop :=
  (∀ a, (k0_off2680 v10779) a + S7x1x512.size a ≤ S7x50x512.size a)
theorem k0_off2680_inb : ∀ (v10779 : BitVec 32) (k0_hw1340 : k0_chk1340 v10779), ∀ a, (k0_off2680 v10779) a + S7x1x512.size a ≤ S7x50x512.size a := fun v10779 k0_hw1340 => k0_hw1340

def k0_off2681 (i : grid0.Coords) : Fin 3 → Nat :=
  let c6_12283 : Index := 6#32
  let c3_12284 : Index := 3#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10784 : Index := Scalar.indexCast v10479
  ![6, 3, v10784.toNat]
def k0_off2682 (v10785 : BitVec 32) : Fin 3 → Nat :=
  let c0_12289 : Index := 0#32
  let v10788 : Index := Scalar.indexCast v10785
  let c0_12290 : Index := 0#32
  ![0, v10788.toNat, 0]

def k0_chk1341 (v10785 : BitVec 32) : Prop :=
  (∀ a, (k0_off2682 v10785) a + S7x1x512.size a ≤ S7x50x512.size a)
theorem k0_off2682_inb : ∀ (v10785 : BitVec 32) (k0_hw1341 : k0_chk1341 v10785), ∀ a, (k0_off2682 v10785) a + S7x1x512.size a ≤ S7x50x512.size a := fun v10785 k0_hw1341 => k0_hw1341

def k0_off2683 (i : grid0.Coords) : Fin 3 → Nat :=
  let c6_12291 : Index := 6#32
  let c4_12292 : Index := 4#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10791 : Index := Scalar.indexCast v10479
  ![6, 4, v10791.toNat]
def k0_off2684 (v10792 : BitVec 32) : Fin 3 → Nat :=
  let c0_12297 : Index := 0#32
  let v10795 : Index := Scalar.indexCast v10792
  let c0_12298 : Index := 0#32
  ![0, v10795.toNat, 0]

def k0_chk1342 (v10792 : BitVec 32) : Prop :=
  (∀ a, (k0_off2684 v10792) a + S7x1x512.size a ≤ S7x50x512.size a)
theorem k0_off2684_inb : ∀ (v10792 : BitVec 32) (k0_hw1342 : k0_chk1342 v10792), ∀ a, (k0_off2684 v10792) a + S7x1x512.size a ≤ S7x50x512.size a := fun v10792 k0_hw1342 => k0_hw1342

def k0_off2685 (i : grid0.Coords) : Fin 3 → Nat :=
  let c6_12299 : Index := 6#32
  let c5_12300 : Index := 5#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10798 : Index := Scalar.indexCast v10479
  ![6, 5, v10798.toNat]
def k0_off2686 (v10799 : BitVec 32) : Fin 3 → Nat :=
  let c0_12305 : Index := 0#32
  let v10802 : Index := Scalar.indexCast v10799
  let c0_12306 : Index := 0#32
  ![0, v10802.toNat, 0]

def k0_chk1343 (v10799 : BitVec 32) : Prop :=
  (∀ a, (k0_off2686 v10799) a + S7x1x512.size a ≤ S7x50x512.size a)
theorem k0_off2686_inb : ∀ (v10799 : BitVec 32) (k0_hw1343 : k0_chk1343 v10799), ∀ a, (k0_off2686 v10799) a + S7x1x512.size a ≤ S7x50x512.size a := fun v10799 k0_hw1343 => k0_hw1343

def k0_off2687 (i : grid0.Coords) : Fin 3 → Nat :=
  let c6_12307 : Index := 6#32
  let c6_12308 : Index := 6#32
  let arg0 : BitVec 32 := BitVec.ofNat 32 (i 0).val
  let c32_i32_11934 : BitVec 32 := 32#32
  let v10478 : BitVec 32 := Scalar.muli arg0 c32_i32_11934
  let c31_i32 : BitVec 32 := 31#32
  let v10479 : BitVec 32 := Scalar.addi v10478 c31_i32
  let v10805 : Index := Scalar.indexCast v10479
  ![6, 6, v10805.toNat]
def k0_off2688 (v10806 : BitVec 32) : Fin 3 → Nat :=
  let c0_12313 : Index := 0#32
  let v10809 : Index := Scalar.indexCast v10806
  let c0_12314 : Index := 0#32
  ![0, v10809.toNat, 0]

def k0_chk1344 (v10806 : BitVec 32) : Prop :=
  (∀ a, (k0_off2688 v10806) a + S7x1x512.size a ≤ S7x50x512.size a)
theorem k0_off2688_inb : ∀ (v10806 : BitVec 32) (k0_hw1344 : k0_chk1344 v10806), ∀ a, (k0_off2688 v10806) a + S7x1x512.size a ≤ S7x50x512.size a := fun v10806 k0_hw1344 => k0_hw1344

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S250x50x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x7x7x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x512x50x50 : Shape := ⟨4, ![1, 512, 50, 50]⟩
abbrev S1024x4 : Shape := ⟨2, ![1024, 4]⟩
abbrev S512x50x50 : Shape := ⟨3, ![512, 50, 50]⟩
abbrev S_ : Shape := ⟨0, ![]⟩
abbrev S1024x1 : Shape := ⟨2, ![1024, 1]⟩
abbrev S1024 : Shape := ⟨1, ![1024]⟩
abbrev S7 : Shape := ⟨1, ![7]⟩
abbrev S1x7 : Shape := ⟨2, ![1, 7]⟩
abbrev S1024x7 : Shape := ⟨2, ![1024, 7]⟩
abbrev S9 : Shape := ⟨1, ![9]⟩
abbrev S1024x7x1 : Shape := ⟨3, ![1024, 7, 1]⟩
abbrev S1x9 : Shape := ⟨2, ![1, 9]⟩
abbrev S1x1x9 : Shape := ⟨3, ![1, 1, 9]⟩
abbrev S1024x7x9 : Shape := ⟨3, ![1024, 7, 9]⟩
abbrev S1024x7x9x1 : Shape := ⟨4, ![1024, 7, 9, 1]⟩
abbrev S1024x512x7x9x50 : Shape := ⟨5, ![1024, 512, 7, 9, 50]⟩
abbrev S1024x512x7x9x7x9 : Shape := ⟨6, ![1024, 512, 7, 9, 7, 9]⟩
abbrev S1024x7x9x1x1 : Shape := ⟨5, ![1024, 7, 9, 1, 1]⟩
abbrev S1024x1x1x7x9 : Shape := ⟨5, ![1024, 1, 1, 7, 9]⟩
abbrev S1024x7x9x7x9 : Shape := ⟨5, ![1024, 7, 9, 7, 9]⟩
abbrev S1024x1x7x9x7x9 : Shape := ⟨6, ![1024, 1, 7, 9, 7, 9]⟩
abbrev S512x7x9x7x9 : Shape := ⟨5, ![512, 7, 9, 7, 9]⟩
abbrev S1024x512x7x7 : Shape := ⟨4, ![1024, 512, 7, 7]⟩

abbrev nBuf : Space → Nat
  | .hbm => 238
  | .vmem => 0
  | .smem => 0
  | _ => 0

abbrev hbmTy0_0 (i : Nat) : BufTy := match i % 128 with
  | 0 => ⟨S1x512x50x50, .f32⟩
  | 1 => ⟨S1024x4, .i32⟩
  | 2 => ⟨S512x50x50, .f32⟩
  | 3 => ⟨S1024x4, .f32⟩
  | 4 => ⟨S_, .f32⟩
  | 5 => ⟨S1024x4, .f32⟩
  | 6 => ⟨S1024x4, .f32⟩
  | 7 => ⟨S1024x4, .f32⟩
  | 8 => ⟨S1024x4, .i32⟩
  | 9 => ⟨S1024x1, .i32⟩
  | 10 => ⟨S1024, .i32⟩
  | 11 => ⟨S1024x1, .i32⟩
  | 12 => ⟨S1024, .i32⟩
  | 13 => ⟨S_, .i32⟩
  | 14 => ⟨S1024, .i32⟩
  | 15 => ⟨S1024, .i32⟩
  | 16 => ⟨S_, .i32⟩
  | 17 => ⟨S_, .i32⟩
  | 18 => ⟨S_, .i32⟩
  | 19 => ⟨S1024, .i32⟩
  | 20 => ⟨S1024, .i32⟩
  | 21 => ⟨S_, .i32⟩
  | 22 => ⟨S1024, .i32⟩
  | 23 => ⟨S1024, .i32⟩
  | 24 => ⟨S1024, .i32⟩
  | 25 => ⟨S_, .i32⟩
  | 26 => ⟨S1024, .i32⟩
  | 27 => ⟨S1024, .i32⟩
  | 28 => ⟨S7, .i32⟩
  | 29 => ⟨S1x7, .i32⟩
  | 30 => ⟨S1024x1, .i32⟩
  | 31 => ⟨S1024x7, .i32⟩
  | 32 => ⟨S1024x7, .i32⟩
  | 33 => ⟨S1024x7, .i32⟩
  | 34 => ⟨S_, .i32⟩
  | 35 => ⟨S_, .i32⟩
  | 36 => ⟨S1024x7, .i32⟩
  | 37 => ⟨S1024x7, .i32⟩
  | 38 => ⟨S1024x7, .i32⟩
  | 39 => ⟨S_, .i32⟩
  | 40 => ⟨S1024x7, .i32⟩
  | 41 => ⟨S1024x7, .i1⟩
  | 42 => ⟨S1024x7, .i32⟩
  | 43 => ⟨S1024x7, .i32⟩
  | 44 => ⟨S_, .i32⟩
  | 45 => ⟨S1024x7, .i32⟩
  | 46 => ⟨S1024x7, .i1⟩
  | 47 => ⟨S1024x7, .i1⟩
  | 48 => ⟨S_, .i32⟩
  | 49 => ⟨S1024x7, .i32⟩
  | 50 => ⟨S1024x7, .i32⟩
  | 51 => ⟨S1024x7, .i32⟩
  | 52 => ⟨S1024x1, .i32⟩
  | 53 => ⟨S1024x7, .i32⟩
  | 54 => ⟨S1024x7, .i32⟩
  | 55 => ⟨S_, .i32⟩
  | 56 => ⟨S7, .i32⟩
  | 57 => ⟨S7, .i32⟩
  | 58 => ⟨S1x7, .i32⟩
  | 59 => ⟨S1024x1, .i32⟩
  | 60 => ⟨S1024x7, .i32⟩
  | 61 => ⟨S1024x7, .i32⟩
  | 62 => ⟨S1024x7, .i32⟩
  | 63 => ⟨S_, .i32⟩
  | 64 => ⟨S1024x7, .i32⟩
  | 65 => ⟨S1024x7, .i32⟩
  | 66 => ⟨S_, .i32⟩
  | 67 => ⟨S1024x7, .i32⟩
  | 68 => ⟨S1024x7, .i32⟩
  | 69 => ⟨S_, .i32⟩
  | 70 => ⟨S_, .i32⟩
  | 71 => ⟨S1024x7, .i32⟩
  | 72 => ⟨S1024x7, .i32⟩
  | 73 => ⟨S1024x7, .i32⟩
  | 74 => ⟨S_, .i32⟩
  | 75 => ⟨S1024x7, .i32⟩
  | 76 => ⟨S1024x7, .i1⟩
  | 77 => ⟨S1024x7, .i32⟩
  | 78 => ⟨S1024x7, .i32⟩
  | 79 => ⟨S_, .i32⟩
  | 80 => ⟨S1024x7, .i32⟩
  | 81 => ⟨S1024x7, .i1⟩
  | 82 => ⟨S1024x7, .i1⟩
  | 83 => ⟨S_, .i32⟩
  | 84 => ⟨S1024x7, .i32⟩
  | 85 => ⟨S1024x7, .i32⟩
  | 86 => ⟨S1024x7, .i32⟩
  | 87 => ⟨S1024x1, .i32⟩
  | 88 => ⟨S1024x7, .i32⟩
  | 89 => ⟨S1024x7, .i32⟩
  | 90 => ⟨S9, .i32⟩
  | 91 => ⟨S1024x7x1, .i32⟩
  | 92 => ⟨S1x9, .i32⟩
  | 93 => ⟨S1x1x9, .i32⟩
  | 94 => ⟨S1024x7x9, .i32⟩
  | 95 => ⟨S1024x7x9, .i32⟩
  | 96 => ⟨S1024x7x9, .i32⟩
  | 97 => ⟨S1024x7x1, .i32⟩
  | 98 => ⟨S1024x7x9, .i32⟩
  | 99 => ⟨S1024x7x9, .i1⟩
  | 100 => ⟨S_, .i32⟩
  | 101 => ⟨S_, .i32⟩
  | 102 => ⟨S_, .i32⟩
  | 103 => ⟨S1024x7x9, .i32⟩
  | 104 => ⟨S1024x7x9, .i32⟩
  | 105 => ⟨S_, .i32⟩
  | 106 => ⟨S1024x7x9, .i32⟩
  | 107 => ⟨S1024x7x9, .i32⟩
  | 108 => ⟨S1024x1, .i32⟩
  | 109 => ⟨S1024, .i32⟩
  | 110 => ⟨S1024x1, .i32⟩
  | 111 => ⟨S1024, .i32⟩
  | 112 => ⟨S_, .i32⟩
  | 113 => ⟨S1024, .i32⟩
  | 114 => ⟨S1024, .i32⟩
  | 115 => ⟨S_, .i32⟩
  | 116 => ⟨S_, .i32⟩
  | 117 => ⟨S_, .i32⟩
  | 118 => ⟨S1024, .i32⟩
  | 119 => ⟨S1024, .i32⟩
  | 120 => ⟨S_, .i32⟩
  | 121 => ⟨S1024, .i32⟩
  | 122 => ⟨S1024, .i32⟩
  | 123 => ⟨S1024, .i32⟩
  | 124 => ⟨S_, .i32⟩
  | 125 => ⟨S1024, .i32⟩
  | 126 => ⟨S1024, .i32⟩
  | 127 => ⟨S7, .i32⟩
  | _ => ⟨S1x512x50x50, .f32⟩

abbrev hbmTy0_1 (i : Nat) : BufTy := match i % 128 with
  | 0 => ⟨S1x7, .i32⟩
  | 1 => ⟨S1024x1, .i32⟩
  | 2 => ⟨S1024x7, .i32⟩
  | 3 => ⟨S1024x7, .i32⟩
  | 4 => ⟨S1024x7, .i32⟩
  | 5 => ⟨S_, .i32⟩
  | 6 => ⟨S_, .i32⟩
  | 7 => ⟨S1024x7, .i32⟩
  | 8 => ⟨S1024x7, .i32⟩
  | 9 => ⟨S1024x7, .i32⟩
  | 10 => ⟨S_, .i32⟩
  | 11 => ⟨S1024x7, .i32⟩
  | 12 => ⟨S1024x7, .i1⟩
  | 13 => ⟨S1024x7, .i32⟩
  | 14 => ⟨S1024x7, .i32⟩
  | 15 => ⟨S_, .i32⟩
  | 16 => ⟨S1024x7, .i32⟩
  | 17 => ⟨S1024x7, .i1⟩
  | 18 => ⟨S1024x7, .i1⟩
  | 19 => ⟨S_, .i32⟩
  | 20 => ⟨S1024x7, .i32⟩
  | 21 => ⟨S1024x7, .i32⟩
  | 22 => ⟨S1024x7, .i32⟩
  | 23 => ⟨S1024x1, .i32⟩
  | 24 => ⟨S1024x7, .i32⟩
  | 25 => ⟨S1024x7, .i32⟩
  | 26 => ⟨S_, .i32⟩
  | 27 => ⟨S7, .i32⟩
  | 28 => ⟨S7, .i32⟩
  | 29 => ⟨S1x7, .i32⟩
  | 30 => ⟨S1024x1, .i32⟩
  | 31 => ⟨S1024x7, .i32⟩
  | 32 => ⟨S1024x7, .i32⟩
  | 33 => ⟨S1024x7, .i32⟩
  | 34 => ⟨S_, .i32⟩
  | 35 => ⟨S1024x7, .i32⟩
  | 36 => ⟨S1024x7, .i32⟩
  | 37 => ⟨S_, .i32⟩
  | 38 => ⟨S1024x7, .i32⟩
  | 39 => ⟨S1024x7, .i32⟩
  | 40 => ⟨S_, .i32⟩
  | 41 => ⟨S_, .i32⟩
  | 42 => ⟨S1024x7, .i32⟩
  | 43 => ⟨S1024x7, .i32⟩
  | 44 => ⟨S1024x7, .i32⟩
  | 45 => ⟨S_, .i32⟩
  | 46 => ⟨S1024x7, .i32⟩
  | 47 => ⟨S1024x7, .i1⟩
  | 48 => ⟨S1024x7, .i32⟩
  | 49 => ⟨S1024x7, .i32⟩
  | 50 => ⟨S_, .i32⟩
  | 51 => ⟨S1024x7, .i32⟩
  | 52 => ⟨S1024x7, .i1⟩
  | 53 => ⟨S1024x7, .i1⟩
  | 54 => ⟨S_, .i32⟩
  | 55 => ⟨S1024x7, .i32⟩
  | 56 => ⟨S1024x7, .i32⟩
  | 57 => ⟨S1024x7, .i32⟩
  | 58 => ⟨S1024x1, .i32⟩
  | 59 => ⟨S1024x7, .i32⟩
  | 60 => ⟨S1024x7, .i32⟩
  | 61 => ⟨S9, .i32⟩
  | 62 => ⟨S1024x7x1, .i32⟩
  | 63 => ⟨S1x9, .i32⟩
  | 64 => ⟨S1x1x9, .i32⟩
  | 65 => ⟨S1024x7x9, .i32⟩
  | 66 => ⟨S1024x7x9, .i32⟩
  | 67 => ⟨S1024x7x9, .i32⟩
  | 68 => ⟨S1024x7x1, .i32⟩
  | 69 => ⟨S1024x7x9, .i32⟩
  | 70 => ⟨S1024x7x9, .i1⟩
  | 71 => ⟨S_, .i32⟩
  | 72 => ⟨S_, .i32⟩
  | 73 => ⟨S_, .i32⟩
  | 74 => ⟨S1024x7x9, .i32⟩
  | 75 => ⟨S1024x7x9, .i32⟩
  | 76 => ⟨S_, .i32⟩
  | 77 => ⟨S1024x7x9, .i32⟩
  | 78 => ⟨S1024x7x9, .i32⟩
  | 79 => ⟨S_, .i32⟩
  | 80 => ⟨S1024x7x9, .i32⟩
  | 81 => ⟨S1024x7x9, .i1⟩
  | 82 => ⟨S_, .i32⟩
  | 83 => ⟨S1024x7x9, .i32⟩
  | 84 => ⟨S1024x7x9, .i32⟩
  | 85 => ⟨S1024x7x9, .i32⟩
  | 86 => ⟨S1024x7x9x1, .i32⟩
  | 87 => ⟨S1024x512x7x9x50, .f32⟩
  | 88 => ⟨S_, .i32⟩
  | 89 => ⟨S1024x7x9, .i32⟩
  | 90 => ⟨S1024x7x9, .i1⟩
  | 91 => ⟨S_, .i32⟩
  | 92 => ⟨S1024x7x9, .i32⟩
  | 93 => ⟨S1024x7x9, .i32⟩
  | 94 => ⟨S1024x7x9, .i32⟩
  | 95 => ⟨S1024x7x9x1, .i32⟩
  | 96 => ⟨S1024x512x7x9x7x9, .f32⟩
  | 97 => ⟨S1024x7x9x1x1, .i1⟩
  | 98 => ⟨S1024x1x1x7x9, .i1⟩
  | 99 => ⟨S1024x7x9x7x9, .i1⟩
  | 100 => ⟨S1024x7x9x7x9, .i1⟩
  | 101 => ⟨S1024x7x9x7x9, .i1⟩
  | 102 => ⟨S1024x1x7x9x7x9, .i1⟩
  | 103 => ⟨S_, .f32⟩
  | 104 => ⟨S1024x512x7x9x7x9, .i1⟩
  | 105 => ⟨S512x7x9x7x9, .f32⟩
  | 106 => ⟨S1024x512x7x9x7x9, .f32⟩
  | 107 => ⟨S1024x512x7x9x7x9, .f32⟩
  | 108 => ⟨S_, .f32⟩
  | 109 => ⟨S1024x512x7x7, .f32⟩
  | _ => ⟨S1x512x50x50, .f32⟩

abbrev hbmTy (i : Nat) : BufTy := match i / 128 with
  | 0 => hbmTy0_0 i
  | 1 => hbmTy0_1 i
  | _ => ⟨S1x512x50x50, .f32⟩

abbrev bufTy : (tb : Table) → Fin (tcTables nBuf tb) → BufTy
  | .hbm, ⟨i, _⟩ => hbmTy i
  | _, _ => ⟨S1x512x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_5 : Ref sig .tc := ⟨.hbm, 63, rfl⟩
abbrev main_v33 : Ref sig .tc := ⟨.hbm, 64, rfl⟩
abbrev main_v34 : Ref sig .tc := ⟨.hbm, 65, rfl⟩
abbrev main_c_6 : Ref sig .tc := ⟨.hbm, 66, rfl⟩
abbrev main_v35 : Ref sig .tc := ⟨.hbm, 67, rfl⟩
abbrev main_v36 : Ref sig .tc := ⟨.hbm, 68, rfl⟩
abbrev main_c_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_c : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_0 : Ref sig .tc := ⟨.hbm, 83, rfl⟩
abbrev main_call2_v12 : Ref sig .tc := ⟨.hbm, 84, rfl⟩
abbrev main_call2_v13 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_c_8 : Ref sig .tc := ⟨.hbm, 100, rfl⟩
abbrev main_c_9 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_c_10 : Ref sig .tc := ⟨.hbm, 112, rfl⟩
abbrev main_v56 : Ref sig .tc := ⟨.hbm, 113, rfl⟩
abbrev main_v57 : Ref sig .tc := ⟨.hbm, 114, rfl⟩
abbrev main_c_11 : Ref sig .tc := ⟨.hbm, 115, rfl⟩
abbrev main_c_12 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_v58 : Ref sig .tc := ⟨.hbm, 122, rfl⟩
abbrev main_v59 : Ref sig .tc := ⟨.hbm, 123, rfl⟩
abbrev main_c_13 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_c_14 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_c : Ref sig .tc := ⟨.hbm, 143, rfl⟩
abbrev main_call5_v9 : Ref sig .tc := ⟨.hbm, 144, rfl⟩
abbrev main_call5_v10 : Ref sig .tc := ⟨.hbm, 145, rfl⟩
abbrev main_call5_v11 : Ref sig .tc := ⟨.hbm, 146, rfl⟩
abbrev main_call5_c_0 : Ref sig .tc := ⟨.hbm, 147, rfl⟩
abbrev main_call5_v12 : Ref sig .tc := ⟨.hbm, 148, rfl⟩
abbrev main_call5_v13 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_c_15 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_c_16 : Ref sig .tc := ⟨.hbm, 162, rfl⟩
abbrev main_v79 : Ref sig .tc := ⟨.hbm, 163, rfl⟩
abbrev main_v80 : Ref sig .tc := ⟨.hbm, 164, rfl⟩
abbrev main_c_17 : Ref sig .tc := ⟨.hbm, 165, rfl⟩
abbrev main_v81 : Ref sig .tc := ⟨.hbm, 166, rfl⟩
abbrev main_v82 : Ref sig .tc := ⟨.hbm, 167, rfl⟩
abbrev main_c_18 : Ref sig .tc := ⟨.hbm, 168, rfl⟩
abbrev main_call6_v0 : Ref sig .tc := ⟨.hbm, 169, rfl⟩
abbrev main_call6_v1 : Ref sig .tc := ⟨.hbm, 170, rfl⟩
abbrev main_call6_v2 : Ref sig .tc := ⟨.hbm, 171, rfl⟩
abbrev main_call6_v3 : Ref sig .tc := ⟨.hbm, 172, rfl⟩
abbrev main_call6_v4 : Ref sig .tc := ⟨.hbm, 173, rfl⟩
abbrev main_call6_v5 : Ref sig .tc := ⟨.hbm, 174, rfl⟩
abbrev main_call6_v6 : Ref sig .tc := ⟨.hbm, 175, rfl⟩
abbrev main_call6_v7 : Ref sig .tc := ⟨.hbm, 176, rfl⟩
abbrev main_call6_v8 : Ref sig .tc := ⟨.hbm, 177, rfl⟩
abbrev main_call6_c : Ref sig .tc := ⟨.hbm, 178, rfl⟩
abbrev main_call6_v9 : Ref sig .tc := ⟨.hbm, 179, rfl⟩
abbrev main_call6_v10 : Ref sig .tc := ⟨.hbm, 180, rfl⟩
abbrev main_call6_v11 : Ref sig .tc := ⟨.hbm, 181, rfl⟩
abbrev main_call6_c_0 : Ref sig .tc := ⟨.hbm, 182, rfl⟩
abbrev main_call6_v12 : Ref sig .tc := ⟨.hbm, 183, rfl⟩
abbrev main_call6_v13 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_c_19 : Ref sig .tc := ⟨.hbm, 199, rfl⟩
abbrev main_c_20 : Ref sig .tc := ⟨.hbm, 200, rfl⟩
abbrev main_call7_v0 : Ref sig .tc := ⟨.hbm, 201, rfl⟩
abbrev main_call7_v1 : Ref sig .tc := ⟨.hbm, 202, rfl⟩
abbrev main_call7_v2 : Ref sig .tc := ⟨.hbm, 203, rfl⟩
abbrev main_call7_v3 : Ref sig .tc := ⟨.hbm, 204, rfl⟩
abbrev main_call7_v4 : Ref sig .tc := ⟨.hbm, 205, rfl⟩
abbrev main_v97 : Ref sig .tc := ⟨.hbm, 206, rfl⟩
abbrev main_c_21 : Ref sig .tc := ⟨.hbm, 207, rfl⟩
abbrev main_v98 : Ref sig .tc := ⟨.hbm, 208, rfl⟩
abbrev main_v99 : Ref sig .tc := ⟨.hbm, 209, rfl⟩
abbrev main_c_22 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_c_23 : Ref sig .tc := ⟨.hbm, 216, rfl⟩
abbrev main_v105 : Ref sig .tc := ⟨.hbm, 217, rfl⟩
abbrev main_v106 : Ref sig .tc := ⟨.hbm, 218, rfl⟩
abbrev main_c_24 : Ref sig .tc := ⟨.hbm, 219, rfl⟩
abbrev main_v107 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_v112 : Ref sig .tc := ⟨.hbm, 225, rfl⟩
abbrev main_v113 : Ref sig .tc := ⟨.hbm, 226, rfl⟩
abbrev main_v114 : Ref sig .tc := ⟨.hbm, 227, rfl⟩
abbrev main_v115 : Ref sig .tc := ⟨.hbm, 228, rfl⟩
abbrev main_v116 : Ref sig .tc := ⟨.hbm, 229, rfl⟩
abbrev main_v117 : Ref sig .tc := ⟨.hbm, 230, rfl⟩
abbrev main_cst_25 : Ref sig .tc := ⟨.hbm, 231, rfl⟩
abbrev main_call8_v0 : Ref sig .tc := ⟨.hbm, 232, rfl⟩
abbrev main_call8_v1 : Ref sig .tc := ⟨.hbm, 233, rfl⟩
abbrev main_call8_v2 : Ref sig .tc := ⟨.hbm, 234, rfl⟩
abbrev main_v118 : Ref sig .tc := ⟨.hbm, 235, rfl⟩
abbrev main_cst_26 : Ref sig .tc := ⟨.hbm, 236, rfl⟩
abbrev main_v119 : Ref sig .tc := ⟨.hbm, 237, rfl⟩

abbrev nD : Nat := 1
abbrev τ : Topo := Topo.v7x

variable {F : FTy → Type} [FloatOps F]
-- ==== Proof.Words.lean ====
/- The integer arithmetic of the bins: one box's pair of corners along an axis, and from it the bins' bounds and the words of the
   kernel's table, as functions of 32-bit words. -/
module

public import Idealize.ShloMosaic.Lib.Pointwise
public import Idealize.ShloMosaic.Lib.WordArith

@[expose] public section

noncomputable section

namespace Cert.Proof

open Idealize.ShloMosaic

/-- The sign of a word. -/
def sgn (x : BitVec 32) : BitVec 32 := if x = 0 then 0 else if x.msb then -1 else 1

/-- The seventh of a word, rounded down, as the host computes it from the truncated quotient and remainder. -/
def fdiv (x : BitVec 32) : BitVec 32 :=
  Scalar.select (IntOp.andi (IntOp.cmpi .ne (sgn x) (sgn 7#32)) (IntOp.cmpi .ne (IntOp.remsi .host x 7#32) 0#32))
    (IntOp.subi (IntOp.divsi .host x 7#32) 1#32) (IntOp.divsi .host x 7#32)

/-- The length of the box from corner `lo` to corner `hi`, cut to the image. -/
def len (lo hi : BitVec 32) : BitVec 32 :=
  IntOp.maxsi (IntOp.subi (IntOp.minsi 50#32 (IntOp.maxsi 0#32 (IntOp.addi hi 1#32))) lo) 1#32

/-- The first row of bin `i`. -/
def binS (lo hi i : BitVec 32) : BitVec 32 := IntOp.addi lo (fdiv (IntOp.muli i (len lo hi)))

/-- The row after the last row of bin `i`. -/
def binE (lo hi i : BitVec 32) : BitVec 32 :=
  IntOp.addi lo (fdiv (IntOp.subi (IntOp.addi (IntOp.muli (IntOp.addi i 1#32) (len lo hi)) 7#32) 1#32))

/-- The first row of bin `i`, brought into the image. -/
def startW (lo hi i : BitVec 32) : BitVec 32 := IntOp.minsi 49#32 (IntOp.maxsi 0#32 (binS lo hi i))

/-- The row after the last row of bin `i`, brought into the image and past the first. -/
def endW (lo hi i : BitVec 32) : BitVec 32 := IntOp.minsi 50#32 (IntOp.maxsi (IntOp.addi (startW lo hi i) 1#32) (binE lo hi i))

/-- The table row of the bin from `s` to `e`: its length (one to five) chooses the level, its first row the row. -/
def rowW (s e : BitVec 32) : BitVec 32 :=
  IntOp.addi (IntOp.muli (IntOp.subi (IntOp.minsi 5#32 (IntOp.maxsi 1#32 (IntOp.subi e s))) 1#32) 50#32) s

/-- The `k`-th column of the bin from `s` to `e`, the last column again past its end. -/
def colW (s e k : BitVec 32) : BitVec 32 := IntOp.addi s (IntOp.minsi k (IntOp.subi (IntOp.subi e s) 1#32))

/-- The corner word of a coordinate: a sixteenth of it, rounded down. -/
def corner {F : FTy → Type} [FloatOps F] (x : BitVec 32) : BitVec 32 :=
  FloatOps.fptosi 32 (FloatOps.hostUnary (F := F) .floor (FloatOps.mulf (FloatOps.sitofp .f32 x) (FloatOps.ofBits .f32 0x3D800000#32)))

/-- The word in slot `b` of bin `a`, for a region of corners `lo0, lo1, hi0, hi1` (axis `1` chooses table rows, axis `0` columns). -/
def wordOf (lo0 lo1 hi0 hi1 : BitVec 32) (a b : ℕ) : BitVec 32 :=
  if b < 2 then rowW (startW lo1 hi1 (BitVec.ofNat 32 a)) (endW lo1 hi1 (BitVec.ofNat 32 a))
  else colW (startW lo0 hi0 (BitVec.ofNat 32 a)) (endW lo0 hi0 (BitVec.ofNat 32 a)) (BitVec.ofNat 32 (b - 2))

/-! ### Their values -/

/-- The larger of two words, as signed numbers. -/
theorem int_max (x y : BitVec 32) : (IntOp.maxsi x y).toInt = max x.toInt y.toInt := by
  unfold IntOp.maxsi
  split_ifs with h <;> simp only [BitVec.slt, decide_eq_true_eq] at h <;> omega

/-- The smaller of two words, as signed numbers. -/
theorem int_min (x y : BitVec 32) : (IntOp.minsi x y).toInt = min x.toInt y.toInt := by
  unfold IntOp.minsi
  split_ifs with h <;> simp only [BitVec.slt, decide_eq_true_eq] at h <;> omega

/-- A sum of words as signed numbers, where it fits. -/
theorem int_add {x y : BitVec 32} (h1 : -2 ^ 31 ≤ x.toInt + y.toInt) (h2 : x.toInt + y.toInt < 2 ^ 31) :
    (IntOp.addi x y).toInt = x.toInt + y.toInt := WordArith.toInt_add_of_bounds x y h1 h2
/-- A difference, likewise. -/
theorem int_sub {x y : BitVec 32} (h1 : -2 ^ 31 ≤ x.toInt - y.toInt) (h2 : x.toInt - y.toInt < 2 ^ 31) :
    (IntOp.subi x y).toInt = x.toInt - y.toInt := WordArith.toInt_sub_of_bounds x y h1 h2
/-- A product, likewise. -/
theorem int_mul {x y : BitVec 32} (h1 : -2 ^ 31 ≤ x.toInt * y.toInt) (h2 : x.toInt * y.toInt < 2 ^ 31) :
    (IntOp.muli x y).toInt = x.toInt * y.toInt := WordArith.toInt_mul_of_bounds x y h1 h2

/-- The word of a small number is the number. -/
theorem int_nat {k : ℕ} (h : k < 2 ^ 31) : (BitVec.ofNat 32 k).toInt = k := WordArith.toInt_ofNat_small k h

/-- A word that is not negative is the same number signed and unsigned. -/
theorem nat_int {x : BitVec 32} (h : 0 ≤ x.toInt) : (x.toNat : ℤ) = x.toInt := by
  rw [BitVec.toInt_eq_toNat_cond] at h ⊢
  have := x.isLt
  split_ifs at h ⊢ <;> omega

/-- A bin's first row brought into the image, as a number. -/
theorem int_start (lo hi i : BitVec 32) : (startW lo hi i).toInt = min 49 (max 0 (binS lo hi i).toInt) := by
  unfold startW
  rw [int_min, int_max]
  rfl

/-- The row after a bin's last brought into the image, as a number. -/
theorem int_end (lo hi i : BitVec 32) : (endW lo hi i).toInt = min 50 (max ((startW lo hi i).toInt + 1) (binE lo hi i).toInt) := by
  unfold endW
  have h := int_start lo hi i
  have h1 : (1#32).toInt = 1 := rfl
  rw [int_min, int_max, int_add (by omega) (by omega), h1]
  rfl

/-- The table row of a bin inside the image. -/
theorem int_row {s e : BitVec 32} (h0 : 0 ≤ s.toInt) (h1 : s.toInt + 1 ≤ e.toInt) (h2 : e.toInt ≤ 50) :
    (rowW s e).toInt = (min 5 (e.toInt - s.toInt) - 1) * 50 + s.toInt := by
  have c1 : (1#32).toInt = 1 := rfl
  have c5 : (5#32).toInt = 5 := rfl
  have c50 : (50#32).toInt = 50 := rfl
  have a := int_sub (x := e) (y := s) (by omega) (by omega)
  have b : (IntOp.minsi 5#32 (IntOp.maxsi 1#32 (IntOp.subi e s))).toInt = min 5 (e.toInt - s.toInt) := by
    rw [int_min, int_max, a, c1, c5]; omega
  have c : (IntOp.subi (IntOp.minsi 5#32 (IntOp.maxsi 1#32 (IntOp.subi e s))) 1#32).toInt = min 5 (e.toInt - s.toInt) - 1 := by
    rw [int_sub (by rw [b, c1]; omega) (by rw [b, c1]; omega), b, c1]
  have d : (IntOp.muli (IntOp.subi (IntOp.minsi 5#32 (IntOp.maxsi 1#32 (IntOp.subi e s))) 1#32) 50#32).toInt = (min 5 (e.toInt - s.toInt) - 1) * 50 := by
    rw [int_mul (by rw [c, c50]; omega) (by rw [c, c50]; omega), c, c50]
  unfold rowW
  rw [int_add (by rw [d]; omega) (by rw [d]; omega), d]

/-- The columns of a bin inside the image. -/
theorem int_col {s e k : BitVec 32} (h0 : 0 ≤ s.toInt) (h1 : s.toInt + 1 ≤ e.toInt) (h2 : e.toInt ≤ 50) (hk : 0 ≤ k.toInt) :
    (colW s e k).toInt = s.toInt + min k.toInt (e.toInt - s.toInt - 1) := by
  have c1 : (1#32).toInt = 1 := rfl
  have a := int_sub (x := e) (y := s) (by omega) (by omega)
  have b : (IntOp.subi (IntOp.subi e s) 1#32).toInt = e.toInt - s.toInt - 1 := by
    rw [int_sub (by rw [a, c1]; omega) (by rw [a, c1]; omega), a, c1]
  have c : (IntOp.minsi k (IntOp.subi (IntOp.subi e s) 1#32)).toInt = min k.toInt (e.toInt - s.toInt - 1) := by
    rw [int_min, b]
  unfold colW
  rw [int_add (by rw [c]; omega) (by rw [c]; omega), c]

/-- A word of the first two slots is a row of the table. -/
theorem word_row (lo0 lo1 hi0 hi1 : BitVec 32) (a : ℕ) {b : ℕ} (hb : b < 2) : (wordOf lo0 lo1 hi0 hi1 a b).toNat < 250 := by
  unfold wordOf
  rw [if_pos hb]
  have hs := int_start lo1 hi1 (BitVec.ofNat 32 a)
  have he := int_end lo1 hi1 (BitVec.ofNat 32 a)
  have h := int_row (s := startW lo1 hi1 (BitVec.ofNat 32 a)) (e := endW lo1 hi1 (BitVec.ofNat 32 a)) (by omega) (by omega) (by omega)
  have := nat_int (x := rowW (startW lo1 hi1 (BitVec.ofNat 32 a)) (endW lo1 hi1 (BitVec.ofNat 32 a))) (by omega)
  omega

/-- A word of the other slots is a column of the image. -/
theorem word_col (lo0 lo1 hi0 hi1 : BitVec 32) (a : ℕ) {b : ℕ} (hb : 2 ≤ b) (hb' : b < 7) : (wordOf lo0 lo1 hi0 hi1 a b).toNat < 50 := by
  unfold wordOf
  rw [if_neg (by omega)]
  have hs := int_start lo0 hi0 (BitVec.ofNat 32 a)
  have he := int_end lo0 hi0 (BitVec.ofNat 32 a)
  have hk : (BitVec.ofNat 32 (b - 2)).toInt = ((b - 2 : ℕ) : ℤ) := int_nat (by omega)
  have h := int_col (s := startW lo0 hi0 (BitVec.ofNat 32 a)) (e := endW lo0 hi0 (BitVec.ofNat 32 a)) (k := BitVec.ofNat 32 (b - 2))
    (by omega) (by omega) (by omega) (by omega)
  have := nat_int (x := colW (startW lo0 hi0 (BitVec.ofNat 32 a)) (endW lo0 hi0 (BitVec.ofNat 32 a)) (BitVec.ofNat 32 (b - 2))) (by omega)
  omega

end Cert.Proof
end
-- ==== Proof.Access.lean ====
/- Loads and stores of a memref a core owns: straight through a rectangle of it, or through a rectangle of a slice of it with
   unit axes dropped. -/
module

public import Idealize.ShloMosaic.Adequacy
public import Idealize.ShloMosaic.Init
public import Idealize.ShloMosaic.Lib.Exec
public import Idealize.ShloMosaic.Lib.Pipeline.Kit

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}
variable {defs : Defs nD τ sig Val Λ} (𝒱 : Variants) (d : Dev nD) (E : Set ℕ)
variable {cs : CoreSpace} {s s' : Shape} {e : EltTy} {α : Type} {Q : α → sProp (MT nD τ sig Unit Val ℕ U ℕ)}

/-- A load through a rectangle of an owned memref continues at the memref's contents under the rectangle's indices. -/
theorem owns_load {m : Memref sig .tc cs s e} {r : Rect s} {hl : m.view.LoadsAt r.toLoadRect}
    {k : (r.shape.Idx → Val e) → Prog (TpuEff nD τ sig Val Λ .tc) α} {q : PosShare TreeShare} {X : s.Idx → Val e} :
    owns (d : Thread nD τ) m q X
      ⊢ iprop((owns (d : Thread nD τ) m q X -∗ wp frame (wpE defs 𝒱 (d : Thread nD τ) none) E (k fun x => X (r.emb x)) Q)
        -∗ wp frame (wpE defs 𝒱 (d : Thread nD τ) none) E (.op (.load m r.toLoadRect hl) k) Q) := by
  unfold owns
  iintro ⟨%f, %hf, H⟩ Hk
  iapply (wp_load_rect 𝒱 (d : Thread nD τ) none E (m := m) (r := r) (View.set_slice_subset _ _)) $$ H
  iintro H
  have e : (m.access r).read Val f = fun x => X (r.emb x) := by subst hf; rfl
  rw [e]
  iapply Hk
  iexists f; isplitr
  · ipureintro; exact hf
  · iexact H

/-- Where an index of a rectangle of a slice with unit axes dropped lies in the memref the slice is of. -/
abbrev inner (R : Rect s) (h : R.shape.Squeezes s') (r : Rect s') (x : r.shape.Idx) : s.Idx :=
  R.emb (Shape.reshapeEquiv h.numel_eq (r.emb x))

/-- The elements of a rectangle of a squeezed slice are elements of the memref. -/
theorem inner_subset (m : Memref sig .tc cs s e) (R : Rect s) (hR : ∀ a, R.stride a = 1) (h : R.shape.Squeezes s') (r : Rect s') :
    (((m.slice R hR).squeeze s' h).access r).set ⊆ m.view.set :=
  Finset.Subset.trans (View.set_slice_subset _ _)
    (Finset.Subset.trans (le_of_eq (View.set_reshape _ _)) (View.set_slice_subset m.view R))

/-- A load through a rectangle of a squeezed slice of an owned memref. -/
theorem owns_load_inner {m : Memref sig .tc cs s e} {R : Rect s} {hR : ∀ a, R.stride a = 1} {h : R.shape.Squeezes s'} {r : Rect s'}
    {hl : ((m.slice R hR).squeeze s' h).view.LoadsAt r.toLoadRect}
    {k : (r.shape.Idx → Val e) → Prog (TpuEff nD τ sig Val Λ .tc) α} {q : PosShare TreeShare} {X : s.Idx → Val e} :
    owns (d : Thread nD τ) m q X
      ⊢ iprop((owns (d : Thread nD τ) m q X -∗ wp frame (wpE defs 𝒱 (d : Thread nD τ) none) E (k fun x => X (inner R h r x)) Q)
        -∗ wp frame (wpE defs 𝒱 (d : Thread nD τ) none) E (.op (.load ((m.slice R hR).squeeze s' h) r.toLoadRect hl) k) Q) := by
  unfold owns
  iintro ⟨%f, %hf, H⟩ Hk
  iapply (wp_load_rect 𝒱 (d : Thread nD τ) none E (m := (m.slice R hR).squeeze s' h) (r := r)
    (inner_subset m R hR h r)) $$ H
  iintro H
  have e : (((m.slice R hR).squeeze s' h).access r).read Val f = fun x => X (inner R h r x) := by subst hf; rfl
  rw [e]
  iapply Hk
  iexists f; isplitr
  · ipureintro; exact hf
  · iexact H

/-- A store of a whole rectangle of an owned memref leaves contents `X'` that hold the vector under the rectangle and are the old
    ones outside it. -/
theorem owns_store {m : Memref sig .tc cs s e} {r : Rect s} {w : r.shape.Idx → Val e} {hx : (m.access r).Stores Finset.univ}
    {hm : Finset.univ = Finset.univ ∨ ∀ a, r.stride a = 1} {k : PUnit → Prog (TpuEff nD τ sig Val Λ .tc) α} {X : s.Idx → Val e}
    (X' : s.Idx → Val e) (hin : ∀ x, X' (r.emb x) = w x) (hout : ∀ y, (∀ x, r.emb x ≠ y) → X' y = X y) :
    owns (d : Thread nD τ) m fullShare X
      ⊢ iprop((owns (d : Thread nD τ) m fullShare X' -∗ wp frame (wpE defs 𝒱 (d : Thread nD τ) none) E (k ⟨⟩) Q)
        -∗ wp frame (wpE defs 𝒱 (d : Thread nD τ) none) E (.op (.store m r w Finset.univ hx hm) k) Q) := by
  unfold owns
  iintro ⟨%f, %hf, H⟩ Hk
  iapply (wp_store 𝒱 (d : Thread nD τ) none E (m := m) (r := r) (Mk := Finset.univ) (View.set_slice_subset _ _)) $$ H
  iintro H
  iapply Hk
  iexists ((m.access r).write Val f w Finset.univ); isplitr
  · ipureintro
    funext y
    by_cases hy : ∃ x, r.emb x = y
    · obtain ⟨x, rfl⟩ := hy
      rw [hin]
      exact congrFun (View.read_write_univ (v := m.access r) f w) x
    · have hne : ∀ x, r.emb x ≠ y := fun x hx => hy ⟨x, hx⟩
      rw [hout y hne, ← hf]
      show cast _ _ = cast _ _
      rw [View.write_of_not_mem]
      simp only [View.setOn, Finset.mem_map, Finset.mem_univ, true_and, not_exists]
      exact fun x hx => hne x (m.view.emb.injective hx)
  · iexact H

/-- A store of a whole rectangle of a squeezed slice of an owned memref. -/
theorem owns_store_inner {m : Memref sig .tc cs s e} {R : Rect s} {hR : ∀ a, R.stride a = 1} {h : R.shape.Squeezes s'} {r : Rect s'}
    {w : r.shape.Idx → Val e} {hx : (((m.slice R hR).squeeze s' h).access r).Stores Finset.univ}
    {hm : Finset.univ = Finset.univ ∨ ∀ a, r.stride a = 1} {k : PUnit → Prog (TpuEff nD τ sig Val Λ .tc) α} {X : s.Idx → Val e}
    (X' : s.Idx → Val e) (hin : ∀ x, X' (inner R h r x) = w x) (hout : ∀ y, (∀ x, inner R h r x ≠ y) → X' y = X y) :
    owns (d : Thread nD τ) m fullShare X
      ⊢ iprop((owns (d : Thread nD τ) m fullShare X' -∗ wp frame (wpE defs 𝒱 (d : Thread nD τ) none) E (k ⟨⟩) Q)
        -∗ wp frame (wpE defs 𝒱 (d : Thread nD τ) none) E (.op (.store ((m.slice R hR).squeeze s' h) r w Finset.univ hx hm) k) Q) := by
  unfold owns
  iintro ⟨%f, %hf, H⟩ Hk
  iapply (wp_store 𝒱 (d : Thread nD τ) none E (m := (m.slice R hR).squeeze s' h) (r := r) (Mk := Finset.univ)
    (inner_subset m R hR h r)) $$ H
  iintro H
  iapply Hk
  iexists ((((m.slice R hR).squeeze s' h).access r).write Val f w Finset.univ); isplitr
  · ipureintro
    funext y
    by_cases hy : ∃ x, inner R h r x = y
    · obtain ⟨x, rfl⟩ := hy
      rw [hin]
      exact congrFun (View.read_write_univ (v := ((m.slice R hR).squeeze s' h).access r) f w) x
    · have hne : ∀ x, inner R h r x ≠ y := fun x hx => hy ⟨x, hx⟩
      rw [hout y hne, ← hf]
      show cast _ _ = cast _ _
      rw [View.write_of_not_mem]
      simp only [View.setOn, Finset.mem_map, Finset.mem_univ, true_and, not_exists]
      exact fun x hx => hne x (m.view.emb.injective hx)
  · iexact H

end Cert.Proof

end
-- ==== Proof.Step.lean ====
/- One region of interest of a grid point, over any memrefs: the copy of its seven table rows into the scratch buffer, and the seven
   columns of bins computed from it; what the buffers hold after each. -/
module

public import proofs.«01_k».proof.Proof.Access
public import Idealize.ShloMosaic.Lib.Pipeline.Value

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ### The shapes -/

/-- The shape of the table of words. -/
abbrev TblS : Shape := ⟨3, ![7, 7, 1024]⟩
/-- One word of it. -/
abbrev OneS : Shape := ⟨3, ![1, 1, 1]⟩
/-- The shape of the table of rows. -/
abbrev TabS : Shape := ⟨3, ![250, 50, 512]⟩
/-- One row of it, -/
abbrev RowS : Shape := ⟨3, ![1, 50, 512]⟩
/-- and the same without its leading axis. -/
abbrev RowFlatS : Shape := ⟨2, ![50, 512]⟩
/-- The shape of the scratch buffer. -/
abbrev BufS : Shape := ⟨4, ![2, 7, 50, 512]⟩
/-- Half of it, -/
abbrev HalfS : Shape := ⟨4, ![1, 7, 50, 512]⟩
/-- and the same without its leading axis. -/
abbrev SqS : Shape := ⟨3, ![7, 50, 512]⟩
/-- One column of a half, -/
abbrev ColS : Shape := ⟨3, ![7, 1, 512]⟩
/-- and the same without its middle axis. -/
abbrev ColFlatS : Shape := ⟨2, ![7, 512]⟩
/-- The shape of the output block. -/
abbrev OutS : Shape := ⟨4, ![32, 7, 7, 512]⟩
/-- The part of it that one step writes. -/
abbrev CellS : Shape := ⟨4, ![1, 1, 7, 512]⟩

/-- An array of rank three at natural numbers, each taken modulo its extent. -/
def at3 {β : Type} {d : Fin 3 → ℕ} (hd : ∀ a, 0 < d a) (X : (⟨3, d⟩ : Shape).Idx → β) (a b c : ℕ) : β :=
  X fun k => ⟨![a, b, c] k % d k, Nat.mod_lt _ (hd k)⟩

/-- At an index's own coordinates it is the array at the index. -/
theorem at3_eq {β : Type} {d : Fin 3 → ℕ} (hd : ∀ a, 0 < d a) (X : (⟨3, d⟩ : Shape).Idx → β) (y : (⟨3, d⟩ : Shape).Idx) {a b c : ℕ}
    (h0 : (y 0).val = a) (h1 : (y 1).val = b) (h2 : (y 2).val = c) : X y = at3 hd X a b c := by
  subst h0 h1 h2
  unfold at3
  congr 1
  funext k
  apply Fin.ext
  match k with
  | 0 => exact (Nat.mod_eq_of_lt (y 0).isLt).symm
  | 1 => exact (Nat.mod_eq_of_lt (y 1).isLt).symm
  | 2 => exact (Nat.mod_eq_of_lt (y 2).isLt).symm

/-- No axis of the table of words is empty. -/
theorem tbl_pos : ∀ a, 0 < (![7, 7, 1024] : Fin 3 → ℕ) a := by decide
/-- No axis of the table of rows is empty. -/
theorem tab_pos : ∀ a, 0 < (![250, 50, 512] : Fin 3 → ℕ) a := by decide

variable {F : FTy → Type} [FloatOps F]

/-- The table word in slot `b` of bin `a` of region `n`. -/
abbrev wordAt (T : TblS.Idx → Elt F .i32) (a b n : ℕ) : BitVec 32 := at3 (β := Elt F .i32) tbl_pos T a b n
/-- The entry of the row table at row `r`, column `w`, channel `ch`. -/
abbrev tabAt (tab : TabS.Idx → Elt F .f32) (r w ch : ℕ) : Elt F .f32 := at3 tab_pos tab r w ch

/-- The entry of the row table that the bin (row bin `i`, column bin `j`) of region `n` reads at its step `k`. -/
def term (T : TblS.Idx → Elt F .i32) (tab : TabS.Idx → Elt F .f32) (n j i ch k : ℕ) : Elt F .f32 :=
  tabAt tab (wordAt T i 0 n).toNat (wordAt T j (2 + k) n).toNat ch

/-- The result of the bin: the five terms' maximum. -/
def binMax (T : TblS.Idx → Elt F .i32) (tab : TabS.Idx → Elt F .f32) (n j i ch : ℕ) : Elt F .f32 :=
  FloatOps.maximumf (FloatOps.maximumf (FloatOps.maximumf (FloatOps.maximumf (term T tab n j i ch 0) (term T tab n j i ch 1))
    (term T tab n j i ch 2)) (term T tab n j i ch 3)) (term T tab n j i ch 4)

/-- Half `p` of the scratch buffer holds, in its first `n` rows, the table rows of region `b`. -/
def RowsOK (T : TblS.Idx → Elt F .i32) (tab : TabS.Idx → Elt F .f32) (b p n : ℕ) (R : BufS.Idx → Elt F .f32) : Prop :=
  ∀ y : BufS.Idx, (y 0).val = p → (y 1).val < n → R y = tabAt tab (wordAt T (y 1).val 0 b).toNat (y 2).val (y 3).val

/-- The output block of grid point `g` holds the results of its first `u` regions and of the first `j` columns of bins of region `u`. -/
def OutOK (T : TblS.Idx → Elt F .i32) (tab : TabS.Idx → Elt F .f32) (g u j : ℕ) (O : OutS.Idx → Elt F .f32) : Prop :=
  ∀ y : OutS.Idx, (y 0).val < u ∨ ((y 0).val = u ∧ (y 1).val < j) →
    O y = binMax T tab (32 * g + (y 0).val) (y 1).val (y 2).val (y 3).val

/-- Every table word names a row of the row table in slot 0 and a column in slots 2 to 6. -/
structure TblOK (T : TblS.Idx → Elt F .i32) : Prop where
  row : ∀ y : TblS.Idx, (y 1).val = 0 → (T y : BitVec 32).toNat < 250
  col : ∀ y : TblS.Idx, 2 ≤ (y 1).val → (T y : BitVec 32).toNat < 50

/-! ### The operations -/

/-- The offsets of the word of bin `a`, slot `b`, region `u` of grid point `g`, as the kernel computes them. -/
def wordOff (g a b u : ℕ) : Fin 3 → ℕ :=
  ![a, b, (Scalar.indexCast (Scalar.addi (Scalar.muli (BitVec.ofNat 32 g) 32#32) (BitVec.ofNat 32 u))).toNat]
/-- The offsets of the row of the row table that a word names. -/
def rowOff (v : BitVec 32) : Fin 3 → ℕ := ![(Scalar.indexCast v).toNat, 0, 0]
/-- The offsets of the column of the scratch rows that a word names. -/
def colOff (v : BitVec 32) : Fin 3 → ℕ := ![0, (Scalar.indexCast v).toNat, 0]
/-- The row a word names is one of the row table's. -/
def RowIn (v : BitVec 32) : Prop := ∀ a, rowOff v a + RowS.size a ≤ TabS.size a
/-- The column a word names is one of the scratch rows'. -/
def ColIn (v : BitVec 32) : Prop := ∀ a, colOff v a + ColS.size a ≤ SqS.size a

variable {nD : Nat} {τ : Topo} {sig : RefSig} {U : Type} [URA U] {Λ : Labels}

/-- Where a rectangle of unit strides puts an index. -/
theorem unit_val {s : Shape} (off size : Fin s.rank → ℕ) (h : ∀ a, off a + size a ≤ s.size a) (x : (Rect.unit (s := s) off size h).shape.Idx)
    (a : Fin s.rank) : ((Rect.unit (s := s) off size h).emb x a).val = off a + (x a).val := by
  show off a + 1 * (x a).val = _
  rw [Nat.one_mul]

/-- The position of region `u` of grid point `g`. -/
theorem wordOff_two {g u : ℕ} (hg : g < 32) (hu : u < 32) :
    (Scalar.indexCast (Scalar.addi (Scalar.muli (BitVec.ofNat 32 g) 32#32) (BitVec.ofNat 32 u))).toNat = 32 * g + u := by
  simp [Scalar.indexCast, Scalar.addi, IntOp.addi, Scalar.muli, IntOp.muli, BitVec.toNat_add, BitVec.toNat_mul, BitVec.toNat_ofNat]
  omega

/-- A word of the tables lies in them. -/
theorem wordOff_inb {g a b u : ℕ} (ha : a < 7) (hb : b < 7) (hg : g < 32) (hu : u < 32) :
    ∀ k, wordOff g a b u k + OneS.size k ≤ TblS.size k := fun k => by
  match k with
  | 0 => exact ha
  | 1 => exact hb
  | 2 => show (Scalar.indexCast (Scalar.addi (Scalar.muli (BitVec.ofNat 32 g) 32#32) (BitVec.ofNat 32 u))).toNat + 1 ≤ 1024
         rw [wordOff_two hg hu]; omega

/-- One word has one entry. -/
theorem one_numel : OneS.numel = 1 := by decide
/-- A row has entries. -/
theorem row_numel : 0 < RowS.numel := by decide
/-- A column has entries. -/
theorem col_numel : 0 < ColS.numel := by decide
/-- A written part has entries. -/
theorem cell_numel : 0 < CellS.numel := by decide
/-- A half loses its leading axis of extent one. -/
theorem half_squeezes : HalfS.Squeezes SqS := by decide
/-- A row has as many entries without its leading axis, -/
theorem row_flat : RowS.ShapeCasts RowFlatS := by decide
/-- and the other way about. -/
theorem flat_row : RowFlatS.ShapeCasts RowS := by decide
/-- A column has as many entries without its middle axis. -/
theorem col_flat : ColS.ShapeCasts ColFlatS := by decide
/-- A written part has as many entries as a column. -/
theorem flat_cell : ColFlatS.ShapeCasts CellS := by decide

/-- Each half of the scratch buffer lies in it. -/
theorem half_inb {p : ℕ} (hp : p < 2) : ∀ a, (![p, 0, 0, 0] : Fin 4 → ℕ) a + HalfS.size a ≤ BufS.size a := fun a => by
  match a with
  | 0 => exact hp
  | 1 => exact le_refl 7
  | 2 => exact le_refl 50
  | 3 => exact le_refl 512

/-- Each of the seven rows lies in a half. -/
theorem row_inb {r : ℕ} (hr : r < 7) : ∀ a, (![r, 0, 0] : Fin 3 → ℕ) a + RowS.size a ≤ SqS.size a := fun a => by
  match a with
  | 0 => exact hr
  | 1 => exact le_refl 50
  | 2 => exact le_refl 512

/-- Each region's column of bins lies in the output block. -/
theorem cell_inb {u j : ℕ} (hu : u < 32) (hj : j < 7) : ∀ a, (![u, j, 0, 0] : Fin 4 → ℕ) a + CellS.size a ≤ OutS.size a := fun a => by
  match a with
  | 0 => exact hu
  | 1 => exact hj
  | 2 => exact le_refl 7
  | 3 => exact le_refl 512

/-- One half of the scratch buffer, its leading axis dropped. -/
abbrev half (a4 : Memref sig .tc .vmem BufS .f32) {p : ℕ} (hp : p < 2) : Memref sig .tc .vmem SqS .f32 :=
  (a4.slice (Rect.unit (s := BufS) ![p, 0, 0, 0] HalfS.size (half_inb hp)) (fun _ => rfl)).squeeze SqS half_squeezes

/-- The one element of a vector of one. -/
abbrev only (f : OneS.Idx → Elt F .i32) : BitVec 32 := f (Shape.Idx.first (one_numel.symm ▸ Nat.one_pos))

/-- One scratch row: its word is read and assumed a row's, the table row is loaded and stored. -/
def rowUnit (a1 : Memref sig .tc .smem TblS .i32) (a2 : Memref sig .tc .vmem TabS .f32) (a4 : Memref sig .tc .vmem BufS .f32)
    (dec : ∀ v, Decidable (RowIn v)) {g u p r : ℕ} (hg : g < 32) (hu : u < 32) (hp : p < 2) (hr : r < 7)
    (K : Prog (TpuEff nD τ sig (Elt F) Λ .tc) PUnit) : Prog (TpuEff nD τ sig (Elt F) Λ .tc) PUnit :=
  .op (.load a1 (Rect.unit (s := TblS) (wordOff g r 0 u) OneS.size (wordOff_inb hr (by decide) hg hu)).toLoadRect
    (View.loadsAt_rect (View.loads_smem_one rfl one_numel))) fun (f : OneS.Idx → Elt F .i32) =>
  .op (.assume (RowIn (only f)) (dec _)) fun h =>
  .op (.load a2 (Rect.unit (s := TabS) (rowOff (only f)) RowS.size h.down).toLoadRect (View.loadsAt_vmem row_numel)) fun x =>
  .op (.load (half a4 hp) (Rect.unit (s := SqS) ![r, 0, 0] RowS.size (row_inb hr)).toLoadRect (View.loadsAt_vmem row_numel)) fun _ =>
  .op (.store (half a4 hp) (Rect.unit (s := SqS) ![r, 0, 0] RowS.size (row_inb hr)) (shapeCast RowS (shapeCast RowFlatS x row_flat) flat_row)
    Finset.univ (View.stores_vmem_bits_univ row_numel rfl) (.inl rfl)) fun _ => K

/-- One column read of the scratch rows: its word is read and assumed a column's, and the column loaded. -/
def colRead (a1 : Memref sig .tc .smem TblS .i32) (a4 : Memref sig .tc .vmem BufS .f32) (dec : ∀ v, Decidable (ColIn v)) {g u p j k : ℕ}
    (hg : g < 32) (hu : u < 32) (hp : p < 2) (hj : j < 7) (hk : k < 7)
    (K : (ColS.Idx → Elt F .f32) → Prog (TpuEff nD τ sig (Elt F) Λ .tc) PUnit) : Prog (TpuEff nD τ sig (Elt F) Λ .tc) PUnit :=
  .op (.load a1 (Rect.unit (s := TblS) (wordOff g j k u) OneS.size (wordOff_inb hj hk hg hu)).toLoadRect
    (View.loadsAt_rect (View.loads_smem_one rfl one_numel))) fun (f : OneS.Idx → Elt F .i32) =>
  .op (.assume (ColIn (only f)) (dec _)) fun h =>
  .op (.load (half a4 hp) (Rect.unit (s := SqS) (colOff (only f)) ColS.size h.down).toLoadRect (View.loadsAt_vmem col_numel)) K

/-- One column of bins: five column reads, their maximum stored in the output block. -/
def colUnit (a1 : Memref sig .tc .smem TblS .i32) (a3 : Memref sig .tc .vmem OutS .f32) (a4 : Memref sig .tc .vmem BufS .f32)
    (dec : ∀ v, Decidable (ColIn v)) {g u p j : ℕ} (hg : g < 32) (hu : u < 32) (hp : p < 2) (hj : j < 7)
    (K : Prog (TpuEff nD τ sig (Elt F) Λ .tc) PUnit) : Prog (TpuEff nD τ sig (Elt F) Λ .tc) PUnit :=
  colRead a1 a4 dec (k := 2) hg hu hp hj (by decide) fun x0 =>
  colRead a1 a4 dec (k := 3) hg hu hp hj (by decide) fun x1 =>
  colRead a1 a4 dec (k := 4) hg hu hp hj (by decide) fun x2 =>
  colRead a1 a4 dec (k := 5) hg hu hp hj (by decide) fun x3 =>
  colRead a1 a4 dec (k := 6) hg hu hp hj (by decide) fun x4 =>
  .op (.load a3 (Rect.unit (s := OutS) ![u, j, 0, 0] CellS.size (cell_inb hu hj)).toLoadRect (View.loadsAt_vmem cell_numel)) fun _ =>
  .op (.store a3 (Rect.unit (s := OutS) ![u, j, 0, 0] CellS.size (cell_inb hu hj))
    (shapeCast CellS (shapeCast ColFlatS (maximumf (maximumf (maximumf (maximumf x0 x1) x2) x3) x4) col_flat) flat_cell)
    Finset.univ (View.stores_vmem_bits_univ cell_numel rfl) (.inl rfl)) fun _ => K

/-! ### What they do -/

variable {defs : Defs nD τ sig (Elt F) Λ} (𝒱 : Variants) (d : Dev nD)
variable (a1 : Memref sig .tc .smem TblS .i32) (a2 : Memref sig .tc .vmem TabS .f32) (a3 : Memref sig .tc .vmem OutS .f32)
  (a4 : Memref sig .tc .vmem BufS .f32) (q1 q2 : PosShare TreeShare) (T : TblS.Idx → Elt F .i32) (tab : TabS.Idx → Elt F .f32)

/-- The four buffers inside grid point `g`: the tables, the output block done up to column `j` of region `u`, and half `p` of the scratch
    buffer done up to row `n` of that region. -/
def Inv (g u j p n : ℕ) : sProp (MT nD τ sig Unit (Elt F) ℕ U ℕ) :=
  iprop(owns (d : Thread nD τ) a1 q1 T ∗ owns (d : Thread nD τ) a2 q2 tab
    ∗ (∃ O, ⌜OutOK T tab g u j O⌝ ∗ owns (d : Thread nD τ) a3 fullShare O)
    ∗ (∃ R, ⌜RowsOK T tab (32 * g + u) p n R⌝ ∗ owns (d : Thread nD τ) a4 fullShare R))

/-- The word the kernel reads is the table's at the region's position. -/
theorem word_read {g a b u : ℕ} (hg : g < 32) (hu : u < 32) (hw : ∀ k, wordOff g a b u k + OneS.size k ≤ TblS.size k) (x : OneS.Idx) :
    T ((Rect.unit (s := TblS) (wordOff g a b u) OneS.size hw).emb x) = wordAt T a b (32 * g + u) := by
  have hx : ∀ k, (x k).val = 0 := fun k => by
    have := (x k).isLt
    match k with
    | 0 => exact Nat.lt_one_iff.mp this
    | 1 => exact Nat.lt_one_iff.mp this
    | 2 => exact Nat.lt_one_iff.mp this
  apply at3_eq
  · rw [unit_val, hx]; rfl
  · rw [unit_val, hx]; rfl
  · rw [unit_val, hx]; exact wordOff_two hg hu

/-- An index of the squeezed half, the unit axis put back. -/
theorem reshapeEquiv_half (z : SqS.Idx) : Shape.reshapeEquiv half_squeezes.numel_eq z = (Fin.cons ⟨0, Nat.one_pos⟩ z : HalfS.Idx) :=
  Shape.reshapeEquiv_cons_one _ z

/-- Where a rectangle of the squeezed half of the scratch buffer lies in the buffer: the half first, -/
theorem inner_zero {p : ℕ} (hp : p < 2) (r : Rect SqS) (x : r.shape.Idx) :
    (inner (Rect.unit (s := BufS) ![p, 0, 0, 0] HalfS.size (half_inb hp)) half_squeezes r x 0).val = p := by
  show ((Rect.unit (s := BufS) ![p, 0, 0, 0] HalfS.size (half_inb hp)).emb _ 0).val = p
  rw [unit_val, reshapeEquiv_half]
  rfl

/-- then the rectangle's own coordinates. -/
theorem inner_succ {p : ℕ} (hp : p < 2) (r : Rect SqS) (x : r.shape.Idx) (a : Fin 3) :
    (inner (Rect.unit (s := BufS) ![p, 0, 0, 0] HalfS.size (half_inb hp)) half_squeezes r x a.succ).val = (r.emb x a).val := by
  show ((Rect.unit (s := BufS) ![p, 0, 0, 0] HalfS.size (half_inb hp)).emb _ a.succ).val = _
  rw [unit_val, reshapeEquiv_half]
  match a with
  | 0 => exact Nat.zero_add _
  | 1 => exact Nat.zero_add _
  | 2 => exact Nat.zero_add _

/-- The same coordinate by coordinate, for a rectangle of unit strides. -/
theorem inner_one {p : ℕ} (hp : p < 2) (off size : Fin 3 → ℕ) (h : ∀ a, off a + size a ≤ SqS.size a)
    (x : (Rect.unit (s := SqS) off size h).shape.Idx) {n : ℕ} (hn : off 0 + (x 0).val = n) :
    (inner (Rect.unit (s := BufS) ![p, 0, 0, 0] HalfS.size (half_inb hp)) half_squeezes (Rect.unit (s := SqS) off size h) x 1).val = n :=
  (inner_succ hp _ x 0).trans ((unit_val (s := SqS) off size h x 0).trans hn)
/-- A place in a half is at the same row's column in the buffer. -/
theorem inner_two {p : ℕ} (hp : p < 2) (off size : Fin 3 → ℕ) (h : ∀ a, off a + size a ≤ SqS.size a)
    (x : (Rect.unit (s := SqS) off size h).shape.Idx) {n : ℕ} (hn : off 1 + (x 1).val = n) :
    (inner (Rect.unit (s := BufS) ![p, 0, 0, 0] HalfS.size (half_inb hp)) half_squeezes (Rect.unit (s := SqS) off size h) x 2).val = n :=
  (inner_succ hp _ x 1).trans ((unit_val (s := SqS) off size h x 1).trans hn)
/-- A place in a half is at the same channel in the buffer. -/
theorem inner_three {p : ℕ} (hp : p < 2) (off size : Fin 3 → ℕ) (h : ∀ a, off a + size a ≤ SqS.size a)
    (x : (Rect.unit (s := SqS) off size h).shape.Idx) {n : ℕ} (hn : off 2 + (x 2).val = n) :
    (inner (Rect.unit (s := BufS) ![p, 0, 0, 0] HalfS.size (half_inb hp)) half_squeezes (Rect.unit (s := SqS) off size h) x 3).val = n :=
  (inner_succ hp _ x 2).trans ((unit_val (s := SqS) off size h x 2).trans hn)

/-- A vector cast to the flat row and back is the vector. -/
theorem row_cast (x : RowS.Idx → Elt F .f32) : shapeCast RowS (shapeCast RowFlatS x row_flat) flat_row = x :=
  shapeCast_shapeCast _ _ _

/-- A column cast to the output block's cells, at an index: the column at the cell's row bin and channel. -/
theorem col_cast (x : ColS.Idx → Elt F .f32) (y : CellS.Idx) (z : ColS.Idx) (h0 : (z 0).val = (y 2).val) (h2 : (z 2).val = (y 3).val) :
    shapeCast CellS (shapeCast ColFlatS x col_flat) flat_cell y = x z := by
  have hy0 := Nat.lt_one_iff.mp (y 0).isLt
  have hy1 := Nat.lt_one_iff.mp (y 1).isLt
  have hz1 := Nat.lt_one_iff.mp (z 1).isLt
  rw [shapeCast_apply _ flat_cell y (fun a => match a with | 0 => y 2 | 1 => y 3), shapeCast_apply _ col_flat _ z]
  · rw [Shape.rowMajor_val_two, Shape.rowMajor_val_three, hz1, h0, h2]
    show ((y 2).val * 1 + 0) * 512 + (y 3).val = (y 2).val * 512 + (y 3).val
    omega
  · rw [Shape.rowMajor_val_two, Shape.rowMajor_val_four, hy0, hy1]
    simp

end Cert.Proof

end
-- ==== Proof.Region.lean ====
/- The rest of a grid point's program after some regions, as a judgement that the units of a region advance. -/
module

public import proofs.«01_k».proof.Proof.Step

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {U : Type} [URA U] {Λ : Labels}
variable (defs : Defs nD τ sig (Elt F) Λ) (𝒱 : Variants) (d : Dev nD)
variable (a1 : Memref sig .tc .smem TblS .i32) (a2 : Memref sig .tc .vmem TabS .f32) (a3 : Memref sig .tc .vmem OutS .f32)
  (a4 : Memref sig .tc .vmem BufS .f32) (q1 q2 : PosShare TreeShare) (T : TblS.Idx → Elt F .i32) (tab : TabS.Idx → Elt F .f32)

/-- The program `P` finishes grid point `g` from the buffers done up to row `n` of the scratch half `p` and column `j` of region `u`. -/
def Good (U : Type) [URA U] (g u j p n : ℕ) (P : Prog (TpuEff nD τ sig (Elt F) Λ .tc) PUnit) : Prop :=
  ∀ (E : Set ℕ) (Q : PUnit → sProp (MT nD τ sig Unit (Elt F) ℕ U ℕ)),
    Inv (U := U) d a1 a2 a3 a4 q1 q2 T tab g u j p n
      ⊢ iprop((Inv (U := U) d a1 a2 a3 a4 q1 q2 T tab g 32 0 0 0 -∗ Q ⟨⟩) -∗ wp frame (wpE defs 𝒱 (d : Thread nD τ) none) E P Q)

variable {defs 𝒱 d a1 a2 a3 a4 q1 q2 T tab} {g u j p n : ℕ}

/-- A word in slot 0 of the tables names a row of the row table. -/
theorem rowIn_of (hT : TblOK T) {a b : ℕ} : RowIn (wordAt T a 0 b) := fun k => by
  have h : (wordAt T a 0 b : BitVec 32).toNat < 250 := hT.row _ rfl
  match k with
  | 0 => exact h
  | 1 => exact le_refl 50
  | 2 => exact le_refl 512

/-- A word in slots 2 to 6 of the tables names a column. -/
theorem colIn_of (hT : TblOK T) {a s b : ℕ} (hs : 2 ≤ s) (hs' : s < 7) : ColIn (wordAt T a s b) := fun k => by
  have h : (wordAt T a s b : BitVec 32).toNat < 50 := hT.col _ (le_of_le_of_eq hs (Nat.mod_eq_of_lt hs').symm)
  match k with
  | 0 => exact le_refl 7
  | 1 => exact h
  | 2 => exact le_refl 512

/-- The scratch buffer with row `r` of its half `p` filled for region `b`. -/
def rowAfter (T : TblS.Idx → Elt F .i32) (tab : TabS.Idx → Elt F .f32) (b p r : ℕ) (R : BufS.Idx → Elt F .f32) : BufS.Idx → Elt F .f32 :=
  fun y => if (y 0).val = p ∧ (y 1).val = r then tabAt tab (wordAt T r 0 b).toNat (y 2).val (y 3).val else R y

/-- It holds one row more than before. -/
theorem rowAfter_ok {b r : ℕ} {R : BufS.Idx → Elt F .f32} (hR : RowsOK T tab b p r R) : RowsOK T tab b p (r + 1) (rowAfter T tab b p r R) := by
  intro y h0 h1
  unfold rowAfter
  by_cases h : (y 1).val = r
  · rw [if_pos ⟨h0, h⟩, h]
  · rw [if_neg fun hh => h hh.2]
    exact hR y h0 (lt_of_le_of_ne (Nat.lt_succ_iff.mp h1) h)

/-- At an index of the row it is the table row's entry, -/
theorem rowAfter_at {b r : ℕ} (R : BufS.Idx → Elt F .f32) (y : BufS.Idx) {c2 c3 : ℕ} (h0 : (y 0).val = p) (h1 : (y 1).val = r)
    (h2 : (y 2).val = c2) (h3 : (y 3).val = c3) : rowAfter T tab b p r R y = tabAt tab (wordAt T r 0 b).toNat c2 c3 := by
  subst h2 h3
  exact if_pos ⟨h0, h1⟩

/-- and so are the rows held before. -/
theorem rows_at {b n : ℕ} {R : BufS.Idx → Elt F .f32} (hR : RowsOK T tab b p n R) (y : BufS.Idx) {c1 c2 c3 : ℕ} (h0 : (y 0).val = p)
    (h1 : (y 1).val = c1) (hn : c1 < n) (h2 : (y 2).val = c2) (h3 : (y 3).val = c3) : R y = tabAt tab (wordAt T c1 0 b).toNat c2 c3 := by
  subst h1 h2 h3
  exact hR y h0 hn

/-- Under the row's rectangle it is the row of the row table that the word names. -/
theorem rowAfter_in {b r : ℕ} (R : BufS.Idx → Elt F .f32) (hp : p < 2) (hr : r < 7) {w : BitVec 32} (hw : w = wordAt T r 0 b)
    (h : ∀ a, rowOff w a + RowS.size a ≤ TabS.size a) (x : RowS.Idx) :
    rowAfter T tab b p r R (inner (Rect.unit (s := BufS) ![p, 0, 0, 0] HalfS.size (half_inb hp)) half_squeezes
        (Rect.unit (s := SqS) ![r, 0, 0] RowS.size (row_inb hr)) x)
      = tab ((Rect.unit (s := TabS) (rowOff w) RowS.size h).emb x) := by
  have hx0 : (x 0).val = 0 := Nat.lt_one_iff.mp (x 0).isLt
  have e1 := inner_one hp ![r, 0, 0] RowS.size (row_inb hr) x (n := r) (by rw [hx0]; rfl)
  have e2 := inner_two hp ![r, 0, 0] RowS.size (row_inb hr) x (n := (x 1).val) (Nat.zero_add _)
  have e3 := inner_three hp ![r, 0, 0] RowS.size (row_inb hr) x (n := (x 2).val) (Nat.zero_add _)
  refine (rowAfter_at R _ (inner_zero hp (Rect.unit (s := SqS) ![r, 0, 0] RowS.size (row_inb hr)) x) e1 e2 e3).trans ?_
  refine Eq.symm (at3_eq tab_pos tab _ ?_ ?_ ?_)
  · rw [unit_val, hx0, hw]; rfl
  · rw [unit_val]; exact Nat.zero_add _
  · rw [unit_val]; exact Nat.zero_add _

/-- Elsewhere it is as before. -/
theorem rowAfter_out {b r : ℕ} (R : BufS.Idx → Elt F .f32) (hp : p < 2) (hr : r < 7) (y : BufS.Idx)
    (hy : ∀ x : RowS.Idx, inner (Rect.unit (s := BufS) ![p, 0, 0, 0] HalfS.size (half_inb hp)) half_squeezes
        (Rect.unit (s := SqS) ![r, 0, 0] RowS.size (row_inb hr)) x ≠ y) :
    rowAfter T tab b p r R y = R y := by
  unfold rowAfter
  refine if_neg fun h => hy (fun a => match a with | 0 => ⟨0, Nat.one_pos⟩ | 1 => y 2 | 2 => y 3) ?_
  funext a
  apply Fin.ext
  match a with
  | 0 => exact (inner_zero hp _ _).trans h.1.symm
  | 1 => exact inner_one hp _ _ _ _ h.2.symm
  | 2 => exact inner_two hp _ _ _ _ (Nat.zero_add _)
  | 3 => exact inner_three hp _ _ _ _ (Nat.zero_add _)

/-- The unit of a scratch row extends the rows done by one. -/
theorem good_row (hT : TblOK T) (hg : g < 32) (hu : u < 32) {dec : ∀ v, Decidable (RowIn v)} {r : ℕ} (hr' : r < 7) (hp' : p < 2)
    {K : Prog (TpuEff nD τ sig (Elt F) Λ .tc) PUnit}
    (hK : Good defs 𝒱 d a1 a2 a3 a4 q1 q2 T tab U g u 0 p (r + 1) K) :
    Good defs 𝒱 d a1 a2 a3 a4 q1 q2 T tab U g u 0 p r (rowUnit a1 a2 a4 dec hg hu hp' hr' K) := by
  intro E Q
  unfold Inv rowUnit
  iintro ⟨H1, H2, H3, %R, %hR, H4⟩ Hk
  iapply (owns_load 𝒱 d E) $$ H1
  iintro H1
  have hw : only (fun x => T ((Rect.unit (s := TblS) (wordOff g r 0 u) OneS.size (wordOff_inb hr' (by decide) hg hu)).emb x))
      = wordAt T r 0 (32 * g + u) := word_read T hg hu _ _
  iapply (wp_assume 𝒱 (d : Thread nD τ) none E (hw ▸ rowIn_of hT))
  iapply (owns_load 𝒱 d E) $$ H2
  iintro H2
  iapply (owns_load_inner 𝒱 d E) $$ H4
  iintro H4
  iapply (owns_store_inner 𝒱 d E (rowAfter T tab (32 * g + u) p r R)
    (fun x => by rw [row_cast]; exact rowAfter_in R hp' hr' hw _ x) (fun y hy => rowAfter_out R hp' hr' y hy)) $$ H4
  iintro H4
  iapply (hK E Q) $$ [H1 H2 H3 H4]
  · unfold Inv
    isplitl [H1]; · iexact H1
    isplitl [H2]; · iexact H2
    isplitl [H3]; · iexact H3
    iexists _; isplitr
    on_goal 2 => iexact H4
    ipureintro
    exact rowAfter_ok hR
  · iexact Hk

/-- A column read under a word is, at an index, the entry of the row table that the word and the region's row word name. -/
theorem col_term {b j k : ℕ} {R : BufS.Idx → Elt F .f32} (hR : RowsOK T tab b p 7 R) (hp : p < 2) {w : BitVec 32}
    (hw : w = wordAt T j (2 + k) b) (h : ∀ a, colOff w a + ColS.size a ≤ SqS.size a) (z : ColS.Idx) :
    R (inner (Rect.unit (s := BufS) ![p, 0, 0, 0] HalfS.size (half_inb hp)) half_squeezes
        (Rect.unit (s := SqS) (colOff w) ColS.size h) z) = term T tab b j (z 0).val (z 2).val k := by
  have hz1 : (z 1).val = 0 := Nat.lt_one_iff.mp (z 1).isLt
  have e1 := inner_one hp (colOff w) ColS.size h z (n := (z 0).val) (Nat.zero_add _)
  have e2 := inner_two hp (colOff w) ColS.size h z (n := (wordAt T j (2 + k) b).toNat) (by rw [hz1, hw]; rfl)
  have e3 := inner_three hp (colOff w) ColS.size h z (n := (z 2).val) (Nat.zero_add _)
  have hz0 : (z 0).val < 7 := (z 0).isLt
  exact rows_at hR _ (inner_zero hp (Rect.unit (s := SqS) (colOff w) ColS.size h) z) e1 hz0 e2 e3

/-- The output block with the column of bins `j` of its region `u` filled. -/
def colAfter (T : TblS.Idx → Elt F .i32) (tab : TabS.Idx → Elt F .f32) (g u j : ℕ) (O : OutS.Idx → Elt F .f32) : OutS.Idx → Elt F .f32 :=
  fun y => if (y 0).val = u ∧ (y 1).val = j then binMax T tab (32 * g + u) j (y 2).val (y 3).val else O y

/-- It holds one column more than before. -/
theorem colAfter_ok {O : OutS.Idx → Elt F .f32} (hO : OutOK T tab g u j O) : OutOK T tab g u (j + 1) (colAfter T tab g u j O) := by
  intro y h
  unfold colAfter
  by_cases h' : (y 0).val = u ∧ (y 1).val = j
  · rw [if_pos h', h'.1, h'.2]
  · rw [if_neg h']
    exact hO y (by omega)

/-- Elsewhere it is as before. -/
theorem colAfter_out (O : OutS.Idx → Elt F .f32) (hu : u < 32) (hj : j < 7) (y : OutS.Idx)
    (hy : ∀ x : CellS.Idx, (Rect.unit (s := OutS) ![u, j, 0, 0] CellS.size (cell_inb hu hj)).emb x ≠ y) : colAfter T tab g u j O y = O y := by
  unfold colAfter
  refine if_neg fun h => hy (fun a => match a with | 0 => ⟨0, Nat.one_pos⟩ | 1 => ⟨0, Nat.one_pos⟩ | 2 => y 2 | 3 => y 3) ?_
  funext a
  apply Fin.ext
  rw [unit_val]
  match a with
  | 0 => exact h.1.symm
  | 1 => exact h.2.symm
  | 2 => exact Nat.zero_add _
  | 3 => exact Nat.zero_add _

/-- Under the column's rectangle it is the maximum of five columns that hold the bins' terms. -/
theorem colAfter_in (O : OutS.Idx → Elt F .f32) (hu : u < 32) (hj : j < 7) {x0 x1 x2 x3 x4 : ColS.Idx → Elt F .f32}
    (h0 : ∀ z, x0 z = term T tab (32 * g + u) j (z 0).val (z 2).val 0) (h1 : ∀ z, x1 z = term T tab (32 * g + u) j (z 0).val (z 2).val 1)
    (h2 : ∀ z, x2 z = term T tab (32 * g + u) j (z 0).val (z 2).val 2) (h3 : ∀ z, x3 z = term T tab (32 * g + u) j (z 0).val (z 2).val 3)
    (h4 : ∀ z, x4 z = term T tab (32 * g + u) j (z 0).val (z 2).val 4) (x : CellS.Idx) :
    colAfter T tab g u j O ((Rect.unit (s := OutS) ![u, j, 0, 0] CellS.size (cell_inb hu hj)).emb x)
      = shapeCast CellS (shapeCast ColFlatS (maximumf (maximumf (maximumf (maximumf x0 x1) x2) x3) x4) col_flat) flat_cell x := by
  have hx0 : (x 0).val = 0 := Nat.lt_one_iff.mp (x 0).isLt
  have hx1 : (x 1).val = 0 := Nat.lt_one_iff.mp (x 1).isLt
  rw [col_cast _ x (fun a => match a with | 0 => x 2 | 1 => ⟨0, Nat.one_pos⟩ | 2 => x 3) rfl rfl]
  unfold colAfter
  rw [if_pos ⟨by rw [unit_val, hx0]; rfl, by rw [unit_val, hx1]; rfl⟩, unit_val, unit_val]
  have e2 : (![u, j, 0, 0] : Fin 4 → ℕ) 2 + (x 2).val = (x 2).val := Nat.zero_add _
  have e3 : (![u, j, 0, 0] : Fin 4 → ℕ) 3 + (x 3).val = (x 3).val := Nat.zero_add _
  rw [e2, e3]
  unfold maximumf binMax
  rw [h0, h1, h2, h3, h4]

/-- One column read goes on with the column it read. -/
theorem col_read (hT : TblOK T) (hg : g < 32) (hu : u < 32) {dec : ∀ v, Decidable (ColIn v)} (hj : j < 7) (hp : p < 2) {k : ℕ} (hk : 2 + k < 7)
    {R : BufS.Idx → Elt F .f32} (hR : RowsOK T tab (32 * g + u) p 7 R) {E : Set ℕ} {Q : PUnit → sProp (MT nD τ sig Unit (Elt F) ℕ U ℕ)}
    {K : (ColS.Idx → Elt F .f32) → Prog (TpuEff nD τ sig (Elt F) Λ .tc) PUnit} :
    iprop(owns (d : Thread nD τ) a1 q1 T ∗ owns (d : Thread nD τ) a4 fullShare R)
      ⊢ iprop((∀ x : ColS.Idx → Elt F .f32, ⌜∀ z, x z = term T tab (32 * g + u) j (z 0).val (z 2).val k⌝ -∗
            iprop(owns (d : Thread nD τ) a1 q1 T ∗ owns (d : Thread nD τ) a4 fullShare R) -∗
            wp frame (wpE defs 𝒱 (d : Thread nD τ) none) E (K x) Q)
        -∗ wp frame (wpE defs 𝒱 (d : Thread nD τ) none) E (colRead a1 a4 dec (k := 2 + k) hg hu hp hj hk K) Q) := by
  unfold colRead
  iintro ⟨H1, H4⟩ Hk
  iapply (owns_load 𝒱 d E) $$ H1
  iintro H1
  have hw : only (fun x => T ((Rect.unit (s := TblS) (wordOff g j (2 + k) u) OneS.size (wordOff_inb hj hk hg hu)).emb x))
      = wordAt T j (2 + k) (32 * g + u) := word_read T hg hu _ _
  iapply (wp_assume 𝒱 (d : Thread nD τ) none E (hw ▸ colIn_of hT (Nat.le_add_right 2 k) hk))
  iapply (owns_load_inner 𝒱 d E) $$ H4
  iintro H4
  iapply Hk
  · ipureintro
    exact fun z => col_term hR hp hw _ z
  · isplitl [H1]
    · iexact H1
    · iexact H4

/-- The unit of a column of bins extends the columns done by one. -/
theorem good_col (hT : TblOK T) (hg : g < 32) (hu : u < 32) {dec : ∀ v, Decidable (ColIn v)} (hj : j < 7) (hp' : p < 2)
    {K : Prog (TpuEff nD τ sig (Elt F) Λ .tc) PUnit}
    (hK : Good defs 𝒱 d a1 a2 a3 a4 q1 q2 T tab U g u (j + 1) p 7 K) :
    Good defs 𝒱 d a1 a2 a3 a4 q1 q2 T tab U g u j p 7
      (colUnit a1 a3 a4 dec hg hu hp' hj K) := by
  intro E Q
  unfold Inv colUnit
  iintro ⟨H1, H2, ⟨%O, %hO, H3⟩, %R, %hR, H4⟩ Hk
  iapply (col_read hT hg hu hj hp' (k := 0) _ hR) $$ [H1 H4]
  · isplitl [H1]
    · iexact H1
    · iexact H4
  iintro %x0 %h0 H
  iapply (col_read hT hg hu hj hp' (k := 1) _ hR) $$ H
  iintro %x1 %h1 H
  iapply (col_read hT hg hu hj hp' (k := 2) _ hR) $$ H
  iintro %x2 %h2 H
  iapply (col_read hT hg hu hj hp' (k := 3) _ hR) $$ H
  iintro %x3 %h3 H
  iapply (col_read hT hg hu hj hp' (k := 4) _ hR) $$ H
  iintro %x4 %h4 ⟨H1, H4⟩
  iapply (owns_load 𝒱 d E) $$ H3
  iintro H3
  iapply (owns_store 𝒱 d E (colAfter T tab g u j O) (fun x => colAfter_in O hu hj h0 h1 h2 h3 h4 x) (fun y hy => colAfter_out O hu hj y hy)) $$ H3
  iintro H3
  iapply (hK E Q) $$ [H1 H2 H3 H4]
  · unfold Inv
    isplitl [H1]; · iexact H1
    isplitl [H2]; · iexact H2
    isplitl [H3]
    · iexists _; isplitr
      on_goal 2 => iexact H3
      ipureintro
      exact colAfter_ok hO
    · iexists R; isplitr
      · ipureintro; exact hR
      · iexact H4
  · iexact Hk

/-- After its seventh column a region is done, and the next one starts. -/
theorem good_next {p' : ℕ} {K : Prog (TpuEff nD τ sig (Elt F) Λ .tc) PUnit} (hK : Good defs 𝒱 d a1 a2 a3 a4 q1 q2 T tab U g (u + 1) 0 p' 0 K) :
    Good defs 𝒱 d a1 a2 a3 a4 q1 q2 T tab U g u 7 p 7 K := by
  intro E Q
  have hO : ∀ O, OutOK T tab g u 7 O → OutOK T tab g (u + 1) 0 O := fun O hO y hy => hO y <| by
    rcases hy with h | ⟨_, h⟩
    · rcases Nat.lt_succ_iff_lt_or_eq.mp h with h | h
      · exact .inl h
      · exact .inr ⟨h, (y 1).isLt⟩
    · exact absurd h (Nat.not_lt_zero _)
  suffices hI : Inv (U := U) d a1 a2 a3 a4 q1 q2 T tab g u 7 p 7 ⊢ Inv (U := U) d a1 a2 a3 a4 q1 q2 T tab g (u + 1) 0 p' 0 by
    exact BI.Entails.trans hI (hK E Q)
  unfold Inv
  iintro ⟨H1, H2, ⟨%O, %h, H3⟩, %R, %hR, H4⟩
  isplitl [H1]; · iexact H1
  isplitl [H2]; · iexact H2
  isplitl [H3]
  · iexists O; isplitr
    · ipureintro; exact hO O h
    · iexact H3
  iexists R; isplitr
  · ipureintro; exact fun y _ h => absurd h (Nat.not_lt_zero _)
  · iexact H4

/-- After the last region nothing is left to do. -/
theorem good_end : Good defs 𝒱 d a1 a2 a3 a4 q1 q2 T tab U g 32 0 0 0 (.ret ⟨⟩ : Prog (TpuEff nD τ sig (Elt F) Λ .tc) PUnit) := by
  intro E Q
  iintro H Hk
  rw [wp_ret]
  iapply fupd_intro
  iapply Hk
  iexact H

end Cert.Proof

end
-- ==== Proof.Run.lean ====
/- The launch: every grid point turns its staged buffers into its block of the result, and so the whole program runs to
   the end with the arguments unchanged. -/
module

public import proofs.«01_k».proof.Proof.Host
public import proofs.«01_k».proof.Proof.Body

@[expose] public section

noncomputable section

namespace Cert.Proof.K

open Cert.Kernel Cert.Kernel.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] (m : (ℓ : Loc nD τ sig) → Buf (Elt F) ℓ)

/-- The core's buffers when the launch starts. -/
abbrev V0 (c : Dev nD) : Valuation τ sig (Elt F) := StableHlo.after (opsAll (F := F)).flatten (fun b => m (c, b))
/-- The same, at a reference of the core. -/
abbrev V (c : Dev nD) (b : Ref sig .tc) : Buf (Elt F) ((c : Thread nD τ).loc b) := V0 m c (Proc.devRef .tc b)

set_option maxRecDepth 8000 in
set_option maxHeartbeats 1000000 in
/-- @main is the launch between the host operations. -/
theorem hmain (𝒱₀ : Variants) : Pipeline.HMainPK (Ix := Unit) (Name := ℕ) (U := UR sig nD τ) (Lvl := ℕ) pcfgs 0 defs₀ 𝒱₀ m (main (F := F)) (V m)
    (fun _ => Pipeline.chain ([hostOps1].map StableHlo.seq)) :=
  Pipeline.hmainP_around pcfgs 0 defs₀ 𝒱₀ m main opsAll [hostOps1] subAll freshAll main_chain

/-- The table of words when the launch starts. -/
def tbl : pre0.Contents (Elt F) := fun j => V m (0 : Dev nD) (pre0.ref j)
/-- The staged table is the table of words the host operations leave. -/
theorem V_pre (c : Dev nD) (j : Fin 1) : V m c (pre0.ref j) = tbl m j := by
  obtain rfl : c = 0 := Subsingleton.elim _ _; rfl
/-- The launch with its staged table is a lawful one. -/
abbrev adm : (pcfg0 (F := F)).Adm := ⟨tbl m, trivial⟩
/-- The launch at the staged table. -/
abbrev cfgM : Pipeline.Cfg sig Λ₀ := cfg0 (adm m)

/-- The operation after the launch touches no table of words. -/
theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro j
  fin_cases j
  simp only [StableHlo.unary_bufs, Finset.mem_insert, Finset.mem_singleton, not_or]
  and_intros <;> exact StableHlo.devRef_ne_of_ne (by decide)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  simp only [hostOps1, List.mem_cons, List.mem_nil_iff, or_false] at hop
  rcases hop with rfl
  rfl

/-- It writes no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.unary_writes, Finset.mem_singleton] <;> exact StableHlo.devRef_ne_of_ne (by decide)

/-- The words the body reads, and the table of rows it reads them against. -/
abbrev words (c : Dev nD) : TblS.Idx → Elt F .i32 := V m c main_v135
/-- The table of rows when the launch starts. -/
abbrev rows (c : Dev nD) : TabS.Idx → Elt F .f32 := V m c main_v26

/-- The words, entry by entry. -/
theorem words_at (c : Dev nD) (y : TblS.Idx) : words m c y
    = wordOf (cornerAt (F := F) (fun b => m (c, b)) (y 2) 0) (cornerAt (F := F) (fun b => m (c, b)) (y 2) 1)
        (cornerAt (F := F) (fun b => m (c, b)) (y 2) 2) (cornerAt (F := F) (fun b => m (c, b)) (y 2) 3) (y 0).val (y 1).val :=
  (congrArg (words m c) (eq_ix3 y)).trans (all_v135 _ (y 0) (y 1) (y 2))

/-- Every word names a row of the table of rows or a column of the image. -/
theorem words_ok (c : Dev nD) : TblOK (words m c) where
  row y h := by rw [words_at]; exact word_row _ _ _ _ _ (by omega)
  col y h := by rw [words_at]; exact word_col _ _ _ _ _ h (y 1).isLt

/-- The proof data of the launch: the table of rows stays, and each grid point leaves its thirty-two regions' maxima. -/
def dat (c : Dev nD) : Dat τ (Elt F) Unit ℕ (UR sig nD τ) ℕ (cfgM m) c where
  A w := V m c (Pipeline.arrRef spec0 w)
  after w t := match w with
    | 0 => rows m c
    | 1 => fun y : OutS.Idx => binMax (words m c) (rows m c) (32 * t.val + (y 0).val) (y 1).val (y 2).val (y 3).val
    | ⟨_ + 2, h⟩ => absurd h (Nat.not_lt.2 (Nat.le_add_left _ _))
  Φ _ := iprop(ΦA spec0 c ∗ ΦT pre0 (tbl m) c)
  q _ := fullShare
  owed _ := 0

/-- What the launch keeps and owes on each core. -/
abbrev dats (_ : Fin 1) (c : Dev nD) : Dat τ (Elt F) Unit ℕ (UR sig nD τ) ℕ (cfgM m) c := dat m c

/-- The block of the table of rows is the whole table. -/
theorem block_rows (c : Dev nD) (t : Fin (cfgM m).N) : (dat m c).blockOf 0 t = rows m c := by
  refine funext fun (y : TabS.Idx) => congrArg (rows m c) (funext fun a : Fin 3 => Fin.ext ?_)
  match a with
  | 0 => show 0 * 250 + 1 * (y 0).val = (y 0).val; omega
  | 1 => show 0 * 50 + 1 * (y 1).val = (y 1).val; omega
  | 2 => show 0 * 512 + 1 * (y 2).val = (y 2).val; omega

/-- The body finds the table of rows staged at every point. -/
theorem before_rows (c : Dev nD) (t : Fin (cfgM m).N) (d) : (dat m c).before 0 t d = rows m c := by
  rw [(dat m c).before_in_eq_fetched 0 rfl (fun _ => rfl) (fun _ _ _ => rfl) (fun t => (block_rows m c t).symm) t d]
  exact block_rows m c t

/-- The table of words as the body holds it. -/
theorem PhiT_eq (c : Dev nD) : (ΦT pre0 (tbl m) c : sProp (MT nD τ sig Unit (Elt F) ℕ (UR sig nD τ) ℕ))
    = iprop(owns (c : Thread nD τ) (Memref.whole main_v135) fullShare.right (words m c)) := by
  obtain rfl : c = 0 := Subsingleton.elim _ _
  unfold Pipeline.ΦT Pipeline.prefHeld
  rw [show (Finset.univ : Finset (Fin 1)) = {0} from by decide, bigSep_singleton]
  exact (owns_whole (0 : Dev nD).tc main_v135 fullShare.right (words m 0)).symm

/-- Nothing is asked of a block before any region is written. -/
theorem out_none {T : TblS.Idx → Elt F .i32} {tab : TabS.Idx → Elt F .f32} {g : ℕ} (O : OutS.Idx → Elt F .f32) : OutOK T tab g 0 0 O :=
  fun y hy => absurd hy (by omega)

/-- The only axis of the grid counts its points. -/
theorem coords_val (t : Fin (cfgM m).N) : (grid0.coords t 0).val = t.val := by
  show t.val / 1 % 32 = t.val
  rw [Nat.div_one]; exact Nat.mod_eq_of_lt t.isLt

/-- A block with all its regions written is the block of maxima of its grid point. -/
theorem out_all (c : Dev nD) (t : Fin (cfgM m).N) (O : OutS.Idx → Elt F .f32)
    (hO : OutOK (words m c) (rows m c) (grid0.coords t 0).val 32 0 O) : O = (dat m c).after 1 t := by
  funext (y : OutS.Idx)
  rw [hO y (.inl (y 0).isLt), coords_val m t]
  rfl

/-- The body the launch calls at a grid point, at the buffers of that point. -/
theorem body_eq (t : Fin (cfgM m).N) : defs₀ (F := F) .tc (cfgM m).body ((cfgM m).bodyArgs t ((cfgM m).slots t))
    = cc0_roi_maxpool (grid0.coords t) (Memref.whole main_v135) (Memref.isWhole_whole _) (spec0_0.stage ((cfgM m).slots t 0)) (hstage0_0 (((cfgM m).slots t 0).cast nbuf0_0))
          (spec0_1.stage ((cfgM m).slots t 1)) (hstage0_1 (((cfgM m).slots t 1).cast nbuf0_1)) (Memref.whole cc0_scratch0) (Memref.isWhole_whole _) := rfl

set_option maxRecDepth 8000 in
set_option maxHeartbeats 1000000 in
/-- Every grid point's body runs from its staged buffers to its block of the result. -/
theorem body_obligation (c : Dev nD) : BodyObligationLoose (dat m c) defs₀ Variants.none () Set.univ := fun t => by
  rewrite [bigSep_W0]
  rewrite [bigSep_W0]
  have i0 : (cfgM m).idle 0 ((cfgM m).grid.coords t) = false := rfl
  have i1 : (cfgM m).idle 1 ((cfgM m).grid.coords t) = false := rfl
  have l0 : (cfgM m).loose 0 = false := rfl
  have l1 : (cfgM m).loose 1 = false := rfl
  simp only [i0, i1, l0, l1]
  rw [show (dat m c).Φ t.castSucc = iprop(ΦA spec0 c ∗ ΦT pre0 (tbl m) c) from rfl, show (dat m c).Φ t.succ = iprop(ΦA spec0 c ∗ ΦT pre0 (tbl m) c) from rfl, PhiT_eq]
  unfold ΦA
  rw [scopedRest0_eq]
  iintro ⟨⟨⟨⟨%R, HR⟩, Hp⟩, HT⟩, Ho, ⟨%d0, H0⟩, ⟨%d1, H1⟩⟩
  rw [before_rows m c t d0]
  have hI := body_good (U := UR sig nD τ) (defs := defs₀ (F := F)) (𝒱 := Variants.none) (d := c) (grid0.coords t)
    (Memref.whole main_v135) (Memref.isWhole_whole _) (spec0_0.stage ((cfgM m).slots t 0)) (hstage0_0 (((cfgM m).slots t 0).cast nbuf0_0))
    (spec0_1.stage ((cfgM m).slots t 1)) (hstage0_1 (((cfgM m).slots t 1).cast nbuf0_1)) (Memref.whole cc0_scratch0) (Memref.isWhole_whole _)
    fullShare.right fullShare (words m c) (rows m c) (words_ok m c) Set.univ
  rw [body_eq]
  iapply hI _ $$ [HT H0 H1 HR] [Hp Ho]
  · unfold Inv
    isplitl [HT]; · iexact HT
    isplitl [H0]; · iexact H0
    isplitl [H1]
    · iexists _; isplitr; swap; (· iexact H1); ipureintro; exact out_none _
    · iexists R; isplitr
      · ipureintro; intro y h0 h1; exact absurd h1 (Nat.not_lt_zero _)
      · rw [owns_whole]; iexact HR
  · unfold Inv
    iintro ⟨HT, H0, ⟨%O, %hO, H1⟩, ⟨%R', -, HR⟩⟩
    isplitl [HT Hp HR]
    · isplitl [Hp HR]
      · isplitl [HR]
        · iexists R'; rw [owns_whole]; exact .rfl
        · iexact Hp
      · iexact HT
    isplitl [Ho]; · iexact Ho
    isplitl [H0]; · iexact H0
    rw [show (dat m c).after 1 t = O from (out_all m c t O hO).symm]
    iexact H1

/-! ### The frame -/

/-- What a reference that the launch and the last operation leave alone holds at the end. -/
theorem tail_keep (c : Dev nD) (b : Ref sig .tc) (h0 : ∀ w, Pipeline.arrRef spec0 w ≠ b) (h1 : b ≠ main_v137) :
    Pipeline.afterTail pcfgs (fun _ => adm m) (dats m) 0 (V0 m) [hostOps1] c b = V m c b := by
  unfold Pipeline.afterTail
  rw [StableHlo.after_of_forall_not_mem]
  · exact Pipeline.withArrays_of_ne spec0 c (V0 m c) _ b h0
  · intro op hop
    simp only [List.flatten_cons, List.flatten_nil, List.append_nil, hostOps1, List.mem_cons, List.mem_nil_iff, or_false] at hop
    subst hop
    simp only [StableHlo.unary_writes, Finset.mem_singleton]
    exact StableHlo.devRef_ne_of_ne h1

set_option maxHeartbeats 1000000 in
/-- From any memory the program ends with the arguments unchanged and every counter at zero. -/
theorem run (ρ : Dev nD → PrngReg) : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  Pipeline.θ_run_frameP_around pcfgs (fun _ => adm m) (dats m) (0 : Fin 1) launch0 defs₀ Variants.none m ρ main
    (hbody := body_obligation m) (hshare := fun c w => by fin_cases w <;> rfl) (howed := fun _ _ => rfl)
    (V₀ := V0 m) (opss := [hostOps1]) (hsub := sfx_sub) (hfresh := sfx_fresh) (hkeep := sfx_keeps)
    (hmain := hmain m Variants.none) (hA := fun _ _ => rfl) (hpf := V_pre m) (hΦ := fun _ _ => rfl)
    (Q' := fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0)
    (hQ' := fun r h => ⟨fun c =>
      ⟨((h.1 c).2 main_arg0 (show main_arg0 ∈ Pipeline.restRefs sig spec0 by decide)).trans ((tail_keep m c main_arg0 (by decide) (by decide)).trans (all_arg0 _)),
       ((h.1 c).2 main_arg1 (show main_arg1 ∈ Pipeline.restRefs sig spec0 by decide)).trans ((tail_keep m c main_arg1 (by decide) (by decide)).trans (all_arg1 _))⟩, h.2⟩)

end Cert.Proof.K
end
-- ==== Proof.HostIdeal.lean ====
/- The host operations of @main around the launch over the reals: the buffer contents they leave, and @main as the launch between
   them. -/
module

public import proofs.«01_k».proof.Proof.Gen.KernelIdeal.Launch
public import proofs.«01_k».proof.Proof.Words
public import proofs.«01_k».proof.Proof.Step
public import Idealize.ShloMosaic.Lib.StableHlo.ReadAt
public import Idealize.ShloMosaic.Lib.Pipeline.FrameSuffix

@[expose] public section

noncomputable section

namespace Cert.Proof.KI

open Cert.KernelIdeal Cert.KernelIdeal.Gen
open Idealize.ShloMosaic Idealize.ShloMosaic.TcCoe
open Idealize.SL Idealize.SL.RA Idealize.SL.BI Idealize.SL.Sem

variable {F : FTy → Type} [FloatOps F]

/-- The host operations of the table of rows and of the first axis' bins. -/
abbrev opsA : List (List (HloOp τ sig (Elt F))) :=
  [hostOps0, hostOps0_1, hostOps0_2, hostOps0_3, hostOps0_4, hostOps0_5, hostOps0_6, hostOps0_7, hostOps0_8, hostOps0_9]
/-- The host operations of the second axis' bins. -/
abbrev opsB : List (List (HloOp τ sig (Elt F))) :=
  [hostOps0_10, hostOps0_11, hostOps0_12, hostOps0_13, hostOps0_14, hostOps0_15, hostOps0_16, hostOps0_17, hostOps0_18, hostOps0_19]
/-- The host operations that make the words from the bins. -/
abbrev opsC : List (List (HloOp τ sig (Elt F))) := [hostOps0_20, hostOps0_21, hostOps0_22.take 20]
/-- The host operations that lay the words out in the table. -/
abbrev opsT : List (HloOp τ sig (Elt F)) := hostOps0_22.drop 20
/-- All the host operations before the launch. -/
abbrev opsAll : List (List (HloOp τ sig (Elt F))) :=
  [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20,
    hostOps0_21, hostOps0_22]

set_option maxRecDepth 8000

/-- No host operation before the launch allocates. -/
theorem freshAll : (opsAll (F := F)).Forall fun l => l.Forall fun op => op.fresh = ∅ := by
  simp only [List.Forall]; and_intros <;> rfl

/-- Every host operation before the launch touches references of the core only. -/
theorem subAll : (opsAll (F := F)).Forall fun l => l.Forall fun op => op.bufs ⊆ StableHlo.tcRefs τ sig := by
  simp only [opsAll, List.Forall.eq_2]
  exact ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub, hostOps0_15_sub,
    hostOps0_16_sub, hostOps0_17_sub, hostOps0_18_sub, hostOps0_19_sub, hostOps0_20_sub, hostOps0_21_sub, hostOps0_22_sub⟩

set_option maxHeartbeats 1000000

/-! ### The values they leave -/

/-- The corner in column `a` of region `n`. -/
abbrev cornerAt (X : Valuation τ sig (Elt F)) (n : Fin 1024) (a : Fin 4) : BitVec 32 :=
  corner (F := F) ((X (Proc.devRef .tc main_arg1) : S1024x4.Idx → BitVec 32) (ix2 n a))

/-- The first axis' bins: their first rows. -/
theorem A_v67 (X : Valuation τ sig (Elt F)) (n : Fin 1024) (i : Fin 7) :
    (StableHlo.after (opsA (F := F)).flatten X (Proc.devRef .tc main_v67) : S1024x7.Idx → BitVec 32) (ix2 n i)
      = startW (cornerAt X n 1) (cornerAt X n 3) (BitVec.ofNat 32 i) := by
  simp only [opsA, List.flatten_cons, List.flatten_nil, List.append_nil, List.cons_append, List.nil_append, hostOps0, hostOps0_1, hostOps0_2, hostOps0_3,
    hostOps0_4, hostOps0_5, hostOps0_6, hostOps0_7, hostOps0_8, hostOps0_9]
  after_reads_at
  rfl

/-- The first axis' bins: the rows after their last. -/
theorem A_v70 (X : Valuation τ sig (Elt F)) (n : Fin 1024) (i : Fin 7) :
    (StableHlo.after (opsA (F := F)).flatten X (Proc.devRef .tc main_v70) : S1024x7.Idx → BitVec 32) (ix2 n i)
      = endW (cornerAt X n 1) (cornerAt X n 3) (BitVec.ofNat 32 i) := by
  simp only [opsA, List.flatten_cons, List.flatten_nil, List.append_nil, List.cons_append, List.nil_append, hostOps0, hostOps0_1, hostOps0_2, hostOps0_3,
    hostOps0_4, hostOps0_5, hostOps0_6, hostOps0_7, hostOps0_8, hostOps0_9]
  after_reads_at
  rfl

/-- The corners. -/
theorem A_v31 (X : Valuation τ sig (Elt F)) (n : Fin 1024) (a : Fin 4) :
    (StableHlo.after (opsA (F := F)).flatten X (Proc.devRef .tc main_v31) : S1024x4.Idx → BitVec 32) (ix2 n a)
      = cornerAt X n a := by
  simp only [opsA, List.flatten_cons, List.flatten_nil, List.append_nil, List.cons_append, List.nil_append, hostOps0, hostOps0_1, hostOps0_2, hostOps0_3,
    hostOps0_4, hostOps0_5, hostOps0_6, hostOps0_7, hostOps0_8, hostOps0_9]
  after_reads_at
  rfl

/-- The second axis' bins: their first columns. -/
theorem B_v106 (X : Valuation τ sig (Elt F)) (n : Fin 1024) (i : Fin 7) :
    (StableHlo.after (opsB (F := F)).flatten X (Proc.devRef .tc main_v106) : S1024x7.Idx → BitVec 32) (ix2 n i)
      = startW ((X (Proc.devRef .tc main_v31) : S1024x4.Idx → BitVec 32) (ix2 n 0))
          ((X (Proc.devRef .tc main_v31) : S1024x4.Idx → BitVec 32) (ix2 n 2)) (BitVec.ofNat 32 i) := by
  simp only [opsB, List.flatten_cons, List.flatten_nil, List.append_nil, List.cons_append, List.nil_append, hostOps0_10, hostOps0_11, hostOps0_12,
    hostOps0_13, hostOps0_14, hostOps0_15, hostOps0_16, hostOps0_17, hostOps0_18, hostOps0_19]
  after_reads_at
  rfl

/-- The second axis' bins: the columns after their last. -/
theorem B_v109 (X : Valuation τ sig (Elt F)) (n : Fin 1024) (i : Fin 7) :
    (StableHlo.after (opsB (F := F)).flatten X (Proc.devRef .tc main_v109) : S1024x7.Idx → BitVec 32) (ix2 n i)
      = endW ((X (Proc.devRef .tc main_v31) : S1024x4.Idx → BitVec 32) (ix2 n 0))
          ((X (Proc.devRef .tc main_v31) : S1024x4.Idx → BitVec 32) (ix2 n 2)) (BitVec.ofNat 32 i) := by
  simp only [opsB, List.flatten_cons, List.flatten_nil, List.append_nil, List.cons_append, List.nil_append, hostOps0_10, hostOps0_11, hostOps0_12,
    hostOps0_13, hostOps0_14, hostOps0_15, hostOps0_16, hostOps0_17, hostOps0_18, hostOps0_19]
  after_reads_at
  rfl

/-- The words that choose a table row. -/
theorem C_v116 (X : Valuation τ sig (Elt F)) (n : Fin 1024) (i : Fin 7) :
    (StableHlo.after (opsC (F := F)).flatten X (Proc.devRef .tc main_v116) : S1024x7.Idx → BitVec 32) (ix2 n i)
      = rowW ((X (Proc.devRef .tc main_v67) : S1024x7.Idx → BitVec 32) (ix2 n i)) ((X (Proc.devRef .tc main_v70) : S1024x7.Idx → BitVec 32) (ix2 n i)) := by
  simp only [opsC, List.flatten_cons, List.flatten_nil, List.append_nil, List.cons_append, List.nil_append, hostOps0_20, hostOps0_21, hostOps0_22,
    List.take_succ_cons, List.take_zero]
  after_reads_at
  rfl

/-- The words that choose a column. -/
theorem C_v128 (X : Valuation τ sig (Elt F)) (n : Fin 1024) (i : Fin 7) (k : Fin 5) :
    (StableHlo.after (opsC (F := F)).flatten X (Proc.devRef .tc main_v128) : S1024x7x5.Idx → BitVec 32) (ix3 n i k)
      = colW ((X (Proc.devRef .tc main_v106) : S1024x7.Idx → BitVec 32) (ix2 n i)) ((X (Proc.devRef .tc main_v109) : S1024x7.Idx → BitVec 32) (ix2 n i))
          (BitVec.ofNat 32 k) := by
  simp only [opsC, List.flatten_cons, List.flatten_nil, List.append_nil, List.cons_append, List.nil_append, hostOps0_20, hostOps0_21, hostOps0_22,
    List.take_succ_cons, List.take_zero]
  after_reads_at
  rfl

/-! The buffers that a stretch does not write keep their contents. -/

/-- The second stretch of operations leaves the bins' first rows as they were. -/
theorem B_v67 (X : Valuation τ sig (Elt F)) : StableHlo.after (opsB (F := F)).flatten X (Proc.devRef .tc main_v67) = X (Proc.devRef .tc main_v67) := by
  simp only [opsB, List.flatten_cons, List.flatten_nil, List.append_nil, List.cons_append, List.nil_append, hostOps0_10, hostOps0_11, hostOps0_12,
    hostOps0_13, hostOps0_14, hostOps0_15, hostOps0_16, hostOps0_17, hostOps0_18, hostOps0_19]
  after_reads_simp

/-- The second stretch of operations leaves the rows after the bins' last as it was. -/
theorem B_v70 (X : Valuation τ sig (Elt F)) : StableHlo.after (opsB (F := F)).flatten X (Proc.devRef .tc main_v70) = X (Proc.devRef .tc main_v70) := by
  simp only [opsB, List.flatten_cons, List.flatten_nil, List.append_nil, List.cons_append, List.nil_append, hostOps0_10, hostOps0_11, hostOps0_12,
    hostOps0_13, hostOps0_14, hostOps0_15, hostOps0_16, hostOps0_17, hostOps0_18, hostOps0_19]
  after_reads_simp

/-- The second stretch of operations leaves the table of rows as it was. -/
theorem B_v26 (X : Valuation τ sig (Elt F)) : StableHlo.after (opsB (F := F)).flatten X (Proc.devRef .tc main_v26) = X (Proc.devRef .tc main_v26) := by
  simp only [opsB, List.flatten_cons, List.flatten_nil, List.append_nil, List.cons_append, List.nil_append, hostOps0_10, hostOps0_11, hostOps0_12,
    hostOps0_13, hostOps0_14, hostOps0_15, hostOps0_16, hostOps0_17, hostOps0_18, hostOps0_19]
  after_reads_simp

/-- The third stretch of operations leaves the table of rows as it was. -/
theorem C_v26 (X : Valuation τ sig (Elt F)) : StableHlo.after (opsC (F := F)).flatten X (Proc.devRef .tc main_v26) = X (Proc.devRef .tc main_v26) := by
  simp only [opsC, List.flatten_cons, List.flatten_nil, List.append_nil, List.cons_append, List.nil_append, hostOps0_20, hostOps0_21, hostOps0_22,
    List.take_succ_cons, List.take_zero]
  after_reads_simp

/-- The last stretch of operations leaves the table of rows as it was. -/
theorem T_v26 (X : Valuation τ sig (Elt F)) : StableHlo.after (opsT (F := F)) X (Proc.devRef .tc main_v26) = X (Proc.devRef .tc main_v26) := by
  simp only [opsT, hostOps0_22, List.drop_succ_cons, List.drop_zero]
  after_reads_simp

/-- The first stretch of operations leaves the image as it was. -/
theorem A_arg0 (X : Valuation τ sig (Elt F)) : StableHlo.after (opsA (F := F)).flatten X (Proc.devRef .tc main_arg0) = X (Proc.devRef .tc main_arg0) := by
  simp only [opsA, List.flatten_cons, List.flatten_nil, List.append_nil, List.cons_append, List.nil_append, hostOps0, hostOps0_1, hostOps0_2, hostOps0_3,
    hostOps0_4, hostOps0_5, hostOps0_6, hostOps0_7, hostOps0_8, hostOps0_9]
  after_reads_simp

/-- The second stretch of operations leaves the image as it was. -/
theorem B_arg0 (X : Valuation τ sig (Elt F)) : StableHlo.after (opsB (F := F)).flatten X (Proc.devRef .tc main_arg0) = X (Proc.devRef .tc main_arg0) := by
  simp only [opsB, List.flatten_cons, List.flatten_nil, List.append_nil, List.cons_append, List.nil_append, hostOps0_10, hostOps0_11, hostOps0_12,
    hostOps0_13, hostOps0_14, hostOps0_15, hostOps0_16, hostOps0_17, hostOps0_18, hostOps0_19]
  after_reads_simp

/-- The third stretch of operations leaves the image as it was. -/
theorem C_arg0 (X : Valuation τ sig (Elt F)) : StableHlo.after (opsC (F := F)).flatten X (Proc.devRef .tc main_arg0) = X (Proc.devRef .tc main_arg0) := by
  simp only [opsC, List.flatten_cons, List.flatten_nil, List.append_nil, List.cons_append, List.nil_append, hostOps0_20, hostOps0_21, hostOps0_22,
    List.take_succ_cons, List.take_zero]
  after_reads_simp

/-- The last stretch of operations leaves the image as it was. -/
theorem T_arg0 (X : Valuation τ sig (Elt F)) : StableHlo.after (opsT (F := F)) X (Proc.devRef .tc main_arg0) = X (Proc.devRef .tc main_arg0) := by
  simp only [opsT, hostOps0_22, List.drop_succ_cons, List.drop_zero]
  after_reads_simp

/-- The first stretch of operations leaves the boxes as they were. -/
theorem A_arg1 (X : Valuation τ sig (Elt F)) : StableHlo.after (opsA (F := F)).flatten X (Proc.devRef .tc main_arg1) = X (Proc.devRef .tc main_arg1) := by
  simp only [opsA, List.flatten_cons, List.flatten_nil, List.append_nil, List.cons_append, List.nil_append, hostOps0, hostOps0_1, hostOps0_2, hostOps0_3,
    hostOps0_4, hostOps0_5, hostOps0_6, hostOps0_7, hostOps0_8, hostOps0_9]
  after_reads_simp

/-- The second stretch of operations leaves the boxes as they were. -/
theorem B_arg1 (X : Valuation τ sig (Elt F)) : StableHlo.after (opsB (F := F)).flatten X (Proc.devRef .tc main_arg1) = X (Proc.devRef .tc main_arg1) := by
  simp only [opsB, List.flatten_cons, List.flatten_nil, List.append_nil, List.cons_append, List.nil_append, hostOps0_10, hostOps0_11, hostOps0_12,
    hostOps0_13, hostOps0_14, hostOps0_15, hostOps0_16, hostOps0_17, hostOps0_18, hostOps0_19]
  after_reads_simp

/-- The third stretch of operations leaves the boxes as they were. -/
theorem C_arg1 (X : Valuation τ sig (Elt F)) : StableHlo.after (opsC (F := F)).flatten X (Proc.devRef .tc main_arg1) = X (Proc.devRef .tc main_arg1) := by
  simp only [opsC, List.flatten_cons, List.flatten_nil, List.append_nil, List.cons_append, List.nil_append, hostOps0_20, hostOps0_21, hostOps0_22,
    List.take_succ_cons, List.take_zero]
  after_reads_simp

/-- The last stretch of operations leaves the boxes as they were. -/
theorem T_arg1 (X : Valuation τ sig (Elt F)) : StableHlo.after (opsT (F := F)) X (Proc.devRef .tc main_arg1) = X (Proc.devRef .tc main_arg1) := by
  simp only [opsT, hostOps0_22, List.drop_succ_cons, List.drop_zero]
  after_reads_simp

/-- The table, as laid out from the words. -/
theorem T_vec (Y : Valuation τ sig (Elt F)) :
    (StableHlo.after (opsT (F := F)) Y (Proc.devRef .tc main_v135) : S7x7x1024.Idx → BitVec 32)
      = concatenate S7x7x1024 1 [⟨S7x2x1024, concatenate S7x2x1024 1
          [⟨S7x1x1024, broadcastInDim S7x1x1024 ![0, 2] bcast_S7x1024_S7x1x1024_0_2 (transpose S7x1024 [1, 0] (Y (Proc.devRef .tc main_v116) : S1024x7.Idx → BitVec 32) transposes_S1024x7_S7x1024_1_0)⟩,
            ⟨S7x1x1024, broadcastInDim S7x1x1024 ![0, 2] bcast_S7x1024_S7x1x1024_0_2 (transpose S7x1024 [1, 0] (Y (Proc.devRef .tc main_v116) : S1024x7.Idx → BitVec 32) transposes_S1024x7_S7x1024_1_0)⟩] concatenates_S7x1x1024_S7x1x1024_S7x2x1024_d1⟩,
          ⟨S7x5x1024, transpose S7x5x1024 [1, 2, 0] (Y (Proc.devRef .tc main_v128) : S1024x7x5.Idx → BitVec 32) transposes_S1024x7x5_S7x5x1024_1_2_0⟩] concatenates_S7x2x1024_S7x5x1024_S7x7x1024_d1 := by
  simp only [opsT, hostOps0_22, List.drop_succ_cons, List.drop_zero]
  after_results_simp
  first | done | rfl

/-- The table, entry by entry. -/
theorem T_v135 (Y : Valuation τ sig (Elt F)) (a b : Fin 7) (n : Fin 1024) :
    (StableHlo.after (opsT (F := F)) Y (Proc.devRef .tc main_v135) : S7x7x1024.Idx → BitVec 32) (ix3 a b n)
      = if h : b.val < 2 then (Y (Proc.devRef .tc main_v116) : S1024x7.Idx → BitVec 32) (ix2 n a)
       else (Y (Proc.devRef .tc main_v128) : S1024x7x5.Idx → BitVec 32) (ix3 n a ⟨b.val - 2, by omega⟩) := by
  rw [T_vec]
  generalize (Y (Proc.devRef .tc main_v116) : S1024x7.Idx → BitVec 32) = P
  generalize (Y (Proc.devRef .tc main_v128) : S1024x7x5.Idx → BitVec 32) = Q
  pointwise
  split_ifs <;> rfl

/-- All the operations before the launch are the stretches one after another. -/
theorem afterAll (X : Valuation τ sig (Elt F)) : StableHlo.after (opsAll (F := F)).flatten X
    = StableHlo.after opsT (StableHlo.after opsC.flatten (StableHlo.after opsB.flatten (StableHlo.after opsA.flatten X))) := by
  rw [← StableHlo.after_append, ← StableHlo.after_append, ← StableHlo.after_append]
  rfl

/-- The table of words when the launch starts. -/
theorem all_v135 (X : Valuation τ sig (Elt F)) (a b : Fin 7) (n : Fin 1024) :
    (StableHlo.after (opsAll (F := F)).flatten X (Proc.devRef .tc main_v135) : S7x7x1024.Idx → BitVec 32) (ix3 a b n)
      = wordOf (cornerAt X n 0) (cornerAt X n 1) (cornerAt X n 2) (cornerAt X n 3) a b := by
  rw [afterAll, T_v135]
  unfold wordOf
  split_ifs with h
  · rw [C_v116, B_v67, B_v70, A_v67, A_v70]
  · rw [C_v128, B_v106, B_v109, A_v31, A_v31]

/-- All the operations before the launch leave the image. -/
theorem all_arg0 (X : Valuation τ sig (Elt F)) :
    StableHlo.after (opsAll (F := F)).flatten X (Proc.devRef .tc main_arg0) = X (Proc.devRef .tc main_arg0) := by
  rw [afterAll, T_arg0, C_arg0, B_arg0, A_arg0]
/-- All the operations before the launch leave the boxes. -/
theorem all_arg1 (X : Valuation τ sig (Elt F)) :
    StableHlo.after (opsAll (F := F)).flatten X (Proc.devRef .tc main_arg1) = X (Proc.devRef .tc main_arg1) := by
  rw [afterAll, T_arg1, C_arg1, B_arg1, A_arg1]

end Cert.Proof.KI
end
-- ==== Proof.BodyIdeal.lean ====
/- The body of the kernel over the reals, run region by region. -/
module

public import proofs.«01_k».proof.KernelIdeal
public import proofs.«01_k».proof.Proof.Region

@[expose] public section

noncomputable section

namespace Cert.Proof.KI

open Cert.KernelIdeal Cert.Proof
open Idealize.ShloMosaic Idealize.ShloMosaic.TcCoe
open Idealize.SL Idealize.SL.RA Idealize.SL.BI Idealize.SL.Sem

variable {F : FTy → Type} [FloatOps F] [Cert.KernelIdeal.Facts]
variable {U : Type} [URA U]
variable {defs : Defs nD τ sig (Elt F) Λ₀} {𝒱 : Variants} {d : Dev nD}

set_option maxRecDepth 4000
set_option maxHeartbeats 20000000
/-- The kernel's body at a grid point takes the empty buffers to the point's whole output block. -/
theorem body_good (i : grid0.Coords) (arg1 : Memref sig .tc .smem S7x7x1024 .i32) (harg1 : arg1.IsWhole) (arg2 : Memref sig .tc .vmem S250x50x512 .f32) (harg2 : arg2.IsWhole) (arg3 : Memref sig .tc .vmem S32x7x7x512 .f32) (harg3 : arg3.IsWhole) (arg4 : Memref sig .tc .vmem S2x7x50x512 .f32) (harg4 : arg4.IsWhole)
  (q1 q2 : PosShare TreeShare) (T : TblS.Idx → Elt F .i32) (tab : TabS.Idx → Elt F .f32) (hT : TblOK T) :
    Good defs 𝒱 d arg1 arg2 arg3 arg4 q1 q2 T tab U (i 0).val 0 0 0 0 (cc0_roi_maxpool i arg1 harg1 arg2 harg2 arg3 harg3 arg4 harg4) := by
  unfold cc0_roi_maxpool
  iterate 16
    iterate 7 refine good_row hT (i 0).isLt (by decide) (dec := fun v => k0_chk1.dec v) (by decide) (by decide) ?_
    iterate 7 refine good_col hT (i 0).isLt (by decide) (dec := fun v => k0_chk8.dec v) (by decide) (by decide) ?_
    refine good_next (p' := 1) ?_
    iterate 7 refine good_row hT (i 0).isLt (by decide) (dec := fun v => k0_chk1.dec v) (by decide) (by decide) ?_
    iterate 7 refine good_col hT (i 0).isLt (by decide) (dec := fun v => k0_chk8.dec v) (by decide) (by decide) ?_
    refine good_next (p' := 0) ?_
  exact good_end

end Cert.Proof.KI
end
-- ==== Proof.RunIdeal.lean ====
/- The launch over the reals: every grid point turns its staged buffers into its block of the result, and so the whole program runs to
   the end with the result's blocks written and the arguments unchanged. -/
module

public import proofs.«01_k».proof.Proof.HostIdeal
public import proofs.«01_k».proof.Proof.BodyIdeal

@[expose] public section

noncomputable section

namespace Cert.Proof.KI

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] (m : (ℓ : Loc nD τ sig) → Buf (Elt F) ℓ)

/-- The core's buffers when the launch starts. -/
abbrev V0 (c : Dev nD) : Valuation τ sig (Elt F) := StableHlo.after (opsAll (F := F)).flatten (fun b => m (c, b))
/-- The same, at a reference of the core. -/
abbrev V (c : Dev nD) (b : Ref sig .tc) : Buf (Elt F) ((c : Thread nD τ).loc b) := V0 m c (Proc.devRef .tc b)

set_option maxRecDepth 8000 in
set_option maxHeartbeats 1000000 in
/-- @main is the launch between the host operations. -/
theorem hmain (𝒱₀ : Variants) : Pipeline.HMainPK (Ix := Unit) (Name := ℕ) (U := UR sig nD τ) (Lvl := ℕ) pcfgs 0 defs₀ 𝒱₀ m (main (F := F)) (V m)
    (fun _ => Pipeline.chain ([hostOps1].map StableHlo.seq)) :=
  Pipeline.hmainP_around pcfgs 0 defs₀ 𝒱₀ m main opsAll [hostOps1] subAll freshAll main_chain

/-- The table of words when the launch starts. -/
def tbl : pre0.Contents (Elt F) := fun j => V m (0 : Dev nD) (pre0.ref j)
/-- The staged table is the table of words the host operations leave. -/
theorem V_pre (c : Dev nD) (j : Fin 1) : V m c (pre0.ref j) = tbl m j := by
  obtain rfl : c = 0 := Subsingleton.elim _ _; rfl
/-- The launch with its staged table is a lawful one. -/
abbrev adm : (pcfg0 (F := F)).Adm := ⟨tbl m, trivial⟩
/-- The launch at the staged table. -/
abbrev cfgM : Pipeline.Cfg sig Λ₀ := cfg0 (adm m)

/-- The operation after the launch touches no table of words. -/
theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro j
  fin_cases j
  simp only [StableHlo.unary_bufs, Finset.mem_insert, Finset.mem_singleton, not_or]
  and_intros <;> exact StableHlo.devRef_ne_of_ne (by decide)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  simp only [hostOps1, List.mem_cons, List.mem_nil_iff, or_false] at hop
  rcases hop with rfl
  rfl

/-- It writes no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.unary_writes, Finset.mem_singleton] <;> exact StableHlo.devRef_ne_of_ne (by decide)

/-- The words the body reads, and the table of rows it reads them against. -/
abbrev words (c : Dev nD) : TblS.Idx → Elt F .i32 := V m c main_v135
/-- The table of rows when the launch starts. -/
abbrev rows (c : Dev nD) : TabS.Idx → Elt F .f32 := V m c main_v26

/-- The words, entry by entry. -/
theorem words_at (c : Dev nD) (y : TblS.Idx) : words m c y
    = wordOf (cornerAt (F := F) (fun b => m (c, b)) (y 2) 0) (cornerAt (F := F) (fun b => m (c, b)) (y 2) 1)
        (cornerAt (F := F) (fun b => m (c, b)) (y 2) 2) (cornerAt (F := F) (fun b => m (c, b)) (y 2) 3) (y 0).val (y 1).val :=
  (congrArg (words m c) (eq_ix3 y)).trans (all_v135 _ (y 0) (y 1) (y 2))

/-- Every word names a row of the table of rows or a column of the image. -/
theorem words_ok (c : Dev nD) : TblOK (words m c) where
  row y h := by rw [words_at]; exact word_row _ _ _ _ _ (by omega)
  col y h := by rw [words_at]; exact word_col _ _ _ _ _ h (y 1).isLt

/-- The proof data of the launch: the table of rows stays, and each grid point leaves its thirty-two regions' maxima. -/
def dat (c : Dev nD) : Dat τ (Elt F) Unit ℕ (UR sig nD τ) ℕ (cfgM m) c where
  A w := V m c (Pipeline.arrRef spec0 w)
  after w t := match w with
    | 0 => rows m c
    | 1 => fun y : OutS.Idx => binMax (words m c) (rows m c) (32 * t.val + (y 0).val) (y 1).val (y 2).val (y 3).val
    | ⟨_ + 2, h⟩ => absurd h (Nat.not_lt.2 (Nat.le_add_left _ _))
  Φ _ := iprop(ΦA spec0 c ∗ ΦT pre0 (tbl m) c)
  q _ := fullShare
  owed _ := 0

/-- What the launch keeps and owes on each core. -/
abbrev dats (_ : Fin 1) (c : Dev nD) : Dat τ (Elt F) Unit ℕ (UR sig nD τ) ℕ (cfgM m) c := dat m c

/-- The block of the table of rows is the whole table. -/
theorem block_rows (c : Dev nD) (t : Fin (cfgM m).N) : (dat m c).blockOf 0 t = rows m c := by
  refine funext fun (y : TabS.Idx) => congrArg (rows m c) (funext fun a : Fin 3 => Fin.ext ?_)
  match a with
  | 0 => show 0 * 250 + 1 * (y 0).val = (y 0).val; omega
  | 1 => show 0 * 50 + 1 * (y 1).val = (y 1).val; omega
  | 2 => show 0 * 512 + 1 * (y 2).val = (y 2).val; omega

/-- The body finds the table of rows staged at every point. -/
theorem before_rows (c : Dev nD) (t : Fin (cfgM m).N) (d) : (dat m c).before 0 t d = rows m c := by
  rw [(dat m c).before_in_eq_fetched 0 rfl (fun _ => rfl) (fun _ _ _ => rfl) (fun t => (block_rows m c t).symm) t d]
  exact block_rows m c t

/-- The table of words as the body holds it. -/
theorem PhiT_eq (c : Dev nD) : (ΦT pre0 (tbl m) c : sProp (MT nD τ sig Unit (Elt F) ℕ (UR sig nD τ) ℕ))
    = iprop(owns (c : Thread nD τ) (Memref.whole main_v135) fullShare.right (words m c)) := by
  obtain rfl : c = 0 := Subsingleton.elim _ _
  unfold Pipeline.ΦT Pipeline.prefHeld
  rw [show (Finset.univ : Finset (Fin 1)) = {0} from by decide, bigSep_singleton]
  exact (owns_whole (0 : Dev nD).tc main_v135 fullShare.right (words m 0)).symm

/-- Nothing is asked of a block before any region is written. -/
theorem out_none {T : TblS.Idx → Elt F .i32} {tab : TabS.Idx → Elt F .f32} {g : ℕ} (O : OutS.Idx → Elt F .f32) : OutOK T tab g 0 0 O :=
  fun y hy => absurd hy (by omega)

/-- The only axis of the grid counts its points. -/
theorem coords_val (t : Fin (cfgM m).N) : (grid0.coords t 0).val = t.val := by
  show t.val / 1 % 32 = t.val
  rw [Nat.div_one]; exact Nat.mod_eq_of_lt t.isLt

/-- A block with all its regions written is the block of maxima of its grid point. -/
theorem out_all (c : Dev nD) (t : Fin (cfgM m).N) (O : OutS.Idx → Elt F .f32)
    (hO : OutOK (words m c) (rows m c) (grid0.coords t 0).val 32 0 O) : O = (dat m c).after 1 t := by
  funext (y : OutS.Idx)
  rw [hO y (.inl (y 0).isLt), coords_val m t]
  rfl

/-- The body the launch calls at a grid point, at the buffers of that point. -/
theorem body_eq (t : Fin (cfgM m).N) : defs₀ (F := F) .tc (cfgM m).body ((cfgM m).bodyArgs t ((cfgM m).slots t))
    = cc0_roi_maxpool (grid0.coords t) (Memref.whole main_v135) (Memref.isWhole_whole _) (spec0_0.stage ((cfgM m).slots t 0)) (hstage0_0 (((cfgM m).slots t 0).cast nbuf0_0))
          (spec0_1.stage ((cfgM m).slots t 1)) (hstage0_1 (((cfgM m).slots t 1).cast nbuf0_1)) (Memref.whole cc0_scratch0) (Memref.isWhole_whole _) := rfl

set_option maxRecDepth 8000 in
set_option maxHeartbeats 1000000 in
/-- Every grid point's body runs from its staged buffers to its block of the result. -/
theorem body_obligation (c : Dev nD) : BodyObligationLoose (dat m c) defs₀ Variants.none () Set.univ := fun t => by
  rewrite [bigSep_W0]
  rewrite [bigSep_W0]
  have i0 : (cfgM m).idle 0 ((cfgM m).grid.coords t) = false := rfl
  have i1 : (cfgM m).idle 1 ((cfgM m).grid.coords t) = false := rfl
  have l0 : (cfgM m).loose 0 = false := rfl
  have l1 : (cfgM m).loose 1 = false := rfl
  simp only [i0, i1, l0, l1]
  rw [show (dat m c).Φ t.castSucc = iprop(ΦA spec0 c ∗ ΦT pre0 (tbl m) c) from rfl, show (dat m c).Φ t.succ = iprop(ΦA spec0 c ∗ ΦT pre0 (tbl m) c) from rfl, PhiT_eq]
  unfold ΦA
  rw [scopedRest0_eq]
  iintro ⟨⟨⟨⟨%R, HR⟩, Hp⟩, HT⟩, Ho, ⟨%d0, H0⟩, ⟨%d1, H1⟩⟩
  rw [before_rows m c t d0]
  have hI := body_good (U := UR sig nD τ) (defs := defs₀ (F := F)) (𝒱 := Variants.none) (d := c) (grid0.coords t)
    (Memref.whole main_v135) (Memref.isWhole_whole _) (spec0_0.stage ((cfgM m).slots t 0)) (hstage0_0 (((cfgM m).slots t 0).cast nbuf0_0))
    (spec0_1.stage ((cfgM m).slots t 1)) (hstage0_1 (((cfgM m).slots t 1).cast nbuf0_1)) (Memref.whole cc0_scratch0) (Memref.isWhole_whole _)
    fullShare.right fullShare (words m c) (rows m c) (words_ok m c) Set.univ
  rw [body_eq]
  iapply hI _ $$ [HT H0 H1 HR] [Hp Ho]
  · unfold Inv
    isplitl [HT]; · iexact HT
    isplitl [H0]; · iexact H0
    isplitl [H1]
    · iexists _; isplitr; swap; (· iexact H1); ipureintro; exact out_none _
    · iexists R; isplitr
      · ipureintro; intro y h0 h1; exact absurd h1 (Nat.not_lt_zero _)
      · rw [owns_whole]; iexact HR
  · unfold Inv
    iintro ⟨HT, H0, ⟨%O, %hO, H1⟩, ⟨%R', -, HR⟩⟩
    isplitl [HT Hp HR]
    · isplitl [Hp HR]
      · isplitl [HR]
        · iexists R'; rw [owns_whole]; exact .rfl
        · iexact Hp
      · iexact HT
    isplitl [Ho]; · iexact Ho
    isplitl [H0]; · iexact H0
    rw [show (dat m c).after 1 t = O from (out_all m c t O hO).symm]
    iexact H1

/-! ### The result -/

/-- The array of maxima the launch leaves: region, column bin, row bin, channel. -/
def maxima (c : Dev nD) : S1024x7x7x512.Idx → Elt F .f32 :=
  fun y => binMax (words m c) (rows m c) (y 0).val (y 1).val (y 2).val (y 3).val

/-- Where an entry of the block of a grid point lies in the array. -/
def place (t : Fin (cfgM m).N) (y : OutS.Idx) : S1024x7x7x512.Idx := (((cfgM m).win 1).blk t).view.emb y

/-- The block of a grid point is the one numbered by the point's coordinate. -/
theorem block_at : ∀ i : grid0.Coords, cc0_transform_1 i 0 = (i 0).val := by decide +kernel

/-- A block's entry lies at the block's region, -/
theorem place0 (t : Fin (cfgM m).N) (y : OutS.Idx) : (place m t y 0).val = 32 * t.val + (y 0).val := by
  show cc0_transform_1 (grid0.coords t) 0 * 32 + 1 * (y 0).val = 32 * t.val + (y 0).val
  rw [block_at, coords_val m t]; omega
/-- and at its own column bin, -/
theorem place1 (t : Fin (cfgM m).N) (y : OutS.Idx) : (place m t y 1).val = (y 1).val := by
  show 0 * 7 + 1 * (y 1).val = (y 1).val; omega
/-- row bin -/
theorem place2 (t : Fin (cfgM m).N) (y : OutS.Idx) : (place m t y 2).val = (y 2).val := by
  show 0 * 7 + 1 * (y 2).val = (y 2).val; omega
/-- and channel. -/
theorem place3 (t : Fin (cfgM m).N) (y : OutS.Idx) : (place m t y 3).val = (y 3).val := by
  show 0 * 512 + 1 * (y 3).val = (y 3).val; omega

/-- What a grid point writes back is its block of the maxima. -/
theorem flushed_eq (c : Dev nD) (t : Fin (cfgM m).N) :
    (dat m c).flushed 1 t = (((cfgM m).win 1).blk t).view.read (Elt F) (maxima m c) := by
  funext (y : OutS.Idx)
  have h : maxima m c (place m t y) = binMax (words m c) (rows m c) (32 * t.val + (y 0).val) (y 1).val (y 2).val (y 3).val := by
    unfold maxima; rw [place0, place1, place2, place3]
  exact h.symm

/-- Every entry of the array lies in the block of some grid point. -/
theorem cover (i : S1024x7x7x512.Idx) : ∃ t : Fin (cfgM m).N, ∃ y : OutS.Idx, place m t y = i := by
  have h0 : (i 0).val < 1024 := (i 0).isLt
  refine ⟨⟨(i 0).val / 32, by show _ < grid0.N; rw [N_0]; omega⟩,
    fun a => match a with | 0 => ⟨(i 0).val % 32, by show _ < 32; omega⟩ | 1 => i 1 | 2 => i 2 | 3 => i 3, ?_⟩
  refine funext fun a => Fin.ext ?_
  match a with
  | 0 => rw [place0]; show 32 * ((i 0).val / 32) + (i 0).val % 32 = (i 0).val; omega
  | 1 => exact place1 ..
  | 2 => exact place2 ..
  | 3 => exact place3 ..

/-- Every grid point writes its block back. -/
theorem flush_all (t : Fin (cfgM m).N) : ((cfgM m).win 1).flush t = true :=
  (((cfgM m).win 1).flush_reads rfl (0 : Fin 1) (show 1 < grid0.bound 0 by decide) (show grid0.fixedAfter reads0_1 0 = true by decide)
    (fun i i' h => Fin.ext (by rw [← block_at i, ← block_at i']; exact congrFun (show cc0_transform_1 i = cc0_transform_1 i' from h) 0))
    (P := 1) (m := 0) (show grid0.stride 0 = 1 by decide) rfl t).2 (Nat.mod_one _)

/-- So the array ends at the maxima. -/
theorem final (c : Dev nD) : (dat m c).arrAt 1 (cfgM m).N = maxima m c :=
  (dat m c).arrAt_eq_of_cover 1 (maxima m c) (fun t _ => flushed_eq m c t) fun i => by
    obtain ⟨t, y, h⟩ := cover m i
    exact ⟨t, flush_all m t, h ▸ View.emb_mem_set _ y⟩

/-- The program's result: region, channel, row bin, column bin. -/
def result (c : Dev nD) : S1024x512x7x7.Idx → Elt F .f32 :=
  transpose S1024x512x7x7 [0, 3, 2, 1] (maxima m c) transposes_S1024x7x7x512_S1024x512x7x7_0_3_2_1

/-- What a reference that the launch and the last operation leave alone holds at the end. -/
theorem tail_keep (c : Dev nD) (b : Ref sig .tc) (h0 : ∀ w, Pipeline.arrRef spec0 w ≠ b) (h1 : b ≠ main_v137) :
    Pipeline.afterTail pcfgs (fun _ => adm m) (dats m) 0 (V0 m) [hostOps1] c b = V m c b := by
  unfold Pipeline.afterTail
  rw [StableHlo.after_of_forall_not_mem]
  · exact Pipeline.withArrays_of_ne spec0 c (V0 m c) _ b h0
  · intro op hop
    simp only [List.flatten_cons, List.flatten_nil, List.append_nil, hostOps1, List.mem_cons, List.mem_nil_iff, or_false] at hop
    subst hop
    simp only [StableHlo.unary_writes, Finset.mem_singleton]
    exact StableHlo.devRef_ne_of_ne h1

/-- The result at the end. -/
theorem tail_result (c : Dev nD) :
    Pipeline.afterTail pcfgs (fun _ => adm m) (dats m) 0 (V0 m) [hostOps1] c main_v137 = result m c := by
  unfold Pipeline.afterTail
  have h : Pipeline.withArrays spec0 c (V0 m c) (fun w => (dats m 0 c).arrAt w (cfgM m).N) (Proc.devRef .tc main_v136) = maxima m c :=
    (Pipeline.withArrays_arr spec0 winFacts0.arr_inj c (V0 m c) _ 1).trans (final m c)
  simp only [List.flatten_cons, List.flatten_nil, List.append_nil, hostOps1]
  after_results_simp
  exact congrArg (fun X : S1024x7x7x512.Idx → Elt F .f32 => transpose S1024x512x7x7 [0, 3, 2, 1] X transposes_S1024x7x7x512_S1024x512x7x7_0_3_2_1) h

set_option maxHeartbeats 1000000 in
/-- From any memory the program ends with the result written, the arguments unchanged and every counter at zero. -/
theorem run (ρ : Dev nD → PrngReg) : θ_run defs (onTc (τ := τ) (main (F := F))) ⟨m, fun _ => 0, ρ⟩ fun r =>
    (∀ c : Dev nD, r.2.mem ((c.tc : Thread nD τ).loc main_v137) = result m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  Pipeline.θ_run_frameP_around pcfgs (fun _ => adm m) (dats m) (0 : Fin 1) launch0 defs₀ Variants.none m ρ main
    (hbody := body_obligation m) (hshare := fun c w => by fin_cases w <;> rfl) (howed := fun _ _ => rfl)
    (V₀ := V0 m) (opss := [hostOps1]) (hsub := sfx_sub) (hfresh := sfx_fresh) (hkeep := sfx_keeps)
    (hmain := hmain m Variants.none) (hA := fun _ _ => rfl) (hpf := V_pre m) (hΦ := fun _ _ => rfl)
    (Q' := fun r => (∀ c : Dev nD, r.2.mem ((c.tc : Thread nD τ).loc main_v137) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0)
    (hQ' := fun r h => ⟨fun c =>
      ⟨((h.1 c).2 main_v137 (show main_v137 ∈ Pipeline.restRefs sig spec0 by decide)).trans (tail_result m c),
       ((h.1 c).2 main_arg0 (show main_arg0 ∈ Pipeline.restRefs sig spec0 by decide)).trans ((tail_keep m c main_arg0 (by decide) (by decide)).trans (all_arg0 _)),
       ((h.1 c).2 main_arg1 (show main_arg1 ∈ Pipeline.restRefs sig spec0 by decide)).trans ((tail_keep m c main_arg1 (by decide) (by decide)).trans (all_arg1 _))⟩, h.2⟩)

end Cert.Proof.KI
end
-- ==== Proof.Arith.lean ====
/- The bins of a drawn box: its corners over the reals, and the bounds of its bins as integers. -/
module

public import proofs.«01_k».proof.Proof.Words
public import Idealize.ShloMosaic.Lib.Affine
public import Mathlib.Tactic.Linarith
public import Mathlib.Tactic.IntervalCases

@[expose] public section

noncomputable section

namespace Cert.Proof

open Idealize.ShloMosaic

/-- The scale is a sixteenth. -/
theorem scale_val : (FloatOps.ofBits .f32 0x3D800000#32 : Ideal .f32) = ((1 / 16 : ℝ) : EReal) := by
  simp [Ideal.ofBits, Ideal.ieee]
  rw [← EReal.coe_mul]
  congr 1
  norm_num

/-- A corner over the reals is a sixteenth of the coordinate, rounded down. -/
theorem int_corner {x : BitVec 32} (h0 : 0 ≤ x.toInt) (h1 : x.toInt ≤ 799) : (corner (F := Ideal) x).toInt = x.toInt / 16 := by
  have e : (FloatOps.mulf (FloatOps.sitofp .f32 x) (FloatOps.ofBits .f32 0x3D800000#32) : Ideal .f32) = (((x.toInt : ℝ) * (1 / 16) : ℝ) : EReal) := by
    rw [scale_val, EReal.coe_mul]; rfl
  have f : ⌊(x.toInt : ℝ) * (1 / 16)⌋ = x.toInt / 16 := by
    rw [Int.floor_eq_iff]
    have a : 16 * (x.toInt / 16) ≤ x.toInt := by omega
    have b : x.toInt < 16 * (x.toInt / 16) + 16 := by omega
    have a' : (16 : ℝ) * ((x.toInt / 16 : ℤ) : ℝ) ≤ (x.toInt : ℝ) := by exact_mod_cast a
    have b' : (x.toInt : ℝ) < (16 : ℝ) * ((x.toInt / 16 : ℤ) : ℝ) + 16 := by exact_mod_cast b
    constructor <;> linarith
  unfold corner
  rw [e]
  have g : (FloatOps.hostUnary (F := Ideal) (φ := .f32) .floor (((x.toInt : ℝ) * (1 / 16) : ℝ) : EReal)) = (((x.toInt / 16 : ℤ) : ℝ) : EReal) := by
    rw [← f]; rfl
  rw [g]
  have k : (FloatOps.fptosi (F := Ideal) (φ := .f32) 32 (((x.toInt / 16 : ℤ) : ℝ) : EReal)) = BitVec.ofInt 32 (x.toInt / 16) := by
    show BitVec.ofInt 32 (max _ (min _ _)) = _
    congr 1
    rw [Int.floor_intCast, Int.ceil_intCast, ite_self]
    norm_num
    omega
  rw [k, BitVec.toInt_ofInt]
  simp only [Int.bmod]
  omega

/-- The seventh of a small word. -/
theorem int_fdiv {x : BitVec 32} (h0 : 0 ≤ x.toInt) (h1 : x.toInt < 256) : (fdiv x).toInt = x.toInt / 7 := by
  have h : ∀ a : Fin 256, (fdiv (BitVec.ofNat 32 a.val)).toInt = (a.val : ℤ) / 7 := by decide +kernel
  have hn := nat_int h0
  have := h ⟨x.toNat, by omega⟩
  rw [BitVec.ofNat_toNat, BitVec.setWidth_eq] at this
  rw [this, ← hn]

/-- What a box's corners along an axis are like: inside the image, and at most 26 rows apart. -/
structure Drawn (lo hi : BitVec 32) : Prop where
  pos : 0 ≤ lo.toInt
  le : lo.toInt ≤ hi.toInt
  near : hi.toInt ≤ lo.toInt + 25
  in_img : hi.toInt ≤ 49

/-- The corners of a drawn box. -/
theorem drawn_of {a b : BitVec 32} (h0 : 0 ≤ a.toInt) (h1 : a.toInt + 32 ≤ b.toInt) (h2 : b.toInt ≤ a.toInt + 399) (h3 : b.toInt ≤ 799) :
    Drawn (corner (F := Ideal) a) (corner (F := Ideal) b) := by
  have ea := int_corner h0 (by omega)
  have eb := int_corner (x := b) (by omega) h3
  constructor <;> omega

/-- The length of a drawn box. -/
theorem int_len {lo hi : BitVec 32} (h : Drawn lo hi) : (len lo hi).toInt = hi.toInt + 1 - lo.toInt := by
  obtain ⟨a, b, c, d⟩ := h
  have c1 : (1#32).toInt = 1 := rfl
  have c0 : (0#32).toInt = 0 := rfl
  have c50 : (50#32).toInt = 50 := rfl
  have e1 : (IntOp.addi hi 1#32).toInt = hi.toInt + 1 := by rw [int_add (by omega) (by omega), c1]
  have e2 : (IntOp.minsi 50#32 (IntOp.maxsi 0#32 (IntOp.addi hi 1#32))).toInt = hi.toInt + 1 := by rw [int_min, int_max, e1]; omega
  unfold len
  rw [int_max, int_sub (by omega) (by omega), e2]
  omega

/-- The first row of a bin of a drawn box. -/
theorem int_binS {lo hi : BitVec 32} (h : Drawn lo hi) {i : ℕ} (hi7 : i < 7) :
    (binS lo hi (BitVec.ofNat 32 i)).toInt = lo.toInt + i * (hi.toInt + 1 - lo.toInt) / 7 := by
  have el := int_len h
  obtain ⟨a, b, c, d⟩ := h
  have ei : (BitVec.ofNat 32 i).toInt = i := int_nat (by omega)
  have hb : 0 ≤ (i : ℤ) * (hi.toInt + 1 - lo.toInt) ∧ (i : ℤ) * (hi.toInt + 1 - lo.toInt) ≤ 156 := by
    interval_cases i <;> constructor <;> push_cast <;> omega
  have em : (IntOp.muli (BitVec.ofNat 32 i) (len lo hi)).toInt = i * (hi.toInt + 1 - lo.toInt) := by
    rw [int_mul (by rw [ei, el]; omega) (by rw [ei, el]; omega), ei, el]
  unfold binS
  have ef := int_fdiv (x := IntOp.muli (BitVec.ofNat 32 i) (len lo hi)) (by omega) (by omega)
  rw [int_add (by omega) (by omega), ef, em]

/-- The row after the last row of a bin of a drawn box. -/
theorem int_binE {lo hi : BitVec 32} (h : Drawn lo hi) {i : ℕ} (hi7 : i < 7) :
    (binE lo hi (BitVec.ofNat 32 i)).toInt = lo.toInt + ((i + 1) * (hi.toInt + 1 - lo.toInt) + 6) / 7 := by
  have el := int_len h
  obtain ⟨a, b, c, d⟩ := h
  have c1 : (1#32).toInt = 1 := rfl
  have c7 : (7#32).toInt = 7 := rfl
  have ei : (IntOp.addi (BitVec.ofNat 32 i) 1#32).toInt = i + 1 := by
    have := int_nat (k := i) (by omega)
    rw [int_add (by omega) (by omega), this, c1]
  have hb : 0 ≤ ((i : ℤ) + 1) * (hi.toInt + 1 - lo.toInt) ∧ ((i : ℤ) + 1) * (hi.toInt + 1 - lo.toInt) ≤ 182 := by
    interval_cases i <;> constructor <;> push_cast <;> omega
  have em : (IntOp.muli (IntOp.addi (BitVec.ofNat 32 i) 1#32) (len lo hi)).toInt = (i + 1) * (hi.toInt + 1 - lo.toInt) := by
    rw [int_mul (by rw [ei, el]; omega) (by rw [ei, el]; omega), ei, el]
  have e7 : (IntOp.addi (IntOp.muli (IntOp.addi (BitVec.ofNat 32 i) 1#32) (len lo hi)) 7#32).toInt = (i + 1) * (hi.toInt + 1 - lo.toInt) + 7 := by
    rw [int_add (by omega) (by omega), em, c7]
  have e6 : (IntOp.subi (IntOp.addi (IntOp.muli (IntOp.addi (BitVec.ofNat 32 i) 1#32) (len lo hi)) 7#32) 1#32).toInt = (i + 1) * (hi.toInt + 1 - lo.toInt) + 6 := by
    rw [int_sub (by omega) (by omega), e7, c1]; omega
  unfold binE
  have ef := int_fdiv (x := IntOp.subi (IntOp.addi (IntOp.muli (IntOp.addi (BitVec.ofNat 32 i) 1#32) (len lo hi)) 7#32) 1#32) (by omega) (by omega)
  rw [int_add (by omega) (by omega), ef, e6]

/-- A bin of a drawn box: inside the image, one to five rows long. -/
theorem bin_bounds {lo hi : BitVec 32} (h : Drawn lo hi) {i : ℕ} (hi7 : i < 7) :
    0 ≤ (binS lo hi (BitVec.ofNat 32 i)).toInt ∧ (binS lo hi (BitVec.ofNat 32 i)).toInt + 1 ≤ (binE lo hi (BitVec.ofNat 32 i)).toInt
      ∧ (binE lo hi (BitVec.ofNat 32 i)).toInt ≤ (binS lo hi (BitVec.ofNat 32 i)).toInt + 5 ∧ (binE lo hi (BitVec.ofNat 32 i)).toInt ≤ 50 := by
  rw [int_binS h hi7, int_binE h hi7]
  obtain ⟨a, b, c, d⟩ := h
  interval_cases i <;> refine ⟨?_, ?_, ?_, ?_⟩ <;> push_cast <;> omega

end Cert.Proof
end
-- ==== Proof.Levels.lean ====
/- The table of rows over the reals: its five levels, and what their maxima are over the image's rows. -/
module

public import proofs.«01_k».proof.Proof.HostIdeal
public import Mathlib.Tactic.IntervalCases

@[expose] public section

noncomputable section

namespace Cert.Proof.KI

open Cert.KernelIdeal Cert.KernelIdeal.Gen
open Idealize.ShloMosaic Idealize.ShloMosaic.TcCoe
open Idealize.SL Idealize.SL.RA Idealize.SL.BI Idealize.SL.Sem

variable {α : Type} {F : FTy → Type} [FloatOps F]

/-- The image's rows, columns and channels, in that order. -/
def lev1 (x : S1x512x50x50.Idx → α) : S50x50x512.Idx → α :=
  transpose S50x50x512 [1, 2, 0] (shapeCast S512x50x50 x shapeCasts_S1x512x50x50_S512x50x50) transposes_S512x50x50_S50x50x512_1_2_0
/-- The rows moved up by one, the last one repeated. -/
def up1 (y : S50x50x512.Idx → α) : S50x50x512.Idx → α :=
  concatenate S50x50x512 0 [⟨S49x50x512, extractStridedSlice S49x50x512 ![1, 0, 0] y slices_S50x50x512_S49x50x512_1_0_0⟩,
    ⟨S1x50x512, shapeCast S1x50x512 (broadcastInDim S1x1x50x512 ![0, 2, 3] bcast_S1x50x512_S1x1x50x512_0_2_3
      (extractStridedSlice S1x50x512 ![49, 0, 0] y slices_S50x50x512_S1x50x512_49_0_0)) shapeCasts_S1x1x50x512_S1x50x512⟩] concatenates_S49x50x512_S1x50x512_S50x50x512_d0
/-- The rows moved up by two, the last one repeated. -/
def up2 (y : S50x50x512.Idx → α) : S50x50x512.Idx → α :=
  concatenate S50x50x512 0 [⟨S48x50x512, extractStridedSlice S48x50x512 ![2, 0, 0] y slices_S50x50x512_S48x50x512_2_0_0⟩,
    ⟨S2x50x512, shapeCast S2x50x512 (broadcastInDim S1x2x50x512 ![0, 2, 3] bcast_S1x50x512_S1x2x50x512_0_2_3
      (extractStridedSlice S1x50x512 ![49, 0, 0] y slices_S50x50x512_S1x50x512_49_0_0)) shapeCasts_S1x2x50x512_S2x50x512⟩] concatenates_S48x50x512_S2x50x512_S50x50x512_d0
/-- The rows moved up by four, the last one repeated. -/
def up4 (y : S50x50x512.Idx → α) : S50x50x512.Idx → α :=
  concatenate S50x50x512 0 [⟨S46x50x512, extractStridedSlice S46x50x512 ![4, 0, 0] y slices_S50x50x512_S46x50x512_4_0_0⟩,
    ⟨S4x50x512, shapeCast S4x50x512 (broadcastInDim S1x4x50x512 ![0, 2, 3] bcast_S1x50x512_S1x4x50x512_0_2_3
      (extractStridedSlice S1x50x512 ![49, 0, 0] y slices_S50x50x512_S1x50x512_49_0_0)) shapeCasts_S1x4x50x512_S4x50x512⟩] concatenates_S46x50x512_S4x50x512_S50x50x512_d0

/-- The maxima over two rows. -/
def lev2 (x : S1x512x50x50.Idx → F .f32) : S50x50x512.Idx → F .f32 := maximumf (lev1 x) (up1 (lev1 x))
/-- The maxima over three rows. -/
def lev3 (x : S1x512x50x50.Idx → F .f32) : S50x50x512.Idx → F .f32 := maximumf (lev2 x) (up2 (lev1 x))
/-- The maxima over four rows. -/
def lev4 (x : S1x512x50x50.Idx → F .f32) : S50x50x512.Idx → F .f32 := maximumf (lev2 x) (up2 (lev2 x))
/-- The maxima over five rows. -/
def lev5 (x : S1x512x50x50.Idx → F .f32) : S50x50x512.Idx → F .f32 := maximumf (lev4 x) (up4 (lev1 x))
/-- The five levels one after another. -/
def stack (a b c d e : S50x50x512.Idx → α) : S250x50x512.Idx → α :=
  concatenate S250x50x512 0 [⟨S50x50x512, a⟩, ⟨S50x50x512, b⟩, ⟨S50x50x512, c⟩, ⟨S50x50x512, d⟩, ⟨S50x50x512, e⟩]
    concatenates_S50x50x512_S50x50x512_S50x50x512_S50x50x512_S50x50x512_S250x50x512_d0

set_option maxHeartbeats 1000000

/-- The table of rows after the operations that make it. -/
theorem A0_v26 (X : Valuation τ sig (Elt F)) :
    (StableHlo.after (hostOps0 (F := F)) X (Proc.devRef .tc main_v26) : S250x50x512.Idx → F .f32)
      = stack (lev1 (X (Proc.devRef .tc main_arg0))) (lev2 (X (Proc.devRef .tc main_arg0))) (lev3 (X (Proc.devRef .tc main_arg0)))
          (lev4 (X (Proc.devRef .tc main_arg0))) (lev5 (X (Proc.devRef .tc main_arg0))) := by
  simp only [hostOps0]
  after_results_simp
  first | done | rfl

/-- The later operations of the first stretch leave the table of rows. -/
theorem A1_v26 (X : Valuation τ sig (Elt F)) :
    StableHlo.after ([hostOps0_1, hostOps0_2, hostOps0_3, hostOps0_4, hostOps0_5, hostOps0_6, hostOps0_7, hostOps0_8, hostOps0_9] : List (List (HloOp τ sig (Elt F)))).flatten X
      (Proc.devRef .tc main_v26) = X (Proc.devRef .tc main_v26) := by
  simp only [List.flatten_cons, List.flatten_nil, List.append_nil, List.cons_append, List.nil_append, hostOps0_1, hostOps0_2, hostOps0_3,
    hostOps0_4, hostOps0_5, hostOps0_6, hostOps0_7, hostOps0_8, hostOps0_9]
  after_reads_simp

/-- The table of rows when the launch starts. -/
theorem all_v26 (X : Valuation τ sig (Elt F)) :
    (StableHlo.after (opsAll (F := F)).flatten X (Proc.devRef .tc main_v26) : S250x50x512.Idx → F .f32)
      = stack (lev1 (X (Proc.devRef .tc main_arg0))) (lev2 (X (Proc.devRef .tc main_arg0))) (lev3 (X (Proc.devRef .tc main_arg0)))
          (lev4 (X (Proc.devRef .tc main_arg0))) (lev5 (X (Proc.devRef .tc main_arg0))) := by
  rw [afterAll, T_v26, C_v26, B_v26]
  show StableHlo.after (hostOps0 ++ ([hostOps0_1, hostOps0_2, hostOps0_3, hostOps0_4, hostOps0_5, hostOps0_6, hostOps0_7, hostOps0_8, hostOps0_9] : List (List (HloOp τ sig (Elt F)))).flatten) X (Proc.devRef .tc main_v26) = _
  rw [StableHlo.after_append, A1_v26, A0_v26]

/-! ### Entry by entry -/

/-- The first level's entries are the image's. -/
theorem lev1_at (x : S1x512x50x50.Idx → α) (r w : Fin 50) (c : Fin 512) : lev1 x (ix3 r w c) = x (ix4 0 c r w) := by
  unfold lev1
  pointwise

/-- Moved up by one, an entry is the one a row further, or the last. -/
theorem up1_at (y : S50x50x512.Idx → α) (r w : Fin 50) (c : Fin 512) : up1 y (ix3 r w c) = y (ix3 ⟨min (r.val + 1) 49, by omega⟩ w c) := by
  unfold up1
  pointwise
  split_ifs with h
  · exact congrArg (fun t => y (ix3 t w c)) (Fin.ext (show 1 + r.val = min (r.val + 1) 49 by omega))
  · exact congrArg (fun t => y (ix3 t w c)) (Fin.ext (show 49 = min (r.val + 1) 49 by omega))

/-- Moved up by two, likewise. -/
theorem up2_at (y : S50x50x512.Idx → α) (r w : Fin 50) (c : Fin 512) : up2 y (ix3 r w c) = y (ix3 ⟨min (r.val + 2) 49, by omega⟩ w c) := by
  unfold up2
  pointwise
  split_ifs with h
  · exact congrArg (fun t => y (ix3 t w c)) (Fin.ext (show 2 + r.val = min (r.val + 2) 49 by omega))
  · exact congrArg (fun t => y (ix3 t w c)) (Fin.ext (show 49 = min (r.val + 2) 49 by omega))

/-- Moved up by four, likewise. -/
theorem up4_at (y : S50x50x512.Idx → α) (r w : Fin 50) (c : Fin 512) : up4 y (ix3 r w c) = y (ix3 ⟨min (r.val + 4) 49, by omega⟩ w c) := by
  unfold up4
  pointwise
  split_ifs with h
  · exact congrArg (fun t => y (ix3 t w c)) (Fin.ext (show 4 + r.val = min (r.val + 4) 49 by omega))
  · exact congrArg (fun t => y (ix3 t w c)) (Fin.ext (show 49 = min (r.val + 4) 49 by omega))

/-- The stack's entry at a level and a row is the level's at the row. -/
theorem stack_at (a b c d e : S50x50x512.Idx → α) {l : ℕ} (hl : l < 5) (s w : Fin 50) (ch : Fin 512) :
    stack a b c d e (ix3 ⟨l * 50 + s.val, by omega⟩ w ch) = (![a, b, c, d, e] ⟨l, hl⟩) (ix3 s w ch) := by
  unfold stack
  pointwise
  interval_cases l
  · rw [dif_pos (by omega)]; exact congrArg (fun t => a (ix3 t w ch)) (Fin.ext (by show 0 * 50 + s.val = _; omega))
  · rw [dif_neg (by omega), dif_pos (by omega)]; exact congrArg (fun t => b (ix3 t w ch)) (Fin.ext (by show 1 * 50 + s.val - 50 = _; omega))
  · rw [dif_neg (by omega), dif_neg (by omega), dif_pos (by omega)]
    exact congrArg (fun t => c (ix3 t w ch)) (Fin.ext (by show 2 * 50 + s.val - 50 - 50 = _; omega))
  · rw [dif_neg (by omega), dif_neg (by omega), dif_neg (by omega), dif_pos (by omega)]
    exact congrArg (fun t => d (ix3 t w ch)) (Fin.ext (by show 3 * 50 + s.val - 50 - 50 - 50 = _; omega))
  · rw [dif_neg (by omega), dif_neg (by omega), dif_neg (by omega), dif_neg (by omega)]
    exact congrArg (fun t => e (ix3 t w ch)) (Fin.ext (by show 4 * 50 + s.val - 50 - 50 - 50 - 50 = _; omega))

/-! ### The levels' maxima over the reals -/

/-- The image's entry in a channel at a row and a column, each brought back to the last one past it. -/
def px (x : S1x512x50x50.Idx → α) (c : Fin 512) (r w : ℕ) : α := x (ix4 0 c ⟨min r 49, by omega⟩ ⟨min w 49, by omega⟩)

/-- The table of rows of an image. -/
def tabOf (x : S1x512x50x50.Idx → F .f32) : S250x50x512.Idx → F .f32 := stack (lev1 x) (lev2 x) (lev3 x) (lev4 x) (lev5 x)

/-- The first level at a row is the image at the row. -/
theorem lev1_px (x : S1x512x50x50.Idx → α) (r w : Fin 50) (c : Fin 512) : lev1 x (ix3 r w c) = px x c r.val w.val := by
  rw [lev1_at]
  unfold px
  congr 2 <;> exact Fin.ext (by show _ = min _ 49; omega)

/-- The second is the maximum over two rows. -/
theorem lev2_px (x : S1x512x50x50.Idx → Ideal .f32) (r w : Fin 50) (c : Fin 512) :
    lev2 x (ix3 r w c) = max (px x c r.val w.val) (px x c (r.val + 1) w.val) := by
  show max (lev1 x _) (up1 (lev1 x) _) = _
  rw [up1_at, lev1_px, lev1_px]
  congr 1
  unfold px
  congr 2; exact Fin.ext (by show min (min _ 49) 49 = min _ 49; omega)

/-- The third is the maximum over three. -/
theorem lev3_px (x : S1x512x50x50.Idx → Ideal .f32) (r w : Fin 50) (c : Fin 512) :
    lev3 x (ix3 r w c) = max (max (px x c r.val w.val) (px x c (r.val + 1) w.val)) (px x c (r.val + 2) w.val) := by
  show max (lev2 x _) (up2 (lev1 x) _) = _
  rw [up2_at, lev2_px, lev1_px]
  congr 1
  unfold px
  congr 2; exact Fin.ext (by show min (min _ 49) 49 = min _ 49; omega)

/-- The fourth is the maximum over four. -/
theorem lev4_px (x : S1x512x50x50.Idx → Ideal .f32) (r w : Fin 50) (c : Fin 512) :
    lev4 x (ix3 r w c) = max (max (px x c r.val w.val) (px x c (r.val + 1) w.val)) (max (px x c (r.val + 2) w.val) (px x c (r.val + 3) w.val)) := by
  show max (lev2 x _) (up2 (lev2 x) _) = _
  rw [up2_at, lev2_px, lev2_px]
  congr 1
  unfold px
  congr 3
  · exact Fin.ext (by show min (min _ 49) 49 = min _ 49; omega)
  · exact Fin.ext (by show min (min _ 49 + 1) 49 = min _ 49; omega)

/-- The fifth is the maximum over five. -/
theorem lev5_px (x : S1x512x50x50.Idx → Ideal .f32) (r w : Fin 50) (c : Fin 512) :
    lev5 x (ix3 r w c) = max (max (max (px x c r.val w.val) (px x c (r.val + 1) w.val)) (max (px x c (r.val + 2) w.val) (px x c (r.val + 3) w.val)))
      (px x c (r.val + 4) w.val) := by
  show max (lev4 x _) (up4 (lev1 x) _) = _
  rw [up4_at, lev4_px, lev1_px]
  congr 1
  unfold px
  congr 2; exact Fin.ext (by show min (min _ 49) 49 = min _ 49; omega)

/-- The table's entry at level `l` and row `s` is at most `z` just when the image's rows `s` to `s + l` are. -/
theorem tab_le (x : S1x512x50x50.Idx → Ideal .f32) {l : ℕ} (hl : l < 5) (s w : Fin 50) (c : Fin 512) (z : Ideal .f32) :
    tabOf x (ix3 ⟨l * 50 + s.val, by omega⟩ w c) ≤ z ↔ ∀ d ≤ l, px x c (s.val + d) w.val ≤ z := by
  unfold tabOf
  rw [stack_at _ _ _ _ _ hl]
  interval_cases l
  · show lev1 x (ix3 s w c) ≤ z ↔ _
    rw [lev1_px]
    exact ⟨fun h d hd => by interval_cases d; exact h, fun h => h 0 (by omega)⟩
  · show lev2 x (ix3 s w c) ≤ z ↔ _
    rw [lev2_px, max_le_iff]
    exact ⟨fun h d hd => by interval_cases d; exacts [h.1, h.2], fun h => ⟨h 0 (by omega), h 1 (by omega)⟩⟩
  · show lev3 x (ix3 s w c) ≤ z ↔ _
    rw [lev3_px, max_le_iff, max_le_iff]
    exact ⟨fun h d hd => by interval_cases d; exacts [h.1.1, h.1.2, h.2], fun h => ⟨⟨h 0 (by omega), h 1 (by omega)⟩, h 2 (by omega)⟩⟩
  · show lev4 x (ix3 s w c) ≤ z ↔ _
    rw [lev4_px, max_le_iff, max_le_iff, max_le_iff]
    exact ⟨fun h d hd => by interval_cases d; exacts [h.1.1, h.1.2, h.2.1, h.2.2],
      fun h => ⟨⟨h 0 (by omega), h 1 (by omega)⟩, h 2 (by omega), h 3 (by omega)⟩⟩
  · show lev5 x (ix3 s w c) ≤ z ↔ _
    rw [lev5_px, max_le_iff, max_le_iff, max_le_iff, max_le_iff]
    exact ⟨fun h d hd => by interval_cases d; exacts [h.1.1.1, h.1.1.2, h.1.2.1, h.1.2.2, h.2],
      fun h => ⟨⟨⟨h 0 (by omega), h 1 (by omega)⟩, h 2 (by omega), h 3 (by omega)⟩, h 4 (by omega)⟩⟩

end Cert.Proof.KI
end
-- ==== Proof.Ref.lean ====
/- The reference over the reals, entry by entry: its two gathers, its mask, and its maximum over the masked patch. -/
module

public import proofs.«01_k».proof.Proof.Gen.ReferenceIdeal.Run
public import proofs.«01_k».proof.Proof.Words
public import Idealize.ShloMosaic.Lib.ValueIdxRank6
public import Idealize.ShloMosaic.Lib.Tactic.CleanTypes

@[expose] public section

noncomputable section

namespace Cert.Proof.R

open Cert.ReferenceIdeal Cert.ReferenceIdeal.Gen Cert.ReferenceIdeal.Value
open Idealize.ShloMosaic Idealize.ShloMosaic.TcCoe
open Idealize.SL.Sem

variable {F : FTy → Type} [FloatOps F]

/-- The image's rows gathered at the words `idx`: entry by entry. -/
theorem gather_rows {α : Type} (x : S512x50x50.Idx → α) (idx : IVec S1024x7x9x1 32) (n : Fin 1024) (c : Fin 512) (i : Fin 7) (k : Fin 9) (w : Fin 50) :
    Host.gather gather_S512x50x50_S1024x7x9x1_S1024x512x7x9x50_14_1_n_n_1_3_512150 x idx (ix5 n c i k w)
      = x (ix3 c ⟨min (idx (ix4 n i k 0)).toInt.toNat 49, by omega⟩ w) := by
  unfold Host.gather
  congr 1
  have h : GatherDims.siIdx gather_S512x50x50_S1024x7x9x1_S1024x512x7x9x50_14_1_n_n_1_3_512150 (ix5 n c i k w) ⟨0, by decide⟩ = (ix4 n i k 0 : S1024x7x9x1.Idx) := by
    funext b; refine Fin.ext ?_
    match b with
    | ⟨0, _⟩ => rfl
    | ⟨1, _⟩ => rfl
    | ⟨2, _⟩ => rfl
    | ⟨3, _⟩ => rfl
  funext a
  refine Fin.ext ?_
  match a with
  | ⟨0, _⟩ => exact (Nat.zero_add _ : 0 + c.val = c.val)
  | ⟨1, _⟩ => exact congrArg (fun t => min (idx t).toInt.toNat 49) h
  | ⟨2, _⟩ => exact (Nat.zero_add _ : 0 + w.val = w.val)

/-- The columns of the gathered rows gathered at the words `idx`: entry by entry. -/
theorem gather_cols {α : Type} (x : S1024x512x7x9x50.Idx → α) (idx : IVec S1024x7x9x1 32) (n : Fin 1024) (c : Fin 512) (i : Fin 7) (k : Fin 9) (j : Fin 7) (l : Fin 9) :
    Host.gather gather_S1024x512x7x9x50_S1024x7x9x1_S1024x512x7x9x7x9_123_4_0_0_4_3_1512791 x idx (ValueIdx.ix6 n c i k j l)
      = x (ix5 n c i k ⟨min (idx (ix4 n j l 0)).toInt.toNat 49, by omega⟩) := by
  unfold Host.gather
  congr 1
  have h : GatherDims.siIdx gather_S1024x512x7x9x50_S1024x7x9x1_S1024x512x7x9x7x9_123_4_0_0_4_3_1512791 (ValueIdx.ix6 n c i k j l) ⟨0, by decide⟩ = (ix4 n j l 0 : S1024x7x9x1.Idx) := by
    funext b; refine Fin.ext ?_
    match b with
    | ⟨0, _⟩ => rfl
    | ⟨1, _⟩ => rfl
    | ⟨2, _⟩ => rfl
    | ⟨3, _⟩ => rfl
  funext a
  refine Fin.ext ?_
  match a with
  | ⟨0, _⟩ => exact (Nat.zero_add _ : 0 + n.val = n.val)
  | ⟨1, _⟩ => exact (Nat.zero_add _ : 0 + c.val = c.val)
  | ⟨2, _⟩ => exact (Nat.zero_add _ : 0 + i.val = i.val)
  | ⟨3, _⟩ => exact (Nat.zero_add _ : 0 + k.val = k.val)
  | ⟨4, _⟩ => exact congrArg (fun t => min (idx t).toInt.toNat 49) h

/-! ### The words of the regions -/

/-- The corner words of region `n`, column by column. -/
def crn (V : Valuation τ sig (Elt F)) (n : Fin 1024) (a : Fin 4) : BitVec 32 :=
  corner (F := F) ((V (Proc.devRef .tc main_arg1) : S1024x4.Idx → BitVec 32) (ix2 n a))

section
variable (V : Valuation τ sig (Elt F)) (n : Fin 1024) (i : Fin 7) (k : Fin 9)

/-- The corners. -/
theorem r_v5 (a : Fin 4) : (res_main_v5 V : S1024x4.Idx → BitVec 32) (ix2 n a) = crn V n a := by
  unfold res_main_v5; clean_types; pointwise; rfl

/-! The row axis: the box's low corner and length, the bins' first rows, and the gathered rows. -/

/-- The box's low corner on the row axis. -/
theorem r_v7 : (res_main_v7 V : S1024.Idx → BitVec 32) (ix1 n) = crn V n 1 := by
  unfold res_main_v7; clean_types; pointwise; exact r_v5 V n 1
/-- The box's length on the row axis. -/
theorem r_v15 : (res_main_v15 V : S1024.Idx → BitVec 32) (ix1 n) = len (crn V n 1) (crn V n 3) := by
  unfold res_main_v15; clean_types; pointwise; rw [r_v5, r_v7]; rfl
/-- The bins' numbers. -/
theorem r_v16 : (res_main_v16 V : S7.Idx → BitVec 32) (ix1 i) = BitVec.ofNat 32 i.val := by
  unfold res_main_v16; clean_types; pointwise
/-- A bin's number times the length. -/
theorem r_v21 : (res_main_v21 V : S1024x7.Idx → BitVec 32) (ix2 n i) = IntOp.muli (BitVec.ofNat 32 i.val) (len (crn V n 1) (crn V n 3)) := by
  unfold res_main_v21; clean_types; pointwise; rw [r_v15, r_v16]
/-- The divisor is seven. -/
theorem r_call1_v0 : (res_main_call1_v0 V : S_.Idx → BitVec 32) (ix0) = 7#32 := by
  unfold res_main_call1_v0; clean_types; pointwise; rfl
/-- Its quotient by seven, toward zero. -/
theorem r_call1_v2 : (res_main_call1_v2 V : S1024x7.Idx → BitVec 32) (ix2 n i) = IntOp.divsi .host (IntOp.muli (BitVec.ofNat 32 i.val) (len (crn V n 1) (crn V n 3))) 7#32 := by
  unfold res_main_call1_v2; clean_types; pointwise; rw [r_v21, r_call1_v0]
/-- The next bin's number times the length, and six more. -/
theorem r_v36 : (res_main_v36 V : S1024x7.Idx → BitVec 32) (ix2 n i) = IntOp.subi (IntOp.addi (IntOp.muli (IntOp.addi (BitVec.ofNat 32 i.val) 1#32) (len (crn V n 1) (crn V n 3))) 7#32) 1#32 := by
  unfold res_main_v36; clean_types; pointwise; rw [r_v15, r_v16]
/-- The divisor is seven. -/
theorem r_call2_v0 : (res_main_call2_v0 V : S_.Idx → BitVec 32) (ix0) = 7#32 := by
  unfold res_main_call2_v0; clean_types; pointwise; rfl
/-- Its quotient by seven, toward zero. -/
theorem r_call2_v2 : (res_main_call2_v2 V : S1024x7.Idx → BitVec 32) (ix2 n i) = IntOp.divsi .host (IntOp.subi (IntOp.addi (IntOp.muli (IntOp.addi (BitVec.ofNat 32 i.val) 1#32) (len (crn V n 1) (crn V n 3))) 7#32) 1#32) 7#32 := by
  unfold res_main_call2_v2; clean_types; pointwise; rw [r_v36, r_call2_v0]
/-- The rows of a bin's window. -/
theorem r_v47 : (res_main_v47 V : S1024x7x9.Idx → BitVec 32) (ix3 n i k) = IntOp.addi (binS (crn V n 1) (crn V n 3) (BitVec.ofNat 32 i.val)) (BitVec.ofNat 32 k.val) := by
  unfold res_main_v47; clean_types; pointwise; rw [r_v7, r_v21, r_call1_v0, r_call1_v2]; rfl
/-- The rows of a bin's window, brought into the image. -/
theorem r_v51 : (res_main_v51 V : S1024x7x9.Idx → BitVec 32) (ix3 n i k) = IntOp.minsi 49#32 (IntOp.maxsi 0#32 (IntOp.addi (binS (crn V n 1) (crn V n 3) (BitVec.ofNat 32 i.val)) (BitVec.ofNat 32 k.val))) := by
  unfold res_main_v51; clean_types; pointwise; rw [r_v47]; rfl
/-- The row after a bin's last. -/
theorem r_end_rows :
    IntOp.addi (res_main_v7 V (ix1 n))
      (Scalar.select
        (IntOp.andi (IntOp.cmpi .ne (sgn (res_main_v36 V (ix2 n i))) (sgn (res_main_call2_v0 V ix0))) (IntOp.cmpi .ne (IntOp.remsi .host (res_main_v36 V (ix2 n i)) (res_main_call2_v0 V ix0)) 0#32))
        (IntOp.subi (res_main_call2_v2 V (ix2 n i)) 1#32) (res_main_call2_v2 V (ix2 n i))) = binE (crn V n 1) (crn V n 3) (BitVec.ofNat 32 i.val) := by
  rw [r_v7, r_v36, r_call2_v0, r_call2_v2]; rfl

/-! The column axis, the same way. -/

/-- The box's low corner on the column axis. -/
theorem r_v53 : (res_main_v53 V : S1024.Idx → BitVec 32) (ix1 n) = crn V n 0 := by
  unfold res_main_v53; clean_types; pointwise; exact r_v5 V n 0
/-- The box's length on the column axis. -/
theorem r_v61 : (res_main_v61 V : S1024.Idx → BitVec 32) (ix1 n) = len (crn V n 0) (crn V n 2) := by
  unfold res_main_v61; clean_types; pointwise; rw [r_v5, r_v53]; rfl
/-- The bins' numbers. -/
theorem r_v62 : (res_main_v62 V : S7.Idx → BitVec 32) (ix1 i) = BitVec.ofNat 32 i.val := by
  unfold res_main_v62; clean_types; pointwise
/-- A bin's number times the length. -/
theorem r_v67 : (res_main_v67 V : S1024x7.Idx → BitVec 32) (ix2 n i) = IntOp.muli (BitVec.ofNat 32 i.val) (len (crn V n 0) (crn V n 2)) := by
  unfold res_main_v67; clean_types; pointwise; rw [r_v61, r_v62]
/-- The divisor is seven. -/
theorem r_call5_v0 : (res_main_call5_v0 V : S_.Idx → BitVec 32) (ix0) = 7#32 := by
  unfold res_main_call5_v0; clean_types; pointwise; rfl
/-- Its quotient by seven, toward zero. -/
theorem r_call5_v2 : (res_main_call5_v2 V : S1024x7.Idx → BitVec 32) (ix2 n i) = IntOp.divsi .host (IntOp.muli (BitVec.ofNat 32 i.val) (len (crn V n 0) (crn V n 2))) 7#32 := by
  unfold res_main_call5_v2; clean_types; pointwise; rw [r_v67, r_call5_v0]
/-- The next bin's number times the length, and six more. -/
theorem r_v82 : (res_main_v82 V : S1024x7.Idx → BitVec 32) (ix2 n i) = IntOp.subi (IntOp.addi (IntOp.muli (IntOp.addi (BitVec.ofNat 32 i.val) 1#32) (len (crn V n 0) (crn V n 2))) 7#32) 1#32 := by
  unfold res_main_v82; clean_types; pointwise; rw [r_v61, r_v62]
/-- The divisor is seven. -/
theorem r_call6_v0 : (res_main_call6_v0 V : S_.Idx → BitVec 32) (ix0) = 7#32 := by
  unfold res_main_call6_v0; clean_types; pointwise; rfl
/-- Its quotient by seven, toward zero. -/
theorem r_call6_v2 : (res_main_call6_v2 V : S1024x7.Idx → BitVec 32) (ix2 n i) = IntOp.divsi .host (IntOp.subi (IntOp.addi (IntOp.muli (IntOp.addi (BitVec.ofNat 32 i.val) 1#32) (len (crn V n 0) (crn V n 2))) 7#32) 1#32) 7#32 := by
  unfold res_main_call6_v2; clean_types; pointwise; rw [r_v82, r_call6_v0]
/-- The columns of a bin's window. -/
theorem r_v93 : (res_main_v93 V : S1024x7x9.Idx → BitVec 32) (ix3 n i k) = IntOp.addi (binS (crn V n 0) (crn V n 2) (BitVec.ofNat 32 i.val)) (BitVec.ofNat 32 k.val) := by
  unfold res_main_v93; clean_types; pointwise; rw [r_v53, r_v67, r_call5_v0, r_call5_v2]; rfl
/-- The columns of a bin's window, brought into the image. -/
theorem r_v97 : (res_main_v97 V : S1024x7x9.Idx → BitVec 32) (ix3 n i k) = IntOp.minsi 49#32 (IntOp.maxsi 0#32 (IntOp.addi (binS (crn V n 0) (crn V n 2) (BitVec.ofNat 32 i.val)) (BitVec.ofNat 32 k.val))) := by
  unfold res_main_v97; clean_types; pointwise; rw [r_v93]; rfl
/-- The column after a bin's last. -/
theorem r_end_cols :
    IntOp.addi (res_main_v53 V (ix1 n))
      (Scalar.select
        (IntOp.andi (IntOp.cmpi .ne (sgn (res_main_v82 V (ix2 n i))) (sgn (res_main_call6_v0 V ix0))) (IntOp.cmpi .ne (IntOp.remsi .host (res_main_v82 V (ix2 n i)) (res_main_call6_v0 V ix0)) 0#32))
        (IntOp.subi (res_main_call6_v2 V (ix2 n i)) 1#32) (res_main_call6_v2 V (ix2 n i))) = binE (crn V n 0) (crn V n 2) (BitVec.ofNat 32 i.val) := by
  rw [r_v53, r_v82, r_call6_v0, r_call6_v2]; rfl

end

/-! ### The maximum over a masked patch -/

/-- The place at which a gather reads: the word `s + k` brought into the image. -/
def gw (s k : BitVec 32) : BitVec 32 :=
  Scalar.select (IntOp.cmpi .slt (IntOp.minsi 49#32 (IntOp.maxsi 0#32 (IntOp.addi s k))) 0#32)
    (IntOp.addi (IntOp.minsi 49#32 (IntOp.maxsi 0#32 (IntOp.addi s k))) 50#32) (IntOp.minsi 49#32 (IntOp.maxsi 0#32 (IntOp.addi s k)))

/-- The image's entry at row and column words. -/
def pix (x : S1x512x50x50.Idx → Ideal .f32) (c : Fin 512) (r w : BitVec 32) : Ideal .f32 :=
  x (ix4 0 c ⟨min r.toInt.toNat 49, by omega⟩ ⟨min w.toInt.toNat 49, by omega⟩)

/-- The image's entry at two words, the image's leading axis dropped. -/
theorem pix_of (x : S1x512x50x50.Idx → Ideal .f32) (c : Fin 512) (a b r w : BitVec 32) (ha : a = r) (hb : b = w) :
    shapeCast S512x50x50 x shapeCasts_S1x512x50x50_S512x50x50 (ix3 c ⟨min a.toInt.toNat 49, by omega⟩ ⟨min b.toInt.toNat 49, by omega⟩)
      = pix x c r w := by
  subst ha hb
  unfold pix
  generalize (⟨min a.toInt.toNat 49, by omega⟩ : Fin 50) = p
  generalize (⟨min b.toInt.toNat 49, by omega⟩ : Fin 50) = q
  pointwise

/-- The pad value is the least. -/
theorem ofBits_bot : (Ideal.ofBits .f32 0xFF800000#32 : EReal) = ⊥ := by simp [Ideal.ofBits, Ideal.ieee]

/-- A maximum over the patch axes is at most `z` just when every entry of the patch is. -/
theorem reduce_le (x : S1024x512x7x9x7x9.Idx → Ideal .f32) (n : Fin 1024) (c : Fin 512) (i j : Fin 7) (z : Ideal .f32) :
    Host.reduce FloatOps.maximumf x (constant S_ .f32 0xFF800000#32) reducesTo_S1024x512x7x9x7x9_S1024x512x7x7_d3_5 h_S_ (ix4 n c i j) ≤ z
      ↔ ∀ k l : Fin 9, x (ValueIdx.ix6 n c i k j l) ≤ z := by
  rw [Host.reduce_eq_fold]
  refine Iff.trans (Finset.fold_max_le (β := Ideal .f32) (f := x) (b := constant S_ .f32 0xFF800000#32 (Shape.Idx.first h_S_)) (s := {a | reducesTo_S1024x512x7x9x7x9_S1024x512x7x7_d3_5.drop a = ix4 n c i j}) z) ?_
  constructor
  · rintro ⟨-, h⟩ k l
    refine h _ (Finset.mem_filter.mpr ⟨Finset.mem_univ _, ?_⟩)
    funext a
    refine Fin.ext ?_
    match a with
    | ⟨0, _⟩ => rfl
    | ⟨1, _⟩ => rfl
    | ⟨2, _⟩ => rfl
    | ⟨3, _⟩ => rfl
  · intro h
    refine ⟨?_, fun a ha => ?_⟩
    · rw [show (constant S_ .f32 0xFF800000#32 (Shape.Idx.first h_S_) : Ideal .f32) = ⊥ from ofBits_bot]; exact bot_le
    · have ha := (Finset.mem_filter.mp ha).2
      rw [ValueIdx.eq_ix6 a] at ha ⊢
      have e0 := congrArg Fin.val (congrFun ha 0)
      have e1 := congrArg Fin.val (congrFun ha 1)
      have e2 := congrArg Fin.val (congrFun ha 2)
      have e3 := congrArg Fin.val (congrFun ha 3)
      have e0 : a 0 = n := Fin.ext e0
      have e1 : a 1 = c := Fin.ext e1
      have e2 : a 2 = i := Fin.ext e2
      have e3 : a 4 = j := Fin.ext e3
      rw [e0, e1, e2, e3]
      exact h _ _

/-- The reference's result, from the contents its operations start from. -/
def res (V : Valuation τ sig (Elt Ideal)) : S1024x512x7x7.Idx → Ideal .f32 := val3 V (Proc.devRef .tc main_v119)

/-- The reference's result at a region, a channel and a bin is at most `z` just when every entry of its masked patch is. -/
theorem res_le (V : Valuation τ sig (Elt Ideal)) (n : Fin 1024) (c : Fin 512) (i j : Fin 7) (z : Ideal .f32) :
    res V (ix4 n c i j) ≤ z ↔ ∀ k l : Fin 9,
      Scalar.select
        (IntOp.andi
          (IntOp.cmpi .slt (IntOp.addi (binS (crn V n 1) (crn V n 3) (BitVec.ofNat 32 i.val)) (BitVec.ofNat 32 k.val)) (binE (crn V n 1) (crn V n 3) (BitVec.ofNat 32 i.val)))
          (IntOp.cmpi .slt (IntOp.addi (binS (crn V n 0) (crn V n 2) (BitVec.ofNat 32 j.val)) (BitVec.ofNat 32 l.val)) (binE (crn V n 0) (crn V n 2) (BitVec.ofNat 32 j.val))))
        (pix (V (Proc.devRef .tc main_arg0)) c
          (gw (binS (crn V n 1) (crn V n 3) (BitVec.ofNat 32 i.val)) (BitVec.ofNat 32 k.val))
          (gw (binS (crn V n 0) (crn V n 2) (BitVec.ofNat 32 j.val)) (BitVec.ofNat 32 l.val)))
        (FloatOps.ofBits (F := Ideal) .f32 0xFF800000#32) ≤ z := by
  unfold res
  rw [val3_main_v119]
  clean_types
  rw [reduce_le]
  refine forall_congr' fun k => forall_congr' fun l => Iff.of_eq (congrArg (· ≤ z) ?_)
  rw [ValueIdx.select_apply, gather_cols, gather_rows]
  refine congr (congr (congrArg Scalar.select ?_) ?_) rfl
  · pointwise
    exact congr (congrArg IntOp.andi (congr (congrArg (IntOp.cmpi .slt) (r_v47 V n i k)) (r_end_rows V n i)))
      (congr (congrArg (IntOp.cmpi .slt) (r_v93 V n j l)) (r_end_cols V n j))
  · refine pix_of _ c _ _ _ _ ?_ ?_
    · pointwise
      rw [r_v51]; rfl
    · pointwise
      rw [r_v97]; rfl

end Cert.Proof.R
end
-- ==== Proof.Value.lean ====
/- The values over the reals: for a drawn box, the kernel's result and the reference's are both the maximum of the image over the bin. -/
module

public import proofs.«01_k».proof.Proof.Arith
public import proofs.«01_k».proof.Proof.Levels
public import proofs.«01_k».proof.Proof.RunIdeal
public import proofs.«01_k».proof.Proof.Ref

@[expose] public section

noncomputable section

namespace Cert.Proof

open Idealize.ShloMosaic Idealize.ShloMosaic.TcCoe Idealize.SL.Sem

/-- Every image entry of the bin from row `S` to `E` and column `S'` to `E'` is at most `z`. -/
def Patch (x : Cert.KernelIdeal.S1x512x50x50.Idx → Ideal .f32) (c : Fin 512) (S E S' E' : ℕ) (z : Ideal .f32) : Prop :=
  ∀ r w, S ≤ r → r < E → S' ≤ w → w < E' → KI.px x c r w ≤ z

/-- A choice by a bit: the first where it is one, -/
theorem select_one {α : Type} {b : BitVec 1} (h : b = 1#1) (x y : α) : Scalar.select b x y = x := if_pos h
/-- and the second where it is not. -/
theorem select_not {α : Type} {b : BitVec 1} (h : ¬b = 1#1) (x y : α) : Scalar.select b x y = y := if_neg h

/-- Bin `i` of the box from `lo` to `hi` goes from `S` to `E`, one to five rows inside the image. -/
structure Bin (lo hi : BitVec 32) (i S E : ℕ) : Prop where
  lt : S < E
  le : E ≤ S + 5
  img : E ≤ 50
  fst : (binS lo hi (BitVec.ofNat 32 i)).toInt = S
  lst : (binE lo hi (BitVec.ofNat 32 i)).toInt = E

/-- A bin of a drawn box is a bin. -/
theorem bin_of {lo hi : BitVec 32} (h : Drawn lo hi) {i : ℕ} (hi7 : i < 7) : ∃ S E, Bin lo hi i S E := by
  obtain ⟨a, b, c, d⟩ := bin_bounds h hi7
  refine ⟨(binS lo hi (BitVec.ofNat 32 i)).toInt.toNat, (binE lo hi (BitVec.ofNat 32 i)).toInt.toNat, ?_, ?_, ?_, ?_, ?_⟩ <;> omega

namespace Bin
variable {lo hi : BitVec 32} {i S E : ℕ} (h : Bin lo hi i S E)
include h

/-- The bin's first row, brought into the image, is its first row. -/
theorem start : (startW lo hi (BitVec.ofNat 32 i)).toInt = S := by
  have := h.lt; have := h.img
  rw [int_start, h.fst]; omega
/-- The row after the bin's last, brought into the image, is the row after its last. -/
theorem fin : (endW lo hi (BitVec.ofNat 32 i)).toInt = E := by
  have := h.lt; have := h.img
  rw [int_end, h.start, h.lst]; omega

/-- The table row of the bin. -/
theorem row : (rowW (startW lo hi (BitVec.ofNat 32 i)) (endW lo hi (BitVec.ofNat 32 i))).toNat = (E - S - 1) * 50 + S := by
  have := h.lt; have := h.img; have := h.le; have a := h.start; have b := h.fin
  have r := int_row (s := startW lo hi (BitVec.ofNat 32 i)) (e := endW lo hi (BitVec.ofNat 32 i)) (by omega) (by omega) (by omega)
  rw [a, b] at r
  have n := nat_int (x := rowW (startW lo hi (BitVec.ofNat 32 i)) (endW lo hi (BitVec.ofNat 32 i))) (by omega)
  omega

/-- The columns of the bin. -/
theorem col {k : ℕ} (hk : k < 5) :
    (colW (startW lo hi (BitVec.ofNat 32 i)) (endW lo hi (BitVec.ofNat 32 i)) (BitVec.ofNat 32 k)).toNat = S + min k (E - S - 1) := by
  have := h.lt; have := h.img; have a := h.start; have b := h.fin
  have kk := int_nat (k := k) (by omega)
  have r := int_col (s := startW lo hi (BitVec.ofNat 32 i)) (e := endW lo hi (BitVec.ofNat 32 i)) (k := BitVec.ofNat 32 k) (by omega) (by omega) (by omega) (by omega)
  rw [a, b, kk] at r
  have n := nat_int (x := colW (startW lo hi (BitVec.ofNat 32 i)) (endW lo hi (BitVec.ofNat 32 i)) (BitVec.ofNat 32 k)) (by omega)
  omega

/-- The place the reference gathers at. -/
theorem gath {k : ℕ} (hk : S + k < E) : (R.gw (binS lo hi (BitVec.ofNat 32 i)) (BitVec.ofNat 32 k)).toInt = (S + k : ℕ) := by
  have := h.img; have a := h.fst
  have kk := int_nat (k := k) (by omega)
  have c0 : (0#32).toInt = 0 := rfl
  have c49 : (49#32).toInt = 49 := rfl
  have e : (IntOp.minsi 49#32 (IntOp.maxsi 0#32 (IntOp.addi (binS lo hi (BitVec.ofNat 32 i)) (BitVec.ofNat 32 k)))).toInt = (S + k : ℕ) := by
    rw [int_min, int_max, int_add (by omega) (by omega), a, kk, c0, c49]; omega
  unfold R.gw
  rw [select_not, e]
  intro hc
  have := IntOp.cmpi_slt.mp hc
  omega

/-- The reference's mask. -/
theorem mask {k : ℕ} (hk : k < 9) : IntOp.cmpi .slt (IntOp.addi (binS lo hi (BitVec.ofNat 32 i)) (BitVec.ofNat 32 k)) (binE lo hi (BitVec.ofNat 32 i)) = 1#1 ↔ S + k < E := by
  have := h.lt; have := h.img; have a := h.fst
  have kk := int_nat (k := k) (by omega)
  rw [IntOp.cmpi_slt, int_add (by omega) (by omega), a, kk, h.lst]
  omega
end Bin

/-- The image's entry at two words that are numbers. -/
theorem pix_px (x : Cert.KernelIdeal.S1x512x50x50.Idx → Ideal .f32) (c : Fin 512) {r w : BitVec 32} {a b : ℕ} (hr : r.toInt = a) (hw : w.toInt = b) :
    R.pix x c r w = KI.px x c a b := by
  have e1 : (⟨min r.toInt.toNat 49, by omega⟩ : Fin 50) = ⟨min a 49, by omega⟩ := Fin.ext (by show min _ 49 = min _ 49; rw [hr, Int.toNat_natCast])
  have e2 : (⟨min w.toInt.toNat 49, by omega⟩ : Fin 50) = ⟨min b 49, by omega⟩ := Fin.ext (by show min _ 49 = min _ 49; rw [hw, Int.toNat_natCast])
  exact congr (congrArg (fun p q => x (ix4 0 c p q)) e1) e2

/-- The reference's result over a drawn box. -/
theorem reference_le (V : Valuation Cert.ReferenceIdeal.τ Cert.ReferenceIdeal.sig (Elt Ideal)) (n : Fin 1024) (c : Fin 512) (i j : Fin 7) (z : Ideal .f32) {S E S' E' : ℕ}
    (h : Bin (R.crn V n 1) (R.crn V n 3) i.val S E) (h' : Bin (R.crn V n 0) (R.crn V n 2) j.val S' E') :
    R.res V (ix4 n c i j) ≤ z ↔ Patch (V (Proc.devRef .tc Cert.ReferenceIdeal.main_arg0)) c S E S' E' z := by
  rw [R.res_le]
  refine Iff.trans (forall_congr' fun k => forall_congr' fun l => (?_ : _ ↔ (S + k.val < E → S' + l.val < E' →
    KI.px (α := Ideal .f32) (V (Proc.devRef .tc Cert.ReferenceIdeal.main_arg0)) c (S + k.val) (S' + l.val) ≤ z))) ?_
  · by_cases hm : S + k.val < E ∧ S' + l.val < E'
    · rw [select_one (IntOp.andi_eq_one.mpr ⟨(h.mask k.isLt).mpr hm.1, (h'.mask l.isLt).mpr hm.2⟩)]
      have e : R.pix (V (Proc.devRef .tc Cert.ReferenceIdeal.main_arg0)) c (R.gw (binS (R.crn V n 1) (R.crn V n 3) (BitVec.ofNat 32 i.val)) (BitVec.ofNat 32 k.val))
          (R.gw (binS (R.crn V n 0) (R.crn V n 2) (BitVec.ofNat 32 j.val)) (BitVec.ofNat 32 l.val))
          = KI.px (α := Ideal .f32) (V (Proc.devRef .tc Cert.ReferenceIdeal.main_arg0)) c (S + k.val) (S' + l.val) :=
        pix_px _ c (h.gath hm.1) (h'.gath hm.2)
      rw [e]
      exact ⟨fun g _ _ => g, fun g => g hm.1 hm.2⟩
    · rw [select_not fun g => hm ⟨(h.mask k.isLt).mp (IntOp.andi_eq_one.mp g).1, (h'.mask l.isLt).mp (IntOp.andi_eq_one.mp g).2⟩]
      exact ⟨fun _ a b => absurd ⟨a, b⟩ hm, fun _ => (le_of_eq R.ofBits_bot).trans bot_le⟩
  have := h.le; have := h'.le
  constructor
  · intro g r w a b a' b'
    have := g ⟨r - S, by omega⟩ ⟨w - S', by omega⟩ (by show S + (r - S) < E; omega) (by show S' + (w - S') < E'; omega)
    rwa [show S + (r - S) = r by omega, show S' + (w - S') = w by omega] at this
  · intro g k l
    exact fun a b => g _ _ (by omega) a (by omega) b

section
open Cert.KernelIdeal
variable (m : (ℓ : Loc nD τ sig) → Buf (Elt Ideal) ℓ) (d : Dev nD)

/-- The table word in slot `b` of bin `a` of region `n`. -/
theorem word_at (n : Fin 1024) (a b : Fin 7) : wordAt (KI.words m d) a.val b.val n.val
    = wordOf (KI.cornerAt (F := Ideal) (fun b => m (d, b)) n 0) (KI.cornerAt (F := Ideal) (fun b => m (d, b)) n 1)
        (KI.cornerAt (F := Ideal) (fun b => m (d, b)) n 2) (KI.cornerAt (F := Ideal) (fun b => m (d, b)) n 3) a.val b.val :=
  (at3_eq tbl_pos (KI.words m d) (ix3 a b n) rfl rfl rfl).symm.trans (KI.words_at m d (ix3 a b n))

/-- The kernel's result over a drawn box. -/
theorem kernel_le (n : Fin 1024) (c : Fin 512) (i j : Fin 7) (z : Ideal .f32) {S E S' E' : ℕ}
    (h : Bin (KI.cornerAt (F := Ideal) (fun b => m (d, b)) n 1) (KI.cornerAt (F := Ideal) (fun b => m (d, b)) n 3) i.val S E)
    (h' : Bin (KI.cornerAt (F := Ideal) (fun b => m (d, b)) n 0) (KI.cornerAt (F := Ideal) (fun b => m (d, b)) n 2) j.val S' E') :
    KI.result m d (ix4 n c i j) ≤ z ↔ Patch (m (d, Proc.devRef .tc main_arg0)) c S E S' E' z := by
  have e : KI.result m d (ix4 n c i j) = binMax (KI.words m d) (KI.rows m d) n.val j.val i.val c.val := by
    unfold KI.result; pointwise; rfl
  have := h.lt; have := h.le; have := h.img; have := h'.lt; have := h'.le; have := h'.img
  have key : ∀ k : ℕ, k < 5 → (term (KI.words m d) (KI.rows m d) n.val j.val i.val c.val k ≤ z
      ↔ ∀ r, S ≤ r → r < E → KI.px (α := Ideal .f32) (m (d, Proc.devRef .tc main_arg0)) c r (S' + min k (E' - S' - 1)) ≤ z) := fun k hk => by
    have e0 : (wordAt (KI.words m d) i.val 0 n.val).toNat = (E - S - 1) * 50 + S := by
      rw [show wordAt (KI.words m d) i.val 0 n.val = _ from word_at m d n i 0]
      exact h.row
    have e1 : (wordAt (KI.words m d) j.val (2 + k) n.val).toNat = S' + min k (E' - S' - 1) := by
      rw [show wordAt (KI.words m d) j.val (2 + k) n.val = _ from word_at m d n j ⟨2 + k, by omega⟩]
      show BitVec.toNat (wordOf _ _ _ _ j.val (2 + k)) = _
      unfold wordOf
      rw [if_neg (by omega), Nat.add_sub_cancel_left]
      exact h'.col hk
    have e2 : tabAt (KI.rows m d) ((E - S - 1) * 50 + S) (S' + min k (E' - S' - 1)) c.val
        = KI.tabOf (F := Ideal) (m (d, Proc.devRef .tc main_arg0)) (ix3 ⟨(E - S - 1) * 50 + S, by omega⟩ ⟨S' + min k (E' - S' - 1), by omega⟩ c) :=
      (at3_eq tab_pos (KI.rows m d) (ix3 ⟨(E - S - 1) * 50 + S, by omega⟩ ⟨S' + min k (E' - S' - 1), by omega⟩ c) rfl rfl rfl).symm.trans
        (congrFun (KI.all_v26 (F := Ideal) _) _)
    unfold term
    rw [e0, e1, e2]
    refine (KI.tab_le _ (l := E - S - 1) (by omega) ⟨S, by omega⟩ ⟨S' + min k (E' - S' - 1), by omega⟩ c z).trans ?_
    constructor
    · intro g r a b
      have := g (r - S) (by omega)
      rwa [show (⟨S, by omega⟩ : Fin 50).val + (r - S) = r by show S + (r - S) = r; omega] at this
    · intro g q hq
      exact g (S + q) (by omega) (by omega)
  rw [e]
  have split : binMax (KI.words m d) (KI.rows m d) n.val j.val i.val c.val ≤ z ↔ ∀ k < 5, term (KI.words m d) (KI.rows m d) n.val j.val i.val c.val k ≤ z := by
    show max (max (max (max _ _) _) _) _ ≤ z ↔ _
    rw [max_le_iff, max_le_iff, max_le_iff, max_le_iff]
    exact ⟨fun g k hk => by interval_cases k; exacts [g.1.1.1.1, g.1.1.1.2, g.1.1.2, g.1.2, g.2],
      fun g => ⟨⟨⟨⟨g 0 (by omega), g 1 (by omega)⟩, g 2 (by omega)⟩, g 3 (by omega)⟩, g 4 (by omega)⟩⟩
  rw [split]
  constructor
  · intro g r w a b a' b'
    have := (key (w - S') (by omega)).mp (g _ (by omega)) r a b
    rwa [show S' + min (w - S') (E' - S' - 1) = w by omega] at this
  · intro g k hk
    exact (key k hk).mpr fun r a b => g _ _ a b (by omega) (by omega)
end

end Cert.Proof
end
-- ==== Proof.Agree.lean ====
/- The values agree: the precondition's bounds on the boxes, and the kernel's result over the reals as the reference's. -/
module

public import proofs.«01_k».proof.Defs
public import proofs.«01_k».proof.Proof.Value

@[expose] public section

noncomputable section

namespace Cert.Proof

open Idealize.ShloMosaic Idealize.ShloMosaic.TcCoe Idealize.SL.Sem

/-- The side conditions of the precondition's operations. -/
theorem facts_drawn : Cert.Pre_boxes_drawn.Facts := ⟨by decide, by decide, by decide⟩

/-- The precondition at one region and one axis: the box's coordinates are as drawn. -/
theorem drawn_at [Cert.Pre_boxes_drawn.Facts] (x : Cert.Pre_boxes_drawn.S1x512x50x50.Idx → Ideal .f32) (b : Cert.Pre_boxes_drawn.S1024x4.Idx → BitVec 32)
    (h : Cert.Pre_boxes_drawn.fn (F := Ideal) x b = fun _ => 1#1) (n : Fin 1024) (a : Fin 2) :
    Drawn (corner (F := Ideal) (b (ix2 n ⟨a.val, by omega⟩))) (corner (F := Ideal) (b (ix2 n ⟨2 + a.val, by omega⟩))) := by
  have h1 := congrFun h (ix2 n a)
  dsimp only [Cert.Pre_boxes_drawn.fn] at h1
  pointwise at h1
  simp only [IntOp.andi_eq_one, IntOp.cmpi_sge, IntOp.cmpi_sle] at h1
  obtain ⟨⟨⟨⟨h0, h767⟩, h32⟩, h399⟩, h799⟩ := h1
  have c0 : (0#32).toInt = 0 := rfl
  have c32 : (32#32).toInt = 32 := rfl
  have c399 : (399#32).toInt = 399 := rfl
  have c767 : (767#32).toInt = 767 := rfl
  have c799 : (799#32).toInt = 799 := rfl
  rw [int_add (by omega) (by omega)] at h32 h399
  exact drawn_of (by omega) (by omega) (by omega) (by omega)

/-- For equal arguments as drawn, the kernel's result over the reals is the reference's. -/
theorem value_eq [Cert.Pre_boxes_drawn.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (d : Dev Cert.KernelIdeal.nD)
    (h : Cert.Pre_boxes_drawn.fn (F := Ideal) (m (d, Proc.devRef .tc Cert.KernelIdeal.main_arg0)) (m (d, Proc.devRef .tc Cert.KernelIdeal.main_arg1)) = fun _ => 1#1)
    (e0 : m' (d, Proc.devRef .tc Cert.ReferenceIdeal.main_arg0) = m (d, Proc.devRef .tc Cert.KernelIdeal.main_arg0))
    (e1 : m' (d, Proc.devRef .tc Cert.ReferenceIdeal.main_arg1) = m (d, Proc.devRef .tc Cert.KernelIdeal.main_arg1)) :
    R.res (fun b => m' (d, b)) = KI.result m d := by
  have ec : ∀ n a, R.crn (F := Ideal) (fun b => m' (d, b)) n a = KI.cornerAt (F := Ideal) (fun b => m (d, b)) n a := fun n a =>
    congrArg (fun t : Cert.KernelIdeal.S1024x4.Idx → BitVec 32 => corner (F := Ideal) (t (ix2 n a))) e1
  have key : ∀ (n : Fin 1024) (c : Fin 512) (i j : Fin 7), R.res (fun b => m' (d, b)) (ix4 n c i j) = KI.result m d (ix4 n c i j) := fun n c i j => by
    refine eq_of_forall_ge_iff fun z => ?_
    have d1 := drawn_at _ _ h n 1
    have d0 := drawn_at _ _ h n 0
    obtain ⟨S, E, b1⟩ := bin_of d1 i.isLt
    obtain ⟨S', E', b0⟩ := bin_of d0 j.isLt
    have k := kernel_le m d n c i j z b1 b0
    have r := reference_le (fun b => m' (d, b)) n c i j z (S := S) (E := E) (S' := S') (E' := E')
      (by rw [ec, ec]; exact b1) (by rw [ec, ec]; exact b0)
    exact r.trans ((iff_of_eq (congrArg (fun t => Patch t c S E S' E' z) e0)).trans k.symm)
  funext y
  rw [ValueIdx.eq_ix4 y]
  exact key _ _ _ _

/-- What the reference's run leaves: its result as a function of what it starts from, and its arguments. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r =>
      ∀ c : Dev Cert.ReferenceIdeal.nD,
        r.2.mem ((c.tc : Thread Cert.ReferenceIdeal.nD Cert.ReferenceIdeal.τ).loc Cert.ReferenceIdeal.main_v119) = R.res (fun b => m (c, b))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) := by
  refine (θ_run Cert.ReferenceIdeal.defs _ _).mono (fun r h c => ⟨?_, (h c).2⟩) (Cert.ReferenceIdeal.Value.run (F := Ideal) m g)
  rw [(h c).1]
  exact (Cert.ReferenceIdeal.Value.val3_main_v119 (fun b => m (c, b))).symm

/-- The kernel over the reals agrees with the reference on the boxes as drawn. -/
theorem agree [Cert.Pre_boxes_drawn.Facts] :
    Cert.algebraic_KernelIdeal_ReferenceIdeal_pre_boxes_drawn := by
  intro m g m' g' hpre harg
  refine ⟨fun c => KI.result m c, (θ_run Cert.KernelIdeal.defs _ _).mono (fun _ h => h.1) (KI.run (F := Ideal) m g), ?_⟩
  refine (θ_run Cert.ReferenceIdeal.defs _ _).mono (fun r h c => ⟨(h c).1.trans ?_, (h c).2⟩) (reference_run m' g')
  exact value_eq m m' c (hpre c) (harg c).1 (harg c).2

end Cert.Proof
end
-- ==== Proof.lean ====
/- The claims: the frames of the kernel, of the kernel over the reals and of the reference; the kernel over the reals agrees with the
   reference. -/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Run
public import proofs.«01_k».proof.Proof.RunIdeal
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends with its arguments unchanged and every counter at zero. -/
theorem frame_kernel : Cert.quiescent_Kernel := fun m g _ => K.run (F := Bits) m g

/-- So does the kernel over the reals, -/
theorem frame_ideal : Cert.quiescent_KernelIdeal := fun m g _ =>
  (θ_run Cert.KernelIdeal.defs _ _).mono (fun _ h => ⟨fun c => (h.1 c).2, h.2⟩) (KI.run (F := Ideal) m g)

/-- and the reference, which has no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Everything claimed. -/
theorem claim : Cert.Claim :=
  ⟨Cert.Kernel.Gen.facts, Cert.KernelIdeal.Gen.facts, Cert.ReferenceIdeal.Gen.facts, facts_drawn,
    frame_kernel, frame_ideal, fun m g _ => frame_ideal m g trivial, frame_reference, fun m g _ => frame_reference m g trivial,
    trivial, @agree facts_drawn⟩

end Cert.Proof
